-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_v56) = v5 c
          ∧ r.2.mem ((c.tc : Thread Cert.ReferenceIdeal.nD Cert.ReferenceIdeal.τ).loc Cert.ReferenceIdeal.main_v60) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v9)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v9) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v10)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v10) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v9)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v9) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel.lean ====
abbrev S8192x768 : Shape := ⟨2, ![8192, 768]⟩
abbrev S6x8192x64 : Shape := ⟨3, ![6, 8192, 64]⟩
abbrev S4x6x32x128x128 : Shape := ⟨5, ![4, 6, 32, 128, 128]⟩
abbrev S512x768 : Shape := ⟨2, ![512, 768]⟩
abbrev S6x512x64 : Shape := ⟨3, ![6, 512, 64]⟩
abbrev S1x6x8x128x128 : Shape := ⟨5, ![1, 6, 8, 128, 128]⟩
abbrev S6x128x128 : Shape := ⟨3, ![6, 128, 128]⟩
abbrev S1x128x128 : Shape := ⟨3, ![1, 128, 128]⟩
abbrev S128x128 : Shape := ⟨2, ![128, 128]⟩
abbrev S1x1x1x128x128 : Shape := ⟨5, ![1, 1, 1, 128, 128]⟩
abbrev S64x128 : Shape := ⟨2, ![64, 128]⟩
abbrev S1x64x64 : Shape := ⟨3, ![1, 64, 64]⟩
abbrev S64x64 : Shape := ⟨2, ![64, 64]⟩
abbrev S1x128 : Shape := ⟨2, ![1, 128]⟩
abbrev S128x64 : Shape := ⟨2, ![128, 64]⟩
abbrev S128 : Shape := ⟨1, ![128]⟩

abbrev nBuf : Space → Nat
  | .hbm => 15
  | .vmem => 46
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S6x8192x64, .f32⟩
  | .hbm, ⟨5, _⟩ => ⟨S8192x768, .f32⟩
  | .hbm, ⟨6, _⟩ => ⟨S8192x768, .f32⟩
  | .hbm, ⟨7, _⟩ => ⟨S8192x768, .f32⟩
  | .hbm, ⟨8, _⟩ => ⟨S4x6x32x128x128, .bf16⟩
  | .hbm, ⟨9, _⟩ => ⟨S8192x768, .f32⟩
  | .hbm, ⟨10, _⟩ => ⟨S8192x768, .f32⟩
  | .hbm, ⟨11, _⟩ => ⟨S8192x768, .f32⟩
  | .hbm, ⟨12, _⟩ => ⟨S8192x768, .f32⟩
  | .hbm, ⟨13, _⟩ => ⟨S6x8192x64, .f32⟩
  | .hbm, ⟨14, _⟩ => ⟨S8192x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S6x512x64, .f32⟩
  | .local _ .vmem, ⟨9, _⟩ => ⟨S6x512x64, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S1x6x8x128x128, .bf16⟩
  | .local _ .vmem, ⟨15, _⟩ => ⟨S1x6x8x128x128, .bf16⟩
  | .local _ .vmem, ⟨16, _⟩ => ⟨S6x128x128, .f32⟩
  | .local _ .vmem, ⟨17, _⟩ => ⟨S512x768, .f32⟩
  | .local _ .vmem, ⟨18, _⟩ => ⟨S512x768, .f32⟩
  | .local _ .vmem, ⟨19, _⟩ => ⟨S512x768, .f32⟩
  | .local _ .vmem, ⟨20, _⟩ => ⟨S512x768, .f32⟩
  | .local _ .vmem, ⟨21, _⟩ => ⟨S512x768, .f32⟩
  | .local _ .vmem, ⟨22, _⟩ => ⟨S512x768, .f32⟩
  | .local _ .vmem, ⟨23, _⟩ => ⟨S512x768, .f32⟩
  | .local _ .vmem, ⟨24, _⟩ => ⟨S512x768, .f32⟩
  | .local _ .vmem, ⟨25, _⟩ => ⟨S6x512x64, .f32⟩
  | .local _ .vmem, ⟨26, _⟩ => ⟨S6x512x64, .f32⟩
  | .local _ .vmem, ⟨27, _⟩ => ⟨S512x768, .f32⟩
  | .local _ .vmem, ⟨28, _⟩ => ⟨S512x768, .f32⟩
  | .local _ .vmem, ⟨29, _⟩ => ⟨S1x6x8x128x128, .bf16⟩
  | .local _ .vmem, ⟨30, _⟩ => ⟨S1x6x8x128x128, .bf16⟩
  | .local _ .vmem, ⟨31, _⟩ => ⟨S512x768, .f32⟩
  | .local _ .vmem, ⟨32, _⟩ => ⟨S512x768, .f32⟩
  | .local _ .vmem, ⟨33, _⟩ => ⟨S512x768, .f32⟩
  | .local _ .vmem, ⟨34, _⟩ => ⟨S512x768, .f32⟩
  | .local _ .vmem, ⟨35, _⟩ => ⟨S512x768, .f32⟩
  | .local _ .vmem, ⟨36, _⟩ => ⟨S512x768, .f32⟩
  | .local _ .vmem, ⟨37, _⟩ => ⟨S512x768, .f32⟩
  | .local _ .vmem, ⟨38, _⟩ => ⟨S512x768, .f32⟩
  | .local _ .vmem, ⟨39, _⟩ => ⟨S512x768, .f32⟩
  | .local _ .vmem, ⟨40, _⟩ => ⟨S512x768, .f32⟩
  | .local _ .vmem, ⟨41, _⟩ => ⟨S6x512x64, .f32⟩
  | .local _ .vmem, ⟨42, _⟩ => ⟨S6x512x64, .f32⟩
  | .local _ .vmem, ⟨43, _⟩ => ⟨S512x768, .f32⟩
  | .local _ .vmem, ⟨44, _⟩ => ⟨S512x768, .f32⟩
  | .local _ .vmem, ⟨45, _⟩ => ⟨S6x128x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨3, ![4, 1, 4], ![false, false, false]⟩

@[reducible] def k0_t1_loop : Scf.Loop 32 :=
  let c0_i32_13 : BitVec 32 := 0#32
  let c8_i32 : BitVec 32 := 8#32
  let v15 : BitVec 32 := Scalar.addi c0_i32_13 c8_i32
  let c1_i32 : BitVec 32 := 1#32
  ⟨c0_i32_13, v15, c1_i32⟩
def k0_mult1 (k0_t1 : Fin k0_t1_loop.trips) : BitVec 32 :=
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  v35
def k0_off1 (k0_t1 : Fin k0_t1_loop.trips) : Fin 5 → Nat :=
  let c0_33 : Index := 0#32
  let c0_34 : Index := 0#32
  let c0_i32_13 : BitVec 32 := 0#32
  let c1_i32 : BitVec 32 := 1#32
  let arg12 : BitVec 32 := Scf.iv c0_i32_13 c1_i32 k0_t1
  let v38 : Index := Scalar.indexCast arg12
  let c0_35 : Index := 0#32
  let c0_36 : Index := 0#32
  ![0, 0, v38.toNat, 0, 0]
def k0_off2 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  let v36 : BitVec 32 := v35
  let v42 : Index := Scalar.indexCast v36
  let c0_37 : Index := 0#32
  ![v42.toNat, 0]
def k0_off3 (k0_t1 : Fin k0_t1_loop.trips) : Fin 3 → Nat :=
  let c0_41 : Index := 0#32
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  let v36 : BitVec 32 := v35
  let v50 : Index := Scalar.indexCast v36
  let c0_42 : Index := 0#32
  ![0, v50.toNat, 0]
def k0_off4 (k0_t1 : Fin k0_t1_loop.trips) : Fin 5 → Nat :=
  let c0_48 : Index := 0#32
  let c1_49 : Index := 1#32
  let c0_i32_13 : BitVec 32 := 0#32
  let c1_i32 : BitVec 32 := 1#32
  let arg12 : BitVec 32 := Scf.iv c0_i32_13 c1_i32 k0_t1
  let v77 : Index := Scalar.indexCast arg12
  let c0_50 : Index := 0#32
  let c0_51 : Index := 0#32
  ![0, 1, v77.toNat, 0, 0]
def k0_off5 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  let v36 : BitVec 32 := v35
  let v81 : Index := Scalar.indexCast v36
  let c128 : Index := 128#32
  ![v81.toNat, 128]
def k0_off6 (k0_t1 : Fin k0_t1_loop.trips) : Fin 3 → Nat :=
  let c1_55 : Index := 1#32
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  let v36 : BitVec 32 := v35
  let v89 : Index := Scalar.indexCast v36
  let c0_56 : Index := 0#32
  ![1, v89.toNat, 0]
def k0_off7 (k0_t1 : Fin k0_t1_loop.trips) : Fin 5 → Nat :=
  let c0_63 : Index := 0#32
  let c2_64 : Index := 2#32
  let c0_i32_13 : BitVec 32 := 0#32
  let c1_i32 : BitVec 32 := 1#32
  let arg12 : BitVec 32 := Scf.iv c0_i32_13 c1_i32 k0_t1
  let v116 : Index := Scalar.indexCast arg12
  let c0_65 : Index := 0#32
  let c0_66 : Index := 0#32
  ![0, 2, v116.toNat, 0, 0]
def k0_off8 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  let v36 : BitVec 32 := v35
  let v120 : Index := Scalar.indexCast v36
  let c256 : Index := 256#32
  ![v120.toNat, 256]
def k0_off9 (k0_t1 : Fin k0_t1_loop.trips) : Fin 3 → Nat :=
  let c2_70 : Index := 2#32
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  let v36 : BitVec 32 := v35
  let v128 : Index := Scalar.indexCast v36
  let c0_71 : Index := 0#32
  ![2, v128.toNat, 0]
def k0_off10 (k0_t1 : Fin k0_t1_loop.trips) : Fin 5 → Nat :=
  let c0_78 : Index := 0#32
  let c3_79 : Index := 3#32
  let c0_i32_13 : BitVec 32 := 0#32
  let c1_i32 : BitVec 32 := 1#32
  let arg12 : BitVec 32 := Scf.iv c0_i32_13 c1_i32 k0_t1
  let v155 : Index := Scalar.indexCast arg12
  let c0_80 : Index := 0#32
  let c0_81 : Index := 0#32
  ![0, 3, v155.toNat, 0, 0]
def k0_off11 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  let v36 : BitVec 32 := v35
  let v159 : Index := Scalar.indexCast v36
  let c384 : Index := 384#32
  ![v159.toNat, 384]
def k0_off12 (k0_t1 : Fin k0_t1_loop.trips) : Fin 3 → Nat :=
  let c3_85 : Index := 3#32
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  let v36 : BitVec 32 := v35
  let v167 : Index := Scalar.indexCast v36
  let c0_86 : Index := 0#32
  ![3, v167.toNat, 0]
def k0_off13 (k0_t1 : Fin k0_t1_loop.trips) : Fin 5 → Nat :=
  let c0_93 : Index := 0#32
  let c4_94 : Index := 4#32
  let c0_i32_13 : BitVec 32 := 0#32
  let c1_i32 : BitVec 32 := 1#32
  let arg12 : BitVec 32 := Scf.iv c0_i32_13 c1_i32 k0_t1
  let v194 : Index := Scalar.indexCast arg12
  let c0_95 : Index := 0#32
  let c0_96 : Index := 0#32
  ![0, 4, v194.toNat, 0, 0]
def k0_off14 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  let v36 : BitVec 32 := v35
  let v198 : Index := Scalar.indexCast v36
  let c512 : Index := 512#32
  ![v198.toNat, 512]
def k0_off15 (k0_t1 : Fin k0_t1_loop.trips) : Fin 3 → Nat :=
  let c4_100 : Index := 4#32
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  let v36 : BitVec 32 := v35
  let v206 : Index := Scalar.indexCast v36
  let c0_101 : Index := 0#32
  ![4, v206.toNat, 0]
def k0_off16 (k0_t1 : Fin k0_t1_loop.trips) : Fin 5 → Nat :=
  let c0_108 : Index := 0#32
  let c5_109 : Index := 5#32
  let c0_i32_13 : BitVec 32 := 0#32
  let c1_i32 : BitVec 32 := 1#32
  let arg12 : BitVec 32 := Scf.iv c0_i32_13 c1_i32 k0_t1
  let v233 : Index := Scalar.indexCast arg12
  let c0_110 : Index := 0#32
  let c0_111 : Index := 0#32
  ![0, 5, v233.toNat, 0, 0]
def k0_off17 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  let v36 : BitVec 32 := v35
  let v237 : Index := Scalar.indexCast v36
  let c640 : Index := 640#32
  ![v237.toNat, 640]
def k0_off18 (k0_t1 : Fin k0_t1_loop.trips) : Fin 3 → Nat :=
  let c5_115 : Index := 5#32
  let c0_i32_13 : BitVec 32 := 0#32
  let c1_i32 : BitVec 32 := 1#32
  let arg12 : BitVec 32 := Scf.iv c0_i32_13 c1_i32 k0_t1
  let c64_i32 : BitVec 32 := 64#32
  let v35 : BitVec 32 := Scalar.muli arg12 c64_i32
  let v36 : BitVec 32 := v35
  let v245 : Index := Scalar.indexCast v36
  let c0_116 : Index := 0#32
  ![5, v245.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S6x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x6x8x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev grid1 : Pipeline.Grid := ⟨3, ![4, 1, 4], ![false, false, false]⟩

@[reducible] def k1_t1_loop : Scf.Loop 32 :=
  let c0_i32_13 : BitVec 32 := 0#32
  let c8_i32 : BitVec 32 := 8#32
  let v18 : BitVec 32 := Scalar.addi c0_i32_13 c8_i32
  let c1_i32 : BitVec 32 := 1#32
  ⟨c0_i32_13, v18, c1_i32⟩
def k1_mult1 (k1_t1 : Fin k1_t1_loop.trips) : BitVec 32 :=
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  v39
def k1_off1 (k1_t1 : Fin k1_t1_loop.trips) : Fin 2 → Nat :=
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  let v40 : BitVec 32 := v39
  let v41 : Index := Scalar.indexCast v40
  let c0_33 : Index := 0#32
  ![v41.toNat, 0]
def k1_off2 (k1_t1 : Fin k1_t1_loop.trips) : Fin 3 → Nat :=
  let c0_37 : Index := 0#32
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  let v40 : BitVec 32 := v39
  let v49 : Index := Scalar.indexCast v40
  let c0_38 : Index := 0#32
  ![0, v49.toNat, 0]
def k1_off3 (k1_t1 : Fin k1_t1_loop.trips) : Fin 5 → Nat :=
  let c0_40 : Index := 0#32
  let c0_41 : Index := 0#32
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let v55 : Index := Scalar.indexCast v38
  let c0_42 : Index := 0#32
  let c0_43 : Index := 0#32
  ![0, 0, v55.toNat, 0, 0]
def k1_off4 (k1_t1 : Fin k1_t1_loop.trips) : Fin 2 → Nat :=
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  let v40 : BitVec 32 := v39
  let v134 : Index := Scalar.indexCast v40
  let c128 : Index := 128#32
  ![v134.toNat, 128]
def k1_off5 (k1_t1 : Fin k1_t1_loop.trips) : Fin 3 → Nat :=
  let c1_66 : Index := 1#32
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  let v40 : BitVec 32 := v39
  let v142 : Index := Scalar.indexCast v40
  let c0_67 : Index := 0#32
  ![1, v142.toNat, 0]
def k1_off6 (k1_t1 : Fin k1_t1_loop.trips) : Fin 5 → Nat :=
  let c0_69 : Index := 0#32
  let c1_70 : Index := 1#32
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let v148 : Index := Scalar.indexCast v38
  let c0_71 : Index := 0#32
  let c0_72 : Index := 0#32
  ![0, 1, v148.toNat, 0, 0]
def k1_off7 (k1_t1 : Fin k1_t1_loop.trips) : Fin 2 → Nat :=
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  let v40 : BitVec 32 := v39
  let v227 : Index := Scalar.indexCast v40
  let c256 : Index := 256#32
  ![v227.toNat, 256]
def k1_off8 (k1_t1 : Fin k1_t1_loop.trips) : Fin 3 → Nat :=
  let c2_96 : Index := 2#32
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  let v40 : BitVec 32 := v39
  let v235 : Index := Scalar.indexCast v40
  let c0_97 : Index := 0#32
  ![2, v235.toNat, 0]
def k1_off9 (k1_t1 : Fin k1_t1_loop.trips) : Fin 5 → Nat :=
  let c0_99 : Index := 0#32
  let c2_100 : Index := 2#32
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let v241 : Index := Scalar.indexCast v38
  let c0_101 : Index := 0#32
  let c0_102 : Index := 0#32
  ![0, 2, v241.toNat, 0, 0]
def k1_off10 (k1_t1 : Fin k1_t1_loop.trips) : Fin 2 → Nat :=
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  let v40 : BitVec 32 := v39
  let v320 : Index := Scalar.indexCast v40
  let c384 : Index := 384#32
  ![v320.toNat, 384]
def k1_off11 (k1_t1 : Fin k1_t1_loop.trips) : Fin 3 → Nat :=
  let c3_126 : Index := 3#32
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  let v40 : BitVec 32 := v39
  let v328 : Index := Scalar.indexCast v40
  let c0_127 : Index := 0#32
  ![3, v328.toNat, 0]
def k1_off12 (k1_t1 : Fin k1_t1_loop.trips) : Fin 5 → Nat :=
  let c0_129 : Index := 0#32
  let c3_130 : Index := 3#32
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let v334 : Index := Scalar.indexCast v38
  let c0_131 : Index := 0#32
  let c0_132 : Index := 0#32
  ![0, 3, v334.toNat, 0, 0]
def k1_off13 (k1_t1 : Fin k1_t1_loop.trips) : Fin 2 → Nat :=
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  let v40 : BitVec 32 := v39
  let v413 : Index := Scalar.indexCast v40
  let c512 : Index := 512#32
  ![v413.toNat, 512]
def k1_off14 (k1_t1 : Fin k1_t1_loop.trips) : Fin 3 → Nat :=
  let c4_156 : Index := 4#32
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  let v40 : BitVec 32 := v39
  let v421 : Index := Scalar.indexCast v40
  let c0_157 : Index := 0#32
  ![4, v421.toNat, 0]
def k1_off15 (k1_t1 : Fin k1_t1_loop.trips) : Fin 5 → Nat :=
  let c0_159 : Index := 0#32
  let c4_160 : Index := 4#32
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let v427 : Index := Scalar.indexCast v38
  let c0_161 : Index := 0#32
  let c0_162 : Index := 0#32
  ![0, 4, v427.toNat, 0, 0]
def k1_off16 (k1_t1 : Fin k1_t1_loop.trips) : Fin 2 → Nat :=
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  let v40 : BitVec 32 := v39
  let v506 : Index := Scalar.indexCast v40
  let c640 : Index := 640#32
  ![v506.toNat, 640]
def k1_off17 (k1_t1 : Fin k1_t1_loop.trips) : Fin 3 → Nat :=
  let c5_186 : Index := 5#32
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let c64_i32 : BitVec 32 := 64#32
  let v39 : BitVec 32 := Scalar.muli v38 c64_i32
  let v40 : BitVec 32 := v39
  let v514 : Index := Scalar.indexCast v40
  let c0_187 : Index := 0#32
  ![5, v514.toNat, 0]
def k1_off18 (k1_t1 : Fin k1_t1_loop.trips) : Fin 5 → Nat :=
  let c0_189 : Index := 0#32
  let c5_190 : Index := 5#32
  let c7_i32 : BitVec 32 := 7#32
  let c0_i32_13 : BitVec 32 := 0#32
  let c1_i32 : BitVec 32 := 1#32
  let arg18 : BitVec 32 := Scf.iv c0_i32_13 c1_i32 k1_t1
  let v38 : BitVec 32 := Scalar.subi c7_i32 arg18
  let v520 : Index := Scalar.indexCast v38
  let c0_191 : Index := 0#32
  let c0_192 : Index := 0#32
  ![0, 5, v520.toNat, 0, 0]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  let c0_i32_0 : BitVec 32 := 0#32
  ![arg1.toNat, v2.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc1_transform_6 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  let c0_i32_0 : BitVec 32 := 0#32
  let c0_i32_1 : BitVec 32 := 0#32
  ![arg0.toNat, arg1.toNat, v0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc1_transform_10 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc1_transform_11 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc1_transform_12 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  let c0_i32_0 : BitVec 32 := 0#32
  ![arg1.toNat, v2.toNat, c0_i32.toNat]

def cc1_transform_13 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S512x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S512x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S6x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x6x8x128x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S512x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev stage1_8 : Fin 2 → Memref sig .tc .vmem S512x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev stage1_9 : Fin 2 → Memref sig .tc .vmem S512x768 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

abbrev stage1_10 : Fin 2 → Memref sig .tc .vmem S512x768 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]

abbrev stage1_11 : Fin 2 → Memref sig .tc .vmem S512x768 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true, true]

abbrev stage1_12 : Fin 2 → Memref sig .tc .vmem S6x512x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true, true]

abbrev stage1_13 : Fin 2 → Memref sig .tc .vmem S512x768 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true, true]
-- ==== ReferenceIdeal.lean ====
abbrev S8192x768 : Shape := ⟨2, ![8192, 768]⟩
abbrev S6x8192x64 : Shape := ⟨3, ![6, 8192, 64]⟩
abbrev S4x2048x6x128 : Shape := ⟨4, ![4, 2048, 6, 128]⟩
abbrev S4x32x64x6x128 : Shape := ⟨5, ![4, 32, 64, 6, 128]⟩
abbrev S32x4x64x6x128 : Shape := ⟨5, ![32, 4, 64, 6, 128]⟩
abbrev S32x4x6x64x128 : Shape := ⟨5, ![32, 4, 6, 64, 128]⟩
abbrev S8192x6x64 : Shape := ⟨3, ![8192, 6, 64]⟩
abbrev S4x2048x6x64 : Shape := ⟨4, ![4, 2048, 6, 64]⟩
abbrev S4x32x64x6x64 : Shape := ⟨5, ![4, 32, 64, 6, 64]⟩
abbrev S32x4x64x6x64 : Shape := ⟨5, ![32, 4, 64, 6, 64]⟩
abbrev S32x4x6x64x64 : Shape := ⟨5, ![32, 4, 6, 64, 64]⟩
abbrev S32x4x6x1x128 : Shape := ⟨5, ![32, 4, 6, 1, 128]⟩
abbrev S32x4x6x128 : Shape := ⟨4, ![32, 4, 6, 128]⟩
abbrev S_ : Shape := ⟨0, ![]⟩
abbrev S4x6x128x128 : Shape := ⟨4, ![4, 6, 128, 128]⟩
abbrev S32x4x6x128x128 : Shape := ⟨5, ![32, 4, 6, 128, 128]⟩
abbrev S1x4x6x64x128 : Shape := ⟨5, ![1, 4, 6, 64, 128]⟩
abbrev S4x6x64x128 : Shape := ⟨4, ![4, 6, 64, 128]⟩
abbrev S1x4x6x64x64 : Shape := ⟨5, ![1, 4, 6, 64, 64]⟩
abbrev S4x6x64x64 : Shape := ⟨4, ![4, 6, 64, 64]⟩
abbrev S1x4x6x128 : Shape := ⟨4, ![1, 4, 6, 128]⟩
abbrev S4x6x128 : Shape := ⟨3, ![4, 6, 128]⟩
abbrev S4x6x1x128 : Shape := ⟨4, ![4, 6, 1, 128]⟩
abbrev S1x4x6x128x128 : Shape := ⟨5, ![1, 4, 6, 128, 128]⟩
abbrev S1x4x6x1x128 : Shape := ⟨5, ![1, 4, 6, 1, 128]⟩
abbrev S4x32x6x64x128 : Shape := ⟨5, ![4, 32, 6, 64, 128]⟩
abbrev S4x6x128x64 : Shape := ⟨4, ![4, 6, 128, 64]⟩

abbrev nBuf : Space → Nat
  | .hbm => 315
  | .vmem => 0
  | .smem => 0
  | _ => 0

abbrev hbmTy0_0 (i : Nat) : BufTy := match i % 128 with
  | 0 => ⟨S8192x768, .f32⟩
  | 1 => ⟨S8192x768, .f32⟩
  | 2 => ⟨S8192x768, .f32⟩
  | 3 => ⟨S8192x768, .f32⟩
  | 4 => ⟨S6x8192x64, .f32⟩
  | 5 => ⟨S8192x768, .f32⟩
  | 6 => ⟨S8192x768, .f32⟩
  | 7 => ⟨S4x2048x6x128, .f32⟩
  | 8 => ⟨S4x32x64x6x128, .f32⟩
  | 9 => ⟨S32x4x64x6x128, .f32⟩
  | 10 => ⟨S32x4x6x64x128, .f32⟩
  | 11 => ⟨S4x2048x6x128, .f32⟩
  | 12 => ⟨S4x32x64x6x128, .f32⟩
  | 13 => ⟨S32x4x64x6x128, .f32⟩
  | 14 => ⟨S32x4x6x64x128, .f32⟩
  | 15 => ⟨S4x2048x6x128, .f32⟩
  | 16 => ⟨S4x32x64x6x128, .f32⟩
  | 17 => ⟨S32x4x64x6x128, .f32⟩
  | 18 => ⟨S32x4x6x64x128, .f32⟩
  | 19 => ⟨S4x2048x6x128, .f32⟩
  | 20 => ⟨S4x32x64x6x128, .f32⟩
  | 21 => ⟨S32x4x64x6x128, .f32⟩
  | 22 => ⟨S32x4x6x64x128, .f32⟩
  | 23 => ⟨S4x2048x6x128, .f32⟩
  | 24 => ⟨S4x32x64x6x128, .f32⟩
  | 25 => ⟨S32x4x64x6x128, .f32⟩
  | 26 => ⟨S32x4x6x64x128, .f32⟩
  | 27 => ⟨S8192x6x64, .f32⟩
  | 28 => ⟨S4x2048x6x64, .f32⟩
  | 29 => ⟨S4x32x64x6x64, .f32⟩
  | 30 => ⟨S32x4x64x6x64, .f32⟩
  | 31 => ⟨S32x4x6x64x64, .f32⟩
  | 32 => ⟨S32x4x6x1x128, .f32⟩
  | 33 => ⟨S32x4x6x128, .f32⟩
  | 34 => ⟨S32x4x6x128, .f32⟩
  | 35 => ⟨S_, .f32⟩
  | 36 => ⟨S4x6x128x128, .f32⟩
  | 37 => ⟨S_, .f32⟩
  | 38 => ⟨S32x4x6x64x128, .f32⟩
  | 39 => ⟨S_, .f32⟩
  | 40 => ⟨S32x4x6x128x128, .f32⟩
  | 41 => ⟨S_, .f32⟩
  | 42 => ⟨S32x4x6x64x128, .f32⟩
  | 43 => ⟨S_, .f32⟩
  | 44 => ⟨S32x4x6x1x128, .f32⟩
  | 45 => ⟨S_, .i32⟩
  | 46 => ⟨S32x4x6x64x128, .f32⟩
  | 47 => ⟨S32x4x6x64x128, .f32⟩
  | 48 => ⟨S32x4x6x64x128, .f32⟩
  | 49 => ⟨S32x4x6x64x128, .f32⟩
  | 50 => ⟨S32x4x6x64x64, .f32⟩
  | 51 => ⟨S32x4x6x128, .f32⟩
  | 52 => ⟨S_, .i32⟩
  | 53 => ⟨S4x6x128x128, .f32⟩
  | 54 => ⟨S32x4x6x64x128, .f32⟩
  | 55 => ⟨S32x4x6x128x128, .f32⟩
  | 56 => ⟨S32x4x6x64x128, .f32⟩
  | 57 => ⟨S32x4x6x1x128, .f32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S1x4x6x64x128, .f32⟩
  | 65 => ⟨S4x6x64x128, .f32⟩
  | 66 => ⟨S_, .i32⟩
  | 67 => ⟨S_, .i32⟩
  | 68 => ⟨S_, .i32⟩
  | 69 => ⟨S_, .i32⟩
  | 70 => ⟨S1x4x6x64x128, .f32⟩
  | 71 => ⟨S4x6x64x128, .f32⟩
  | 72 => ⟨S_, .i32⟩
  | 73 => ⟨S_, .i32⟩
  | 74 => ⟨S_, .i32⟩
  | 75 => ⟨S_, .i32⟩
  | 76 => ⟨S1x4x6x64x128, .f32⟩
  | 77 => ⟨S4x6x64x128, .f32⟩
  | 78 => ⟨S_, .i32⟩
  | 79 => ⟨S_, .i32⟩
  | 80 => ⟨S_, .i32⟩
  | 81 => ⟨S_, .i32⟩
  | 82 => ⟨S1x4x6x64x128, .f32⟩
  | 83 => ⟨S4x6x64x128, .f32⟩
  | 84 => ⟨S_, .i32⟩
  | 85 => ⟨S_, .i32⟩
  | 86 => ⟨S_, .i32⟩
  | 87 => ⟨S_, .i32⟩
  | 88 => ⟨S1x4x6x64x64, .f32⟩
  | 89 => ⟨S4x6x64x64, .f32⟩
  | 90 => ⟨S_, .i32⟩
  | 91 => ⟨S_, .i32⟩
  | 92 => ⟨S_, .i32⟩
  | 93 => ⟨S1x4x6x128, .f32⟩
  | 94 => ⟨S4x6x128, .f32⟩
  | 95 => ⟨S4x6x64x128, .f32⟩
  | 96 => ⟨S4x6x64x128, .f32⟩
  | 97 => ⟨S4x6x64x128, .f32⟩
  | 98 => ⟨S4x6x64x128, .f32⟩
  | 99 => ⟨S4x6x64x128, .f32⟩
  | 100 => ⟨S4x6x1x128, .f32⟩
  | 101 => ⟨S4x6x128x128, .f32⟩
  | 102 => ⟨S4x6x128x128, .f32⟩
  | 103 => ⟨S4x6x128x128, .f32⟩
  | 104 => ⟨S4x6x128x128, .f32⟩
  | 105 => ⟨S1x4x6x64x128, .f32⟩
  | 106 => ⟨S_, .i32⟩
  | 107 => ⟨S_, .i32⟩
  | 108 => ⟨S_, .i32⟩
  | 109 => ⟨S_, .i32⟩
  | 110 => ⟨S32x4x6x64x128, .f32⟩
  | 111 => ⟨S1x4x6x128x128, .f32⟩
  | 112 => ⟨S_, .i32⟩
  | 113 => ⟨S_, .i32⟩
  | 114 => ⟨S_, .i32⟩
  | 115 => ⟨S_, .i32⟩
  | 116 => ⟨S32x4x6x128x128, .f32⟩
  | 117 => ⟨S1x4x6x64x128, .f32⟩
  | 118 => ⟨S_, .i32⟩
  | 119 => ⟨S_, .i32⟩
  | 120 => ⟨S_, .i32⟩
  | 121 => ⟨S_, .i32⟩
  | 122 => ⟨S32x4x6x64x128, .f32⟩
  | 123 => ⟨S1x4x6x1x128, .f32⟩
  | 124 => ⟨S_, .i32⟩
  | 125 => ⟨S_, .i32⟩
  | 126 => ⟨S_, .i32⟩
  | 127 => ⟨S_, .i32⟩
  | _ => ⟨S8192x768, .f32⟩

abbrev hbmTy0_1 (i : Nat) : BufTy := match i % 128 with
  | 0 => ⟨S32x4x6x1x128, .f32⟩
  | 1 => ⟨S_, .i32⟩
  | 2 => ⟨S_, .i32⟩
  | 3 => ⟨S4x32x6x64x128, .f32⟩
  | 4 => ⟨S4x32x64x6x128, .f32⟩
  | 5 => ⟨S8192x768, .f32⟩
  | 6 => ⟨S_, .f32⟩
  | 7 => ⟨S4x6x128x128, .f32⟩
  | 8 => ⟨S4x32x64x6x128, .f32⟩
  | 9 => ⟨S4x32x6x64x128, .f32⟩
  | 10 => ⟨S32x4x6x64x128, .f32⟩
  | 11 => ⟨S_, .f32⟩
  | 12 => ⟨S4x6x128x128, .f32⟩
  | 13 => ⟨S_, .f32⟩
  | 14 => ⟨S32x4x6x64x128, .f32⟩
  | 15 => ⟨S_, .f32⟩
  | 16 => ⟨S32x4x6x64x128, .f32⟩
  | 17 => ⟨S_, .f32⟩
  | 18 => ⟨S32x4x6x64x128, .f32⟩
  | 19 => ⟨S_, .f32⟩
  | 20 => ⟨S32x4x6x64x128, .f32⟩
  | 21 => ⟨S_, .f32⟩
  | 22 => ⟨S32x4x6x64x64, .f32⟩
  | 23 => ⟨S_, .f32⟩
  | 24 => ⟨S32x4x6x128, .f32⟩
  | 25 => ⟨S_, .i32⟩
  | 26 => ⟨S32x4x6x64x128, .f32⟩
  | 27 => ⟨S32x4x6x128x128, .f32⟩
  | 28 => ⟨S32x4x6x64x128, .f32⟩
  | 29 => ⟨S32x4x6x64x128, .f32⟩
  | 30 => ⟨S32x4x6x64x128, .f32⟩
  | 31 => ⟨S32x4x6x64x64, .f32⟩
  | 32 => ⟨S32x4x6x1x128, .f32⟩
  | 33 => ⟨S32x4x6x64x128, .f32⟩
  | 34 => ⟨S_, .i32⟩
  | 35 => ⟨S4x6x128x128, .f32⟩
  | 36 => ⟨S32x4x6x64x128, .f32⟩
  | 37 => ⟨S32x4x6x64x128, .f32⟩
  | 38 => ⟨S32x4x6x64x128, .f32⟩
  | 39 => ⟨S32x4x6x64x128, .f32⟩
  | 40 => ⟨S32x4x6x64x64, .f32⟩
  | 41 => ⟨S32x4x6x128, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S1x4x6x64x128, .f32⟩
  | 53 => ⟨S4x6x64x128, .f32⟩
  | 54 => ⟨S_, .i32⟩
  | 55 => ⟨S_, .i32⟩
  | 56 => ⟨S_, .i32⟩
  | 57 => ⟨S_, .i32⟩
  | 58 => ⟨S1x4x6x128x128, .f32⟩
  | 59 => ⟨S4x6x128x128, .f32⟩
  | 60 => ⟨S_, .i32⟩
  | 61 => ⟨S_, .i32⟩
  | 62 => ⟨S_, .i32⟩
  | 63 => ⟨S_, .i32⟩
  | 64 => ⟨S1x4x6x64x128, .f32⟩
  | 65 => ⟨S4x6x64x128, .f32⟩
  | 66 => ⟨S_, .i32⟩
  | 67 => ⟨S_, .i32⟩
  | 68 => ⟨S_, .i32⟩
  | 69 => ⟨S_, .i32⟩
  | 70 => ⟨S1x4x6x64x128, .f32⟩
  | 71 => ⟨S4x6x64x128, .f32⟩
  | 72 => ⟨S_, .i32⟩
  | 73 => ⟨S_, .i32⟩
  | 74 => ⟨S_, .i32⟩
  | 75 => ⟨S_, .i32⟩
  | 76 => ⟨S1x4x6x64x128, .f32⟩
  | 77 => ⟨S4x6x64x128, .f32⟩
  | 78 => ⟨S_, .i32⟩
  | 79 => ⟨S_, .i32⟩
  | 80 => ⟨S_, .i32⟩
  | 81 => ⟨S_, .i32⟩
  | 82 => ⟨S1x4x6x64x64, .f32⟩
  | 83 => ⟨S4x6x64x64, .f32⟩
  | 84 => ⟨S_, .i32⟩
  | 85 => ⟨S_, .i32⟩
  | 86 => ⟨S_, .i32⟩
  | 87 => ⟨S_, .i32⟩
  | 88 => ⟨S1x4x6x1x128, .f32⟩
  | 89 => ⟨S4x6x1x128, .f32⟩
  | 90 => ⟨S_, .i32⟩
  | 91 => ⟨S_, .i32⟩
  | 92 => ⟨S_, .i32⟩
  | 93 => ⟨S_, .i32⟩
  | 94 => ⟨S1x4x6x64x128, .f32⟩
  | 95 => ⟨S4x6x64x128, .f32⟩
  | 96 => ⟨S4x6x128x64, .f32⟩
  | 97 => ⟨S4x6x64x128, .f32⟩
  | 98 => ⟨S4x6x128x64, .f32⟩
  | 99 => ⟨S4x6x64x128, .f32⟩
  | 100 => ⟨S4x6x128x128, .f32⟩
  | 101 => ⟨S_, .f32⟩
  | 102 => ⟨S4x6x128, .f32⟩
  | 103 => ⟨S4x6x1x128, .f32⟩
  | 104 => ⟨S4x6x128x128, .f32⟩
  | 105 => ⟨S4x6x128x128, .f32⟩
  | 106 => ⟨S_, .f32⟩
  | 107 => ⟨S4x6x128, .f32⟩
  | 108 => ⟨S4x6x128x64, .f32⟩
  | 109 => ⟨S4x6x64x128, .f32⟩
  | 110 => ⟨S4x6x64x128, .f32⟩
  | 111 => ⟨S4x6x64x64, .f32⟩
  | 112 => ⟨S4x6x128x128, .f32⟩
  | 113 => ⟨S4x6x128x128, .f32⟩
  | 114 => ⟨S4x6x128x128, .f32⟩
  | 115 => ⟨S4x6x64x128, .f32⟩
  | 116 => ⟨S4x6x64x128, .f32⟩
  | 117 => ⟨S4x6x128x128, .f32⟩
  | 118 => ⟨S4x6x128x128, .f32⟩
  | 119 => ⟨S4x6x128x128, .f32⟩
  | 120 => ⟨S4x6x64x128, .f32⟩
  | 121 => ⟨S1x4x6x64x128, .f32⟩
  | 122 => ⟨S_, .i32⟩
  | 123 => ⟨S_, .i32⟩
  | 124 => ⟨S_, .i32⟩
  | 125 => ⟨S_, .i32⟩
  | 126 => ⟨S32x4x6x64x128, .f32⟩
  | 127 => ⟨S1x4x6x64x128, .f32⟩
  | _ => ⟨S8192x768, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S32x4x6x64x128, .f32⟩
  | 5 => ⟨S1x4x6x64x128, .f32⟩
  | 6 => ⟨S_, .i32⟩
  | 7 => ⟨S_, .i32⟩
  | 8 => ⟨S_, .i32⟩
  | 9 => ⟨S_, .i32⟩
  | 10 => ⟨S32x4x6x64x128, .f32⟩
  | 11 => ⟨S1x4x6x64x128, .f32⟩
  | 12 => ⟨S_, .i32⟩
  | 13 => ⟨S_, .i32⟩
  | 14 => ⟨S_, .i32⟩
  | 15 => ⟨S_, .i32⟩
  | 16 => ⟨S32x4x6x64x128, .f32⟩
  | 17 => ⟨S1x4x6x64x64, .f32⟩
  | 18 => ⟨S_, .i32⟩
  | 19 => ⟨S_, .i32⟩
  | 20 => ⟨S_, .i32⟩
  | 21 => ⟨S_, .i32⟩
  | 22 => ⟨S32x4x6x64x64, .f32⟩
  | 23 => ⟨S1x4x6x128, .f32⟩
  | 24 => ⟨S_, .i32⟩
  | 25 => ⟨S_, .i32⟩
  | 26 => ⟨S_, .i32⟩
  | 27 => ⟨S32x4x6x128, .f32⟩
  | 28 => ⟨S_, .i32⟩
  | 29 => ⟨S_, .i32⟩
  | 30 => ⟨S32x4x6x128, .f32⟩
  | 31 => ⟨S32x4x6x1x128, .f32⟩
  | 32 => ⟨S_, .f32⟩
  | 33 => ⟨S32x4x6x64x128, .f32⟩
  | 34 => ⟨S32x4x64x6x64, .f32⟩
  | 35 => ⟨S4x32x64x6x64, .f32⟩
  | 36 => ⟨S4x2048x6x64, .f32⟩
  | 37 => ⟨S8192x6x64, .f32⟩
  | 38 => ⟨S6x8192x64, .f32⟩
  | 39 => ⟨S32x4x64x6x128, .f32⟩
  | 40 => ⟨S4x32x64x6x128, .f32⟩
  | 41 => ⟨S4x2048x6x128, .f32⟩
  | 42 => ⟨S8192x768, .f32⟩
  | 43 => ⟨S32x4x64x6x128, .f32⟩
  | 44 => ⟨S4x32x64x6x128, .f32⟩
  | 45 => ⟨S4x2048x6x128, .f32⟩
  | 46 => ⟨S8192x768, .f32⟩
  | 47 => ⟨S32x4x64x6x128, .f32⟩
  | 48 => ⟨S4x32x64x6x128, .f32⟩
  | 49 => ⟨S4x2048x6x128, .f32⟩
  | 50 => ⟨S8192x768, .f32⟩
  | 51 => ⟨S32x4x64x6x128, .f32⟩
  | 52 => ⟨S4x32x64x6x128, .f32⟩
  | 53 => ⟨S4x2048x6x128, .f32⟩
  | 54 => ⟨S8192x768, .f32⟩
  | 55 => ⟨S32x4x64x6x128, .f32⟩
  | 56 => ⟨S4x32x64x6x128, .f32⟩
  | 57 => ⟨S4x2048x6x128, .f32⟩
  | 58 => ⟨S8192x768, .f32⟩
  | _ => ⟨S8192x768, .f32⟩

abbrev hbmTy (i : Nat) : BufTy := match i / 128 with
  | 0 => hbmTy0_0 i
  | 1 => hbmTy0_1 i
  | 2 => hbmTy0_2 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_c : Ref sig .tc := ⟨.hbm, 45, rfl⟩
abbrev main_v33_0 : Ref sig .tc := ⟨.hbm, 46, rfl⟩
abbrev main_v33_1 : Ref sig .tc := ⟨.hbm, 47, rfl⟩
abbrev main_v33_2 : Ref sig .tc := ⟨.hbm, 48, rfl⟩
abbrev main_v33_3 : Ref sig .tc := ⟨.hbm, 49, rfl⟩
abbrev main_v33_4 : Ref sig .tc := ⟨.hbm, 50, rfl⟩
abbrev main_v33_5 : Ref sig .tc := ⟨.hbm, 51, rfl⟩
abbrev main_v33_6 : Ref sig .tc := ⟨.hbm, 52, rfl⟩
abbrev main_v33_7 : Ref sig .tc := ⟨.hbm, 53, rfl⟩
abbrev main_v33_8 : Ref sig .tc := ⟨.hbm, 54, rfl⟩
abbrev main_v33_9 : Ref sig .tc := ⟨.hbm, 55, rfl⟩
abbrev main_v33_10 : Ref sig .tc := ⟨.hbm, 56, rfl⟩
abbrev main_v33_11 : Ref sig .tc := ⟨.hbm, 57, rfl⟩
abbrev main_while0c_c_25 : Ref sig .tc := ⟨.hbm, 58, rfl⟩
abbrev main_while0c_v77 : Ref sig .tc := ⟨.hbm, 59, rfl⟩
abbrev main_while0b_call0_c : Ref sig .tc := ⟨.hbm, 60, rfl⟩
abbrev main_while0b_call0_c_0 : Ref sig .tc := ⟨.hbm, 61, rfl⟩
abbrev main_while0b_call0_c_1 : Ref sig .tc := ⟨.hbm, 62, rfl⟩
abbrev main_while0b_call0_c_2 : Ref sig .tc := ⟨.hbm, 63, rfl⟩
abbrev main_while0b_call0_v0 : Ref sig .tc := ⟨.hbm, 64, rfl⟩
abbrev main_while0b_v77 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_c_1 : Ref sig .tc := ⟨.hbm, 68, rfl⟩
abbrev main_while0b_call1_c_2 : Ref sig .tc := ⟨.hbm, 69, rfl⟩
abbrev main_while0b_call1_v0 : Ref sig .tc := ⟨.hbm, 70, rfl⟩
abbrev main_while0b_v78 : Ref sig .tc := ⟨.hbm, 71, rfl⟩
abbrev main_while0b_call2_c : Ref sig .tc := ⟨.hbm, 72, rfl⟩
abbrev main_while0b_call2_c_0 : Ref sig .tc := ⟨.hbm, 73, rfl⟩
abbrev main_while0b_call2_c_1 : Ref sig .tc := ⟨.hbm, 74, rfl⟩
abbrev main_while0b_call2_c_2 : Ref sig .tc := ⟨.hbm, 75, rfl⟩
abbrev main_while0b_call2_v0 : Ref sig .tc := ⟨.hbm, 76, rfl⟩
abbrev main_while0b_v79 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_c_2 : Ref sig .tc := ⟨.hbm, 81, rfl⟩
abbrev main_while0b_call3_v0 : Ref sig .tc := ⟨.hbm, 82, rfl⟩
abbrev main_while0b_v80 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_c_2 : Ref sig .tc := ⟨.hbm, 87, rfl⟩
abbrev main_while0b_call4_v0 : Ref sig .tc := ⟨.hbm, 88, rfl⟩
abbrev main_while0b_v81 : Ref sig .tc := ⟨.hbm, 89, rfl⟩
abbrev main_while0b_call5_c : Ref sig .tc := ⟨.hbm, 90, rfl⟩
abbrev main_while0b_call5_c_0 : Ref sig .tc := ⟨.hbm, 91, rfl⟩
abbrev main_while0b_call5_c_1 : Ref sig .tc := ⟨.hbm, 92, rfl⟩
abbrev main_while0b_call5_v0 : Ref sig .tc := ⟨.hbm, 93, rfl⟩
abbrev main_while0b_v82 : Ref sig .tc := ⟨.hbm, 94, rfl⟩
abbrev main_while0b_v83 : Ref sig .tc := ⟨.hbm, 95, rfl⟩
abbrev main_while0b_v84 : Ref sig .tc := ⟨.hbm, 96, rfl⟩
abbrev main_while0b_v85 : Ref sig .tc := ⟨.hbm, 97, rfl⟩
abbrev main_while0b_v86 : Ref sig .tc := ⟨.hbm, 98, rfl⟩
abbrev main_while0b_v87 : Ref sig .tc := ⟨.hbm, 99, rfl⟩
abbrev main_while0b_v88 : Ref sig .tc := ⟨.hbm, 100, rfl⟩
abbrev main_while0b_v89 : Ref sig .tc := ⟨.hbm, 101, rfl⟩
abbrev main_while0b_v90 : Ref sig .tc := ⟨.hbm, 102, rfl⟩
abbrev main_while0b_v91 : Ref sig .tc := ⟨.hbm, 103, rfl⟩
abbrev main_while0b_v92 : Ref sig .tc := ⟨.hbm, 104, rfl⟩
abbrev main_while0b_call6_v0 : Ref sig .tc := ⟨.hbm, 105, rfl⟩
abbrev main_while0b_call6_c : Ref sig .tc := ⟨.hbm, 106, rfl⟩
abbrev main_while0b_call6_c_0 : Ref sig .tc := ⟨.hbm, 107, rfl⟩
abbrev main_while0b_call6_c_1 : Ref sig .tc := ⟨.hbm, 108, rfl⟩
abbrev main_while0b_call6_c_2 : Ref sig .tc := ⟨.hbm, 109, rfl⟩
abbrev main_while0b_v93 : Ref sig .tc := ⟨.hbm, 110, rfl⟩
abbrev main_while0b_call7_v0 : Ref sig .tc := ⟨.hbm, 111, rfl⟩
abbrev main_while0b_call7_c : Ref sig .tc := ⟨.hbm, 112, rfl⟩
abbrev main_while0b_call7_c_0 : Ref sig .tc := ⟨.hbm, 113, rfl⟩
abbrev main_while0b_call7_c_1 : Ref sig .tc := ⟨.hbm, 114, rfl⟩
abbrev main_while0b_call7_c_2 : Ref sig .tc := ⟨.hbm, 115, rfl⟩
abbrev main_while0b_v94 : Ref sig .tc := ⟨.hbm, 116, rfl⟩
abbrev main_while0b_call8_v0 : Ref sig .tc := ⟨.hbm, 117, rfl⟩
abbrev main_while0b_call8_c : Ref sig .tc := ⟨.hbm, 118, rfl⟩
abbrev main_while0b_call8_c_0 : Ref sig .tc := ⟨.hbm, 119, rfl⟩
abbrev main_while0b_call8_c_1 : Ref sig .tc := ⟨.hbm, 120, rfl⟩
abbrev main_while0b_call8_c_2 : Ref sig .tc := ⟨.hbm, 121, rfl⟩
abbrev main_while0b_v95 : Ref sig .tc := ⟨.hbm, 122, rfl⟩
abbrev main_while0b_call9_v0 : Ref sig .tc := ⟨.hbm, 123, rfl⟩
abbrev main_while0b_call9_c : Ref sig .tc := ⟨.hbm, 124, rfl⟩
abbrev main_while0b_call9_c_0 : Ref sig .tc := ⟨.hbm, 125, rfl⟩
abbrev main_while0b_call9_c_1 : Ref sig .tc := ⟨.hbm, 126, rfl⟩
abbrev main_while0b_call9_c_2 : Ref sig .tc := ⟨.hbm, 127, rfl⟩
abbrev main_while0b_v96 : Ref sig .tc := ⟨.hbm, 128, rfl⟩
abbrev main_while0b_c_25 : Ref sig .tc := ⟨.hbm, 129, rfl⟩
abbrev main_while0b_v97 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_cst_4 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_cst_5 : Ref sig .tc := ⟨.hbm, 139, rfl⟩
abbrev main_v41 : Ref sig .tc := ⟨.hbm, 140, rfl⟩
abbrev main_cst_6 : Ref sig .tc := ⟨.hbm, 141, rfl⟩
abbrev main_v42 : Ref sig .tc := ⟨.hbm, 142, rfl⟩
abbrev main_cst_7 : Ref sig .tc := ⟨.hbm, 143, rfl⟩
abbrev main_v43 : Ref sig .tc := ⟨.hbm, 144, rfl⟩
abbrev main_cst_8 : Ref sig .tc := ⟨.hbm, 145, rfl⟩
abbrev main_v44 : Ref sig .tc := ⟨.hbm, 146, rfl⟩
abbrev main_cst_9 : Ref sig .tc := ⟨.hbm, 147, rfl⟩
abbrev main_v45 : Ref sig .tc := ⟨.hbm, 148, rfl⟩
abbrev main_cst_10 : Ref sig .tc := ⟨.hbm, 149, rfl⟩
abbrev main_v46 : Ref sig .tc := ⟨.hbm, 150, rfl⟩
abbrev main_cst_11 : Ref sig .tc := ⟨.hbm, 151, rfl⟩
abbrev main_v47 : Ref sig .tc := ⟨.hbm, 152, rfl⟩
abbrev main_c_12 : Ref sig .tc := ⟨.hbm, 153, rfl⟩
abbrev main_v48_0 : Ref sig .tc := ⟨.hbm, 154, rfl⟩
abbrev main_v48_1 : Ref sig .tc := ⟨.hbm, 155, rfl⟩
abbrev main_v48_2 : Ref sig .tc := ⟨.hbm, 156, rfl⟩
abbrev main_v48_3 : Ref sig .tc := ⟨.hbm, 157, rfl⟩
abbrev main_v48_4 : Ref sig .tc := ⟨.hbm, 158, rfl⟩
abbrev main_v48_5 : Ref sig .tc := ⟨.hbm, 159, rfl⟩
abbrev main_v48_6 : Ref sig .tc := ⟨.hbm, 160, rfl⟩
abbrev main_v48_7 : Ref sig .tc := ⟨.hbm, 161, rfl⟩
abbrev main_v48_8 : Ref sig .tc := ⟨.hbm, 162, rfl⟩
abbrev main_v48_9 : Ref sig .tc := ⟨.hbm, 163, rfl⟩
abbrev main_v48_10 : Ref sig .tc := ⟨.hbm, 164, rfl⟩
abbrev main_v48_11 : Ref sig .tc := ⟨.hbm, 165, rfl⟩
abbrev main_v48_12 : Ref sig .tc := ⟨.hbm, 166, rfl⟩
abbrev main_v48_13 : Ref sig .tc := ⟨.hbm, 167, rfl⟩
abbrev main_v48_14 : Ref sig .tc := ⟨.hbm, 168, rfl⟩
abbrev main_v48_15 : Ref sig .tc := ⟨.hbm, 169, rfl⟩
abbrev main_while1c_c_29 : Ref sig .tc := ⟨.hbm, 170, rfl⟩
abbrev main_while1c_v77 : Ref sig .tc := ⟨.hbm, 171, rfl⟩
abbrev main_while1b_c_29 : Ref sig .tc := ⟨.hbm, 172, rfl⟩
abbrev main_while1b_v77 : Ref sig .tc := ⟨.hbm, 173, rfl⟩
abbrev main_while1b_c_30 : Ref sig .tc := ⟨.hbm, 174, rfl⟩
abbrev main_while1b_v78 : Ref sig .tc := ⟨.hbm, 175, rfl⟩
abbrev main_while1b_call10_c : Ref sig .tc := ⟨.hbm, 176, rfl⟩
abbrev main_while1b_call10_c_0 : Ref sig .tc := ⟨.hbm, 177, rfl⟩
abbrev main_while1b_call10_c_1 : Ref sig .tc := ⟨.hbm, 178, rfl⟩
abbrev main_while1b_call10_c_2 : Ref sig .tc := ⟨.hbm, 179, rfl⟩
abbrev main_while1b_call10_v0 : Ref sig .tc := ⟨.hbm, 180, rfl⟩
abbrev main_while1b_v79 : Ref sig .tc := ⟨.hbm, 181, rfl⟩
abbrev main_while1b_call11_c : Ref sig .tc := ⟨.hbm, 182, rfl⟩
abbrev main_while1b_call11_c_0 : Ref sig .tc := ⟨.hbm, 183, rfl⟩
abbrev main_while1b_call11_c_1 : Ref sig .tc := ⟨.hbm, 184, rfl⟩
abbrev main_while1b_call11_c_2 : Ref sig .tc := ⟨.hbm, 185, rfl⟩
abbrev main_while1b_call11_v0 : Ref sig .tc := ⟨.hbm, 186, rfl⟩
abbrev main_while1b_v80 : Ref sig .tc := ⟨.hbm, 187, rfl⟩
abbrev main_while1b_call12_c : Ref sig .tc := ⟨.hbm, 188, rfl⟩
abbrev main_while1b_call12_c_0 : Ref sig .tc := ⟨.hbm, 189, rfl⟩
abbrev main_while1b_call12_c_1 : Ref sig .tc := ⟨.hbm, 190, rfl⟩
abbrev main_while1b_call12_c_2 : Ref sig .tc := ⟨.hbm, 191, rfl⟩
abbrev main_while1b_call12_v0 : Ref sig .tc := ⟨.hbm, 192, rfl⟩
abbrev main_while1b_v81 : Ref sig .tc := ⟨.hbm, 193, rfl⟩
abbrev main_while1b_call13_c : Ref sig .tc := ⟨.hbm, 194, rfl⟩
abbrev main_while1b_call13_c_0 : Ref sig .tc := ⟨.hbm, 195, rfl⟩
abbrev main_while1b_call13_c_1 : Ref sig .tc := ⟨.hbm, 196, rfl⟩
abbrev main_while1b_call13_c_2 : Ref sig .tc := ⟨.hbm, 197, rfl⟩
abbrev main_while1b_call13_v0 : Ref sig .tc := ⟨.hbm, 198, rfl⟩
abbrev main_while1b_v82 : Ref sig .tc := ⟨.hbm, 199, rfl⟩
abbrev main_while1b_call14_c : Ref sig .tc := ⟨.hbm, 200, rfl⟩
abbrev main_while1b_call14_c_0 : Ref sig .tc := ⟨.hbm, 201, rfl⟩
abbrev main_while1b_call14_c_1 : Ref sig .tc := ⟨.hbm, 202, rfl⟩
abbrev main_while1b_call14_c_2 : Ref sig .tc := ⟨.hbm, 203, rfl⟩
abbrev main_while1b_call14_v0 : Ref sig .tc := ⟨.hbm, 204, rfl⟩
abbrev main_while1b_v83 : Ref sig .tc := ⟨.hbm, 205, rfl⟩
abbrev main_while1b_call15_c : Ref sig .tc := ⟨.hbm, 206, rfl⟩
abbrev main_while1b_call15_c_0 : Ref sig .tc := ⟨.hbm, 207, rfl⟩
abbrev main_while1b_call15_c_1 : Ref sig .tc := ⟨.hbm, 208, rfl⟩
abbrev main_while1b_call15_c_2 : Ref sig .tc := ⟨.hbm, 209, rfl⟩
abbrev main_while1b_call15_v0 : Ref sig .tc := ⟨.hbm, 210, rfl⟩
abbrev main_while1b_v84 : Ref sig .tc := ⟨.hbm, 211, rfl⟩
abbrev main_while1b_call16_c : Ref sig .tc := ⟨.hbm, 212, rfl⟩
abbrev main_while1b_call16_c_0 : Ref sig .tc := ⟨.hbm, 213, rfl⟩
abbrev main_while1b_call16_c_1 : Ref sig .tc := ⟨.hbm, 214, rfl⟩
abbrev main_while1b_call16_c_2 : Ref sig .tc := ⟨.hbm, 215, rfl⟩
abbrev main_while1b_call16_v0 : Ref sig .tc := ⟨.hbm, 216, rfl⟩
abbrev main_while1b_v85 : Ref sig .tc := ⟨.hbm, 217, rfl⟩
abbrev main_while1b_call17_c : Ref sig .tc := ⟨.hbm, 218, rfl⟩
abbrev main_while1b_call17_c_0 : Ref sig .tc := ⟨.hbm, 219, rfl⟩
abbrev main_while1b_call17_c_1 : Ref sig .tc := ⟨.hbm, 220, rfl⟩
abbrev main_while1b_call17_c_2 : Ref sig .tc := ⟨.hbm, 221, rfl⟩
abbrev main_while1b_call17_v0 : Ref sig .tc := ⟨.hbm, 222, rfl⟩
abbrev main_while1b_v86 : Ref sig .tc := ⟨.hbm, 223, rfl⟩
abbrev main_while1b_v87 : Ref sig .tc := ⟨.hbm, 224, rfl⟩
abbrev main_while1b_v88 : Ref sig .tc := ⟨.hbm, 225, rfl⟩
abbrev main_while1b_v89 : Ref sig .tc := ⟨.hbm, 226, rfl⟩
abbrev main_while1b_v90 : Ref sig .tc := ⟨.hbm, 227, rfl⟩
abbrev main_while1b_v91 : Ref sig .tc := ⟨.hbm, 228, rfl⟩
abbrev main_while1b_cst_31 : Ref sig .tc := ⟨.hbm, 229, rfl⟩
abbrev main_while1b_v92 : Ref sig .tc := ⟨.hbm, 230, rfl⟩
abbrev main_while1b_v93 : Ref sig .tc := ⟨.hbm, 231, rfl⟩
abbrev main_while1b_v94 : Ref sig .tc := ⟨.hbm, 232, rfl⟩
abbrev main_while1b_v95 : Ref sig .tc := ⟨.hbm, 233, rfl⟩
abbrev main_while1b_cst_32 : Ref sig .tc := ⟨.hbm, 234, rfl⟩
abbrev main_while1b_v96 : Ref sig .tc := ⟨.hbm, 235, rfl⟩
abbrev main_while1b_v97 : Ref sig .tc := ⟨.hbm, 236, rfl⟩
abbrev main_while1b_v98 : Ref sig .tc := ⟨.hbm, 237, rfl⟩
abbrev main_while1b_v99 : Ref sig .tc := ⟨.hbm, 238, rfl⟩
abbrev main_while1b_v100 : Ref sig .tc := ⟨.hbm, 239, rfl⟩
abbrev main_while1b_v101 : Ref sig .tc := ⟨.hbm, 240, rfl⟩
abbrev main_while1b_v102 : Ref sig .tc := ⟨.hbm, 241, rfl⟩
abbrev main_while1b_v103 : Ref sig .tc := ⟨.hbm, 242, rfl⟩
abbrev main_while1b_v104 : Ref sig .tc := ⟨.hbm, 243, rfl⟩
abbrev main_while1b_v105 : Ref sig .tc := ⟨.hbm, 244, rfl⟩
abbrev main_while1b_v106 : Ref sig .tc := ⟨.hbm, 245, rfl⟩
abbrev main_while1b_v107 : Ref sig .tc := ⟨.hbm, 246, rfl⟩
abbrev main_while1b_v108 : Ref sig .tc := ⟨.hbm, 247, rfl⟩
abbrev main_while1b_v109 : Ref sig .tc := ⟨.hbm, 248, rfl⟩
abbrev main_while1b_call18_v0 : Ref sig .tc := ⟨.hbm, 249, rfl⟩
abbrev main_while1b_call18_c : Ref sig .tc := ⟨.hbm, 250, rfl⟩
abbrev main_while1b_call18_c_0 : Ref sig .tc := ⟨.hbm, 251, rfl⟩
abbrev main_while1b_call18_c_1 : Ref sig .tc := ⟨.hbm, 252, rfl⟩
abbrev main_while1b_call18_c_2 : Ref sig .tc := ⟨.hbm, 253, rfl⟩
abbrev main_while1b_v110 : Ref sig .tc := ⟨.hbm, 254, rfl⟩
abbrev main_while1b_call19_v0 : Ref sig .tc := ⟨.hbm, 255, rfl⟩
abbrev main_while1b_call19_c : Ref sig .tc := ⟨.hbm, 256, rfl⟩
abbrev main_while1b_call19_c_0 : Ref sig .tc := ⟨.hbm, 257, rfl⟩
abbrev main_while1b_call19_c_1 : Ref sig .tc := ⟨.hbm, 258, rfl⟩
abbrev main_while1b_call19_c_2 : Ref sig .tc := ⟨.hbm, 259, rfl⟩
abbrev main_while1b_v111 : Ref sig .tc := ⟨.hbm, 260, rfl⟩
abbrev main_while1b_call20_v0 : Ref sig .tc := ⟨.hbm, 261, rfl⟩
abbrev main_while1b_call20_c : Ref sig .tc := ⟨.hbm, 262, rfl⟩
abbrev main_while1b_call20_c_0 : Ref sig .tc := ⟨.hbm, 263, rfl⟩
abbrev main_while1b_call20_c_1 : Ref sig .tc := ⟨.hbm, 264, rfl⟩
abbrev main_while1b_call20_c_2 : Ref sig .tc := ⟨.hbm, 265, rfl⟩
abbrev main_while1b_v112 : Ref sig .tc := ⟨.hbm, 266, rfl⟩
abbrev main_while1b_call21_v0 : Ref sig .tc := ⟨.hbm, 267, rfl⟩
abbrev main_while1b_call21_c : Ref sig .tc := ⟨.hbm, 268, rfl⟩
abbrev main_while1b_call21_c_0 : Ref sig .tc := ⟨.hbm, 269, rfl⟩
abbrev main_while1b_call21_c_1 : Ref sig .tc := ⟨.hbm, 270, rfl⟩
abbrev main_while1b_call21_c_2 : Ref sig .tc := ⟨.hbm, 271, rfl⟩
abbrev main_while1b_v113 : Ref sig .tc := ⟨.hbm, 272, rfl⟩
abbrev main_while1b_call22_v0 : Ref sig .tc := ⟨.hbm, 273, rfl⟩
abbrev main_while1b_call22_c : Ref sig .tc := ⟨.hbm, 274, rfl⟩
abbrev main_while1b_call22_c_0 : Ref sig .tc := ⟨.hbm, 275, rfl⟩
abbrev main_while1b_call22_c_1 : Ref sig .tc := ⟨.hbm, 276, rfl⟩
abbrev main_while1b_call22_c_2 : Ref sig .tc := ⟨.hbm, 277, rfl⟩
abbrev main_while1b_v114 : Ref sig .tc := ⟨.hbm, 278, rfl⟩
abbrev main_while1b_call23_v0 : Ref sig .tc := ⟨.hbm, 279, rfl⟩
abbrev main_while1b_call23_c : Ref sig .tc := ⟨.hbm, 280, rfl⟩
abbrev main_while1b_call23_c_0 : Ref sig .tc := ⟨.hbm, 281, rfl⟩
abbrev main_while1b_call23_c_1 : Ref sig .tc := ⟨.hbm, 282, rfl⟩
abbrev main_while1b_v115 : Ref sig .tc := ⟨.hbm, 283, rfl⟩
abbrev main_while1b_c_33 : Ref sig .tc := ⟨.hbm, 284, rfl⟩
abbrev main_while1b_v116 : Ref sig .tc := ⟨.hbm, 285, rfl⟩
abbrev main_v49 : Ref sig .tc := ⟨.hbm, 286, rfl⟩
abbrev main_v50 : Ref sig .tc := ⟨.hbm, 287, rfl⟩
abbrev main_cst_13 : Ref sig .tc := ⟨.hbm, 288, rfl⟩
abbrev main_v51 : Ref sig .tc := ⟨.hbm, 289, rfl⟩
abbrev main_v52 : Ref sig .tc := ⟨.hbm, 290, rfl⟩
abbrev main_v53 : Ref sig .tc := ⟨.hbm, 291, rfl⟩
abbrev main_v54 : Ref sig .tc := ⟨.hbm, 292, rfl⟩
abbrev main_v55 : Ref sig .tc := ⟨.hbm, 293, rfl⟩
abbrev main_v56 : Ref sig .tc := ⟨.hbm, 294, rfl⟩
abbrev main_v57 : Ref sig .tc := ⟨.hbm, 295, rfl⟩
abbrev main_v58 : Ref sig .tc := ⟨.hbm, 296, rfl⟩
abbrev main_v59 : Ref sig .tc := ⟨.hbm, 297, rfl⟩
abbrev main_v60 : Ref sig .tc := ⟨.hbm, 298, rfl⟩
abbrev main_v61 : Ref sig .tc := ⟨.hbm, 299, rfl⟩
abbrev main_v62 : Ref sig .tc := ⟨.hbm, 300, rfl⟩
abbrev main_v63 : Ref sig .tc := ⟨.hbm, 301, rfl⟩
abbrev main_v64 : Ref sig .tc := ⟨.hbm, 302, rfl⟩
abbrev main_v65 : Ref sig .tc := ⟨.hbm, 303, rfl⟩
abbrev main_v66 : Ref sig .tc := ⟨.hbm, 304, rfl⟩
abbrev main_v67 : Ref sig .tc := ⟨.hbm, 305, rfl⟩
abbrev main_v68 : Ref sig .tc := ⟨.hbm, 306, rfl⟩
abbrev main_v69 : Ref sig .tc := ⟨.hbm, 307, rfl⟩
abbrev main_v70 : Ref sig .tc := ⟨.hbm, 308, rfl⟩
abbrev main_v71 : Ref sig .tc := ⟨.hbm, 309, rfl⟩
abbrev main_v72 : Ref sig .tc := ⟨.hbm, 310, rfl⟩
abbrev main_v73 : Ref sig .tc := ⟨.hbm, 311, rfl⟩
abbrev main_v74 : Ref sig .tc := ⟨.hbm, 312, rfl⟩
abbrev main_v75 : Ref sig .tc := ⟨.hbm, 313, rfl⟩
abbrev main_v76 : Ref sig .tc := ⟨.hbm, 314, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x4096, .f32⟩
  | .hbm, ⟨3, _⟩ => ⟨S_, .bf16⟩
  | .hbm, ⟨4, _⟩ => ⟨S4096x1024, .bf16⟩
  | .hbm, ⟨5, _⟩ => ⟨S4096x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S_, .bf16⟩
  | .hbm, ⟨4, _⟩ => ⟨S1024x4096, .bf16⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x4096 : Shape := ⟨2, ![8192, 4096]⟩
abbrev S1024x4096 : Shape := ⟨2, ![1024, 4096]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S1024x4096, .f32⟩
  | .hbm, ⟨3, _⟩ => ⟨S_, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .bf16⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S8192x2560 : Shape := ⟨2, ![8192, 2560]⟩
abbrev S1024x2560 : Shape := ⟨2, ![1024, 2560]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S8192x1024, .f32⟩
  | .hbm, ⟨3, _⟩ => ⟨S_, .bf16⟩
  | .hbm, ⟨4, _⟩ => ⟨S1024x2560, .bf16⟩
  | .hbm, ⟨5, _⟩ => ⟨S1024x2560, .f32⟩
  | .hbm, ⟨6, _⟩ => ⟨S8192x2560, .f32⟩
  | .hbm, ⟨7, _⟩ => ⟨S8192x2560, .f32⟩
  | .hbm, ⟨8, _⟩ => ⟨S2560x1024, .f32⟩
  | .hbm, ⟨9, _⟩ => ⟨S1024x2560, .f32⟩
  | .hbm, ⟨10, _⟩ => ⟨S1024x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8192x2560 : Shape := ⟨2, ![8192, 2560]⟩
abbrev S1024x2560 : Shape := ⟨2, ![1024, 2560]⟩
abbrev S8192x1024 : Shape := ⟨2, ![8192, 1024]⟩
abbrev S1024x640 : Shape := ⟨2, ![1024, 640]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2560 : Shape := ⟨2, ![8192, 2560]⟩
abbrev S1024x2560 : Shape := ⟨2, ![1024, 2560]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S1024x2560, .f32⟩
  | .hbm, ⟨3, _⟩ => ⟨S_, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S8192x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8192x1024 : Shape := ⟨2, ![8192, 1024]⟩
abbrev S1024x2560 : Shape := ⟨2, ![1024, 2560]⟩
abbrev S8192x2560 : Shape := ⟨2, ![8192, 2560]⟩
abbrev S1024x1024 : Shape := ⟨2, ![1024, 1024]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x2560 : Shape := ⟨2, ![1024, 2560]⟩
abbrev S8192x2560 : Shape := ⟨2, ![8192, 2560]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192x1024, .f32⟩
  | .hbm, ⟨3, _⟩ => ⟨S1024x2560, .f32⟩
  | .hbm, ⟨4, _⟩ => ⟨S8192x2560, .f32⟩
  | .hbm, ⟨5, _⟩ => ⟨S8192x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8192x1024 : Shape := ⟨2, ![8192, 1024]⟩
abbrev S8192x3340 : Shape := ⟨2, ![8192, 3340]⟩
abbrev S8192x3072 : Shape := ⟨2, ![8192, 3072]⟩
abbrev S8192x12 : Shape := ⟨2, ![8192, 12]⟩
abbrev S8192x256 : Shape := ⟨2, ![8192, 256]⟩
abbrev S_ : Shape := ⟨0, ![]⟩
abbrev S8192x244 : Shape := ⟨2, ![8192, 244]⟩
abbrev S8192x3584 : Shape := ⟨2, ![8192, 3584]⟩
abbrev S1024x3584 : Shape := ⟨2, ![1024, 3584]⟩
abbrev S1024x1024 : Shape := ⟨2, ![1024, 1024]⟩
abbrev S1024x896 : Shape := ⟨2, ![1024, 896]⟩
abbrev S1024x3072 : Shape := ⟨2, ![1024, 3072]⟩
abbrev S1024x256 : Shape := ⟨2, ![1024, 256]⟩
abbrev S1024x12 : Shape := ⟨2, ![1024, 12]⟩
abbrev S1024x3340 : Shape := ⟨2, ![1024, 3340]⟩

abbrev nBuf : Space → Nat
  | .hbm => 13
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3340, .bf16⟩
  | .hbm, ⟨2, _⟩ => ⟨S8192x3072, .bf16⟩
  | .hbm, ⟨3, _⟩ => ⟨S8192x12, .bf16⟩
  | .hbm, ⟨4, _⟩ => ⟨S8192x256, .bf16⟩
  | .hbm, ⟨5, _⟩ => ⟨S_, .bf16⟩
  | .hbm, ⟨6, _⟩ => ⟨S8192x244, .bf16⟩
  | .hbm, ⟨7, _⟩ => ⟨S8192x3584, .bf16⟩
  | .hbm, ⟨8, _⟩ => ⟨S1024x3584, .bf16⟩
  | .hbm, ⟨9, _⟩ => ⟨S1024x3072, .bf16⟩
  | .hbm, ⟨10, _⟩ => ⟨S1024x256, .bf16⟩
  | .hbm, ⟨11, _⟩ => ⟨S1024x12, .bf16⟩
  | .hbm, ⟨12, _⟩ => ⟨S1024x3340, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S8192x3340 : Shape := ⟨2, ![8192, 3340]⟩
abbrev S_ : Shape := ⟨0, ![]⟩
abbrev S1024x3340 : Shape := ⟨2, ![1024, 3340]⟩
abbrev S3340x1024 : Shape := ⟨2, ![3340, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3340, .bf16⟩
  | .hbm, ⟨2, _⟩ => ⟨S8192x1024, .f32⟩
  | .hbm, ⟨3, _⟩ => ⟨S_, .bf16⟩
  | .hbm, ⟨4, _⟩ => ⟨S1024x3340, .bf16⟩
  | .hbm, ⟨5, _⟩ => ⟨S1024x3340, .f32⟩
  | .hbm, ⟨6, _⟩ => ⟨S8192x3340, .f32⟩
  | .hbm, ⟨7, _⟩ => ⟨S8192x3340, .f32⟩
  | .hbm, ⟨8, _⟩ => ⟨S3340x1024, .f32⟩
  | .hbm, ⟨9, _⟩ => ⟨S1024x3340, .f32⟩
  | .hbm, ⟨10, _⟩ => ⟨S1024x3340, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S8192x3340 : Shape := ⟨2, ![8192, 3340]⟩
abbrev S1024x3340 : Shape := ⟨2, ![1024, 3340]⟩
abbrev S8192x3072 : Shape := ⟨2, ![8192, 3072]⟩
abbrev S8192x12 : Shape := ⟨2, ![8192, 12]⟩
abbrev S8192x256 : Shape := ⟨2, ![8192, 256]⟩
abbrev S_ : Shape := ⟨0, ![]⟩
abbrev S8192x244 : Shape := ⟨2, ![8192, 244]⟩
abbrev S8192x3584 : Shape := ⟨2, ![8192, 3584]⟩
abbrev S1024x3072 : Shape := ⟨2, ![1024, 3072]⟩
abbrev S1024x12 : Shape := ⟨2, ![1024, 12]⟩
abbrev S1024x256 : Shape := ⟨2, ![1024, 256]⟩
abbrev S1024x244 : Shape := ⟨2, ![1024, 244]⟩
abbrev S1024x3584 : Shape := ⟨2, ![1024, 3584]⟩
abbrev S8192x1024 : Shape := ⟨2, ![8192, 1024]⟩
abbrev S1024x896 : Shape := ⟨2, ![1024, 896]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S8192x3340, .bf16⟩
  | .hbm, ⟨1, _⟩ => ⟨S1024x3340, .bf16⟩
  | .hbm, ⟨2, _⟩ => ⟨S8192x3072, .bf16⟩
  | .hbm, ⟨3, _⟩ => ⟨S8192x12, .bf16⟩
  | .hbm, ⟨4, _⟩ => ⟨S8192x256, .bf16⟩
  | .hbm, ⟨5, _⟩ => ⟨S_, .bf16⟩
  | .hbm, ⟨6, _⟩ => ⟨S8192x244, .bf16⟩
  | .hbm, ⟨7, _⟩ => ⟨S8192x3584, .bf16⟩
  | .hbm, ⟨8, _⟩ => ⟨S1024x3072, .bf16⟩
  | .hbm, ⟨9, _⟩ => ⟨S1024x12, .bf16⟩
  | .hbm, ⟨10, _⟩ => ⟨S1024x256, .bf16⟩
  | .hbm, ⟨11, _⟩ => ⟨S_, .bf16⟩
  | .hbm, ⟨12, _⟩ => ⟨S1024x244, .bf16⟩
  | .hbm, ⟨13, _⟩ => ⟨S1024x3584, .bf16⟩
  | .hbm, ⟨14, _⟩ => ⟨S8192x1024, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3340, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x3340 : Shape := ⟨2, ![8192, 3340]⟩
abbrev S1024x3340 : Shape := ⟨2, ![1024, 3340]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3340, .bf16⟩
  | .hbm, ⟨1, _⟩ => ⟨S1024x3340, .bf16⟩
  | .hbm, ⟨2, _⟩ => ⟨S1024x3340, .f32⟩
  | .hbm, ⟨3, _⟩ => ⟨S_, .f32⟩
  | .hbm, ⟨4, _⟩ => ⟨S8192x1024, .f32⟩
  | .hbm, ⟨5, _⟩ => ⟨S8192x3340, .f32⟩
  | .hbm, ⟨6, _⟩ => ⟨S8192x3340, .f32⟩
  | .hbm, ⟨7, _⟩ => ⟨S8192x1024, .f32⟩
  | _, _ => ⟨S8192x3340, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x1024 : Shape := ⟨2, ![8192, 1024]⟩
abbrev S1024x3340 : Shape := ⟨2, ![1024, 3340]⟩
abbrev S1024x3072 : Shape := ⟨2, ![1024, 3072]⟩
abbrev S1024x12 : Shape := ⟨2, ![1024, 12]⟩
abbrev S1024x256 : Shape := ⟨2, ![1024, 256]⟩
abbrev S_ : Shape := ⟨0, ![]⟩
abbrev S1024x244 : Shape := ⟨2, ![1024, 244]⟩
abbrev S1024x3584 : Shape := ⟨2, ![1024, 3584]⟩
abbrev S8192x3584 : Shape := ⟨2, ![8192, 3584]⟩
abbrev S1024x1024 : Shape := ⟨2, ![1024, 1024]⟩
abbrev S1024x896 : Shape := ⟨2, ![1024, 896]⟩
abbrev S8192x3072 : Shape := ⟨2, ![8192, 3072]⟩
abbrev S8192x256 : Shape := ⟨2, ![8192, 256]⟩
abbrev S8192x12 : Shape := ⟨2, ![8192, 12]⟩
abbrev S8192x3340 : Shape := ⟨2, ![8192, 3340]⟩

abbrev nBuf : Space → Nat
  | .hbm => 13
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3340, .bf16⟩
  | .hbm, ⟨2, _⟩ => ⟨S1024x3072, .bf16⟩
  | .hbm, ⟨3, _⟩ => ⟨S1024x12, .bf16⟩
  | .hbm, ⟨4, _⟩ => ⟨S1024x256, .bf16⟩
  | .hbm, ⟨5, _⟩ => ⟨S_, .bf16⟩
  | .hbm, ⟨6, _⟩ => ⟨S1024x244, .bf16⟩
  | .hbm, ⟨7, _⟩ => ⟨S1024x3584, .bf16⟩
  | .hbm, ⟨8, _⟩ => ⟨S8192x3584, .f32⟩
  | .hbm, ⟨9, _⟩ => ⟨S8192x3072, .f32⟩
  | .hbm, ⟨10, _⟩ => ⟨S8192x256, .f32⟩
  | .hbm, ⟨11, _⟩ => ⟨S8192x12, .f32⟩
  | .hbm, ⟨12, _⟩ => ⟨S8192x3340, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x3340 : Shape := ⟨2, ![1024, 3340]⟩
abbrev S8192x3340 : Shape := ⟨2, ![8192, 3340]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3340, .bf16⟩
  | .hbm, ⟨2, _⟩ => ⟨S8192x1024, .f32⟩
  | .hbm, ⟨3, _⟩ => ⟨S1024x3340, .f32⟩
  | .hbm, ⟨4, _⟩ => ⟨S8192x3340, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S1024x1024 : Shape := ⟨2, ![1024, 1024]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x512, .bf16⟩
  | .local _ .vmem, ⟨0, _⟩ => ⟨S1024x1024, .bf16⟩
  | .local _ .vmem, ⟨1, _⟩ => ⟨S1024x512, .bf16⟩
  | .local _ .vmem, ⟨2, _⟩ => ⟨S1024x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S1024x1024 : Shape := ⟨2, ![1024, 1024]⟩
abbrev S1024x512 : Shape := ⟨2, ![1024, 512]⟩
abbrev S_ : Shape := ⟨0, ![]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x1024, .f32⟩
  | .hbm, ⟨3, _⟩ => ⟨S_, .bf16⟩
  | .hbm, ⟨4, _⟩ => ⟨S1024x512, .bf16⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S1024x512 : Shape := ⟨2, ![1024, 512]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S1024x512 : Shape := ⟨2, ![1024, 512]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S1024x512, .f32⟩
  | .hbm, ⟨3, _⟩ => ⟨S_, .f32⟩
  | .hbm, ⟨4, _⟩ => ⟨S1024x1024, .f32⟩
  | .hbm, ⟨5, _⟩ => ⟨S1024x512, .f32⟩
  | .hbm, ⟨6, _⟩ => ⟨S1024x512, .f32⟩
  | .hbm, ⟨7, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S1024x1024 : Shape := ⟨2, ![1024, 1024]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x512, .bf16⟩
  | .local _ .vmem, ⟨0, _⟩ => ⟨S1024x1024, .bf16⟩
  | .local _ .vmem, ⟨1, _⟩ => ⟨S1024x512, .bf16⟩
  | .local _ .vmem, ⟨2, _⟩ => ⟨S1024x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S1024x1024 : Shape := ⟨2, ![1024, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S1024x512, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Tiles.lean ====
/- The rectangles the two recurrence kernels read and write: a chunk is 64 rows, a head is 128 columns, and a block of
   512 rows holds 8 chunks of 6 heads. What a load of one chunk of one head reads (`cut`, `cutA`, `cutT`, `cutC`), and the block
   whose chunk `k` of head `h` is a given tile (`wide`, `wideA`, `wideT`, `wideC`). -/
module

public import proofs.«01_k».proof.Proof.Gen.KernelIdeal.Loops
public import Idealize.ShloMosaic.Lib.WholeRead

@[expose] public section

noncomputable section

namespace Cert.KernelIdeal.Scan

open Idealize.ShloMosaic

/-- The index of `s` with coordinate `f a` (taken modulo the extent) on axis `a`. -/
def ix (s : Shape) (pos : ∀ a, 0 < s.size a) (f : Fin s.rank → ℕ) : s.Idx := fun a => ⟨f a % s.size a, Nat.mod_lt _ (pos a)⟩

theorem ix_val (s : Shape) (pos) (f : Fin s.rank → ℕ) (a : Fin s.rank) : ((ix s pos f) a).val = f a % s.size a := rfl

theorem ix_eq (s : Shape) (pos) (f : Fin s.rank → ℕ) (y : s.Idx) (h : ∀ a, f a % s.size a = (y a).val) : ix s pos f = y :=
  funext fun a => Fin.ext (h a)

/-- Where a unit-stride rectangle places an index. -/
theorem emb_val {s : Shape} (off size : Fin s.rank → ℕ) (inb) (x : (Rect.unit (s := s) off size inb).shape.Idx) (a : Fin s.rank) :
    (((Rect.unit (s := s) off size inb).emb x) a).val = off a + (x a).val := by
  show off a + 1 * (x a).val = _
  rw [Nat.one_mul]

section Loads
variable {α : Type}

/-- Chunk `k` of head `h` of a block of 512 rows. -/
def cut (x : S512x768.Idx → α) (k h : ℕ) : S64x128.Idx → α :=
  fun j => x (ix S512x768 (by decide) ![64 * k + (j 0).val, 128 * h + (j 1).val])

/-- Chunk `k` of head `h` of a block of the heads' matrices. -/
def cutA (x : S6x512x64.Idx → α) (k h : ℕ) : S1x64x64.Idx → α :=
  fun j => x (ix S6x512x64 (by decide) ![h, 64 * k + (j 1).val, (j 2).val])

/-- The state before chunk `k` of head `h` in a block of saved states. -/
def cutT (x : S1x6x8x128x128.Idx → α) (k h : ℕ) : S1x1x1x128x128.Idx → α :=
  fun j => x (ix S1x6x8x128x128 (by decide) ![0, h, k, (j 3).val, (j 4).val])

/-- The carried state of head `h`. -/
def cutC (x : S6x128x128.Idx → α) (h : ℕ) : S1x128x128.Idx → α :=
  fun j => x (ix S6x128x128 (by decide) ![h, (j 1).val, (j 2).val])

/-- The block of 512 rows whose chunk `k` of head `h` is `f k h`. -/
def wide (f : ℕ → ℕ → S64x128.Idx → α) : S512x768.Idx → α :=
  fun y => f ((y 0).val / 64) ((y 1).val / 128) (ix S64x128 (by decide) ![(y 0).val, (y 1).val])

/-- The block of the heads' matrices whose chunk `k` of head `h` is `f k h`. -/
def wideA (f : ℕ → ℕ → S1x64x64.Idx → α) : S6x512x64.Idx → α :=
  fun y => f ((y 1).val / 64) (y 0).val (ix S1x64x64 (by decide) ![0, (y 1).val, (y 2).val])

/-- The block of saved states whose state before chunk `k` of head `h` is `f k h`. -/
def wideT (f : ℕ → ℕ → S1x1x1x128x128.Idx → α) : S1x6x8x128x128.Idx → α :=
  fun y => f (y 2).val (y 1).val (ix S1x1x1x128x128 (by decide) ![0, 0, 0, (y 3).val, (y 4).val])

/-- The carried states, head `h`'s being `f h`. -/
def wideC (f : ℕ → S1x128x128.Idx → α) : S6x128x128.Idx → α :=
  fun y => f (y 0).val (ix S1x128x128 (by decide) ![0, (y 1).val, (y 2).val])

end Loads

variable {F : FTy → Type} [FloatOps F] {sig' : RefSig} {κ : Kind} {sp : Space} {e : EltTy}

theorem read_cut {M : Memref sig' κ sp S512x768 e} (hM : M.IsWhole) (x : S512x768.Idx → Elt F e) (k h : ℕ) {off : Fin 2 → ℕ}
    (inb : ∀ a, off a + (![64, 128] : Fin 2 → ℕ) a ≤ S512x768.size a) (ho : off = ![64 * k, 128 * h]) :
    View.readAt (Elt F) M.view (Rect.unit (s := S512x768) off ![64, 128] inb).toLoadRect (hM.unread x) = cut x k h := by
  subst ho
  funext j
  rw [hM.readAt_unread]
  refine congrArg x (ix_eq _ _ _ _ fun a => ?_).symm
  have h0 := inb 0; have h1 := inb 1
  have j0 := (j 0).isLt; have j1 := (j 1).isLt
  simp at h0 h1 j0 j1
  match a with
  | ⟨0, _⟩ => exact (Nat.mod_eq_of_lt (show 64 * k + (j 0).val < 512 by omega)).trans (by show _ = 64 * k + 1 * (j 0).val; omega)
  | ⟨1, _⟩ => exact (Nat.mod_eq_of_lt (show 128 * h + (j 1).val < 768 by omega)).trans (by show _ = 128 * h + 1 * (j 1).val; omega)

theorem read_cutA {M : Memref sig' κ sp S6x512x64 e} (hM : M.IsWhole) (x : S6x512x64.Idx → Elt F e) (k h : ℕ) {off : Fin 3 → ℕ}
    (inb : ∀ a, off a + (![1, 64, 64] : Fin 3 → ℕ) a ≤ S6x512x64.size a) (ho : off = ![h, 64 * k, 0]) :
    View.readAt (Elt F) M.view (Rect.unit (s := S6x512x64) off ![1, 64, 64] inb).toLoadRect (hM.unread x) = cutA x k h := by
  subst ho
  funext j
  rw [hM.readAt_unread]
  refine congrArg x (ix_eq _ _ _ _ fun a => ?_).symm
  have h0 := inb 0; have h1 := inb 1; have h2 := inb 2
  have j0 := (j 0).isLt; have j1 := (j 1).isLt; have j2 := (j 2).isLt
  simp at h0 h1 h2 j0 j1 j2
  match a with
  | ⟨0, _⟩ => exact (Nat.mod_eq_of_lt (show h < 6 by omega)).trans (by show _ = h + 1 * (j 0).val; omega)
  | ⟨1, _⟩ => exact (Nat.mod_eq_of_lt (show 64 * k + (j 1).val < 512 by omega)).trans (by show _ = 64 * k + 1 * (j 1).val; omega)
  | ⟨2, _⟩ => exact (Nat.mod_eq_of_lt (show (j 2).val < 64 by omega)).trans (by show _ = 0 + 1 * (j 2).val; omega)

theorem read_cutT {M : Memref sig' κ sp S1x6x8x128x128 e} (hM : M.IsWhole) (x : S1x6x8x128x128.Idx → Elt F e) (k h : ℕ)
    {off : Fin 5 → ℕ} (inb : ∀ a, off a + (![1, 1, 1, 128, 128] : Fin 5 → ℕ) a ≤ S1x6x8x128x128.size a) (ho : off = ![0, h, k, 0, 0]) :
    View.readAt (Elt F) M.view (Rect.unit (s := S1x6x8x128x128) off ![1, 1, 1, 128, 128] inb).toLoadRect (hM.unread x) = cutT x k h := by
  subst ho
  funext j
  rw [hM.readAt_unread]
  refine congrArg x (ix_eq _ _ _ _ fun a => ?_).symm
  have h0 := inb 0; have h1 := inb 1; have h2 := inb 2
  have j0 := (j 0).isLt; have j1 := (j 1).isLt; have j2 := (j 2).isLt; have j3 := (j 3).isLt; have j4 := (j 4).isLt
  simp at h0 h1 h2 j0 j1 j2 j3 j4
  match a with
  | ⟨0, _⟩ => exact (show 0 % 1 = 0 + 1 * (j 0).val by omega)
  | ⟨1, _⟩ => exact (Nat.mod_eq_of_lt (show h < 6 by omega)).trans (by show _ = h + 1 * (j 1).val; omega)
  | ⟨2, _⟩ => exact (Nat.mod_eq_of_lt (show k < 8 by omega)).trans (by show _ = k + 1 * (j 2).val; omega)
  | ⟨3, _⟩ => exact (Nat.mod_eq_of_lt (show (j 3).val < 128 by omega)).trans (by show _ = 0 + 1 * (j 3).val; omega)
  | ⟨4, _⟩ => exact (Nat.mod_eq_of_lt (show (j 4).val < 128 by omega)).trans (by show _ = 0 + 1 * (j 4).val; omega)

theorem read_cutC {M : Memref sig' κ sp S6x128x128 e} (hM : M.IsWhole) (x : S6x128x128.Idx → Elt F e) (h : ℕ) {off : Fin 3 → ℕ}
    (inb : ∀ a, off a + (![1, 128, 128] : Fin 3 → ℕ) a ≤ S6x128x128.size a) (ho : off = ![h, 0, 0]) :
    View.readAt (Elt F) M.view (Rect.unit (s := S6x128x128) off ![1, 128, 128] inb).toLoadRect (hM.unread x) = cutC x h := by
  subst ho
  funext j
  rw [hM.readAt_unread]
  refine congrArg x (ix_eq _ _ _ _ fun a => ?_).symm
  have h0 := inb 0
  have j0 := (j 0).isLt; have j1 := (j 1).isLt; have j2 := (j 2).isLt
  simp at h0 j0 j1 j2
  match a with
  | ⟨0, _⟩ => exact (Nat.mod_eq_of_lt (show h < 6 by omega)).trans (by show _ = h + 1 * (j 0).val; omega)
  | ⟨1, _⟩ => exact (Nat.mod_eq_of_lt (show (j 1).val < 128 by omega)).trans (by show _ = 0 + 1 * (j 1).val; omega)
  | ⟨2, _⟩ => exact (Nat.mod_eq_of_lt (show (j 2).val < 128 by omega)).trans (by show _ = 0 + 1 * (j 2).val; omega)

section Stores
variable {α : Type}

theorem wide_emb (f : ℕ → ℕ → S64x128.Idx → α) (k h : ℕ) {off : Fin 2 → ℕ}
    (inb : ∀ a, off a + (![64, 128] : Fin 2 → ℕ) a ≤ S512x768.size a) (ho : off = ![64 * k, 128 * h])
    (x : (Rect.unit (s := S512x768) off ![64, 128] inb).shape.Idx) :
    wide f ((Rect.unit (s := S512x768) off ![64, 128] inb).emb x) = f k h x := by
  subst ho
  have j0 : (x 0).val < 64 := (x 0).isLt
  have j1 : (x 1).val < 128 := (x 1).isLt
  have e0 := emb_val (s := S512x768) _ _ inb x 0
  have e1 := emb_val (s := S512x768) _ _ inb x 1
  unfold wide
  rw [e0, e1]
  have q0 : ((![64 * k, 128 * h] : Fin 2 → ℕ) 0 + (x 0).val) / 64 = k := by
    show (64 * k + (x 0).val) / 64 = k; omega
  have q1 : ((![64 * k, 128 * h] : Fin 2 → ℕ) 1 + (x 1).val) / 128 = h := by
    show (128 * h + (x 1).val) / 128 = h; omega
  rw [q0, q1]
  refine congrArg (f k h) (ix_eq _ _ _ _ fun a => ?_)
  match a with
  | ⟨0, _⟩ => exact (show (64 * k + (x 0).val) % 64 = (x 0).val by omega)
  | ⟨1, _⟩ => exact (show (128 * h + (x 1).val) % 128 = (x 1).val by omega)

theorem wideA_emb (f : ℕ → ℕ → S1x64x64.Idx → α) (k h : ℕ) {off : Fin 3 → ℕ}
    (inb : ∀ a, off a + (![1, 64, 64] : Fin 3 → ℕ) a ≤ S6x512x64.size a) (ho : off = ![h, 64 * k, 0])
    (x : (Rect.unit (s := S6x512x64) off ![1, 64, 64] inb).shape.Idx) :
    wideA f ((Rect.unit (s := S6x512x64) off ![1, 64, 64] inb).emb x) = f k h x := by
  subst ho
  have j0 : (x 0).val < 1 := (x 0).isLt
  have j1 : (x 1).val < 64 := (x 1).isLt
  have j2 : (x 2).val < 64 := (x 2).isLt
  have e0 := emb_val (s := S6x512x64) _ _ inb x 0
  have e1 := emb_val (s := S6x512x64) _ _ inb x 1
  have e2 := emb_val (s := S6x512x64) _ _ inb x 2
  unfold wideA
  rw [e0, e1, e2]
  have q0 : ((![h, 64 * k, 0] : Fin 3 → ℕ) 1 + (x 1).val) / 64 = k := by
    show (64 * k + (x 1).val) / 64 = k; omega
  have q1 : ((![h, 64 * k, 0] : Fin 3 → ℕ) 0 + (x 0).val) = h := by
    show h + (x 0).val = h; omega
  rw [q0, q1]
  refine congrArg (f k h) (ix_eq _ _ _ _ fun a => ?_)
  match a with
  | ⟨0, _⟩ => exact (show 0 % 1 = (x 0).val by omega)
  | ⟨1, _⟩ => exact (show (64 * k + (x 1).val) % 64 = (x 1).val by omega)
  | ⟨2, _⟩ => exact (show (0 + (x 2).val) % 64 = (x 2).val by omega)

theorem wideT_emb (f : ℕ → ℕ → S1x1x1x128x128.Idx → α) (k h : ℕ) {off : Fin 5 → ℕ}
    (inb : ∀ a, off a + (![1, 1, 1, 128, 128] : Fin 5 → ℕ) a ≤ S1x6x8x128x128.size a) (ho : off = ![0, h, k, 0, 0])
    (x : (Rect.unit (s := S1x6x8x128x128) off ![1, 1, 1, 128, 128] inb).shape.Idx) :
    wideT f ((Rect.unit (s := S1x6x8x128x128) off ![1, 1, 1, 128, 128] inb).emb x) = f k h x := by
  subst ho
  have j0 : (x 0).val < 1 := (x 0).isLt
  have j1 : (x 1).val < 1 := (x 1).isLt
  have j2 : (x 2).val < 1 := (x 2).isLt
  have j3 : (x 3).val < 128 := (x 3).isLt
  have j4 : (x 4).val < 128 := (x 4).isLt
  have e1 := emb_val (s := S1x6x8x128x128) _ _ inb x 1
  have e2 := emb_val (s := S1x6x8x128x128) _ _ inb x 2
  have e3 := emb_val (s := S1x6x8x128x128) _ _ inb x 3
  have e4 := emb_val (s := S1x6x8x128x128) _ _ inb x 4
  unfold wideT
  rw [e1, e2, e3, e4]
  have q0 : ((![0, h, k, 0, 0] : Fin 5 → ℕ) 2 + (x 2).val) = k := by
    show k + (x 2).val = k; omega
  have q1 : ((![0, h, k, 0, 0] : Fin 5 → ℕ) 1 + (x 1).val) = h := by
    show h + (x 1).val = h; omega
  rw [q0, q1]
  refine congrArg (f k h) (ix_eq _ _ _ _ fun a => ?_)
  match a with
  | ⟨0, _⟩ => exact (show 0 % 1 = (x 0).val by omega)
  | ⟨1, _⟩ => exact (show 0 % 1 = (x 1).val by omega)
  | ⟨2, _⟩ => exact (show 0 % 1 = (x 2).val by omega)
  | ⟨3, _⟩ => exact (show (0 + (x 3).val) % 128 = (x 3).val by omega)
  | ⟨4, _⟩ => exact (show (0 + (x 4).val) % 128 = (x 4).val by omega)

theorem wideC_emb (f : ℕ → S1x128x128.Idx → α) (h : ℕ) {off : Fin 3 → ℕ}
    (inb : ∀ a, off a + (![1, 128, 128] : Fin 3 → ℕ) a ≤ S6x128x128.size a) (ho : off = ![h, 0, 0])
    (x : (Rect.unit (s := S6x128x128) off ![1, 128, 128] inb).shape.Idx) :
    wideC f ((Rect.unit (s := S6x128x128) off ![1, 128, 128] inb).emb x) = f h x := by
  subst ho
  have j0 : (x 0).val < 1 := (x 0).isLt
  have j1 : (x 1).val < 128 := (x 1).isLt
  have j2 : (x 2).val < 128 := (x 2).isLt
  have e0 := emb_val (s := S6x128x128) _ _ inb x 0
  have e1 := emb_val (s := S6x128x128) _ _ inb x 1
  have e2 := emb_val (s := S6x128x128) _ _ inb x 2
  unfold wideC
  rw [e0, e1, e2]
  have q1 : ((![h, 0, 0] : Fin 3 → ℕ) 0 + (x 0).val) = h := by
    show h + (x 0).val = h; omega
  rw [q1]
  refine congrArg (f h) (ix_eq _ _ _ _ fun a => ?_)
  match a with
  | ⟨0, _⟩ => exact (show 0 % 1 = (x 0).val by omega)
  | ⟨1, _⟩ => exact (show (0 + (x 1).val) % 128 = (x 1).val by omega)
  | ⟨2, _⟩ => exact (show (0 + (x 2).val) % 128 = (x 2).val by omega)

/-- Every place of a chunk of one head lies in the rectangle of that chunk and head. -/
theorem mem_cut (k h : ℕ) {off : Fin 2 → ℕ} (inb : ∀ a, off a + (![64, 128] : Fin 2 → ℕ) a ≤ S512x768.size a)
    (ho : off = ![64 * k, 128 * h]) (y : S512x768.Idx) (hk : (y 0).val / 64 = k) (hh : (y 1).val / 128 = h) :
    y ∈ (Rect.unit (s := S512x768) off ![64, 128] inb).set := by
  subst ho
  refine Rect.mem_set_unit.mpr fun a => ?_
  match a with
  | ⟨0, _⟩ => exact (show 64 * k ≤ (y 0).val ∧ (y 0).val < 64 * k + 64 by omega)
  | ⟨1, _⟩ => exact (show 128 * h ≤ (y 1).val ∧ (y 1).val < 128 * h + 128 by omega)

theorem mem_cutA (k h : ℕ) {off : Fin 3 → ℕ} (inb : ∀ a, off a + (![1, 64, 64] : Fin 3 → ℕ) a ≤ S6x512x64.size a)
    (ho : off = ![h, 64 * k, 0]) (y : S6x512x64.Idx) (hk : (y 1).val / 64 = k) (hh : (y 0).val = h) :
    y ∈ (Rect.unit (s := S6x512x64) off ![1, 64, 64] inb).set := by
  subst ho
  have y2 : (y 2).val < 64 := (y 2).isLt
  refine Rect.mem_set_unit.mpr fun a => ?_
  match a with
  | ⟨0, _⟩ => exact (show h ≤ (y 0).val ∧ (y 0).val < h + 1 by omega)
  | ⟨1, _⟩ => exact (show 64 * k ≤ (y 1).val ∧ (y 1).val < 64 * k + 64 by omega)
  | ⟨2, _⟩ => exact (show 0 ≤ (y 2).val ∧ (y 2).val < 0 + 64 by omega)

theorem mem_cutT (k h : ℕ) {off : Fin 5 → ℕ} (inb : ∀ a, off a + (![1, 1, 1, 128, 128] : Fin 5 → ℕ) a ≤ S1x6x8x128x128.size a)
    (ho : off = ![0, h, k, 0, 0]) (y : S1x6x8x128x128.Idx) (hk : (y 2).val = k) (hh : (y 1).val = h) :
    y ∈ (Rect.unit (s := S1x6x8x128x128) off ![1, 1, 1, 128, 128] inb).set := by
  subst ho
  have y0 : (y 0).val < 1 := (y 0).isLt
  have y3 : (y 3).val < 128 := (y 3).isLt
  have y4 : (y 4).val < 128 := (y 4).isLt
  refine Rect.mem_set_unit.mpr fun a => ?_
  match a with
  | ⟨0, _⟩ => exact (show 0 ≤ (y 0).val ∧ (y 0).val < 0 + 1 by omega)
  | ⟨1, _⟩ => exact (show h ≤ (y 1).val ∧ (y 1).val < h + 1 by omega)
  | ⟨2, _⟩ => exact (show k ≤ (y 2).val ∧ (y 2).val < k + 1 by omega)
  | ⟨3, _⟩ => exact (show 0 ≤ (y 3).val ∧ (y 3).val < 0 + 128 by omega)
  | ⟨4, _⟩ => exact (show 0 ≤ (y 4).val ∧ (y 4).val < 0 + 128 by omega)

theorem mem_cutC (h : ℕ) {off : Fin 3 → ℕ} (inb : ∀ a, off a + (![1, 128, 128] : Fin 3 → ℕ) a ≤ S6x128x128.size a)
    (ho : off = ![h, 0, 0]) (y : S6x128x128.Idx) (hh : (y 0).val = h) :
    y ∈ (Rect.unit (s := S6x128x128) off ![1, 128, 128] inb).set := by
  subst ho
  have y1 : (y 1).val < 128 := (y 1).isLt
  have y2 : (y 2).val < 128 := (y 2).isLt
  refine Rect.mem_set_unit.mpr fun a => ?_
  match a with
  | ⟨0, _⟩ => exact (show h ≤ (y 0).val ∧ (y 0).val < h + 1 by omega)
  | ⟨1, _⟩ => exact (show 0 ≤ (y 1).val ∧ (y 1).val < 0 + 128 by omega)
  | ⟨2, _⟩ => exact (show 0 ≤ (y 2).val ∧ (y 2).val < 0 + 128 by omega)

end Stores

/-! ## Lists of pieces -/

section Pieces
variable {Val : EltTy → Type} {s : Shape}

/-- Every piece of the list agrees with `G`. -/
def Fits (L : List (View.Piece Val s e)) (G : s.Idx → Val e) : Prop :=
  ∀ p ∈ L, ∀ x : p.1.shape.Idx, p.2 x = G (p.1.emb x)

/-- Some piece of the list covers `y`. -/
def Covers (L : List (View.Piece Val s e)) (y : s.Idx) : Prop := ∃ p ∈ L, y ∈ p.1.set

theorem Fits.nil (G : s.Idx → Val e) : Fits ([] : List (View.Piece Val s e)) G := fun _ h => absurd h List.not_mem_nil

theorem Fits.cons {p : View.Piece Val s e} {L : List (View.Piece Val s e)} {G : s.Idx → Val e}
    (hp : ∀ x : p.1.shape.Idx, p.2 x = G (p.1.emb x)) (hL : Fits L G) : Fits (p :: L) G := fun q hq => by
  rcases List.mem_cons.mp hq with rfl | hq
  · exact hp
  · exact hL q hq

theorem Fits.append {L L' : List (View.Piece Val s e)} {G : s.Idx → Val e} (h : Fits L G) (h' : Fits L' G) : Fits (L ++ L') G :=
  fun q hq => (List.mem_append.mp hq).elim (h q) (h' q)

theorem Covers.append_left {L L' : List (View.Piece Val s e)} {y : s.Idx} (h : Covers L y) : Covers (L ++ L') y :=
  h.imp fun _ hp => ⟨List.mem_append_left _ hp.1, hp.2⟩

theorem Covers.append_right {L L' : List (View.Piece Val s e)} {y : s.Idx} (h : Covers L' y) : Covers (L ++ L') y :=
  h.imp fun _ hp => ⟨List.mem_append_right _ hp.1, hp.2⟩

theorem Covers.head {p : View.Piece Val s e} {L : List (View.Piece Val s e)} {y : s.Idx} (h : y ∈ p.1.set) : Covers (p :: L) y :=
  ⟨p, List.mem_cons_self, h⟩

theorem Covers.tail {p : View.Piece Val s e} {L : List (View.Piece Val s e)} {y : s.Idx} (h : Covers L y) : Covers (p :: L) y :=
  h.imp fun _ hp => ⟨List.mem_cons_of_mem _ hp.1, hp.2⟩

/-- A buffer written by pieces that agree with `G` and cover it reads `G`. -/
theorem read_fits (v : View sig' κ sp s e) (f : v.ty.Contents Val) (L : List (View.Piece Val s e)) (G : s.Idx → Val e)
    (hG : Fits L G) (hc : ∀ y, Covers L y) : v.read Val (v.writes Val f L) = G :=
  funext fun y => View.read_writes_apply_of_pieces v f G L hG y (hc y)

end Pieces

end Cert.KernelIdeal.Scan

end
-- ==== Proof.FwdLoop.lean ====
/- One trip of the forward recurrence's loop, and the loop: what chunk `k` of each of the six heads stores (its output rows and the
   state before it) and the state it hands to the next chunk. -/
module

public import proofs.«01_k».proof.Proof.Tiles

@[expose] public section

set_option maxRecDepth 16384

noncomputable section

namespace Cert.KernelIdeal.Scan

open Idealize.ShloMosaic Idealize.ShloMosaic.TcCoe Idealize.ShloMosaic.Tactic
open Cert.KernelIdeal.Gen

variable {F : FTy → Type} [FloatOps F]

/-- The state after a chunk: the state before it scaled lane by lane by the decay at the chunk's last row, plus the
    chunk's keys times its new values. -/
def stepS (s : FVec F S128x128 .f32) (u w kd g : Vec F S64x128 .f32) : FVec F S128x128 .f32 := k0_pay38 s u w kd g

/-- The rows a chunk outputs. -/
def stepO (s : FVec F S128x128 .f32) (u w qd : Vec F S64x128 .f32) (a : Vec F S1x64x64 .f32) : FVec F S64x128 .f32 := k0_pay37 s u w qd a

/-- The state as it is saved for the backward pass. -/
def saved (s : FVec F S128x128 .f32) : FVec F S1x1x1x128x128 .bf16 := k0_pay28 s

/-- The state before chunk `n`, from the state `s` before chunk 0 and the chunks of the operands. -/
def scan (u w kd g : ℕ → Vec F S64x128 .f32) (s : FVec F S128x128 .f32) : ℕ → FVec F S128x128 .f32
  | 0 => s
  | n + 1 => stepS (scan u w kd g s n) (u n) (w n) (kd n) (g n)

/-- The state after `m + k` chunks is the state after `k` more chunks from the state after `m`. -/
theorem scan_add (u w kd g : ℕ → Vec F S64x128 .f32) (s : FVec F S128x128 .f32) (m k : ℕ) :
    scan u w kd g s (m + k)
      = scan (fun i => u (m + i)) (fun i => w (m + i)) (fun i => kd (m + i)) (fun i => g (m + i)) (scan u w kd g s m) k := by
  induction k with
  | zero => rfl
  | succ k ih => exact congrArg (fun z => stepS z (u (m + k)) (w (m + k)) (kd (m + k)) (g (m + k))) ih

/-- Six values by head. -/
abbrev six {α : Type} (f : ℕ → α) : α × α × α × α × α × α := (f 0, f 1, f 2, f 3, f 4, f 5)

section Block
variable (x0 x1 x2 x3 : Vec F S512x768 .f32) (x4 : Vec F S6x512x64 .f32) (x5 : Vec F S512x768 .f32) (s0 : ℕ → FVec F S128x128 .f32)

/-- The state of head `h` before chunk `k` of a block of 512 rows entered at the states `s0`. -/
def blkS (h k : ℕ) : FVec F S128x128 .f32 :=
  scan (fun i => cut x0 i h) (fun i => cut x1 i h) (fun i => cut x3 i h) (fun i => cut x5 i h) (s0 h) k

/-- The block's output rows, -/
def blkO : Vec F S512x768 .f32 :=
  wide fun k h => stepO (blkS x0 x1 x3 x5 s0 h k) (cut x0 k h) (cut x1 k h) (cut x2 k h) (cutA x4 k h)

/-- and the states it saves. -/
def blkT : Vec F S1x6x8x128x128 .bf16 := wideT fun k h => saved (blkS x0 x1 x3 x5 s0 h k)

end Block

section Trip
variable (𝒱 : Variants) (c : Dev nD) (bd : Option 𝒱.V) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S512x768 .f32) (harg6 : arg6.IsWhole) (arg7 : Memref sig .tc .vmem S6x512x64 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S1x6x8x128x128 .bf16) (harg10 : arg10.IsWhole) (arg11 : Memref sig .tc .vmem S6x128x128 .f32) (harg11 : arg11.IsWhole)
  (x0 x1 x2 x3 : Vec F S512x768 .f32) (x4 : Vec F S6x512x64 .f32) (x5 : Vec F S512x768 .f32)

/-- What a trip yields: each head's state after the chunk. -/
theorem trip_state (k : Fin k0_t1_loop.trips) (s : ℕ → FVec F S128x128 .f32) :
    tripR_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) k (six s)
      = six fun h => stepS (s h) (cut x0 k.val h) (cut x1 k.val h) (cut x3 k.val h) (cut x5 k.val h) := by
  have u0 := read_cut (F := F) harg3 x0 k.val 0 (k0_off2_inb k) (k0_off2_eq k)
  have w0 := read_cut (F := F) harg4 x1 k.val 0 (k0_off2_inb k) (k0_off2_eq k)
  have k0 := read_cut (F := F) harg6 x3 k.val 0 (k0_off2_inb k) (k0_off2_eq k)
  have g0 := read_cut (F := F) harg8 x5 k.val 0 (k0_off2_inb k) (k0_off2_eq k)
  have u1 := read_cut (F := F) harg3 x0 k.val 1 (k0_off5_inb k) (k0_off5_eq k)
  have w1 := read_cut (F := F) harg4 x1 k.val 1 (k0_off5_inb k) (k0_off5_eq k)
  have k1 := read_cut (F := F) harg6 x3 k.val 1 (k0_off5_inb k) (k0_off5_eq k)
  have g1 := read_cut (F := F) harg8 x5 k.val 1 (k0_off5_inb k) (k0_off5_eq k)
  have u2 := read_cut (F := F) harg3 x0 k.val 2 (k0_off8_inb k) (k0_off8_eq k)
  have w2 := read_cut (F := F) harg4 x1 k.val 2 (k0_off8_inb k) (k0_off8_eq k)
  have k2 := read_cut (F := F) harg6 x3 k.val 2 (k0_off8_inb k) (k0_off8_eq k)
  have g2 := read_cut (F := F) harg8 x5 k.val 2 (k0_off8_inb k) (k0_off8_eq k)
  have u3 := read_cut (F := F) harg3 x0 k.val 3 (k0_off11_inb k) (k0_off11_eq k)
  have w3 := read_cut (F := F) harg4 x1 k.val 3 (k0_off11_inb k) (k0_off11_eq k)
  have k3 := read_cut (F := F) harg6 x3 k.val 3 (k0_off11_inb k) (k0_off11_eq k)
  have g3 := read_cut (F := F) harg8 x5 k.val 3 (k0_off11_inb k) (k0_off11_eq k)
  have u4 := read_cut (F := F) harg3 x0 k.val 4 (k0_off14_inb k) (k0_off14_eq k)
  have w4 := read_cut (F := F) harg4 x1 k.val 4 (k0_off14_inb k) (k0_off14_eq k)
  have k4 := read_cut (F := F) harg6 x3 k.val 4 (k0_off14_inb k) (k0_off14_eq k)
  have g4 := read_cut (F := F) harg8 x5 k.val 4 (k0_off14_inb k) (k0_off14_eq k)
  have u5 := read_cut (F := F) harg3 x0 k.val 5 (k0_off17_inb k) (k0_off17_eq k)
  have w5 := read_cut (F := F) harg4 x1 k.val 5 (k0_off17_inb k) (k0_off17_eq k)
  have k5 := read_cut (F := F) harg6 x3 k.val 5 (k0_off17_inb k) (k0_off17_eq k)
  have g5 := read_cut (F := F) harg8 x5 k.val 5 (k0_off17_inb k) (k0_off17_eq k)
  unfold tripR_k0_t1 trip_k0_t1
  simp only [six, ← u0, ← u1, ← u2, ← u3, ← u4, ← u5, ← w0, ← w1, ← w2, ← w3, ← w4, ← w5, ← k0, ← k1, ← k2, ← k3, ← k4, ← k5, ← g0, ← g1, ← g2, ← g3, ← g4, ← g5]
  rfl

/-- The rows a trip stores: the output rows of the chunk, head by head. -/
theorem trip_rows (k : Fin k0_t1_loop.trips) (s : ℕ → FVec F S128x128 .f32) (G : Vec F S512x768 .f32)
    (hG : ∀ h, ∀ (off : Fin 2 → ℕ) (inb : ∀ a, off a + (![64, 128] : Fin 2 → ℕ) a ≤ S512x768.size a), off = ![64 * k.val, 128 * h] → ∀ x, stepO (s h) (cut x0 k.val h) (cut x1 k.val h) (cut x2 k.val h) (cutA x4 k.val h) x = G ((Rect.unit (s := S512x768) off ![64, 128] inb).emb x)) :
    Fits (tripL_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) k (six s)).1 G
      ∧ ∀ y : S512x768.Idx, (y 0).val / 64 = k.val → Covers (tripL_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) k (six s)).1 y := by
  have u0 := read_cut (F := F) harg3 x0 k.val 0 (k0_off2_inb k) (k0_off2_eq k)
  have w0 := read_cut (F := F) harg4 x1 k.val 0 (k0_off2_inb k) (k0_off2_eq k)
  have q0 := read_cut (F := F) harg5 x2 k.val 0 (k0_off2_inb k) (k0_off2_eq k)
  have a0 := read_cutA (F := F) harg7 x4 k.val 0 (k0_off3_inb k) (k0_off3_eq k)
  have u1 := read_cut (F := F) harg3 x0 k.val 1 (k0_off5_inb k) (k0_off5_eq k)
  have w1 := read_cut (F := F) harg4 x1 k.val 1 (k0_off5_inb k) (k0_off5_eq k)
  have q1 := read_cut (F := F) harg5 x2 k.val 1 (k0_off5_inb k) (k0_off5_eq k)
  have a1 := read_cutA (F := F) harg7 x4 k.val 1 (k0_off6_inb k) (k0_off6_eq k)
  have u2 := read_cut (F := F) harg3 x0 k.val 2 (k0_off8_inb k) (k0_off8_eq k)
  have w2 := read_cut (F := F) harg4 x1 k.val 2 (k0_off8_inb k) (k0_off8_eq k)
  have q2 := read_cut (F := F) harg5 x2 k.val 2 (k0_off8_inb k) (k0_off8_eq k)
  have a2 := read_cutA (F := F) harg7 x4 k.val 2 (k0_off9_inb k) (k0_off9_eq k)
  have u3 := read_cut (F := F) harg3 x0 k.val 3 (k0_off11_inb k) (k0_off11_eq k)
  have w3 := read_cut (F := F) harg4 x1 k.val 3 (k0_off11_inb k) (k0_off11_eq k)
  have q3 := read_cut (F := F) harg5 x2 k.val 3 (k0_off11_inb k) (k0_off11_eq k)
  have a3 := read_cutA (F := F) harg7 x4 k.val 3 (k0_off12_inb k) (k0_off12_eq k)
  have u4 := read_cut (F := F) harg3 x0 k.val 4 (k0_off14_inb k) (k0_off14_eq k)
  have w4 := read_cut (F := F) harg4 x1 k.val 4 (k0_off14_inb k) (k0_off14_eq k)
  have q4 := read_cut (F := F) harg5 x2 k.val 4 (k0_off14_inb k) (k0_off14_eq k)
  have a4 := read_cutA (F := F) harg7 x4 k.val 4 (k0_off15_inb k) (k0_off15_eq k)
  have u5 := read_cut (F := F) harg3 x0 k.val 5 (k0_off17_inb k) (k0_off17_eq k)
  have w5 := read_cut (F := F) harg4 x1 k.val 5 (k0_off17_inb k) (k0_off17_eq k)
  have q5 := read_cut (F := F) harg5 x2 k.val 5 (k0_off17_inb k) (k0_off17_eq k)
  have a5 := read_cutA (F := F) harg7 x4 k.val 5 (k0_off18_inb k) (k0_off18_eq k)
  have G0 := hG 0 _ (k0_off2_inb k) (k0_off2_eq k); rw [← u0, ← w0, ← q0, ← a0] at G0
  have G1 := hG 1 _ (k0_off5_inb k) (k0_off5_eq k); rw [← u1, ← w1, ← q1, ← a1] at G1
  have G2 := hG 2 _ (k0_off8_inb k) (k0_off8_eq k); rw [← u2, ← w2, ← q2, ← a2] at G2
  have G3 := hG 3 _ (k0_off11_inb k) (k0_off11_eq k); rw [← u3, ← w3, ← q3, ← a3] at G3
  have G4 := hG 4 _ (k0_off14_inb k) (k0_off14_eq k); rw [← u4, ← w4, ← q4, ← a4] at G4
  have G5 := hG 5 _ (k0_off17_inb k) (k0_off17_eq k); rw [← u5, ← w5, ← q5, ← a5] at G5
  unfold tripL_k0_t1 trip_k0_t1
  dsimp only
  constructor
  · exact .cons G5 (.cons G4 (.cons G3 (.cons G2 (.cons G1 (.cons G0 (.nil _))))))
  · intro y hy
    have y1 : (y 1).val < 768 := (y 1).isLt
    have hc : (y 1).val / 128 = 0 ∨ (y 1).val / 128 = 1 ∨ (y 1).val / 128 = 2 ∨ (y 1).val / 128 = 3 ∨ (y 1).val / 128 = 4 ∨ (y 1).val / 128 = 5 := by omega
    rcases hc with hc | hc | hc | hc | hc | hc
    · exact (.tail (.tail (.tail (.tail (.tail (.head (mem_cut k.val 0 (k0_off2_inb k) (k0_off2_eq k) y hy hc)))))))
    · exact (.tail (.tail (.tail (.tail (.head (mem_cut k.val 1 (k0_off5_inb k) (k0_off5_eq k) y hy hc))))))
    · exact (.tail (.tail (.tail (.head (mem_cut k.val 2 (k0_off8_inb k) (k0_off8_eq k) y hy hc)))))
    · exact (.tail (.tail (.head (mem_cut k.val 3 (k0_off11_inb k) (k0_off11_eq k) y hy hc))))
    · exact (.tail (.head (mem_cut k.val 4 (k0_off14_inb k) (k0_off14_eq k) y hy hc)))
    · exact (.head (mem_cut k.val 5 (k0_off17_inb k) (k0_off17_eq k) y hy hc))

/-- The states a trip saves, head by head. -/
theorem trip_saves (k : Fin k0_t1_loop.trips) (s : ℕ → FVec F S128x128 .f32) (G : Vec F S1x6x8x128x128 .bf16)
    (hG : ∀ h, ∀ (off : Fin 5 → ℕ) (inb : ∀ a, off a + (![1, 1, 1, 128, 128] : Fin 5 → ℕ) a ≤ S1x6x8x128x128.size a), off = ![0, h, k.val, 0, 0] → ∀ x, saved (s h) x = G ((Rect.unit (s := S1x6x8x128x128) off ![1, 1, 1, 128, 128] inb).emb x)) :
    Fits (tripL_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) k (six s)).2 G
      ∧ ∀ y : S1x6x8x128x128.Idx, (y 2).val = k.val → Covers (tripL_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) k (six s)).2 y := by
  have G0 := hG 0 _ (k0_off1_inb k) (k0_off1_eq k)
  have G1 := hG 1 _ (k0_off4_inb k) (k0_off4_eq k)
  have G2 := hG 2 _ (k0_off7_inb k) (k0_off7_eq k)
  have G3 := hG 3 _ (k0_off10_inb k) (k0_off10_eq k)
  have G4 := hG 4 _ (k0_off13_inb k) (k0_off13_eq k)
  have G5 := hG 5 _ (k0_off16_inb k) (k0_off16_eq k)
  unfold tripL_k0_t1 trip_k0_t1
  dsimp only
  constructor
  · exact .cons G5 (.cons G4 (.cons G3 (.cons G2 (.cons G1 (.cons G0 (.nil _))))))
  · intro y hy
    have y1 : (y 1).val < 6 := (y 1).isLt
    have hc : (y 1).val = 0 ∨ (y 1).val = 1 ∨ (y 1).val = 2 ∨ (y 1).val = 3 ∨ (y 1).val = 4 ∨ (y 1).val = 5 := by omega
    rcases hc with hc | hc | hc | hc | hc | hc
    · exact (.tail (.tail (.tail (.tail (.tail (.head (mem_cutT k.val 0 (k0_off1_inb k) (k0_off1_eq k) y hy hc)))))))
    · exact (.tail (.tail (.tail (.tail (.head (mem_cutT k.val 1 (k0_off4_inb k) (k0_off4_eq k) y hy hc))))))
    · exact (.tail (.tail (.tail (.head (mem_cutT k.val 2 (k0_off7_inb k) (k0_off7_eq k) y hy hc)))))
    · exact (.tail (.tail (.head (mem_cutT k.val 3 (k0_off10_inb k) (k0_off10_eq k) y hy hc))))
    · exact (.tail (.head (mem_cutT k.val 4 (k0_off13_inb k) (k0_off13_eq k) y hy hc)))
    · exact (.head (mem_cutT k.val 5 (k0_off16_inb k) (k0_off16_eq k) y hy hc))

/-- The loop before trip `k`: the six states carried, and stores that agree with the block's output rows and saved states and
    cover the chunks before `k`. -/
theorem loop_inv (s0 : ℕ → FVec F S128x128 .f32) : ∀ k : ℕ, k ≤ 8 →
    (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (six s0) k).1 = (six fun h => blkS x0 x1 x3 x5 s0 h k)
    ∧ (Fits (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (six s0) k).2.1 (blkO x0 x1 x2 x3 x4 x5 s0)
      ∧ ∀ y : S512x768.Idx, (y 0).val / 64 < k → Covers (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (six s0) k).2.1 y)
    ∧ (Fits (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (six s0) k).2.2 (blkT x0 x1 x3 x5 s0)
      ∧ ∀ y : S1x6x8x128x128.Idx, (y 2).val < k → Covers (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (six s0) k).2.2 y)
  | 0, _ => ⟨rfl, ⟨Fits.nil _, fun _ h => absurd h (Nat.not_lt_zero _)⟩, ⟨Fits.nil _, fun _ h => absurd h (Nat.not_lt_zero _)⟩⟩
  | k + 1, hk => by
    obtain ⟨e, ⟨f1, c1⟩, f2, c2⟩ := loop_inv s0 k (by omega)
    have hk' : k < k0_t1_loop.trips := Nat.lt_of_lt_of_eq (show k < 8 by omega) (by decide +kernel)
    have es := st_k0_t1_succ (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (six s0) ⟨k, hk'⟩
    dsimp only at es
    rw [e] at es
    rw [es]
    obtain ⟨r1, r2⟩ := trip_rows 𝒱 c bd i arg3 harg3 arg4 harg4 arg5 harg5 arg6 harg6 arg7 harg7 arg8 harg8 arg9 harg9 arg10 harg10 arg11 harg11 x0 x1 x2 x3 x4 x5 ⟨k, hk'⟩ (fun h => blkS x0 x1 x3 x5 s0 h k) (blkO x0 x1 x2 x3 x4 x5 s0)
      (fun h off inb ho x => by unfold blkO; exact (wide_emb (fun k h => stepO (blkS x0 x1 x3 x5 s0 h k) (cut x0 k h) (cut x1 k h) (cut x2 k h) (cutA x4 k h)) k h inb ho x).symm)
    obtain ⟨t1, t2⟩ := trip_saves 𝒱 c bd i arg3 harg3 arg4 harg4 arg5 harg5 arg6 harg6 arg7 harg7 arg8 harg8 arg9 harg9 arg10 harg10 arg11 harg11 x0 x1 x2 x3 x4 x5 ⟨k, hk'⟩ (fun h => blkS x0 x1 x3 x5 s0 h k) (blkT x0 x1 x3 x5 s0)
      (fun h off inb ho x => by unfold blkT; exact (wideT_emb (fun k h => saved (blkS x0 x1 x3 x5 s0 h k)) k h inb ho x).symm)
    refine ⟨?_, ⟨r1.append f1, fun y hy => ?_⟩, ⟨t1.append f2, fun y hy => ?_⟩⟩
    · exact trip_state 𝒱 c bd i arg3 harg3 arg4 harg4 arg5 harg5 arg6 harg6 arg7 harg7 arg8 harg8 arg9 harg9 arg10 harg10 arg11 harg11 x0 x1 x2 x3 x4 x5 ⟨k, hk'⟩ _
    · by_cases h : (y 0).val / 64 < k
      · exact (c1 y h).append_right
      · exact (r2 y (show (y 0).val / 64 = k by omega)).append_left
    · by_cases h : (y 2).val < k
      · exact (c2 y h).append_right
      · exact (t2 y (show (y 2).val = k by omega)).append_left

end Trip

end Cert.KernelIdeal.Scan

end
-- ==== Proof.FwdBody.lean ====
/- The body of the forward recurrence's call at one grid point: from a block of 512 rows and the six carried states it leaves the
   block's output rows, the eight states it saves per head, and the six states after the block. -/
module

public import proofs.«01_k».proof.Proof.FwdLoop
public import proofs.«01_k».proof.Proof.Gen.KernelIdeal.Loops
public import Idealize.ShloMosaic.Lib.VecWindow

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The states a block is entered at, from the carried buffer. -/
def entry (xs : Vec F S6x128x128 .f32) (h : ℕ) : FVec F S128x128 .f32 := k0_pay30 (cutC xs h)

/-- The carried buffer holding the six states `s`. -/
def leave (s : ℕ → FVec F S128x128 .f32) : Vec F S6x128x128 .f32 := wideC fun h => k0_pay39 (s h)

/-- The carried buffer at the start of a sequence. -/
def zeroC : Vec F S6x128x128 .f32 := k0_pay29 (F := F)

/-- The grid point starts a sequence. -/
abbrev first0 (i : grid0.Coords) : Prop := (Scalar.cmpi .ne (Scalar.extui (Scalar.cmpi .eq (BitVec.ofNat 32 (i 2).val) 0#32)) 0#32) = 1#1

/-- Six stores, one per head, leave the six states, whatever was there. -/
theorem read_leave {sig' : RefSig} {κ : Kind} {sp : Space} (M : Memref sig' κ sp S6x128x128 .f32) (f : M.view.ty.Contents (Elt F)) (s : ℕ → FVec F S128x128 .f32)
    (p : FVec F S128x128 .f32 × FVec F S128x128 .f32 × FVec F S128x128 .f32 × FVec F S128x128 .f32 × FVec F S128x128 .f32 × FVec F S128x128 .f32)
    (hp : p = six s) (L : List (View.Piece (Elt F) S6x128x128 .f32)) :
    M.view.read (Elt F) (M.view.writes (Elt F) f (⟨Rect.unit (s := S6x128x128) ![5, 0, 0] ![1, 128, 128] inb_S6x128x128_S1x128x128_5_0_0, k0_pay39 (p.2.2.2.2.2)⟩ :: ⟨Rect.unit (s := S6x128x128) ![4, 0, 0] ![1, 128, 128] inb_S6x128x128_S1x128x128_4_0_0, k0_pay39 (p.2.2.2.2.1)⟩ :: ⟨Rect.unit (s := S6x128x128) ![3, 0, 0] ![1, 128, 128] inb_S6x128x128_S1x128x128_3_0_0, k0_pay39 (p.2.2.2.1)⟩ :: ⟨Rect.unit (s := S6x128x128) ![2, 0, 0] ![1, 128, 128] inb_S6x128x128_S1x128x128_2_0_0, k0_pay39 (p.2.2.1)⟩ :: ⟨Rect.unit (s := S6x128x128) ![1, 0, 0] ![1, 128, 128] inb_S6x128x128_S1x128x128_1_0_0, k0_pay39 (p.2.1)⟩ :: ⟨Rect.unit (s := S6x128x128) ![0, 0, 0] ![1, 128, 128] inb_S6x128x128_S1x128x128_0_0_0, k0_pay39 (p.1)⟩ :: L)) = leave s := by
  subst hp
  have G : ∀ (h : ℕ) {off : Fin 3 → ℕ} (inb : ∀ a, off a + (![1, 128, 128] : Fin 3 → ℕ) a ≤ S6x128x128.size a) (ho : off = ![h, 0, 0]) x,
      k0_pay39 (s h) x = leave s ((Rect.unit (s := S6x128x128) off ![1, 128, 128] inb).emb x) :=
    fun h _ inb ho x => (wideC_emb (fun h => k0_pay39 (s h)) h inb ho x).symm
  refine (congrArg (View.read (Elt F) M.view) (View.writes_append (v := M.view) (f := f) [_, _, _, _, _, _] L)).trans (read_fits _ _ _ _ ?_ fun y => ?_)
  · exact .cons (G 5 inb_S6x128x128_S1x128x128_5_0_0 rfl) (.cons (G 4 inb_S6x128x128_S1x128x128_4_0_0 rfl) (.cons (G 3 inb_S6x128x128_S1x128x128_3_0_0 rfl) (.cons (G 2 inb_S6x128x128_S1x128x128_2_0_0 rfl) (.cons (G 1 inb_S6x128x128_S1x128x128_1_0_0 rfl) (.cons (G 0 inb_S6x128x128_S1x128x128_0_0_0 rfl) (.nil _))))))
  have y0 : (y 0).val < 6 := (y 0).isLt
  have hc : (y 0).val = 0 ∨ (y 0).val = 1 ∨ (y 0).val = 2 ∨ (y 0).val = 3 ∨ (y 0).val = 4 ∨ (y 0).val = 5 := by omega
  rcases hc with hc | hc | hc | hc | hc | hc
  · exact (.tail (.tail (.tail (.tail (.tail (.head (mem_cutC 0 inb_S6x128x128_S1x128x128_0_0_0 rfl y hc)))))))
  · exact (.tail (.tail (.tail (.tail (.head (mem_cutC 1 inb_S6x128x128_S1x128x128_1_0_0 rfl y hc))))))
  · exact (.tail (.tail (.tail (.head (mem_cutC 2 inb_S6x128x128_S1x128x128_2_0_0 rfl y hc)))))
  · exact (.tail (.tail (.head (mem_cutC 3 inb_S6x128x128_S1x128x128_3_0_0 rfl y hc))))
  · exact (.tail (.head (mem_cutC 4 inb_S6x128x128_S1x128x128_4_0_0 rfl y hc)))
  · exact (.head (mem_cutC 5 inb_S6x128x128_S1x128x128_5_0_0 rfl y hc))

/-- What is read back of the carried buffer once it was filled whole. -/
theorem read_filled {sig' : RefSig} {κ : Kind} {sp : Space} (M : Memref sig' κ sp S6x128x128 .f32) (z : Vec F S6x128x128 .f32) (h : ℕ) {off : Fin 3 → ℕ}
    (inb : ∀ a, off a + (![1, 128, 128] : Fin 3 → ℕ) a ≤ S6x128x128.size a) (ho : off = ![h, 0, 0]) :
    M.view.readCov [⟨Rect.unit (s := S6x128x128) ![0, 0, 0] S6x128x128.size inb_S6x128x128_S6x128x128_0_0_0, z⟩] (Rect.unit (s := S6x128x128) off ![1, 128, 128] inb).toLoadRect = cutC z h := by
  subst ho
  funext j
  refine (congrFun (View.read_writes_full M.view _ inb_S6x128x128_S6x128x128_0_0_0 z []) _).trans ?_
  refine congrArg z (ix_eq _ _ _ _ fun a => ?_).symm
  have h0 := inb 0
  have j0 : (j 0).val < 1 := (j 0).isLt
  have j1 : (j 1).val < 128 := (j 1).isLt
  have j2 : (j 2).val < 128 := (j 2).isLt
  match a with
  | ⟨0, _⟩ => exact (show h % 6 = h + 1 * (j 0).val by have : h + 1 ≤ 6 := h0; omega)
  | ⟨1, _⟩ => exact (show (j 1).val % 128 = 0 + 1 * (j 1).val by omega)
  | ⟨2, _⟩ => exact (show (j 2).val % 128 = 0 + 1 * (j 2).val by omega)

/-- After the loop. -/
theorem loop_end (𝒱 : Variants) (c : Dev nD) (bd : Option 𝒱.V) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S512x768 .f32) (harg6 : arg6.IsWhole) (arg7 : Memref sig .tc .vmem S6x512x64 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S1x6x8x128x128 .bf16) (harg10 : arg10.IsWhole) (arg11 : Memref sig .tc .vmem S6x128x128 .f32) (harg11 : arg11.IsWhole)
    (x0 x1 x2 x3 : Vec F S512x768 .f32) (x4 : Vec F S6x512x64 .f32) (x5 : Vec F S512x768 .f32) (s0 : ℕ → FVec F S128x128 .f32)
    (T : FVec F S128x128 .f32 × FVec F S128x128 .f32 × FVec F S128x128 .f32 × FVec F S128x128 .f32 × FVec F S128x128 .f32 × FVec F S128x128 .f32) (hT : T = six s0) :
    (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) T k0_t1_loop.trips).1 = (six fun h => blkS x0 x1 x3 x5 s0 h 8)
    ∧ (∀ f, arg9.view.read (Elt F) (arg9.view.writes (Elt F) f (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) T k0_t1_loop.trips).2.1) = blkO x0 x1 x2 x3 x4 x5 s0)
    ∧ (∀ f, arg10.view.read (Elt F) (arg10.view.writes (Elt F) f (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) T k0_t1_loop.trips).2.2) = blkT x0 x1 x3 x5 s0) := by
  subst hT
  have e8 : k0_t1_loop.trips = 8 := by decide +kernel
  rw [e8]
  obtain ⟨e, ⟨f1, c1⟩, f2, c2⟩ := loop_inv 𝒱 c bd i arg3 harg3 arg4 harg4 arg5 harg5 arg6 harg6 arg7 harg7 arg8 harg8 arg9 harg9 arg10 harg10 arg11 harg11 x0 x1 x2 x3 x4 x5 s0 8 le_rfl
  refine ⟨e, fun f => read_fits _ _ _ _ f1 fun y => c1 y ?_, fun f => read_fits _ _ _ _ f2 fun y => c2 y ?_⟩
  · have y0 : (y 0).val < 512 := (y 0).isLt
    omega
  · exact (y 2).isLt

set_option maxHeartbeats 1000000 in
/-- At the start of a sequence the carried states are set to zero first. -/
theorem body0_first (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S512x768 .f32) (harg6 : arg6.IsWhole) (arg7 : Memref sig .tc .vmem S6x512x64 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S1x6x8x128x128 .bf16) (harg10 : arg10.IsWhole) (arg11 : Memref sig .tc .vmem S6x128x128 .f32) (harg11 : arg11.IsWhole) (hc0 : first0 i)
    (x0 x1 x2 x3 : Vec F S512x768 .f32) (x4 : Vec F S6x512x64 .f32) (x5 : Vec F S512x768 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (blkO x0 x1 x2 x3 x4 x5 (entry zeroC)) ∗ owns (c : Thread nD τ) arg10 fullShare (blkT x0 x1 x3 x5 (entry zeroC)) ∗ owns (c : Thread nD τ) arg11 fullShare (leave fun h => blkS x0 x1 x3 x5 (entry zeroC) h 8)) -∗ K ⟨⟩))
      ⊢ wp frame (wpE (defs₀ (F := F)) Variants.none c none) E (cc0_gdn_scan_fwd i arg3 harg3 arg4 harg4 arg5 harg5 arg6 harg6 arg7 harg7 arg8 harg8 arg9 harg9 arg10 harg10 arg11 harg11) K := by
  simp only [cc0_gdn_scan_fwd_eq_skeleton]; unfold cc0_gdn_scan_fwd_skel
  simp only [k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  have hT : (k0_pay30 (arg11.view.readCov [⟨Rect.unit (s := S6x128x128) ![0, 0, 0] S6x128x128.size inb_S6x128x128_S6x128x128_0_0_0, k0_pay29 (F := F)⟩] (Rect.unit (s := S6x128x128) ![0, 0, 0] ![1, 128, 128] inb_S6x128x128_S1x128x128_0_0_0).toLoadRect), k0_pay31 (arg11.view.readCov [⟨Rect.unit (s := S6x128x128) ![0, 0, 0] S6x128x128.size inb_S6x128x128_S6x128x128_0_0_0, k0_pay29 (F := F)⟩] (Rect.unit (s := S6x128x128) ![1, 0, 0] ![1, 128, 128] inb_S6x128x128_S1x128x128_1_0_0).toLoadRect), k0_pay32 (arg11.view.readCov [⟨Rect.unit (s := S6x128x128) ![0, 0, 0] S6x128x128.size inb_S6x128x128_S6x128x128_0_0_0, k0_pay29 (F := F)⟩] (Rect.unit (s := S6x128x128) ![2, 0, 0] ![1, 128, 128] inb_S6x128x128_S1x128x128_2_0_0).toLoadRect), k0_pay33 (arg11.view.readCov [⟨Rect.unit (s := S6x128x128) ![0, 0, 0] S6x128x128.size inb_S6x128x128_S6x128x128_0_0_0, k0_pay29 (F := F)⟩] (Rect.unit (s := S6x128x128) ![3, 0, 0] ![1, 128, 128] inb_S6x128x128_S1x128x128_3_0_0).toLoadRect), k0_pay34 (arg11.view.readCov [⟨Rect.unit (s := S6x128x128) ![0, 0, 0] S6x128x128.size inb_S6x128x128_S6x128x128_0_0_0, k0_pay29 (F := F)⟩] (Rect.unit (s := S6x128x128) ![4, 0, 0] ![1, 128, 128] inb_S6x128x128_S1x128x128_4_0_0).toLoadRect), k0_pay35 (arg11.view.readCov [⟨Rect.unit (s := S6x128x128) ![0, 0, 0] S6x128x128.size inb_S6x128x128_S6x128x128_0_0_0, k0_pay29 (F := F)⟩] (Rect.unit (s := S6x128x128) ![5, 0, 0] ![1, 128, 128] inb_S6x128x128_S1x128x128_5_0_0).toLoadRect)) = six (entry zeroC) := by
    have e0 := read_filled (F := F) arg11 zeroC 0 inb_S6x128x128_S1x128x128_0_0_0 rfl
    have e1 := read_filled (F := F) arg11 zeroC 1 inb_S6x128x128_S1x128x128_1_0_0 rfl
    have e2 := read_filled (F := F) arg11 zeroC 2 inb_S6x128x128_S1x128x128_2_0_0 rfl
    have e3 := read_filled (F := F) arg11 zeroC 3 inb_S6x128x128_S1x128x128_3_0_0 rfl
    have e4 := read_filled (F := F) arg11 zeroC 4 inb_S6x128x128_S1x128x128_4_0_0 rfl
    have e5 := read_filled (F := F) arg11 zeroC 5 inb_S6x128x128_S1x128x128_5_0_0 rfl
    exact Prod.ext (congrArg k0_pay30 e0) (Prod.ext (congrArg k0_pay30 e1) (Prod.ext (congrArg k0_pay30 e2) (Prod.ext (congrArg k0_pay30 e3) (Prod.ext (congrArg k0_pay30 e4) (congrArg k0_pay30 e5)))))
  have hE := loop_end Variants.none c none i arg3 harg3 arg4 harg4 arg5 harg5 arg6 harg6 arg7 harg7 arg8 harg8 arg9 harg9 arg10 harg10 arg11 harg11 x0 x1 x2 x3 x4 x5 (entry zeroC) _ hT
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    exact hE.2.1 _
  isplitl [H7]
  · iexists _; isplitr; swap; · iexact H7
    ipureintro
    exact hE.2.2 _
  iexists _; isplitr; swap; · iexact HS
  ipureintro
  exact read_leave arg11 _ _ _ hE.1 _

set_option maxHeartbeats 1000000 in
/-- Elsewhere the block is entered at the states carried to it. -/
theorem body0_later (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S512x768 .f32) (harg6 : arg6.IsWhole) (arg7 : Memref sig .tc .vmem S6x512x64 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S1x6x8x128x128 .bf16) (harg10 : arg10.IsWhole) (arg11 : Memref sig .tc .vmem S6x128x128 .f32) (harg11 : arg11.IsWhole) (hc0 : ¬first0 i)
    (x0 x1 x2 x3 : Vec F S512x768 .f32) (x4 : Vec F S6x512x64 .f32) (x5 : Vec F S512x768 .f32) (xs : Vec F S6x128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (blkO x0 x1 x2 x3 x4 x5 (entry xs)) ∗ owns (c : Thread nD τ) arg10 fullShare (blkT x0 x1 x3 x5 (entry xs)) ∗ owns (c : Thread nD τ) arg11 fullShare (leave fun h => blkS x0 x1 x3 x5 (entry xs) h 8)) -∗ K ⟨⟩))
      ⊢ wp frame (wpE (defs₀ (F := F)) Variants.none c none) E (cc0_gdn_scan_fwd i arg3 harg3 arg4 harg4 arg5 harg5 arg6 harg6 arg7 harg7 arg8 harg8 arg9 harg9 arg10 harg10 arg11 harg11) K := by
  simp only [cc0_gdn_scan_fwd_eq_skeleton]; unfold cc0_gdn_scan_fwd_skel
  simp only [k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs
  have hT : (k0_pay30 (View.readAt (Elt F) arg11.view (Rect.unit (s := S6x128x128) ![0, 0, 0] ![1, 128, 128] inb_S6x128x128_S1x128x128_0_0_0).toLoadRect (harg11.unread xs)), k0_pay31 (View.readAt (Elt F) arg11.view (Rect.unit (s := S6x128x128) ![1, 0, 0] ![1, 128, 128] inb_S6x128x128_S1x128x128_1_0_0).toLoadRect (harg11.unread xs)), k0_pay32 (View.readAt (Elt F) arg11.view (Rect.unit (s := S6x128x128) ![2, 0, 0] ![1, 128, 128] inb_S6x128x128_S1x128x128_2_0_0).toLoadRect (harg11.unread xs)), k0_pay33 (View.readAt (Elt F) arg11.view (Rect.unit (s := S6x128x128) ![3, 0, 0] ![1, 128, 128] inb_S6x128x128_S1x128x128_3_0_0).toLoadRect (harg11.unread xs)), k0_pay34 (View.readAt (Elt F) arg11.view (Rect.unit (s := S6x128x128) ![4, 0, 0] ![1, 128, 128] inb_S6x128x128_S1x128x128_4_0_0).toLoadRect (harg11.unread xs)), k0_pay35 (View.readAt (Elt F) arg11.view (Rect.unit (s := S6x128x128) ![5, 0, 0] ![1, 128, 128] inb_S6x128x128_S1x128x128_5_0_0).toLoadRect (harg11.unread xs))) = six (entry xs) := by
    have e0 := read_cutC (F := F) harg11 xs 0 inb_S6x128x128_S1x128x128_0_0_0 rfl
    have e1 := read_cutC (F := F) harg11 xs 1 inb_S6x128x128_S1x128x128_1_0_0 rfl
    have e2 := read_cutC (F := F) harg11 xs 2 inb_S6x128x128_S1x128x128_2_0_0 rfl
    have e3 := read_cutC (F := F) harg11 xs 3 inb_S6x128x128_S1x128x128_3_0_0 rfl
    have e4 := read_cutC (F := F) harg11 xs 4 inb_S6x128x128_S1x128x128_4_0_0 rfl
    have e5 := read_cutC (F := F) harg11 xs 5 inb_S6x128x128_S1x128x128_5_0_0 rfl
    exact Prod.ext (congrArg k0_pay30 e0) (Prod.ext (congrArg k0_pay30 e1) (Prod.ext (congrArg k0_pay30 e2) (Prod.ext (congrArg k0_pay30 e3) (Prod.ext (congrArg k0_pay30 e4) (congrArg k0_pay30 e5)))))
  have hE := loop_end Variants.none c none i arg3 harg3 arg4 harg4 arg5 harg5 arg6 harg6 arg7 harg7 arg8 harg8 arg9 harg9 arg10 harg10 arg11 harg11 x0 x1 x2 x3 x4 x5 (entry xs) _ hT
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    exact hE.2.1 _
  isplitl [H7]
  · iexists _; isplitr; swap; · iexact H7
    ipureintro
    exact hE.2.2 _
  iexists _; isplitr; swap; · iexact HS
  ipureintro
  exact read_leave arg11 _ _ _ hE.1 _

end Cert.KernelIdeal.Scan

end
-- ==== Proof.FwdDat.lean ====
/- The grid points of the forward recurrence one after another: what each of the 16 points finds in its blocks, the states carried from
   point to point, what each point leaves in its output blocks, and that the body does so at every point. -/
module

public import proofs.«01_k».proof.Proof.FwdBody
public import proofs.«01_k».proof.Proof.Gen.KernelIdeal.Launch
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What window `w` holds of its array at point `t`. -/
def inp0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point numbered `n`. -/
def pt0 (n : ℕ) : Fin cfg0.N := ⟨n % 16, Nat.lt_of_lt_of_eq (Nat.mod_lt _ (by omega)) N_0.symm⟩

theorem pt0_val (t : Fin cfg0.N) : pt0 t.val = t :=
  Fin.ext (Nat.mod_eq_of_lt (Nat.lt_of_lt_of_eq t.isLt N_0))

/-- The states point `t` starts from, the carried buffer holding `s`: at the first of a sequence's four points they are zero. -/
def start0 (n : ℕ) (s : Vec F S6x128x128 .f32) : ℕ → FVec F S128x128 .f32 := entry (if n % 4 = 0 then zeroC else s)

/-- The carried buffer before point `n` (what it holds before the first is never read). -/
def car0 (c : Dev nD) : ℕ → Vec F S6x128x128 .f32
  | 0 => zeroC
  | n + 1 => leave fun h => blkS (inp0 V c 0 (pt0 n)) (inp0 V c 1 (pt0 n)) (inp0 V c 3 (pt0 n)) (inp0 V c 5 (pt0 n)) (start0 n (car0 c n)) h 8

/-- The states point `t` starts from. -/
abbrev ini0 (c : Dev nD) (t : Fin cfg0.N) : ℕ → FVec F S128x128 .f32 := start0 t.val (car0 V c t.val)

theorem car0_succ (c : Dev nD) (t : Fin cfg0.N) :
    car0 V c (t.val + 1) = leave fun h => blkS (inp0 V c 0 t) (inp0 V c 1 t) (inp0 V c 3 t) (inp0 V c 5 t) (ini0 V c t) h 8 := by
  show (leave fun h => blkS (inp0 V c 0 (pt0 t.val)) (inp0 V c 1 (pt0 t.val)) (inp0 V c 3 (pt0 t.val)) (inp0 V c 5 (pt0 t.val)) (start0 t.val (car0 V c t.val)) h 8) = _
  rw [pt0_val]

theorem start0_first {n : ℕ} (h : n % 4 = 0) (s : Vec F S6x128x128 .f32) : start0 n s = entry zeroC := by
  unfold start0; rw [if_pos h]

theorem start0_later {n : ℕ} (h : ¬n % 4 = 0) (s : Vec F S6x128x128 .f32) : start0 n s = entry s := by
  unfold start0; rw [if_neg h]

/-- The body starts afresh at the points ≡ 0 (mod 4). -/
theorem first0_iff : ∀ t : Fin cfg0.N, first0 (grid0.coords t) ↔ t.val % 4 = 0 :=
  (fun t => by
    have ht : t.val < 16 := Nat.lt_of_lt_of_eq t.isLt N_0
    have e2 : (grid0.coords t 2).val = t.val / 1 % 4 := Pipeline.Grid.coords_val t 2 (by decide) rfl
    simp only [first0, e2]
    word_cmp
   : ∀ t : Fin grid0.N, first0 (grid0.coords t) ↔ t.val % 4 = 0)

/-- The carried buffer, whole. -/
abbrev scr0 : Memref sig .tc .vmem S6x128x128 .f32 := Memref.whole cc0_scratch0

/-- The scoped buffers the call does not touch. -/
def rest0 (c : Dev nD) : sProp 𝕄 :=
  Pipeline.scopedRestBut (Ix := Unit) (Name := ℕ) (U := UR sig nD τ) (Lvl := ℕ) (Val := Elt F) spec0 c [cc0_scratch0]

/-- What the launch hands over: the carried buffer at some contents, and the generator register. -/
theorem PhiA0_eq (c : Dev nD) :
    (Pipeline.ΦA spec0 c : sProp 𝕄)
      = iprop(iprop((∃ d, owns (c : Thread nD τ) scr0 fullShare d) ∗ rest0 c) ∗ (∃ r, prngReg c r)) := by
  unfold Pipeline.ΦA rest0; rw [Pipeline.scopedRest_split_of_list spec0 c [cc0_scratch0] (by decide) (by decide)]; simp only [scr0, owns_whole]; rfl

/-- Between the points: before the first whatever the launch hands over, afterwards the carried buffer at `car0`. -/
def Phi0 (c : Dev nD) (n : ℕ) : sProp 𝕄 :=
  if n = 0 then Pipeline.ΦA spec0 c else iprop(owns (c : Thread nD τ) scr0 fullShare (car0 V c n) ∗ rest0 c ∗ ∃ r, prngReg c r)

theorem Phi0_zero (c : Dev nD) {n : ℕ} (h : n = 0) : Phi0 V c n = Pipeline.ΦA spec0 c := if_pos h
theorem Phi0_pos (c : Dev nD) {n : ℕ} (h : n ≠ 0) :
    Phi0 V c n = iprop(owns (c : Thread nD τ) scr0 fullShare (car0 V c n) ∗ rest0 c ∗ ∃ r, prngReg c r) := if_neg h

/-- After any point the carried buffer goes back at some contents. -/
theorem Phi0_out (c : Dev nD) {n : ℕ} (h : n ≠ 0) : Phi0 V c n ⊢ Pipeline.ΦA spec0 c := by
  rw [Phi0_pos V c h, PhiA0_eq]
  iintro ⟨HS, Hr, Hg⟩
  isplitl [HS Hr]
  · isplitl [HS]
    · iexists _; iexact HS
    iexact Hr
  iexact Hg

/-- The call's data: the arrays as found, and what each point leaves in each window. -/
def dat0 (c : Dev nD) : Dat τ (Elt F) Unit ℕ (UR sig nD τ) ℕ cfg0 c where
  A w := V c (Pipeline.arrRef spec0 w)
  after w t := match w with
    | ⟨0, _⟩ => inp0 V c 0 t
    | ⟨1, _⟩ => inp0 V c 1 t
    | ⟨2, _⟩ => inp0 V c 2 t
    | ⟨3, _⟩ => inp0 V c 3 t
    | ⟨4, _⟩ => inp0 V c 4 t
    | ⟨5, _⟩ => inp0 V c 5 t
    | ⟨6, _⟩ => blkO (inp0 V c 0 t) (inp0 V c 1 t) (inp0 V c 2 t) (inp0 V c 3 t) (inp0 V c 4 t) (inp0 V c 5 t) (ini0 V c t)
    | ⟨7, _⟩ => blkT (inp0 V c 0 t) (inp0 V c 1 t) (inp0 V c 3 t) (inp0 V c 5 t) (ini0 V c t)
  Φ t := Phi0 V c t.val
  q _ := fullShare
  owed _ := 0

theorem dat0_A (c : Dev nD) (w : Fin cfg0.W) : (dat0 V c).A w = V c (Pipeline.arrRef spec0 w) := by
  dsimp only [dat0]

theorem after0_0 (c : Dev nD) (t : Fin cfg0.N) : (dat0 V c).after 0 t = inp0 V c 0 t := by dsimp only [dat0]
theorem after0_1 (c : Dev nD) (t : Fin cfg0.N) : (dat0 V c).after 1 t = inp0 V c 1 t := by dsimp only [dat0]
theorem after0_2 (c : Dev nD) (t : Fin cfg0.N) : (dat0 V c).after 2 t = inp0 V c 2 t := by dsimp only [dat0]
theorem after0_3 (c : Dev nD) (t : Fin cfg0.N) : (dat0 V c).after 3 t = inp0 V c 3 t := by dsimp only [dat0]
theorem after0_4 (c : Dev nD) (t : Fin cfg0.N) : (dat0 V c).after 4 t = inp0 V c 4 t := by dsimp only [dat0]
theorem after0_5 (c : Dev nD) (t : Fin cfg0.N) : (dat0 V c).after 5 t = inp0 V c 5 t := by dsimp only [dat0]
theorem after0_6 (c : Dev nD) (t : Fin cfg0.N) : (dat0 V c).after 6 t = blkO (inp0 V c 0 t) (inp0 V c 1 t) (inp0 V c 2 t) (inp0 V c 3 t) (inp0 V c 4 t) (inp0 V c 5 t) (ini0 V c t) := by dsimp only [dat0]
theorem after0_7 (c : Dev nD) (t : Fin cfg0.N) : (dat0 V c).after 7 t = blkT (inp0 V c 0 t) (inp0 V c 1 t) (inp0 V c 3 t) (inp0 V c 5 t) (ini0 V c t) := by dsimp only [dat0]

theorem before0_0 (c : Dev nD) (t : Fin cfg0.N) (d) : (dat0 V c).before 0 t d = inp0 V c 0 t :=
  ((dat0 V c).before_in_eq_fetched 0 rfl (fun _ => rfl) (fun _ _ _ => rfl) (fun t => by rw [after0_0]; unfold Dat.blockOf inp0; rw [dat0_A]; try rfl) t d).trans
    (by unfold Dat.fetched Dat.blockOf inp0; rw [dat0_A]; try rfl)
theorem before0_1 (c : Dev nD) (t : Fin cfg0.N) (d) : (dat0 V c).before 1 t d = inp0 V c 1 t :=
  ((dat0 V c).before_in_eq_fetched 1 rfl (fun _ => rfl) (fun _ _ _ => rfl) (fun t => by rw [after0_1]; unfold Dat.blockOf inp0; rw [dat0_A]; try rfl) t d).trans
    (by unfold Dat.fetched Dat.blockOf inp0; rw [dat0_A]; try rfl)
theorem before0_2 (c : Dev nD) (t : Fin cfg0.N) (d) : (dat0 V c).before 2 t d = inp0 V c 2 t :=
  ((dat0 V c).before_in_eq_fetched 2 rfl (fun _ => rfl) (fun _ _ _ => rfl) (fun t => by rw [after0_2]; unfold Dat.blockOf inp0; rw [dat0_A]; try rfl) t d).trans
    (by unfold Dat.fetched Dat.blockOf inp0; rw [dat0_A]; try rfl)
theorem before0_3 (c : Dev nD) (t : Fin cfg0.N) (d) : (dat0 V c).before 3 t d = inp0 V c 3 t :=
  ((dat0 V c).before_in_eq_fetched 3 rfl (fun _ => rfl) (fun _ _ _ => rfl) (fun t => by rw [after0_3]; unfold Dat.blockOf inp0; rw [dat0_A]; try rfl) t d).trans
    (by unfold Dat.fetched Dat.blockOf inp0; rw [dat0_A]; try rfl)
theorem before0_4 (c : Dev nD) (t : Fin cfg0.N) (d) : (dat0 V c).before 4 t d = inp0 V c 4 t :=
  ((dat0 V c).before_in_eq_fetched 4 rfl (fun _ => rfl) (fun _ _ _ => rfl) (fun t => by rw [after0_4]; unfold Dat.blockOf inp0; rw [dat0_A]; try rfl) t d).trans
    (by unfold Dat.fetched Dat.blockOf inp0; rw [dat0_A]; try rfl)
theorem before0_5 (c : Dev nD) (t : Fin cfg0.N) (d) : (dat0 V c).before 5 t d = inp0 V c 5 t :=
  ((dat0 V c).before_in_eq_fetched 5 rfl (fun _ => rfl) (fun _ _ _ => rfl) (fun t => by rw [after0_5]; unfold Dat.blockOf inp0; rw [dat0_A]; try rfl) t d).trans
    (by unfold Dat.fetched Dat.blockOf inp0; rw [dat0_A]; try rfl)

/-- What the body is called with at point `t`, -/
def pre0 (c : Dev nD) (t : Fin cfg0.N) : sProp 𝕄 :=
  iprop((dat0 V c).Φ t.castSucc ∗ (dat0 V c).owesAt () t.castSucc ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d)) ∗ (∃ d, owns (c : Thread nD τ) (st0_6 t) fullShare ((dat0 V c).before 6 t d)) ∗ (∃ d, owns (c : Thread nD τ) (st0_7 t) fullShare ((dat0 V c).before 7 t d)))

/-- and what it returns. -/
def post0 (c : Dev nD) (t : Fin cfg0.N) : sProp 𝕄 :=
  iprop((dat0 V c).Φ t.succ ∗ (dat0 V c).owesAt () t.succ ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t) ∗ owns (c : Thread nD τ) (st0_3 t) fullShare ((dat0 V c).after 3 t) ∗ owns (c : Thread nD τ) (st0_4 t) fullShare ((dat0 V c).after 4 t) ∗ owns (c : Thread nD τ) (st0_5 t) fullShare ((dat0 V c).after 5 t) ∗ owns (c : Thread nD τ) (st0_6 t) fullShare ((dat0 V c).after 6 t) ∗ owns (c : Thread nD τ) (st0_7 t) fullShare ((dat0 V c).after 7 t))

/-- The body at any point. -/
theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5]
  rw [show (dat0 V c).Φ t.succ = Phi0 V c (t.val + 1) from rfl, Phi0_pos V c (Nat.succ_ne_zero _), car0_succ,
    show (dat0 V c).Φ t.castSucc = Phi0 V c t.val from rfl,
    show (dat0 V c).owesAt () t.succ = (dat0 V c).owesAt () t.castSucc from rfl,
    after0_0, after0_1, after0_2, after0_3, after0_4, after0_5, after0_6, after0_7]
  by_cases h0 : t.val % 4 = 0
  · rw [show ini0 V c t = entry zeroC from start0_first h0 _]
    by_cases hz : t.val = 0
    · rw [Phi0_zero V c hz, PhiA0_eq]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body0_first c (grid0.coords t) _ _ _ _ _ _ _ _ _ _ _ _ _ _ _ _ _ _ ((first0_iff t).mpr h0) (inp0 V c 0 t) (inp0 V c 1 t) (inp0 V c 2 t) (inp0 V c 3 t) (inp0 V c 4 t) (inp0 V c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Phi0_pos V c hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body0_first c (grid0.coords t) _ _ _ _ _ _ _ _ _ _ _ _ _ _ _ _ _ _ ((first0_iff t).mpr h0) (inp0 V c 0 t) (inp0 V c 1 t) (inp0 V c 2 t) (inp0 V c 3 t) (inp0 V c 4 t) (inp0 V c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexists _; iexact HS
      iintro ⟨H0, H1, H2, H3, H4, H5, H6, H7, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · rw [show ini0 V c t = entry (car0 V c t.val) from start0_later h0 _]
    rw [Phi0_pos V c (fun h => h0 (by rw [h]))]
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body0_later c (grid0.coords t) _ _ _ _ _ _ _ _ _ _ _ _ _ _ _ _ _ _ (fun h => h0 ((first0_iff t).mp h)) (inp0 V c 0 t) (inp0 V c 1 t) (inp0 V c 2 t) (inp0 V c 3 t) (inp0 V c 4 t) (inp0 V c 5 t) (car0 V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row0 (t : Fin cfg0.N) :
    defs₀ (F := F) .tc cfg0.body (cfg0.bodyArgs t (cfg0.slots t)) = bodyAt0 t := by
  unfold defs₀; rw [Defs.onTc_tc]

theorem obligation0 (c : Dev nD) : BodyObligation (dat0 (F := F) V c) (defs₀ (F := F)) Variants.none () Set.univ := fun t => by
  rw [bigSep_W0, bigSep_W0, row0]
  exact triple_restated (point0 V c t) rfl .rfl fun _ => .rfl

end Cert.KernelIdeal.Scan

end
-- ==== Proof.BwdLoop.lean ====
/- One trip of the backward recurrence's loop, and the loop: trip `k` takes chunk `7 - k` of each of the six heads with the state saved
   before it and the cotangent of the state after it, stores the cotangents of the chunk's operands, and hands on the cotangent of
   the state before it. -/
module

public import proofs.«01_k».proof.Proof.FwdLoop

@[expose] public section

set_option maxRecDepth 16384

noncomputable section

namespace Cert.KernelIdeal.Scan

open Idealize.ShloMosaic Idealize.ShloMosaic.TcCoe Idealize.ShloMosaic.Tactic
open Cert.KernelIdeal.Gen

variable {F : FTy → Type} [FloatOps F]

/-- The cotangent of the chunk's `u`, which is that of its new values: through the keys from the cotangent `d` of the state, and
    through the chunk's matrix from that of its output rows. -/
def gU (d : FVec F S128x128 .f32) (kd : Vec F S64x128 .f32) (a : Vec F S1x64x64 .f32) (o : Vec F S64x128 .f32) : FVec F S64x128 .f32 :=
  k1_pay23 (k1_pay12 a) o (k1_pay17 d kd)

/-- The cotangent of the chunk's `w`. -/
def gW (d : FVec F S128x128 .f32) (kd : Vec F S64x128 .f32) (a : Vec F S1x64x64 .f32) (t : Vec F S1x1x1x128x128 .bf16) (o : Vec F S64x128 .f32) : FVec F S64x128 .f32 :=
  k1_pay28 (k1_pay8 t) (k1_pay12 a) o (k1_pay17 d kd)

/-- The cotangent of the chunk's queries. -/
def gQ (t : Vec F S1x1x1x128x128 .bf16) (o : Vec F S64x128 .f32) : FVec F S64x128 .f32 := k1_pay25 (k1_pay11 t) o

/-- The cotangent of the chunk's keys. -/
def gK (d : FVec F S128x128 .f32) (u w : Vec F S64x128 .f32) (t : Vec F S1x1x1x128x128 .bf16) : FVec F S64x128 .f32 := k1_pay19 (k1_pay18 d u w t)

/-- The cotangent of the chunk's matrix. -/
def gA (u w : Vec F S64x128 .f32) (t : Vec F S1x1x1x128x128 .bf16) (o : Vec F S64x128 .f32) : FVec F S1x64x64 .f32 := k1_pay29 (k1_pay24 (k1_pay13 u w t) o)

/-- The cotangent of the chunk's cumulative decays: nothing but in the last row. -/
def gG (d : FVec F S128x128 .f32) (g : Vec F S64x128 .f32) (t : Vec F S1x1x1x128x128 .bf16) : FVec F S64x128 .f32 :=
  k1_pay30 k1_pay149 (k1_pay20 (k1_pay6 t) (k1_pay14 g) (k1_pay15 d))

/-- The cotangent of the state before the chunk. -/
def gS (d : FVec F S128x128 .f32) (w qd kd : Vec F S64x128 .f32) (a : Vec F S1x64x64 .f32) (g o : Vec F S64x128 .f32) : FVec F S128x128 .f32 :=
  k1_pay27 (k1_pay7 w) (k1_pay10 qd) (k1_pay12 a) (k1_pay14 g) o (k1_pay15 d) (k1_pay17 d kd)

/-- The cotangent of the state after `n` chunks taken in the order `0, 1, …` of the operands given, from `d`. -/
def back (w qd kd : ℕ → Vec F S64x128 .f32) (a : ℕ → Vec F S1x64x64 .f32) (g o : ℕ → Vec F S64x128 .f32) (d : FVec F S128x128 .f32) : ℕ → FVec F S128x128 .f32
  | 0 => d
  | n + 1 => gS (back w qd kd a g o d n) (w n) (qd n) (kd n) (a n) (g n) (o n)

/-- `m + k` chunks are `k` more after the first `m`. -/
theorem back_add (w qd kd : ℕ → Vec F S64x128 .f32) (a : ℕ → Vec F S1x64x64 .f32) (g o : ℕ → Vec F S64x128 .f32) (d : FVec F S128x128 .f32) (m k : ℕ) :
    back w qd kd a g o d (m + k)
      = back (fun i => w (m + i)) (fun i => qd (m + i)) (fun i => kd (m + i)) (fun i => a (m + i)) (fun i => g (m + i)) (fun i => o (m + i)) (back w qd kd a g o d m) k := by
  induction k with
  | zero => rfl
  | succ k ih => exact congrArg (fun z => gS z (w (m + k)) (qd (m + k)) (kd (m + k)) (a (m + k)) (g (m + k)) (o (m + k))) ih

section Block
variable (x0 x1 x2 x3 : Vec F S512x768 .f32) (x4 : Vec F S6x512x64 .f32) (x5 : Vec F S512x768 .f32) (x6 : Vec F S1x6x8x128x128 .bf16) (x7 : Vec F S512x768 .f32) (d0 : ℕ → FVec F S128x128 .f32)

/-- The cotangent of head `h`'s state before trip `k` of a block of 512 rows entered (from its end) at `d0`. -/
def blkD (h k : ℕ) : FVec F S128x128 .f32 :=
  back (fun i => cut x1 (7 - i) h) (fun i => cut x2 (7 - i) h) (fun i => cut x3 (7 - i) h) (fun i => cutA x4 (7 - i) h) (fun i => cut x5 (7 - i) h) (fun i => cut x7 (7 - i) h) (d0 h) k

/-- The cotangents the block stores, of `u`. -/
def blkU : Vec F S512x768 .f32 := wide fun c h => gU (blkD x1 x2 x3 x4 x5 x7 d0 h (7 - c)) (cut x3 c h) (cutA x4 c h) (cut x7 c h)

/-- of `w`. -/
def blkW : Vec F S512x768 .f32 := wide fun c h => gW (blkD x1 x2 x3 x4 x5 x7 d0 h (7 - c)) (cut x3 c h) (cutA x4 c h) (cutT x6 c h) (cut x7 c h)

/-- of the queries. -/
def blkQ : Vec F S512x768 .f32 := wide fun c h => gQ (cutT x6 c h) (cut x7 c h)

/-- of the keys. -/
def blkK : Vec F S512x768 .f32 := wide fun c h => gK (blkD x1 x2 x3 x4 x5 x7 d0 h (7 - c)) (cut x0 c h) (cut x1 c h) (cutT x6 c h)

/-- of the chunks' matrices. -/
def blkA : Vec F S6x512x64 .f32 := wideA fun c h => gA (cut x0 c h) (cut x1 c h) (cutT x6 c h) (cut x7 c h)

/-- of the cumulative decays. -/
def blkG : Vec F S512x768 .f32 := wide fun c h => gG (blkD x1 x2 x3 x4 x5 x7 d0 h (7 - c)) (cut x5 c h) (cutT x6 c h)

end Block

/-- Before trip `k`: the six cotangents carried, and stores that agree with the block's cotangents and cover the last `k` chunks. -/
def BackInv (x0 x1 x2 x3 : Vec F S512x768 .f32) (x4 : Vec F S6x512x64 .f32) (x5 : Vec F S512x768 .f32) (x6 : Vec F S1x6x8x128x128 .bf16) (x7 : Vec F S512x768 .f32) (d0 : ℕ → FVec F S128x128 .f32) (S : (FVec F S128x128 .f32 × FVec F S128x128 .f32 × FVec F S128x128 .f32 × FVec F S128x128 .f32 × FVec F S128x128 .f32 × FVec F S128x128 .f32) × List (View.Piece (Elt F) S512x768 .f32) × List (View.Piece (Elt F) S512x768 .f32) × List (View.Piece (Elt F) S512x768 .f32) × List (View.Piece (Elt F) S512x768 .f32) × List (View.Piece (Elt F) S6x512x64 .f32) × List (View.Piece (Elt F) S512x768 .f32)) (k : ℕ) : Prop :=
  S.1 = (six fun h => blkD x1 x2 x3 x4 x5 x7 d0 h k)
    ∧ (Fits S.2.1 (blkU x1 x2 x3 x4 x5 x7 d0) ∧ ∀ y : S512x768.Idx, 7 - (y 0).val / 64 < k → Covers S.2.1 y)
    ∧ (Fits S.2.2.1 (blkW x1 x2 x3 x4 x5 x6 x7 d0) ∧ ∀ y : S512x768.Idx, 7 - (y 0).val / 64 < k → Covers S.2.2.1 y)
    ∧ (Fits S.2.2.2.1 (blkQ x6 x7) ∧ ∀ y : S512x768.Idx, 7 - (y 0).val / 64 < k → Covers S.2.2.2.1 y)
    ∧ (Fits S.2.2.2.2.1 (blkK x0 x1 x2 x3 x4 x5 x6 x7 d0) ∧ ∀ y : S512x768.Idx, 7 - (y 0).val / 64 < k → Covers S.2.2.2.2.1 y)
    ∧ (Fits S.2.2.2.2.2.1 (blkA x0 x1 x6 x7) ∧ ∀ y : S6x512x64.Idx, 7 - (y 1).val / 64 < k → Covers S.2.2.2.2.2.1 y)
    ∧ (Fits S.2.2.2.2.2.2 (blkG x1 x2 x3 x4 x5 x6 x7 d0) ∧ ∀ y : S512x768.Idx, 7 - (y 0).val / 64 < k → Covers S.2.2.2.2.2.2 y)

theorem BackInv.step {x0 x1 x2 x3 : Vec F S512x768 .f32} {x4 : Vec F S6x512x64 .f32} {x5 : Vec F S512x768 .f32} {x6 : Vec F S1x6x8x128x128 .bf16} {x7 : Vec F S512x768 .f32} {d0 : ℕ → FVec F S128x128 .f32} {S : (FVec F S128x128 .f32 × FVec F S128x128 .f32 × FVec F S128x128 .f32 × FVec F S128x128 .f32 × FVec F S128x128 .f32 × FVec F S128x128 .f32) × List (View.Piece (Elt F) S512x768 .f32) × List (View.Piece (Elt F) S512x768 .f32) × List (View.Piece (Elt F) S512x768 .f32) × List (View.Piece (Elt F) S512x768 .f32) × List (View.Piece (Elt F) S6x512x64 .f32) × List (View.Piece (Elt F) S512x768 .f32)} {k : ℕ}
    (h : BackInv x0 x1 x2 x3 x4 x5 x6 x7 d0 S k) (hk : k < 8) (P : (FVec F S128x128 .f32 × FVec F S128x128 .f32 × FVec F S128x128 .f32 × FVec F S128x128 .f32 × FVec F S128x128 .f32 × FVec F S128x128 .f32)) (hP : P = six fun h => blkD x1 x2 x3 x4 x5 x7 d0 h (k + 1))
    {L0 : List (View.Piece (Elt F) S512x768 .f32)} (r0 : (Fits L0 (blkU x1 x2 x3 x4 x5 x7 d0) ∧ ∀ y : S512x768.Idx, (y 0).val / 64 = 7 - k → Covers L0 y))
    {L1 : List (View.Piece (Elt F) S512x768 .f32)} (r1 : (Fits L1 (blkW x1 x2 x3 x4 x5 x6 x7 d0) ∧ ∀ y : S512x768.Idx, (y 0).val / 64 = 7 - k → Covers L1 y))
    {L2 : List (View.Piece (Elt F) S512x768 .f32)} (r2 : (Fits L2 (blkQ x6 x7) ∧ ∀ y : S512x768.Idx, (y 0).val / 64 = 7 - k → Covers L2 y))
    {L3 : List (View.Piece (Elt F) S512x768 .f32)} (r3 : (Fits L3 (blkK x0 x1 x2 x3 x4 x5 x6 x7 d0) ∧ ∀ y : S512x768.Idx, (y 0).val / 64 = 7 - k → Covers L3 y))
    {L4 : List (View.Piece (Elt F) S6x512x64 .f32)} (r4 : (Fits L4 (blkA x0 x1 x6 x7) ∧ ∀ y : S6x512x64.Idx, (y 1).val / 64 = 7 - k → Covers L4 y))
    {L5 : List (View.Piece (Elt F) S512x768 .f32)} (r5 : (Fits L5 (blkG x1 x2 x3 x4 x5 x6 x7 d0) ∧ ∀ y : S512x768.Idx, (y 0).val / 64 = 7 - k → Covers L5 y)) :
    BackInv x0 x1 x2 x3 x4 x5 x6 x7 d0 (P, L0 ++ S.2.1, L1 ++ S.2.2.1, L2 ++ S.2.2.2.1, L3 ++ S.2.2.2.2.1, L4 ++ S.2.2.2.2.2.1, L5 ++ S.2.2.2.2.2.2) (k + 1) := by
  obtain ⟨e, ⟨f0, c0⟩, ⟨f1, c1⟩, ⟨f2, c2⟩, ⟨f3, c3⟩, ⟨f4, c4⟩, ⟨f5, c5⟩⟩ := h
  refine ⟨hP, ⟨r0.1.append f0, fun y hy => ?_⟩, ⟨r1.1.append f1, fun y hy => ?_⟩, ⟨r2.1.append f2, fun y hy => ?_⟩, ⟨r3.1.append f3, fun y hy => ?_⟩, ⟨r4.1.append f4, fun y hy => ?_⟩, ⟨r5.1.append f5, fun y hy => ?_⟩⟩
  · have y0 : (y 0).val < 512 := (y 0).isLt
    by_cases h : 7 - (y 0).val / 64 < k
    · exact (c0 y h).append_right
    · exact (r0.2 y (show (y 0).val / 64 = 7 - k by omega)).append_left
  · have y0 : (y 0).val < 512 := (y 0).isLt
    by_cases h : 7 - (y 0).val / 64 < k
    · exact (c1 y h).append_right
    · exact (r1.2 y (show (y 0).val / 64 = 7 - k by omega)).append_left
  · have y0 : (y 0).val < 512 := (y 0).isLt
    by_cases h : 7 - (y 0).val / 64 < k
    · exact (c2 y h).append_right
    · exact (r2.2 y (show (y 0).val / 64 = 7 - k by omega)).append_left
  · have y0 : (y 0).val < 512 := (y 0).isLt
    by_cases h : 7 - (y 0).val / 64 < k
    · exact (c3 y h).append_right
    · exact (r3.2 y (show (y 0).val / 64 = 7 - k by omega)).append_left
  · have y0 : (y 1).val < 512 := (y 1).isLt
    by_cases h : 7 - (y 1).val / 64 < k
    · exact (c4 y h).append_right
    · exact (r4.2 y (show (y 1).val / 64 = 7 - k by omega)).append_left
  · have y0 : (y 0).val < 512 := (y 0).isLt
    by_cases h : 7 - (y 0).val / 64 < k
    · exact (c5 y h).append_right
    · exact (r5.2 y (show (y 0).val / 64 = 7 - k by omega)).append_left

section Trip
variable (𝒱 : Variants) (c : Dev nD) (bd : Option 𝒱.V) (i : grid1.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S512x768 .f32) (harg6 : arg6.IsWhole) (arg7 : Memref sig .tc .vmem S6x512x64 .f32) (harg7 : arg7.IsWhole) (arg8 : Memref sig .tc .vmem S512x768 .f32) (harg8 : arg8.IsWhole) (arg9 : Memref sig .tc .vmem S1x6x8x128x128 .bf16) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S6x512x64 .f32) (harg15 : arg15.IsWhole) (arg16 : Memref sig .tc .vmem S512x768 .f32) (harg16 : arg16.IsWhole) (arg17 : Memref sig .tc .vmem S6x128x128 .f32) (harg17 : arg17.IsWhole)
  (x0 x1 x2 x3 : Vec F S512x768 .f32) (x4 : Vec F S6x512x64 .f32) (x5 : Vec F S512x768 .f32) (x6 : Vec F S1x6x8x128x128 .bf16) (x7 : Vec F S512x768 .f32)

/-- Trip `k` takes chunk `7 - k`. -/
theorem back_off (k : Fin k1_t1_loop.trips) (f : ℕ → Fin 2 → ℕ) : f (448 - 64 * k.val) = f (64 * (7 - k.val)) :=
  congrArg f (show 448 - 64 * k.val = 64 * (7 - k.val) by omega)

theorem back_offA (k : Fin k1_t1_loop.trips) (f : ℕ → Fin 3 → ℕ) : f (448 - 64 * k.val) = f (64 * (7 - k.val)) :=
  congrArg f (show 448 - 64 * k.val = 64 * (7 - k.val) by omega)

/-- What a trip yields: the cotangent of each head's state before the chunk. -/
theorem back_state (k : Fin k1_t1_loop.trips) (s : ℕ → FVec F S128x128 .f32) :
    tripR_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)
      = six fun h => gS (s h) (cut x1 (7 - k.val) h) (cut x2 (7 - k.val) h) (cut x3 (7 - k.val) h) (cutA x4 (7 - k.val) h) (cut x5 (7 - k.val) h) (cut x7 (7 - k.val) h) := by
  have w0 := read_cut (F := F) harg4 x1 (7 - k.val) 0 (k1_off1_inb k) ((k1_off1_eq k).trans (back_off k fun n => ![n, 128 * 0]))
  have q0 := read_cut (F := F) harg5 x2 (7 - k.val) 0 (k1_off1_inb k) ((k1_off1_eq k).trans (back_off k fun n => ![n, 128 * 0]))
  have k0 := read_cut (F := F) harg6 x3 (7 - k.val) 0 (k1_off1_inb k) ((k1_off1_eq k).trans (back_off k fun n => ![n, 128 * 0]))
  have a0 := read_cutA (F := F) harg7 x4 (7 - k.val) 0 (k1_off2_inb k) ((k1_off2_eq k).trans (back_offA k fun n => ![0, n, 0]))
  have g0 := read_cut (F := F) harg8 x5 (7 - k.val) 0 (k1_off1_inb k) ((k1_off1_eq k).trans (back_off k fun n => ![n, 128 * 0]))
  have o0 := read_cut (F := F) harg10 x7 (7 - k.val) 0 (k1_off1_inb k) ((k1_off1_eq k).trans (back_off k fun n => ![n, 128 * 0]))
  have w1 := read_cut (F := F) harg4 x1 (7 - k.val) 1 (k1_off4_inb k) ((k1_off4_eq k).trans (back_off k fun n => ![n, 128 * 1]))
  have q1 := read_cut (F := F) harg5 x2 (7 - k.val) 1 (k1_off4_inb k) ((k1_off4_eq k).trans (back_off k fun n => ![n, 128 * 1]))
  have k1 := read_cut (F := F) harg6 x3 (7 - k.val) 1 (k1_off4_inb k) ((k1_off4_eq k).trans (back_off k fun n => ![n, 128 * 1]))
  have a1 := read_cutA (F := F) harg7 x4 (7 - k.val) 1 (k1_off5_inb k) ((k1_off5_eq k).trans (back_offA k fun n => ![1, n, 0]))
  have g1 := read_cut (F := F) harg8 x5 (7 - k.val) 1 (k1_off4_inb k) ((k1_off4_eq k).trans (back_off k fun n => ![n, 128 * 1]))
  have o1 := read_cut (F := F) harg10 x7 (7 - k.val) 1 (k1_off4_inb k) ((k1_off4_eq k).trans (back_off k fun n => ![n, 128 * 1]))
  have w2 := read_cut (F := F) harg4 x1 (7 - k.val) 2 (k1_off7_inb k) ((k1_off7_eq k).trans (back_off k fun n => ![n, 128 * 2]))
  have q2 := read_cut (F := F) harg5 x2 (7 - k.val) 2 (k1_off7_inb k) ((k1_off7_eq k).trans (back_off k fun n => ![n, 128 * 2]))
  have k2 := read_cut (F := F) harg6 x3 (7 - k.val) 2 (k1_off7_inb k) ((k1_off7_eq k).trans (back_off k fun n => ![n, 128 * 2]))
  have a2 := read_cutA (F := F) harg7 x4 (7 - k.val) 2 (k1_off8_inb k) ((k1_off8_eq k).trans (back_offA k fun n => ![2, n, 0]))
  have g2 := read_cut (F := F) harg8 x5 (7 - k.val) 2 (k1_off7_inb k) ((k1_off7_eq k).trans (back_off k fun n => ![n, 128 * 2]))
  have o2 := read_cut (F := F) harg10 x7 (7 - k.val) 2 (k1_off7_inb k) ((k1_off7_eq k).trans (back_off k fun n => ![n, 128 * 2]))
  have w3 := read_cut (F := F) harg4 x1 (7 - k.val) 3 (k1_off10_inb k) ((k1_off10_eq k).trans (back_off k fun n => ![n, 128 * 3]))
  have q3 := read_cut (F := F) harg5 x2 (7 - k.val) 3 (k1_off10_inb k) ((k1_off10_eq k).trans (back_off k fun n => ![n, 128 * 3]))
  have k3 := read_cut (F := F) harg6 x3 (7 - k.val) 3 (k1_off10_inb k) ((k1_off10_eq k).trans (back_off k fun n => ![n, 128 * 3]))
  have a3 := read_cutA (F := F) harg7 x4 (7 - k.val) 3 (k1_off11_inb k) ((k1_off11_eq k).trans (back_offA k fun n => ![3, n, 0]))
  have g3 := read_cut (F := F) harg8 x5 (7 - k.val) 3 (k1_off10_inb k) ((k1_off10_eq k).trans (back_off k fun n => ![n, 128 * 3]))
  have o3 := read_cut (F := F) harg10 x7 (7 - k.val) 3 (k1_off10_inb k) ((k1_off10_eq k).trans (back_off k fun n => ![n, 128 * 3]))
  have w4 := read_cut (F := F) harg4 x1 (7 - k.val) 4 (k1_off13_inb k) ((k1_off13_eq k).trans (back_off k fun n => ![n, 128 * 4]))
  have q4 := read_cut (F := F) harg5 x2 (7 - k.val) 4 (k1_off13_inb k) ((k1_off13_eq k).trans (back_off k fun n => ![n, 128 * 4]))
  have k4 := read_cut (F := F) harg6 x3 (7 - k.val) 4 (k1_off13_inb k) ((k1_off13_eq k).trans (back_off k fun n => ![n, 128 * 4]))
  have a4 := read_cutA (F := F) harg7 x4 (7 - k.val) 4 (k1_off14_inb k) ((k1_off14_eq k).trans (back_offA k fun n => ![4, n, 0]))
  have g4 := read_cut (F := F) harg8 x5 (7 - k.val) 4 (k1_off13_inb k) ((k1_off13_eq k).trans (back_off k fun n => ![n, 128 * 4]))
  have o4 := read_cut (F := F) harg10 x7 (7 - k.val) 4 (k1_off13_inb k) ((k1_off13_eq k).trans (back_off k fun n => ![n, 128 * 4]))
  have w5 := read_cut (F := F) harg4 x1 (7 - k.val) 5 (k1_off16_inb k) ((k1_off16_eq k).trans (back_off k fun n => ![n, 128 * 5]))
  have q5 := read_cut (F := F) harg5 x2 (7 - k.val) 5 (k1_off16_inb k) ((k1_off16_eq k).trans (back_off k fun n => ![n, 128 * 5]))
  have k5 := read_cut (F := F) harg6 x3 (7 - k.val) 5 (k1_off16_inb k) ((k1_off16_eq k).trans (back_off k fun n => ![n, 128 * 5]))
  have a5 := read_cutA (F := F) harg7 x4 (7 - k.val) 5 (k1_off17_inb k) ((k1_off17_eq k).trans (back_offA k fun n => ![5, n, 0]))
  have g5 := read_cut (F := F) harg8 x5 (7 - k.val) 5 (k1_off16_inb k) ((k1_off16_eq k).trans (back_off k fun n => ![n, 128 * 5]))
  have o5 := read_cut (F := F) harg10 x7 (7 - k.val) 5 (k1_off16_inb k) ((k1_off16_eq k).trans (back_off k fun n => ![n, 128 * 5]))
  unfold tripR_k1_t1 trip_k1_t1
  simp only [six, ← w0, ← w1, ← w2, ← w3, ← w4, ← w5, ← q0, ← q1, ← q2, ← q3, ← q4, ← q5, ← k0, ← k1, ← k2, ← k3, ← k4, ← k5, ← a0, ← a1, ← a2, ← a3, ← a4, ← a5, ← g0, ← g1, ← g2, ← g3, ← g4, ← g5, ← o0, ← o1, ← o2, ← o3, ← o4, ← o5]
  rfl

theorem back_u (k : Fin k1_t1_loop.trips) (s : ℕ → FVec F S128x128 .f32) (G : Vec F S512x768 .f32)
    (hG : ∀ h, ∀ (off : Fin 2 → ℕ) (inb : ∀ a, off a + (![64, 128] : Fin 2 → ℕ) a ≤ S512x768.size a), off = ![64 * (7 - k.val), 128 * h] → ∀ x, gU (s h) (cut x3 (7 - k.val) h) (cutA x4 (7 - k.val) h) (cut x7 (7 - k.val) h) x = G ((Rect.unit (s := S512x768) off ![64, 128] inb).emb x)) :
    Fits (tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)).1 G
      ∧ ∀ y : S512x768.Idx, (y 0).val / 64 = 7 - k.val → Covers (tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)).1 y := by
  have k0 := read_cut (F := F) harg6 x3 (7 - k.val) 0 (k1_off1_inb k) ((k1_off1_eq k).trans (back_off k fun n => ![n, 128 * 0]))
  have a0 := read_cutA (F := F) harg7 x4 (7 - k.val) 0 (k1_off2_inb k) ((k1_off2_eq k).trans (back_offA k fun n => ![0, n, 0]))
  have o0 := read_cut (F := F) harg10 x7 (7 - k.val) 0 (k1_off1_inb k) ((k1_off1_eq k).trans (back_off k fun n => ![n, 128 * 0]))
  have k1 := read_cut (F := F) harg6 x3 (7 - k.val) 1 (k1_off4_inb k) ((k1_off4_eq k).trans (back_off k fun n => ![n, 128 * 1]))
  have a1 := read_cutA (F := F) harg7 x4 (7 - k.val) 1 (k1_off5_inb k) ((k1_off5_eq k).trans (back_offA k fun n => ![1, n, 0]))
  have o1 := read_cut (F := F) harg10 x7 (7 - k.val) 1 (k1_off4_inb k) ((k1_off4_eq k).trans (back_off k fun n => ![n, 128 * 1]))
  have k2 := read_cut (F := F) harg6 x3 (7 - k.val) 2 (k1_off7_inb k) ((k1_off7_eq k).trans (back_off k fun n => ![n, 128 * 2]))
  have a2 := read_cutA (F := F) harg7 x4 (7 - k.val) 2 (k1_off8_inb k) ((k1_off8_eq k).trans (back_offA k fun n => ![2, n, 0]))
  have o2 := read_cut (F := F) harg10 x7 (7 - k.val) 2 (k1_off7_inb k) ((k1_off7_eq k).trans (back_off k fun n => ![n, 128 * 2]))
  have k3 := read_cut (F := F) harg6 x3 (7 - k.val) 3 (k1_off10_inb k) ((k1_off10_eq k).trans (back_off k fun n => ![n, 128 * 3]))
  have a3 := read_cutA (F := F) harg7 x4 (7 - k.val) 3 (k1_off11_inb k) ((k1_off11_eq k).trans (back_offA k fun n => ![3, n, 0]))
  have o3 := read_cut (F := F) harg10 x7 (7 - k.val) 3 (k1_off10_inb k) ((k1_off10_eq k).trans (back_off k fun n => ![n, 128 * 3]))
  have k4 := read_cut (F := F) harg6 x3 (7 - k.val) 4 (k1_off13_inb k) ((k1_off13_eq k).trans (back_off k fun n => ![n, 128 * 4]))
  have a4 := read_cutA (F := F) harg7 x4 (7 - k.val) 4 (k1_off14_inb k) ((k1_off14_eq k).trans (back_offA k fun n => ![4, n, 0]))
  have o4 := read_cut (F := F) harg10 x7 (7 - k.val) 4 (k1_off13_inb k) ((k1_off13_eq k).trans (back_off k fun n => ![n, 128 * 4]))
  have k5 := read_cut (F := F) harg6 x3 (7 - k.val) 5 (k1_off16_inb k) ((k1_off16_eq k).trans (back_off k fun n => ![n, 128 * 5]))
  have a5 := read_cutA (F := F) harg7 x4 (7 - k.val) 5 (k1_off17_inb k) ((k1_off17_eq k).trans (back_offA k fun n => ![5, n, 0]))
  have o5 := read_cut (F := F) harg10 x7 (7 - k.val) 5 (k1_off16_inb k) ((k1_off16_eq k).trans (back_off k fun n => ![n, 128 * 5]))
  have G0 := hG 0 _ (k1_off1_inb k) ((k1_off1_eq k).trans (back_off k fun n => ![n, 128 * 0])); rw [← k0, ← a0, ← o0] at G0
  have G1 := hG 1 _ (k1_off4_inb k) ((k1_off4_eq k).trans (back_off k fun n => ![n, 128 * 1])); rw [← k1, ← a1, ← o1] at G1
  have G2 := hG 2 _ (k1_off7_inb k) ((k1_off7_eq k).trans (back_off k fun n => ![n, 128 * 2])); rw [← k2, ← a2, ← o2] at G2
  have G3 := hG 3 _ (k1_off10_inb k) ((k1_off10_eq k).trans (back_off k fun n => ![n, 128 * 3])); rw [← k3, ← a3, ← o3] at G3
  have G4 := hG 4 _ (k1_off13_inb k) ((k1_off13_eq k).trans (back_off k fun n => ![n, 128 * 4])); rw [← k4, ← a4, ← o4] at G4
  have G5 := hG 5 _ (k1_off16_inb k) ((k1_off16_eq k).trans (back_off k fun n => ![n, 128 * 5])); rw [← k5, ← a5, ← o5] at G5
  unfold tripL_k1_t1 trip_k1_t1
  dsimp only
  constructor
  · exact .cons G5 (.cons G4 (.cons G3 (.cons G2 (.cons G1 (.cons G0 (.nil _))))))
  · intro y hy
    have y1 : (y 1).val < 768 := (y 1).isLt
    have hc : (y 1).val / 128 = 0 ∨ (y 1).val / 128 = 1 ∨ (y 1).val / 128 = 2 ∨ (y 1).val / 128 = 3 ∨ (y 1).val / 128 = 4 ∨ (y 1).val / 128 = 5 := by omega
    rcases hc with hc | hc | hc | hc | hc | hc
    · exact (.tail (.tail (.tail (.tail (.tail (.head (mem_cut (7 - k.val) 0 (k1_off1_inb k) ((k1_off1_eq k).trans (back_off k fun n => ![n, 128 * 0])) y hy hc)))))))
    · exact (.tail (.tail (.tail (.tail (.head (mem_cut (7 - k.val) 1 (k1_off4_inb k) ((k1_off4_eq k).trans (back_off k fun n => ![n, 128 * 1])) y hy hc))))))
    · exact (.tail (.tail (.tail (.head (mem_cut (7 - k.val) 2 (k1_off7_inb k) ((k1_off7_eq k).trans (back_off k fun n => ![n, 128 * 2])) y hy hc)))))
    · exact (.tail (.tail (.head (mem_cut (7 - k.val) 3 (k1_off10_inb k) ((k1_off10_eq k).trans (back_off k fun n => ![n, 128 * 3])) y hy hc))))
    · exact (.tail (.head (mem_cut (7 - k.val) 4 (k1_off13_inb k) ((k1_off13_eq k).trans (back_off k fun n => ![n, 128 * 4])) y hy hc)))
    · exact (.head (mem_cut (7 - k.val) 5 (k1_off16_inb k) ((k1_off16_eq k).trans (back_off k fun n => ![n, 128 * 5])) y hy hc))

theorem back_w (k : Fin k1_t1_loop.trips) (s : ℕ → FVec F S128x128 .f32) (G : Vec F S512x768 .f32)
    (hG : ∀ h, ∀ (off : Fin 2 → ℕ) (inb : ∀ a, off a + (![64, 128] : Fin 2 → ℕ) a ≤ S512x768.size a), off = ![64 * (7 - k.val), 128 * h] → ∀ x, gW (s h) (cut x3 (7 - k.val) h) (cutA x4 (7 - k.val) h) (cutT x6 (7 - k.val) h) (cut x7 (7 - k.val) h) x = G ((Rect.unit (s := S512x768) off ![64, 128] inb).emb x)) :
    Fits (tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)).2.1 G
      ∧ ∀ y : S512x768.Idx, (y 0).val / 64 = 7 - k.val → Covers (tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)).2.1 y := by
  have k0 := read_cut (F := F) harg6 x3 (7 - k.val) 0 (k1_off1_inb k) ((k1_off1_eq k).trans (back_off k fun n => ![n, 128 * 0]))
  have a0 := read_cutA (F := F) harg7 x4 (7 - k.val) 0 (k1_off2_inb k) ((k1_off2_eq k).trans (back_offA k fun n => ![0, n, 0]))
  have t0 := read_cutT (F := F) harg9 x6 (7 - k.val) 0 (k1_off3_inb k) (k1_off3_eq k)
  have o0 := read_cut (F := F) harg10 x7 (7 - k.val) 0 (k1_off1_inb k) ((k1_off1_eq k).trans (back_off k fun n => ![n, 128 * 0]))
  have k1 := read_cut (F := F) harg6 x3 (7 - k.val) 1 (k1_off4_inb k) ((k1_off4_eq k).trans (back_off k fun n => ![n, 128 * 1]))
  have a1 := read_cutA (F := F) harg7 x4 (7 - k.val) 1 (k1_off5_inb k) ((k1_off5_eq k).trans (back_offA k fun n => ![1, n, 0]))
  have t1 := read_cutT (F := F) harg9 x6 (7 - k.val) 1 (k1_off6_inb k) (k1_off6_eq k)
  have o1 := read_cut (F := F) harg10 x7 (7 - k.val) 1 (k1_off4_inb k) ((k1_off4_eq k).trans (back_off k fun n => ![n, 128 * 1]))
  have k2 := read_cut (F := F) harg6 x3 (7 - k.val) 2 (k1_off7_inb k) ((k1_off7_eq k).trans (back_off k fun n => ![n, 128 * 2]))
  have a2 := read_cutA (F := F) harg7 x4 (7 - k.val) 2 (k1_off8_inb k) ((k1_off8_eq k).trans (back_offA k fun n => ![2, n, 0]))
  have t2 := read_cutT (F := F) harg9 x6 (7 - k.val) 2 (k1_off9_inb k) (k1_off9_eq k)
  have o2 := read_cut (F := F) harg10 x7 (7 - k.val) 2 (k1_off7_inb k) ((k1_off7_eq k).trans (back_off k fun n => ![n, 128 * 2]))
  have k3 := read_cut (F := F) harg6 x3 (7 - k.val) 3 (k1_off10_inb k) ((k1_off10_eq k).trans (back_off k fun n => ![n, 128 * 3]))
  have a3 := read_cutA (F := F) harg7 x4 (7 - k.val) 3 (k1_off11_inb k) ((k1_off11_eq k).trans (back_offA k fun n => ![3, n, 0]))
  have t3 := read_cutT (F := F) harg9 x6 (7 - k.val) 3 (k1_off12_inb k) (k1_off12_eq k)
  have o3 := read_cut (F := F) harg10 x7 (7 - k.val) 3 (k1_off10_inb k) ((k1_off10_eq k).trans (back_off k fun n => ![n, 128 * 3]))
  have k4 := read_cut (F := F) harg6 x3 (7 - k.val) 4 (k1_off13_inb k) ((k1_off13_eq k).trans (back_off k fun n => ![n, 128 * 4]))
  have a4 := read_cutA (F := F) harg7 x4 (7 - k.val) 4 (k1_off14_inb k) ((k1_off14_eq k).trans (back_offA k fun n => ![4, n, 0]))
  have t4 := read_cutT (F := F) harg9 x6 (7 - k.val) 4 (k1_off15_inb k) (k1_off15_eq k)
  have o4 := read_cut (F := F) harg10 x7 (7 - k.val) 4 (k1_off13_inb k) ((k1_off13_eq k).trans (back_off k fun n => ![n, 128 * 4]))
  have k5 := read_cut (F := F) harg6 x3 (7 - k.val) 5 (k1_off16_inb k) ((k1_off16_eq k).trans (back_off k fun n => ![n, 128 * 5]))
  have a5 := read_cutA (F := F) harg7 x4 (7 - k.val) 5 (k1_off17_inb k) ((k1_off17_eq k).trans (back_offA k fun n => ![5, n, 0]))
  have t5 := read_cutT (F := F) harg9 x6 (7 - k.val) 5 (k1_off18_inb k) (k1_off18_eq k)
  have o5 := read_cut (F := F) harg10 x7 (7 - k.val) 5 (k1_off16_inb k) ((k1_off16_eq k).trans (back_off k fun n => ![n, 128 * 5]))
  have G0 := hG 0 _ (k1_off1_inb k) ((k1_off1_eq k).trans (back_off k fun n => ![n, 128 * 0])); rw [← k0, ← a0, ← t0, ← o0] at G0
  have G1 := hG 1 _ (k1_off4_inb k) ((k1_off4_eq k).trans (back_off k fun n => ![n, 128 * 1])); rw [← k1, ← a1, ← t1, ← o1] at G1
  have G2 := hG 2 _ (k1_off7_inb k) ((k1_off7_eq k).trans (back_off k fun n => ![n, 128 * 2])); rw [← k2, ← a2, ← t2, ← o2] at G2
  have G3 := hG 3 _ (k1_off10_inb k) ((k1_off10_eq k).trans (back_off k fun n => ![n, 128 * 3])); rw [← k3, ← a3, ← t3, ← o3] at G3
  have G4 := hG 4 _ (k1_off13_inb k) ((k1_off13_eq k).trans (back_off k fun n => ![n, 128 * 4])); rw [← k4, ← a4, ← t4, ← o4] at G4
  have G5 := hG 5 _ (k1_off16_inb k) ((k1_off16_eq k).trans (back_off k fun n => ![n, 128 * 5])); rw [← k5, ← a5, ← t5, ← o5] at G5
  unfold tripL_k1_t1 trip_k1_t1
  dsimp only
  constructor
  · exact .cons G5 (.cons G4 (.cons G3 (.cons G2 (.cons G1 (.cons G0 (.nil _))))))
  · intro y hy
    have y1 : (y 1).val < 768 := (y 1).isLt
    have hc : (y 1).val / 128 = 0 ∨ (y 1).val / 128 = 1 ∨ (y 1).val / 128 = 2 ∨ (y 1).val / 128 = 3 ∨ (y 1).val / 128 = 4 ∨ (y 1).val / 128 = 5 := by omega
    rcases hc with hc | hc | hc | hc | hc | hc
    · exact (.tail (.tail (.tail (.tail (.tail (.head (mem_cut (7 - k.val) 0 (k1_off1_inb k) ((k1_off1_eq k).trans (back_off k fun n => ![n, 128 * 0])) y hy hc)))))))
    · exact (.tail (.tail (.tail (.tail (.head (mem_cut (7 - k.val) 1 (k1_off4_inb k) ((k1_off4_eq k).trans (back_off k fun n => ![n, 128 * 1])) y hy hc))))))
    · exact (.tail (.tail (.tail (.head (mem_cut (7 - k.val) 2 (k1_off7_inb k) ((k1_off7_eq k).trans (back_off k fun n => ![n, 128 * 2])) y hy hc)))))
    · exact (.tail (.tail (.head (mem_cut (7 - k.val) 3 (k1_off10_inb k) ((k1_off10_eq k).trans (back_off k fun n => ![n, 128 * 3])) y hy hc))))
    · exact (.tail (.head (mem_cut (7 - k.val) 4 (k1_off13_inb k) ((k1_off13_eq k).trans (back_off k fun n => ![n, 128 * 4])) y hy hc)))
    · exact (.head (mem_cut (7 - k.val) 5 (k1_off16_inb k) ((k1_off16_eq k).trans (back_off k fun n => ![n, 128 * 5])) y hy hc))

theorem back_q (k : Fin k1_t1_loop.trips) (s : ℕ → FVec F S128x128 .f32) (G : Vec F S512x768 .f32)
    (hG : ∀ h, ∀ (off : Fin 2 → ℕ) (inb : ∀ a, off a + (![64, 128] : Fin 2 → ℕ) a ≤ S512x768.size a), off = ![64 * (7 - k.val), 128 * h] → ∀ x, gQ (cutT x6 (7 - k.val) h) (cut x7 (7 - k.val) h) x = G ((Rect.unit (s := S512x768) off ![64, 128] inb).emb x)) :
    Fits (tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)).2.2.1 G
      ∧ ∀ y : S512x768.Idx, (y 0).val / 64 = 7 - k.val → Covers (tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)).2.2.1 y := by
  have t0 := read_cutT (F := F) harg9 x6 (7 - k.val) 0 (k1_off3_inb k) (k1_off3_eq k)
  have o0 := read_cut (F := F) harg10 x7 (7 - k.val) 0 (k1_off1_inb k) ((k1_off1_eq k).trans (back_off k fun n => ![n, 128 * 0]))
  have t1 := read_cutT (F := F) harg9 x6 (7 - k.val) 1 (k1_off6_inb k) (k1_off6_eq k)
  have o1 := read_cut (F := F) harg10 x7 (7 - k.val) 1 (k1_off4_inb k) ((k1_off4_eq k).trans (back_off k fun n => ![n, 128 * 1]))
  have t2 := read_cutT (F := F) harg9 x6 (7 - k.val) 2 (k1_off9_inb k) (k1_off9_eq k)
  have o2 := read_cut (F := F) harg10 x7 (7 - k.val) 2 (k1_off7_inb k) ((k1_off7_eq k).trans (back_off k fun n => ![n, 128 * 2]))
  have t3 := read_cutT (F := F) harg9 x6 (7 - k.val) 3 (k1_off12_inb k) (k1_off12_eq k)
  have o3 := read_cut (F := F) harg10 x7 (7 - k.val) 3 (k1_off10_inb k) ((k1_off10_eq k).trans (back_off k fun n => ![n, 128 * 3]))
  have t4 := read_cutT (F := F) harg9 x6 (7 - k.val) 4 (k1_off15_inb k) (k1_off15_eq k)
  have o4 := read_cut (F := F) harg10 x7 (7 - k.val) 4 (k1_off13_inb k) ((k1_off13_eq k).trans (back_off k fun n => ![n, 128 * 4]))
  have t5 := read_cutT (F := F) harg9 x6 (7 - k.val) 5 (k1_off18_inb k) (k1_off18_eq k)
  have o5 := read_cut (F := F) harg10 x7 (7 - k.val) 5 (k1_off16_inb k) ((k1_off16_eq k).trans (back_off k fun n => ![n, 128 * 5]))
  have G0 := hG 0 _ (k1_off1_inb k) ((k1_off1_eq k).trans (back_off k fun n => ![n, 128 * 0])); rw [← t0, ← o0] at G0
  have G1 := hG 1 _ (k1_off4_inb k) ((k1_off4_eq k).trans (back_off k fun n => ![n, 128 * 1])); rw [← t1, ← o1] at G1
  have G2 := hG 2 _ (k1_off7_inb k) ((k1_off7_eq k).trans (back_off k fun n => ![n, 128 * 2])); rw [← t2, ← o2] at G2
  have G3 := hG 3 _ (k1_off10_inb k) ((k1_off10_eq k).trans (back_off k fun n => ![n, 128 * 3])); rw [← t3, ← o3] at G3
  have G4 := hG 4 _ (k1_off13_inb k) ((k1_off13_eq k).trans (back_off k fun n => ![n, 128 * 4])); rw [← t4, ← o4] at G4
  have G5 := hG 5 _ (k1_off16_inb k) ((k1_off16_eq k).trans (back_off k fun n => ![n, 128 * 5])); rw [← t5, ← o5] at G5
  unfold tripL_k1_t1 trip_k1_t1
  dsimp only
  constructor
  · exact .cons G5 (.cons G4 (.cons G3 (.cons G2 (.cons G1 (.cons G0 (.nil _))))))
  · intro y hy
    have y1 : (y 1).val < 768 := (y 1).isLt
    have hc : (y 1).val / 128 = 0 ∨ (y 1).val / 128 = 1 ∨ (y 1).val / 128 = 2 ∨ (y 1).val / 128 = 3 ∨ (y 1).val / 128 = 4 ∨ (y 1).val / 128 = 5 := by omega
    rcases hc with hc | hc | hc | hc | hc | hc
    · exact (.tail (.tail (.tail (.tail (.tail (.head (mem_cut (7 - k.val) 0 (k1_off1_inb k) ((k1_off1_eq k).trans (back_off k fun n => ![n, 128 * 0])) y hy hc)))))))
    · exact (.tail (.tail (.tail (.tail (.head (mem_cut (7 - k.val) 1 (k1_off4_inb k) ((k1_off4_eq k).trans (back_off k fun n => ![n, 128 * 1])) y hy hc))))))
    · exact (.tail (.tail (.tail (.head (mem_cut (7 - k.val) 2 (k1_off7_inb k) ((k1_off7_eq k).trans (back_off k fun n => ![n, 128 * 2])) y hy hc)))))
    · exact (.tail (.tail (.head (mem_cut (7 - k.val) 3 (k1_off10_inb k) ((k1_off10_eq k).trans (back_off k fun n => ![n, 128 * 3])) y hy hc))))
    · exact (.tail (.head (mem_cut (7 - k.val) 4 (k1_off13_inb k) ((k1_off13_eq k).trans (back_off k fun n => ![n, 128 * 4])) y hy hc)))
    · exact (.head (mem_cut (7 - k.val) 5 (k1_off16_inb k) ((k1_off16_eq k).trans (back_off k fun n => ![n, 128 * 5])) y hy hc))

theorem back_k (k : Fin k1_t1_loop.trips) (s : ℕ → FVec F S128x128 .f32) (G : Vec F S512x768 .f32)
    (hG : ∀ h, ∀ (off : Fin 2 → ℕ) (inb : ∀ a, off a + (![64, 128] : Fin 2 → ℕ) a ≤ S512x768.size a), off = ![64 * (7 - k.val), 128 * h] → ∀ x, gK (s h) (cut x0 (7 - k.val) h) (cut x1 (7 - k.val) h) (cutT x6 (7 - k.val) h) x = G ((Rect.unit (s := S512x768) off ![64, 128] inb).emb x)) :
    Fits (tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)).2.2.2.1 G
      ∧ ∀ y : S512x768.Idx, (y 0).val / 64 = 7 - k.val → Covers (tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)).2.2.2.1 y := by
  have u0 := read_cut (F := F) harg3 x0 (7 - k.val) 0 (k1_off1_inb k) ((k1_off1_eq k).trans (back_off k fun n => ![n, 128 * 0]))
  have w0 := read_cut (F := F) harg4 x1 (7 - k.val) 0 (k1_off1_inb k) ((k1_off1_eq k).trans (back_off k fun n => ![n, 128 * 0]))
  have t0 := read_cutT (F := F) harg9 x6 (7 - k.val) 0 (k1_off3_inb k) (k1_off3_eq k)
  have u1 := read_cut (F := F) harg3 x0 (7 - k.val) 1 (k1_off4_inb k) ((k1_off4_eq k).trans (back_off k fun n => ![n, 128 * 1]))
  have w1 := read_cut (F := F) harg4 x1 (7 - k.val) 1 (k1_off4_inb k) ((k1_off4_eq k).trans (back_off k fun n => ![n, 128 * 1]))
  have t1 := read_cutT (F := F) harg9 x6 (7 - k.val) 1 (k1_off6_inb k) (k1_off6_eq k)
  have u2 := read_cut (F := F) harg3 x0 (7 - k.val) 2 (k1_off7_inb k) ((k1_off7_eq k).trans (back_off k fun n => ![n, 128 * 2]))
  have w2 := read_cut (F := F) harg4 x1 (7 - k.val) 2 (k1_off7_inb k) ((k1_off7_eq k).trans (back_off k fun n => ![n, 128 * 2]))
  have t2 := read_cutT (F := F) harg9 x6 (7 - k.val) 2 (k1_off9_inb k) (k1_off9_eq k)
  have u3 := read_cut (F := F) harg3 x0 (7 - k.val) 3 (k1_off10_inb k) ((k1_off10_eq k).trans (back_off k fun n => ![n, 128 * 3]))
  have w3 := read_cut (F := F) harg4 x1 (7 - k.val) 3 (k1_off10_inb k) ((k1_off10_eq k).trans (back_off k fun n => ![n, 128 * 3]))
  have t3 := read_cutT (F := F) harg9 x6 (7 - k.val) 3 (k1_off12_inb k) (k1_off12_eq k)
  have u4 := read_cut (F := F) harg3 x0 (7 - k.val) 4 (k1_off13_inb k) ((k1_off13_eq k).trans (back_off k fun n => ![n, 128 * 4]))
  have w4 := read_cut (F := F) harg4 x1 (7 - k.val) 4 (k1_off13_inb k) ((k1_off13_eq k).trans (back_off k fun n => ![n, 128 * 4]))
  have t4 := read_cutT (F := F) harg9 x6 (7 - k.val) 4 (k1_off15_inb k) (k1_off15_eq k)
  have u5 := read_cut (F := F) harg3 x0 (7 - k.val) 5 (k1_off16_inb k) ((k1_off16_eq k).trans (back_off k fun n => ![n, 128 * 5]))
  have w5 := read_cut (F := F) harg4 x1 (7 - k.val) 5 (k1_off16_inb k) ((k1_off16_eq k).trans (back_off k fun n => ![n, 128 * 5]))
  have t5 := read_cutT (F := F) harg9 x6 (7 - k.val) 5 (k1_off18_inb k) (k1_off18_eq k)
  have G0 := hG 0 _ (k1_off1_inb k) ((k1_off1_eq k).trans (back_off k fun n => ![n, 128 * 0])); rw [← u0, ← w0, ← t0] at G0
  have G1 := hG 1 _ (k1_off4_inb k) ((k1_off4_eq k).trans (back_off k fun n => ![n, 128 * 1])); rw [← u1, ← w1, ← t1] at G1
  have G2 := hG 2 _ (k1_off7_inb k) ((k1_off7_eq k).trans (back_off k fun n => ![n, 128 * 2])); rw [← u2, ← w2, ← t2] at G2
  have G3 := hG 3 _ (k1_off10_inb k) ((k1_off10_eq k).trans (back_off k fun n => ![n, 128 * 3])); rw [← u3, ← w3, ← t3] at G3
  have G4 := hG 4 _ (k1_off13_inb k) ((k1_off13_eq k).trans (back_off k fun n => ![n, 128 * 4])); rw [← u4, ← w4, ← t4] at G4
  have G5 := hG 5 _ (k1_off16_inb k) ((k1_off16_eq k).trans (back_off k fun n => ![n, 128 * 5])); rw [← u5, ← w5, ← t5] at G5
  unfold tripL_k1_t1 trip_k1_t1
  dsimp only
  constructor
  · exact .cons G5 (.cons G4 (.cons G3 (.cons G2 (.cons G1 (.cons G0 (.nil _))))))
  · intro y hy
    have y1 : (y 1).val < 768 := (y 1).isLt
    have hc : (y 1).val / 128 = 0 ∨ (y 1).val / 128 = 1 ∨ (y 1).val / 128 = 2 ∨ (y 1).val / 128 = 3 ∨ (y 1).val / 128 = 4 ∨ (y 1).val / 128 = 5 := by omega
    rcases hc with hc | hc | hc | hc | hc | hc
    · exact (.tail (.tail (.tail (.tail (.tail (.head (mem_cut (7 - k.val) 0 (k1_off1_inb k) ((k1_off1_eq k).trans (back_off k fun n => ![n, 128 * 0])) y hy hc)))))))
    · exact (.tail (.tail (.tail (.tail (.head (mem_cut (7 - k.val) 1 (k1_off4_inb k) ((k1_off4_eq k).trans (back_off k fun n => ![n, 128 * 1])) y hy hc))))))
    · exact (.tail (.tail (.tail (.head (mem_cut (7 - k.val) 2 (k1_off7_inb k) ((k1_off7_eq k).trans (back_off k fun n => ![n, 128 * 2])) y hy hc)))))
    · exact (.tail (.tail (.head (mem_cut (7 - k.val) 3 (k1_off10_inb k) ((k1_off10_eq k).trans (back_off k fun n => ![n, 128 * 3])) y hy hc))))
    · exact (.tail (.head (mem_cut (7 - k.val) 4 (k1_off13_inb k) ((k1_off13_eq k).trans (back_off k fun n => ![n, 128 * 4])) y hy hc)))
    · exact (.head (mem_cut (7 - k.val) 5 (k1_off16_inb k) ((k1_off16_eq k).trans (back_off k fun n => ![n, 128 * 5])) y hy hc))

theorem back_a (k : Fin k1_t1_loop.trips) (s : ℕ → FVec F S128x128 .f32) (G : Vec F S6x512x64 .f32)
    (hG : ∀ h, ∀ (off : Fin 3 → ℕ) (inb : ∀ a, off a + (![1, 64, 64] : Fin 3 → ℕ) a ≤ S6x512x64.size a), off = ![h, 64 * (7 - k.val), 0] → ∀ x, gA (cut x0 (7 - k.val) h) (cut x1 (7 - k.val) h) (cutT x6 (7 - k.val) h) (cut x7 (7 - k.val) h) x = G ((Rect.unit (s := S6x512x64) off ![1, 64, 64] inb).emb x)) :
    Fits (tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)).2.2.2.2.1 G
      ∧ ∀ y : S6x512x64.Idx, (y 1).val / 64 = 7 - k.val → Covers (tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)).2.2.2.2.1 y := by
  have u0 := read_cut (F := F) harg3 x0 (7 - k.val) 0 (k1_off1_inb k) ((k1_off1_eq k).trans (back_off k fun n => ![n, 128 * 0]))
  have w0 := read_cut (F := F) harg4 x1 (7 - k.val) 0 (k1_off1_inb k) ((k1_off1_eq k).trans (back_off k fun n => ![n, 128 * 0]))
  have t0 := read_cutT (F := F) harg9 x6 (7 - k.val) 0 (k1_off3_inb k) (k1_off3_eq k)
  have o0 := read_cut (F := F) harg10 x7 (7 - k.val) 0 (k1_off1_inb k) ((k1_off1_eq k).trans (back_off k fun n => ![n, 128 * 0]))
  have u1 := read_cut (F := F) harg3 x0 (7 - k.val) 1 (k1_off4_inb k) ((k1_off4_eq k).trans (back_off k fun n => ![n, 128 * 1]))
  have w1 := read_cut (F := F) harg4 x1 (7 - k.val) 1 (k1_off4_inb k) ((k1_off4_eq k).trans (back_off k fun n => ![n, 128 * 1]))
  have t1 := read_cutT (F := F) harg9 x6 (7 - k.val) 1 (k1_off6_inb k) (k1_off6_eq k)
  have o1 := read_cut (F := F) harg10 x7 (7 - k.val) 1 (k1_off4_inb k) ((k1_off4_eq k).trans (back_off k fun n => ![n, 128 * 1]))
  have u2 := read_cut (F := F) harg3 x0 (7 - k.val) 2 (k1_off7_inb k) ((k1_off7_eq k).trans (back_off k fun n => ![n, 128 * 2]))
  have w2 := read_cut (F := F) harg4 x1 (7 - k.val) 2 (k1_off7_inb k) ((k1_off7_eq k).trans (back_off k fun n => ![n, 128 * 2]))
  have t2 := read_cutT (F := F) harg9 x6 (7 - k.val) 2 (k1_off9_inb k) (k1_off9_eq k)
  have o2 := read_cut (F := F) harg10 x7 (7 - k.val) 2 (k1_off7_inb k) ((k1_off7_eq k).trans (back_off k fun n => ![n, 128 * 2]))
  have u3 := read_cut (F := F) harg3 x0 (7 - k.val) 3 (k1_off10_inb k) ((k1_off10_eq k).trans (back_off k fun n => ![n, 128 * 3]))
  have w3 := read_cut (F := F) harg4 x1 (7 - k.val) 3 (k1_off10_inb k) ((k1_off10_eq k).trans (back_off k fun n => ![n, 128 * 3]))
  have t3 := read_cutT (F := F) harg9 x6 (7 - k.val) 3 (k1_off12_inb k) (k1_off12_eq k)
  have o3 := read_cut (F := F) harg10 x7 (7 - k.val) 3 (k1_off10_inb k) ((k1_off10_eq k).trans (back_off k fun n => ![n, 128 * 3]))
  have u4 := read_cut (F := F) harg3 x0 (7 - k.val) 4 (k1_off13_inb k) ((k1_off13_eq k).trans (back_off k fun n => ![n, 128 * 4]))
  have w4 := read_cut (F := F) harg4 x1 (7 - k.val) 4 (k1_off13_inb k) ((k1_off13_eq k).trans (back_off k fun n => ![n, 128 * 4]))
  have t4 := read_cutT (F := F) harg9 x6 (7 - k.val) 4 (k1_off15_inb k) (k1_off15_eq k)
  have o4 := read_cut (F := F) harg10 x7 (7 - k.val) 4 (k1_off13_inb k) ((k1_off13_eq k).trans (back_off k fun n => ![n, 128 * 4]))
  have u5 := read_cut (F := F) harg3 x0 (7 - k.val) 5 (k1_off16_inb k) ((k1_off16_eq k).trans (back_off k fun n => ![n, 128 * 5]))
  have w5 := read_cut (F := F) harg4 x1 (7 - k.val) 5 (k1_off16_inb k) ((k1_off16_eq k).trans (back_off k fun n => ![n, 128 * 5]))
  have t5 := read_cutT (F := F) harg9 x6 (7 - k.val) 5 (k1_off18_inb k) (k1_off18_eq k)
  have o5 := read_cut (F := F) harg10 x7 (7 - k.val) 5 (k1_off16_inb k) ((k1_off16_eq k).trans (back_off k fun n => ![n, 128 * 5]))
  have G0 := hG 0 _ (k1_off2_inb k) ((k1_off2_eq k).trans (back_offA k fun n => ![0, n, 0])); rw [← u0, ← w0, ← t0, ← o0] at G0
  have G1 := hG 1 _ (k1_off5_inb k) ((k1_off5_eq k).trans (back_offA k fun n => ![1, n, 0])); rw [← u1, ← w1, ← t1, ← o1] at G1
  have G2 := hG 2 _ (k1_off8_inb k) ((k1_off8_eq k).trans (back_offA k fun n => ![2, n, 0])); rw [← u2, ← w2, ← t2, ← o2] at G2
  have G3 := hG 3 _ (k1_off11_inb k) ((k1_off11_eq k).trans (back_offA k fun n => ![3, n, 0])); rw [← u3, ← w3, ← t3, ← o3] at G3
  have G4 := hG 4 _ (k1_off14_inb k) ((k1_off14_eq k).trans (back_offA k fun n => ![4, n, 0])); rw [← u4, ← w4, ← t4, ← o4] at G4
  have G5 := hG 5 _ (k1_off17_inb k) ((k1_off17_eq k).trans (back_offA k fun n => ![5, n, 0])); rw [← u5, ← w5, ← t5, ← o5] at G5
  unfold tripL_k1_t1 trip_k1_t1
  dsimp only
  constructor
  · exact .cons G5 (.cons G4 (.cons G3 (.cons G2 (.cons G1 (.cons G0 (.nil _))))))
  · intro y hy
    have y1 : (y 0).val < 6 := (y 0).isLt
    have hc : (y 0).val = 0 ∨ (y 0).val = 1 ∨ (y 0).val = 2 ∨ (y 0).val = 3 ∨ (y 0).val = 4 ∨ (y 0).val = 5 := by omega
    rcases hc with hc | hc | hc | hc | hc | hc
    · exact (.tail (.tail (.tail (.tail (.tail (.head (mem_cutA (7 - k.val) 0 (k1_off2_inb k) ((k1_off2_eq k).trans (back_offA k fun n => ![0, n, 0])) y hy hc)))))))
    · exact (.tail (.tail (.tail (.tail (.head (mem_cutA (7 - k.val) 1 (k1_off5_inb k) ((k1_off5_eq k).trans (back_offA k fun n => ![1, n, 0])) y hy hc))))))
    · exact (.tail (.tail (.tail (.head (mem_cutA (7 - k.val) 2 (k1_off8_inb k) ((k1_off8_eq k).trans (back_offA k fun n => ![2, n, 0])) y hy hc)))))
    · exact (.tail (.tail (.head (mem_cutA (7 - k.val) 3 (k1_off11_inb k) ((k1_off11_eq k).trans (back_offA k fun n => ![3, n, 0])) y hy hc))))
    · exact (.tail (.head (mem_cutA (7 - k.val) 4 (k1_off14_inb k) ((k1_off14_eq k).trans (back_offA k fun n => ![4, n, 0])) y hy hc)))
    · exact (.head (mem_cutA (7 - k.val) 5 (k1_off17_inb k) ((k1_off17_eq k).trans (back_offA k fun n => ![5, n, 0])) y hy hc))

theorem back_g (k : Fin k1_t1_loop.trips) (s : ℕ → FVec F S128x128 .f32) (G : Vec F S512x768 .f32)
    (hG : ∀ h, ∀ (off : Fin 2 → ℕ) (inb : ∀ a, off a + (![64, 128] : Fin 2 → ℕ) a ≤ S512x768.size a), off = ![64 * (7 - k.val), 128 * h] → ∀ x, gG (s h) (cut x5 (7 - k.val) h) (cutT x6 (7 - k.val) h) x = G ((Rect.unit (s := S512x768) off ![64, 128] inb).emb x)) :
    Fits (tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)).2.2.2.2.2 G
      ∧ ∀ y : S512x768.Idx, (y 0).val / 64 = 7 - k.val → Covers (tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) k (six s)).2.2.2.2.2 y := by
  have g0 := read_cut (F := F) harg8 x5 (7 - k.val) 0 (k1_off1_inb k) ((k1_off1_eq k).trans (back_off k fun n => ![n, 128 * 0]))
  have t0 := read_cutT (F := F) harg9 x6 (7 - k.val) 0 (k1_off3_inb k) (k1_off3_eq k)
  have g1 := read_cut (F := F) harg8 x5 (7 - k.val) 1 (k1_off4_inb k) ((k1_off4_eq k).trans (back_off k fun n => ![n, 128 * 1]))
  have t1 := read_cutT (F := F) harg9 x6 (7 - k.val) 1 (k1_off6_inb k) (k1_off6_eq k)
  have g2 := read_cut (F := F) harg8 x5 (7 - k.val) 2 (k1_off7_inb k) ((k1_off7_eq k).trans (back_off k fun n => ![n, 128 * 2]))
  have t2 := read_cutT (F := F) harg9 x6 (7 - k.val) 2 (k1_off9_inb k) (k1_off9_eq k)
  have g3 := read_cut (F := F) harg8 x5 (7 - k.val) 3 (k1_off10_inb k) ((k1_off10_eq k).trans (back_off k fun n => ![n, 128 * 3]))
  have t3 := read_cutT (F := F) harg9 x6 (7 - k.val) 3 (k1_off12_inb k) (k1_off12_eq k)
  have g4 := read_cut (F := F) harg8 x5 (7 - k.val) 4 (k1_off13_inb k) ((k1_off13_eq k).trans (back_off k fun n => ![n, 128 * 4]))
  have t4 := read_cutT (F := F) harg9 x6 (7 - k.val) 4 (k1_off15_inb k) (k1_off15_eq k)
  have g5 := read_cut (F := F) harg8 x5 (7 - k.val) 5 (k1_off16_inb k) ((k1_off16_eq k).trans (back_off k fun n => ![n, 128 * 5]))
  have t5 := read_cutT (F := F) harg9 x6 (7 - k.val) 5 (k1_off18_inb k) (k1_off18_eq k)
  have G0 := hG 0 _ (k1_off1_inb k) ((k1_off1_eq k).trans (back_off k fun n => ![n, 128 * 0])); rw [← g0, ← t0] at G0
  have G1 := hG 1 _ (k1_off4_inb k) ((k1_off4_eq k).trans (back_off k fun n => ![n, 128 * 1])); rw [← g1, ← t1] at G1
  have G2 := hG 2 _ (k1_off7_inb k) ((k1_off7_eq k).trans (back_off k fun n => ![n, 128 * 2])); rw [← g2, ← t2] at G2
  have G3 := hG 3 _ (k1_off10_inb k) ((k1_off10_eq k).trans (back_off k fun n => ![n, 128 * 3])); rw [← g3, ← t3] at G3
  have G4 := hG 4 _ (k1_off13_inb k) ((k1_off13_eq k).trans (back_off k fun n => ![n, 128 * 4])); rw [← g4, ← t4] at G4
  have G5 := hG 5 _ (k1_off16_inb k) ((k1_off16_eq k).trans (back_off k fun n => ![n, 128 * 5])); rw [← g5, ← t5] at G5
  unfold tripL_k1_t1 trip_k1_t1
  dsimp only
  constructor
  · exact .cons G5 (.cons G4 (.cons G3 (.cons G2 (.cons G1 (.cons G0 (.nil _))))))
  · intro y hy
    have y1 : (y 1).val < 768 := (y 1).isLt
    have hc : (y 1).val / 128 = 0 ∨ (y 1).val / 128 = 1 ∨ (y 1).val / 128 = 2 ∨ (y 1).val / 128 = 3 ∨ (y 1).val / 128 = 4 ∨ (y 1).val / 128 = 5 := by omega
    rcases hc with hc | hc | hc | hc | hc | hc
    · exact (.tail (.tail (.tail (.tail (.tail (.head (mem_cut (7 - k.val) 0 (k1_off1_inb k) ((k1_off1_eq k).trans (back_off k fun n => ![n, 128 * 0])) y hy hc)))))))
    · exact (.tail (.tail (.tail (.tail (.head (mem_cut (7 - k.val) 1 (k1_off4_inb k) ((k1_off4_eq k).trans (back_off k fun n => ![n, 128 * 1])) y hy hc))))))
    · exact (.tail (.tail (.tail (.head (mem_cut (7 - k.val) 2 (k1_off7_inb k) ((k1_off7_eq k).trans (back_off k fun n => ![n, 128 * 2])) y hy hc)))))
    · exact (.tail (.tail (.head (mem_cut (7 - k.val) 3 (k1_off10_inb k) ((k1_off10_eq k).trans (back_off k fun n => ![n, 128 * 3])) y hy hc))))
    · exact (.tail (.head (mem_cut (7 - k.val) 4 (k1_off13_inb k) ((k1_off13_eq k).trans (back_off k fun n => ![n, 128 * 4])) y hy hc)))
    · exact (.head (mem_cut (7 - k.val) 5 (k1_off16_inb k) ((k1_off16_eq k).trans (back_off k fun n => ![n, 128 * 5])) y hy hc))

theorem back_inv (d0 : ℕ → FVec F S128x128 .f32) (k : ℕ) (hk : k ≤ 8) : BackInv x0 x1 x2 x3 x4 x5 x6 x7 d0 (st_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) (six d0) k) k := by
  induction k with
  | zero => exact ⟨rfl, ⟨Fits.nil _, fun _ h => absurd h (Nat.not_lt_zero _)⟩, ⟨Fits.nil _, fun _ h => absurd h (Nat.not_lt_zero _)⟩, ⟨Fits.nil _, fun _ h => absurd h (Nat.not_lt_zero _)⟩, ⟨Fits.nil _, fun _ h => absurd h (Nat.not_lt_zero _)⟩, ⟨Fits.nil _, fun _ h => absurd h (Nat.not_lt_zero _)⟩, ⟨Fits.nil _, fun _ h => absurd h (Nat.not_lt_zero _)⟩⟩
  | succ k ih =>
    have ih := ih (by omega)
    have hk' : k < k1_t1_loop.trips := Nat.lt_of_lt_of_eq (show k < 8 by omega) (by decide +kernel)
    have k7 : 7 - (7 - k) = k := by omega
    have e := ih.1
    rw [st_k1_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) (six d0) ⟨k, hk'⟩]
    refine ih.step (by omega) _ ?_ ?_ ?_ ?_ ?_ ?_ ?_
    · rw [e]; exact back_state 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 ⟨k, hk'⟩ fun h => blkD x1 x2 x3 x4 x5 x7 d0 h k
    · rw [e]
      refine back_u 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 ⟨k, hk'⟩ (fun h => blkD x1 x2 x3 x4 x5 x7 d0 h k) (blkU x1 x2 x3 x4 x5 x7 d0) fun h off inb ho x => ?_
      unfold blkU
      refine Eq.trans ?_ (wide_emb (fun c h => gU (blkD x1 x2 x3 x4 x5 x7 d0 h (7 - c)) (cut x3 c h) (cutA x4 c h) (cut x7 c h)) (7 - k) h inb ho x).symm
      dsimp only
      rw [k7]
    · rw [e]
      refine back_w 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 ⟨k, hk'⟩ (fun h => blkD x1 x2 x3 x4 x5 x7 d0 h k) (blkW x1 x2 x3 x4 x5 x6 x7 d0) fun h off inb ho x => ?_
      unfold blkW
      refine Eq.trans ?_ (wide_emb (fun c h => gW (blkD x1 x2 x3 x4 x5 x7 d0 h (7 - c)) (cut x3 c h) (cutA x4 c h) (cutT x6 c h) (cut x7 c h)) (7 - k) h inb ho x).symm
      dsimp only
      rw [k7]
    · rw [e]
      refine back_q 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 ⟨k, hk'⟩ (fun h => blkD x1 x2 x3 x4 x5 x7 d0 h k) (blkQ x6 x7) fun h off inb ho x => ?_
      unfold blkQ
      refine Eq.trans ?_ (wide_emb (fun c h => gQ (cutT x6 c h) (cut x7 c h)) (7 - k) h inb ho x).symm
      dsimp only
    · rw [e]
      refine back_k 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 ⟨k, hk'⟩ (fun h => blkD x1 x2 x3 x4 x5 x7 d0 h k) (blkK x0 x1 x2 x3 x4 x5 x6 x7 d0) fun h off inb ho x => ?_
      unfold blkK
      refine Eq.trans ?_ (wide_emb (fun c h => gK (blkD x1 x2 x3 x4 x5 x7 d0 h (7 - c)) (cut x0 c h) (cut x1 c h) (cutT x6 c h)) (7 - k) h inb ho x).symm
      dsimp only
      rw [k7]
    · rw [e]
      refine back_a 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 ⟨k, hk'⟩ (fun h => blkD x1 x2 x3 x4 x5 x7 d0 h k) (blkA x0 x1 x6 x7) fun h off inb ho x => ?_
      unfold blkA
      refine Eq.trans ?_ (wideA_emb (fun c h => gA (cut x0 c h) (cut x1 c h) (cutT x6 c h) (cut x7 c h)) (7 - k) h inb ho x).symm
      dsimp only
    · rw [e]
      refine back_g 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 ⟨k, hk'⟩ (fun h => blkD x1 x2 x3 x4 x5 x7 d0 h k) (blkG x1 x2 x3 x4 x5 x6 x7 d0) fun h off inb ho x => ?_
      unfold blkG
      refine Eq.trans ?_ (wide_emb (fun c h => gG (blkD x1 x2 x3 x4 x5 x7 d0 h (7 - c)) (cut x5 c h) (cutT x6 c h)) (7 - k) h inb ho x).symm
      dsimp only
      rw [k7]

end Trip

end Cert.KernelIdeal.Scan

end
-- ==== Proof.BwdBody.lean ====
/- The body of the backward recurrence's call at one grid point: from a block of 512 rows, the states saved for it and the six
   cotangents carried it leaves the block's cotangents and the six cotangents of the states the block was entered at. -/
module

public import proofs.«01_k».proof.Proof.FwdBody
public import proofs.«01_k».proof.Proof.BwdLoop

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The grid point starts a sequence (from its end). -/
abbrev first1 (i : grid1.Coords) : Prop := (Scalar.cmpi .ne (Scalar.extui (Scalar.cmpi .eq (BitVec.ofNat 32 (i 2).val) 0#32)) 0#32) = 1#1

/-- After the loop. -/
theorem back_end (𝒱 : Variants) (c : Dev nD) (bd : Option 𝒱.V) (i : grid1.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S512x768 .f32) (harg6 : arg6.IsWhole) (arg7 : Memref sig .tc .vmem S6x512x64 .f32) (harg7 : arg7.IsWhole) (arg8 : Memref sig .tc .vmem S512x768 .f32) (harg8 : arg8.IsWhole) (arg9 : Memref sig .tc .vmem S1x6x8x128x128 .bf16) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S6x512x64 .f32) (harg15 : arg15.IsWhole) (arg16 : Memref sig .tc .vmem S512x768 .f32) (harg16 : arg16.IsWhole) (arg17 : Memref sig .tc .vmem S6x128x128 .f32) (harg17 : arg17.IsWhole)
    (x0 x1 x2 x3 : Vec F S512x768 .f32) (x4 : Vec F S6x512x64 .f32) (x5 : Vec F S512x768 .f32) (x6 : Vec F S1x6x8x128x128 .bf16) (x7 : Vec F S512x768 .f32) (d0 : ℕ → FVec F S128x128 .f32)
    (T : FVec F S128x128 .f32 × FVec F S128x128 .f32 × FVec F S128x128 .f32 × FVec F S128x128 .f32 × FVec F S128x128 .f32 × FVec F S128x128 .f32) (hT : T = six d0) :
    (st_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) T k1_t1_loop.trips).1 = (six fun h => blkD x1 x2 x3 x4 x5 x7 d0 h 8)
    ∧ (∀ f, arg11.view.read (Elt F) (arg11.view.writes (Elt F) f (st_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) T k1_t1_loop.trips).2.1) = blkU x1 x2 x3 x4 x5 x7 d0)
    ∧ (∀ f, arg12.view.read (Elt F) (arg12.view.writes (Elt F) f (st_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) T k1_t1_loop.trips).2.2.1) = blkW x1 x2 x3 x4 x5 x6 x7 d0)
    ∧ (∀ f, arg13.view.read (Elt F) (arg13.view.writes (Elt F) f (st_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) T k1_t1_loop.trips).2.2.2.1) = blkQ x6 x7)
    ∧ (∀ f, arg14.view.read (Elt F) (arg14.view.writes (Elt F) f (st_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) T k1_t1_loop.trips).2.2.2.2.1) = blkK x0 x1 x2 x3 x4 x5 x6 x7 d0)
    ∧ (∀ f, arg15.view.read (Elt F) (arg15.view.writes (Elt F) f (st_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) T k1_t1_loop.trips).2.2.2.2.2.1) = blkA x0 x1 x6 x7)
    ∧ (∀ f, arg16.view.read (Elt F) (arg16.view.writes (Elt F) f (st_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x0) (harg4.unread x1) (harg5.unread x2) (harg6.unread x3) (harg7.unread x4) (harg8.unread x5) (harg9.unread x6) (harg10.unread x7) T k1_t1_loop.trips).2.2.2.2.2.2) = blkG x1 x2 x3 x4 x5 x6 x7 d0) := by
  subst hT
  have e8 : k1_t1_loop.trips = 8 := by decide +kernel
  rw [e8]
  obtain ⟨e, ⟨f0, c0⟩, ⟨f1, c1⟩, ⟨f2, c2⟩, ⟨f3, c3⟩, ⟨f4, c4⟩, ⟨f5, c5⟩⟩ := back_inv 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 d0 8 le_rfl
  exact ⟨e, fun f => read_fits _ _ _ _ f0 fun y => c0 y (by omega), fun f => read_fits _ _ _ _ f1 fun y => c1 y (by omega), fun f => read_fits _ _ _ _ f2 fun y => c2 y (by omega), fun f => read_fits _ _ _ _ f3 fun y => c3 y (by omega), fun f => read_fits _ _ _ _ f4 fun y => c4 y (by omega), fun f => read_fits _ _ _ _ f5 fun y => c5 y (by omega)⟩

set_option maxHeartbeats 2000000 in
/-- At the end of a sequence the carried cotangents are set to zero first. -/
theorem body1_first (c : Dev nD) (i : grid1.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S512x768 .f32) (harg6 : arg6.IsWhole) (arg7 : Memref sig .tc .vmem S6x512x64 .f32) (harg7 : arg7.IsWhole) (arg8 : Memref sig .tc .vmem S512x768 .f32) (harg8 : arg8.IsWhole) (arg9 : Memref sig .tc .vmem S1x6x8x128x128 .bf16) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S6x512x64 .f32) (harg15 : arg15.IsWhole) (arg16 : Memref sig .tc .vmem S512x768 .f32) (harg16 : arg16.IsWhole) (arg17 : Memref sig .tc .vmem S6x128x128 .f32) (harg17 : arg17.IsWhole) (hc0 : first1 i)
    (x0 x1 x2 x3 : Vec F S512x768 .f32) (x4 : Vec F S6x512x64 .f32) (x5 : Vec F S512x768 .f32) (x6 : Vec F S1x6x8x128x128 .bf16) (x7 : Vec F S512x768 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (blkU x1 x2 x3 x4 x5 x7 (entry zeroC)) ∗ owns (c : Thread nD τ) arg12 fullShare (blkW x1 x2 x3 x4 x5 x6 x7 (entry zeroC)) ∗ owns (c : Thread nD τ) arg13 fullShare (blkQ x6 x7) ∗ owns (c : Thread nD τ) arg14 fullShare (blkK x0 x1 x2 x3 x4 x5 x6 x7 (entry zeroC)) ∗ owns (c : Thread nD τ) arg15 fullShare (blkA x0 x1 x6 x7) ∗ owns (c : Thread nD τ) arg16 fullShare (blkG x1 x2 x3 x4 x5 x6 x7 (entry zeroC)) ∗ owns (c : Thread nD τ) arg17 fullShare (leave fun h => blkD x1 x2 x3 x4 x5 x7 (entry zeroC) h 8)) -∗ K ⟨⟩))
      ⊢ wp frame (wpE (defs₀ (F := F)) Variants.none c none) E (cc1_gdn_scan_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1_gdn_scan_bwd_eq_skeleton]; unfold cc1_gdn_scan_bwd_skel
  simp only [k1_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  have hT : (k1_pay151 (arg17.view.readCov [⟨Rect.unit (s := S6x128x128) ![0, 0, 0] S6x128x128.size inb_S6x128x128_S6x128x128_0_0_0, k1_pay150 (F := F)⟩] (Rect.unit (s := S6x128x128) ![0, 0, 0] ![1, 128, 128] inb_S6x128x128_S1x128x128_0_0_0).toLoadRect), k1_pay152 (arg17.view.readCov [⟨Rect.unit (s := S6x128x128) ![0, 0, 0] S6x128x128.size inb_S6x128x128_S6x128x128_0_0_0, k1_pay150 (F := F)⟩] (Rect.unit (s := S6x128x128) ![1, 0, 0] ![1, 128, 128] inb_S6x128x128_S1x128x128_1_0_0).toLoadRect), k1_pay153 (arg17.view.readCov [⟨Rect.unit (s := S6x128x128) ![0, 0, 0] S6x128x128.size inb_S6x128x128_S6x128x128_0_0_0, k1_pay150 (F := F)⟩] (Rect.unit (s := S6x128x128) ![2, 0, 0] ![1, 128, 128] inb_S6x128x128_S1x128x128_2_0_0).toLoadRect), k1_pay154 (arg17.view.readCov [⟨Rect.unit (s := S6x128x128) ![0, 0, 0] S6x128x128.size inb_S6x128x128_S6x128x128_0_0_0, k1_pay150 (F := F)⟩] (Rect.unit (s := S6x128x128) ![3, 0, 0] ![1, 128, 128] inb_S6x128x128_S1x128x128_3_0_0).toLoadRect), k1_pay155 (arg17.view.readCov [⟨Rect.unit (s := S6x128x128) ![0, 0, 0] S6x128x128.size inb_S6x128x128_S6x128x128_0_0_0, k1_pay150 (F := F)⟩] (Rect.unit (s := S6x128x128) ![4, 0, 0] ![1, 128, 128] inb_S6x128x128_S1x128x128_4_0_0).toLoadRect), k1_pay156 (arg17.view.readCov [⟨Rect.unit (s := S6x128x128) ![0, 0, 0] S6x128x128.size inb_S6x128x128_S6x128x128_0_0_0, k1_pay150 (F := F)⟩] (Rect.unit (s := S6x128x128) ![5, 0, 0] ![1, 128, 128] inb_S6x128x128_S1x128x128_5_0_0).toLoadRect)) = six (entry zeroC) := by
    have e0 := read_filled (F := F) arg17 (k1_pay150 (F := F)) 0 inb_S6x128x128_S1x128x128_0_0_0 rfl
    have e1 := read_filled (F := F) arg17 (k1_pay150 (F := F)) 1 inb_S6x128x128_S1x128x128_1_0_0 rfl
    have e2 := read_filled (F := F) arg17 (k1_pay150 (F := F)) 2 inb_S6x128x128_S1x128x128_2_0_0 rfl
    have e3 := read_filled (F := F) arg17 (k1_pay150 (F := F)) 3 inb_S6x128x128_S1x128x128_3_0_0 rfl
    have e4 := read_filled (F := F) arg17 (k1_pay150 (F := F)) 4 inb_S6x128x128_S1x128x128_4_0_0 rfl
    have e5 := read_filled (F := F) arg17 (k1_pay150 (F := F)) 5 inb_S6x128x128_S1x128x128_5_0_0 rfl
    exact Prod.ext (congrArg k0_pay30 e0) (Prod.ext (congrArg k0_pay30 e1) (Prod.ext (congrArg k0_pay30 e2) (Prod.ext (congrArg k0_pay30 e3) (Prod.ext (congrArg k0_pay30 e4) (congrArg k0_pay30 e5)))))
  have hE := back_end Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (entry zeroC) _ hT
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact hE.2.1 _
  isplitl [H9]
  · iexists _; isplitr; swap; · iexact H9
    ipureintro
    exact hE.2.2.1 _
  isplitl [H10]
  · iexists _; isplitr; swap; · iexact H10
    ipureintro
    exact hE.2.2.2.1 _
  isplitl [H11]
  · iexists _; isplitr; swap; · iexact H11
    ipureintro
    exact hE.2.2.2.2.1 _
  isplitl [H12]
  · iexists _; isplitr; swap; · iexact H12
    ipureintro
    exact hE.2.2.2.2.2.1 _
  isplitl [H13]
  · iexists _; isplitr; swap; · iexact H13
    ipureintro
    exact hE.2.2.2.2.2.2 _
  iexists _; isplitr; swap; · iexact HS
  ipureintro
  exact read_leave arg17 _ _ _ hE.1 _

set_option maxHeartbeats 2000000 in
/-- Elsewhere the block is entered at the cotangents carried to it. -/
theorem body1_later (c : Dev nD) (i : grid1.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S512x768 .f32) (harg6 : arg6.IsWhole) (arg7 : Memref sig .tc .vmem S6x512x64 .f32) (harg7 : arg7.IsWhole) (arg8 : Memref sig .tc .vmem S512x768 .f32) (harg8 : arg8.IsWhole) (arg9 : Memref sig .tc .vmem S1x6x8x128x128 .bf16) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S6x512x64 .f32) (harg15 : arg15.IsWhole) (arg16 : Memref sig .tc .vmem S512x768 .f32) (harg16 : arg16.IsWhole) (arg17 : Memref sig .tc .vmem S6x128x128 .f32) (harg17 : arg17.IsWhole) (hc0 : ¬first1 i)
    (x0 x1 x2 x3 : Vec F S512x768 .f32) (x4 : Vec F S6x512x64 .f32) (x5 : Vec F S512x768 .f32) (x6 : Vec F S1x6x8x128x128 .bf16) (x7 : Vec F S512x768 .f32) (xs : Vec F S6x128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (blkU x1 x2 x3 x4 x5 x7 (entry xs)) ∗ owns (c : Thread nD τ) arg12 fullShare (blkW x1 x2 x3 x4 x5 x6 x7 (entry xs)) ∗ owns (c : Thread nD τ) arg13 fullShare (blkQ x6 x7) ∗ owns (c : Thread nD τ) arg14 fullShare (blkK x0 x1 x2 x3 x4 x5 x6 x7 (entry xs)) ∗ owns (c : Thread nD τ) arg15 fullShare (blkA x0 x1 x6 x7) ∗ owns (c : Thread nD τ) arg16 fullShare (blkG x1 x2 x3 x4 x5 x6 x7 (entry xs)) ∗ owns (c : Thread nD τ) arg17 fullShare (leave fun h => blkD x1 x2 x3 x4 x5 x7 (entry xs) h 8)) -∗ K ⟨⟩))
      ⊢ wp frame (wpE (defs₀ (F := F)) Variants.none c none) E (cc1_gdn_scan_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1_gdn_scan_bwd_eq_skeleton]; unfold cc1_gdn_scan_bwd_skel
  simp only [k1_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg17.eq_unread hfs
  have hT : (k1_pay151 (View.readAt (Elt F) arg17.view (Rect.unit (s := S6x128x128) ![0, 0, 0] ![1, 128, 128] inb_S6x128x128_S1x128x128_0_0_0).toLoadRect (harg17.unread xs)), k1_pay152 (View.readAt (Elt F) arg17.view (Rect.unit (s := S6x128x128) ![1, 0, 0] ![1, 128, 128] inb_S6x128x128_S1x128x128_1_0_0).toLoadRect (harg17.unread xs)), k1_pay153 (View.readAt (Elt F) arg17.view (Rect.unit (s := S6x128x128) ![2, 0, 0] ![1, 128, 128] inb_S6x128x128_S1x128x128_2_0_0).toLoadRect (harg17.unread xs)), k1_pay154 (View.readAt (Elt F) arg17.view (Rect.unit (s := S6x128x128) ![3, 0, 0] ![1, 128, 128] inb_S6x128x128_S1x128x128_3_0_0).toLoadRect (harg17.unread xs)), k1_pay155 (View.readAt (Elt F) arg17.view (Rect.unit (s := S6x128x128) ![4, 0, 0] ![1, 128, 128] inb_S6x128x128_S1x128x128_4_0_0).toLoadRect (harg17.unread xs)), k1_pay156 (View.readAt (Elt F) arg17.view (Rect.unit (s := S6x128x128) ![5, 0, 0] ![1, 128, 128] inb_S6x128x128_S1x128x128_5_0_0).toLoadRect (harg17.unread xs))) = six (entry xs) := by
    have e0 := read_cutC (F := F) harg17 xs 0 inb_S6x128x128_S1x128x128_0_0_0 rfl
    have e1 := read_cutC (F := F) harg17 xs 1 inb_S6x128x128_S1x128x128_1_0_0 rfl
    have e2 := read_cutC (F := F) harg17 xs 2 inb_S6x128x128_S1x128x128_2_0_0 rfl
    have e3 := read_cutC (F := F) harg17 xs 3 inb_S6x128x128_S1x128x128_3_0_0 rfl
    have e4 := read_cutC (F := F) harg17 xs 4 inb_S6x128x128_S1x128x128_4_0_0 rfl
    have e5 := read_cutC (F := F) harg17 xs 5 inb_S6x128x128_S1x128x128_5_0_0 rfl
    exact Prod.ext (congrArg k0_pay30 e0) (Prod.ext (congrArg k0_pay30 e1) (Prod.ext (congrArg k0_pay30 e2) (Prod.ext (congrArg k0_pay30 e3) (Prod.ext (congrArg k0_pay30 e4) (congrArg k0_pay30 e5)))))
  have hE := back_end Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (entry xs) _ hT
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact hE.2.1 _
  isplitl [H9]
  · iexists _; isplitr; swap; · iexact H9
    ipureintro
    exact hE.2.2.1 _
  isplitl [H10]
  · iexists _; isplitr; swap; · iexact H10
    ipureintro
    exact hE.2.2.2.1 _
  isplitl [H11]
  · iexists _; isplitr; swap; · iexact H11
    ipureintro
    exact hE.2.2.2.2.1 _
  isplitl [H12]
  · iexists _; isplitr; swap; · iexact H12
    ipureintro
    exact hE.2.2.2.2.2.1 _
  isplitl [H13]
  · iexists _; isplitr; swap; · iexact H13
    ipureintro
    exact hE.2.2.2.2.2.2 _
  iexists _; isplitr; swap; · iexact HS
  ipureintro
  exact read_leave arg17 _ _ _ hE.1 _

end Cert.KernelIdeal.Scan

end
-- ==== Proof.BwdDat.lean ====
/- The grid points of the backward recurrence one after another: what each of the 16 points finds in its blocks, the states carried from
   point to point, what each point leaves in its output blocks, and that the body does so at every point. -/
module

public import proofs.«01_k».proof.Proof.BwdBody
public import proofs.«01_k».proof.Proof.Gen.KernelIdeal.Launch
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What window `w` holds of its array at point `t`. -/
def inp1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point numbered `n`. -/
def pt1 (n : ℕ) : Fin cfg1.N := ⟨n % 16, Nat.lt_of_lt_of_eq (Nat.mod_lt _ (by omega)) N_1.symm⟩

theorem pt1_val (t : Fin cfg1.N) : pt1 t.val = t :=
  Fin.ext (Nat.mod_eq_of_lt (Nat.lt_of_lt_of_eq t.isLt N_1))

/-- The states point `t` starts from, the carried buffer holding `s`: at the first of a sequence's four points they are zero. -/
def start1 (n : ℕ) (s : Vec F S6x128x128 .f32) : ℕ → FVec F S128x128 .f32 := entry (if n % 4 = 0 then zeroC else s)

/-- The carried buffer before point `n` (what it holds before the first is never read). -/
def car1 (c : Dev nD) : ℕ → Vec F S6x128x128 .f32
  | 0 => zeroC
  | n + 1 => leave fun h => blkD (inp1 V c 1 (pt1 n)) (inp1 V c 2 (pt1 n)) (inp1 V c 3 (pt1 n)) (inp1 V c 4 (pt1 n)) (inp1 V c 5 (pt1 n)) (inp1 V c 7 (pt1 n)) (start1 n (car1 c n)) h 8

/-- The states point `t` starts from. -/
abbrev ini1 (c : Dev nD) (t : Fin cfg1.N) : ℕ → FVec F S128x128 .f32 := start1 t.val (car1 V c t.val)

theorem car1_succ (c : Dev nD) (t : Fin cfg1.N) :
    car1 V c (t.val + 1) = leave fun h => blkD (inp1 V c 1 t) (inp1 V c 2 t) (inp1 V c 3 t) (inp1 V c 4 t) (inp1 V c 5 t) (inp1 V c 7 t) (ini1 V c t) h 8 := by
  show (leave fun h => blkD (inp1 V c 1 (pt1 t.val)) (inp1 V c 2 (pt1 t.val)) (inp1 V c 3 (pt1 t.val)) (inp1 V c 4 (pt1 t.val)) (inp1 V c 5 (pt1 t.val)) (inp1 V c 7 (pt1 t.val)) (start1 t.val (car1 V c t.val)) h 8) = _
  rw [pt1_val]

theorem start1_first {n : ℕ} (h : n % 4 = 0) (s : Vec F S6x128x128 .f32) : start1 n s = entry zeroC := by
  unfold start1; rw [if_pos h]

theorem start1_later {n : ℕ} (h : ¬n % 4 = 0) (s : Vec F S6x128x128 .f32) : start1 n s = entry s := by
  unfold start1; rw [if_neg h]

/-- The body starts afresh at the points ≡ 0 (mod 4). -/
theorem first1_iff : ∀ t : Fin cfg1.N, first1 (grid1.coords t) ↔ t.val % 4 = 0 :=
  (fun t => by
    have ht : t.val < 16 := Nat.lt_of_lt_of_eq t.isLt N_1
    have e2 : (grid1.coords t 2).val = t.val / 1 % 4 := Pipeline.Grid.coords_val t 2 (by decide) rfl
    simp only [first1, e2]
    word_cmp
   : ∀ t : Fin grid1.N, first1 (grid1.coords t) ↔ t.val % 4 = 0)

/-- The carried buffer, whole. -/
abbrev scr1 : Memref sig .tc .vmem S6x128x128 .f32 := Memref.whole cc1_scratch0

/-- The scoped buffers the call does not touch. -/
def rest1 (c : Dev nD) : sProp 𝕄 :=
  Pipeline.scopedRestBut (Ix := Unit) (Name := ℕ) (U := UR sig nD τ) (Lvl := ℕ) (Val := Elt F) spec1 c [cc1_scratch0]

/-- What the launch hands over: the carried buffer at some contents, and the generator register. -/
theorem PhiA1_eq (c : Dev nD) :
    (Pipeline.ΦA spec1 c : sProp 𝕄)
      = iprop(iprop((∃ d, owns (c : Thread nD τ) scr1 fullShare d) ∗ rest1 c) ∗ (∃ r, prngReg c r)) := by
  unfold Pipeline.ΦA rest1; rw [Pipeline.scopedRest_split_of_list spec1 c [cc1_scratch0] (by decide) (by decide)]; simp only [scr1, owns_whole]; rfl

/-- Between the points: before the first whatever the launch hands over, afterwards the carried buffer at `car1`. -/
def Phi1 (c : Dev nD) (n : ℕ) : sProp 𝕄 :=
  if n = 0 then Pipeline.ΦA spec1 c else iprop(owns (c : Thread nD τ) scr1 fullShare (car1 V c n) ∗ rest1 c ∗ ∃ r, prngReg c r)

theorem Phi1_zero (c : Dev nD) {n : ℕ} (h : n = 0) : Phi1 V c n = Pipeline.ΦA spec1 c := if_pos h
theorem Phi1_pos (c : Dev nD) {n : ℕ} (h : n ≠ 0) :
    Phi1 V c n = iprop(owns (c : Thread nD τ) scr1 fullShare (car1 V c n) ∗ rest1 c ∗ ∃ r, prngReg c r) := if_neg h

/-- After any point the carried buffer goes back at some contents. -/
theorem Phi1_out (c : Dev nD) {n : ℕ} (h : n ≠ 0) : Phi1 V c n ⊢ Pipeline.ΦA spec1 c := by
  rw [Phi1_pos V c h, PhiA1_eq]
  iintro ⟨HS, Hr, Hg⟩
  isplitl [HS Hr]
  · isplitl [HS]
    · iexists _; iexact HS
    iexact Hr
  iexact Hg

/-- The call's data: the arrays as found, and what each point leaves in each window. -/
def dat1 (c : Dev nD) : Dat τ (Elt F) Unit ℕ (UR sig nD τ) ℕ cfg1 c where
  A w := V c (Pipeline.arrRef spec1 w)
  after w t := match w with
    | ⟨0, _⟩ => inp1 V c 0 t
    | ⟨1, _⟩ => inp1 V c 1 t
    | ⟨2, _⟩ => inp1 V c 2 t
    | ⟨3, _⟩ => inp1 V c 3 t
    | ⟨4, _⟩ => inp1 V c 4 t
    | ⟨5, _⟩ => inp1 V c 5 t
    | ⟨6, _⟩ => inp1 V c 6 t
    | ⟨7, _⟩ => inp1 V c 7 t
    | ⟨8, _⟩ => blkU (inp1 V c 1 t) (inp1 V c 2 t) (inp1 V c 3 t) (inp1 V c 4 t) (inp1 V c 5 t) (inp1 V c 7 t) (ini1 V c t)
    | ⟨9, _⟩ => blkW (inp1 V c 1 t) (inp1 V c 2 t) (inp1 V c 3 t) (inp1 V c 4 t) (inp1 V c 5 t) (inp1 V c 6 t) (inp1 V c 7 t) (ini1 V c t)
    | ⟨10, _⟩ => blkQ (inp1 V c 6 t) (inp1 V c 7 t)
    | ⟨11, _⟩ => blkK (inp1 V c 0 t) (inp1 V c 1 t) (inp1 V c 2 t) (inp1 V c 3 t) (inp1 V c 4 t) (inp1 V c 5 t) (inp1 V c 6 t) (inp1 V c 7 t) (ini1 V c t)
    | ⟨12, _⟩ => blkA (inp1 V c 0 t) (inp1 V c 1 t) (inp1 V c 6 t) (inp1 V c 7 t)
    | ⟨13, _⟩ => blkG (inp1 V c 1 t) (inp1 V c 2 t) (inp1 V c 3 t) (inp1 V c 4 t) (inp1 V c 5 t) (inp1 V c 6 t) (inp1 V c 7 t) (ini1 V c t)
  Φ t := Phi1 V c t.val
  q _ := fullShare
  owed _ := 0

theorem dat1_A (c : Dev nD) (w : Fin cfg1.W) : (dat1 V c).A w = V c (Pipeline.arrRef spec1 w) := by
  dsimp only [dat1]

theorem after1_0 (c : Dev nD) (t : Fin cfg1.N) : (dat1 V c).after 0 t = inp1 V c 0 t := by dsimp only [dat1]
theorem after1_1 (c : Dev nD) (t : Fin cfg1.N) : (dat1 V c).after 1 t = inp1 V c 1 t := by dsimp only [dat1]
theorem after1_2 (c : Dev nD) (t : Fin cfg1.N) : (dat1 V c).after 2 t = inp1 V c 2 t := by dsimp only [dat1]
theorem after1_3 (c : Dev nD) (t : Fin cfg1.N) : (dat1 V c).after 3 t = inp1 V c 3 t := by dsimp only [dat1]
theorem after1_4 (c : Dev nD) (t : Fin cfg1.N) : (dat1 V c).after 4 t = inp1 V c 4 t := by dsimp only [dat1]
theorem after1_5 (c : Dev nD) (t : Fin cfg1.N) : (dat1 V c).after 5 t = inp1 V c 5 t := by dsimp only [dat1]
theorem after1_6 (c : Dev nD) (t : Fin cfg1.N) : (dat1 V c).after 6 t = inp1 V c 6 t := by dsimp only [dat1]
theorem after1_7 (c : Dev nD) (t : Fin cfg1.N) : (dat1 V c).after 7 t = inp1 V c 7 t := by dsimp only [dat1]
theorem after1_8 (c : Dev nD) (t : Fin cfg1.N) : (dat1 V c).after 8 t = blkU (inp1 V c 1 t) (inp1 V c 2 t) (inp1 V c 3 t) (inp1 V c 4 t) (inp1 V c 5 t) (inp1 V c 7 t) (ini1 V c t) := by dsimp only [dat1]
theorem after1_9 (c : Dev nD) (t : Fin cfg1.N) : (dat1 V c).after 9 t = blkW (inp1 V c 1 t) (inp1 V c 2 t) (inp1 V c 3 t) (inp1 V c 4 t) (inp1 V c 5 t) (inp1 V c 6 t) (inp1 V c 7 t) (ini1 V c t) := by dsimp only [dat1]
theorem after1_10 (c : Dev nD) (t : Fin cfg1.N) : (dat1 V c).after 10 t = blkQ (inp1 V c 6 t) (inp1 V c 7 t) := by dsimp only [dat1]
theorem after1_11 (c : Dev nD) (t : Fin cfg1.N) : (dat1 V c).after 11 t = blkK (inp1 V c 0 t) (inp1 V c 1 t) (inp1 V c 2 t) (inp1 V c 3 t) (inp1 V c 4 t) (inp1 V c 5 t) (inp1 V c 6 t) (inp1 V c 7 t) (ini1 V c t) := by dsimp only [dat1]
theorem after1_12 (c : Dev nD) (t : Fin cfg1.N) : (dat1 V c).after 12 t = blkA (inp1 V c 0 t) (inp1 V c 1 t) (inp1 V c 6 t) (inp1 V c 7 t) := by dsimp only [dat1]
theorem after1_13 (c : Dev nD) (t : Fin cfg1.N) : (dat1 V c).after 13 t = blkG (inp1 V c 1 t) (inp1 V c 2 t) (inp1 V c 3 t) (inp1 V c 4 t) (inp1 V c 5 t) (inp1 V c 6 t) (inp1 V c 7 t) (ini1 V c t) := by dsimp only [dat1]

theorem before1_0 (c : Dev nD) (t : Fin cfg1.N) (d) : (dat1 V c).before 0 t d = inp1 V c 0 t :=
  ((dat1 V c).before_in_eq_fetched 0 rfl (fun _ => rfl) (fun _ _ _ => rfl) (fun t => by rw [after1_0]; unfold Dat.blockOf inp1; rw [dat1_A]; try rfl) t d).trans
    (by unfold Dat.fetched Dat.blockOf inp1; rw [dat1_A]; try rfl)
theorem before1_1 (c : Dev nD) (t : Fin cfg1.N) (d) : (dat1 V c).before 1 t d = inp1 V c 1 t :=
  ((dat1 V c).before_in_eq_fetched 1 rfl (fun _ => rfl) (fun _ _ _ => rfl) (fun t => by rw [after1_1]; unfold Dat.blockOf inp1; rw [dat1_A]; try rfl) t d).trans
    (by unfold Dat.fetched Dat.blockOf inp1; rw [dat1_A]; try rfl)
theorem before1_2 (c : Dev nD) (t : Fin cfg1.N) (d) : (dat1 V c).before 2 t d = inp1 V c 2 t :=
  ((dat1 V c).before_in_eq_fetched 2 rfl (fun _ => rfl) (fun _ _ _ => rfl) (fun t => by rw [after1_2]; unfold Dat.blockOf inp1; rw [dat1_A]; try rfl) t d).trans
    (by unfold Dat.fetched Dat.blockOf inp1; rw [dat1_A]; try rfl)
theorem before1_3 (c : Dev nD) (t : Fin cfg1.N) (d) : (dat1 V c).before 3 t d = inp1 V c 3 t :=
  ((dat1 V c).before_in_eq_fetched 3 rfl (fun _ => rfl) (fun _ _ _ => rfl) (fun t => by rw [after1_3]; unfold Dat.blockOf inp1; rw [dat1_A]; try rfl) t d).trans
    (by unfold Dat.fetched Dat.blockOf inp1; rw [dat1_A]; try rfl)
theorem before1_4 (c : Dev nD) (t : Fin cfg1.N) (d) : (dat1 V c).before 4 t d = inp1 V c 4 t :=
  ((dat1 V c).before_in_eq_fetched 4 rfl (fun _ => rfl) (fun _ _ _ => rfl) (fun t => by rw [after1_4]; unfold Dat.blockOf inp1; rw [dat1_A]; try rfl) t d).trans
    (by unfold Dat.fetched Dat.blockOf inp1; rw [dat1_A]; try rfl)
theorem before1_5 (c : Dev nD) (t : Fin cfg1.N) (d) : (dat1 V c).before 5 t d = inp1 V c 5 t :=
  ((dat1 V c).before_in_eq_fetched 5 rfl (fun _ => rfl) (fun _ _ _ => rfl) (fun t => by rw [after1_5]; unfold Dat.blockOf inp1; rw [dat1_A]; try rfl) t d).trans
    (by unfold Dat.fetched Dat.blockOf inp1; rw [dat1_A]; try rfl)
theorem before1_6 (c : Dev nD) (t : Fin cfg1.N) (d) : (dat1 V c).before 6 t d = inp1 V c 6 t :=
  ((dat1 V c).before_in_eq_fetched 6 rfl (fun _ => rfl) (fun _ _ _ => rfl) (fun t => by rw [after1_6]; unfold Dat.blockOf inp1; rw [dat1_A]; try rfl) t d).trans
    (by unfold Dat.fetched Dat.blockOf inp1; rw [dat1_A]; try rfl)
theorem before1_7 (c : Dev nD) (t : Fin cfg1.N) (d) : (dat1 V c).before 7 t d = inp1 V c 7 t :=
  ((dat1 V c).before_in_eq_fetched 7 rfl (fun _ => rfl) (fun _ _ _ => rfl) (fun t => by rw [after1_7]; unfold Dat.blockOf inp1; rw [dat1_A]; try rfl) t d).trans
    (by unfold Dat.fetched Dat.blockOf inp1; rw [dat1_A]; try rfl)

/-- What the body is called with at point `t`, -/
def pre1 (c : Dev nD) (t : Fin cfg1.N) : sProp 𝕄 :=
  iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)) ∗ (∃ d, owns (c : Thread nD τ) (st1_6 t) fullShare ((dat1 V c).before 6 t d)) ∗ (∃ d, owns (c : Thread nD τ) (st1_7 t) fullShare ((dat1 V c).before 7 t d)) ∗ (∃ d, owns (c : Thread nD τ) (st1_8 t) fullShare ((dat1 V c).before 8 t d)) ∗ (∃ d, owns (c : Thread nD τ) (st1_9 t) fullShare ((dat1 V c).before 9 t d)) ∗ (∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d)) ∗ (∃ d, owns (c : Thread nD τ) (st1_13 t) fullShare ((dat1 V c).before 13 t d)))

/-- and what it returns. -/
def post1 (c : Dev nD) (t : Fin cfg1.N) : sProp 𝕄 :=
  iprop((dat1 V c).Φ t.succ ∗ (dat1 V c).owesAt () t.succ ∗ owns (c : Thread nD τ) (st1_0 t) fullShare ((dat1 V c).after 0 t) ∗ owns (c : Thread nD τ) (st1_1 t) fullShare ((dat1 V c).after 1 t) ∗ owns (c : Thread nD τ) (st1_2 t) fullShare ((dat1 V c).after 2 t) ∗ owns (c : Thread nD τ) (st1_3 t) fullShare ((dat1 V c).after 3 t) ∗ owns (c : Thread nD τ) (st1_4 t) fullShare ((dat1 V c).after 4 t) ∗ owns (c : Thread nD τ) (st1_5 t) fullShare ((dat1 V c).after 5 t) ∗ owns (c : Thread nD τ) (st1_6 t) fullShare ((dat1 V c).after 6 t) ∗ owns (c : Thread nD τ) (st1_7 t) fullShare ((dat1 V c).after 7 t) ∗ owns (c : Thread nD τ) (st1_8 t) fullShare ((dat1 V c).after 8 t) ∗ owns (c : Thread nD τ) (st1_9 t) fullShare ((dat1 V c).after 9 t) ∗ owns (c : Thread nD τ) (st1_10 t) fullShare ((dat1 V c).after 10 t) ∗ owns (c : Thread nD τ) (st1_11 t) fullShare ((dat1 V c).after 11 t) ∗ owns (c : Thread nD τ) (st1_12 t) fullShare ((dat1 V c).after 12 t) ∗ owns (c : Thread nD τ) (st1_13 t) fullShare ((dat1 V c).after 13 t))

/-- The body at any point. -/
theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6, before1_7]
  rw [show (dat1 V c).Φ t.succ = Phi1 V c (t.val + 1) from rfl, Phi1_pos V c (Nat.succ_ne_zero _), car1_succ,
    show (dat1 V c).Φ t.castSucc = Phi1 V c t.val from rfl,
    show (dat1 V c).owesAt () t.succ = (dat1 V c).owesAt () t.castSucc from rfl,
    after1_0, after1_1, after1_2, after1_3, after1_4, after1_5, after1_6, after1_7, after1_8, after1_9, after1_10, after1_11, after1_12, after1_13]
  by_cases h0 : t.val % 4 = 0
  · rw [show ini1 V c t = entry zeroC from start1_first h0 _]
    by_cases hz : t.val = 0
    · rw [Phi1_zero V c hz, PhiA1_eq]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (body1_first c (grid1.coords t) _ _ _ _ _ _ _ _ _ _ _ _ _ _ _ _ _ _ _ _ _ _ _ _ _ _ _ _ _ _ ((first1_iff t).mpr h0) (inp1 V c 0 t) (inp1 V c 1 t) (inp1 V c 2 t) (inp1 V c 3 t) (inp1 V c 4 t) (inp1 V c 5 t) (inp1 V c 6 t) (inp1 V c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS]; · iexact HS
      iintro ⟨H0, H1, H2, H3, H4, H5, H6, H7, H8, H9, H10, H11, H12, H13, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · rw [Phi1_pos V c hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (body1_first c (grid1.coords t) _ _ _ _ _ _ _ _ _ _ _ _ _ _ _ _ _ _ _ _ _ _ _ _ _ _ _ _ _ _ ((first1_iff t).mpr h0) (inp1 V c 0 t) (inp1 V c 1 t) (inp1 V c 2 t) (inp1 V c 3 t) (inp1 V c 4 t) (inp1 V c 5 t) (inp1 V c 6 t) (inp1 V c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS]; · iexists _; iexact HS
      iintro ⟨H0, H1, H2, H3, H4, H5, H6, H7, H8, H9, H10, H11, H12, H13, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · rw [show ini1 V c t = entry (car1 V c t.val) from start1_later h0 _]
    rw [Phi1_pos V c (fun h => h0 (by rw [h]))]
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body1_later c (grid1.coords t) _ _ _ _ _ _ _ _ _ _ _ _ _ _ _ _ _ _ _ _ _ _ _ _ _ _ _ _ _ _ (fun h => h0 ((first1_iff t).mp h)) (inp1 V c 0 t) (inp1 V c 1 t) (inp1 V c 2 t) (inp1 V c 3 t) (inp1 V c 4 t) (inp1 V c 5 t) (inp1 V c 6 t) (inp1 V c 7 t) (car1 V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem row1 (t : Fin cfg1.N) :
    defs₀ (F := F) .tc cfg1.body (cfg1.bodyArgs t (cfg1.slots t)) = bodyAt1 t := by
  unfold defs₀; rw [Defs.onTc_tc]

theorem obligation1 (c : Dev nD) : BodyObligation (dat1 (F := F) V c) (defs₀ (F := F)) Variants.none () Set.univ := fun t => by
  rw [bigSep_W1, bigSep_W1, row1]
  exact triple_restated (point1 V c t) rfl .rfl fun _ => .rfl

end Cert.KernelIdeal.Scan

end
-- ==== Proof.Run.lean ====
/- The two calls one after the other: what every buffer holds when both have ended, and that every execution ends so. -/
module

public import proofs.«01_k».proof.Proof.FwdDat
public import proofs.«01_k».proof.Proof.BwdDat
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6]

/-- The buffers at the start. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- The buffers when the forward call has ended: its arrays at what its points leave, the others as before. -/
def W1 (c : Dev nD) : Valuation τ sig (Elt F) :=
  Pipeline.withArrays spec0 c (W0 m ρ c) fun w => (dat0 (V0 m ρ) c).arrAt w cfg0.N
abbrev V1 : (c : Dev nD) → (b : Ref sig .tc) → Buf (Elt F) ((c : Thread nD τ).loc b) := fun c b => W1 m ρ c b

theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

/-- An array the call only reads, or does not know, is as before. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (dat0_A (V0 m ρ) c w))
  · exact W1_of_ne m ρ c r fun w e => hw ⟨w, e⟩

theorem reads0 : ∀ a ∈ argRefs, ∀ w : Fin cfg0.W, Pipeline.arrRef spec0 w = a → (cfg0.win w).isOut = false :=
  ListAll.forall_mem_of_all_decide (by decide +kernel)

/-- The buffers when the backward call has ended: its arrays at what its points leave, the others as before. -/
def W2 (c : Dev nD) : Valuation τ sig (Elt F) :=
  Pipeline.withArrays spec1 c (W1 m ρ c) fun w => (dat1 (V1 m ρ) c).arrAt w cfg1.N
abbrev V2 : (c : Dev nD) → (b : Ref sig .tc) → Buf (Elt F) ((c : Thread nD τ).loc b) := fun c b => W2 m ρ c b

theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb

/-- An array the call only reads, or does not know, is as before. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (dat1_A (V1 m ρ) c w))
  · exact W2_of_ne m ρ c r fun w e => hw ⟨w, e⟩

theorem reads1 : ∀ a ∈ argRefs, ∀ w : Fin cfg1.W, Pipeline.arrRef spec1 w = a → (cfg1.win w).isOut = false :=
  ListAll.forall_mem_of_all_decide (by decide +kernel)

/-- Both calls leave the arguments as they were. -/
theorem W2_args (c : Dev nD) : ∀ a ∈ argRefs, W2 m ρ c (Proc.devRef .tc a) = m ((c : Thread nD τ).loc a) :=
  fun a ha => (W2_of m ρ c a (reads1 a ha)).trans (W1_of m ρ c a (reads0 a ha))

/-- The calls prefetch no table. -/
abbrev noTables : (p : Fin 2) → (pcfgs (F := F) p).Adm := fun p => (cfgs p).toPCfg_adm
/-- The data of both calls. -/
def pdats : (p : Fin 2) → (c : Dev nD) → Dat τ (Elt F) Unit ℕ (UR sig nD τ) ℕ (Pipeline.pin (pcfgs (F := F)) noTables p) c
  | ⟨0, _⟩ => fun c => dat0 (V0 m ρ) c
  | ⟨1, _⟩ => fun c => dat1 (V1 m ρ) c
/-- No core waits for another. -/
abbrev noLevel : GSem nD τ sig → Finset Unit := fun _ => ∅
/-- What goes along beside the buffers: the generator register, and nothing owed. -/
abbrev beside (c : Dev nD) : sProp 𝕄 := iprop((∃ r, prngReg c r) ∗ ∃ W, owes (c : Thread nD τ) (0 : CellTallies nD τ sig Unit) W)
/-- The end: every buffer at its last contents. -/
abbrev ended (c : Dev nD) : sProp 𝕄 := iprop(StableHlo.held (c : Thread nD τ) (Pipeline.ucRefs τ sig) (W2 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- a library lemma stated over the pinned configuration is applied at the printed one, so unification may unfold plain definitions
set_option backward.isDefEq.respectTransparency.types false in
/-- The forward call as a segment: its arrays out of the buffers and back, the generator register through its invariant. -/
def seg0 : Pipeline.RegionSeg (pcfgs (F := F)) noTables (pdats m ρ) () defs₀ Variants.none noLevel (fun _ _ => 0) 0 where
  win := launch0.win.to₀
  block_pos := launch0.block_pos
  stage_whole := launch0.stage_whole
  K := PEmpty
  osem k := k.elim
  ho := Pipeline.OwnSemFacts.none _
  hbody c := (obligation0 (V0 m ρ) c).loose
  hwaits := Pipeline.hwaits_of_owed_zero _ _ _ _ noLevel (fun _ _ => 0) 0 fun _ _ => rfl
  pre c := iprop(StableHlo.held (c : Thread nD τ) (Pipeline.ucRefs τ sig) (W0 m ρ c) ∗ beside c)
  post c := iprop(StableHlo.held (c : Thread nD τ) (Pipeline.ucRefs τ sig) (W1 m ρ c) ∗ beside c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hs := Pipeline.arrays_of_unscopedBufs (p := 0) (pcfgs (F := F)) noTables (pdats m ρ) launch0.win launch0.arr_whole c
      ((pdats m ρ 0 c).share_full fun _ => rfl) (V0 m ρ c) (dat0_A (V0 m ρ) c)
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (V0 m ρ) c 0 from rfl, Phi0_zero _ c rfl]; unfold Pipeline.ΦA
    iintro ⟨Hp, -, Hr⟩
    isplitl [Hr]; · iexact Hr
    iexact Hp
  hout c := by
    rw [Pipeline.ownSems0_none, show (pdats m ρ 0 c).Φ (Fin.last _) = Phi0 (V0 m ρ) c grid0.N from rfl]
    refine (Phi0_out _ c (by rw [N_0]; decide)).trans ?_
    unfold Pipeline.ΦA
    iintro ⟨Hr, Hp⟩
    isplitl [Hp]; · iexact Hp
    isplitr; · iempintro
    iexact Hr
  hexit c := by
    have hj := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (fun w => (W1_arr m ρ c w).symm)
      (fun b hb => W1_of_ne m ρ c b fun w e => hb (Finset.mem_image.mpr ⟨w, Finset.mem_univ _, e⟩))
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

-- a library lemma stated over the pinned configuration is applied at the printed one, so unification may unfold plain definitions
set_option backward.isDefEq.respectTransparency.types false in
/-- The backward call as a segment: its arrays out of the buffers and back, the generator register through its invariant. -/
def seg1 : Pipeline.RegionSeg (pcfgs (F := F)) noTables (pdats m ρ) () defs₀ Variants.none noLevel (fun _ _ => 0) 1 where
  win := launch1.win.to₀
  block_pos := launch1.block_pos
  stage_whole := launch1.stage_whole
  K := PEmpty
  osem k := k.elim
  ho := Pipeline.OwnSemFacts.none _
  hbody c := (obligation1 (V1 m ρ) c).loose
  hwaits := Pipeline.hwaits_of_owed_zero _ _ _ _ noLevel (fun _ _ => 0) 1 fun _ _ => rfl
  pre c := iprop(StableHlo.held (c : Thread nD τ) (Pipeline.ucRefs τ sig) (W1 m ρ c) ∗ beside c)
  post c := iprop(ended m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hs := Pipeline.arrays_of_unscopedBufs (p := 1) (pcfgs (F := F)) noTables (pdats m ρ) launch1.win launch1.arr_whole c
      ((pdats m ρ 1 c).share_full fun _ => rfl) (V1 m ρ c) (dat1_A (V1 m ρ) c)
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V1 m ρ) c 0 from rfl, Phi1_zero _ c rfl]; unfold Pipeline.ΦA
    iintro ⟨Hp, -, Hr⟩
    isplitl [Hr]; · iexact Hr
    iexact Hp
  hout c := by
    rw [Pipeline.ownSems0_none, show (pdats m ρ 1 c).Φ (Fin.last _) = Phi1 (V1 m ρ) c grid1.N from rfl]
    refine (Phi1_out _ c (by rw [N_1]; decide)).trans ?_
    unfold Pipeline.ΦA
    iintro ⟨Hr, Hp⟩
    isplitl [Hp]; · iexact Hp
    isplitr; · iempintro
    iexact Hr
  hexit c := by
    have hj := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (fun w => (W2_arr m ρ c w).symm)
      (fun b hb => W2_of_ne m ρ c b fun w e => hb (Finset.mem_image.mpr ⟨w, Finset.mem_univ _, e⟩))
    rw [Pipeline.unscopedBufs_held] at hj
    iintro ⟨Ha, HO, HY, Hrest⟩
    imodintro
    isplitl [Ha Hrest HY]
    · isplitl [Ha Hrest]
      · iapply hj; isplitl [Ha] <;> iassumption
      iexact HY
    unfold Pipeline.Dat.owesAt Pipeline.owesWithin
    icases HO with ⟨%W, -, HO⟩; iexists W; iexact HO

/-- The calls in order. -/
abbrev calls : List (Pipeline.Seg (pcfgs (F := F)) noTables (pdats m ρ) () defs₀ Variants.none noLevel (fun _ _ => 0)) :=
  [ .region (seg0 m ρ), .region (seg1 m ρ) ]
theorem main_calls (c : Dev nD) : main (F := F) c = Pipeline.Seg.run (calls m ρ) := (main_chain c).trans (by chain_rfl)

theorem all_scoped : ∀ sm : SemLoc sig, sm.isScoped .tc = true := by decide

-- the library lemma's implicit arguments are found by unifying its conclusion, which takes unfolding plain definitions
set_option backward.isDefEq.respectTransparency.types false in
/-- From any memory with every semaphore at zero every execution ends, with every buffer at `W2` and every semaphore at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W2 m ρ c b) ∧ r.2.sem = fun _ => 0) :=
  Pipeline.θ_run_regions_kit_sems (pcfgs (F := F)) noTables (pdats m ρ) () cellOf_inj emb₁ defs₀ Variants.none noLevel (fun _ _ => 0) m ρ main (calls m ρ)
    (fun c Q => by rw [main_calls m ρ c])
    (by simp only [calls, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := ended m ρ)
    (hch := ⟨fun _ => .rfl, fun _ => .rfl, fun _ => .rfl⟩)
    (hinit := by
      refine Pipeline.initEach noLevel (fun _ _ => 0) fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (all_scoped g.2))⟩)

/-- The argument arrays end as they were. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c _ (mem_uc main_arg0 (by decide))).trans (W2_args m ρ c main_arg0 (by decide)),
     (h.1 c _ (mem_uc main_arg1 (by decide))).trans (W2_args m ρ c main_arg1 (by decide)),
     (h.1 c _ (mem_uc main_arg2 (by decide))).trans (W2_args m ρ c main_arg2 (by decide)),
     (h.1 c _ (mem_uc main_arg3 (by decide))).trans (W2_args m ρ c main_arg3 (by decide)),
     (h.1 c _ (mem_uc main_arg4 (by decide))).trans (W2_args m ρ c main_arg4 (by decide)),
     (h.1 c _ (mem_uc main_arg5 (by decide))).trans (W2_args m ρ c main_arg5 (by decide)),
     (h.1 c _ (mem_uc main_arg6 (by decide))).trans (W2_args m ρ c main_arg6 (by decide))⟩, h.2⟩) (run_all m ρ)

end Cert.KernelIdeal.Scan

end
-- ==== Proof.Same.lean ====
/- The two programs have the same text: the kernels' bodies, and so the tables of bodies, are equal term by term. -/
module

public import Idealize.ShloMosaic.PureOps.BitExact
public import proofs.«01_k».proof.Proof.Gen.Kernel
public import proofs.«01_k».proof.Proof.Gen.KernelIdeal

@[expose] public section

set_option maxRecDepth 65536
set_option maxHeartbeats 0

noncomputable section

namespace Cert.Kernel.Same

open Idealize.ShloMosaic Idealize.SL.Sem

/-- The forward call's body. -/
theorem fwd_body : Cert.Kernel.cc0_gdn_scan_fwd (F := Bits) = Cert.KernelIdeal.cc0_gdn_scan_fwd (F := Bits) := rfl

/-- The backward call's body. -/
theorem bwd_body : Cert.Kernel.cc1_gdn_scan_bwd (F := Bits) = Cert.KernelIdeal.cc1_gdn_scan_bwd (F := Bits) := rfl

/-- The table of the two bodies. -/
theorem bodies : Cert.Kernel.defs₀ (F := Bits) = Cert.KernelIdeal.defs₀ := by
  unfold Cert.Kernel.defs₀ Cert.KernelIdeal.defs₀
  congr 1
  funext l x
  match l, x with
  | 0, (t, s) =>
    show Cert.Kernel.cc0_gdn_scan_fwd (F := Bits) _ _ _ _ _ _ _ _ _ _ _ _ _ _ _ _ _ _ _ = _
    rw [fwd_body]
    rfl
  | 1, (t, s) =>
    show Cert.Kernel.cc1_gdn_scan_bwd (F := Bits) _ _ _ _ _ _ _ _ _ _ _ _ _ _ _ _ _ _ _ _ _ _ _ _ _ _ _ _ _ _ _ = _
    rw [bwd_body]
    rfl
  | ⟨n + 2, h⟩, _ => exact absurd h (Nat.not_lt.2 (Nat.le_add_left _ _))

/-- The table with the pipelines. -/
theorem table : Cert.Kernel.defs (F := Bits) = Cert.KernelIdeal.defs :=
  congrArg (Pipeline.defs Cert.KernelIdeal.pcfgs) bodies

end Cert.Kernel.Same

end
-- ==== Proof.DownDw.lean ====
/- The weight gradient of the down projection, in values: the array the kernel returns is the reference's term over the
   same arguments. The kernel walks the 8192 rows in eight blocks of 1024 and keeps the partial sum in a scratch. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2.Frame
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel2Ideal.Product

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- The product of two blocks, at an index. -/
theorem part (a : FVec Ideal S1024x1024 .bf16) (b : FVec Ideal S1024x1024 .f32) (j : S1024x1024.Idx) :
    k0_pay1 (F := Ideal) a b j = ∑ k : Fin 1024, a (ix2 k (j 0)) * b (ix2 k (j 1)) := by
  pointwise [k0_pay1]

theorem pay2 (a : FVec Ideal S1024x1024 .bf16) (b : FVec Ideal S1024x1024 .f32) (j : S1024x1024.Idx) :
    k0_pay2 (F := Ideal) a b j = k0_pay1 (F := Ideal) a b j := by
  pointwise [k0_pay2]

theorem pay3 (a : FVec Ideal S1024x1024 .bf16) (b : FVec Ideal S1024x1024 .f32) (s : FVec Ideal S1024x1024 .f32) (j : S1024x1024.Idx) :
    k0_pay3 (F := Ideal) a b s j = s j + k0_pay1 (F := Ideal) a b j := by
  pointwise [k0_pay3]

theorem pay4 (a : FVec Ideal S1024x1024 .bf16) (b : FVec Ideal S1024x1024 .f32) (s : FVec Ideal S1024x1024 .f32) (j : S1024x1024.Idx) :
    k0_pay4 (F := Ideal) a b s j = s j + k0_pay1 (F := Ideal) a b j := by
  pointwise [k0_pay4]

/-- The product of the blocks of point `t`. -/
def term (c : Dev nD) (t : Fin cfg0.N) : S1024x1024.Idx → EReal := fun j =>
  k0_pay1 (F := Ideal) (iblk m c 0 t) (iblk m c 1 t) j

/-- The partial sum through point `n`: the scratch after it, and at the last point of a run the product not stored there. -/
def total (c : Dev nD) (n : ℕ) (h : n < cfg0.N) : S1024x1024.Idx → EReal := fun j =>
  if n % 8 = 7 then (show FVec Ideal S1024x1024 .f32 from (outsAt0 m c n h).2) j + term m c ⟨n, h⟩ j
  else (show FVec Ideal S1024x1024 .f32 from (outsAt0 m c n h).2) j

theorem total_first (c : Dev nD) (t : Fin cfg0.N) (h : t.val % 8 = 0) (j : S1024x1024.Idx) :
    total m c t.val t.isLt j = 0 + term m c t j := by
  have h1 : ¬(1 ≤ t.val % 8 ∧ t.val % 8 ≤ 6) := by omega
  have h2 : ¬t.val % 8 = 7 := by omega
  unfold total
  rw [if_neg h2, outsAt0_A m c t h h1 h2, zero_add]
  show (_ : EReal) = _
  frame_out
  exact pay2 _ _ j

theorem total_next (c : Dev nD) (t : Fin cfg0.N) (h : ¬t.val % 8 = 0) (j : S1024x1024.Idx) :
    total m c t.val t.isLt j
      = total m c (t.val - 1) (Nat.lt_of_le_of_lt (Nat.sub_le _ _) t.isLt) j + term m c t j := by
  have h3 : ¬(t.val - 1) % 8 = 7 := by omega
  by_cases h2 : t.val % 8 = 7
  · have h1 : ¬(1 ≤ t.val % 8 ∧ t.val % 8 ≤ 6) := by omega
    unfold total
    rw [if_pos h2, if_neg h3, outsAt0_C m c t h h1 h2]
    rfl
  · have h1 : 1 ≤ t.val % 8 ∧ t.val % 8 ≤ 6 := by omega
    unfold total
    rw [if_neg h2, if_neg h3, outsAt0_B m c t h h1 h2]
    show (_ : EReal) = _
    frame_out
    rw [read_unread_whole]
    exact pay3 _ _ _ j

/-- What the last point of a run leaves in the output's buffer. -/
theorem out_last (c : Dev nD) (t : Fin cfg0.N) (h2 : t.val % 8 = 7) (j : S1024x1024.Idx) :
    (show FVec Ideal S1024x1024 .bf16 from (outsAt0 m c t.val t.isLt).1) j = total m c t.val t.isLt j := by
  have h : ¬t.val % 8 = 0 := by omega
  have h1 : ¬(1 ≤ t.val % 8 ∧ t.val % 8 ≤ 6) := by omega
  rw [total_next m c t h j]
  have h3 : ¬(t.val - 1) % 8 = 7 := by omega
  unfold total
  rw [if_neg h3, outsAt0_C m c t h h1 h2]
  show (_ : EReal) = _
  frame_out
  rw [read_unread_whole]
  exact pay4 _ _ _ j

/-- The reference's result over the kernel's arguments. -/
abbrev ref (x0 : FVec Ideal S8192x4096 .bf16) (x1 : FVec Ideal S8192x1024 .f32) : FVec Ideal S4096x1024 .bf16 :=
  Cert.Reference2Ideal.Read.val_main_v6 (F := Ideal) x0 x1

/-- The reference's result at an index: one sum over the rows. -/
theorem ref_at (x0 : FVec Ideal S8192x4096 .bf16) (x1 : FVec Ideal S8192x1024 .f32) (j : S4096x1024.Idx) :
    ref x0 x1 j = ∑ k : Fin 8192, x0 (ix2 k (j 0)) * x1 (ix2 k (j 1)) := by
  unfold ref
  rw [Cert.Reference2Ideal.Read.val_main_v6_apply, Cert.Reference2Ideal.Read.val_main_v5_apply]
  refine (Cert.Reference2Ideal.Read.val_main_v4_apply x0 x1 _).trans ?_
  refine Finset.sum_congr rfl fun k _ => ?_
  rw [mul_comm]
  blk_point

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  refine Eq.trans (out_last m c t ((flush0_2 t).mp hf) y) ?_
  rw [Pipeline.eq_sum_fin_of_reset_step_apply_of_flush (fun n h => total m c n h) 8 (fun _ => 0) (term m c)
    (total_first m c) (total_next m c) t ((flush0_2 t).mp hf) y, zero_add, ref_at]
  simp only [term, part]
  refine Fin.sum_mul_add_congr fun s k hl => ?_
  blk_point [iblk, V, idx t, idx ⟨_, Pipeline.run_point_lt_of_flush t ((flush0_2 t).mp hf) s⟩]

theorem result (c : Dev nD) : Cert.Kernel2Ideal.Value.G2 m c
    = ref (m ((c : Thread nD τ).loc main_arg0)) (m ((c : Thread nD τ).loc main_arg1)) :=
  (Cert.Kernel2Ideal.Value.final2 m c).symm.trans (final m c)

end Cert.Kernel2Ideal.Product

namespace Cert.DownDw

open Idealize.ShloMosaic Idealize.SL.Sem

theorem frame_ideal : Cert.quiescent_Kernel2Ideal := fun m ρ _ => Cert.Kernel2Ideal.Gen.frame m ρ

theorem frame_kernel : Cert.quiescent_Kernel2 := fun m ρ _ =>
  Cert.Kernel2.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem algebraic : Cert.algebraic_Kernel2Ideal_Reference2Ideal := fun m ρ m' ρ' _ hag =>
  ⟨fun c => Cert.Kernel2Ideal.Value.G2 m c, Cert.Kernel2Ideal.Value.run m ρ,
    (θ_run _ _ _).mono (fun _ h c => ⟨(h c).1.trans (by
      rw [(hag c).1, (hag c).2]; exact (Cert.Kernel2Ideal.Product.result m c).symm), (h c).2⟩) (Cert.Reference2Ideal.Value.run m' ρ')⟩

end Cert.DownDw

end
-- ==== Proof.DownDx.lean ====
/- The gradient the down projection hands its input, through the squared ReLU, in values: the array the kernel returns is the
   reference's term over the same arguments. The kernel has the squared ReLU and takes its derivative from it, as twice its
   square root. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3.Frame
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel3Ideal.Product

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- Twice the square root of a squared ReLU is twice the ReLU, and 0 where the argument is not positive. -/
theorem slope (u d two : EReal) :
    d * (two * Ideal.sqrt (max u 0 * max u 0)) = if 0 < u then d * (two * max u 0) else 0 := by
  have hs : Ideal.sqrt (max u 0 * max u 0) = max u 0 := by
    rcases le_total u 0 with h | h
    · rw [max_eq_right h, mul_zero]
      show (if (0 : ℝ) < 0 then (⊥ : EReal) else ((Real.sqrt 0 : ℝ) : EReal)) = 0
      simp
    · rw [max_eq_left h]
      induction u using EReal.rec with
      | bot => exact absurd h (by simp)
      | top =>
        rw [EReal.top_mul_top]
        rfl
      | coe r =>
        have hr : 0 ≤ r := by exact_mod_cast h
        rw [← EReal.coe_mul]
        show (if r * r < 0 then (⊥ : EReal) else ((Real.sqrt (r * r) : ℝ) : EReal)) = r
        rw [if_neg (not_lt.2 (mul_self_nonneg r)), Real.sqrt_mul_self hr]
  rw [hs]
  split
  · rfl
  · next h => rw [max_eq_right (not_lt.1 h), mul_zero, mul_zero]

/-- What a point stores: the product of its blocks times twice the square root of the squared ReLU's block. -/
theorem pay (a : FVec Ideal S1024x1024 .f32) (b : FVec Ideal S1024x1024 .bf16) (r : FVec Ideal S1024x1024 .bf16) (j : S1024x1024.Idx) :
    k0_pay1 (F := Ideal) a b r j
      = (∑ k : Fin 1024, a (ix2 (j 0) k) * b (ix2 (j 1) k)) * (Ideal.ofBits .f32 0x40000000#32 * Ideal.sqrt (r j)) := by
  pointwise [k0_pay1]

/-- The squared ReLU of an array. -/
def square (x : FVec Ideal S8192x4096 .bf16) : FVec Ideal S8192x4096 .bf16 := fun j => max (x j) 0 * max (x j) 0

/-- The array of the squared ReLU the call is given. -/
theorem given (c : Dev nD) : V m c main_v3 = square (m ((c : Thread nD τ).loc main_arg0)) := by
  show StableHlo.after _ _ _ = _
  simp only [List.flatten_cons, List.flatten_nil, List.append_nil, hostOps0, hostOps0_1, hostOps0_2, List.cons_append, List.nil_append]
  after_results
  have h : ∀ x : FVec Ideal S8192x4096 .bf16, (truncf .bf16 (mulf
      (maximumf (extf .f32 x bitsLt_bf16_f32) (broadcastInDim S8192x4096 ![] bcast_S_S8192x4096 (constant S_ .f32 0x00000000#32)))
      (maximumf (extf .f32 x bitsLt_bf16_f32) (broadcastInDim S8192x4096 ![] bcast_S_S8192x4096 (constant S_ .f32 0x00000000#32))))
      bitsLt_bf16_f32 : FVec Ideal S8192x4096 .bf16) = square x := by
    intro x
    funext j
    pointwise [square]
  exact h _

/-- The reference's result over the kernel's arguments. -/
abbrev ref (x0 : FVec Ideal S8192x4096 .bf16) (x1 : FVec Ideal S4096x1024 .bf16) (x2 : FVec Ideal S8192x1024 .f32) :
    FVec Ideal S8192x4096 .bf16 :=
  Cert.Reference3Ideal.Read.val_main_v14 (F := Ideal) x0 x1 x2

/-- The reference's result at an index. -/
theorem ref_at (x0 : FVec Ideal S8192x4096 .bf16) (x1 : FVec Ideal S4096x1024 .bf16) (x2 : FVec Ideal S8192x1024 .f32)
    (j : S8192x4096.Idx) : ref x0 x1 x2 j
      = (∑ k : Fin 1024, x2 (ix2 (j 0) k) * x1 (ix2 (j 1) k)) * (Ideal.ofBits .f32 0x40000000#32 * Ideal.sqrt (square x0 j)) := by
  refine Eq.trans ?_ (slope (x0 j) _ _).symm
  unfold ref
  rw [← Cert.Reference3Ideal.Read.val_main_v14_eq]
  pointwise

theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [ref_at]
  refine (pay _ _ _ y).trans ?_
  have h2 : (iblk m c 2 t : FVec Ideal S1024x1024 .bf16) y
      = square (m ((c : Thread nD τ).loc main_arg0)) (((cfg0.win 3).blk t).view.emb y) := by
    rw [← given]
    blk_simp [iblk]
    blk_ext [idx t]
  rw [h2]
  congr 1
  refine Finset.sum_congr rfl fun k _ => ?_
  blk_point [iblk, V, idx t]

end Cert.Kernel3Ideal.Product

namespace Cert.DownDx

open Idealize.ShloMosaic Idealize.SL.Sem

theorem frame_ideal : Cert.quiescent_Kernel3Ideal := fun m ρ _ => Cert.Kernel3Ideal.Gen.frame m ρ

theorem frame_kernel : Cert.quiescent_Kernel3 := fun m ρ _ =>
  Cert.Kernel3.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem algebraic : Cert.algebraic_Kernel3Ideal_Reference3Ideal := fun m ρ m' ρ' _ hag =>
  ⟨fun c => (Cert.Kernel3Ideal.Gen.dats m 0 c).arrAt 3 Cert.Kernel3Ideal.cfg0.N, Cert.Kernel3Ideal.Value.run_blocks m ρ,
    (θ_run _ _ _).mono (fun _ h c => ⟨(h c).1.trans (by
      rw [(hag c).1, (hag c).2.1, (hag c).2.2]; exact (Cert.Kernel3Ideal.Product.final m c).symm), (h c).2⟩)
      (Cert.Reference3Ideal.Value.run m' ρ')⟩

end Cert.DownDx

end
-- ==== Proof.UpDw.lean ====
/- The weight gradient of the up projection, in values: the array the kernel returns is the reference's term over the
   same arguments. The kernel walks the 8192 rows in eight blocks of 1024 and keeps the partial sum in a scratch. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4.Frame
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel4Ideal.Product

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The product of two blocks, at an index. -/
theorem part (a : FVec Ideal S1024x1024 .bf16) (b : FVec Ideal S1024x1024 .bf16) (j : S1024x1024.Idx) :
    k0_pay1 (F := Ideal) a b j = ∑ k : Fin 1024, a (ix2 k (j 0)) * b (ix2 k (j 1)) := by
  pointwise [k0_pay1]

theorem pay2 (a : FVec Ideal S1024x1024 .bf16) (b : FVec Ideal S1024x1024 .bf16) (j : S1024x1024.Idx) :
    k0_pay2 (F := Ideal) a b j = k0_pay1 (F := Ideal) a b j := by
  pointwise [k0_pay2]

theorem pay3 (a : FVec Ideal S1024x1024 .bf16) (b : FVec Ideal S1024x1024 .bf16) (s : FVec Ideal S1024x1024 .f32) (j : S1024x1024.Idx) :
    k0_pay3 (F := Ideal) a b s j = s j + k0_pay1 (F := Ideal) a b j := by
  pointwise [k0_pay3]

theorem pay4 (a : FVec Ideal S1024x1024 .bf16) (b : FVec Ideal S1024x1024 .bf16) (s : FVec Ideal S1024x1024 .f32) (j : S1024x1024.Idx) :
    k0_pay4 (F := Ideal) a b s j = s j + k0_pay1 (F := Ideal) a b j := by
  pointwise [k0_pay4]

/-- The product of the blocks of point `t`. -/
def term (c : Dev nD) (t : Fin cfg0.N) : S1024x1024.Idx → EReal := fun j =>
  k0_pay1 (F := Ideal) (iblk m c 0 t) (iblk m c 1 t) j

/-- The partial sum through point `n`: the scratch after it, and at the last point of a run the product not stored there. -/
def total (c : Dev nD) (n : ℕ) (h : n < cfg0.N) : S1024x1024.Idx → EReal := fun j =>
  if n % 8 = 7 then (show FVec Ideal S1024x1024 .f32 from (outsAt0 m c n h).2) j + term m c ⟨n, h⟩ j
  else (show FVec Ideal S1024x1024 .f32 from (outsAt0 m c n h).2) j

theorem total_first (c : Dev nD) (t : Fin cfg0.N) (h : t.val % 8 = 0) (j : S1024x1024.Idx) :
    total m c t.val t.isLt j = 0 + term m c t j := by
  have h1 : ¬(1 ≤ t.val % 8 ∧ t.val % 8 ≤ 6) := by omega
  have h2 : ¬t.val % 8 = 7 := by omega
  unfold total
  rw [if_neg h2, outsAt0_A m c t h h1 h2, zero_add]
  show (_ : EReal) = _
  frame_out
  exact pay2 _ _ j

theorem total_next (c : Dev nD) (t : Fin cfg0.N) (h : ¬t.val % 8 = 0) (j : S1024x1024.Idx) :
    total m c t.val t.isLt j
      = total m c (t.val - 1) (Nat.lt_of_le_of_lt (Nat.sub_le _ _) t.isLt) j + term m c t j := by
  have h3 : ¬(t.val - 1) % 8 = 7 := by omega
  by_cases h2 : t.val % 8 = 7
  · have h1 : ¬(1 ≤ t.val % 8 ∧ t.val % 8 ≤ 6) := by omega
    unfold total
    rw [if_pos h2, if_neg h3, outsAt0_C m c t h h1 h2]
    rfl
  · have h1 : 1 ≤ t.val % 8 ∧ t.val % 8 ≤ 6 := by omega
    unfold total
    rw [if_neg h2, if_neg h3, outsAt0_B m c t h h1 h2]
    show (_ : EReal) = _
    frame_out
    rw [read_unread_whole]
    exact pay3 _ _ _ j

/-- What the last point of a run leaves in the output's buffer. -/
theorem out_last (c : Dev nD) (t : Fin cfg0.N) (h2 : t.val % 8 = 7) (j : S1024x1024.Idx) :
    (show FVec Ideal S1024x1024 .bf16 from (outsAt0 m c t.val t.isLt).1) j = total m c t.val t.isLt j := by
  have h : ¬t.val % 8 = 0 := by omega
  have h1 : ¬(1 ≤ t.val % 8 ∧ t.val % 8 ≤ 6) := by omega
  rw [total_next m c t h j]
  have h3 : ¬(t.val - 1) % 8 = 7 := by omega
  unfold total
  rw [if_neg h3, outsAt0_C m c t h h1 h2]
  show (_ : EReal) = _
  frame_out
  rw [read_unread_whole]
  exact pay4 _ _ _ j

/-- The reference's result over the kernel's arguments. -/
abbrev ref (x0 : FVec Ideal S8192x1024 .bf16) (x1 : FVec Ideal S8192x4096 .bf16) : FVec Ideal S1024x4096 .bf16 :=
  Cert.Reference4Ideal.Read.val_main_v7 (F := Ideal) x0 x1

/-- The reference's result at an index: one sum over the rows. -/
theorem ref_at (x0 : FVec Ideal S8192x1024 .bf16) (x1 : FVec Ideal S8192x4096 .bf16) (j : S1024x4096.Idx) :
    ref x0 x1 j = ∑ k : Fin 8192, x0 (ix2 k (j 0)) * x1 (ix2 k (j 1)) := by
  unfold ref
  rw [Cert.Reference4Ideal.Read.val_main_v7_apply, Cert.Reference4Ideal.Read.val_main_v6_apply]
  refine (Cert.Reference4Ideal.Read.val_main_v5_apply x0 x1 _).trans ?_
  refine Finset.sum_congr rfl fun k _ => ?_
  rw [mul_comm]
  blk_point

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  refine Eq.trans (out_last m c t ((flush0_2 t).mp hf) y) ?_
  rw [Pipeline.eq_sum_fin_of_reset_step_apply_of_flush (fun n h => total m c n h) 8 (fun _ => 0) (term m c)
    (total_first m c) (total_next m c) t ((flush0_2 t).mp hf) y, zero_add, ref_at]
  simp only [term, part]
  refine Fin.sum_mul_add_congr fun s k hl => ?_
  blk_point [iblk, V, idx t, idx ⟨_, Pipeline.run_point_lt_of_flush t ((flush0_2 t).mp hf) s⟩]

theorem result (c : Dev nD) : Cert.Kernel4Ideal.Value.G2 m c
    = ref (m ((c : Thread nD τ).loc main_arg0)) (m ((c : Thread nD τ).loc main_arg1)) :=
  (Cert.Kernel4Ideal.Value.final2 m c).symm.trans (final m c)

end Cert.Kernel4Ideal.Product

namespace Cert.UpDw

open Idealize.ShloMosaic Idealize.SL.Sem

theorem frame_ideal : Cert.quiescent_Kernel4Ideal := fun m ρ _ => Cert.Kernel4Ideal.Gen.frame m ρ

theorem frame_kernel : Cert.quiescent_Kernel4 := fun m ρ _ =>
  Cert.Kernel4.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem algebraic : Cert.algebraic_Kernel4Ideal_Reference4Ideal := fun m ρ m' ρ' _ hag =>
  ⟨fun c => Cert.Kernel4Ideal.Value.G2 m c, Cert.Kernel4Ideal.Value.run m ρ,
    (θ_run _ _ _).mono (fun _ h c => ⟨(h c).1.trans (by
      rw [(hag c).1, (hag c).2]; exact (Cert.Kernel4Ideal.Product.result m c).symm), (h c).2⟩) (Cert.Reference4Ideal.Value.run m' ρ')⟩

end Cert.UpDw

end
-- ==== Proof.UpDx.lean ====
/- The gradient the up projection hands its input, in values: the array the kernel returns is the reference's term over the
   same arguments. The kernel walks the 4096 columns in four blocks of 1024 and keeps the partial sum in a scratch. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5.Frame
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel5Ideal.Product

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val / 4, t.val % 4] ∧ win0_1.index t = ![0, t.val % 4]
    ∧ win0_2.index t = ![t.val / 4, 0] :=
  (by decide +kernel : ∀ t : Fin grid0.N, _)

/-- The product of two blocks, at an index. -/
theorem part (a : FVec Ideal S1024x1024 .bf16) (b : FVec Ideal S1024x1024 .bf16) (j : S1024x1024.Idx) :
    k0_pay1 (F := Ideal) a b j = ∑ k : Fin 1024, a (ix2 (j 0) k) * b (ix2 (j 1) k) := by
  pointwise [k0_pay1]

theorem pay2 (a : FVec Ideal S1024x1024 .bf16) (b : FVec Ideal S1024x1024 .bf16) (j : S1024x1024.Idx) :
    k0_pay2 (F := Ideal) a b j = k0_pay1 (F := Ideal) a b j := by
  pointwise [k0_pay2]

theorem pay3 (a : FVec Ideal S1024x1024 .bf16) (b : FVec Ideal S1024x1024 .bf16) (s : FVec Ideal S1024x1024 .f32) (j : S1024x1024.Idx) :
    k0_pay3 (F := Ideal) a b s j = s j + k0_pay1 (F := Ideal) a b j := by
  pointwise [k0_pay3]

theorem pay4 (a : FVec Ideal S1024x1024 .bf16) (b : FVec Ideal S1024x1024 .bf16) (s : FVec Ideal S1024x1024 .f32) (j : S1024x1024.Idx) :
    k0_pay4 (F := Ideal) a b s j = s j + k0_pay1 (F := Ideal) a b j := by
  pointwise [k0_pay4]

/-- The product of the blocks of point `t`. -/
def term (c : Dev nD) (t : Fin cfg0.N) : S1024x1024.Idx → EReal := fun j =>
  k0_pay1 (F := Ideal) (iblk m c 0 t) (iblk m c 1 t) j

/-- The partial sum through point `n`: the scratch after it, and at the last point of a run the product not stored there. -/
def total (c : Dev nD) (n : ℕ) (h : n < cfg0.N) : S1024x1024.Idx → EReal := fun j =>
  if n % 4 = 3 then (show FVec Ideal S1024x1024 .f32 from (outsAt0 m c n h).2) j + term m c ⟨n, h⟩ j
  else (show FVec Ideal S1024x1024 .f32 from (outsAt0 m c n h).2) j

theorem total_first (c : Dev nD) (t : Fin cfg0.N) (h : t.val % 4 = 0) (j : S1024x1024.Idx) :
    total m c t.val t.isLt j = 0 + term m c t j := by
  have h1 : ¬(1 ≤ t.val % 4 ∧ t.val % 4 ≤ 2) := by omega
  have h2 : ¬t.val % 4 = 3 := by omega
  unfold total
  rw [if_neg h2, outsAt0_A m c t h h1 h2, zero_add]
  show (_ : EReal) = _
  frame_out
  exact pay2 _ _ j

theorem total_next (c : Dev nD) (t : Fin cfg0.N) (h : ¬t.val % 4 = 0) (j : S1024x1024.Idx) :
    total m c t.val t.isLt j
      = total m c (t.val - 1) (Nat.lt_of_le_of_lt (Nat.sub_le _ _) t.isLt) j + term m c t j := by
  have h3 : ¬(t.val - 1) % 4 = 3 := by omega
  by_cases h2 : t.val % 4 = 3
  · have h1 : ¬(1 ≤ t.val % 4 ∧ t.val % 4 ≤ 2) := by omega
    unfold total
    rw [if_pos h2, if_neg h3, outsAt0_C m c t h h1 h2]
    rfl
  · have h1 : 1 ≤ t.val % 4 ∧ t.val % 4 ≤ 2 := by omega
    unfold total
    rw [if_neg h2, if_neg h3, outsAt0_B m c t h h1 h2]
    show (_ : EReal) = _
    frame_out
    rw [read_unread_whole]
    exact pay3 _ _ _ j

/-- What the last point of a run leaves in the output's buffer. -/
theorem out_last (c : Dev nD) (t : Fin cfg0.N) (h2 : t.val % 4 = 3) (j : S1024x1024.Idx) :
    (show FVec Ideal S1024x1024 .f32 from (outsAt0 m c t.val t.isLt).1) j = total m c t.val t.isLt j := by
  have h : ¬t.val % 4 = 0 := by omega
  have h1 : ¬(1 ≤ t.val % 4 ∧ t.val % 4 ≤ 2) := by omega
  rw [total_next m c t h j]
  have h3 : ¬(t.val - 1) % 4 = 3 := by omega
  unfold total
  rw [if_neg h3, outsAt0_C m c t h h1 h2]
  show (_ : EReal) = _
  frame_out
  rw [read_unread_whole]
  exact pay4 _ _ _ j

/-- The reference's result over the kernel's arguments. -/
abbrev ref (x0 : FVec Ideal S8192x4096 .bf16) (x1 : FVec Ideal S1024x4096 .bf16) : FVec Ideal S8192x1024 .f32 :=
  Cert.Reference5Ideal.Read.val_main_v4 (F := Ideal) x0 x1

/-- The reference's result at an index: one sum over the rows. -/
theorem ref_at (x0 : FVec Ideal S8192x4096 .bf16) (x1 : FVec Ideal S1024x4096 .bf16) (j : S8192x1024.Idx) :
    ref x0 x1 j = ∑ k : Fin 4096, x0 (ix2 (j 0) k) * x1 (ix2 (j 1) k) := by
  unfold ref
  refine (Cert.Reference5Ideal.Read.val_main_v4_apply x0 x1 _).trans ?_
  refine Finset.sum_congr rfl fun k _ => ?_
  blk_point

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  refine Eq.trans (out_last m c t ((flush0_2 t).mp hf) y) ?_
  rw [Pipeline.eq_sum_fin_of_reset_step_apply_of_flush (fun n h => total m c n h) 4 (fun _ => 0) (term m c)
    (total_first m c) (total_next m c) t ((flush0_2 t).mp hf) y, zero_add, ref_at]
  simp only [term, part]
  refine Fin.sum_mul_add_congr fun s k hl => ?_
  blk_point [iblk, V, idx t, idx ⟨_, Pipeline.run_point_lt_of_flush t ((flush0_2 t).mp hf) s⟩]

theorem result (c : Dev nD) : Cert.Kernel5Ideal.Value.G2 m c
    = ref (m ((c : Thread nD τ).loc main_arg0)) (m ((c : Thread nD τ).loc main_arg1)) :=
  (Cert.Kernel5Ideal.Value.final2 m c).symm.trans (final m c)

end Cert.Kernel5Ideal.Product

namespace Cert.UpDx

open Idealize.ShloMosaic Idealize.SL.Sem

theorem frame_ideal : Cert.quiescent_Kernel5Ideal := fun m ρ _ => Cert.Kernel5Ideal.Gen.frame m ρ

theorem frame_kernel : Cert.quiescent_Kernel5 := fun m ρ _ =>
  Cert.Kernel5.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem algebraic : Cert.algebraic_Kernel5Ideal_Reference5Ideal := fun m ρ m' ρ' _ hag =>
  ⟨fun c => Cert.Kernel5Ideal.Value.G2 m c, Cert.Kernel5Ideal.Value.run m ρ,
    (θ_run _ _ _).mono (fun _ h c => ⟨(h c).1.trans (by
      rw [(hag c).1, (hag c).2]; exact (Cert.Kernel5Ideal.Product.result m c).symm), (h c).2⟩) (Cert.Reference5Ideal.Value.run m' ρ')⟩

end Cert.UpDx

end
-- ==== Proof.OutDw.lean ====
/- The weight gradient of the output projection, in values: the array the kernel
   returns is the reference's term over the same arguments. The kernel walks the 8192 rows in eight blocks of 1024
   and keeps the partial sum in a scratch. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6.Frame
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel6Ideal.Product

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val % 8, 0] ∧ win0_1.index t = ![t.val % 8, 0] ∧ win0_2.index t = ![0, 0] :=
  (by decide +kernel : ∀ t : Fin grid0.N, _)

/-- The product of two blocks, at an index. -/
theorem part (a : FVec Ideal S1024x1024 .bf16) (b : FVec Ideal S1024x1024 .f32) (j : S1024x1024.Idx) :
    k0_pay1 (F := Ideal) a b j = ∑ k : Fin 1024, a (ix2 k (j 0)) * b (ix2 k (j 1)) := by
  pointwise [k0_pay1]

theorem pay2 (a : FVec Ideal S1024x1024 .bf16) (b : FVec Ideal S1024x1024 .f32) (j : S1024x1024.Idx) :
    k0_pay2 (F := Ideal) a b j = k0_pay1 (F := Ideal) a b j := by
  pointwise [k0_pay2]

theorem pay3 (a : FVec Ideal S1024x1024 .bf16) (b : FVec Ideal S1024x1024 .f32) (s : FVec Ideal S1024x1024 .f32) (j : S1024x1024.Idx) :
    k0_pay3 (F := Ideal) a b s j = s j + k0_pay1 (F := Ideal) a b j := by
  pointwise [k0_pay3]

theorem pay4 (a : FVec Ideal S1024x1024 .bf16) (b : FVec Ideal S1024x1024 .f32) (s : FVec Ideal S1024x1024 .f32) (j : S1024x1024.Idx) :
    k0_pay4 (F := Ideal) a b s j = s j + k0_pay1 (F := Ideal) a b j := by
  pointwise [k0_pay4]

/-- The product of the blocks of point `t`. -/
def term (c : Dev nD) (t : Fin cfg0.N) : S1024x1024.Idx → EReal := fun j =>
  k0_pay1 (F := Ideal) (iblk m c 0 t) (iblk m c 1 t) j

/-- The partial sum through point `n`: the scratch after it, and at the last point of a run the product not stored there. -/
def total (c : Dev nD) (n : ℕ) (h : n < cfg0.N) : S1024x1024.Idx → EReal := fun j =>
  if n % 8 = 7 then (show FVec Ideal S1024x1024 .f32 from (outsAt0 m c n h).2) j + term m c ⟨n, h⟩ j
  else (show FVec Ideal S1024x1024 .f32 from (outsAt0 m c n h).2) j

theorem total_first (c : Dev nD) (t : Fin cfg0.N) (h : t.val % 8 = 0) (j : S1024x1024.Idx) :
    total m c t.val t.isLt j = 0 + term m c t j := by
  have h1 : ¬(1 ≤ t.val % 8 ∧ t.val % 8 ≤ 6) := by omega
  have h2 : ¬t.val % 8 = 7 := by omega
  unfold total
  rw [if_neg h2, outsAt0_A m c t h h1 h2, zero_add]
  show (_ : EReal) = _
  frame_out
  exact pay2 _ _ j

theorem total_next (c : Dev nD) (t : Fin cfg0.N) (h : ¬t.val % 8 = 0) (j : S1024x1024.Idx) :
    total m c t.val t.isLt j
      = total m c (t.val - 1) (Nat.lt_of_le_of_lt (Nat.sub_le _ _) t.isLt) j + term m c t j := by
  have h3 : ¬(t.val - 1) % 8 = 7 := by omega
  by_cases h2 : t.val % 8 = 7
  · have h1 : ¬(1 ≤ t.val % 8 ∧ t.val % 8 ≤ 6) := by omega
    unfold total
    rw [if_pos h2, if_neg h3, outsAt0_C m c t h h1 h2]
    rfl
  · have h1 : 1 ≤ t.val % 8 ∧ t.val % 8 ≤ 6 := by omega
    unfold total
    rw [if_neg h2, if_neg h3, outsAt0_B m c t h h1 h2]
    show (_ : EReal) = _
    frame_out
    rw [read_unread_whole]
    exact pay3 _ _ _ j

/-- What the last point of a run leaves in the output's buffer. -/
theorem out_last (c : Dev nD) (t : Fin cfg0.N) (h2 : t.val % 8 = 7) (j : S1024x1024.Idx) :
    (show FVec Ideal S1024x1024 .bf16 from (outsAt0 m c t.val t.isLt).1) j = total m c t.val t.isLt j := by
  have h : ¬t.val % 8 = 0 := by omega
  have h1 : ¬(1 ≤ t.val % 8 ∧ t.val % 8 ≤ 6) := by omega
  rw [total_next m c t h j]
  have h3 : ¬(t.val - 1) % 8 = 7 := by omega
  unfold total
  rw [if_neg h3, outsAt0_C m c t h h1 h2]
  show (_ : EReal) = _
  frame_out
  rw [read_unread_whole]
  exact pay4 _ _ _ j

/-- The reference's result over the kernel's arguments. -/
abbrev ref (x0 : FVec Ideal S8192x1024 .bf16) (x1 : FVec Ideal S8192x1024 .f32) : FVec Ideal S1024x1024 .bf16 :=
  Cert.Reference6Ideal.Read.val_main_v6 (F := Ideal) x0 x1

/-- The reference's result at an index: one sum over the rows. -/
theorem ref_at (x0 : FVec Ideal S8192x1024 .bf16) (x1 : FVec Ideal S8192x1024 .f32) (j : S1024x1024.Idx) :
    ref x0 x1 j = ∑ k : Fin 8192, x0 (ix2 k (j 0)) * x1 (ix2 k (j 1)) := by
  unfold ref
  rw [Cert.Reference6Ideal.Read.val_main_v6_apply, Cert.Reference6Ideal.Read.val_main_v5_apply]
  refine (Cert.Reference6Ideal.Read.val_main_v4_apply x0 x1 _).trans ?_
  refine Finset.sum_congr rfl fun k _ => ?_
  rw [mul_comm]
  blk_point

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  refine Eq.trans (out_last m c t ((flush0_2 t).mp hf) y) ?_
  rw [Pipeline.eq_sum_fin_of_reset_step_apply_of_flush (fun n h => total m c n h) 8 (fun _ => 0) (term m c)
    (total_first m c) (total_next m c) t ((flush0_2 t).mp hf) y, zero_add, ref_at]
  simp only [term, part]
  refine Fin.sum_mul_add_congr fun s k hl => ?_
  blk_point [iblk, V, idx t, idx ⟨_, Pipeline.run_point_lt_of_flush t ((flush0_2 t).mp hf) s⟩]

theorem result (c : Dev nD) : Cert.Kernel6Ideal.Value.G2 m c
    = ref (m ((c : Thread nD τ).loc main_arg0)) (m ((c : Thread nD τ).loc main_arg1)) :=
  (Cert.Kernel6Ideal.Value.final2 m c).symm.trans (final m c)

end Cert.Kernel6Ideal.Product

namespace Cert.OutDw

open Idealize.ShloMosaic Idealize.SL.Sem

theorem frame_ideal : Cert.quiescent_Kernel6Ideal := fun m ρ _ => Cert.Kernel6Ideal.Gen.frame m ρ

theorem frame_kernel : Cert.quiescent_Kernel6 := fun m ρ _ =>
  Cert.Kernel6.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem algebraic : Cert.algebraic_Kernel6Ideal_Reference6Ideal := fun m ρ m' ρ' _ hag =>
  ⟨fun c => Cert.Kernel6Ideal.Value.G2 m c, Cert.Kernel6Ideal.Value.run m ρ,
    (θ_run _ _ _).mono (fun _ h c => ⟨(h c).1.trans (by
      rw [(hag c).1, (hag c).2]; exact (Cert.Kernel6Ideal.Product.result m c).symm), (h c).2⟩) (Cert.Reference6Ideal.Value.run m' ρ')⟩

end Cert.OutDw

end
-- ==== Proof.OutDx.lean ====
/- The gradient the output projection hands its input, in values: the array the kernel
   returns is the reference's term over the same arguments. One block of 1024 columns, one product a point. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel7.Frame
public import Idealize.ShloMosaic.Lib.Pipeline.ValueKit
public import Idealize.ShloMosaic.Adequacy
public import Idealize.ShloMosaic.Init

@[expose] public section

set_option maxRecDepth 16384

noncomputable section

namespace Cert.Kernel7Ideal.Product

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val, 0] ∧ win0_1.index t = ![0, 0] ∧ win0_2.index t = ![t.val, 0] :=
  (by decide +kernel : ∀ t : Fin grid0.N, _)

/-- What a point stores, at an index. -/
theorem pay (a : FVec Ideal S1024x1024 .f32) (b : FVec Ideal S1024x1024 .bf16) (j : S1024x1024.Idx) :
    k0_pay1 (F := Ideal) a b j = ∑ k : Fin 1024, a (ix2 (j 0) k) * b (ix2 (j 1) k) := by
  pointwise [k0_pay1]

/-- The reference's result over the kernel's arguments. -/
abbrev ref (x0 : FVec Ideal S8192x1024 .f32) (x1 : FVec Ideal S1024x1024 .bf16) : FVec Ideal S8192x1024 .f32 :=
  Cert.Reference7Ideal.Read.val_main_v3 (F := Ideal) x0 x1

/-- The reference's result at an index. -/
theorem ref_at (x0 : FVec Ideal S8192x1024 .f32) (x1 : FVec Ideal S1024x1024 .bf16) (j : S8192x1024.Idx) :
    ref x0 x1 j = ∑ k : Fin 1024, x0 (ix2 (j 0) k) * x1 (ix2 (j 1) k) := by
  unfold ref
  rw [← Cert.Reference7Ideal.Read.val_main_v3_eq]
  pointwise

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [ref_at]
  refine (pay _ _ y).trans ?_
  blk_point [iblk, V, idx t]

end Cert.Kernel7Ideal.Product

namespace Cert.OutDx

open Idealize.ShloMosaic Idealize.SL.Sem

theorem frame_ideal : Cert.quiescent_Kernel7Ideal := fun m ρ _ => Cert.Kernel7Ideal.Gen.frame m ρ

theorem frame_kernel : Cert.quiescent_Kernel7 := fun m ρ _ =>
  Cert.Kernel7.Gen.frame m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem algebraic : Cert.algebraic_Kernel7Ideal_Reference7Ideal := fun m ρ m' ρ' _ hag =>
  ⟨fun c => (Cert.Kernel7Ideal.Gen.dats m 0 c).arrAt 2 Cert.Kernel7Ideal.cfg0.N, Cert.Kernel7Ideal.Value.run_blocks m ρ,
    (θ_run _ _ _).mono (fun _ h c => ⟨(h c).1.trans (by
      rw [(hag c).1, (hag c).2]; exact (Cert.Kernel7Ideal.Product.final m c).symm), (h c).2⟩)
      (Cert.Reference7Ideal.Value.run m' ρ')⟩

end Cert.OutDx

end
-- ==== Proof.InDw.lean ====
/- The weight gradient of the input projection, in values: the array the kernel
   returns is the reference's term over the same arguments. The kernel walks the 8192 rows in eight blocks of 1024
   and keeps the partial sum in a scratch. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8.Frame
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel8Ideal.Product

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The product of two blocks, at an index. -/
theorem part (a : FVec Ideal S1024x1024 .bf16) (b : FVec Ideal S1024x640 .bf16) (j : S1024x640.Idx) :
    k0_pay1 (F := Ideal) a b j = ∑ k : Fin 1024, a (ix2 k (j 0)) * b (ix2 k (j 1)) := by
  pointwise [k0_pay1]

theorem pay2 (a : FVec Ideal S1024x1024 .bf16) (b : FVec Ideal S1024x640 .bf16) (j : S1024x640.Idx) :
    k0_pay2 (F := Ideal) a b j = k0_pay1 (F := Ideal) a b j := by
  pointwise [k0_pay2]

theorem pay3 (a : FVec Ideal S1024x1024 .bf16) (b : FVec Ideal S1024x640 .bf16) (s : FVec Ideal S1024x640 .f32) (j : S1024x640.Idx) :
    k0_pay3 (F := Ideal) a b s j = s j + k0_pay1 (F := Ideal) a b j := by
  pointwise [k0_pay3]

theorem pay4 (a : FVec Ideal S1024x1024 .bf16) (b : FVec Ideal S1024x640 .bf16) (s : FVec Ideal S1024x640 .f32) (j : S1024x640.Idx) :
    k0_pay4 (F := Ideal) a b s j = s j + k0_pay1 (F := Ideal) a b j := by
  pointwise [k0_pay4]

/-- The product of the blocks of point `t`. -/
def term (c : Dev nD) (t : Fin cfg0.N) : S1024x640.Idx → EReal := fun j =>
  k0_pay1 (F := Ideal) (iblk m c 0 t) (iblk m c 1 t) j

/-- The partial sum through point `n`: the scratch after it, and at the last point of a run the product not stored there. -/
def total (c : Dev nD) (n : ℕ) (h : n < cfg0.N) : S1024x640.Idx → EReal := fun j =>
  if n % 8 = 7 then (show FVec Ideal S1024x640 .f32 from (outsAt0 m c n h).2) j + term m c ⟨n, h⟩ j
  else (show FVec Ideal S1024x640 .f32 from (outsAt0 m c n h).2) j

theorem total_first (c : Dev nD) (t : Fin cfg0.N) (h : t.val % 8 = 0) (j : S1024x640.Idx) :
    total m c t.val t.isLt j = 0 + term m c t j := by
  have h1 : ¬(1 ≤ t.val % 8 ∧ t.val % 8 ≤ 6) := by omega
  have h2 : ¬t.val % 8 = 7 := by omega
  unfold total
  rw [if_neg h2, outsAt0_A m c t h h1 h2, zero_add]
  show (_ : EReal) = _
  frame_out
  exact pay2 _ _ j

theorem total_next (c : Dev nD) (t : Fin cfg0.N) (h : ¬t.val % 8 = 0) (j : S1024x640.Idx) :
    total m c t.val t.isLt j
      = total m c (t.val - 1) (Nat.lt_of_le_of_lt (Nat.sub_le _ _) t.isLt) j + term m c t j := by
  have h3 : ¬(t.val - 1) % 8 = 7 := by omega
  by_cases h2 : t.val % 8 = 7
  · have h1 : ¬(1 ≤ t.val % 8 ∧ t.val % 8 ≤ 6) := by omega
    unfold total
    rw [if_pos h2, if_neg h3, outsAt0_C m c t h h1 h2]
    rfl
  · have h1 : 1 ≤ t.val % 8 ∧ t.val % 8 ≤ 6 := by omega
    unfold total
    rw [if_neg h2, if_neg h3, outsAt0_B m c t h h1 h2]
    show (_ : EReal) = _
    frame_out
    rw [read_unread_whole]
    exact pay3 _ _ _ j

/-- What the last point of a run leaves in the output's buffer. -/
theorem out_last (c : Dev nD) (t : Fin cfg0.N) (h2 : t.val % 8 = 7) (j : S1024x640.Idx) :
    (show FVec Ideal S1024x640 .bf16 from (outsAt0 m c t.val t.isLt).1) j = total m c t.val t.isLt j := by
  have h : ¬t.val % 8 = 0 := by omega
  have h1 : ¬(1 ≤ t.val % 8 ∧ t.val % 8 ≤ 6) := by omega
  rw [total_next m c t h j]
  have h3 : ¬(t.val - 1) % 8 = 7 := by omega
  unfold total
  rw [if_neg h3, outsAt0_C m c t h h1 h2]
  show (_ : EReal) = _
  frame_out
  rw [read_unread_whole]
  exact pay4 _ _ _ j

/-- The reference's result over the kernel's arguments. -/
abbrev ref (x0 : FVec Ideal S8192x1024 .bf16) (x1 : FVec Ideal S8192x2560 .bf16) : FVec Ideal S1024x2560 .bf16 :=
  Cert.Reference8Ideal.Read.val_main_v7 (F := Ideal) x0 x1

/-- The reference's result at an index: one sum over the rows. -/
theorem ref_at (x0 : FVec Ideal S8192x1024 .bf16) (x1 : FVec Ideal S8192x2560 .bf16) (j : S1024x2560.Idx) :
    ref x0 x1 j = ∑ k : Fin 8192, x0 (ix2 k (j 0)) * x1 (ix2 k (j 1)) := by
  unfold ref
  rw [Cert.Reference8Ideal.Read.val_main_v7_apply, Cert.Reference8Ideal.Read.val_main_v6_apply]
  refine (Cert.Reference8Ideal.Read.val_main_v5_apply x0 x1 _).trans ?_
  refine Finset.sum_congr rfl fun k _ => ?_
  rw [mul_comm]
  blk_point

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  refine Eq.trans (out_last m c t ((flush0_2 t).mp hf) y) ?_
  rw [Pipeline.eq_sum_fin_of_reset_step_apply_of_flush (fun n h => total m c n h) 8 (fun _ => 0) (term m c)
    (total_first m c) (total_next m c) t ((flush0_2 t).mp hf) y, zero_add, ref_at]
  simp only [term, part]
  refine Fin.sum_mul_add_congr fun s k hl => ?_
  blk_point [iblk, V, idx t, idx ⟨_, Pipeline.run_point_lt_of_flush t ((flush0_2 t).mp hf) s⟩]

theorem result (c : Dev nD) : Cert.Kernel8Ideal.Value.G2 m c
    = ref (m ((c : Thread nD τ).loc main_arg0)) (m ((c : Thread nD τ).loc main_arg1)) :=
  (Cert.Kernel8Ideal.Value.final2 m c).symm.trans (final m c)

end Cert.Kernel8Ideal.Product

namespace Cert.InDw

open Idealize.ShloMosaic Idealize.SL.Sem

theorem frame_ideal : Cert.quiescent_Kernel8Ideal := fun m ρ _ => Cert.Kernel8Ideal.Gen.frame m ρ

theorem frame_kernel : Cert.quiescent_Kernel8 := fun m ρ _ =>
  Cert.Kernel8.Gen.frame m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem algebraic : Cert.algebraic_Kernel8Ideal_Reference8Ideal := fun m ρ m' ρ' _ hag =>
  ⟨fun c => Cert.Kernel8Ideal.Value.G2 m c, Cert.Kernel8Ideal.Value.run m ρ,
    (θ_run _ _ _).mono (fun _ h c => ⟨(h c).1.trans (by
      rw [(hag c).1, (hag c).2]; exact (Cert.Kernel8Ideal.Product.result m c).symm), (h c).2⟩) (Cert.Reference8Ideal.Value.run m' ρ')⟩

end Cert.InDw

end
-- ==== Proof.InDx.lean ====
/- The gradient the input projection hands its input, in values: the array the kernel
   returns is the reference's term over the same arguments. The kernel walks the 2560 columns in four blocks of 640
   and keeps the partial sum in a scratch. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel9.Frame
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel9Ideal.Product

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val / 4, t.val % 4] ∧ win0_1.index t = ![0, t.val % 4] ∧ win0_2.index t = ![t.val / 4, 0] :=
  (by decide +kernel : ∀ t : Fin grid0.N, _)

/-- The product of two blocks, at an index. -/
theorem part (a : FVec Ideal S1024x640 .bf16) (b : FVec Ideal S1024x640 .bf16) (j : S1024x1024.Idx) :
    k0_pay1 (F := Ideal) a b j = ∑ k : Fin 640, a (ix2 (j 0) k) * b (ix2 (j 1) k) := by
  pointwise [k0_pay1]

theorem pay2 (a : FVec Ideal S1024x640 .bf16) (b : FVec Ideal S1024x640 .bf16) (j : S1024x1024.Idx) :
    k0_pay2 (F := Ideal) a b j = k0_pay1 (F := Ideal) a b j := by
  pointwise [k0_pay2]

theorem pay3 (a : FVec Ideal S1024x640 .bf16) (b : FVec Ideal S1024x640 .bf16) (s : FVec Ideal S1024x1024 .f32) (j : S1024x1024.Idx) :
    k0_pay3 (F := Ideal) a b s j = s j + k0_pay1 (F := Ideal) a b j := by
  pointwise [k0_pay3]

theorem pay4 (a : FVec Ideal S1024x640 .bf16) (b : FVec Ideal S1024x640 .bf16) (s : FVec Ideal S1024x1024 .f32) (j : S1024x1024.Idx) :
    k0_pay4 (F := Ideal) a b s j = s j + k0_pay1 (F := Ideal) a b j := by
  pointwise [k0_pay4]

/-- The product of the blocks of point `t`. -/
def term (c : Dev nD) (t : Fin cfg0.N) : S1024x1024.Idx → EReal := fun j =>
  k0_pay1 (F := Ideal) (iblk m c 0 t) (iblk m c 1 t) j

/-- The partial sum through point `n`: the scratch after it, and at the last point of a run the product not stored there. -/
def total (c : Dev nD) (n : ℕ) (h : n < cfg0.N) : S1024x1024.Idx → EReal := fun j =>
  if n % 4 = 3 then (show FVec Ideal S1024x1024 .f32 from (outsAt0 m c n h).2) j + term m c ⟨n, h⟩ j
  else (show FVec Ideal S1024x1024 .f32 from (outsAt0 m c n h).2) j

theorem total_first (c : Dev nD) (t : Fin cfg0.N) (h : t.val % 4 = 0) (j : S1024x1024.Idx) :
    total m c t.val t.isLt j = 0 + term m c t j := by
  have h1 : ¬(1 ≤ t.val % 4 ∧ t.val % 4 ≤ 2) := by omega
  have h2 : ¬t.val % 4 = 3 := by omega
  unfold total
  rw [if_neg h2, outsAt0_A m c t h h1 h2, zero_add]
  show (_ : EReal) = _
  frame_out
  exact pay2 _ _ j

theorem total_next (c : Dev nD) (t : Fin cfg0.N) (h : ¬t.val % 4 = 0) (j : S1024x1024.Idx) :
    total m c t.val t.isLt j
      = total m c (t.val - 1) (Nat.lt_of_le_of_lt (Nat.sub_le _ _) t.isLt) j + term m c t j := by
  have h3 : ¬(t.val - 1) % 4 = 3 := by omega
  by_cases h2 : t.val % 4 = 3
  · have h1 : ¬(1 ≤ t.val % 4 ∧ t.val % 4 ≤ 2) := by omega
    unfold total
    rw [if_pos h2, if_neg h3, outsAt0_C m c t h h1 h2]
    rfl
  · have h1 : 1 ≤ t.val % 4 ∧ t.val % 4 ≤ 2 := by omega
    unfold total
    rw [if_neg h2, if_neg h3, outsAt0_B m c t h h1 h2]
    show (_ : EReal) = _
    frame_out
    rw [read_unread_whole]
    exact pay3 _ _ _ j

/-- What the last point of a run leaves in the output's buffer. -/
theorem out_last (c : Dev nD) (t : Fin cfg0.N) (h2 : t.val % 4 = 3) (j : S1024x1024.Idx) :
    (show FVec Ideal S1024x1024 .f32 from (outsAt0 m c t.val t.isLt).1) j = total m c t.val t.isLt j := by
  have h : ¬t.val % 4 = 0 := by omega
  have h1 : ¬(1 ≤ t.val % 4 ∧ t.val % 4 ≤ 2) := by omega
  rw [total_next m c t h j]
  have h3 : ¬(t.val - 1) % 4 = 3 := by omega
  unfold total
  rw [if_neg h3, outsAt0_C m c t h h1 h2]
  show (_ : EReal) = _
  frame_out
  rw [read_unread_whole]
  exact pay4 _ _ _ j

/-- The reference's result over the kernel's arguments. -/
abbrev ref (x0 : FVec Ideal S8192x2560 .bf16) (x1 : FVec Ideal S1024x2560 .bf16) : FVec Ideal S8192x1024 .f32 :=
  Cert.Reference9Ideal.Read.val_main_v4 (F := Ideal) x0 x1

/-- The reference's result at an index: one sum over the rows. -/
theorem ref_at (x0 : FVec Ideal S8192x2560 .bf16) (x1 : FVec Ideal S1024x2560 .bf16) (j : S8192x1024.Idx) :
    ref x0 x1 j = ∑ k : Fin 2560, x0 (ix2 (j 0) k) * x1 (ix2 (j 1) k) := by
  unfold ref
  refine (Cert.Reference9Ideal.Read.val_main_v4_apply x0 x1 _).trans ?_
  refine Finset.sum_congr rfl fun k _ => ?_
  blk_point

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  refine Eq.trans (out_last m c t ((flush0_2 t).mp hf) y) ?_
  rw [Pipeline.eq_sum_fin_of_reset_step_apply_of_flush (fun n h => total m c n h) 4 (fun _ => 0) (term m c)
    (total_first m c) (total_next m c) t ((flush0_2 t).mp hf) y, zero_add, ref_at]
  simp only [term, part]
  refine Fin.sum_mul_add_congr fun s k hl => ?_
  blk_point [iblk, V, idx t, idx ⟨_, Pipeline.run_point_lt_of_flush t ((flush0_2 t).mp hf) s⟩]

theorem result (c : Dev nD) : Cert.Kernel9Ideal.Value.G2 m c
    = ref (m ((c : Thread nD τ).loc main_arg0)) (m ((c : Thread nD τ).loc main_arg1)) :=
  (Cert.Kernel9Ideal.Value.final2 m c).symm.trans (final m c)

end Cert.Kernel9Ideal.Product

namespace Cert.InDx

open Idealize.ShloMosaic Idealize.SL.Sem

theorem frame_ideal : Cert.quiescent_Kernel9Ideal := fun m ρ _ => Cert.Kernel9Ideal.Gen.frame m ρ

theorem frame_kernel : Cert.quiescent_Kernel9 := fun m ρ _ =>
  Cert.Kernel9.Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem algebraic : Cert.algebraic_Kernel9Ideal_Reference9Ideal := fun m ρ m' ρ' _ hag =>
  ⟨fun c => Cert.Kernel9Ideal.Value.G2 m c, Cert.Kernel9Ideal.Value.run m ρ,
    (θ_run _ _ _).mono (fun _ h c => ⟨(h c).1.trans (by
      rw [(hag c).1, (hag c).2]; exact (Cert.Kernel9Ideal.Product.result m c).symm), (h c).2⟩) (Cert.Reference9Ideal.Value.run m' ρ')⟩

end Cert.InDx

end
-- ==== Proof.UpFwd.lean ====
/- The up projection with the squared ReLU, in values: the array the kernel
   returns is the reference's term over the same arguments. One product a point. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel10.Frame
public import Idealize.ShloMosaic.Lib.Pipeline.ValueKit
public import Idealize.ShloMosaic.Adequacy
public import Idealize.ShloMosaic.Init

@[expose] public section

set_option maxRecDepth 16384

noncomputable section

namespace Cert.Kernel10Ideal.Product

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- What a point stores, at an index. -/
theorem pay (a : FVec Ideal S1024x1024 .bf16) (b : FVec Ideal S1024x1024 .bf16) (j : S1024x1024.Idx) :
    k0_pay1 (F := Ideal) a b j = max (∑ k : Fin 1024, a (ix2 (j 0) k) * b (ix2 k (j 1))) 0 * max (∑ k : Fin 1024, a (ix2 (j 0) k) * b (ix2 k (j 1))) 0 := by
  pointwise [k0_pay1]

/-- The reference's result over the kernel's arguments. -/
abbrev ref (x0 : FVec Ideal S8192x1024 .bf16) (x1 : FVec Ideal S1024x4096 .bf16) : FVec Ideal S8192x4096 .bf16 :=
  Cert.Reference10Ideal.Read.val_main_v5 (F := Ideal) x0 x1

/-- The reference's result at an index. -/
theorem ref_at (x0 : FVec Ideal S8192x1024 .bf16) (x1 : FVec Ideal S1024x4096 .bf16) (j : S8192x4096.Idx) :
    ref x0 x1 j = max (∑ k : Fin 1024, x0 (ix2 (j 0) k) * x1 (ix2 k (j 1))) 0 * max (∑ k : Fin 1024, x0 (ix2 (j 0) k) * x1 (ix2 k (j 1))) 0 := by
  unfold ref
  rw [← Cert.Reference10Ideal.Read.val_main_v5_eq]
  pointwise

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [ref_at]
  refine (pay _ _ y).trans ?_
  blk_point [iblk, V, idx t]

end Cert.Kernel10Ideal.Product

namespace Cert.UpFwd

open Idealize.ShloMosaic Idealize.SL.Sem

theorem frame_ideal : Cert.quiescent_Kernel10Ideal := fun m ρ _ => Cert.Kernel10Ideal.Gen.frame m ρ

theorem frame_kernel : Cert.quiescent_Kernel10 := fun m ρ _ =>
  Cert.Kernel10.Gen.frame m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem algebraic : Cert.algebraic_Kernel10Ideal_Reference10Ideal := fun m ρ m' ρ' _ hag =>
  ⟨fun c => (Cert.Kernel10Ideal.Gen.dats m 0 c).arrAt 2 Cert.Kernel10Ideal.cfg0.N, Cert.Kernel10Ideal.Value.run_blocks m ρ,
    (θ_run _ _ _).mono (fun _ h c => ⟨(h c).1.trans (by
      rw [(hag c).1, (hag c).2]; exact (Cert.Kernel10Ideal.Product.final m c).symm), (h c).2⟩)
      (Cert.Reference10Ideal.Value.run m' ρ')⟩

end Cert.UpFwd

end
-- ==== Proof.DownFwd.lean ====
/- The down projection, in values: the array the kernel
   returns is the reference's term over the same arguments. The kernel walks the 4096 columns in four blocks of 1024
   and keeps the partial sum in a scratch. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel11.Frame
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel11Ideal.Product

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val / 4, t.val % 4] ∧ win0_1.index t = ![t.val % 4, 0] ∧ win0_2.index t = ![t.val / 4, 0] :=
  (by decide +kernel : ∀ t : Fin grid0.N, _)

/-- The product of two blocks, at an index. -/
theorem part (a : FVec Ideal S1024x1024 .bf16) (b : FVec Ideal S1024x1024 .bf16) (j : S1024x1024.Idx) :
    k0_pay1 (F := Ideal) a b j = ∑ k : Fin 1024, a (ix2 (j 0) k) * b (ix2 k (j 1)) := by
  pointwise [k0_pay1]

theorem pay2 (a : FVec Ideal S1024x1024 .bf16) (b : FVec Ideal S1024x1024 .bf16) (j : S1024x1024.Idx) :
    k0_pay2 (F := Ideal) a b j = k0_pay1 (F := Ideal) a b j := by
  pointwise [k0_pay2]

theorem pay3 (a : FVec Ideal S1024x1024 .bf16) (b : FVec Ideal S1024x1024 .bf16) (s : FVec Ideal S1024x1024 .f32) (j : S1024x1024.Idx) :
    k0_pay3 (F := Ideal) a b s j = s j + k0_pay1 (F := Ideal) a b j := by
  pointwise [k0_pay3]

theorem pay4 (a : FVec Ideal S1024x1024 .bf16) (b : FVec Ideal S1024x1024 .bf16) (s : FVec Ideal S1024x1024 .f32) (j : S1024x1024.Idx) :
    k0_pay4 (F := Ideal) a b s j = s j + k0_pay1 (F := Ideal) a b j := by
  pointwise [k0_pay4]

/-- The product of the blocks of point `t`. -/
def term (c : Dev nD) (t : Fin cfg0.N) : S1024x1024.Idx → EReal := fun j =>
  k0_pay1 (F := Ideal) (iblk m c 0 t) (iblk m c 1 t) j

/-- The partial sum through point `n`: the scratch after it, and at the last point of a run the product not stored there. -/
def total (c : Dev nD) (n : ℕ) (h : n < cfg0.N) : S1024x1024.Idx → EReal := fun j =>
  if n % 4 = 3 then (show FVec Ideal S1024x1024 .f32 from (outsAt0 m c n h).2) j + term m c ⟨n, h⟩ j
  else (show FVec Ideal S1024x1024 .f32 from (outsAt0 m c n h).2) j

theorem total_first (c : Dev nD) (t : Fin cfg0.N) (h : t.val % 4 = 0) (j : S1024x1024.Idx) :
    total m c t.val t.isLt j = 0 + term m c t j := by
  have h1 : ¬(1 ≤ t.val % 4 ∧ t.val % 4 ≤ 2) := by omega
  have h2 : ¬t.val % 4 = 3 := by omega
  unfold total
  rw [if_neg h2, outsAt0_A m c t h h1 h2, zero_add]
  show (_ : EReal) = _
  frame_out
  exact pay2 _ _ j

theorem total_next (c : Dev nD) (t : Fin cfg0.N) (h : ¬t.val % 4 = 0) (j : S1024x1024.Idx) :
    total m c t.val t.isLt j
      = total m c (t.val - 1) (Nat.lt_of_le_of_lt (Nat.sub_le _ _) t.isLt) j + term m c t j := by
  have h3 : ¬(t.val - 1) % 4 = 3 := by omega
  by_cases h2 : t.val % 4 = 3
  · have h1 : ¬(1 ≤ t.val % 4 ∧ t.val % 4 ≤ 2) := by omega
    unfold total
    rw [if_pos h2, if_neg h3, outsAt0_C m c t h h1 h2]
    rfl
  · have h1 : 1 ≤ t.val % 4 ∧ t.val % 4 ≤ 2 := by omega
    unfold total
    rw [if_neg h2, if_neg h3, outsAt0_B m c t h h1 h2]
    show (_ : EReal) = _
    frame_out
    rw [read_unread_whole]
    exact pay3 _ _ _ j

/-- What the last point of a run leaves in the output's buffer. -/
theorem out_last (c : Dev nD) (t : Fin cfg0.N) (h2 : t.val % 4 = 3) (j : S1024x1024.Idx) :
    (show FVec Ideal S1024x1024 .f32 from (outsAt0 m c t.val t.isLt).1) j = total m c t.val t.isLt j := by
  have h : ¬t.val % 4 = 0 := by omega
  have h1 : ¬(1 ≤ t.val % 4 ∧ t.val % 4 ≤ 2) := by omega
  rw [total_next m c t h j]
  have h3 : ¬(t.val - 1) % 4 = 3 := by omega
  unfold total
  rw [if_neg h3, outsAt0_C m c t h h1 h2]
  show (_ : EReal) = _
  frame_out
  rw [read_unread_whole]
  exact pay4 _ _ _ j

/-- The reference's result over the kernel's arguments. -/
abbrev ref (x0 : FVec Ideal S8192x4096 .bf16) (x1 : FVec Ideal S4096x1024 .bf16) : FVec Ideal S8192x1024 .f32 :=
  Cert.Reference11Ideal.Read.val_main_v2 (F := Ideal) x0 x1

/-- The reference's result at an index: one sum over the rows. -/
theorem ref_at (x0 : FVec Ideal S8192x4096 .bf16) (x1 : FVec Ideal S4096x1024 .bf16) (j : S8192x1024.Idx) :
    ref x0 x1 j = ∑ k : Fin 4096, x0 (ix2 (j 0) k) * x1 (ix2 k (j 1)) := by
  unfold ref
  refine (Cert.Reference11Ideal.Read.val_main_v2_apply x0 x1 _).trans ?_
  refine Finset.sum_congr rfl fun k _ => ?_
  blk_point

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  refine Eq.trans (out_last m c t ((flush0_2 t).mp hf) y) ?_
  rw [Pipeline.eq_sum_fin_of_reset_step_apply_of_flush (fun n h => total m c n h) 4 (fun _ => 0) (term m c)
    (total_first m c) (total_next m c) t ((flush0_2 t).mp hf) y, zero_add, ref_at]
  simp only [term, part]
  refine Fin.sum_mul_add_congr fun s k hl => ?_
  blk_point [iblk, V, idx t, idx ⟨_, Pipeline.run_point_lt_of_flush t ((flush0_2 t).mp hf) s⟩]

theorem result (c : Dev nD) : Cert.Kernel11Ideal.Value.G2 m c
    = ref (m ((c : Thread nD τ).loc main_arg0)) (m ((c : Thread nD τ).loc main_arg1)) :=
  (Cert.Kernel11Ideal.Value.final2 m c).symm.trans (final m c)

end Cert.Kernel11Ideal.Product

namespace Cert.DownFwd

open Idealize.ShloMosaic Idealize.SL.Sem

theorem frame_ideal : Cert.quiescent_Kernel11Ideal := fun m ρ _ => Cert.Kernel11Ideal.Gen.frame m ρ

theorem frame_kernel : Cert.quiescent_Kernel11 := fun m ρ _ =>
  Cert.Kernel11.Gen.frame m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

theorem algebraic : Cert.algebraic_Kernel11Ideal_Reference11Ideal := fun m ρ m' ρ' _ hag =>
  ⟨fun c => Cert.Kernel11Ideal.Value.G2 m c, Cert.Kernel11Ideal.Value.run m ρ,
    (θ_run _ _ _).mono (fun _ h c => ⟨(h c).1.trans (by
      rw [(hag c).1, (hag c).2]; exact (Cert.Kernel11Ideal.Product.result m c).symm), (h c).2⟩) (Cert.Reference11Ideal.Value.run m' ρ')⟩

end Cert.DownFwd

end
-- ==== Proof.InFwd.lean ====
/- The input projection, in values: the array the kernel
   returns is the reference's term over the same arguments. One product a point. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel12.Frame
public import Idealize.ShloMosaic.Lib.Pipeline.ValueKit
public import Idealize.ShloMosaic.Adequacy
public import Idealize.ShloMosaic.Init

@[expose] public section

set_option maxRecDepth 16384

noncomputable section

namespace Cert.Kernel12Ideal.Product

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- What a point stores, at an index. -/
theorem pay (a : FVec Ideal S1024x1024 .bf16) (b : FVec Ideal S1024x640 .bf16) (j : S1024x640.Idx) :
    k0_pay1 (F := Ideal) a b j = ∑ k : Fin 1024, a (ix2 (j 0) k) * b (ix2 k (j 1)) := by
  pointwise [k0_pay1]

/-- The reference's result over the kernel's arguments. -/
abbrev ref (x0 : FVec Ideal S8192x1024 .bf16) (x1 : FVec Ideal S1024x2560 .bf16) : FVec Ideal S8192x2560 .bf16 :=
  Cert.Reference12Ideal.Read.val_main_v3 (F := Ideal) x0 x1

/-- The reference's result at an index. -/
theorem ref_at (x0 : FVec Ideal S8192x1024 .bf16) (x1 : FVec Ideal S1024x2560 .bf16) (j : S8192x2560.Idx) :
    ref x0 x1 j = ∑ k : Fin 1024, x0 (ix2 (j 0) k) * x1 (ix2 k (j 1)) := by
  unfold ref
  rw [← Cert.Reference12Ideal.Read.val_main_v3_eq]
  pointwise

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [ref_at]
  refine (pay _ _ y).trans ?_
  blk_point [iblk, V, idx t]

end Cert.Kernel12Ideal.Product

namespace Cert.InFwd

open Idealize.ShloMosaic Idealize.SL.Sem

theorem frame_ideal : Cert.quiescent_Kernel12Ideal := fun m ρ _ => Cert.Kernel12Ideal.Gen.frame m ρ

theorem frame_kernel : Cert.quiescent_Kernel12 := fun m ρ _ =>
  Cert.Kernel12.Gen.frame m ρ

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

theorem algebraic : Cert.algebraic_Kernel12Ideal_Reference12Ideal := fun m ρ m' ρ' _ hag =>
  ⟨fun c => (Cert.Kernel12Ideal.Gen.dats m 0 c).arrAt 2 Cert.Kernel12Ideal.cfg0.N, Cert.Kernel12Ideal.Value.run_blocks m ρ,
    (θ_run _ _ _).mono (fun _ h c => ⟨(h c).1.trans (by
      rw [(hag c).1, (hag c).2]; exact (Cert.Kernel12Ideal.Product.final m c).symm), (h c).2⟩)
      (Cert.Reference12Ideal.Value.run m' ρ')⟩

end Cert.InFwd

end
-- ==== Proof.OutFwd.lean ====
/- The output projection, in values: the array the kernel
   returns is the reference's term over the same arguments. One product a point. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel13.Frame
public import Idealize.ShloMosaic.Lib.Pipeline.ValueKit
public import Idealize.ShloMosaic.Adequacy
public import Idealize.ShloMosaic.Init

@[expose] public section

set_option maxRecDepth 16384

noncomputable section

namespace Cert.Kernel13Ideal.Product

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val, 0] ∧ win0_1.index t = ![0, 0] ∧ win0_2.index t = ![t.val, 0] :=
  (by decide +kernel : ∀ t : Fin grid0.N, _)

/-- What a point stores, at an index. -/
theorem pay (a : FVec Ideal S1024x1024 .bf16) (b : FVec Ideal S1024x1024 .bf16) (j : S1024x1024.Idx) :
    k0_pay1 (F := Ideal) a b j = ∑ k : Fin 1024, a (ix2 (j 0) k) * b (ix2 k (j 1)) := by
  pointwise [k0_pay1]

/-- The reference's result over the kernel's arguments. -/
abbrev ref (x0 : FVec Ideal S8192x1024 .bf16) (x1 : FVec Ideal S1024x1024 .bf16) : FVec Ideal S8192x1024 .f32 :=
  Cert.Reference13Ideal.Read.val_main_v2 (F := Ideal) x0 x1

/-- The reference's result at an index. -/
theorem ref_at (x0 : FVec Ideal S8192x1024 .bf16) (x1 : FVec Ideal S1024x1024 .bf16) (j : S8192x1024.Idx) :
    ref x0 x1 j = ∑ k : Fin 1024, x0 (ix2 (j 0) k) * x1 (ix2 k (j 1)) := by
  unfold ref
  rw [← Cert.Reference13Ideal.Read.val_main_v2_eq]
  pointwise

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [ref_at]
  refine (pay _ _ y).trans ?_
  blk_point [iblk, V, idx t]

end Cert.Kernel13Ideal.Product

namespace Cert.OutFwd

open Idealize.ShloMosaic Idealize.SL.Sem

theorem frame_ideal : Cert.quiescent_Kernel13Ideal := fun m ρ _ => Cert.Kernel13Ideal.Gen.frame m ρ

theorem frame_kernel : Cert.quiescent_Kernel13 := fun m ρ _ =>
  Cert.Kernel13.Gen.frame m ρ

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

theorem algebraic : Cert.algebraic_Kernel13Ideal_Reference13Ideal := fun m ρ m' ρ' _ hag =>
  ⟨fun c => (Cert.Kernel13Ideal.Gen.dats m 0 c).arrAt 2 Cert.Kernel13Ideal.cfg0.N, Cert.Kernel13Ideal.Value.run_blocks m ρ,
    (θ_run _ _ _).mono (fun _ h c => ⟨(h c).1.trans (by
      rw [(hag c).1, (hag c).2]; exact (Cert.Kernel13Ideal.Product.final m c).symm), (h c).2⟩)
      (Cert.Reference13Ideal.Value.run m' ρ')⟩

end Cert.OutFwd

end
-- ==== Proof.InADw.lean ====
/- The weight gradient of the first layer's input projection, in values: the array the kernel
   returns is the reference's term over the same arguments. The kernel walks the 8192 rows in eight blocks of 1024
   and keeps the partial sum in a scratch. -/
module

public import proofs.«01_k».proof.Defs
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Kernel14.Frame
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel14Ideal.Product

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The product of two blocks, at an index. -/
theorem part (a : FVec Ideal S1024x1024 .bf16) (b : FVec Ideal S1024x896 .bf16) (j : S1024x896.Idx) :
    k0_pay1 (F := Ideal) a b j = ∑ k : Fin 1024, a (ix2 k (j 0)) * b (ix2 k (j 1)) := by
  pointwise [k0_pay1]

theorem pay2 (a : FVec Ideal S1024x1024 .bf16) (b : FVec Ideal S1024x896 .bf16) (j : S1024x896.Idx) :
    k0_pay2 (F := Ideal) a b j = k0_pay1 (F := Ideal) a b j := by
  pointwise [k0_pay2]

theorem pay3 (a : FVec Ideal S1024x1024 .bf16) (b : FVec Ideal S1024x896 .bf16) (s : FVec Ideal S1024x896 .f32) (j : S1024x896.Idx) :
    k0_pay3 (F := Ideal) a b s j = s j + k0_pay1 (F := Ideal) a b j := by
  pointwise [k0_pay3]

theorem pay4 (a : FVec Ideal S1024x1024 .bf16) (b : FVec Ideal S1024x896 .bf16) (s : FVec Ideal S1024x896 .f32) (j : S1024x896.Idx) :
    k0_pay4 (F := Ideal) a b s j = s j + k0_pay1 (F := Ideal) a b j := by
  pointwise [k0_pay4]

/-- The product of the blocks of point `t`. -/
def term (c : Dev nD) (t : Fin cfg0.N) : S1024x896.Idx → EReal := fun j =>
  k0_pay1 (F := Ideal) (iblk m c 0 t) (iblk m c 1 t) j

/-- The partial sum through point `n`: the scratch after it, and at the last point of a run the product not stored there. -/
def total (c : Dev nD) (n : ℕ) (h : n < cfg0.N) : S1024x896.Idx → EReal := fun j =>
  if n % 8 = 7 then (show FVec Ideal S1024x896 .f32 from (outsAt0 m c n h).2) j + term m c ⟨n, h⟩ j
  else (show FVec Ideal S1024x896 .f32 from (outsAt0 m c n h).2) j

theorem total_first (c : Dev nD) (t : Fin cfg0.N) (h : t.val % 8 = 0) (j : S1024x896.Idx) :
    total m c t.val t.isLt j = 0 + term m c t j := by
  have h1 : ¬(1 ≤ t.val % 8 ∧ t.val % 8 ≤ 6) := by omega
  have h2 : ¬t.val % 8 = 7 := by omega
  unfold total
  rw [if_neg h2, outsAt0_A m c t h h1 h2, zero_add]
  show (_ : EReal) = _
  frame_out
  exact pay2 _ _ j

theorem total_next (c : Dev nD) (t : Fin cfg0.N) (h : ¬t.val % 8 = 0) (j : S1024x896.Idx) :
    total m c t.val t.isLt j
      = total m c (t.val - 1) (Nat.lt_of_le_of_lt (Nat.sub_le _ _) t.isLt) j + term m c t j := by
  have h3 : ¬(t.val - 1) % 8 = 7 := by omega
  by_cases h2 : t.val % 8 = 7
  · have h1 : ¬(1 ≤ t.val % 8 ∧ t.val % 8 ≤ 6) := by omega
    unfold total
    rw [if_pos h2, if_neg h3, outsAt0_C m c t h h1 h2]
    rfl
  · have h1 : 1 ≤ t.val % 8 ∧ t.val % 8 ≤ 6 := by omega
    unfold total
    rw [if_neg h2, if_neg h3, outsAt0_B m c t h h1 h2]
    show (_ : EReal) = _
    frame_out
    rw [read_unread_whole]
    exact pay3 _ _ _ j

/-- What the last point of a run leaves in the output's buffer. -/
theorem out_last (c : Dev nD) (t : Fin cfg0.N) (h2 : t.val % 8 = 7) (j : S1024x896.Idx) :
    (show FVec Ideal S1024x896 .bf16 from (outsAt0 m c t.val t.isLt).1) j = total m c t.val t.isLt j := by
  have h : ¬t.val % 8 = 0 := by omega
  have h1 : ¬(1 ≤ t.val % 8 ∧ t.val % 8 ≤ 6) := by omega
  rw [total_next m c t h j]
  have h3 : ¬(t.val - 1) % 8 = 7 := by omega
  unfold total
  rw [if_neg h3, outsAt0_C m c t h h1 h2]
  show (_ : EReal) = _
  frame_out
  rw [read_unread_whole]
  exact pay4 _ _ _ j

/-- Where the wide layout keeps a column. -/
def col (k : Fin 3340) : Fin 3584 :=
  if h : k.val < 3072 then ⟨k.val, by omega⟩
  else if h' : k.val < 3084 then ⟨k.val - 3072 + 3328, by omega⟩
  else ⟨k.val - 3084 + 3072, by omega⟩

/-- The 8192 rows in the wide layout: the first 3072 columns, the last 256, the 12 between, and zeros. -/
def wide (x : FVec Ideal S8192x3340 .bf16) : FVec Ideal S8192x3584 .bf16 :=
  concatenate S8192x3584 1 [⟨S8192x3072, extractStridedSlice S8192x3072 ![0, 0] x slices_S8192x3340_S8192x3072_0_0⟩,
    ⟨S8192x256, extractStridedSlice S8192x256 ![0, 3084] x slices_S8192x3340_S8192x256_0_3084⟩,
    ⟨S8192x12, extractStridedSlice S8192x12 ![0, 3072] x slices_S8192x3340_S8192x12_0_3072⟩,
    ⟨S8192x244, broadcastInDim S8192x244 ![] bcast_S_S8192x244 (constant (F := Ideal) S_ .bf16 0x0000#16)⟩]
    concatenates_S8192x3072_S8192x256_S8192x12_S8192x244_S8192x3584_d1

/-- A column of the array is where `col` says in the wide one. -/
theorem wide_col (x : FVec Ideal S8192x3340 .bf16) (i : Fin 8192) (k : Fin 3340) : wide x (ix2 i (col k)) = x (ix2 i k) := by
  unfold wide col
  obtain ⟨k, hk⟩ := k
  by_cases h1 : k < 3072
  · simp only [h1, ↓reduceDIte]
    pointwise [h1]
  · by_cases h2 : k < 3084
    · simp only [h1, h2, ↓reduceDIte]
      pointwise
      rw [dif_neg (by omega), dif_neg (by omega), dif_pos (by omega)]
      exact congrArg (fun z => x (ix2 i z)) (Fin.ext (by dsimp only; omega))
    · simp only [h1, h2, ↓reduceDIte]
      pointwise
      rw [dif_neg (by omega), dif_pos (by omega)]
      exact congrArg (fun z => x (ix2 i z)) (Fin.ext (by dsimp only; omega))

/-- The columns of the wide layout put back in the array's order. -/
def narrow (g : FVec Ideal S1024x3584 .bf16) : FVec Ideal S1024x3340 .bf16 :=
  concatenate S1024x3340 1 [⟨S1024x3072, extractStridedSlice S1024x3072 ![0, 0] g slices_S1024x3584_S1024x3072_0_0⟩,
    ⟨S1024x12, extractStridedSlice S1024x12 ![0, 3328] g slices_S1024x3584_S1024x12_0_3328⟩,
    ⟨S1024x256, extractStridedSlice S1024x256 ![0, 3072] g slices_S1024x3584_S1024x256_0_3072⟩]
    concatenates_S1024x3072_S1024x12_S1024x256_S1024x3340_d1

theorem narrow_at (g : FVec Ideal S1024x3584 .bf16) (i : Fin 1024) (k : Fin 3340) : narrow g (ix2 i k) = g (ix2 i (col k)) := by
  unfold narrow col
  obtain ⟨k, hk⟩ := k
  by_cases h1 : k < 3072
  · simp only [h1, ↓reduceDIte]
    pointwise [h1]
  · by_cases h2 : k < 3084
    · simp only [h1, h2, ↓reduceDIte]
      pointwise
      rw [dif_neg (by omega), dif_pos (by omega)]
      exact congrArg (fun z => g (ix2 i z)) (Fin.ext (by dsimp only; omega))
    · simp only [h1, h2, ↓reduceDIte]
      pointwise
      rw [dif_neg (by omega), dif_neg (by omega)]
      exact congrArg (fun z => g (ix2 i z)) (Fin.ext (by dsimp only; omega))

/-- The array the host prepares. -/
theorem given (c : Dev nD) : V m c main_v4 = wide (m ((c : Thread nD τ).loc main_arg1)) := by
  show StableHlo.after _ _ _ = _
  simp only [List.flatten_cons, List.flatten_nil, List.append_nil, hostOps0, List.cons_append, List.nil_append]
  after_results
  rfl

/-- The product with the wide array. -/
def prod (x0 : FVec Ideal S8192x1024 .bf16) (x1 : FVec Ideal S8192x3584 .bf16) : FVec Ideal S1024x3584 .bf16 := fun j =>
  ∑ k : Fin 8192, x0 (ix2 k (j 0)) * x1 (ix2 k (j 1))

/-- The reference's result over the kernel's arguments. -/
abbrev ref (x0 : FVec Ideal S8192x1024 .bf16) (x1 : FVec Ideal S8192x3340 .bf16) : FVec Ideal S1024x3340 .bf16 :=
  Cert.Reference14Ideal.Read.val_main_v7 (F := Ideal) x0 x1

/-- The reference's result at an index: one sum over the rows. -/
theorem ref_at (x0 : FVec Ideal S8192x1024 .bf16) (x1 : FVec Ideal S8192x3340 .bf16) (j : S1024x3340.Idx) :
    ref x0 x1 j = ∑ k : Fin 8192, x0 (ix2 k (j 0)) * x1 (ix2 k (j 1)) := by
  unfold ref
  rw [Cert.Reference14Ideal.Read.val_main_v7_apply, Cert.Reference14Ideal.Read.val_main_v6_apply]
  refine (Cert.Reference14Ideal.Read.val_main_v5_apply x0 x1 _).trans ?_
  refine Finset.sum_congr rfl fun k _ => ?_
  rw [mul_comm]
  blk_point

theorem final (c : Dev nD) : (dats m 0 c).arrAt 2 (cfgs 0).N
    = prod (m ((c : Thread nD τ).loc main_arg0)) (wide (m ((c : Thread nD τ).loc main_arg1))) := by
  refine (dats m 0 c).arrAt_eq_of_covers 2 _ (by decide +kernel) fun t hf y => ?_
  rw [← given, ← V_main_arg0 m c]
  blk_simp
  rw [after0_2]
  refine Eq.trans (out_last m c t ((flush0_2 t).mp hf) y) ?_
  rw [Pipeline.eq_sum_fin_of_reset_step_apply_of_flush (fun n h => total m c n h) 8 (fun _ => 0) (term m c)
    (total_first m c) (total_next m c) t ((flush0_2 t).mp hf) y, zero_add]
  simp only [term, part, prod]
  refine Fin.sum_mul_add_congr fun s k hl => ?_
  blk_point [iblk, idx t, idx ⟨_, Pipeline.run_point_lt_of_flush t ((flush0_2 t).mp hf) s⟩]

/-- The columns put back, the product with the wide array is the reference's result. -/
theorem narrow_prod (x0 : FVec Ideal S8192x1024 .bf16) (x1 : FVec Ideal S8192x3340 .bf16) : narrow (prod x0 (wide x1)) = ref x0 x1 := by
  funext j
  rw [ref_at]
  refine Eq.trans ?_ ((narrow_at (prod x0 (wide x1)) (j 0) (j 1)).trans ?_)
  · exact congrArg (narrow (prod x0 (wide x1))) (ix2_eta j).symm
  · exact Finset.sum_congr rfl fun k _ => congrArg (x0 _ * ·) (wide_col x1 k (j 1))

/-- What the operations after the call leave in the result. -/
theorem result (c : Dev nD) : Pipeline.afterTail₀ cfgs (dats m) 0 (V0 m) [hostOps1] c main_v9
    = ref (m ((c : Thread nD τ).loc main_arg0)) (m ((c : Thread nD τ).loc main_arg1)) := by
  have h : Pipeline.withArrays spec0 c (V0 m c) (fun w => (dats m 0 c).arrAt w cfg0.N) (Proc.devRef .tc main_v5)
      = (dats m 0 c).arrAt 2 cfg0.N :=
    Pipeline.withArrays_arr spec0 (by decide) c (V0 m c) (fun w => (dats m 0 c).arrAt w cfg0.N) 2
  rw [← narrow_prod, ← final m c]
  unfold Pipeline.afterTail₀
  simp only [List.flatten_cons, List.flatten_nil, List.append_nil, hostOps1]
  after_results
  refine Eq.trans ?_ (congrArg narrow h)
  rfl

/-- The run, with the result named. -/
theorem run (ρ : Dev nD → PrngReg) : θ_run defs (onTc (τ := τ) (main (F := Ideal))) ⟨m, fun _ => 0, ρ⟩ fun r => ∀ c : Dev nD,
      r.2.mem ((c : Thread nD τ).loc main_v9)
          = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).2 main_v9 (Pipeline.mem_restRefs_of main_v9 (by decide) (by decide))).trans (result m c), h.2 c⟩)
    (θ_run_and (run_main m ρ) (unchanged m ρ))

end Cert.Kernel14Ideal.Product

namespace Cert.InADw

open Idealize.ShloMosaic Idealize.SL.Sem

theorem frame_ideal : Cert.quiescent_Kernel14Ideal := fun m ρ _ => Cert.Kernel14Ideal.Gen.frame m ρ

theorem frame_kernel : Cert.quiescent_Kernel14 := fun m ρ _ =>
  Cert.Kernel14.Gen.frame m ρ

theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

theorem algebraic : Cert.algebraic_Kernel14Ideal_Reference14Ideal := fun m ρ m' ρ' _ hag =>
  ⟨fun c => Cert.Kernel14Ideal.Product.ref (m ((c.tc : Thread Cert.Kernel14Ideal.nD Cert.Kernel14Ideal.τ).loc Cert.Kernel14Ideal.main_arg0))
    (m ((c.tc : Thread Cert.Kernel14Ideal.nD Cert.Kernel14Ideal.τ).loc Cert.Kernel14Ideal.main_arg1)), Cert.Kernel14Ideal.Product.run m ρ,
    (θ_run _ _ _).mono (fun _ h c => ⟨(h c).1.trans (by rw [(hag c).1, (hag c).2]; rfl), (h c).2⟩) (Cert.Reference14Ideal.Value.run m' ρ')⟩

end Cert.InADw

end
-- ==== Proof.InADx.lean ====
/- The gradient the input projection of the first layer hands its input, in values: the array the kernel
   returns is the reference's term over the same arguments. The kernel walks the 3584 columns
   of the wide layout in four blocks of 896 and keeps the partial sum in a scratch. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel15.Frame
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel15Ideal.Product

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val / 4, t.val % 4] ∧ win0_1.index t = ![0, t.val % 4] ∧ win0_2.index t = ![t.val / 4, 0] :=
  (by decide +kernel : ∀ t : Fin grid0.N, _)

/-- The product of two blocks, at an index. -/
theorem part (a : FVec Ideal S1024x896 .bf16) (b : FVec Ideal S1024x896 .bf16) (j : S1024x1024.Idx) :
    k0_pay1 (F := Ideal) a b j = ∑ k : Fin 896, a (ix2 (j 0) k) * b (ix2 (j 1) k) := by
  pointwise [k0_pay1]

theorem pay2 (a : FVec Ideal S1024x896 .bf16) (b : FVec Ideal S1024x896 .bf16) (j : S1024x1024.Idx) :
    k0_pay2 (F := Ideal) a b j = k0_pay1 (F := Ideal) a b j := by
  pointwise [k0_pay2]

theorem pay3 (a : FVec Ideal S1024x896 .bf16) (b : FVec Ideal S1024x896 .bf16) (s : FVec Ideal S1024x1024 .f32) (j : S1024x1024.Idx) :
    k0_pay3 (F := Ideal) a b s j = s j + k0_pay1 (F := Ideal) a b j := by
  pointwise [k0_pay3]

theorem pay4 (a : FVec Ideal S1024x896 .bf16) (b : FVec Ideal S1024x896 .bf16) (s : FVec Ideal S1024x1024 .f32) (j : S1024x1024.Idx) :
    k0_pay4 (F := Ideal) a b s j = s j + k0_pay1 (F := Ideal) a b j := by
  pointwise [k0_pay4]

/-- The product of the blocks of point `t`. -/
def term (c : Dev nD) (t : Fin cfg0.N) : S1024x1024.Idx → EReal := fun j =>
  k0_pay1 (F := Ideal) (iblk m c 0 t) (iblk m c 1 t) j

/-- The partial sum through point `n`: the scratch after it, and at the last point of a run the product not stored there. -/
def total (c : Dev nD) (n : ℕ) (h : n < cfg0.N) : S1024x1024.Idx → EReal := fun j =>
  if n % 4 = 3 then (show FVec Ideal S1024x1024 .f32 from (outsAt0 m c n h).2) j + term m c ⟨n, h⟩ j
  else (show FVec Ideal S1024x1024 .f32 from (outsAt0 m c n h).2) j

theorem total_first (c : Dev nD) (t : Fin cfg0.N) (h : t.val % 4 = 0) (j : S1024x1024.Idx) :
    total m c t.val t.isLt j = 0 + term m c t j := by
  have h1 : ¬(1 ≤ t.val % 4 ∧ t.val % 4 ≤ 2) := by omega
  have h2 : ¬t.val % 4 = 3 := by omega
  unfold total
  rw [if_neg h2, outsAt0_A m c t h h1 h2, zero_add]
  show (_ : EReal) = _
  frame_out
  exact pay2 _ _ j

theorem total_next (c : Dev nD) (t : Fin cfg0.N) (h : ¬t.val % 4 = 0) (j : S1024x1024.Idx) :
    total m c t.val t.isLt j
      = total m c (t.val - 1) (Nat.lt_of_le_of_lt (Nat.sub_le _ _) t.isLt) j + term m c t j := by
  have h3 : ¬(t.val - 1) % 4 = 3 := by omega
  by_cases h2 : t.val % 4 = 3
  · have h1 : ¬(1 ≤ t.val % 4 ∧ t.val % 4 ≤ 2) := by omega
    unfold total
    rw [if_pos h2, if_neg h3, outsAt0_C m c t h h1 h2]
    rfl
  · have h1 : 1 ≤ t.val % 4 ∧ t.val % 4 ≤ 2 := by omega
    unfold total
    rw [if_neg h2, if_neg h3, outsAt0_B m c t h h1 h2]
    show (_ : EReal) = _
    frame_out
    rw [read_unread_whole]
    exact pay3 _ _ _ j

/-- What the last point of a run leaves in the output's buffer. -/
theorem out_last (c : Dev nD) (t : Fin cfg0.N) (h2 : t.val % 4 = 3) (j : S1024x1024.Idx) :
    (show FVec Ideal S1024x1024 .f32 from (outsAt0 m c t.val t.isLt).1) j = total m c t.val t.isLt j := by
  have h : ¬t.val % 4 = 0 := by omega
  have h1 : ¬(1 ≤ t.val % 4 ∧ t.val % 4 ≤ 2) := by omega
  rw [total_next m c t h j]
  have h3 : ¬(t.val - 1) % 4 = 3 := by omega
  unfold total
  rw [if_neg h3, outsAt0_C m c t h h1 h2]
  show (_ : EReal) = _
  frame_out
  rw [read_unread_whole]
  exact pay4 _ _ _ j

/-- Where the wide layout keeps a column. -/
def col (k : Fin 3340) : Fin 3584 :=
  if h : k.val < 3072 then ⟨k.val, by omega⟩
  else if h' : k.val < 3084 then ⟨k.val - 3072 + 3328, by omega⟩
  else ⟨k.val - 3084 + 3072, by omega⟩

/-- The 8192 rows in the wide layout: the first 3072 columns, the last 256, the 12 between, and zeros. -/
def wideD (x : FVec Ideal S8192x3340 .bf16) : FVec Ideal S8192x3584 .bf16 :=
  concatenate S8192x3584 1 [⟨S8192x3072, extractStridedSlice S8192x3072 ![0, 0] x slices_S8192x3340_S8192x3072_0_0⟩,
    ⟨S8192x256, extractStridedSlice S8192x256 ![0, 3084] x slices_S8192x3340_S8192x256_0_3084⟩,
    ⟨S8192x12, extractStridedSlice S8192x12 ![0, 3072] x slices_S8192x3340_S8192x12_0_3072⟩,
    ⟨S8192x244, broadcastInDim S8192x244 ![] bcast_S_S8192x244 (constant (F := Ideal) S_ .bf16 0x0000#16)⟩]
    concatenates_S8192x3072_S8192x256_S8192x12_S8192x244_S8192x3584_d1

/-- A column of the array is where `col` says in the wide one. -/
theorem wideD_col (x : FVec Ideal S8192x3340 .bf16) (i : Fin 8192) (k : Fin 3340) : wideD x (ix2 i (col k)) = x (ix2 i k) := by
  unfold wideD col
  obtain ⟨k, hk⟩ := k
  by_cases h1 : k < 3072
  · simp only [h1, ↓reduceDIte]
    pointwise [h1]
  · by_cases h2 : k < 3084
    · simp only [h1, h2, ↓reduceDIte]
      pointwise
      rw [dif_neg (by omega), dif_neg (by omega), dif_pos (by omega)]
      exact congrArg (fun z => x (ix2 i z)) (Fin.ext (by dsimp only; omega))
    · simp only [h1, h2, ↓reduceDIte]
      pointwise
      rw [dif_neg (by omega), dif_pos (by omega)]
      exact congrArg (fun z => x (ix2 i z)) (Fin.ext (by dsimp only; omega))

/-- The 1024 rows in the wide layout: the first 3072 columns, the last 256, the 12 between, and zeros. -/
def wideW (x : FVec Ideal S1024x3340 .bf16) : FVec Ideal S1024x3584 .bf16 :=
  concatenate S1024x3584 1 [⟨S1024x3072, extractStridedSlice S1024x3072 ![0, 0] x slices_S1024x3340_S1024x3072_0_0⟩,
    ⟨S1024x256, extractStridedSlice S1024x256 ![0, 3084] x slices_S1024x3340_S1024x256_0_3084⟩,
    ⟨S1024x12, extractStridedSlice S1024x12 ![0, 3072] x slices_S1024x3340_S1024x12_0_3072⟩,
    ⟨S1024x244, broadcastInDim S1024x244 ![] bcast_S_S1024x244 (constant (F := Ideal) S_ .bf16 0x0000#16)⟩]
    concatenates_S1024x3072_S1024x256_S1024x12_S1024x244_S1024x3584_d1

/-- A column of the array is where `col` says in the wide one. -/
theorem wideW_col (x : FVec Ideal S1024x3340 .bf16) (i : Fin 1024) (k : Fin 3340) : wideW x (ix2 i (col k)) = x (ix2 i k) := by
  unfold wideW col
  obtain ⟨k, hk⟩ := k
  by_cases h1 : k < 3072
  · simp only [h1, ↓reduceDIte]
    pointwise [h1]
  · by_cases h2 : k < 3084
    · simp only [h1, h2, ↓reduceDIte]
      pointwise
      rw [dif_neg (by omega), dif_neg (by omega), dif_pos (by omega)]
      exact congrArg (fun z => x (ix2 i z)) (Fin.ext (by dsimp only; omega))
    · simp only [h1, h2, ↓reduceDIte]
      pointwise
      rw [dif_neg (by omega), dif_pos (by omega)]
      exact congrArg (fun z => x (ix2 i z)) (Fin.ext (by dsimp only; omega))

/-- The columns past the last are zero. -/
theorem wideD_pad (x : FVec Ideal S8192x3340 .bf16) (i : Fin 8192) (k : Fin 3584) (h : 3340 ≤ k.val) : wideD x (ix2 i k) = 0 := by
  unfold wideD
  have h1 : ¬k.val < 3072 := by omega
  have h2 : ¬k.val - 3072 < 256 := by omega
  have h3 : ¬k.val - 3072 - 256 < 12 := by omega
  pointwise [h1, h2, h3]

/-- The columns past the last are zero. -/
theorem wideW_pad (x : FVec Ideal S1024x3340 .bf16) (i : Fin 1024) (k : Fin 3584) (h : 3340 ≤ k.val) : wideW x (ix2 i k) = 0 := by
  unfold wideW
  have h1 : ¬k.val < 3072 := by omega
  have h2 : ¬k.val - 3072 < 256 := by omega
  have h3 : ¬k.val - 3072 - 256 < 12 := by omega
  pointwise [h1, h2, h3]

/-- A column of the wide array that is no column of the array is past the last. -/
theorem pad_of_not_col (k : Fin 3584) (h : k ∉ Set.range col) : 3340 ≤ k.val := by
  by_contra hk
  refine h ?_
  by_cases h1 : k.val < 3072
  · exact ⟨⟨k.val, by omega⟩, by unfold col; simp [h1]⟩
  · by_cases h2 : k.val < 3328
    · refine ⟨⟨k.val - 3072 + 3084, by omega⟩, ?_⟩
      unfold col
      have a : ¬k.val - 3072 + 3084 < 3072 := by omega
      have b : ¬k.val - 3072 + 3084 < 3084 := by omega
      simp only [a, b, ↓reduceDIte]
      exact Fin.ext (by dsimp only; omega)
    · refine ⟨⟨k.val - 3328 + 3072, by omega⟩, ?_⟩
      unfold col
      have a : ¬k.val - 3328 + 3072 < 3072 := by omega
      have b : k.val - 3328 + 3072 < 3084 := by omega
      simp only [a, b, ↓reduceDIte]
      exact Fin.ext (by dsimp only; omega)

theorem col_injective : Function.Injective col := by
  intro a b h
  have h := congrArg Fin.val h
  unfold col at h
  apply Fin.ext
  split_ifs at h <;> dsimp only at h <;> omega

/-- The array the host prepares. -/
theorem given0 (c : Dev nD) : V m c main_v4 = wideD (m ((c : Thread nD τ).loc main_arg0)) := by
  show StableHlo.after _ _ _ = _
  simp only [List.flatten_cons, List.flatten_nil, List.append_nil, hostOps0, List.cons_append, List.nil_append]
  after_results
  rfl

/-- The array the host prepares. -/
theorem given1 (c : Dev nD) : V m c main_v9 = wideW (m ((c : Thread nD τ).loc main_arg1)) := by
  show StableHlo.after _ _ _ = _
  simp only [List.flatten_cons, List.flatten_nil, List.append_nil, hostOps0, List.cons_append, List.nil_append]
  after_results
  rfl

/-- The reference's result over the kernel's arguments. -/
abbrev ref (x0 : FVec Ideal S8192x3340 .bf16) (x1 : FVec Ideal S1024x3340 .bf16) : FVec Ideal S8192x1024 .f32 :=
  Cert.Reference15Ideal.Read.val_main_v4 (F := Ideal) x0 x1

/-- The reference's result at an index: one sum over the rows. -/
theorem ref_at (x0 : FVec Ideal S8192x3340 .bf16) (x1 : FVec Ideal S1024x3340 .bf16) (j : S8192x1024.Idx) :
    ref x0 x1 j = ∑ k : Fin 3340, x0 (ix2 (j 0) k) * x1 (ix2 (j 1) k) := by
  unfold ref
  refine (Cert.Reference15Ideal.Read.val_main_v4_apply x0 x1 _).trans ?_
  refine Finset.sum_congr rfl fun k _ => ?_
  blk_point

/-- The reference's result as a sum over the columns of the wide layout. -/
theorem ref_wide (x0 : FVec Ideal S8192x3340 .bf16) (x1 : FVec Ideal S1024x3340 .bf16) (j : S8192x1024.Idx) :
    ref x0 x1 j = ∑ k : Fin 3584, wideD x0 (ix2 (j 0) k) * wideW x1 (ix2 (j 1) k) := by
  rw [ref_at]
  refine Fintype.sum_of_injective col col_injective _ _ (fun k hk => ?_) fun k => ?_
  · exact (congrArg (· * _) (wideD_pad x0 (j 0) k (pad_of_not_col k hk))).trans (zero_mul _)
  · exact (congrArg₂ (· * ·) (wideD_col x0 (j 0) k) (wideW_col x1 (j 1) k)).symm

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  refine Eq.trans (out_last m c t ((flush0_2 t).mp hf) y) ?_
  rw [Pipeline.eq_sum_fin_of_reset_step_apply_of_flush (fun n h => total m c n h) 4 (fun _ => 0) (term m c)
    (total_first m c) (total_next m c) t ((flush0_2 t).mp hf) y, zero_add, ref_wide, ← given0, ← given1]
  simp only [term, part]
  refine Fin.sum_mul_add_congr fun s k hl => ?_
  blk_point [iblk, idx t, idx ⟨_, Pipeline.run_point_lt_of_flush t ((flush0_2 t).mp hf) s⟩]

theorem result (c : Dev nD) : Cert.Kernel15Ideal.Value.G2 m c
    = ref (m ((c : Thread nD τ).loc main_arg0)) (m ((c : Thread nD τ).loc main_arg1)) :=
  (Cert.Kernel15Ideal.Value.final2 m c).symm.trans (final m c)

end Cert.Kernel15Ideal.Product

namespace Cert.InADx

open Idealize.ShloMosaic Idealize.SL.Sem

theorem frame_ideal : Cert.quiescent_Kernel15Ideal := fun m ρ _ => Cert.Kernel15Ideal.Gen.frame m ρ

theorem frame_kernel : Cert.quiescent_Kernel15 := fun m ρ _ =>
  Cert.Kernel15.Gen.frame m ρ

theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

theorem algebraic : Cert.algebraic_Kernel15Ideal_Reference15Ideal := fun m ρ m' ρ' _ hag =>
  ⟨fun c => Cert.Kernel15Ideal.Value.G2 m c, Cert.Kernel15Ideal.Value.run m ρ,
    (θ_run _ _ _).mono (fun _ h c => ⟨(h c).1.trans (by
      rw [(hag c).1, (hag c).2]; exact (Cert.Kernel15Ideal.Product.result m c).symm), (h c).2⟩) (Cert.Reference15Ideal.Value.run m' ρ')⟩

end Cert.InADx

end
-- ==== Proof.InAFwd.lean ====
/- The first layer's input projection, in values: the array the kernel
   returns is the reference's term over the same arguments. One product a point. -/
module

public import proofs.«01_k».proof.Defs
public import proofs.«01_k».proof.Proof.Gen.Kernel16Ideal.Frame
public import proofs.«01_k».proof.Proof.Gen.Reference16Ideal.Run
public import proofs.«01_k».proof.Proof.Gen.Reference16Ideal.Read
public import proofs.«01_k».proof.Proof.Gen.Kernel16.Frame
public import Idealize.ShloMosaic.Lib.Pipeline.ValueKit
public import Idealize.ShloMosaic.Adequacy
public import Idealize.ShloMosaic.Init

@[expose] public section

set_option maxRecDepth 16384

noncomputable section

namespace Cert.Kernel16Ideal.Product

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- What a point stores, at an index. -/
theorem pay (a : FVec Ideal S1024x1024 .bf16) (b : FVec Ideal S1024x896 .bf16) (j : S1024x896.Idx) :
    k0_pay1 (F := Ideal) a b j = ∑ k : Fin 1024, a (ix2 (j 0) k) * b (ix2 k (j 1)) := by
  pointwise [k0_pay1]

/-- Where the wide layout keeps a column. -/
def col (k : Fin 3340) : Fin 3584 :=
  if h : k.val < 3072 then ⟨k.val, by omega⟩
  else if h' : k.val < 3084 then ⟨k.val - 3072 + 3328, by omega⟩
  else ⟨k.val - 3084 + 3072, by omega⟩

/-- The 1024 rows in the wide layout: the first 3072 columns, the last 256, the 12 between, and zeros. -/
def wide (x : FVec Ideal S1024x3340 .bf16) : FVec Ideal S1024x3584 .bf16 :=
  concatenate S1024x3584 1 [⟨S1024x3072, extractStridedSlice S1024x3072 ![0, 0] x slices_S1024x3340_S1024x3072_0_0⟩,
    ⟨S1024x256, extractStridedSlice S1024x256 ![0, 3084] x slices_S1024x3340_S1024x256_0_3084⟩,
    ⟨S1024x12, extractStridedSlice S1024x12 ![0, 3072] x slices_S1024x3340_S1024x12_0_3072⟩,
    ⟨S1024x244, broadcastInDim S1024x244 ![] bcast_S_S1024x244 (constant (F := Ideal) S_ .bf16 0x0000#16)⟩]
    concatenates_S1024x3072_S1024x256_S1024x12_S1024x244_S1024x3584_d1

/-- A column of the array is where `col` says in the wide one. -/
theorem wide_col (x : FVec Ideal S1024x3340 .bf16) (i : Fin 1024) (k : Fin 3340) : wide x (ix2 i (col k)) = x (ix2 i k) := by
  unfold wide col
  obtain ⟨k, hk⟩ := k
  by_cases h1 : k < 3072
  · simp only [h1, ↓reduceDIte]
    pointwise [h1]
  · by_cases h2 : k < 3084
    · simp only [h1, h2, ↓reduceDIte]
      pointwise
      rw [dif_neg (by omega), dif_neg (by omega), dif_pos (by omega)]
      exact congrArg (fun z => x (ix2 i z)) (Fin.ext (by dsimp only; omega))
    · simp only [h1, h2, ↓reduceDIte]
      pointwise
      rw [dif_neg (by omega), dif_pos (by omega)]
      exact congrArg (fun z => x (ix2 i z)) (Fin.ext (by dsimp only; omega))

/-- The columns of the wide layout put back in the array's order. -/
def narrow (g : FVec Ideal S8192x3584 .f32) : FVec Ideal S8192x3340 .f32 :=
  concatenate S8192x3340 1 [⟨S8192x3072, extractStridedSlice S8192x3072 ![0, 0] g slices_S8192x3584_S8192x3072_0_0⟩,
    ⟨S8192x12, extractStridedSlice S8192x12 ![0, 3328] g slices_S8192x3584_S8192x12_0_3328⟩,
    ⟨S8192x256, extractStridedSlice S8192x256 ![0, 3072] g slices_S8192x3584_S8192x256_0_3072⟩]
    concatenates_S8192x3072_S8192x12_S8192x256_S8192x3340_d1

theorem narrow_at (g : FVec Ideal S8192x3584 .f32) (i : Fin 8192) (k : Fin 3340) : narrow g (ix2 i k) = g (ix2 i (col k)) := by
  unfold narrow col
  obtain ⟨k, hk⟩ := k
  by_cases h1 : k < 3072
  · simp only [h1, ↓reduceDIte]
    pointwise [h1]
  · by_cases h2 : k < 3084
    · simp only [h1, h2, ↓reduceDIte]
      pointwise
      rw [dif_neg (by omega), dif_pos (by omega)]
      exact congrArg (fun z => g (ix2 i z)) (Fin.ext (by dsimp only; omega))
    · simp only [h1, h2, ↓reduceDIte]
      pointwise
      rw [dif_neg (by omega), dif_neg (by omega)]
      exact congrArg (fun z => g (ix2 i z)) (Fin.ext (by dsimp only; omega))

/-- The array the host prepares. -/
theorem given (c : Dev nD) : V m c main_v4 = wide (m ((c : Thread nD τ).loc main_arg1)) := by
  show StableHlo.after _ _ _ = _
  simp only [List.flatten_cons, List.flatten_nil, List.append_nil, hostOps0, List.cons_append, List.nil_append]
  after_results
  rfl

/-- The product with the wide array. -/
def prod (x0 : FVec Ideal S8192x1024 .bf16) (x1 : FVec Ideal S1024x3584 .bf16) : FVec Ideal S8192x3584 .f32 := fun j =>
  ∑ k : Fin 1024, x0 (ix2 (j 0) k) * x1 (ix2 k (j 1))

/-- The reference's result over the kernel's arguments. -/
abbrev ref (x0 : FVec Ideal S8192x1024 .bf16) (x1 : FVec Ideal S1024x3340 .bf16) : FVec Ideal S8192x3340 .f32 :=
  Cert.Reference16Ideal.Read.val_main_v2 (F := Ideal) x0 x1

/-- The reference's result at an index. -/
theorem ref_at (x0 : FVec Ideal S8192x1024 .bf16) (x1 : FVec Ideal S1024x3340 .bf16) (j : S8192x3340.Idx) :
    ref x0 x1 j = ∑ k : Fin 1024, x0 (ix2 (j 0) k) * x1 (ix2 k (j 1)) := by
  unfold ref
  rw [← Cert.Reference16Ideal.Read.val_main_v2_eq]
  pointwise

theorem final (c : Dev nD) : (dats m 0 c).arrAt 2 (cfgs 0).N
    = prod (m ((c : Thread nD τ).loc main_arg0)) (wide (m ((c : Thread nD τ).loc main_arg1))) := by
  refine (dats m 0 c).arrAt_eq_of_covers 2 _ (by decide +kernel) fun t hf y => ?_
  rw [← given, ← V_main_arg0 m c]
  blk_simp
  rw [after0_2]
  frame_out
  refine (pay _ _ y).trans ?_
  simp only [prod]
  blk_point [iblk, idx t]

/-- The columns put back, the product with the wide array is the reference's result. -/
theorem narrow_prod (x0 : FVec Ideal S8192x1024 .bf16) (x1 : FVec Ideal S1024x3340 .bf16) : narrow (prod x0 (wide x1)) = ref x0 x1 := by
  funext j
  rw [ref_at]
  refine Eq.trans ?_ ((narrow_at (prod x0 (wide x1)) (j 0) (j 1)).trans ?_)
  · exact congrArg (narrow (prod x0 (wide x1))) (ix2_eta j).symm
  · exact Finset.sum_congr rfl fun k _ => congrArg (x0 _ * ·) (wide_col x1 k (j 1))

/-- What the operations after the call leave in the result. -/
theorem result (c : Dev nD) : Pipeline.afterTail₀ cfgs (dats m) 0 (V0 m) [hostOps1] c main_v9
    = ref (m ((c : Thread nD τ).loc main_arg0)) (m ((c : Thread nD τ).loc main_arg1)) := by
  have h : Pipeline.withArrays spec0 c (V0 m c) (fun w => (dats m 0 c).arrAt w cfg0.N) (Proc.devRef .tc main_v5)
      = (dats m 0 c).arrAt 2 cfg0.N :=
    Pipeline.withArrays_arr spec0 (by decide) c (V0 m c) (fun w => (dats m 0 c).arrAt w cfg0.N) 2
  rw [← narrow_prod, ← final m c]
  unfold Pipeline.afterTail₀
  simp only [List.flatten_cons, List.flatten_nil, List.append_nil, hostOps1]
  after_results
  refine Eq.trans ?_ (congrArg narrow h)
  rfl

/-- The run, with the result named. -/
theorem run (ρ : Dev nD → PrngReg) : θ_run defs (onTc (τ := τ) (main (F := Ideal))) ⟨m, fun _ => 0, ρ⟩ fun r => ∀ c : Dev nD,
      r.2.mem ((c : Thread nD τ).loc main_v9)
          = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).2 main_v9 (Pipeline.mem_restRefs_of main_v9 (by decide) (by decide))).trans (result m c), h.2 c⟩)
    (θ_run_and (run_main m ρ) (unchanged m ρ))

end Cert.Kernel16Ideal.Product

namespace Cert.InAFwd

open Idealize.ShloMosaic Idealize.SL.Sem

theorem frame_ideal : Cert.quiescent_Kernel16Ideal := fun m ρ _ => Cert.Kernel16Ideal.Gen.frame m ρ

theorem frame_kernel : Cert.quiescent_Kernel16 := fun m ρ _ =>
  Cert.Kernel16.Gen.frame m ρ

theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run m ρ)

theorem algebraic : Cert.algebraic_Kernel16Ideal_Reference16Ideal := fun m ρ m' ρ' _ hag =>
  ⟨fun c => Cert.Kernel16Ideal.Product.ref (m ((c.tc : Thread Cert.Kernel16Ideal.nD Cert.Kernel16Ideal.τ).loc Cert.Kernel16Ideal.main_arg0))
    (m ((c.tc : Thread Cert.Kernel16Ideal.nD Cert.Kernel16Ideal.τ).loc Cert.Kernel16Ideal.main_arg1)), Cert.Kernel16Ideal.Product.run m ρ,
    (θ_run _ _ _).mono (fun _ h c => ⟨(h c).1.trans (by rw [(hag c).1, (hag c).2]; rfl), (h c).2⟩) (Cert.Reference16Ideal.Value.run m' ρ')⟩

end Cert.InAFwd

end
-- ==== Proof.MemDw.lean ====
/- The weight gradient of the memory projection, in values: the array the kernel
   returns is the reference's term over the same arguments. One product. -/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel17.Frame
public import Idealize.ShloMosaic.Lib.Pipeline.ValueKit
public import Idealize.ShloMosaic.Adequacy
public import Idealize.ShloMosaic.Init

@[expose] public section

set_option maxRecDepth 16384

noncomputable section

namespace Cert.Kernel17Ideal.Product

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![0, 0] ∧ win0_1.index t = ![0, 0] ∧ win0_2.index t = ![0, 0] :=
  (by decide +kernel : ∀ t : Fin grid0.N, _)

/-- What a point stores, at an index. -/
theorem pay (a : FVec Ideal S1024x1024 .bf16) (b : FVec Ideal S1024x512 .bf16) (j : S1024x512.Idx) :
    k0_pay1 (F := Ideal) a b j = ∑ k : Fin 1024, a (ix2 k (j 0)) * b (ix2 k (j 1)) := by
  pointwise [k0_pay1]

/-- The reference's result over the kernel's arguments. -/
abbrev ref (x0 : FVec Ideal S1024x1024 .bf16) (x1 : FVec Ideal S1024x512 .bf16) : FVec Ideal S1024x512 .bf16 :=
  Cert.Reference17Ideal.Read.val_main_v7 (F := Ideal) x0 x1

/-- The reference's result at an index. -/
theorem ref_at (x0 : FVec Ideal S1024x1024 .bf16) (x1 : FVec Ideal S1024x512 .bf16) (j : S1024x512.Idx) :
    ref x0 x1 j = ∑ k : Fin 1024, x0 (ix2 k (j 0)) * x1 (ix2 k (j 1)) := by
  unfold ref
  rw [← Cert.Reference17Ideal.Read.val_main_v7_eq]
  pointwise
  exact Finset.sum_congr rfl fun k _ => mul_comm _ _

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [ref_at]
  refine (pay _ _ y).trans ?_
  blk_point [iblk, V, idx t]

end Cert.Kernel17Ideal.Product

namespace Cert.MemDw

open Idealize.ShloMosaic Idealize.SL.Sem

theorem frame_ideal : Cert.quiescent_Kernel17Ideal := fun m ρ _ => Cert.Kernel17Ideal.Gen.frame m ρ

theorem frame_kernel : Cert.quiescent_Kernel17 := fun m ρ _ =>
  Cert.Kernel17.Gen.frame m ρ

theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run m ρ)

theorem algebraic : Cert.algebraic_Kernel17Ideal_Reference17Ideal := fun m ρ m' ρ' _ hag =>
  ⟨fun c => (Cert.Kernel17Ideal.Gen.dats m 0 c).arrAt 2 Cert.Kernel17Ideal.cfg0.N, Cert.Kernel17Ideal.Value.run_blocks m ρ,
    (θ_run _ _ _).mono (fun _ h c => ⟨(h c).1.trans (by
      rw [(hag c).1, (hag c).2]; exact (Cert.Kernel17Ideal.Product.final m c).symm), (h c).2⟩)
      (Cert.Reference17Ideal.Value.run m' ρ')⟩

end Cert.MemDw

end
-- ==== Proof.MemDx.lean ====
/- The gradient the memory projection hands its input, in values: the array the kernel
   returns is the reference's term over the same arguments. One product. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel18.Frame
public import Idealize.ShloMosaic.Lib.Pipeline.ValueKit
public import Idealize.ShloMosaic.Adequacy
public import Idealize.ShloMosaic.Init

@[expose] public section

set_option maxRecDepth 16384

noncomputable section

namespace Cert.Kernel18Ideal.Product

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![0, 0] ∧ win0_1.index t = ![0, 0] ∧ win0_2.index t = ![0, 0] :=
  (by decide +kernel : ∀ t : Fin grid0.N, _)

/-- What a point stores, at an index. -/
theorem pay (a : FVec Ideal S1024x512 .bf16) (b : FVec Ideal S1024x512 .bf16) (j : S1024x1024.Idx) :
    k0_pay1 (F := Ideal) a b j = ∑ k : Fin 512, a (ix2 (j 0) k) * b (ix2 (j 1) k) := by
  pointwise [k0_pay1]

/-- The reference's result over the kernel's arguments. -/
abbrev ref (x0 : FVec Ideal S1024x512 .bf16) (x1 : FVec Ideal S1024x512 .bf16) : FVec Ideal S1024x1024 .f32 :=
  Cert.Reference18Ideal.Read.val_main_v4 (F := Ideal) x0 x1

/-- The reference's result at an index. -/
theorem ref_at (x0 : FVec Ideal S1024x512 .bf16) (x1 : FVec Ideal S1024x512 .bf16) (j : S1024x1024.Idx) :
    ref x0 x1 j = ∑ k : Fin 512, x0 (ix2 (j 0) k) * x1 (ix2 (j 1) k) := by
  unfold ref
  rw [← Cert.Reference18Ideal.Read.val_main_v4_eq]
  pointwise

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [ref_at]
  refine (pay _ _ y).trans ?_
  blk_point [iblk, V, idx t]

end Cert.Kernel18Ideal.Product

namespace Cert.MemDx

open Idealize.ShloMosaic Idealize.SL.Sem

theorem frame_ideal : Cert.quiescent_Kernel18Ideal := fun m ρ _ => Cert.Kernel18Ideal.Gen.frame m ρ

theorem frame_kernel : Cert.quiescent_Kernel18 := fun m ρ _ =>
  Cert.Kernel18.Gen.frame m ρ

theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run m ρ)

theorem algebraic : Cert.algebraic_Kernel18Ideal_Reference18Ideal := fun m ρ m' ρ' _ hag =>
  ⟨fun c => (Cert.Kernel18Ideal.Gen.dats m 0 c).arrAt 2 Cert.Kernel18Ideal.cfg0.N, Cert.Kernel18Ideal.Value.run_blocks m ρ,
    (θ_run _ _ _).mono (fun _ h c => ⟨(h c).1.trans (by
      rw [(hag c).1, (hag c).2]; exact (Cert.Kernel18Ideal.Product.final m c).symm), (h c).2⟩)
      (Cert.Reference18Ideal.Value.run m' ρ')⟩

end Cert.MemDx

end
-- ==== Proof.MemFwd.lean ====
/- The memory projection, in values: the array the kernel
   returns is the reference's term over the same arguments. One product. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel19.Frame
public import Idealize.ShloMosaic.Lib.Pipeline.ValueKit
public import Idealize.ShloMosaic.Adequacy
public import Idealize.ShloMosaic.Init

@[expose] public section

set_option maxRecDepth 16384

noncomputable section

namespace Cert.Kernel19Ideal.Product

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ)

/-- The blocks the windows take at each point. -/
theorem idx : ∀ t : Fin cfg0.N, win0_0.index t = ![0, 0] ∧ win0_1.index t = ![0, 0] ∧ win0_2.index t = ![0, 0] :=
  (by decide +kernel : ∀ t : Fin grid0.N, _)

/-- What a point stores, at an index. -/
theorem pay (a : FVec Ideal S1024x1024 .bf16) (b : FVec Ideal S1024x512 .bf16) (j : S1024x512.Idx) :
    k0_pay1 (F := Ideal) a b j = ∑ k : Fin 1024, a (ix2 (j 0) k) * b (ix2 k (j 1)) := by
  pointwise [k0_pay1]

/-- The reference's result over the kernel's arguments. -/
abbrev ref (x0 : FVec Ideal S1024x1024 .bf16) (x1 : FVec Ideal S1024x512 .bf16) : FVec Ideal S1024x512 .bf16 :=
  Cert.Reference19Ideal.Read.val_main_v3 (F := Ideal) x0 x1

/-- The reference's result at an index. -/
theorem ref_at (x0 : FVec Ideal S1024x1024 .bf16) (x1 : FVec Ideal S1024x512 .bf16) (j : S1024x512.Idx) :
    ref x0 x1 j = ∑ k : Fin 1024, x0 (ix2 (j 0) k) * x1 (ix2 k (j 1)) := by
  unfold ref
  rw [← Cert.Reference19Ideal.Read.val_main_v3_eq]
  pointwise

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [ref_at]
  refine (pay _ _ y).trans ?_
  blk_point [iblk, V, idx t]

end Cert.Kernel19Ideal.Product

namespace Cert.MemFwd

open Idealize.ShloMosaic Idealize.SL.Sem

theorem frame_ideal : Cert.quiescent_Kernel19Ideal := fun m ρ _ => Cert.Kernel19Ideal.Gen.frame m ρ

theorem frame_kernel : Cert.quiescent_Kernel19 := fun m ρ _ =>
  Cert.Kernel19.Gen.frame m ρ

theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run m ρ)

theorem algebraic : Cert.algebraic_Kernel19Ideal_Reference19Ideal := fun m ρ m' ρ' _ hag =>
  ⟨fun c => (Cert.Kernel19Ideal.Gen.dats m 0 c).arrAt 2 Cert.Kernel19Ideal.cfg0.N, Cert.Kernel19Ideal.Value.run_blocks m ρ,
    (θ_run _ _ _).mono (fun _ h c => ⟨(h c).1.trans (by
      rw [(hag c).1, (hag c).2]; exact (Cert.Kernel19Ideal.Product.final m c).symm), (h c).2⟩)
      (Cert.Reference19Ideal.Value.run m' ρ')⟩

end Cert.MemFwd

end
-- ==== Proof.KT.lean ====
/- What the tiles of the two recurrence kernels hold over the ideal reals, at an index. -/
module

public import proofs.«01_k».proof.Proof.BwdLoop
public import Idealize.ShloMosaic.Lib.Pipeline.ValueKit

@[expose] public section

noncomputable section

namespace Cert.KernelIdeal.Scan

open Idealize.ShloMosaic Idealize.ShloMosaic.TcCoe Idealize.ShloMosaic.Tactic
open Cert.KernelIdeal.Gen

variable (d s : FVec Ideal S128x128 .f32) (u w qd kd : Vec Ideal S64x128 .f32) (a : Vec Ideal S1x64x64 .f32) (g o : Vec Ideal S64x128 .f32)
  (t : Vec Ideal S1x1x1x128x128 .bf16)

theorem stepS_at (j : S128x128.Idx) : stepS s u w kd g j
    = s j * Ideal.exp (g (ix2 63 (j 1))) + ∑ c : Fin 64, kd (ix2 c (j 0)) * (u (ix2 c (j 1)) - ∑ k : Fin 128, w (ix2 c k) * s (ix2 k (j 1))) := by
  pointwise [stepS, k0_pay38, k0_pay36]

theorem stepO_at (j : S64x128.Idx) : stepO s u w qd a j
    = (∑ k : Fin 128, qd (ix2 (j 0) k) * s (ix2 k (j 1)))
      + ∑ c : Fin 64, a (ix3 0 (j 0) c) * (u (ix2 c (j 1)) - ∑ k : Fin 128, w (ix2 c k) * s (ix2 k (j 1))) := by
  pointwise [stepO, k0_pay37, k0_pay36]

theorem saved_at (j : S1x1x1x128x128.Idx) : saved s j = s (ix2 (j 3) (j 4)) := by
  pointwise [saved, k0_pay28]

theorem gU_at (j : S64x128.Idx) : gU d kd a o j
    = (∑ k : Fin 128, d (ix2 k (j 1)) * kd (ix2 (j 0) k)) + ∑ c : Fin 64, o (ix2 c (j 1)) * a (ix3 0 c (j 0)) := by
  pointwise [gU, k1_pay23, k1_pay12, k1_pay17, k1_pay16, k1_pay21, k1_pay22]

theorem gW_at (j : S64x128.Idx) : gW d kd a t o j = ∑ e : Fin 128, (0 - gU d kd a o (ix2 (j 0) e)) * t (ix5 0 0 0 (j 1) e) := by
  pointwise [gW, gU, k1_pay28, k1_pay26, k1_pay8, k1_pay6, k1_pay23, k1_pay12, k1_pay17, k1_pay16, k1_pay21, k1_pay22]

theorem gQ_at (j : S64x128.Idx) : gQ t o j = ∑ e : Fin 128, o (ix2 (j 0) e) * t (ix5 0 0 0 (j 1) e) := by
  pointwise [gQ, k1_pay25, k1_pay11, k1_pay6, k1_pay21, k1_pay22]

theorem gK_at (j : S64x128.Idx) : gK d u w t j
    = ∑ e : Fin 128, d (ix2 (j 1) e) * (u (ix2 (j 0) e) - ∑ k : Fin 128, w (ix2 (j 0) k) * t (ix5 0 0 0 k e)) := by
  pointwise [gK, k1_pay19, k1_pay18, k1_pay16, k1_pay9, k1_pay8, k1_pay6, k1_pay7, k1_pay13, k1_pay11]

theorem gA_at (j : S1x64x64.Idx) : gA u w t o j
    = ∑ e : Fin 128, o (ix2 (j 1) e) * (u (ix2 (j 2) e) - ∑ k : Fin 128, w (ix2 (j 2) k) * t (ix5 0 0 0 k e)) := by
  pointwise [gA, k1_pay29, k1_pay24, k1_pay13, k1_pay9, k1_pay8, k1_pay7, k1_pay6, k1_pay21, k1_pay22]

theorem gG_at (j : S64x128.Idx) : gG d g t j
    = if (j 0).val = 63 then (∑ k : Fin 128, t (ix5 0 0 0 k (j 1)) * d (ix2 k (j 1))) * Ideal.exp (g (ix2 63 (j 1))) else 0 := by
  pointwise [gG, k1_pay30, k1_pay149, k1_pay20, k1_pay6, k1_pay14, k1_pay15]
  have key : ∀ n : Fin 64, IntOp.cmpi .eq (BitVec.ofNat 32 n.val) 63#32 = if n.val = 63 then 1#1 else 0#1 := by decide
  rw [show IntOp.cmpi .eq (BitVec.ofNat 32 (j 0).val) 63#32 = if (j 0).val = 63 then 1#1 else 0#1 from key (j 0)]
  by_cases h : (j 0).val = 63
  · rw [if_pos h, if_pos h]; rfl
  · rw [if_neg h, if_neg h]; rfl

theorem gS_at (j : S128x128.Idx) : gS d w qd kd a g o j
    = d j * Ideal.exp (g (ix2 63 (j 1))) + (∑ c : Fin 64, o (ix2 c (j 1)) * qd (ix2 c (j 0)))
      + ∑ c : Fin 64, (0 - gU d kd a o (ix2 c (j 1))) * w (ix2 c (j 0)) := by
  pointwise [gS, gU, k1_pay27, k1_pay7, k1_pay10, k1_pay12, k1_pay14, k1_pay15, k1_pay17, k1_pay16, k1_pay26, k1_pay23, k1_pay21, k1_pay22]

end Cert.KernelIdeal.Scan

end
-- ==== Proof.GdnGoal.lean ====
/- The results of the recurrence and of its cotangents as arrays: chunk `i` of head `h` of sequence `b` is the tile a chain of 32 chunks gives. -/
module

public import proofs.«01_k».proof.Proof.KT

@[expose] public section

noncomputable section

namespace Cert.KernelIdeal.Scan

open Idealize.ShloMosaic

/-- Chunk `i` of head `h` of sequence `b`. -/
def ch (x : FVec Ideal S8192x768 .f32) (b : Fin 4) (h : Fin 6) (i : Fin 32) : FVec Ideal S64x128 .f32 := fun j =>
  x (ix2 ⟨b.val * 2048 + i.val * 64 + (j 0).val, by have := b.isLt; have := i.isLt; have : (j 0).val < 64 := (j 0).isLt; omega⟩
    ⟨h.val * 128 + (j 1).val, by have := h.isLt; have : (j 1).val < 128 := (j 1).isLt; omega⟩)
def chA (x : FVec Ideal S6x8192x64 .f32) (b : Fin 4) (h : Fin 6) (i : Fin 32) : FVec Ideal S1x64x64 .f32 := fun j =>
  x (ix3 h ⟨b.val * 2048 + i.val * 64 + (j 1).val, by have := b.isLt; have := i.isLt; have : (j 1).val < 64 := (j 1).isLt; omega⟩ (j 2))

/-- The chunk numbered `n`, from the front and from the end. -/
abbrev fr (n : ℕ) : Fin 32 := ⟨n % 32, Nat.mod_lt _ (by decide)⟩
abbrev en (n : ℕ) : Fin 32 := fr (31 - n)

/-- No state. -/
def noS : FVec Ideal S128x128 .f32 := fun _ => (0 : EReal)

/-- The array whose chunk `i` of head `h` of sequence `b` is `f i b h`. -/
def rows (f : Fin 32 → Fin 4 → Fin 6 → FVec Ideal S64x128 .f32) : FVec Ideal S8192x768 .f32 := fun y =>
  f ⟨(y 0).val / 64 % 32, Nat.mod_lt _ (by decide)⟩ ⟨(y 0).val / 2048, by have : (y 0).val < 8192 := (y 0).isLt; omega⟩
    ⟨(y 1).val / 128, by have : (y 1).val < 768 := (y 1).isLt; omega⟩
    (ix2 ⟨(y 0).val % 64, Nat.mod_lt _ (by decide)⟩ ⟨(y 1).val % 128, Nat.mod_lt _ (by decide)⟩)
def rowsA (f : Fin 32 → Fin 4 → Fin 6 → FVec Ideal S1x64x64 .f32) : FVec Ideal S6x8192x64 .f32 := fun y =>
  f ⟨(y 1).val / 64 % 32, Nat.mod_lt _ (by decide)⟩ ⟨(y 1).val / 2048, by have : (y 1).val < 8192 := (y 1).isLt; omega⟩ (y 0)
    (ix3 0 ⟨(y 1).val % 64, Nat.mod_lt _ (by decide)⟩ (y 2))

section
variable (u w qd kd : FVec Ideal S8192x768 .f32) (a : FVec Ideal S6x8192x64 .f32) (g o : FVec Ideal S8192x768 .f32)

/-- The state before chunk `n`, as saved, and the cotangent of the state after `n` chunks from the end. -/
def St (b : Fin 4) (h : Fin 6) (n : ℕ) : FVec Ideal S128x128 .f32 :=
  scan (fun i => ch u b h (fr i)) (fun i => ch w b h (fr i)) (fun i => ch kd b h (fr i)) (fun i => ch g b h (fr i)) noS n
def Sv (b : Fin 4) (h : Fin 6) (n : ℕ) : FVec Ideal S1x1x1x128x128 .bf16 := saved (St u w kd g b h n)
def Dt (b : Fin 4) (h : Fin 6) (n : ℕ) : FVec Ideal S128x128 .f32 :=
  back (fun i => ch w b h (en i)) (fun i => ch qd b h (en i)) (fun i => ch kd b h (en i)) (fun i => chA a b h (en i)) (fun i => ch g b h (en i))
    (fun i => ch o b h (en i)) noS n

/-- The output, -/
def tO (i : Fin 32) (b : Fin 4) (h : Fin 6) : FVec Ideal S64x128 .f32 :=
  stepO (St u w kd g b h i.val) (ch u b h i) (ch w b h i) (ch qd b h i) (chA a b h i)
/-- and the cotangents, by chunk. -/
def tU (i : Fin 32) (b : Fin 4) (h : Fin 6) : FVec Ideal S64x128 .f32 := gU (Dt w qd kd a g o b h (31 - i.val)) (ch kd b h i) (chA a b h i) (ch o b h i)
def tW (i : Fin 32) (b : Fin 4) (h : Fin 6) : FVec Ideal S64x128 .f32 :=
  gW (Dt w qd kd a g o b h (31 - i.val)) (ch kd b h i) (chA a b h i) (Sv u w kd g b h i.val) (ch o b h i)
def tQ (i : Fin 32) (b : Fin 4) (h : Fin 6) : FVec Ideal S64x128 .f32 := gQ (Sv u w kd g b h i.val) (ch o b h i)
def tK (i : Fin 32) (b : Fin 4) (h : Fin 6) : FVec Ideal S64x128 .f32 :=
  gK (Dt w qd kd a g o b h (31 - i.val)) (ch u b h i) (ch w b h i) (Sv u w kd g b h i.val)
def tA (i : Fin 32) (b : Fin 4) (h : Fin 6) : FVec Ideal S1x64x64 .f32 := gA (ch u b h i) (ch w b h i) (Sv u w kd g b h i.val) (ch o b h i)
def tG (i : Fin 32) (b : Fin 4) (h : Fin 6) : FVec Ideal S64x128 .f32 := gG (Dt w qd kd a g o b h (31 - i.val)) (ch g b h i) (Sv u w kd g b h i.val)
end

end Cert.KernelIdeal.Scan

end
-- ==== Proof.KerVal.lean ====
/- The arrays the two recurrence calls return: every chunk of every head of every sequence is the chain's tile, the states being carried
   over the four blocks of rows of a sequence. -/
module

public import proofs.«01_k».proof.Proof.Run
public import proofs.«01_k».proof.Proof.GdnGoal

@[expose] public section

set_option maxRecDepth 16384

noncomputable section

namespace Cert.KernelIdeal.Scan

open Idealize.ShloMosaic Idealize.ShloMosaic.TcCoe Idealize.ShloMosaic.Tactic
open Idealize.ShloMosaic.Pipeline (Dat)
open Cert.KernelIdeal.Gen

theorem scan_congr {u u' w w' kd kd' g g' : ℕ → Vec Ideal S64x128 .f32} {s s' : FVec Ideal S128x128 .f32} (hs : s = s') :
    ∀ n, (∀ i < n, u i = u' i ∧ w i = w' i ∧ kd i = kd' i ∧ g i = g' i) → scan u w kd g s n = scan u' w' kd' g' s' n
  | 0, _ => hs
  | n + 1, h => by
    show stepS (scan u w kd g s n) (u n) (w n) (kd n) (g n) = stepS (scan u' w' kd' g' s' n) (u' n) (w' n) (kd' n) (g' n)
    rw [scan_congr hs n fun i hi => h i (Nat.lt_succ_of_lt hi), (h n (Nat.lt_succ_self n)).1, (h n (Nat.lt_succ_self n)).2.1,
      (h n (Nat.lt_succ_self n)).2.2.1, (h n (Nat.lt_succ_self n)).2.2.2]

theorem back_congr {w w' qd qd' kd kd' : ℕ → Vec Ideal S64x128 .f32} {a a' : ℕ → Vec Ideal S1x64x64 .f32} {g g' o o' : ℕ → Vec Ideal S64x128 .f32}
    {d d' : FVec Ideal S128x128 .f32} (hd : d = d') :
    ∀ n, (∀ i < n, w i = w' i ∧ qd i = qd' i ∧ kd i = kd' i ∧ a i = a' i ∧ g i = g' i ∧ o i = o' i) →
      back w qd kd a g o d n = back w' qd' kd' a' g' o' d' n
  | 0, _ => hd
  | n + 1, h => by
    obtain ⟨h1, h2, h3, h4, h5, h6⟩ := h n (Nat.lt_succ_self n)
    show gS (back w qd kd a g o d n) (w n) (qd n) (kd n) (a n) (g n) (o n) = gS (back w' qd' kd' a' g' o' d' n) (w' n) (qd' n) (kd' n) (a' n) (g' n) (o' n)
    rw [back_congr hd n fun i hi => h i (Nat.lt_succ_of_lt hi), h1, h2, h3, h4, h5, h6]

/-- What is left for the next point is what it starts from. -/
theorem entry_leave (s : ℕ → FVec Ideal S128x128 .f32) (h : Fin 6) : entry (leave s) h.val = s h.val := by
  funext j
  have e : ∀ n, k0_pay39 (F := Ideal) (s n) = fun i => s n (ix2 (i 1) (i 2)) := fun n => by
    funext i; pointwise [k0_pay39]
  have e' : ∀ x : FVec Ideal S1x128x128 .f32, k0_pay30 (F := Ideal) x j = x (ix3 0 (j 0) (j 1)) := fun x => by
    pointwise [k0_pay30]
  unfold entry
  rw [e']
  show k0_pay39 (F := Ideal) (s (h.val % 6)) _ = _
  rw [e, Nat.mod_eq_of_lt h.isLt]
  refine congrArg (s h.val) (funext fun a => Fin.ext ?_)
  have h0 : (j 0).val < 128 := (j 0).isLt
  have h1 : (j 1).val < 128 := (j 1).isLt
  fin_cases a
  · show (j 0).val % 128 % 128 = (j 0).val; omega
  · show (j 1).val % 128 % 128 = (j 1).val; omega
theorem entry_zero (h : ℕ) : entry (zeroC (F := Ideal)) h = noS := by
  funext j
  have e' : ∀ x : FVec Ideal S1x128x128 .f32, k0_pay30 (F := Ideal) x j = x (ix3 0 (j 0) (j 1)) := fun x => by
    pointwise [k0_pay30]
  have e : ∀ i, (zeroC (F := Ideal)) i = (0 : EReal) := fun i => by
    pointwise [zeroC, k0_pay29]
  unfold entry
  rw [e']
  exact e _

/-- A block of rows of chunks as a block of the array of the chunks. -/
theorem wide_rows (f : Fin 32 → Fin 4 → Fin 6 → FVec Ideal S64x128 .f32) (f' : ℕ → ℕ → FVec Ideal S64x128 .f32) (b : Fin 4) (r : ℕ) (hr : r < 4)
    (hf : ∀ k < 8, ∀ h : Fin 6, f' k h.val = f (fr (8 * r + k)) b h) (y : S512x768.Idx) (z : S8192x768.Idx)
    (h0 : (z 0).val = (4 * b.val + r) * 512 + (y 0).val) (h1 : (z 1).val = (y 1).val) : wide f' y = rows f z := by
  have y0 : (y 0).val < 512 := (y 0).isLt
  have y1 : (y 1).val < 768 := (y 1).isLt
  have hb := b.isLt
  have key : ∀ i i' b b' h h' j j', i = i' → b = b' → h = h' → j = j' → f i b h j = f i' b' h' j' := by
    intro i i' b b' h h' j j' e1 e2 e3 e4; rw [e1, e2, e3, e4]
  refine (congrFun (hf ((y 0).val / 64) (by omega) ⟨(y 1).val / 128, by omega⟩) _).trans (key _ _ _ _ _ _ _ _ (Fin.ext ?_) (Fin.ext ?_) (Fin.ext ?_) (funext fun a => Fin.ext ?_))
  · show (8 * r + (y 0).val / 64) % 32 = (z 0).val / 64 % 32; omega
  · show b.val = (z 0).val / 2048; omega
  · show (y 1).val / 128 = (z 1).val / 128; omega
  · fin_cases a
    · show (y 0).val % 64 = (z 0).val % 64; omega
    · show (y 1).val % 128 = (z 1).val % 128; omega
theorem wide_rowsA (f : Fin 32 → Fin 4 → Fin 6 → FVec Ideal S1x64x64 .f32) (f' : ℕ → ℕ → FVec Ideal S1x64x64 .f32) (b : Fin 4) (r : ℕ) (hr : r < 4)
    (hf : ∀ k < 8, ∀ h : Fin 6, f' k h.val = f (fr (8 * r + k)) b h) (y : S6x512x64.Idx) (z : S6x8192x64.Idx)
    (h0 : (z 0).val = (y 0).val) (h1 : (z 1).val = (4 * b.val + r) * 512 + (y 1).val) (h2 : (z 2).val = (y 2).val) : wideA f' y = rowsA f z := by
  have y1 : (y 1).val < 512 := (y 1).isLt
  have y2 : (y 2).val < 64 := (y 2).isLt
  have hb := b.isLt
  have key : ∀ i i' b b' h h' j j', i = i' → b = b' → h = h' → j = j' → f i b h j = f i' b' h' j' := by
    intro i i' b b' h h' j j' e1 e2 e3 e4; rw [e1, e2, e3, e4]
  refine (congrFun (hf ((y 1).val / 64) (by omega) (y 0)) _).trans (key _ _ _ _ _ _ _ _ (Fin.ext ?_) (Fin.ext ?_) (Fin.ext ?_) (funext fun a => Fin.ext ?_))
  · show (8 * r + (y 1).val / 64) % 32 = (z 1).val / 64 % 32; omega
  · show b.val = (z 1).val / 2048; omega
  · show (y 0).val = (z 0).val; omega
  · fin_cases a
    · rfl
    · show (y 1).val % 64 = (z 1).val % 64; omega
    · show (y 2).val % 64 = (z 2).val; omega

/-- The chunks of a block of 512 rows. -/
theorem cut_rows (x : FVec Ideal S8192x768 .f32) (x' : Vec Ideal S512x768 .f32) (b : Fin 4) (r : ℕ) (hr : r < 4)
    (hx : ∀ y z, (z 0).val = (4 * b.val + r) * 512 + (y 0).val → (z 1).val = (y 1).val → x' y = x z) (k : ℕ) (hk : k < 8) (h : Fin 6) :
    cut x' k h.val = ch x b h (fr (8 * r + k)) := by
  funext j
  have j0 : (j 0).val < 64 := (j 0).isLt
  have j1 : (j 1).val < 128 := (j 1).isLt
  have hb := b.isLt
  have hh := h.isLt
  refine hx _ _ ?_ ?_
  · show b.val * 2048 + (8 * r + k) % 32 * 64 + (j 0).val = (4 * b.val + r) * 512 + (64 * k + (j 0).val) % 512; omega
  · show h.val * 128 + (j 1).val = (128 * h.val + (j 1).val) % 768; omega
theorem cut_rowsA (x : FVec Ideal S6x8192x64 .f32) (x' : Vec Ideal S6x512x64 .f32) (b : Fin 4) (r : ℕ) (hr : r < 4)
    (hx : ∀ y z, (z 0).val = (y 0).val → (z 1).val = (4 * b.val + r) * 512 + (y 1).val → (z 2).val = (y 2).val → x' y = x z) (k : ℕ) (hk : k < 8) (h : Fin 6) :
    cutA x' k h.val = chA x b h (fr (8 * r + k)) := by
  funext j
  have j1 : (j 1).val < 64 := (j 1).isLt
  have j2 : (j 2).val < 64 := (j 2).isLt
  have hb := b.isLt
  have hh := h.isLt
  refine hx _ _ ?_ ?_ ?_
  · show h.val = h.val % 6; omega
  · show b.val * 2048 + (8 * r + k) % 32 * 64 + (j 1).val = (4 * b.val + r) * 512 + (64 * k + (j 1).val) % 512; omega
  · show (j 2).val = (j 2).val % 64; omega

/-- The states before all chunks. -/
def stA (u w kd g : FVec Ideal S8192x768 .f32) : FVec Ideal S4x6x32x128x128 .bf16 := fun y =>
  St u w kd g (y 0) (y 1) (y 2).val (ix2 (y 3) (y 4))

variable (V : (c : Dev nD) → (b : Ref sig .tc) → Buf (Elt Ideal) ((c : Thread nD τ).loc b)) (c : Dev nD)

/-- The blocks the windows take at each point. -/
theorem idx0 : ∀ t : Fin cfg0.N, win0_0.index t = ![t.val, 0] ∧ win0_1.index t = ![t.val, 0] ∧ win0_2.index t = ![t.val, 0] ∧ win0_3.index t = ![t.val, 0]
    ∧ win0_4.index t = ![0, t.val, 0] ∧ win0_5.index t = ![t.val, 0] ∧ win0_6.index t = ![t.val, 0] ∧ win0_7.index t = ![t.val / 4, 0, t.val % 4, 0, 0] :=
  (by decide +kernel : ∀ t : Fin grid0.N, _)
theorem idx1 : ∀ t : Fin cfg1.N, win1_0.index t = ![4 * (t.val / 4) + (3 - t.val % 4), 0] ∧ win1_1.index t = ![4 * (t.val / 4) + (3 - t.val % 4), 0]
    ∧ win1_2.index t = ![4 * (t.val / 4) + (3 - t.val % 4), 0] ∧ win1_3.index t = ![4 * (t.val / 4) + (3 - t.val % 4), 0]
    ∧ win1_4.index t = ![0, 4 * (t.val / 4) + (3 - t.val % 4), 0] ∧ win1_5.index t = ![4 * (t.val / 4) + (3 - t.val % 4), 0]
    ∧ win1_6.index t = ![t.val / 4, 0, 3 - t.val % 4, 0, 0] ∧ win1_7.index t = ![4 * (t.val / 4) + (3 - t.val % 4), 0]
    ∧ win1_8.index t = ![4 * (t.val / 4) + (3 - t.val % 4), 0] ∧ win1_9.index t = ![4 * (t.val / 4) + (3 - t.val % 4), 0]
    ∧ win1_10.index t = ![4 * (t.val / 4) + (3 - t.val % 4), 0] ∧ win1_11.index t = ![4 * (t.val / 4) + (3 - t.val % 4), 0]
    ∧ win1_12.index t = ![0, 4 * (t.val / 4) + (3 - t.val % 4), 0] ∧ win1_13.index t = ![4 * (t.val / 4) + (3 - t.val % 4), 0] :=
  (by decide +kernel : ∀ t : Fin grid1.N, _)

section
variable (t : Fin cfg0.N) (b : Fin 4) (r : ℕ) (hr : r < 4) (ht : t.val = 4 * b.val + r) (k : ℕ) (hk : k < 8) (h : Fin 6)
include hr ht hk

theorem cut0_0 : cut (inp0 V c 0 t) k h.val = ch (V c main_arg0) b h (fr (8 * r + k)) := by
  refine cut_rows _ _ b r hr (fun y z h0 h1 => ?_) k hk h
  have e : (inp0 V c 0 t : FVec Ideal S512x768 .f32) y = (V c main_arg0 : FVec Ideal S8192x768 .f32) z := by
    blk_simp [inp0]
    blk_ext [idx0 t]
  exact e
theorem cut0_1 : cut (inp0 V c 1 t) k h.val = ch (V c main_arg1) b h (fr (8 * r + k)) := by
  refine cut_rows _ _ b r hr (fun y z h0 h1 => ?_) k hk h
  have e : (inp0 V c 1 t : FVec Ideal S512x768 .f32) y = (V c main_arg1 : FVec Ideal S8192x768 .f32) z := by
    blk_simp [inp0]
    blk_ext [idx0 t]
  exact e
theorem cut0_2 : cut (inp0 V c 2 t) k h.val = ch (V c main_arg2) b h (fr (8 * r + k)) := by
  refine cut_rows _ _ b r hr (fun y z h0 h1 => ?_) k hk h
  have e : (inp0 V c 2 t : FVec Ideal S512x768 .f32) y = (V c main_arg2 : FVec Ideal S8192x768 .f32) z := by
    blk_simp [inp0]
    blk_ext [idx0 t]
  exact e
theorem cut0_3 : cut (inp0 V c 3 t) k h.val = ch (V c main_arg3) b h (fr (8 * r + k)) := by
  refine cut_rows _ _ b r hr (fun y z h0 h1 => ?_) k hk h
  have e : (inp0 V c 3 t : FVec Ideal S512x768 .f32) y = (V c main_arg3 : FVec Ideal S8192x768 .f32) z := by
    blk_simp [inp0]
    blk_ext [idx0 t]
  exact e
theorem cut0_4 : cutA (inp0 V c 4 t) k h.val = chA (V c main_arg4) b h (fr (8 * r + k)) := by
  refine cut_rowsA _ _ b r hr (fun y z h0 h1 h2 => ?_) k hk h
  have e : (inp0 V c 4 t : FVec Ideal S6x512x64 .f32) y = (V c main_arg4 : FVec Ideal S6x8192x64 .f32) z := by
    blk_simp [inp0]
    blk_ext [idx0 t]
  exact e
theorem cut0_5 : cut (inp0 V c 5 t) k h.val = ch (V c main_arg5) b h (fr (8 * r + k)) := by
  refine cut_rows _ _ b r hr (fun y z h0 h1 => ?_) k hk h
  have e : (inp0 V c 5 t : FVec Ideal S512x768 .f32) y = (V c main_arg5 : FVec Ideal S8192x768 .f32) z := by
    blk_simp [inp0]
    blk_ext [idx0 t]
  exact e
end

/-- The chain over one block of rows goes on from the chain over those before. -/
theorem blkS_at (t : Fin cfg0.N) (b : Fin 4) (r : ℕ) (hr : r < 4) (ht : t.val = 4 * b.val + r) (h : Fin 6) (s : ℕ → FVec Ideal S128x128 .f32)
    (hs : s h.val = St (V c main_arg0) (V c main_arg1) (V c main_arg3) (V c main_arg5) b h (8 * r)) (k : ℕ) (hk : k ≤ 8) :
    blkS (inp0 V c 0 t) (inp0 V c 1 t) (inp0 V c 3 t) (inp0 V c 5 t) s h.val k
      = St (V c main_arg0) (V c main_arg1) (V c main_arg3) (V c main_arg5) b h (8 * r + k) :=
  (scan_congr hs k fun i hi => ⟨cut0_0 V c t b r hr ht i (by omega) h, cut0_1 V c t b r hr ht i (by omega) h,
    cut0_3 V c t b r hr ht i (by omega) h, cut0_5 V c t b r hr ht i (by omega) h⟩).trans
    (scan_add (fun i => ch (V c main_arg0) b h (fr i)) (fun i => ch (V c main_arg1) b h (fr i)) (fun i => ch (V c main_arg3) b h (fr i))
      (fun i => ch (V c main_arg5) b h (fr i)) noS (8 * r) k).symm

/-- What a point of sequence `b` starts from is the chain over the blocks before it. -/
theorem start0_at (b : Fin 4) (h : Fin 6) : ∀ r < 4, start0 (4 * b.val + r) (car0 V c (4 * b.val + r)) h.val
    = St (V c main_arg0) (V c main_arg1) (V c main_arg3) (V c main_arg5) b h (8 * r)
  | 0, _ => by rw [start0_first (by omega), entry_zero]; rfl
  | r + 1, hr => by
    have hb := b.isLt
    rw [start0_later (by omega)]
    show entry (leave fun h => blkS _ _ _ _ (start0 (4 * b.val + r) (car0 V c (4 * b.val + r))) h 8) h.val = _
    rw [entry_leave]
    exact blkS_at V c _ b r (by omega) (Nat.mod_eq_of_lt (show 4 * b.val + r < 16 by omega)) h _ (start0_at b h r (by omega)) 8 (le_refl _)

theorem ini0_at (t : Fin cfg0.N) (b : Fin 4) (r : ℕ) (hr : r < 4) (ht : t.val = 4 * b.val + r) (h : Fin 6) :
    ini0 V c t h.val = St (V c main_arg0) (V c main_arg1) (V c main_arg3) (V c main_arg5) b h (8 * r) := by
  show start0 t.val (car0 V c t.val) h.val = _
  rw [ht]
  exact start0_at V c b h r hr

/-- The output, -/
theorem arr_o : (dat0 V c).arrAt 6 cfg0.N
    = rows (tO (V c main_arg0) (V c main_arg1) (V c main_arg2) (V c main_arg3) (V c main_arg4) (V c main_arg5)) := by
  refine (dat0 V c).arrAt_eq_of_covers 6 _ (by decide +kernel) fun t hf y => ?_
  have tl : t.val < 16 := Nat.lt_of_lt_of_eq t.isLt N_0
  have hr : t.val % 4 < 4 := Nat.mod_lt _ (by decide)
  have ht : t.val = 4 * (⟨t.val / 4, by omega⟩ : Fin 4).val + t.val % 4 := by show t.val = 4 * (t.val / 4) + t.val % 4; omega
  blk_simp
  rw [after0_6]
  refine wide_rows _ _ ⟨t.val / 4, by omega⟩ (t.val % 4) hr (fun k hk h => ?_) y _ ?_ ?_
  · show stepO (blkS _ _ _ _ _ h.val k) _ _ _ _ = _
    rw [blkS_at V c t _ _ hr ht h _ (ini0_at V c t _ _ hr ht h) k (le_of_lt hk), cut0_0 V c t _ _ hr ht k hk h, cut0_1 V c t _ _ hr ht k hk h,
      cut0_2 V c t _ _ hr ht k hk h, cut0_4 V c t _ _ hr ht k hk h]
    have e : (fr (8 * (t.val % 4) + k)).val = 8 * (t.val % 4) + k := Nat.mod_eq_of_lt (by omega)
    unfold tO
    rw [e]
  · blk_simp [idx0 t]; try omega
  · blk_simp [idx0 t]; try omega

/-- and the states before the chunks. -/
theorem arr_t : (dat0 V c).arrAt 7 cfg0.N = stA (V c main_arg0) (V c main_arg1) (V c main_arg3) (V c main_arg5) := by
  refine (dat0 V c).arrAt_eq_of_covers 7 _ (by decide +kernel) fun t hf y => ?_
  have tl : t.val < 16 := Nat.lt_of_lt_of_eq t.isLt N_0
  have hr : t.val % 4 < 4 := Nat.mod_lt _ (by decide)
  have ht : t.val = 4 * (⟨t.val / 4, by omega⟩ : Fin 4).val + t.val % 4 := by show t.val = 4 * (t.val / 4) + t.val % 4; omega
  have y0 : (y 0).val < 1 := (y 0).isLt
  have y1 : (y 1).val < 6 := (y 1).isLt
  have y2 : (y 2).val < 8 := (y 2).isLt
  have y3 : (y 3).val < 128 := (y 3).isLt
  have y4 : (y 4).val < 128 := (y 4).isLt
  blk_simp
  rw [after0_7]
  show saved (blkS _ _ _ _ _ (⟨(y 1).val, y1⟩ : Fin 6).val (y 2).val) _ = _
  rw [blkS_at V c t _ _ hr ht _ _ (ini0_at V c t _ _ hr ht _) _ (le_of_lt y2), saved_at]
  have key : ∀ b b' h h' n n' j j', b = b' → h = h' → n = n' → j = j' → St (V c main_arg0) (V c main_arg1) (V c main_arg3) (V c main_arg5) b h n j
      = St (V c main_arg0) (V c main_arg1) (V c main_arg3) (V c main_arg5) b' h' n' j' := by
    intro b b' h h' n n' j j' e1 e2 e3 e4; rw [e1, e2, e3, e4]
  refine key _ _ _ _ _ _ _ _ (Fin.ext ?_) (Fin.ext ?_) ?_ (funext fun a => Fin.ext ?_)
  · blk_simp [idx0 t]; try omega
  · blk_simp [idx0 t]; try omega
  · blk_simp [idx0 t]; try omega
  · fin_cases a
    · refine Eq.trans (show _ = (y 3).val from Nat.mod_eq_of_lt y3) ?_
      show (y 3).val = (((cfg0.win 7).blk t).view.emb y 3).val
      blk_simp [idx0 t]; try omega
    · refine Eq.trans (show _ = (y 4).val from Nat.mod_eq_of_lt y4) ?_
      show (y 4).val = (((cfg0.win 7).blk t).view.emb y 4).val
      blk_simp [idx0 t]; try omega

section
variable (t : Fin cfg1.N) (b : Fin 4) (r : ℕ) (hr : r < 4) (ht : t.val = 4 * b.val + r) (k : ℕ) (hk : k < 8) (h : Fin 6)
include hr ht hk

theorem cut1_0 : cut (inp1 V c 0 t) k h.val = ch (V c main_arg0) b h (fr (8 * (3 - r) + k)) := by
  refine cut_rows _ _ b (3 - r) (by omega) (fun y z h0 h1 => ?_) k hk h
  have e : (inp1 V c 0 t : FVec Ideal S512x768 .f32) y = (V c main_arg0 : FVec Ideal S8192x768 .f32) z := by
    blk_simp [inp1]
    blk_ext [idx1 t]
  exact e
theorem cut1_1 : cut (inp1 V c 1 t) k h.val = ch (V c main_arg1) b h (fr (8 * (3 - r) + k)) := by
  refine cut_rows _ _ b (3 - r) (by omega) (fun y z h0 h1 => ?_) k hk h
  have e : (inp1 V c 1 t : FVec Ideal S512x768 .f32) y = (V c main_arg1 : FVec Ideal S8192x768 .f32) z := by
    blk_simp [inp1]
    blk_ext [idx1 t]
  exact e
theorem cut1_2 : cut (inp1 V c 2 t) k h.val = ch (V c main_arg2) b h (fr (8 * (3 - r) + k)) := by
  refine cut_rows _ _ b (3 - r) (by omega) (fun y z h0 h1 => ?_) k hk h
  have e : (inp1 V c 2 t : FVec Ideal S512x768 .f32) y = (V c main_arg2 : FVec Ideal S8192x768 .f32) z := by
    blk_simp [inp1]
    blk_ext [idx1 t]
  exact e
theorem cut1_3 : cut (inp1 V c 3 t) k h.val = ch (V c main_arg3) b h (fr (8 * (3 - r) + k)) := by
  refine cut_rows _ _ b (3 - r) (by omega) (fun y z h0 h1 => ?_) k hk h
  have e : (inp1 V c 3 t : FVec Ideal S512x768 .f32) y = (V c main_arg3 : FVec Ideal S8192x768 .f32) z := by
    blk_simp [inp1]
    blk_ext [idx1 t]
  exact e
theorem cut1_4 : cutA (inp1 V c 4 t) k h.val = chA (V c main_arg4) b h (fr (8 * (3 - r) + k)) := by
  refine cut_rowsA _ _ b (3 - r) (by omega) (fun y z h0 h1 h2 => ?_) k hk h
  have e : (inp1 V c 4 t : FVec Ideal S6x512x64 .f32) y = (V c main_arg4 : FVec Ideal S6x8192x64 .f32) z := by
    blk_simp [inp1]
    blk_ext [idx1 t]
  exact e
theorem cut1_5 : cut (inp1 V c 5 t) k h.val = ch (V c main_arg5) b h (fr (8 * (3 - r) + k)) := by
  refine cut_rows _ _ b (3 - r) (by omega) (fun y z h0 h1 => ?_) k hk h
  have e : (inp1 V c 5 t : FVec Ideal S512x768 .f32) y = (V c main_arg5 : FVec Ideal S8192x768 .f32) z := by
    blk_simp [inp1]
    blk_ext [idx1 t]
  exact e
theorem cut1_7 : cut (inp1 V c 7 t) k h.val = ch (V c main_arg6) b h (fr (8 * (3 - r) + k)) := by
  refine cut_rows _ _ b (3 - r) (by omega) (fun y z h0 h1 => ?_) k hk h
  have e : (inp1 V c 7 t : FVec Ideal S512x768 .f32) y = (V c main_arg6 : FVec Ideal S8192x768 .f32) z := by
    blk_simp [inp1]
    blk_ext [idx1 t]
  exact e
theorem cut1_6 (hst : V c main_v0_1 = stA (V c main_arg0) (V c main_arg1) (V c main_arg3) (V c main_arg5)) : cutT (inp1 V c 6 t) k h.val
    = Sv (V c main_arg0) (V c main_arg1) (V c main_arg3) (V c main_arg5) b h (8 * (3 - r) + k) := by
  funext j
  have j3 : (j 3).val < 128 := (j 3).isLt
  have j4 : (j 4).val < 128 := (j 4).isLt
  have hb := b.isLt
  have hh := h.isLt
  have e : ∀ y z, (z 0).val = b.val → (z 1).val = (y 1).val → (z 2).val = (3 - r) * 8 + (y 2).val → (z 3).val = (y 3).val → (z 4).val = (y 4).val →
      (inp1 V c 6 t : FVec Ideal S1x6x8x128x128 .bf16) y = (V c main_v0_1 : FVec Ideal S4x6x32x128x128 .bf16) z := by
    intro y z h0 h1 h2 h3 h4
    have y0 : (y 0).val < 1 := (y 0).isLt
    blk_simp [inp1]
    blk_ext [idx1 t]
  refine (e _ (ix5 b h ⟨8 * (3 - r) + k, by omega⟩ (j 3) (j 4)) rfl ?_ ?_ ?_ ?_).trans ?_
  · show h.val = h.val % 6; omega
  · show 8 * (3 - r) + k = (3 - r) * 8 + k % 8; omega
  · show (j 3).val = (j 3).val % 128; omega
  · show (j 4).val = (j 4).val % 128; omega
  · rw [hst]; exact (saved_at _ _).symm
end

/-- The cotangent's chain over one block of rows goes on from the chain over those after it. -/
theorem blkD_at (t : Fin cfg1.N) (b : Fin 4) (r : ℕ) (hr : r < 4) (ht : t.val = 4 * b.val + r) (h : Fin 6) (s : ℕ → FVec Ideal S128x128 .f32)
    (hs : s h.val = Dt (V c main_arg1) (V c main_arg2) (V c main_arg3) (V c main_arg4) (V c main_arg5) (V c main_arg6) b h (8 * r)) (k : ℕ) (hk : k ≤ 8) :
    blkD (inp1 V c 1 t) (inp1 V c 2 t) (inp1 V c 3 t) (inp1 V c 4 t) (inp1 V c 5 t) (inp1 V c 7 t) s h.val k
      = Dt (V c main_arg1) (V c main_arg2) (V c main_arg3) (V c main_arg4) (V c main_arg5) (V c main_arg6) b h (8 * r + k) := by
  refine (back_congr hs k fun i hi => ?_).trans
    (back_add (fun i => ch (V c main_arg1) b h (en i)) (fun i => ch (V c main_arg2) b h (en i)) (fun i => ch (V c main_arg3) b h (en i))
      (fun i => chA (V c main_arg4) b h (en i)) (fun i => ch (V c main_arg5) b h (en i)) (fun i => ch (V c main_arg6) b h (en i)) noS (8 * r) k).symm
  have e : en (8 * r + i) = fr (8 * (3 - r) + (7 - i)) := Fin.ext (by show (31 - (8 * r + i)) % 32 = (8 * (3 - r) + (7 - i)) % 32; omega)
  simp only [e]
  exact ⟨cut1_1 V c t b r hr ht (7 - i) (by omega) h, cut1_2 V c t b r hr ht (7 - i) (by omega) h, cut1_3 V c t b r hr ht (7 - i) (by omega) h,
    cut1_4 V c t b r hr ht (7 - i) (by omega) h, cut1_5 V c t b r hr ht (7 - i) (by omega) h, cut1_7 V c t b r hr ht (7 - i) (by omega) h⟩

theorem start1_at (b : Fin 4) (h : Fin 6) : ∀ r < 4, start1 (4 * b.val + r) (car1 V c (4 * b.val + r)) h.val
    = Dt (V c main_arg1) (V c main_arg2) (V c main_arg3) (V c main_arg4) (V c main_arg5) (V c main_arg6) b h (8 * r)
  | 0, _ => by rw [start1_first (by omega), entry_zero]; rfl
  | r + 1, hr => by
    have hb := b.isLt
    rw [start1_later (by omega)]
    show entry (leave fun h => blkD _ _ _ _ _ _ (start1 (4 * b.val + r) (car1 V c (4 * b.val + r))) h 8) h.val = _
    rw [entry_leave]
    exact blkD_at V c _ b r (by omega) (Nat.mod_eq_of_lt (show 4 * b.val + r < 16 by omega)) h _ (start1_at b h r (by omega)) 8 (le_refl _)

theorem ini1_at (t : Fin cfg1.N) (b : Fin 4) (r : ℕ) (hr : r < 4) (ht : t.val = 4 * b.val + r) (h : Fin 6) :
    ini1 V c t h.val = Dt (V c main_arg1) (V c main_arg2) (V c main_arg3) (V c main_arg4) (V c main_arg5) (V c main_arg6) b h (8 * r) := by
  show start1 t.val (car1 V c t.val) h.val = _
  rw [ht]
  exact start1_at V c b h r hr

variable (hst : V c main_v0_1 = stA (V c main_arg0) (V c main_arg1) (V c main_arg3) (V c main_arg5))
theorem arr_u : (dat1 V c).arrAt 8 cfg1.N = rows (tU (V c main_arg1) (V c main_arg2) (V c main_arg3) (V c main_arg4) (V c main_arg5) (V c main_arg6)) := by
  refine (dat1 V c).arrAt_eq_of_covers 8 _ (by decide +kernel) fun t hf y => ?_
  have tl : t.val < 16 := Nat.lt_of_lt_of_eq t.isLt N_1
  have hr : t.val % 4 < 4 := Nat.mod_lt _ (by decide)
  have ht : t.val = 4 * (⟨t.val / 4, by omega⟩ : Fin 4).val + t.val % 4 := by show t.val = 4 * (t.val / 4) + t.val % 4; omega
  blk_simp
  rw [after1_8]
  refine wide_rows _ _ ⟨t.val / 4, by omega⟩ (3 - t.val % 4) (by omega) (fun k hk h => ?_) y _ ?_ ?_
  · have e : (fr (8 * (3 - t.val % 4) + k)).val = 8 * (3 - t.val % 4) + k := Nat.mod_eq_of_lt (by omega)
    have e' : 31 - (8 * (3 - t.val % 4) + k) = 8 * (t.val % 4) + (7 - k) := by omega
    show gU (blkD _ _ _ _ _ _ _ h.val (7 - k)) _ _ _ = _
    rw [blkD_at V c t _ _ hr ht h _ (ini1_at V c t _ _ hr ht h) (7 - k) (by omega), cut1_3 V c t _ _ hr ht k hk h, cut1_4 V c t _ _ hr ht k hk h, cut1_7 V c t _ _ hr ht k hk h]
    unfold tU
    rw [e, e']
  · blk_simp [idx1 t]; try omega
  · blk_simp [idx1 t]; try omega

include hst in
theorem arr_w : (dat1 V c).arrAt 9 cfg1.N = rows (tW (V c main_arg0) (V c main_arg1) (V c main_arg2) (V c main_arg3) (V c main_arg4) (V c main_arg5) (V c main_arg6)) := by
  refine (dat1 V c).arrAt_eq_of_covers 9 _ (by decide +kernel) fun t hf y => ?_
  have tl : t.val < 16 := Nat.lt_of_lt_of_eq t.isLt N_1
  have hr : t.val % 4 < 4 := Nat.mod_lt _ (by decide)
  have ht : t.val = 4 * (⟨t.val / 4, by omega⟩ : Fin 4).val + t.val % 4 := by show t.val = 4 * (t.val / 4) + t.val % 4; omega
  blk_simp
  rw [after1_9]
  refine wide_rows _ _ ⟨t.val / 4, by omega⟩ (3 - t.val % 4) (by omega) (fun k hk h => ?_) y _ ?_ ?_
  · have e : (fr (8 * (3 - t.val % 4) + k)).val = 8 * (3 - t.val % 4) + k := Nat.mod_eq_of_lt (by omega)
    have e' : 31 - (8 * (3 - t.val % 4) + k) = 8 * (t.val % 4) + (7 - k) := by omega
    show gW (blkD _ _ _ _ _ _ _ h.val (7 - k)) _ _ _ _ = _
    rw [blkD_at V c t _ _ hr ht h _ (ini1_at V c t _ _ hr ht h) (7 - k) (by omega), cut1_3 V c t _ _ hr ht k hk h, cut1_4 V c t _ _ hr ht k hk h, cut1_6 V c t _ _ hr ht k hk h hst, cut1_7 V c t _ _ hr ht k hk h]
    unfold tW
    rw [e, e']
  · blk_simp [idx1 t]; try omega
  · blk_simp [idx1 t]; try omega

include hst in
theorem arr_q : (dat1 V c).arrAt 10 cfg1.N = rows (tQ (V c main_arg0) (V c main_arg1) (V c main_arg3) (V c main_arg5) (V c main_arg6)) := by
  refine (dat1 V c).arrAt_eq_of_covers 10 _ (by decide +kernel) fun t hf y => ?_
  have tl : t.val < 16 := Nat.lt_of_lt_of_eq t.isLt N_1
  have hr : t.val % 4 < 4 := Nat.mod_lt _ (by decide)
  have ht : t.val = 4 * (⟨t.val / 4, by omega⟩ : Fin 4).val + t.val % 4 := by show t.val = 4 * (t.val / 4) + t.val % 4; omega
  blk_simp
  rw [after1_10]
  refine wide_rows _ _ ⟨t.val / 4, by omega⟩ (3 - t.val % 4) (by omega) (fun k hk h => ?_) y _ ?_ ?_
  · have e : (fr (8 * (3 - t.val % 4) + k)).val = 8 * (3 - t.val % 4) + k := Nat.mod_eq_of_lt (by omega)
    have e' : 31 - (8 * (3 - t.val % 4) + k) = 8 * (t.val % 4) + (7 - k) := by omega
    show gQ _ _ = _
    rw [cut1_6 V c t _ _ hr ht k hk h hst, cut1_7 V c t _ _ hr ht k hk h]
    unfold tQ
    rw [e]
  · blk_simp [idx1 t]; try omega
  · blk_simp [idx1 t]; try omega

include hst in
theorem arr_k : (dat1 V c).arrAt 11 cfg1.N = rows (tK (V c main_arg0) (V c main_arg1) (V c main_arg2) (V c main_arg3) (V c main_arg4) (V c main_arg5) (V c main_arg6)) := by
  refine (dat1 V c).arrAt_eq_of_covers 11 _ (by decide +kernel) fun t hf y => ?_
  have tl : t.val < 16 := Nat.lt_of_lt_of_eq t.isLt N_1
  have hr : t.val % 4 < 4 := Nat.mod_lt _ (by decide)
  have ht : t.val = 4 * (⟨t.val / 4, by omega⟩ : Fin 4).val + t.val % 4 := by show t.val = 4 * (t.val / 4) + t.val % 4; omega
  blk_simp
  rw [after1_11]
  refine wide_rows _ _ ⟨t.val / 4, by omega⟩ (3 - t.val % 4) (by omega) (fun k hk h => ?_) y _ ?_ ?_
  · have e : (fr (8 * (3 - t.val % 4) + k)).val = 8 * (3 - t.val % 4) + k := Nat.mod_eq_of_lt (by omega)
    have e' : 31 - (8 * (3 - t.val % 4) + k) = 8 * (t.val % 4) + (7 - k) := by omega
    show gK (blkD _ _ _ _ _ _ _ h.val (7 - k)) _ _ _ = _
    rw [blkD_at V c t _ _ hr ht h _ (ini1_at V c t _ _ hr ht h) (7 - k) (by omega), cut1_0 V c t _ _ hr ht k hk h, cut1_1 V c t _ _ hr ht k hk h, cut1_6 V c t _ _ hr ht k hk h hst]
    unfold tK
    rw [e, e']
  · blk_simp [idx1 t]; try omega
  · blk_simp [idx1 t]; try omega

include hst in
theorem arr_a : (dat1 V c).arrAt 12 cfg1.N = rowsA (tA (V c main_arg0) (V c main_arg1) (V c main_arg3) (V c main_arg5) (V c main_arg6)) := by
  refine (dat1 V c).arrAt_eq_of_covers 12 _ (by decide +kernel) fun t hf y => ?_
  have tl : t.val < 16 := Nat.lt_of_lt_of_eq t.isLt N_1
  have hr : t.val % 4 < 4 := Nat.mod_lt _ (by decide)
  have ht : t.val = 4 * (⟨t.val / 4, by omega⟩ : Fin 4).val + t.val % 4 := by show t.val = 4 * (t.val / 4) + t.val % 4; omega
  blk_simp
  rw [after1_12]
  refine wide_rowsA _ _ ⟨t.val / 4, by omega⟩ (3 - t.val % 4) (by omega) (fun k hk h => ?_) y _ ?_ ?_ ?_
  · have e : (fr (8 * (3 - t.val % 4) + k)).val = 8 * (3 - t.val % 4) + k := Nat.mod_eq_of_lt (by omega)
    have e' : 31 - (8 * (3 - t.val % 4) + k) = 8 * (t.val % 4) + (7 - k) := by omega
    show gA _ _ _ _ = _
    rw [cut1_0 V c t _ _ hr ht k hk h, cut1_1 V c t _ _ hr ht k hk h, cut1_6 V c t _ _ hr ht k hk h hst, cut1_7 V c t _ _ hr ht k hk h]
    unfold tA
    rw [e]
  · blk_simp [idx1 t]; try omega
  · blk_simp [idx1 t]; try omega
  · blk_simp [idx1 t]; try omega

include hst in
theorem arr_g : (dat1 V c).arrAt 13 cfg1.N = rows (tG (V c main_arg0) (V c main_arg1) (V c main_arg2) (V c main_arg3) (V c main_arg4) (V c main_arg5) (V c main_arg6)) := by
  refine (dat1 V c).arrAt_eq_of_covers 13 _ (by decide +kernel) fun t hf y => ?_
  have tl : t.val < 16 := Nat.lt_of_lt_of_eq t.isLt N_1
  have hr : t.val % 4 < 4 := Nat.mod_lt _ (by decide)
  have ht : t.val = 4 * (⟨t.val / 4, by omega⟩ : Fin 4).val + t.val % 4 := by show t.val = 4 * (t.val / 4) + t.val % 4; omega
  blk_simp
  rw [after1_13]
  refine wide_rows _ _ ⟨t.val / 4, by omega⟩ (3 - t.val % 4) (by omega) (fun k hk h => ?_) y _ ?_ ?_
  · have e : (fr (8 * (3 - t.val % 4) + k)).val = 8 * (3 - t.val % 4) + k := Nat.mod_eq_of_lt (by omega)
    have e' : 31 - (8 * (3 - t.val % 4) + k) = 8 * (t.val % 4) + (7 - k) := by omega
    show gG (blkD _ _ _ _ _ _ _ h.val (7 - k)) _ _ = _
    rw [blkD_at V c t _ _ hr ht h _ (ini1_at V c t _ _ hr ht h) (7 - k) (by omega), cut1_5 V c t _ _ hr ht k hk h, cut1_6 V c t _ _ hr ht k hk h hst]
    unfold tG
    rw [e, e']
  · blk_simp [idx1 t]; try omega
  · blk_simp [idx1 t]; try omega

end Cert.KernelIdeal.Scan

end
-- ==== Proof.RefFacts.lean ====
module

public import proofs.«01_k».proof.ReferenceIdeal
public import Idealize.ShloMosaic.Lib.Affine
public import Idealize.ShloMosaic.Lib.Decide
public import Idealize.ShloMosaic.Lib.Exec

/-! The side conditions of the two-loop reference: shapes, slices and contraction records, each decided. -/

@[expose] public section

set_option synthInstance.maxSize 4096
set_option Elab.async false

namespace Cert.ReferenceIdeal.Own

open Idealize.ShloMosaic Idealize.SL.Sem

theorem shapeCasts_S8192x768_S4x2048x6x128 : S8192x768.ShapeCasts S4x2048x6x128 := by decide
theorem shapeCasts_S4x2048x6x128_S4x32x64x6x128 : S4x2048x6x128.ShapeCasts S4x32x64x6x128 := by decide
theorem transposes_S4x32x64x6x128_S32x4x64x6x128_1_0_2_3_4 : S4x32x64x6x128.Transposes [1, 0, 2, 3, 4] S32x4x64x6x128 := by decide
theorem transposes_S32x4x64x6x128_S32x4x6x64x128_0_1_3_2_4 : S32x4x64x6x128.Transposes [0, 1, 3, 2, 4] S32x4x6x64x128 := by decide
theorem transposes_S6x8192x64_S8192x6x64_1_0_2 : S6x8192x64.Transposes [1, 0, 2] S8192x6x64 := by decide
theorem shapeCasts_S8192x6x64_S4x2048x6x64 : S8192x6x64.ShapeCasts S4x2048x6x64 := by decide
theorem shapeCasts_S4x2048x6x64_S4x32x64x6x64 : S4x2048x6x64.ShapeCasts S4x32x64x6x64 := by decide
theorem transposes_S4x32x64x6x64_S32x4x64x6x64_1_0_2_3_4 : S4x32x64x6x64.Transposes [1, 0, 2, 3, 4] S32x4x64x6x64 := by decide
theorem transposes_S32x4x64x6x64_S32x4x6x64x64_0_1_3_2_4 : S32x4x64x6x64.Transposes [0, 1, 3, 2, 4] S32x4x6x64x64 := by decide
theorem slices_S32x4x6x64x128_S32x4x6x1x128_0_0_0_63_0 : S32x4x6x64x128.Slices ![0, 0, 0, 63, 0] S32x4x6x1x128 := by decide
theorem shapeCasts_S32x4x6x1x128_S32x4x6x128 : S32x4x6x1x128.ShapeCasts S32x4x6x128 := by decide
theorem bcast_S_S4x6x128x128 : S_.BroadcastsInDim S4x6x128x128 (![] : Fin 0 → Fin S4x6x128x128.rank) := by decide
theorem bcast_S_S32x4x6x64x128 : S_.BroadcastsInDim S32x4x6x64x128 (![] : Fin 0 → Fin S32x4x6x64x128.rank) := by decide
theorem bcast_S_S32x4x6x128x128 : S_.BroadcastsInDim S32x4x6x128x128 (![] : Fin 0 → Fin S32x4x6x128x128.rank) := by decide
theorem bcast_S_S32x4x6x1x128 : S_.BroadcastsInDim S32x4x6x1x128 (![] : Fin 0 → Fin S32x4x6x1x128.rank) := by decide
theorem sliceFits_S32x4x6x64x128_S1x4x6x64x128 : S32x4x6x64x128.Slices (fun _ => 0) S1x4x6x64x128 := by decide
theorem h_S_ : 0 < S_.numel := by decide
theorem shapeCasts_S1x4x6x64x128_S4x6x64x128 : S1x4x6x64x128.ShapeCasts S4x6x64x128 := by decide
theorem sliceFits_S32x4x6x64x64_S1x4x6x64x64 : S32x4x6x64x64.Slices (fun _ => 0) S1x4x6x64x64 := by decide
theorem shapeCasts_S1x4x6x64x64_S4x6x64x64 : S1x4x6x64x64.ShapeCasts S4x6x64x64 := by decide
theorem sliceFits_S32x4x6x128_S1x4x6x128 : S32x4x6x128.Slices (fun _ => 0) S1x4x6x128 := by decide
theorem shapeCasts_S1x4x6x128_S4x6x128 : S1x4x6x128.ShapeCasts S4x6x128 := by decide
theorem bcast_S4x6x128_S4x6x1x128_0_1_3 : S4x6x128.BroadcastsInDim S4x6x1x128 (![0, 1, 3] : Fin 3 → Fin S4x6x1x128.rank) := by decide
theorem bcast_S4x6x1x128_S4x6x128x128_0_1_2_3 : S4x6x1x128.BroadcastsInDim S4x6x128x128 (![0, 1, 2, 3] : Fin 4 → Fin S4x6x128x128.rank) := by decide
theorem bcast_S4x6x64x128_S1x4x6x64x128_1_2_3_4 : S4x6x64x128.BroadcastsInDim S1x4x6x64x128 (![1, 2, 3, 4] : Fin 4 → Fin S1x4x6x64x128.rank) := by decide
theorem updateFits_S32x4x6x64x128_S1x4x6x64x128 : S32x4x6x64x128.Slices (fun _ => 0) S1x4x6x64x128 := by decide
theorem bcast_S4x6x128x128_S1x4x6x128x128_1_2_3_4 : S4x6x128x128.BroadcastsInDim S1x4x6x128x128 (![1, 2, 3, 4] : Fin 4 → Fin S1x4x6x128x128.rank) := by decide
theorem updateFits_S32x4x6x128x128_S1x4x6x128x128 : S32x4x6x128x128.Slices (fun _ => 0) S1x4x6x128x128 := by decide
theorem bcast_S4x6x1x128_S1x4x6x1x128_1_2_3_4 : S4x6x1x128.BroadcastsInDim S1x4x6x1x128 (![1, 2, 3, 4] : Fin 4 → Fin S1x4x6x1x128.rank) := by decide
theorem updateFits_S32x4x6x1x128_S1x4x6x1x128 : S32x4x6x1x128.Slices (fun _ => 0) S1x4x6x1x128 := by decide
theorem transposes_S32x4x6x64x128_S4x32x6x64x128_1_0_2_3_4 : S32x4x6x64x128.Transposes [1, 0, 2, 3, 4] S4x32x6x64x128 := by decide
theorem transposes_S4x32x6x64x128_S4x32x64x6x128_0_1_3_2_4 : S4x32x6x64x128.Transposes [0, 1, 3, 2, 4] S4x32x64x6x128 := by decide
theorem shapeCasts_S4x32x64x6x128_S8192x768 : S4x32x64x6x128.ShapeCasts S8192x768 := by decide
theorem shapeCasts_S8192x768_S4x32x64x6x128 : S8192x768.ShapeCasts S4x32x64x6x128 := by decide
theorem transposes_S4x32x64x6x128_S4x32x6x64x128_0_1_3_2_4 : S4x32x64x6x128.Transposes [0, 1, 3, 2, 4] S4x32x6x64x128 := by decide
theorem transposes_S4x32x6x64x128_S32x4x6x64x128_1_0_2_3_4 : S4x32x6x64x128.Transposes [1, 0, 2, 3, 4] S32x4x6x64x128 := by decide
theorem bcast_S_S32x4x6x64x64 : S_.BroadcastsInDim S32x4x6x64x64 (![] : Fin 0 → Fin S32x4x6x64x64.rank) := by decide
theorem bcast_S_S32x4x6x128 : S_.BroadcastsInDim S32x4x6x128 (![] : Fin 0 → Fin S32x4x6x128.rank) := by decide
theorem sliceFits_S32x4x6x128x128_S1x4x6x128x128 : S32x4x6x128x128.Slices (fun _ => 0) S1x4x6x128x128 := by decide
theorem shapeCasts_S1x4x6x128x128_S4x6x128x128 : S1x4x6x128x128.ShapeCasts S4x6x128x128 := by decide
theorem sliceFits_S32x4x6x1x128_S1x4x6x1x128 : S32x4x6x1x128.Slices (fun _ => 0) S1x4x6x1x128 := by decide
theorem shapeCasts_S1x4x6x1x128_S4x6x1x128 : S1x4x6x1x128.ShapeCasts S4x6x1x128 := by decide
theorem transposes_S4x6x128x64_S4x6x64x128_0_1_3_2 : S4x6x128x64.Transposes [0, 1, 3, 2] S4x6x64x128 := by decide
theorem reducesTo_S4x6x128x128_S4x6x128_d2 : S4x6x128x128.ReducesTo [2] S4x6x128 := by decide
theorem shapeCasts_S4x6x128_S4x6x1x128 : S4x6x128.ShapeCasts S4x6x1x128 := by decide
theorem reducesTo_S4x6x1x128_S4x6x128_d2 : S4x6x1x128.ReducesTo [2] S4x6x128 := by decide
theorem transposes_S4x6x128x128_S4x6x128x128_0_1_3_2 : S4x6x128x128.Transposes [0, 1, 3, 2] S4x6x128x128 := by decide
theorem bcast_S4x6x64x64_S1x4x6x64x64_1_2_3_4 : S4x6x64x64.BroadcastsInDim S1x4x6x64x64 (![1, 2, 3, 4] : Fin 4 → Fin S1x4x6x64x64.rank) := by decide
theorem updateFits_S32x4x6x64x64_S1x4x6x64x64 : S32x4x6x64x64.Slices (fun _ => 0) S1x4x6x64x64 := by decide
theorem bcast_S4x6x128_S1x4x6x128_1_2_3 : S4x6x128.BroadcastsInDim S1x4x6x128 (![1, 2, 3] : Fin 3 → Fin S1x4x6x128.rank) := by decide
theorem updateFits_S32x4x6x128_S1x4x6x128 : S32x4x6x128.Slices (fun _ => 0) S1x4x6x128 := by decide
theorem bcast_S32x4x6x128_S32x4x6x1x128_0_1_2_4 : S32x4x6x128.BroadcastsInDim S32x4x6x1x128 (![0, 1, 2, 4] : Fin 4 → Fin S32x4x6x1x128.rank) := by decide
theorem pads_S32x4x6x1x128_S32x4x6x64x128_000_000_000_6300_000 : S32x4x6x1x128.Pads (![0, 0, 0, 63, 0] : Fin 5 → Nat) ![0, 0, 0, 0, 0] ![0, 0, 0, 0, 0] S32x4x6x64x128 := by decide
theorem transposes_S32x4x6x64x64_S32x4x64x6x64_0_1_3_2_4 : S32x4x6x64x64.Transposes [0, 1, 3, 2, 4] S32x4x64x6x64 := by decide
theorem transposes_S32x4x64x6x64_S4x32x64x6x64_1_0_2_3_4 : S32x4x64x6x64.Transposes [1, 0, 2, 3, 4] S4x32x64x6x64 := by decide
theorem shapeCasts_S4x32x64x6x64_S4x2048x6x64 : S4x32x64x6x64.ShapeCasts S4x2048x6x64 := by decide
theorem shapeCasts_S4x2048x6x64_S8192x6x64 : S4x2048x6x64.ShapeCasts S8192x6x64 := by decide
theorem transposes_S8192x6x64_S6x8192x64_1_0_2 : S8192x6x64.Transposes [1, 0, 2] S6x8192x64 := by decide
theorem transposes_S32x4x6x64x128_S32x4x64x6x128_0_1_3_2_4 : S32x4x6x64x128.Transposes [0, 1, 3, 2, 4] S32x4x64x6x128 := by decide
theorem transposes_S32x4x64x6x128_S4x32x64x6x128_1_0_2_3_4 : S32x4x64x6x128.Transposes [1, 0, 2, 3, 4] S4x32x64x6x128 := by decide
theorem shapeCasts_S4x32x64x6x128_S4x2048x6x128 : S4x32x64x6x128.ShapeCasts S4x2048x6x128 := by decide
theorem shapeCasts_S4x2048x6x128_S8192x768 : S4x2048x6x128.ShapeCasts S8192x768 := by decide
theorem dot_S4x6x64x128_S4x6x128x128_S4x6x64x128_3_2_2_3_01_01_wf : DotDims.WF S4x6x64x128 S4x6x128x128 S4x6x64x128 [3] [2] [2] [3] [0, 1] [0, 1] := by decide
theorem dot_S4x6x64x64_S4x6x64x128_S4x6x64x128_3_2_2_3_01_01_wf : DotDims.WF S4x6x64x64 S4x6x64x128 S4x6x64x128 [3] [2] [2] [3] [0, 1] [0, 1] := by decide
theorem dot_S4x6x64x128_S4x6x64x128_S4x6x128x128_2_2_3_3_01_01_wf : DotDims.WF S4x6x64x128 S4x6x64x128 S4x6x128x128 [2] [2] [3] [3] [0, 1] [0, 1] := by decide
theorem dot_S4x6x128x128_S4x6x64x128_S4x6x128x64_2_3_3_2_01_01_wf : DotDims.WF S4x6x128x128 S4x6x64x128 S4x6x128x64 [2] [3] [3] [2] [0, 1] [0, 1] := by decide
theorem dot_S4x6x128x128_S4x6x64x128_S4x6x128x64_3_3_2_2_01_01_wf : DotDims.WF S4x6x128x128 S4x6x64x128 S4x6x128x64 [3] [3] [2] [2] [0, 1] [0, 1] := by decide
theorem dot_S4x6x64x128_S4x6x64x64_S4x6x128x64_2_2_3_3_01_01_wf : DotDims.WF S4x6x64x128 S4x6x64x64 S4x6x128x64 [2] [2] [3] [3] [0, 1] [0, 1] := by decide
theorem dot_S4x6x64x128_S4x6x64x128_S4x6x64x64_3_3_2_2_01_01_wf : DotDims.WF S4x6x64x128 S4x6x64x128 S4x6x64x64 [3] [3] [2] [2] [0, 1] [0, 1] := by decide
theorem dot_S4x6x64x128_S4x6x128x128_S4x6x64x128_3_3_2_2_01_01_wf : DotDims.WF S4x6x64x128 S4x6x128x128 S4x6x64x128 [3] [3] [2] [2] [0, 1] [0, 1] := by decide
theorem main_while0_ok : main_while0_count.OK := by decide
theorem main_while1_ok : main_while1_count.OK := by decide

instance facts₀ : Cert.ReferenceIdeal.Facts₀ where
  shapeCasts_S8192x768_S4x2048x6x128 := shapeCasts_S8192x768_S4x2048x6x128
  shapeCasts_S4x2048x6x128_S4x32x64x6x128 := shapeCasts_S4x2048x6x128_S4x32x64x6x128
  transposes_S4x32x64x6x128_S32x4x64x6x128_1_0_2_3_4 := transposes_S4x32x64x6x128_S32x4x64x6x128_1_0_2_3_4
  transposes_S32x4x64x6x128_S32x4x6x64x128_0_1_3_2_4 := transposes_S32x4x64x6x128_S32x4x6x64x128_0_1_3_2_4
  transposes_S6x8192x64_S8192x6x64_1_0_2 := transposes_S6x8192x64_S8192x6x64_1_0_2
  shapeCasts_S8192x6x64_S4x2048x6x64 := shapeCasts_S8192x6x64_S4x2048x6x64
  shapeCasts_S4x2048x6x64_S4x32x64x6x64 := shapeCasts_S4x2048x6x64_S4x32x64x6x64
  transposes_S4x32x64x6x64_S32x4x64x6x64_1_0_2_3_4 := transposes_S4x32x64x6x64_S32x4x64x6x64_1_0_2_3_4
  transposes_S32x4x64x6x64_S32x4x6x64x64_0_1_3_2_4 := transposes_S32x4x64x6x64_S32x4x6x64x64_0_1_3_2_4
  slices_S32x4x6x64x128_S32x4x6x1x128_0_0_0_63_0 := slices_S32x4x6x64x128_S32x4x6x1x128_0_0_0_63_0
  shapeCasts_S32x4x6x1x128_S32x4x6x128 := shapeCasts_S32x4x6x1x128_S32x4x6x128
  bcast_S_S4x6x128x128 := bcast_S_S4x6x128x128
  bcast_S_S32x4x6x64x128 := bcast_S_S32x4x6x64x128
  bcast_S_S32x4x6x128x128 := bcast_S_S32x4x6x128x128
  bcast_S_S32x4x6x1x128 := bcast_S_S32x4x6x1x128
  sliceFits_S32x4x6x64x128_S1x4x6x64x128 := sliceFits_S32x4x6x64x128_S1x4x6x64x128
  h_S_ := h_S_
  shapeCasts_S1x4x6x64x128_S4x6x64x128 := shapeCasts_S1x4x6x64x128_S4x6x64x128
  sliceFits_S32x4x6x64x64_S1x4x6x64x64 := sliceFits_S32x4x6x64x64_S1x4x6x64x64
  shapeCasts_S1x4x6x64x64_S4x6x64x64 := shapeCasts_S1x4x6x64x64_S4x6x64x64
  sliceFits_S32x4x6x128_S1x4x6x128 := sliceFits_S32x4x6x128_S1x4x6x128
  shapeCasts_S1x4x6x128_S4x6x128 := shapeCasts_S1x4x6x128_S4x6x128
  bcast_S4x6x128_S4x6x1x128_0_1_3 := bcast_S4x6x128_S4x6x1x128_0_1_3
  bcast_S4x6x1x128_S4x6x128x128_0_1_2_3 := bcast_S4x6x1x128_S4x6x128x128_0_1_2_3
  bcast_S4x6x64x128_S1x4x6x64x128_1_2_3_4 := bcast_S4x6x64x128_S1x4x6x64x128_1_2_3_4
  updateFits_S32x4x6x64x128_S1x4x6x64x128 := updateFits_S32x4x6x64x128_S1x4x6x64x128
  bcast_S4x6x128x128_S1x4x6x128x128_1_2_3_4 := bcast_S4x6x128x128_S1x4x6x128x128_1_2_3_4
  updateFits_S32x4x6x128x128_S1x4x6x128x128 := updateFits_S32x4x6x128x128_S1x4x6x128x128
  bcast_S4x6x1x128_S1x4x6x1x128_1_2_3_4 := bcast_S4x6x1x128_S1x4x6x1x128_1_2_3_4
  updateFits_S32x4x6x1x128_S1x4x6x1x128 := updateFits_S32x4x6x1x128_S1x4x6x1x128
  transposes_S32x4x6x64x128_S4x32x6x64x128_1_0_2_3_4 := transposes_S32x4x6x64x128_S4x32x6x64x128_1_0_2_3_4
  transposes_S4x32x6x64x128_S4x32x64x6x128_0_1_3_2_4 := transposes_S4x32x6x64x128_S4x32x64x6x128_0_1_3_2_4
  shapeCasts_S4x32x64x6x128_S8192x768 := shapeCasts_S4x32x64x6x128_S8192x768
  shapeCasts_S8192x768_S4x32x64x6x128 := shapeCasts_S8192x768_S4x32x64x6x128
  transposes_S4x32x64x6x128_S4x32x6x64x128_0_1_3_2_4 := transposes_S4x32x64x6x128_S4x32x6x64x128_0_1_3_2_4
  transposes_S4x32x6x64x128_S32x4x6x64x128_1_0_2_3_4 := transposes_S4x32x6x64x128_S32x4x6x64x128_1_0_2_3_4
  bcast_S_S32x4x6x64x64 := bcast_S_S32x4x6x64x64
  bcast_S_S32x4x6x128 := bcast_S_S32x4x6x128
  sliceFits_S32x4x6x128x128_S1x4x6x128x128 := sliceFits_S32x4x6x128x128_S1x4x6x128x128
  shapeCasts_S1x4x6x128x128_S4x6x128x128 := shapeCasts_S1x4x6x128x128_S4x6x128x128
  sliceFits_S32x4x6x1x128_S1x4x6x1x128 := sliceFits_S32x4x6x1x128_S1x4x6x1x128
  shapeCasts_S1x4x6x1x128_S4x6x1x128 := shapeCasts_S1x4x6x1x128_S4x6x1x128
  transposes_S4x6x128x64_S4x6x64x128_0_1_3_2 := transposes_S4x6x128x64_S4x6x64x128_0_1_3_2
  reducesTo_S4x6x128x128_S4x6x128_d2 := reducesTo_S4x6x128x128_S4x6x128_d2
  shapeCasts_S4x6x128_S4x6x1x128 := shapeCasts_S4x6x128_S4x6x1x128
  reducesTo_S4x6x1x128_S4x6x128_d2 := reducesTo_S4x6x1x128_S4x6x128_d2
  transposes_S4x6x128x128_S4x6x128x128_0_1_3_2 := transposes_S4x6x128x128_S4x6x128x128_0_1_3_2
  bcast_S4x6x64x64_S1x4x6x64x64_1_2_3_4 := bcast_S4x6x64x64_S1x4x6x64x64_1_2_3_4
  updateFits_S32x4x6x64x64_S1x4x6x64x64 := updateFits_S32x4x6x64x64_S1x4x6x64x64
  bcast_S4x6x128_S1x4x6x128_1_2_3 := bcast_S4x6x128_S1x4x6x128_1_2_3
  updateFits_S32x4x6x128_S1x4x6x128 := updateFits_S32x4x6x128_S1x4x6x128
  bcast_S32x4x6x128_S32x4x6x1x128_0_1_2_4 := bcast_S32x4x6x128_S32x4x6x1x128_0_1_2_4
  pads_S32x4x6x1x128_S32x4x6x64x128_000_000_000_6300_000 := pads_S32x4x6x1x128_S32x4x6x64x128_000_000_000_6300_000
  transposes_S32x4x6x64x64_S32x4x64x6x64_0_1_3_2_4 := transposes_S32x4x6x64x64_S32x4x64x6x64_0_1_3_2_4
  transposes_S32x4x64x6x64_S4x32x64x6x64_1_0_2_3_4 := transposes_S32x4x64x6x64_S4x32x64x6x64_1_0_2_3_4
  shapeCasts_S4x32x64x6x64_S4x2048x6x64 := shapeCasts_S4x32x64x6x64_S4x2048x6x64
  shapeCasts_S4x2048x6x64_S8192x6x64 := shapeCasts_S4x2048x6x64_S8192x6x64
  transposes_S8192x6x64_S6x8192x64_1_0_2 := transposes_S8192x6x64_S6x8192x64_1_0_2
  transposes_S32x4x6x64x128_S32x4x64x6x128_0_1_3_2_4 := transposes_S32x4x6x64x128_S32x4x64x6x128_0_1_3_2_4
  transposes_S32x4x64x6x128_S4x32x64x6x128_1_0_2_3_4 := transposes_S32x4x64x6x128_S4x32x64x6x128_1_0_2_3_4
  shapeCasts_S4x32x64x6x128_S4x2048x6x128 := shapeCasts_S4x32x64x6x128_S4x2048x6x128
  shapeCasts_S4x2048x6x128_S8192x768 := shapeCasts_S4x2048x6x128_S8192x768
  dot_S4x6x64x128_S4x6x128x128_S4x6x64x128_3_2_2_3_01_01_wf := dot_S4x6x64x128_S4x6x128x128_S4x6x64x128_3_2_2_3_01_01_wf
  dot_S4x6x64x64_S4x6x64x128_S4x6x64x128_3_2_2_3_01_01_wf := dot_S4x6x64x64_S4x6x64x128_S4x6x64x128_3_2_2_3_01_01_wf
  dot_S4x6x64x128_S4x6x64x128_S4x6x128x128_2_2_3_3_01_01_wf := dot_S4x6x64x128_S4x6x64x128_S4x6x128x128_2_2_3_3_01_01_wf
  dot_S4x6x128x128_S4x6x64x128_S4x6x128x64_2_3_3_2_01_01_wf := dot_S4x6x128x128_S4x6x64x128_S4x6x128x64_2_3_3_2_01_01_wf
  dot_S4x6x128x128_S4x6x64x128_S4x6x128x64_3_3_2_2_01_01_wf := dot_S4x6x128x128_S4x6x64x128_S4x6x128x64_3_3_2_2_01_01_wf
  dot_S4x6x64x128_S4x6x64x64_S4x6x128x64_2_2_3_3_01_01_wf := dot_S4x6x64x128_S4x6x64x64_S4x6x128x64_2_2_3_3_01_01_wf
  dot_S4x6x64x128_S4x6x64x128_S4x6x64x64_3_3_2_2_01_01_wf := dot_S4x6x64x128_S4x6x64x128_S4x6x64x64_3_3_2_2_01_01_wf
  dot_S4x6x64x128_S4x6x128x128_S4x6x64x128_3_3_2_2_01_01_wf := dot_S4x6x64x128_S4x6x128x128_S4x6x64x128_3_3_2_2_01_01_wf
  main_while0_ok := main_while0_ok
  main_while1_ok := main_while1_ok

instance facts : Cert.ReferenceIdeal.Facts where

end Cert.ReferenceIdeal.Own
-- ==== Proof.RefOps.lean ====
module

public import proofs.«01_k».proof.Proof.RefFacts
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The reference's operations as lists: what stands before the forward loop, between the two loops and after the
backward one, and the two bodies, a called function's operations a list of their own. -/

@[expose] public section

noncomputable section

namespace Cert.ReferenceIdeal.Own

open Idealize.ShloMosaic Idealize.ShloMosaic.TcCoe
open Idealize.SL Idealize.SL.RA Idealize.SL.BI
open scoped Idealize.SL.BI
open Idealize.SL.BI.BIBase Idealize.SL.Sem
open Idealize.ShloMosaic.StableHlo

/-- An array of floats of the shape, one integer, and the references to such buffers. -/
abbrev C (F : FTy → Type) (s : Shape) : Type := (⟨s, .f32⟩ : BufTy).Contents (Elt F)
abbrev CI (F : FTy → Type) : Type := (⟨S_, .i32⟩ : BufTy).Contents (Elt F)
abbrev TF (s : Shape) : Type := TRef sig ⟨s, .f32⟩
abbrev TI : Type := TRef sig ⟨S_, .i32⟩

variable {F : FTy → Type} [FloatOps F]

theorem ff : (.f32 : EltTy) = .f32 := rfl

/-- Lines stay in the device's own buffers, allot none, and write no others than the given ones. -/
abbrev Subs (L : List (HloOp τ sig (Elt F))) : Prop := L.Forall fun op => op.bufs ⊆ tcRefs τ sig
abbrev Fresh (L : List (HloOp τ sig (Elt F))) : Prop := L.Forall fun op => op.fresh = ∅
abbrev Writes (L : List (HloOp τ sig (Elt F))) (W : List (Ref sig .tc)) : Prop :=
  L.Forall fun op => op.writes ⊆ (W.map (Proc.devRef (τ := τ) .tc)).toFinset

/-- Lines keep what they do not write. -/
theorem kp {W : List (Ref sig .tc)} {r : Ref sig .tc} {L : List (HloOp τ sig (Elt F))} {V : Valuation τ sig (Elt F)}
    (hW : Writes L W) (hr : r ∉ W := by decide +kernel) : after L V (Proc.devRef .tc r) = V (Proc.devRef .tc r) :=
  after_of_writes_sub L V hW hr

/-- The arguments cut into chunks and the carried buffers filled, before the forward loop. -/
abbrev preOps : List (HloOp τ sig (Elt F)) :=
  ( reshape main_arg0 main_v0 ff shapeCasts_S8192x768_S4x2048x6x128
  :: reshape main_v0 main_v1 ff shapeCasts_S4x2048x6x128_S4x32x64x6x128
  :: unary main_v1 main_v2 ((transpose S32x4x64x6x128 [1, 0, 2, 3, 4] · transposes_S4x32x64x6x128_S32x4x64x6x128_1_0_2_3_4) : C F S4x32x64x6x128 → C F S32x4x64x6x128)
  :: unary main_v2 main_v3 ((transpose S32x4x6x64x128 [0, 1, 3, 2, 4] · transposes_S32x4x64x6x128_S32x4x6x64x128_0_1_3_2_4) : C F S32x4x64x6x128 → C F S32x4x6x64x128)
  :: reshape main_arg1 main_v4 ff shapeCasts_S8192x768_S4x2048x6x128
  :: reshape main_v4 main_v5 ff shapeCasts_S4x2048x6x128_S4x32x64x6x128
  :: unary main_v5 main_v6 ((transpose S32x4x64x6x128 [1, 0, 2, 3, 4] · transposes_S4x32x64x6x128_S32x4x64x6x128_1_0_2_3_4) : C F S4x32x64x6x128 → C F S32x4x64x6x128)
  :: unary main_v6 main_v7 ((transpose S32x4x6x64x128 [0, 1, 3, 2, 4] · transposes_S32x4x64x6x128_S32x4x6x64x128_0_1_3_2_4) : C F S32x4x64x6x128 → C F S32x4x6x64x128)
  :: reshape main_arg2 main_v8 ff shapeCasts_S8192x768_S4x2048x6x128
  :: reshape main_v8 main_v9 ff shapeCasts_S4x2048x6x128_S4x32x64x6x128
  :: unary main_v9 main_v10 ((transpose S32x4x64x6x128 [1, 0, 2, 3, 4] · transposes_S4x32x64x6x128_S32x4x64x6x128_1_0_2_3_4) : C F S4x32x64x6x128 → C F S32x4x64x6x128)
  :: unary main_v10 main_v11 ((transpose S32x4x6x64x128 [0, 1, 3, 2, 4] · transposes_S32x4x64x6x128_S32x4x6x64x128_0_1_3_2_4) : C F S32x4x64x6x128 → C F S32x4x6x64x128)
  :: reshape main_arg3 main_v12 ff shapeCasts_S8192x768_S4x2048x6x128
  :: reshape main_v12 main_v13 ff shapeCasts_S4x2048x6x128_S4x32x64x6x128
  :: unary main_v13 main_v14 ((transpose S32x4x64x6x128 [1, 0, 2, 3, 4] · transposes_S4x32x64x6x128_S32x4x64x6x128_1_0_2_3_4) : C F S4x32x64x6x128 → C F S32x4x64x6x128)
  :: unary main_v14 main_v15 ((transpose S32x4x6x64x128 [0, 1, 3, 2, 4] · transposes_S32x4x64x6x128_S32x4x6x64x128_0_1_3_2_4) : C F S32x4x64x6x128 → C F S32x4x6x64x128)
  :: reshape main_arg5 main_v16 ff shapeCasts_S8192x768_S4x2048x6x128
  :: reshape main_v16 main_v17 ff shapeCasts_S4x2048x6x128_S4x32x64x6x128
  :: unary main_v17 main_v18 ((transpose S32x4x64x6x128 [1, 0, 2, 3, 4] · transposes_S4x32x64x6x128_S32x4x64x6x128_1_0_2_3_4) : C F S4x32x64x6x128 → C F S32x4x64x6x128)
  :: unary main_v18 main_v19 ((transpose S32x4x6x64x128 [0, 1, 3, 2, 4] · transposes_S32x4x64x6x128_S32x4x6x64x128_0_1_3_2_4) : C F S32x4x64x6x128 → C F S32x4x6x64x128)
  :: unary main_arg4 main_v20 ((transpose S8192x6x64 [1, 0, 2] · transposes_S6x8192x64_S8192x6x64_1_0_2) : C F S6x8192x64 → C F S8192x6x64)
  :: reshape main_v20 main_v21 ff shapeCasts_S8192x6x64_S4x2048x6x64
  :: reshape main_v21 main_v22 ff shapeCasts_S4x2048x6x64_S4x32x64x6x64
  :: unary main_v22 main_v23 ((transpose S32x4x64x6x64 [1, 0, 2, 3, 4] · transposes_S4x32x64x6x64_S32x4x64x6x64_1_0_2_3_4) : C F S4x32x64x6x64 → C F S32x4x64x6x64)
  :: unary main_v23 main_v24 ((transpose S32x4x6x64x64 [0, 1, 3, 2, 4] · transposes_S32x4x64x6x64_S32x4x6x64x64_0_1_3_2_4) : C F S32x4x64x6x64 → C F S32x4x6x64x64)
  :: unary main_v19 main_v25 ((extractStridedSlice S32x4x6x1x128 ![0, 0, 0, 63, 0] · slices_S32x4x6x64x128_S32x4x6x1x128_0_0_0_63_0) : C F S32x4x6x64x128 → C F S32x4x6x1x128)
  :: reshape main_v25 main_v26 ff shapeCasts_S32x4x6x1x128_S32x4x6x128
  :: unary main_v26 main_v27 (Host.exp : C F S32x4x6x128 → C F S32x4x6x128)
  :: nullary main_cst (constant S_ .f32 0x00000000#32)
  :: unary main_cst main_v28 (broadcastInDim S4x6x128x128 ![] bcast_S_S4x6x128x128 : C F S_ → C F S4x6x128x128)
  :: nullary main_cst_0 (constant S_ .f32 0x00000000#32)
  :: unary main_cst_0 main_v29 (broadcastInDim S32x4x6x64x128 ![] bcast_S_S32x4x6x64x128 : C F S_ → C F S32x4x6x64x128)
  :: nullary main_cst_1 (constant S_ .f32 0x00000000#32)
  :: unary main_cst_1 main_v30 (broadcastInDim S32x4x6x128x128 ![] bcast_S_S32x4x6x128x128 : C F S_ → C F S32x4x6x128x128)
  :: nullary main_cst_2 (constant S_ .f32 0x00000000#32)
  :: unary main_cst_2 main_v31 (broadcastInDim S32x4x6x64x128 ![] bcast_S_S32x4x6x64x128 : C F S_ → C F S32x4x6x64x128)
  :: nullary main_cst_3 (constant S_ .f32 0x00000000#32)
  :: unary main_cst_3 main_v32 (broadcastInDim S32x4x6x1x128 ![] bcast_S_S32x4x6x1x128 : C F S_ → C F S32x4x6x1x128)
  :: nullary main_c (constantI S_ 32 0#32)
  :: unary main_v3 main_v33_0 id
  :: unary main_v7 main_v33_1 id
  :: unary main_v11 main_v33_2 id
  :: unary main_v15 main_v33_3 id
  :: unary main_v24 main_v33_4 id
  :: unary main_v27 main_v33_5 id
  :: unary main_c main_v33_6 id
  :: unary main_v28 main_v33_7 id
  :: unary main_v29 main_v33_8 id
  :: unary main_v30 main_v33_9 id
  :: unary main_v31 main_v33_10 id
  :: unary main_v32 main_v33_11 id
  :: [] )
theorem preOps_sub : Subs (F := F) preOps :=
  ⟨reshape_bufs_sub .., reshape_bufs_sub .., unary_bufs_sub .., unary_bufs_sub .., reshape_bufs_sub .., reshape_bufs_sub .., unary_bufs_sub .., unary_bufs_sub .., reshape_bufs_sub .., reshape_bufs_sub .., unary_bufs_sub .., unary_bufs_sub .., reshape_bufs_sub .., reshape_bufs_sub .., unary_bufs_sub .., unary_bufs_sub .., reshape_bufs_sub .., reshape_bufs_sub .., unary_bufs_sub .., unary_bufs_sub .., unary_bufs_sub .., reshape_bufs_sub .., reshape_bufs_sub .., unary_bufs_sub .., unary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem preOps_fresh : Fresh (F := F) preOps := forall_fresh_of_map rfl
abbrev preOps_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_cst, main_v28, main_cst_0, main_v29, main_cst_1, main_v30, main_cst_2, main_v31, main_cst_3, main_v32, main_c, main_v33_0, main_v33_1, main_v33_2, main_v33_3, main_v33_4, main_v33_5, main_v33_6, main_v33_7, main_v33_8, main_v33_9, main_v33_10, main_v33_11]
theorem preOps_writes : Writes (F := F) preOps preOps_W := forall_writes_sub_of_map rfl

/-- The output laid out, the cotangent cut and the carried buffers filled, before the backward loop. -/
abbrev midOps : List (HloOp τ sig (Elt F)) :=
  ( unary main_v33_8 main_v34 ((transpose S4x32x6x64x128 [1, 0, 2, 3, 4] · transposes_S32x4x6x64x128_S4x32x6x64x128_1_0_2_3_4) : C F S32x4x6x64x128 → C F S4x32x6x64x128)
  :: unary main_v34 main_v35 ((transpose S4x32x64x6x128 [0, 1, 3, 2, 4] · transposes_S4x32x6x64x128_S4x32x64x6x128_0_1_3_2_4) : C F S4x32x6x64x128 → C F S4x32x64x6x128)
  :: reshape main_v35 main_v36 ff shapeCasts_S4x32x64x6x128_S8192x768
  :: nullary main_cst_4 (constant S_ .f32 0x00000000#32)
  :: unary main_cst_4 main_v37 (broadcastInDim S4x6x128x128 ![] bcast_S_S4x6x128x128 : C F S_ → C F S4x6x128x128)
  :: reshape main_arg6 main_v38 ff shapeCasts_S8192x768_S4x32x64x6x128
  :: unary main_v38 main_v39 ((transpose S4x32x6x64x128 [0, 1, 3, 2, 4] · transposes_S4x32x64x6x128_S4x32x6x64x128_0_1_3_2_4) : C F S4x32x64x6x128 → C F S4x32x6x64x128)
  :: unary main_v39 main_v40 ((transpose S32x4x6x64x128 [1, 0, 2, 3, 4] · transposes_S4x32x6x64x128_S32x4x6x64x128_1_0_2_3_4) : C F S4x32x6x64x128 → C F S32x4x6x64x128)
  :: nullary main_cst_5 (constant S_ .f32 0x00000000#32)
  :: unary main_cst_5 main_v41 (broadcastInDim S4x6x128x128 ![] bcast_S_S4x6x128x128 : C F S_ → C F S4x6x128x128)
  :: nullary main_cst_6 (constant S_ .f32 0x00000000#32)
  :: unary main_cst_6 main_v42 (broadcastInDim S32x4x6x64x128 ![] bcast_S_S32x4x6x64x128 : C F S_ → C F S32x4x6x64x128)
  :: nullary main_cst_7 (constant S_ .f32 0x00000000#32)
  :: unary main_cst_7 main_v43 (broadcastInDim S32x4x6x64x128 ![] bcast_S_S32x4x6x64x128 : C F S_ → C F S32x4x6x64x128)
  :: nullary main_cst_8 (constant S_ .f32 0x00000000#32)
  :: unary main_cst_8 main_v44 (broadcastInDim S32x4x6x64x128 ![] bcast_S_S32x4x6x64x128 : C F S_ → C F S32x4x6x64x128)
  :: nullary main_cst_9 (constant S_ .f32 0x00000000#32)
  :: unary main_cst_9 main_v45 (broadcastInDim S32x4x6x64x128 ![] bcast_S_S32x4x6x64x128 : C F S_ → C F S32x4x6x64x128)
  :: nullary main_cst_10 (constant S_ .f32 0x00000000#32)
  :: unary main_cst_10 main_v46 (broadcastInDim S32x4x6x64x64 ![] bcast_S_S32x4x6x64x64 : C F S_ → C F S32x4x6x64x64)
  :: nullary main_cst_11 (constant S_ .f32 0x00000000#32)
  :: unary main_cst_11 main_v47 (broadcastInDim S32x4x6x128 ![] bcast_S_S32x4x6x128 : C F S_ → C F S32x4x6x128)
  :: nullary main_c_12 (constantI S_ 32 0#32)
  :: unary main_v40 main_v48_0 id
  :: unary main_v33_9 main_v48_1 id
  :: unary main_v7 main_v48_2 id
  :: unary main_v11 main_v48_3 id
  :: unary main_v33_10 main_v48_4 id
  :: unary main_v24 main_v48_5 id
  :: unary main_v33_11 main_v48_6 id
  :: unary main_v15 main_v48_7 id
  :: unary main_c_12 main_v48_8 id
  :: unary main_v41 main_v48_9 id
  :: unary main_v42 main_v48_10 id
  :: unary main_v43 main_v48_11 id
  :: unary main_v44 main_v48_12 id
  :: unary main_v45 main_v48_13 id
  :: unary main_v46 main_v48_14 id
  :: unary main_v47 main_v48_15 id
  :: [] )
theorem midOps_sub : Subs (F := F) midOps :=
  ⟨unary_bufs_sub .., unary_bufs_sub .., reshape_bufs_sub .., nullary_bufs_sub .., unary_bufs_sub .., reshape_bufs_sub .., unary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem midOps_fresh : Fresh (F := F) midOps := forall_fresh_of_map rfl
abbrev midOps_W : List (Ref sig .tc) := [main_v34, main_v35, main_v36, main_cst_4, main_v37, main_v38, main_v39, main_v40, main_cst_5, main_v41, main_cst_6, main_v42, main_cst_7, main_v43, main_cst_8, main_v44, main_cst_9, main_v45, main_cst_10, main_v46, main_cst_11, main_v47, main_c_12, main_v48_0, main_v48_1, main_v48_2, main_v48_3, main_v48_4, main_v48_5, main_v48_6, main_v48_7, main_v48_8, main_v48_9, main_v48_10, main_v48_11, main_v48_12, main_v48_13, main_v48_14, main_v48_15]
theorem midOps_writes : Writes (F := F) midOps midOps_W := forall_writes_sub_of_map rfl

/-- The gradients laid out, after the backward loop. -/
abbrev postOps : List (HloOp τ sig (Elt F)) :=
  ( binary main_v48_15 main_v27 main_v49 (mulf : C F S32x4x6x128 → C F S32x4x6x128 → C F S32x4x6x128)
  :: unary main_v49 main_v50 (broadcastInDim S32x4x6x1x128 ![0, 1, 2, 4] bcast_S32x4x6x128_S32x4x6x1x128_0_1_2_4 : C F S32x4x6x128 → C F S32x4x6x1x128)
  :: nullary main_cst_13 (constant S_ .f32 0x00000000#32)
  :: binary main_v50 main_cst_13 main_v51 ((fun x v => pad S32x4x6x64x128 ![0, 0, 0, 63, 0] ![0, 0, 0, 0, 0] ![0, 0, 0, 0, 0] x v pads_S32x4x6x1x128_S32x4x6x64x128_000_000_000_6300_000 h_S_) : C F S32x4x6x1x128 → C F S_ → C F S32x4x6x64x128)
  :: unary main_v48_14 main_v52 ((transpose S32x4x64x6x64 [0, 1, 3, 2, 4] · transposes_S32x4x6x64x64_S32x4x64x6x64_0_1_3_2_4) : C F S32x4x6x64x64 → C F S32x4x64x6x64)
  :: unary main_v52 main_v53 ((transpose S4x32x64x6x64 [1, 0, 2, 3, 4] · transposes_S32x4x64x6x64_S4x32x64x6x64_1_0_2_3_4) : C F S32x4x64x6x64 → C F S4x32x64x6x64)
  :: reshape main_v53 main_v54 ff shapeCasts_S4x32x64x6x64_S4x2048x6x64
  :: reshape main_v54 main_v55 ff shapeCasts_S4x2048x6x64_S8192x6x64
  :: unary main_v55 main_v56 ((transpose S6x8192x64 [1, 0, 2] · transposes_S8192x6x64_S6x8192x64_1_0_2) : C F S8192x6x64 → C F S6x8192x64)
  :: unary main_v51 main_v57 ((transpose S32x4x64x6x128 [0, 1, 3, 2, 4] · transposes_S32x4x6x64x128_S32x4x64x6x128_0_1_3_2_4) : C F S32x4x6x64x128 → C F S32x4x64x6x128)
  :: unary main_v57 main_v58 ((transpose S4x32x64x6x128 [1, 0, 2, 3, 4] · transposes_S32x4x64x6x128_S4x32x64x6x128_1_0_2_3_4) : C F S32x4x64x6x128 → C F S4x32x64x6x128)
  :: reshape main_v58 main_v59 ff shapeCasts_S4x32x64x6x128_S4x2048x6x128
  :: reshape main_v59 main_v60 ff shapeCasts_S4x2048x6x128_S8192x768
  :: unary main_v48_13 main_v61 ((transpose S32x4x64x6x128 [0, 1, 3, 2, 4] · transposes_S32x4x6x64x128_S32x4x64x6x128_0_1_3_2_4) : C F S32x4x6x64x128 → C F S32x4x64x6x128)
  :: unary main_v61 main_v62 ((transpose S4x32x64x6x128 [1, 0, 2, 3, 4] · transposes_S32x4x64x6x128_S4x32x64x6x128_1_0_2_3_4) : C F S32x4x64x6x128 → C F S4x32x64x6x128)
  :: reshape main_v62 main_v63 ff shapeCasts_S4x32x64x6x128_S4x2048x6x128
  :: reshape main_v63 main_v64 ff shapeCasts_S4x2048x6x128_S8192x768
  :: unary main_v48_12 main_v65 ((transpose S32x4x64x6x128 [0, 1, 3, 2, 4] · transposes_S32x4x6x64x128_S32x4x64x6x128_0_1_3_2_4) : C F S32x4x6x64x128 → C F S32x4x64x6x128)
  :: unary main_v65 main_v66 ((transpose S4x32x64x6x128 [1, 0, 2, 3, 4] · transposes_S32x4x64x6x128_S4x32x64x6x128_1_0_2_3_4) : C F S32x4x64x6x128 → C F S4x32x64x6x128)
  :: reshape main_v66 main_v67 ff shapeCasts_S4x32x64x6x128_S4x2048x6x128
  :: reshape main_v67 main_v68 ff shapeCasts_S4x2048x6x128_S8192x768
  :: unary main_v48_11 main_v69 ((transpose S32x4x64x6x128 [0, 1, 3, 2, 4] · transposes_S32x4x6x64x128_S32x4x64x6x128_0_1_3_2_4) : C F S32x4x6x64x128 → C F S32x4x64x6x128)
  :: unary main_v69 main_v70 ((transpose S4x32x64x6x128 [1, 0, 2, 3, 4] · transposes_S32x4x64x6x128_S4x32x64x6x128_1_0_2_3_4) : C F S32x4x64x6x128 → C F S4x32x64x6x128)
  :: reshape main_v70 main_v71 ff shapeCasts_S4x32x64x6x128_S4x2048x6x128
  :: reshape main_v71 main_v72 ff shapeCasts_S4x2048x6x128_S8192x768
  :: unary main_v48_10 main_v73 ((transpose S32x4x64x6x128 [0, 1, 3, 2, 4] · transposes_S32x4x6x64x128_S32x4x64x6x128_0_1_3_2_4) : C F S32x4x6x64x128 → C F S32x4x64x6x128)
  :: unary main_v73 main_v74 ((transpose S4x32x64x6x128 [1, 0, 2, 3, 4] · transposes_S32x4x64x6x128_S4x32x64x6x128_1_0_2_3_4) : C F S32x4x64x6x128 → C F S4x32x64x6x128)
  :: reshape main_v74 main_v75 ff shapeCasts_S4x32x64x6x128_S4x2048x6x128
  :: reshape main_v75 main_v76 ff shapeCasts_S4x2048x6x128_S8192x768
  :: [] )
theorem postOps_sub : Subs (F := F) postOps :=
  ⟨binary_bufs_sub .., unary_bufs_sub .., nullary_bufs_sub .., binary_bufs_sub .., unary_bufs_sub .., unary_bufs_sub .., reshape_bufs_sub .., reshape_bufs_sub .., unary_bufs_sub .., unary_bufs_sub .., unary_bufs_sub .., reshape_bufs_sub .., reshape_bufs_sub .., unary_bufs_sub .., unary_bufs_sub .., reshape_bufs_sub .., reshape_bufs_sub .., unary_bufs_sub .., unary_bufs_sub .., reshape_bufs_sub .., reshape_bufs_sub .., unary_bufs_sub .., unary_bufs_sub .., reshape_bufs_sub .., reshape_bufs_sub .., unary_bufs_sub .., unary_bufs_sub .., reshape_bufs_sub .., reshape_bufs_sub ..⟩
theorem postOps_fresh : Fresh (F := F) postOps := forall_fresh_of_map rfl
abbrev postOps_W : List (Ref sig .tc) := [main_v49, main_v50, main_cst_13, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76]
theorem postOps_writes : Writes (F := F) postOps postOps_W := forall_writes_sub_of_map rfl

/-- Stretch 0 of one forward trip. -/
abbrev fwdOps0 : List (HloOp τ sig (Elt F)) :=
  ( TRef.nullary (.of main_while0b_call0_c : TI) (constantI S_ 32 0#32)
  :: TRef.nullary (.of main_while0b_call0_c_0 : TI) (constantI S_ 32 0#32)
  :: TRef.nullary (.of main_while0b_call0_c_1 : TI) (constantI S_ 32 0#32)
  :: TRef.nullary (.of main_while0b_call0_c_2 : TI) (constantI S_ 32 0#32)
  :: TRef.unaryIndexed (.of main_v33_0 : TF S32x4x6x64x128) ![(.of main_v33_6 : TI), (.of main_while0b_call0_c : TI), (.of main_while0b_call0_c_0 : TI), (.of main_while0b_call0_c_1 : TI), (.of main_while0b_call0_c_2 : TI)] (.of main_while0b_call0_v0 : TF S1x4x6x64x128) (fun x i => Host.dynamicSlice S1x4x6x64x128 x (fun k => (i k (Shape.Idx.first h_S_)).toInt) sliceFits_S32x4x6x64x128_S1x4x6x64x128)
  :: TRef.reshape (.of main_while0b_call0_v0 : TF S1x4x6x64x128) (.of main_while0b_v77 : TF S4x6x64x128) ff shapeCasts_S1x4x6x64x128_S4x6x64x128
  :: [] )
theorem fwdOps0_sub : Subs (F := F) fwdOps0 :=
  ⟨nullary_bufs_sub .., nullary_bufs_sub .., nullary_bufs_sub .., nullary_bufs_sub .., unaryIndexed_bufs_sub .., reshape_bufs_sub ..⟩
theorem fwdOps0_fresh : Fresh (F := F) fwdOps0 := forall_fresh_of_map rfl
abbrev fwdOps0_W : List (Ref sig .tc) := [main_while0b_call0_c, main_while0b_call0_c_0, main_while0b_call0_c_1, main_while0b_call0_c_2, main_while0b_call0_v0, main_while0b_v77]
theorem fwdOps0_writes : Writes (F := F) fwdOps0 fwdOps0_W := forall_writes_sub_of_map rfl

/-- Stretch 1 of one forward trip. -/
abbrev fwdOps1 : List (HloOp τ sig (Elt F)) :=
  ( TRef.nullary (.of main_while0b_call1_c : TI) (constantI S_ 32 0#32)
  :: TRef.nullary (.of main_while0b_call1_c_0 : TI) (constantI S_ 32 0#32)
  :: TRef.nullary (.of main_while0b_call1_c_1 : TI) (constantI S_ 32 0#32)
  :: TRef.nullary (.of main_while0b_call1_c_2 : TI) (constantI S_ 32 0#32)
  :: TRef.unaryIndexed (.of main_v33_1 : TF S32x4x6x64x128) ![(.of main_v33_6 : TI), (.of main_while0b_call1_c : TI), (.of main_while0b_call1_c_0 : TI), (.of main_while0b_call1_c_1 : TI), (.of main_while0b_call1_c_2 : TI)] (.of main_while0b_call1_v0 : TF S1x4x6x64x128) (fun x i => Host.dynamicSlice S1x4x6x64x128 x (fun k => (i k (Shape.Idx.first h_S_)).toInt) sliceFits_S32x4x6x64x128_S1x4x6x64x128)
  :: TRef.reshape (.of main_while0b_call1_v0 : TF S1x4x6x64x128) (.of main_while0b_v78 : TF S4x6x64x128) ff shapeCasts_S1x4x6x64x128_S4x6x64x128
  :: [] )
theorem fwdOps1_sub : Subs (F := F) fwdOps1 :=
  ⟨nullary_bufs_sub .., nullary_bufs_sub .., nullary_bufs_sub .., nullary_bufs_sub .., unaryIndexed_bufs_sub .., reshape_bufs_sub ..⟩
theorem fwdOps1_fresh : Fresh (F := F) fwdOps1 := forall_fresh_of_map rfl
abbrev fwdOps1_W : List (Ref sig .tc) := [main_while0b_call1_c, main_while0b_call1_c_0, main_while0b_call1_c_1, main_while0b_call1_c_2, main_while0b_call1_v0, main_while0b_v78]
theorem fwdOps1_writes : Writes (F := F) fwdOps1 fwdOps1_W := forall_writes_sub_of_map rfl

/-- Stretch 2 of one forward trip. -/
abbrev fwdOps2 : List (HloOp τ sig (Elt F)) :=
  ( TRef.nullary (.of main_while0b_call2_c : TI) (constantI S_ 32 0#32)
  :: TRef.nullary (.of main_while0b_call2_c_0 : TI) (constantI S_ 32 0#32)
  :: TRef.nullary (.of main_while0b_call2_c_1 : TI) (constantI S_ 32 0#32)
  :: TRef.nullary (.of main_while0b_call2_c_2 : TI) (constantI S_ 32 0#32)
  :: TRef.unaryIndexed (.of main_v33_2 : TF S32x4x6x64x128) ![(.of main_v33_6 : TI), (.of main_while0b_call2_c : TI), (.of main_while0b_call2_c_0 : TI), (.of main_while0b_call2_c_1 : TI), (.of main_while0b_call2_c_2 : TI)] (.of main_while0b_call2_v0 : TF S1x4x6x64x128) (fun x i => Host.dynamicSlice S1x4x6x64x128 x (fun k => (i k (Shape.Idx.first h_S_)).toInt) sliceFits_S32x4x6x64x128_S1x4x6x64x128)
  :: TRef.reshape (.of main_while0b_call2_v0 : TF S1x4x6x64x128) (.of main_while0b_v79 : TF S4x6x64x128) ff shapeCasts_S1x4x6x64x128_S4x6x64x128
  :: [] )
theorem fwdOps2_sub : Subs (F := F) fwdOps2 :=
  ⟨nullary_bufs_sub .., nullary_bufs_sub .., nullary_bufs_sub .., nullary_bufs_sub .., unaryIndexed_bufs_sub .., reshape_bufs_sub ..⟩
theorem fwdOps2_fresh : Fresh (F := F) fwdOps2 := forall_fresh_of_map rfl
abbrev fwdOps2_W : List (Ref sig .tc) := [main_while0b_call2_c, main_while0b_call2_c_0, main_while0b_call2_c_1, main_while0b_call2_c_2, main_while0b_call2_v0, main_while0b_v79]
theorem fwdOps2_writes : Writes (F := F) fwdOps2 fwdOps2_W := forall_writes_sub_of_map rfl

/-- Stretch 3 of one forward trip. -/
abbrev fwdOps3 : List (HloOp τ sig (Elt F)) :=
  ( TRef.nullary (.of main_while0b_call3_c : TI) (constantI S_ 32 0#32)
  :: TRef.nullary (.of main_while0b_call3_c_0 : TI) (constantI S_ 32 0#32)
  :: TRef.nullary (.of main_while0b_call3_c_1 : TI) (constantI S_ 32 0#32)
  :: TRef.nullary (.of main_while0b_call3_c_2 : TI) (constantI S_ 32 0#32)
  :: TRef.unaryIndexed (.of main_v33_3 : TF S32x4x6x64x128) ![(.of main_v33_6 : TI), (.of main_while0b_call3_c : TI), (.of main_while0b_call3_c_0 : TI), (.of main_while0b_call3_c_1 : TI), (.of main_while0b_call3_c_2 : TI)] (.of main_while0b_call3_v0 : TF S1x4x6x64x128) (fun x i => Host.dynamicSlice S1x4x6x64x128 x (fun k => (i k (Shape.Idx.first h_S_)).toInt) sliceFits_S32x4x6x64x128_S1x4x6x64x128)
  :: TRef.reshape (.of main_while0b_call3_v0 : TF S1x4x6x64x128) (.of main_while0b_v80 : TF S4x6x64x128) ff shapeCasts_S1x4x6x64x128_S4x6x64x128
  :: [] )
theorem fwdOps3_sub : Subs (F := F) fwdOps3 :=
  ⟨nullary_bufs_sub .., nullary_bufs_sub .., nullary_bufs_sub .., nullary_bufs_sub .., unaryIndexed_bufs_sub .., reshape_bufs_sub ..⟩
theorem fwdOps3_fresh : Fresh (F := F) fwdOps3 := forall_fresh_of_map rfl
abbrev fwdOps3_W : List (Ref sig .tc) := [main_while0b_call3_c, main_while0b_call3_c_0, main_while0b_call3_c_1, main_while0b_call3_c_2, main_while0b_call3_v0, main_while0b_v80]
theorem fwdOps3_writes : Writes (F := F) fwdOps3 fwdOps3_W := forall_writes_sub_of_map rfl

/-- Stretch 4 of one forward trip. -/
abbrev fwdOps4 : List (HloOp τ sig (Elt F)) :=
  ( TRef.nullary (.of main_while0b_call4_c : TI) (constantI S_ 32 0#32)
  :: TRef.nullary (.of main_while0b_call4_c_0 : TI) (constantI S_ 32 0#32)
  :: TRef.nullary (.of main_while0b_call4_c_1 : TI) (constantI S_ 32 0#32)
  :: TRef.nullary (.of main_while0b_call4_c_2 : TI) (constantI S_ 32 0#32)
  :: TRef.unaryIndexed (.of main_v33_4 : TF S32x4x6x64x64) ![(.of main_v33_6 : TI), (.of main_while0b_call4_c : TI), (.of main_while0b_call4_c_0 : TI), (.of main_while0b_call4_c_1 : TI), (.of main_while0b_call4_c_2 : TI)] (.of main_while0b_call4_v0 : TF S1x4x6x64x64) (fun x i => Host.dynamicSlice S1x4x6x64x64 x (fun k => (i k (Shape.Idx.first h_S_)).toInt) sliceFits_S32x4x6x64x64_S1x4x6x64x64)
  :: TRef.reshape (.of main_while0b_call4_v0 : TF S1x4x6x64x64) (.of main_while0b_v81 : TF S4x6x64x64) ff shapeCasts_S1x4x6x64x64_S4x6x64x64
  :: [] )
theorem fwdOps4_sub : Subs (F := F) fwdOps4 :=
  ⟨nullary_bufs_sub .., nullary_bufs_sub .., nullary_bufs_sub .., nullary_bufs_sub .., unaryIndexed_bufs_sub .., reshape_bufs_sub ..⟩
theorem fwdOps4_fresh : Fresh (F := F) fwdOps4 := forall_fresh_of_map rfl
abbrev fwdOps4_W : List (Ref sig .tc) := [main_while0b_call4_c, main_while0b_call4_c_0, main_while0b_call4_c_1, main_while0b_call4_c_2, main_while0b_call4_v0, main_while0b_v81]
theorem fwdOps4_writes : Writes (F := F) fwdOps4 fwdOps4_W := forall_writes_sub_of_map rfl

/-- Stretch 5 of one forward trip. -/
abbrev fwdOps5 : List (HloOp τ sig (Elt F)) :=
  ( TRef.nullary (.of main_while0b_call5_c : TI) (constantI S_ 32 0#32)
  :: TRef.nullary (.of main_while0b_call5_c_0 : TI) (constantI S_ 32 0#32)
  :: TRef.nullary (.of main_while0b_call5_c_1 : TI) (constantI S_ 32 0#32)
  :: TRef.unaryIndexed (.of main_v33_5 : TF S32x4x6x128) ![(.of main_v33_6 : TI), (.of main_while0b_call5_c : TI), (.of main_while0b_call5_c_0 : TI), (.of main_while0b_call5_c_1 : TI)] (.of main_while0b_call5_v0 : TF S1x4x6x128) (fun x i => Host.dynamicSlice S1x4x6x128 x (fun k => (i k (Shape.Idx.first h_S_)).toInt) sliceFits_S32x4x6x128_S1x4x6x128)
  :: TRef.reshape (.of main_while0b_call5_v0 : TF S1x4x6x128) (.of main_while0b_v82 : TF S4x6x128) ff shapeCasts_S1x4x6x128_S4x6x128
  :: [] )
theorem fwdOps5_sub : Subs (F := F) fwdOps5 :=
  ⟨nullary_bufs_sub .., nullary_bufs_sub .., nullary_bufs_sub .., unaryIndexed_bufs_sub .., reshape_bufs_sub ..⟩
theorem fwdOps5_fresh : Fresh (F := F) fwdOps5 := forall_fresh_of_map rfl
abbrev fwdOps5_W : List (Ref sig .tc) := [main_while0b_call5_c, main_while0b_call5_c_0, main_while0b_call5_c_1, main_while0b_call5_v0, main_while0b_v82]
theorem fwdOps5_writes : Writes (F := F) fwdOps5 fwdOps5_W := forall_writes_sub_of_map rfl

/-- Stretch 6 of one forward trip. -/
abbrev fwdOps6 : List (HloOp τ sig (Elt F)) :=
  ( binary main_while0b_v78 main_v33_7 main_while0b_v83 ((fun l r => Host.dotGeneral dot_S4x6x64x128_S4x6x128x128_S4x6x64x128_3_2_2_3_01_01 none l r) : C F S4x6x64x128 → C F S4x6x128x128 → C F S4x6x64x128)
  :: binary main_while0b_v77 main_while0b_v83 main_while0b_v84 (subf : C F S4x6x64x128 → C F S4x6x64x128 → C F S4x6x64x128)
  :: binary main_while0b_v79 main_v33_7 main_while0b_v85 ((fun l r => Host.dotGeneral dot_S4x6x64x128_S4x6x128x128_S4x6x64x128_3_2_2_3_01_01 none l r) : C F S4x6x64x128 → C F S4x6x128x128 → C F S4x6x64x128)
  :: binary main_while0b_v81 main_while0b_v84 main_while0b_v86 ((fun l r => Host.dotGeneral dot_S4x6x64x64_S4x6x64x128_S4x6x64x128_3_2_2_3_01_01 none l r) : C F S4x6x64x64 → C F S4x6x64x128 → C F S4x6x64x128)
  :: binary main_while0b_v85 main_while0b_v86 main_while0b_v87 (addf : C F S4x6x64x128 → C F S4x6x64x128 → C F S4x6x64x128)
  :: unary main_while0b_v82 main_while0b_v88 (broadcastInDim S4x6x1x128 ![0, 1, 3] bcast_S4x6x128_S4x6x1x128_0_1_3 : C F S4x6x128 → C F S4x6x1x128)
  :: unary main_while0b_v88 main_while0b_v89 (broadcastInDim S4x6x128x128 ![0, 1, 2, 3] bcast_S4x6x1x128_S4x6x128x128_0_1_2_3 : C F S4x6x1x128 → C F S4x6x128x128)
  :: binary main_v33_7 main_while0b_v89 main_while0b_v90 (mulf : C F S4x6x128x128 → C F S4x6x128x128 → C F S4x6x128x128)
  :: binary main_while0b_v80 main_while0b_v84 main_while0b_v91 ((fun l r => Host.dotGeneral dot_S4x6x64x128_S4x6x64x128_S4x6x128x128_2_2_3_3_01_01 none l r) : C F S4x6x64x128 → C F S4x6x64x128 → C F S4x6x128x128)
  :: binary main_while0b_v90 main_while0b_v91 main_while0b_v92 (addf : C F S4x6x128x128 → C F S4x6x128x128 → C F S4x6x128x128)
  :: [] )
theorem fwdOps6_sub : Subs (F := F) fwdOps6 :=
  ⟨binary_bufs_sub .., binary_bufs_sub .., binary_bufs_sub .., binary_bufs_sub .., binary_bufs_sub .., unary_bufs_sub .., unary_bufs_sub .., binary_bufs_sub .., binary_bufs_sub .., binary_bufs_sub ..⟩
theorem fwdOps6_fresh : Fresh (F := F) fwdOps6 := forall_fresh_of_map rfl
abbrev fwdOps6_W : List (Ref sig .tc) := [main_while0b_v83, main_while0b_v84, main_while0b_v85, main_while0b_v86, main_while0b_v87, main_while0b_v88, main_while0b_v89, main_while0b_v90, main_while0b_v91, main_while0b_v92]
theorem fwdOps6_writes : Writes (F := F) fwdOps6 fwdOps6_W := forall_writes_sub_of_map rfl

/-- Stretch 7 of one forward trip. -/
abbrev fwdOps7 : List (HloOp τ sig (Elt F)) :=
  ( TRef.unary (.of main_while0b_v87 : TF S4x6x64x128) (.of main_while0b_call6_v0 : TF S1x4x6x64x128) (broadcastInDim S1x4x6x64x128 ![1, 2, 3, 4] bcast_S4x6x64x128_S1x4x6x64x128_1_2_3_4)
  :: TRef.nullary (.of main_while0b_call6_c : TI) (constantI S_ 32 0#32)
  :: TRef.nullary (.of main_while0b_call6_c_0 : TI) (constantI S_ 32 0#32)
  :: TRef.nullary (.of main_while0b_call6_c_1 : TI) (constantI S_ 32 0#32)
  :: TRef.nullary (.of main_while0b_call6_c_2 : TI) (constantI S_ 32 0#32)
  :: TRef.binaryIndexed (.of main_v33_8 : TF S32x4x6x64x128) (.of main_while0b_call6_v0 : TF S1x4x6x64x128) ![(.of main_v33_6 : TI), (.of main_while0b_call6_c : TI), (.of main_while0b_call6_c_0 : TI), (.of main_while0b_call6_c_1 : TI), (.of main_while0b_call6_c_2 : TI)] (.of main_while0b_v93 : TF S32x4x6x64x128) (fun x u i => Host.dynamicUpdateSlice x u (fun k => (i k (Shape.Idx.first h_S_)).toInt) updateFits_S32x4x6x64x128_S1x4x6x64x128)
  :: [] )
theorem fwdOps7_sub : Subs (F := F) fwdOps7 :=
  ⟨unary_bufs_sub .., nullary_bufs_sub .., nullary_bufs_sub .., nullary_bufs_sub .., nullary_bufs_sub .., binaryIndexed_bufs_sub ..⟩
theorem fwdOps7_fresh : Fresh (F := F) fwdOps7 := forall_fresh_of_map rfl
abbrev fwdOps7_W : List (Ref sig .tc) := [main_while0b_call6_v0, main_while0b_call6_c, main_while0b_call6_c_0, main_while0b_call6_c_1, main_while0b_call6_c_2, main_while0b_v93]
theorem fwdOps7_writes : Writes (F := F) fwdOps7 fwdOps7_W := forall_writes_sub_of_map rfl

/-- Stretch 8 of one forward trip. -/
abbrev fwdOps8 : List (HloOp τ sig (Elt F)) :=
  ( TRef.unary (.of main_v33_7 : TF S4x6x128x128) (.of main_while0b_call7_v0 : TF S1x4x6x128x128) (broadcastInDim S1x4x6x128x128 ![1, 2, 3, 4] bcast_S4x6x128x128_S1x4x6x128x128_1_2_3_4)
  :: TRef.nullary (.of main_while0b_call7_c : TI) (constantI S_ 32 0#32)
  :: TRef.nullary (.of main_while0b_call7_c_0 : TI) (constantI S_ 32 0#32)
  :: TRef.nullary (.of main_while0b_call7_c_1 : TI) (constantI S_ 32 0#32)
  :: TRef.nullary (.of main_while0b_call7_c_2 : TI) (constantI S_ 32 0#32)
  :: TRef.binaryIndexed (.of main_v33_9 : TF S32x4x6x128x128) (.of main_while0b_call7_v0 : TF S1x4x6x128x128) ![(.of main_v33_6 : TI), (.of main_while0b_call7_c : TI), (.of main_while0b_call7_c_0 : TI), (.of main_while0b_call7_c_1 : TI), (.of main_while0b_call7_c_2 : TI)] (.of main_while0b_v94 : TF S32x4x6x128x128) (fun x u i => Host.dynamicUpdateSlice x u (fun k => (i k (Shape.Idx.first h_S_)).toInt) updateFits_S32x4x6x128x128_S1x4x6x128x128)
  :: [] )
theorem fwdOps8_sub : Subs (F := F) fwdOps8 :=
  ⟨unary_bufs_sub .., nullary_bufs_sub .., nullary_bufs_sub .., nullary_bufs_sub .., nullary_bufs_sub .., binaryIndexed_bufs_sub ..⟩
theorem fwdOps8_fresh : Fresh (F := F) fwdOps8 := forall_fresh_of_map rfl
abbrev fwdOps8_W : List (Ref sig .tc) := [main_while0b_call7_v0, main_while0b_call7_c, main_while0b_call7_c_0, main_while0b_call7_c_1, main_while0b_call7_c_2, main_while0b_v94]
theorem fwdOps8_writes : Writes (F := F) fwdOps8 fwdOps8_W := forall_writes_sub_of_map rfl

/-- Stretch 9 of one forward trip. -/
abbrev fwdOps9 : List (HloOp τ sig (Elt F)) :=
  ( TRef.unary (.of main_while0b_v84 : TF S4x6x64x128) (.of main_while0b_call8_v0 : TF S1x4x6x64x128) (broadcastInDim S1x4x6x64x128 ![1, 2, 3, 4] bcast_S4x6x64x128_S1x4x6x64x128_1_2_3_4)
  :: TRef.nullary (.of main_while0b_call8_c : TI) (constantI S_ 32 0#32)
  :: TRef.nullary (.of main_while0b_call8_c_0 : TI) (constantI S_ 32 0#32)
  :: TRef.nullary (.of main_while0b_call8_c_1 : TI) (constantI S_ 32 0#32)
  :: TRef.nullary (.of main_while0b_call8_c_2 : TI) (constantI S_ 32 0#32)
  :: TRef.binaryIndexed (.of main_v33_10 : TF S32x4x6x64x128) (.of main_while0b_call8_v0 : TF S1x4x6x64x128) ![(.of main_v33_6 : TI), (.of main_while0b_call8_c : TI), (.of main_while0b_call8_c_0 : TI), (.of main_while0b_call8_c_1 : TI), (.of main_while0b_call8_c_2 : TI)] (.of main_while0b_v95 : TF S32x4x6x64x128) (fun x u i => Host.dynamicUpdateSlice x u (fun k => (i k (Shape.Idx.first h_S_)).toInt) updateFits_S32x4x6x64x128_S1x4x6x64x128)
  :: [] )
theorem fwdOps9_sub : Subs (F := F) fwdOps9 :=
  ⟨unary_bufs_sub .., nullary_bufs_sub .., nullary_bufs_sub .., nullary_bufs_sub .., nullary_bufs_sub .., binaryIndexed_bufs_sub ..⟩
theorem fwdOps9_fresh : Fresh (F := F) fwdOps9 := forall_fresh_of_map rfl
abbrev fwdOps9_W : List (Ref sig .tc) := [main_while0b_call8_v0, main_while0b_call8_c, main_while0b_call8_c_0, main_while0b_call8_c_1, main_while0b_call8_c_2, main_while0b_v95]
theorem fwdOps9_writes : Writes (F := F) fwdOps9 fwdOps9_W := forall_writes_sub_of_map rfl

/-- Stretch 10 of one forward trip. -/
abbrev fwdOps10 : List (HloOp τ sig (Elt F)) :=
  ( TRef.unary (.of main_while0b_v88 : TF S4x6x1x128) (.of main_while0b_call9_v0 : TF S1x4x6x1x128) (broadcastInDim S1x4x6x1x128 ![1, 2, 3, 4] bcast_S4x6x1x128_S1x4x6x1x128_1_2_3_4)
  :: TRef.nullary (.of main_while0b_call9_c : TI) (constantI S_ 32 0#32)
  :: TRef.nullary (.of main_while0b_call9_c_0 : TI) (constantI S_ 32 0#32)
  :: TRef.nullary (.of main_while0b_call9_c_1 : TI) (constantI S_ 32 0#32)
  :: TRef.nullary (.of main_while0b_call9_c_2 : TI) (constantI S_ 32 0#32)
  :: TRef.binaryIndexed (.of main_v33_11 : TF S32x4x6x1x128) (.of main_while0b_call9_v0 : TF S1x4x6x1x128) ![(.of main_v33_6 : TI), (.of main_while0b_call9_c : TI), (.of main_while0b_call9_c_0 : TI), (.of main_while0b_call9_c_1 : TI), (.of main_while0b_call9_c_2 : TI)] (.of main_while0b_v96 : TF S32x4x6x1x128) (fun x u i => Host.dynamicUpdateSlice x u (fun k => (i k (Shape.Idx.first h_S_)).toInt) updateFits_S32x4x6x1x128_S1x4x6x1x128)
  :: [] )
theorem fwdOps10_sub : Subs (F := F) fwdOps10 :=
  ⟨unary_bufs_sub .., nullary_bufs_sub .., nullary_bufs_sub .., nullary_bufs_sub .., nullary_bufs_sub .., binaryIndexed_bufs_sub ..⟩
theorem fwdOps10_fresh : Fresh (F := F) fwdOps10 := forall_fresh_of_map rfl
abbrev fwdOps10_W : List (Ref sig .tc) := [main_while0b_call9_v0, main_while0b_call9_c, main_while0b_call9_c_0, main_while0b_call9_c_1, main_while0b_call9_c_2, main_while0b_v96]
theorem fwdOps10_writes : Writes (F := F) fwdOps10 fwdOps10_W := forall_writes_sub_of_map rfl

/-- Stretch 11 of one forward trip. -/
abbrev fwdOps11 : List (HloOp τ sig (Elt F)) :=
  ( nullary main_while0b_c_25 (constantI S_ 32 1#32)
  :: binary main_v33_6 main_while0b_c_25 main_while0b_v97 (addi : CI F → CI F → CI F)
  :: unary main_while0b_v97 main_v33_6 id
  :: unary main_while0b_v92 main_v33_7 id
  :: unary main_while0b_v93 main_v33_8 id
  :: unary main_while0b_v94 main_v33_9 id
  :: unary main_while0b_v95 main_v33_10 id
  :: unary main_while0b_v96 main_v33_11 id
  :: [] )
theorem fwdOps11_sub : Subs (F := F) fwdOps11 :=
  ⟨nullary_bufs_sub .., binary_bufs_sub .., unary_bufs_sub .., unary_bufs_sub .., unary_bufs_sub .., unary_bufs_sub .., unary_bufs_sub .., unary_bufs_sub ..⟩
theorem fwdOps11_fresh : Fresh (F := F) fwdOps11 := forall_fresh_of_map rfl
abbrev fwdOps11_W : List (Ref sig .tc) := [main_while0b_c_25, main_while0b_v97, main_v33_6, main_v33_7, main_v33_8, main_v33_9, main_v33_10, main_v33_11]
theorem fwdOps11_writes : Writes (F := F) fwdOps11 fwdOps11_W := forall_writes_sub_of_map rfl

/-- Stretch 0 of one backward trip. -/
abbrev bwdOps0 : List (HloOp τ sig (Elt F)) :=
  ( nullary main_while1b_c_29 (constantI S_ 32 32#32)
  :: binary main_while1b_c_29 main_v48_8 main_while1b_v77 (subi : CI F → CI F → CI F)
  :: nullary main_while1b_c_30 (constantI S_ 32 1#32)
  :: binary main_while1b_v77 main_while1b_c_30 main_while1b_v78 (subi : CI F → CI F → CI F)
  :: [] )
theorem bwdOps0_sub : Subs (F := F) bwdOps0 :=
  ⟨nullary_bufs_sub .., binary_bufs_sub .., nullary_bufs_sub .., binary_bufs_sub ..⟩
theorem bwdOps0_fresh : Fresh (F := F) bwdOps0 := forall_fresh_of_map rfl
abbrev bwdOps0_W : List (Ref sig .tc) := [main_while1b_c_29, main_while1b_v77, main_while1b_c_30, main_while1b_v78]
theorem bwdOps0_writes : Writes (F := F) bwdOps0 bwdOps0_W := forall_writes_sub_of_map rfl

/-- Stretch 1 of one backward trip. -/
abbrev bwdOps1 : List (HloOp τ sig (Elt F)) :=
  ( TRef.nullary (.of main_while1b_call10_c : TI) (constantI S_ 32 0#32)
  :: TRef.nullary (.of main_while1b_call10_c_0 : TI) (constantI S_ 32 0#32)
  :: TRef.nullary (.of main_while1b_call10_c_1 : TI) (constantI S_ 32 0#32)
  :: TRef.nullary (.of main_while1b_call10_c_2 : TI) (constantI S_ 32 0#32)
  :: TRef.unaryIndexed (.of main_v48_0 : TF S32x4x6x64x128) ![(.of main_while1b_v78 : TI), (.of main_while1b_call10_c : TI), (.of main_while1b_call10_c_0 : TI), (.of main_while1b_call10_c_1 : TI), (.of main_while1b_call10_c_2 : TI)] (.of main_while1b_call10_v0 : TF S1x4x6x64x128) (fun x i => Host.dynamicSlice S1x4x6x64x128 x (fun k => (i k (Shape.Idx.first h_S_)).toInt) sliceFits_S32x4x6x64x128_S1x4x6x64x128)
  :: TRef.reshape (.of main_while1b_call10_v0 : TF S1x4x6x64x128) (.of main_while1b_v79 : TF S4x6x64x128) ff shapeCasts_S1x4x6x64x128_S4x6x64x128
  :: [] )
theorem bwdOps1_sub : Subs (F := F) bwdOps1 :=
  ⟨nullary_bufs_sub .., nullary_bufs_sub .., nullary_bufs_sub .., nullary_bufs_sub .., unaryIndexed_bufs_sub .., reshape_bufs_sub ..⟩
theorem bwdOps1_fresh : Fresh (F := F) bwdOps1 := forall_fresh_of_map rfl
abbrev bwdOps1_W : List (Ref sig .tc) := [main_while1b_call10_c, main_while1b_call10_c_0, main_while1b_call10_c_1, main_while1b_call10_c_2, main_while1b_call10_v0, main_while1b_v79]
theorem bwdOps1_writes : Writes (F := F) bwdOps1 bwdOps1_W := forall_writes_sub_of_map rfl

/-- Stretch 2 of one backward trip. -/
abbrev bwdOps2 : List (HloOp τ sig (Elt F)) :=
  ( TRef.nullary (.of main_while1b_call11_c : TI) (constantI S_ 32 0#32)
  :: TRef.nullary (.of main_while1b_call11_c_0 : TI) (constantI S_ 32 0#32)
  :: TRef.nullary (.of main_while1b_call11_c_1 : TI) (constantI S_ 32 0#32)
  :: TRef.nullary (.of main_while1b_call11_c_2 : TI) (constantI S_ 32 0#32)
  :: TRef.unaryIndexed (.of main_v48_1 : TF S32x4x6x128x128) ![(.of main_while1b_v78 : TI), (.of main_while1b_call11_c : TI), (.of main_while1b_call11_c_0 : TI), (.of main_while1b_call11_c_1 : TI), (.of main_while1b_call11_c_2 : TI)] (.of main_while1b_call11_v0 : TF S1x4x6x128x128) (fun x i => Host.dynamicSlice S1x4x6x128x128 x (fun k => (i k (Shape.Idx.first h_S_)).toInt) sliceFits_S32x4x6x128x128_S1x4x6x128x128)
  :: TRef.reshape (.of main_while1b_call11_v0 : TF S1x4x6x128x128) (.of main_while1b_v80 : TF S4x6x128x128) ff shapeCasts_S1x4x6x128x128_S4x6x128x128
  :: [] )
theorem bwdOps2_sub : Subs (F := F) bwdOps2 :=
  ⟨nullary_bufs_sub .., nullary_bufs_sub .., nullary_bufs_sub .., nullary_bufs_sub .., unaryIndexed_bufs_sub .., reshape_bufs_sub ..⟩
theorem bwdOps2_fresh : Fresh (F := F) bwdOps2 := forall_fresh_of_map rfl
abbrev bwdOps2_W : List (Ref sig .tc) := [main_while1b_call11_c, main_while1b_call11_c_0, main_while1b_call11_c_1, main_while1b_call11_c_2, main_while1b_call11_v0, main_while1b_v80]
theorem bwdOps2_writes : Writes (F := F) bwdOps2 bwdOps2_W := forall_writes_sub_of_map rfl

/-- Stretch 3 of one backward trip. -/
abbrev bwdOps3 : List (HloOp τ sig (Elt F)) :=
  ( TRef.nullary (.of main_while1b_call12_c : TI) (constantI S_ 32 0#32)
  :: TRef.nullary (.of main_while1b_call12_c_0 : TI) (constantI S_ 32 0#32)
  :: TRef.nullary (.of main_while1b_call12_c_1 : TI) (constantI S_ 32 0#32)
  :: TRef.nullary (.of main_while1b_call12_c_2 : TI) (constantI S_ 32 0#32)
  :: TRef.unaryIndexed (.of main_v48_2 : TF S32x4x6x64x128) ![(.of main_while1b_v78 : TI), (.of main_while1b_call12_c : TI), (.of main_while1b_call12_c_0 : TI), (.of main_while1b_call12_c_1 : TI), (.of main_while1b_call12_c_2 : TI)] (.of main_while1b_call12_v0 : TF S1x4x6x64x128) (fun x i => Host.dynamicSlice S1x4x6x64x128 x (fun k => (i k (Shape.Idx.first h_S_)).toInt) sliceFits_S32x4x6x64x128_S1x4x6x64x128)
  :: TRef.reshape (.of main_while1b_call12_v0 : TF S1x4x6x64x128) (.of main_while1b_v81 : TF S4x6x64x128) ff shapeCasts_S1x4x6x64x128_S4x6x64x128
  :: [] )
theorem bwdOps3_sub : Subs (F := F) bwdOps3 :=
  ⟨nullary_bufs_sub .., nullary_bufs_sub .., nullary_bufs_sub .., nullary_bufs_sub .., unaryIndexed_bufs_sub .., reshape_bufs_sub ..⟩
theorem bwdOps3_fresh : Fresh (F := F) bwdOps3 := forall_fresh_of_map rfl
abbrev bwdOps3_W : List (Ref sig .tc) := [main_while1b_call12_c, main_while1b_call12_c_0, main_while1b_call12_c_1, main_while1b_call12_c_2, main_while1b_call12_v0, main_while1b_v81]
theorem bwdOps3_writes : Writes (F := F) bwdOps3 bwdOps3_W := forall_writes_sub_of_map rfl

/-- Stretch 4 of one backward trip. -/
abbrev bwdOps4 : List (HloOp τ sig (Elt F)) :=
  ( TRef.nullary (.of main_while1b_call13_c : TI) (constantI S_ 32 0#32)
  :: TRef.nullary (.of main_while1b_call13_c_0 : TI) (constantI S_ 32 0#32)
  :: TRef.nullary (.of main_while1b_call13_c_1 : TI) (constantI S_ 32 0#32)
  :: TRef.nullary (.of main_while1b_call13_c_2 : TI) (constantI S_ 32 0#32)
  :: TRef.unaryIndexed (.of main_v48_3 : TF S32x4x6x64x128) ![(.of main_while1b_v78 : TI), (.of main_while1b_call13_c : TI), (.of main_while1b_call13_c_0 : TI), (.of main_while1b_call13_c_1 : TI), (.of main_while1b_call13_c_2 : TI)] (.of main_while1b_call13_v0 : TF S1x4x6x64x128) (fun x i => Host.dynamicSlice S1x4x6x64x128 x (fun k => (i k (Shape.Idx.first h_S_)).toInt) sliceFits_S32x4x6x64x128_S1x4x6x64x128)
  :: TRef.reshape (.of main_while1b_call13_v0 : TF S1x4x6x64x128) (.of main_while1b_v82 : TF S4x6x64x128) ff shapeCasts_S1x4x6x64x128_S4x6x64x128
  :: [] )
theorem bwdOps4_sub : Subs (F := F) bwdOps4 :=
  ⟨nullary_bufs_sub .., nullary_bufs_sub .., nullary_bufs_sub .., nullary_bufs_sub .., unaryIndexed_bufs_sub .., reshape_bufs_sub ..⟩
theorem bwdOps4_fresh : Fresh (F := F) bwdOps4 := forall_fresh_of_map rfl
abbrev bwdOps4_W : List (Ref sig .tc) := [main_while1b_call13_c, main_while1b_call13_c_0, main_while1b_call13_c_1, main_while1b_call13_c_2, main_while1b_call13_v0, main_while1b_v82]
theorem bwdOps4_writes : Writes (F := F) bwdOps4 bwdOps4_W := forall_writes_sub_of_map rfl

/-- Stretch 5 of one backward trip. -/
abbrev bwdOps5 : List (HloOp τ sig (Elt F)) :=
  ( TRef.nullary (.of main_while1b_call14_c : TI) (constantI S_ 32 0#32)
  :: TRef.nullary (.of main_while1b_call14_c_0 : TI) (constantI S_ 32 0#32)
  :: TRef.nullary (.of main_while1b_call14_c_1 : TI) (constantI S_ 32 0#32)
  :: TRef.nullary (.of main_while1b_call14_c_2 : TI) (constantI S_ 32 0#32)
  :: TRef.unaryIndexed (.of main_v48_4 : TF S32x4x6x64x128) ![(.of main_while1b_v78 : TI), (.of main_while1b_call14_c : TI), (.of main_while1b_call14_c_0 : TI), (.of main_while1b_call14_c_1 : TI), (.of main_while1b_call14_c_2 : TI)] (.of main_while1b_call14_v0 : TF S1x4x6x64x128) (fun x i => Host.dynamicSlice S1x4x6x64x128 x (fun k => (i k (Shape.Idx.first h_S_)).toInt) sliceFits_S32x4x6x64x128_S1x4x6x64x128)
  :: TRef.reshape (.of main_while1b_call14_v0 : TF S1x4x6x64x128) (.of main_while1b_v83 : TF S4x6x64x128) ff shapeCasts_S1x4x6x64x128_S4x6x64x128
  :: [] )
theorem bwdOps5_sub : Subs (F := F) bwdOps5 :=
  ⟨nullary_bufs_sub .., nullary_bufs_sub .., nullary_bufs_sub .., nullary_bufs_sub .., unaryIndexed_bufs_sub .., reshape_bufs_sub ..⟩
theorem bwdOps5_fresh : Fresh (F := F) bwdOps5 := forall_fresh_of_map rfl
abbrev bwdOps5_W : List (Ref sig .tc) := [main_while1b_call14_c, main_while1b_call14_c_0, main_while1b_call14_c_1, main_while1b_call14_c_2, main_while1b_call14_v0, main_while1b_v83]
theorem bwdOps5_writes : Writes (F := F) bwdOps5 bwdOps5_W := forall_writes_sub_of_map rfl

/-- Stretch 6 of one backward trip. -/
abbrev bwdOps6 : List (HloOp τ sig (Elt F)) :=
  ( TRef.nullary (.of main_while1b_call15_c : TI) (constantI S_ 32 0#32)
  :: TRef.nullary (.of main_while1b_call15_c_0 : TI) (constantI S_ 32 0#32)
  :: TRef.nullary (.of main_while1b_call15_c_1 : TI) (constantI S_ 32 0#32)
  :: TRef.nullary (.of main_while1b_call15_c_2 : TI) (constantI S_ 32 0#32)
  :: TRef.unaryIndexed (.of main_v48_5 : TF S32x4x6x64x64) ![(.of main_while1b_v78 : TI), (.of main_while1b_call15_c : TI), (.of main_while1b_call15_c_0 : TI), (.of main_while1b_call15_c_1 : TI), (.of main_while1b_call15_c_2 : TI)] (.of main_while1b_call15_v0 : TF S1x4x6x64x64) (fun x i => Host.dynamicSlice S1x4x6x64x64 x (fun k => (i k (Shape.Idx.first h_S_)).toInt) sliceFits_S32x4x6x64x64_S1x4x6x64x64)
  :: TRef.reshape (.of main_while1b_call15_v0 : TF S1x4x6x64x64) (.of main_while1b_v84 : TF S4x6x64x64) ff shapeCasts_S1x4x6x64x64_S4x6x64x64
  :: [] )
theorem bwdOps6_sub : Subs (F := F) bwdOps6 :=
  ⟨nullary_bufs_sub .., nullary_bufs_sub .., nullary_bufs_sub .., nullary_bufs_sub .., unaryIndexed_bufs_sub .., reshape_bufs_sub ..⟩
theorem bwdOps6_fresh : Fresh (F := F) bwdOps6 := forall_fresh_of_map rfl
abbrev bwdOps6_W : List (Ref sig .tc) := [main_while1b_call15_c, main_while1b_call15_c_0, main_while1b_call15_c_1, main_while1b_call15_c_2, main_while1b_call15_v0, main_while1b_v84]
theorem bwdOps6_writes : Writes (F := F) bwdOps6 bwdOps6_W := forall_writes_sub_of_map rfl

/-- Stretch 7 of one backward trip. -/
abbrev bwdOps7 : List (HloOp τ sig (Elt F)) :=
  ( TRef.nullary (.of main_while1b_call16_c : TI) (constantI S_ 32 0#32)
  :: TRef.nullary (.of main_while1b_call16_c_0 : TI) (constantI S_ 32 0#32)
  :: TRef.nullary (.of main_while1b_call16_c_1 : TI) (constantI S_ 32 0#32)
  :: TRef.nullary (.of main_while1b_call16_c_2 : TI) (constantI S_ 32 0#32)
  :: TRef.unaryIndexed (.of main_v48_6 : TF S32x4x6x1x128) ![(.of main_while1b_v78 : TI), (.of main_while1b_call16_c : TI), (.of main_while1b_call16_c_0 : TI), (.of main_while1b_call16_c_1 : TI), (.of main_while1b_call16_c_2 : TI)] (.of main_while1b_call16_v0 : TF S1x4x6x1x128) (fun x i => Host.dynamicSlice S1x4x6x1x128 x (fun k => (i k (Shape.Idx.first h_S_)).toInt) sliceFits_S32x4x6x1x128_S1x4x6x1x128)
  :: TRef.reshape (.of main_while1b_call16_v0 : TF S1x4x6x1x128) (.of main_while1b_v85 : TF S4x6x1x128) ff shapeCasts_S1x4x6x1x128_S4x6x1x128
  :: [] )
theorem bwdOps7_sub : Subs (F := F) bwdOps7 :=
  ⟨nullary_bufs_sub .., nullary_bufs_sub .., nullary_bufs_sub .., nullary_bufs_sub .., unaryIndexed_bufs_sub .., reshape_bufs_sub ..⟩
theorem bwdOps7_fresh : Fresh (F := F) bwdOps7 := forall_fresh_of_map rfl
abbrev bwdOps7_W : List (Ref sig .tc) := [main_while1b_call16_c, main_while1b_call16_c_0, main_while1b_call16_c_1, main_while1b_call16_c_2, main_while1b_call16_v0, main_while1b_v85]
theorem bwdOps7_writes : Writes (F := F) bwdOps7 bwdOps7_W := forall_writes_sub_of_map rfl

/-- Stretch 8 of one backward trip. -/
abbrev bwdOps8 : List (HloOp τ sig (Elt F)) :=
  ( TRef.nullary (.of main_while1b_call17_c : TI) (constantI S_ 32 0#32)
  :: TRef.nullary (.of main_while1b_call17_c_0 : TI) (constantI S_ 32 0#32)
  :: TRef.nullary (.of main_while1b_call17_c_1 : TI) (constantI S_ 32 0#32)
  :: TRef.nullary (.of main_while1b_call17_c_2 : TI) (constantI S_ 32 0#32)
  :: TRef.unaryIndexed (.of main_v48_7 : TF S32x4x6x64x128) ![(.of main_while1b_v78 : TI), (.of main_while1b_call17_c : TI), (.of main_while1b_call17_c_0 : TI), (.of main_while1b_call17_c_1 : TI), (.of main_while1b_call17_c_2 : TI)] (.of main_while1b_call17_v0 : TF S1x4x6x64x128) (fun x i => Host.dynamicSlice S1x4x6x64x128 x (fun k => (i k (Shape.Idx.first h_S_)).toInt) sliceFits_S32x4x6x64x128_S1x4x6x64x128)
  :: TRef.reshape (.of main_while1b_call17_v0 : TF S1x4x6x64x128) (.of main_while1b_v86 : TF S4x6x64x128) ff shapeCasts_S1x4x6x64x128_S4x6x64x128
  :: [] )
theorem bwdOps8_sub : Subs (F := F) bwdOps8 :=
  ⟨nullary_bufs_sub .., nullary_bufs_sub .., nullary_bufs_sub .., nullary_bufs_sub .., unaryIndexed_bufs_sub .., reshape_bufs_sub ..⟩
theorem bwdOps8_fresh : Fresh (F := F) bwdOps8 := forall_fresh_of_map rfl
abbrev bwdOps8_W : List (Ref sig .tc) := [main_while1b_call17_c, main_while1b_call17_c_0, main_while1b_call17_c_1, main_while1b_call17_c_2, main_while1b_call17_v0, main_while1b_v86]
theorem bwdOps8_writes : Writes (F := F) bwdOps8 bwdOps8_W := forall_writes_sub_of_map rfl

/-- Stretch 9 of one backward trip. -/
abbrev bwdOps9 : List (HloOp τ sig (Elt F)) :=
  ( binary main_v48_9 main_while1b_v86 main_while1b_v87 ((fun l r => Host.dotGeneral dot_S4x6x128x128_S4x6x64x128_S4x6x128x64_2_3_3_2_01_01 none l r) : C F S4x6x128x128 → C F S4x6x64x128 → C F S4x6x128x64)
  :: unary main_while1b_v87 main_while1b_v88 ((transpose S4x6x64x128 [0, 1, 3, 2] · transposes_S4x6x128x64_S4x6x64x128_0_1_3_2) : C F S4x6x128x64 → C F S4x6x64x128)
  :: binary main_v48_9 main_while1b_v83 main_while1b_v89 ((fun l r => Host.dotGeneral dot_S4x6x128x128_S4x6x64x128_S4x6x128x64_3_3_2_2_01_01 none l r) : C F S4x6x128x128 → C F S4x6x64x128 → C F S4x6x128x64)
  :: unary main_while1b_v89 main_while1b_v90 ((transpose S4x6x64x128 [0, 1, 3, 2] · transposes_S4x6x128x64_S4x6x64x128_0_1_3_2) : C F S4x6x128x64 → C F S4x6x64x128)
  :: binary main_while1b_v80 main_v48_9 main_while1b_v91 (mulf : C F S4x6x128x128 → C F S4x6x128x128 → C F S4x6x128x128)
  :: nullary main_while1b_cst_31 (constant S_ .f32 0x00000000#32)
  :: binary main_while1b_v91 main_while1b_cst_31 main_while1b_v92 ((fun x v => Host.reduceAdd x v reducesTo_S4x6x128x128_S4x6x128_d2 h_S_) : C F S4x6x128x128 → C F S_ → C F S4x6x128)
  :: reshape main_while1b_v92 main_while1b_v93 ff shapeCasts_S4x6x128_S4x6x1x128
  :: unary main_while1b_v85 main_while1b_v94 (broadcastInDim S4x6x128x128 ![0, 1, 2, 3] bcast_S4x6x1x128_S4x6x128x128_0_1_2_3 : C F S4x6x1x128 → C F S4x6x128x128)
  :: binary main_v48_9 main_while1b_v94 main_while1b_v95 (mulf : C F S4x6x128x128 → C F S4x6x128x128 → C F S4x6x128x128)
  :: nullary main_while1b_cst_32 (constant S_ .f32 0x00000000#32)
  :: binary main_while1b_v93 main_while1b_cst_32 main_while1b_v96 ((fun x v => Host.reduceAdd x v reducesTo_S4x6x1x128_S4x6x128_d2 h_S_) : C F S4x6x1x128 → C F S_ → C F S4x6x128)
  :: binary main_while1b_v79 main_while1b_v84 main_while1b_v97 ((fun l r => Host.dotGeneral dot_S4x6x64x128_S4x6x64x64_S4x6x128x64_2_2_3_3_01_01 none l r) : C F S4x6x64x128 → C F S4x6x64x64 → C F S4x6x128x64)
  :: unary main_while1b_v97 main_while1b_v98 ((transpose S4x6x64x128 [0, 1, 3, 2] · transposes_S4x6x128x64_S4x6x64x128_0_1_3_2) : C F S4x6x128x64 → C F S4x6x64x128)
  :: binary main_while1b_v88 main_while1b_v98 main_while1b_v99 (addf : C F S4x6x64x128 → C F S4x6x64x128 → C F S4x6x64x128)
  :: binary main_while1b_v79 main_while1b_v83 main_while1b_v100 ((fun l r => Host.dotGeneral dot_S4x6x64x128_S4x6x64x128_S4x6x64x64_3_3_2_2_01_01 none l r) : C F S4x6x64x128 → C F S4x6x64x128 → C F S4x6x64x64)
  :: binary main_while1b_v79 main_while1b_v82 main_while1b_v101 ((fun l r => Host.dotGeneral dot_S4x6x64x128_S4x6x64x128_S4x6x128x128_2_2_3_3_01_01 none l r) : C F S4x6x64x128 → C F S4x6x64x128 → C F S4x6x128x128)
  :: unary main_while1b_v101 main_while1b_v102 ((transpose S4x6x128x128 [0, 1, 3, 2] · transposes_S4x6x128x128_S4x6x128x128_0_1_3_2) : C F S4x6x128x128 → C F S4x6x128x128)
  :: binary main_while1b_v95 main_while1b_v102 main_while1b_v103 (addf : C F S4x6x128x128 → C F S4x6x128x128 → C F S4x6x128x128)
  :: binary main_while1b_v79 main_while1b_v80 main_while1b_v104 ((fun l r => Host.dotGeneral dot_S4x6x64x128_S4x6x128x128_S4x6x64x128_3_3_2_2_01_01 none l r) : C F S4x6x64x128 → C F S4x6x128x128 → C F S4x6x64x128)
  :: unary main_while1b_v99 main_while1b_v105 (Host.negf : C F S4x6x64x128 → C F S4x6x64x128)
  :: binary main_while1b_v105 main_while1b_v81 main_while1b_v106 ((fun l r => Host.dotGeneral dot_S4x6x64x128_S4x6x64x128_S4x6x128x128_2_2_3_3_01_01 none l r) : C F S4x6x64x128 → C F S4x6x64x128 → C F S4x6x128x128)
  :: unary main_while1b_v106 main_while1b_v107 ((transpose S4x6x128x128 [0, 1, 3, 2] · transposes_S4x6x128x128_S4x6x128x128_0_1_3_2) : C F S4x6x128x128 → C F S4x6x128x128)
  :: binary main_while1b_v103 main_while1b_v107 main_while1b_v108 (addf : C F S4x6x128x128 → C F S4x6x128x128 → C F S4x6x128x128)
  :: binary main_while1b_v105 main_while1b_v80 main_while1b_v109 ((fun l r => Host.dotGeneral dot_S4x6x64x128_S4x6x128x128_S4x6x64x128_3_3_2_2_01_01 none l r) : C F S4x6x64x128 → C F S4x6x128x128 → C F S4x6x64x128)
  :: [] )
theorem bwdOps9_sub : Subs (F := F) bwdOps9 :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩
theorem bwdOps9_fresh : Fresh (F := F) bwdOps9 := forall_fresh_of_map rfl
abbrev bwdOps9_W : List (Ref sig .tc) := [main_while1b_v87, main_while1b_v88, main_while1b_v89, main_while1b_v90, main_while1b_v91, main_while1b_cst_31, main_while1b_v92, main_while1b_v93, main_while1b_v94, main_while1b_v95, main_while1b_cst_32, main_while1b_v96, main_while1b_v97, main_while1b_v98, main_while1b_v99, main_while1b_v100, main_while1b_v101, main_while1b_v102, main_while1b_v103, main_while1b_v104, main_while1b_v105, main_while1b_v106, main_while1b_v107, main_while1b_v108, main_while1b_v109]
theorem bwdOps9_writes : Writes (F := F) bwdOps9 bwdOps9_W := forall_writes_sub_of_map rfl

/-- Stretch 10 of one backward trip. -/
abbrev bwdOps10 : List (HloOp τ sig (Elt F)) :=
  ( TRef.unary (.of main_while1b_v99 : TF S4x6x64x128) (.of main_while1b_call18_v0 : TF S1x4x6x64x128) (broadcastInDim S1x4x6x64x128 ![1, 2, 3, 4] bcast_S4x6x64x128_S1x4x6x64x128_1_2_3_4)
  :: TRef.nullary (.of main_while1b_call18_c : TI) (constantI S_ 32 0#32)
  :: TRef.nullary (.of main_while1b_call18_c_0 : TI) (constantI S_ 32 0#32)
  :: TRef.nullary (.of main_while1b_call18_c_1 : TI) (constantI S_ 32 0#32)
  :: TRef.nullary (.of main_while1b_call18_c_2 : TI) (constantI S_ 32 0#32)
  :: TRef.binaryIndexed (.of main_v48_10 : TF S32x4x6x64x128) (.of main_while1b_call18_v0 : TF S1x4x6x64x128) ![(.of main_while1b_v78 : TI), (.of main_while1b_call18_c : TI), (.of main_while1b_call18_c_0 : TI), (.of main_while1b_call18_c_1 : TI), (.of main_while1b_call18_c_2 : TI)] (.of main_while1b_v110 : TF S32x4x6x64x128) (fun x u i => Host.dynamicUpdateSlice x u (fun k => (i k (Shape.Idx.first h_S_)).toInt) updateFits_S32x4x6x64x128_S1x4x6x64x128)
  :: [] )
theorem bwdOps10_sub : Subs (F := F) bwdOps10 :=
  ⟨unary_bufs_sub .., nullary_bufs_sub .., nullary_bufs_sub .., nullary_bufs_sub .., nullary_bufs_sub .., binaryIndexed_bufs_sub ..⟩
theorem bwdOps10_fresh : Fresh (F := F) bwdOps10 := forall_fresh_of_map rfl
abbrev bwdOps10_W : List (Ref sig .tc) := [main_while1b_call18_v0, main_while1b_call18_c, main_while1b_call18_c_0, main_while1b_call18_c_1, main_while1b_call18_c_2, main_while1b_v110]
theorem bwdOps10_writes : Writes (F := F) bwdOps10 bwdOps10_W := forall_writes_sub_of_map rfl

/-- Stretch 11 of one backward trip. -/
abbrev bwdOps11 : List (HloOp τ sig (Elt F)) :=
  ( TRef.unary (.of main_while1b_v109 : TF S4x6x64x128) (.of main_while1b_call19_v0 : TF S1x4x6x64x128) (broadcastInDim S1x4x6x64x128 ![1, 2, 3, 4] bcast_S4x6x64x128_S1x4x6x64x128_1_2_3_4)
  :: TRef.nullary (.of main_while1b_call19_c : TI) (constantI S_ 32 0#32)
  :: TRef.nullary (.of main_while1b_call19_c_0 : TI) (constantI S_ 32 0#32)
  :: TRef.nullary (.of main_while1b_call19_c_1 : TI) (constantI S_ 32 0#32)
  :: TRef.nullary (.of main_while1b_call19_c_2 : TI) (constantI S_ 32 0#32)
  :: TRef.binaryIndexed (.of main_v48_11 : TF S32x4x6x64x128) (.of main_while1b_call19_v0 : TF S1x4x6x64x128) ![(.of main_while1b_v78 : TI), (.of main_while1b_call19_c : TI), (.of main_while1b_call19_c_0 : TI), (.of main_while1b_call19_c_1 : TI), (.of main_while1b_call19_c_2 : TI)] (.of main_while1b_v111 : TF S32x4x6x64x128) (fun x u i => Host.dynamicUpdateSlice x u (fun k => (i k (Shape.Idx.first h_S_)).toInt) updateFits_S32x4x6x64x128_S1x4x6x64x128)
  :: [] )
theorem bwdOps11_sub : Subs (F := F) bwdOps11 :=
  ⟨unary_bufs_sub .., nullary_bufs_sub .., nullary_bufs_sub .., nullary_bufs_sub .., nullary_bufs_sub .., binaryIndexed_bufs_sub ..⟩
theorem bwdOps11_fresh : Fresh (F := F) bwdOps11 := forall_fresh_of_map rfl
abbrev bwdOps11_W : List (Ref sig .tc) := [main_while1b_call19_v0, main_while1b_call19_c, main_while1b_call19_c_0, main_while1b_call19_c_1, main_while1b_call19_c_2, main_while1b_v111]
theorem bwdOps11_writes : Writes (F := F) bwdOps11 bwdOps11_W := forall_writes_sub_of_map rfl

/-- Stretch 12 of one backward trip. -/
abbrev bwdOps12 : List (HloOp τ sig (Elt F)) :=
  ( TRef.unary (.of main_while1b_v104 : TF S4x6x64x128) (.of main_while1b_call20_v0 : TF S1x4x6x64x128) (broadcastInDim S1x4x6x64x128 ![1, 2, 3, 4] bcast_S4x6x64x128_S1x4x6x64x128_1_2_3_4)
  :: TRef.nullary (.of main_while1b_call20_c : TI) (constantI S_ 32 0#32)
  :: TRef.nullary (.of main_while1b_call20_c_0 : TI) (constantI S_ 32 0#32)
  :: TRef.nullary (.of main_while1b_call20_c_1 : TI) (constantI S_ 32 0#32)
  :: TRef.nullary (.of main_while1b_call20_c_2 : TI) (constantI S_ 32 0#32)
  :: TRef.binaryIndexed (.of main_v48_12 : TF S32x4x6x64x128) (.of main_while1b_call20_v0 : TF S1x4x6x64x128) ![(.of main_while1b_v78 : TI), (.of main_while1b_call20_c : TI), (.of main_while1b_call20_c_0 : TI), (.of main_while1b_call20_c_1 : TI), (.of main_while1b_call20_c_2 : TI)] (.of main_while1b_v112 : TF S32x4x6x64x128) (fun x u i => Host.dynamicUpdateSlice x u (fun k => (i k (Shape.Idx.first h_S_)).toInt) updateFits_S32x4x6x64x128_S1x4x6x64x128)
  :: [] )
theorem bwdOps12_sub : Subs (F := F) bwdOps12 :=
  ⟨unary_bufs_sub .., nullary_bufs_sub .., nullary_bufs_sub .., nullary_bufs_sub .., nullary_bufs_sub .., binaryIndexed_bufs_sub ..⟩
theorem bwdOps12_fresh : Fresh (F := F) bwdOps12 := forall_fresh_of_map rfl
abbrev bwdOps12_W : List (Ref sig .tc) := [main_while1b_call20_v0, main_while1b_call20_c, main_while1b_call20_c_0, main_while1b_call20_c_1, main_while1b_call20_c_2, main_while1b_v112]
theorem bwdOps12_writes : Writes (F := F) bwdOps12 bwdOps12_W := forall_writes_sub_of_map rfl

/-- Stretch 13 of one backward trip. -/
abbrev bwdOps13 : List (HloOp τ sig (Elt F)) :=
  ( TRef.unary (.of main_while1b_v90 : TF S4x6x64x128) (.of main_while1b_call21_v0 : TF S1x4x6x64x128) (broadcastInDim S1x4x6x64x128 ![1, 2, 3, 4] bcast_S4x6x64x128_S1x4x6x64x128_1_2_3_4)
  :: TRef.nullary (.of main_while1b_call21_c : TI) (constantI S_ 32 0#32)
  :: TRef.nullary (.of main_while1b_call21_c_0 : TI) (constantI S_ 32 0#32)
  :: TRef.nullary (.of main_while1b_call21_c_1 : TI) (constantI S_ 32 0#32)
  :: TRef.nullary (.of main_while1b_call21_c_2 : TI) (constantI S_ 32 0#32)
  :: TRef.binaryIndexed (.of main_v48_13 : TF S32x4x6x64x128) (.of main_while1b_call21_v0 : TF S1x4x6x64x128) ![(.of main_while1b_v78 : TI), (.of main_while1b_call21_c : TI), (.of main_while1b_call21_c_0 : TI), (.of main_while1b_call21_c_1 : TI), (.of main_while1b_call21_c_2 : TI)] (.of main_while1b_v113 : TF S32x4x6x64x128) (fun x u i => Host.dynamicUpdateSlice x u (fun k => (i k (Shape.Idx.first h_S_)).toInt) updateFits_S32x4x6x64x128_S1x4x6x64x128)
  :: [] )
theorem bwdOps13_sub : Subs (F := F) bwdOps13 :=
  ⟨unary_bufs_sub .., nullary_bufs_sub .., nullary_bufs_sub .., nullary_bufs_sub .., nullary_bufs_sub .., binaryIndexed_bufs_sub ..⟩
theorem bwdOps13_fresh : Fresh (F := F) bwdOps13 := forall_fresh_of_map rfl
abbrev bwdOps13_W : List (Ref sig .tc) := [main_while1b_call21_v0, main_while1b_call21_c, main_while1b_call21_c_0, main_while1b_call21_c_1, main_while1b_call21_c_2, main_while1b_v113]
theorem bwdOps13_writes : Writes (F := F) bwdOps13 bwdOps13_W := forall_writes_sub_of_map rfl

/-- Stretch 14 of one backward trip. -/
abbrev bwdOps14 : List (HloOp τ sig (Elt F)) :=
  ( TRef.unary (.of main_while1b_v100 : TF S4x6x64x64) (.of main_while1b_call22_v0 : TF S1x4x6x64x64) (broadcastInDim S1x4x6x64x64 ![1, 2, 3, 4] bcast_S4x6x64x64_S1x4x6x64x64_1_2_3_4)
  :: TRef.nullary (.of main_while1b_call22_c : TI) (constantI S_ 32 0#32)
  :: TRef.nullary (.of main_while1b_call22_c_0 : TI) (constantI S_ 32 0#32)
  :: TRef.nullary (.of main_while1b_call22_c_1 : TI) (constantI S_ 32 0#32)
  :: TRef.nullary (.of main_while1b_call22_c_2 : TI) (constantI S_ 32 0#32)
  :: TRef.binaryIndexed (.of main_v48_14 : TF S32x4x6x64x64) (.of main_while1b_call22_v0 : TF S1x4x6x64x64) ![(.of main_while1b_v78 : TI), (.of main_while1b_call22_c : TI), (.of main_while1b_call22_c_0 : TI), (.of main_while1b_call22_c_1 : TI), (.of main_while1b_call22_c_2 : TI)] (.of main_while1b_v114 : TF S32x4x6x64x64) (fun x u i => Host.dynamicUpdateSlice x u (fun k => (i k (Shape.Idx.first h_S_)).toInt) updateFits_S32x4x6x64x64_S1x4x6x64x64)
  :: [] )
theorem bwdOps14_sub : Subs (F := F) bwdOps14 :=
  ⟨unary_bufs_sub .., nullary_bufs_sub .., nullary_bufs_sub .., nullary_bufs_sub .., nullary_bufs_sub .., binaryIndexed_bufs_sub ..⟩
theorem bwdOps14_fresh : Fresh (F := F) bwdOps14 := forall_fresh_of_map rfl
abbrev bwdOps14_W : List (Ref sig .tc) := [main_while1b_call22_v0, main_while1b_call22_c, main_while1b_call22_c_0, main_while1b_call22_c_1, main_while1b_call22_c_2, main_while1b_v114]
theorem bwdOps14_writes : Writes (F := F) bwdOps14 bwdOps14_W := forall_writes_sub_of_map rfl

/-- Stretch 15 of one backward trip. -/
abbrev bwdOps15 : List (HloOp τ sig (Elt F)) :=
  ( TRef.unary (.of main_while1b_v96 : TF S4x6x128) (.of main_while1b_call23_v0 : TF S1x4x6x128) (broadcastInDim S1x4x6x128 ![1, 2, 3] bcast_S4x6x128_S1x4x6x128_1_2_3)
  :: TRef.nullary (.of main_while1b_call23_c : TI) (constantI S_ 32 0#32)
  :: TRef.nullary (.of main_while1b_call23_c_0 : TI) (constantI S_ 32 0#32)
  :: TRef.nullary (.of main_while1b_call23_c_1 : TI) (constantI S_ 32 0#32)
  :: TRef.binaryIndexed (.of main_v48_15 : TF S32x4x6x128) (.of main_while1b_call23_v0 : TF S1x4x6x128) ![(.of main_while1b_v78 : TI), (.of main_while1b_call23_c : TI), (.of main_while1b_call23_c_0 : TI), (.of main_while1b_call23_c_1 : TI)] (.of main_while1b_v115 : TF S32x4x6x128) (fun x u i => Host.dynamicUpdateSlice x u (fun k => (i k (Shape.Idx.first h_S_)).toInt) updateFits_S32x4x6x128_S1x4x6x128)
  :: [] )
theorem bwdOps15_sub : Subs (F := F) bwdOps15 :=
  ⟨unary_bufs_sub .., nullary_bufs_sub .., nullary_bufs_sub .., nullary_bufs_sub .., binaryIndexed_bufs_sub ..⟩
theorem bwdOps15_fresh : Fresh (F := F) bwdOps15 := forall_fresh_of_map rfl
abbrev bwdOps15_W : List (Ref sig .tc) := [main_while1b_call23_v0, main_while1b_call23_c, main_while1b_call23_c_0, main_while1b_call23_c_1, main_while1b_v115]
theorem bwdOps15_writes : Writes (F := F) bwdOps15 bwdOps15_W := forall_writes_sub_of_map rfl

/-- Stretch 16 of one backward trip. -/
abbrev bwdOps16 : List (HloOp τ sig (Elt F)) :=
  ( nullary main_while1b_c_33 (constantI S_ 32 1#32)
  :: binary main_v48_8 main_while1b_c_33 main_while1b_v116 (addi : CI F → CI F → CI F)
  :: unary main_while1b_v116 main_v48_8 id
  :: unary main_while1b_v108 main_v48_9 id
  :: unary main_while1b_v110 main_v48_10 id
  :: unary main_while1b_v111 main_v48_11 id
  :: unary main_while1b_v112 main_v48_12 id
  :: unary main_while1b_v113 main_v48_13 id
  :: unary main_while1b_v114 main_v48_14 id
  :: unary main_while1b_v115 main_v48_15 id
  :: [] )
theorem bwdOps16_sub : Subs (F := F) bwdOps16 :=
  ⟨nullary_bufs_sub .., binary_bufs_sub .., unary_bufs_sub .., unary_bufs_sub .., unary_bufs_sub .., unary_bufs_sub .., unary_bufs_sub .., unary_bufs_sub .., unary_bufs_sub .., unary_bufs_sub ..⟩
theorem bwdOps16_fresh : Fresh (F := F) bwdOps16 := forall_fresh_of_map rfl
abbrev bwdOps16_W : List (Ref sig .tc) := [main_while1b_c_33, main_while1b_v116, main_v48_8, main_v48_9, main_v48_10, main_v48_11, main_v48_12, main_v48_13, main_v48_14, main_v48_15]
theorem bwdOps16_writes : Writes (F := F) bwdOps16 bwdOps16_W := forall_writes_sub_of_map rfl

/-- The forward loop's test. -/
abbrev fwdCond : List (HloOp τ sig (Elt F)) :=
  ( nullary main_while0c_c_25 (constantI S_ 32 32#32)
  :: binary main_v33_6 main_while0c_c_25 main_while0c_v77 (cmpi .slt : CI F → CI F → (⟨S_, .i1⟩ : BufTy).Contents (Elt F))
  :: [] )
theorem fwdCond_sub : Subs (F := F) fwdCond :=
  ⟨nullary_bufs_sub .., binary_bufs_sub ..⟩
theorem fwdCond_fresh : Fresh (F := F) fwdCond := forall_fresh_of_map rfl
abbrev fwdCond_W : List (Ref sig .tc) := [main_while0c_c_25, main_while0c_v77]
theorem fwdCond_writes : Writes (F := F) fwdCond fwdCond_W := forall_writes_sub_of_map rfl

/-- The backward loop's test. -/
abbrev bwdCond : List (HloOp τ sig (Elt F)) :=
  ( nullary main_while1c_c_29 (constantI S_ 32 32#32)
  :: binary main_v48_8 main_while1c_c_29 main_while1c_v77 (cmpi .slt : CI F → CI F → (⟨S_, .i1⟩ : BufTy).Contents (Elt F))
  :: [] )
theorem bwdCond_sub : Subs (F := F) bwdCond :=
  ⟨nullary_bufs_sub .., binary_bufs_sub ..⟩
theorem bwdCond_fresh : Fresh (F := F) bwdCond := forall_fresh_of_map rfl
abbrev bwdCond_W : List (Ref sig .tc) := [main_while1c_c_29, main_while1c_v77]
theorem bwdCond_writes : Writes (F := F) bwdCond bwdCond_W := forall_writes_sub_of_map rfl

end Cert.ReferenceIdeal.Own
-- ==== Proof.RefChain.lean ====
module

public import proofs.«01_k».proof.Proof.RefOps

/-! The reference's text is the chain of its stretches and loops. -/

@[expose] public section

noncomputable section

namespace Cert.ReferenceIdeal.Own

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

theorem main_chain (c : Dev nD) : main (F := F) c = (Pipeline.chain
  [ StableHlo.seq preOps, HostLoop.enter 0, StableHlo.seq midOps, HostLoop.enter 1, StableHlo.seq postOps ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

theorem fwd_chain : main_while0_body (F := F) = (Pipeline.chain
  [ StableHlo.seq fwdOps0,
    StableHlo.seq fwdOps1,
    StableHlo.seq fwdOps2,
    StableHlo.seq fwdOps3,
    StableHlo.seq fwdOps4,
    StableHlo.seq fwdOps5,
    StableHlo.seq fwdOps6,
    StableHlo.seq fwdOps7,
    StableHlo.seq fwdOps8,
    StableHlo.seq fwdOps9,
    StableHlo.seq fwdOps10,
    StableHlo.seq fwdOps11 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

theorem bwd_chain : main_while1_body (F := F) = (Pipeline.chain
  [ StableHlo.seq bwdOps0,
    StableHlo.seq bwdOps1,
    StableHlo.seq bwdOps2,
    StableHlo.seq bwdOps3,
    StableHlo.seq bwdOps4,
    StableHlo.seq bwdOps5,
    StableHlo.seq bwdOps6,
    StableHlo.seq bwdOps7,
    StableHlo.seq bwdOps8,
    StableHlo.seq bwdOps9,
    StableHlo.seq bwdOps10,
    StableHlo.seq bwdOps11,
    StableHlo.seq bwdOps12,
    StableHlo.seq bwdOps13,
    StableHlo.seq bwdOps14,
    StableHlo.seq bwdOps15,
    StableHlo.seq bwdOps16 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

end Cert.ReferenceIdeal.Own
-- ==== Proof.RefRun.lean ====
module

public import proofs.«01_k».proof.Proof.RefChain

/-! The reference runs: before the forward loop, the forward loop's 32 trips, between the loops, the backward loop's 32
trips, after them. `finish m c` is what every buffer holds at the end. -/

@[expose] public section

noncomputable section

namespace Cert.ReferenceIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs sub_ucRefs)

variable {F : FTy → Type} [FloatOps F]

abbrev fwdBody : List (List (HloOp τ sig (Elt F))) := [fwdOps0, fwdOps1, fwdOps2, fwdOps3, fwdOps4, fwdOps5, fwdOps6, fwdOps7, fwdOps8, fwdOps9, fwdOps10, fwdOps11]
abbrev bwdBody : List (List (HloOp τ sig (Elt F))) := [bwdOps0, bwdOps1, bwdOps2, bwdOps3, bwdOps4, bwdOps5, bwdOps6, bwdOps7, bwdOps8, bwdOps9, bwdOps10, bwdOps11, bwdOps12, bwdOps13, bwdOps14, bwdOps15, bwdOps16]

theorem pre_plain : Plain [preOps (F := F)] := .cons preOps_sub (hf := List.forall_iff_forall_mem.mp preOps_fresh) (Plain.nil)
theorem mid_plain : Plain [midOps (F := F)] := .cons midOps_sub (hf := List.forall_iff_forall_mem.mp midOps_fresh) (Plain.nil)
theorem post_plain : Plain [postOps (F := F)] := .cons postOps_sub (hf := List.forall_iff_forall_mem.mp postOps_fresh) (Plain.nil)
theorem fwd_plain : Plain (fwdBody (F := F)) := .cons fwdOps0_sub (hf := List.forall_iff_forall_mem.mp fwdOps0_fresh) (.cons fwdOps1_sub (hf := List.forall_iff_forall_mem.mp fwdOps1_fresh) (.cons fwdOps2_sub (hf := List.forall_iff_forall_mem.mp fwdOps2_fresh) (.cons fwdOps3_sub (hf := List.forall_iff_forall_mem.mp fwdOps3_fresh) (.cons fwdOps4_sub (hf := List.forall_iff_forall_mem.mp fwdOps4_fresh) (.cons fwdOps5_sub (hf := List.forall_iff_forall_mem.mp fwdOps5_fresh) (.cons fwdOps6_sub (hf := List.forall_iff_forall_mem.mp fwdOps6_fresh) (.cons fwdOps7_sub (hf := List.forall_iff_forall_mem.mp fwdOps7_fresh) (.cons fwdOps8_sub (hf := List.forall_iff_forall_mem.mp fwdOps8_fresh) (.cons fwdOps9_sub (hf := List.forall_iff_forall_mem.mp fwdOps9_fresh) (.cons fwdOps10_sub (hf := List.forall_iff_forall_mem.mp fwdOps10_fresh) (.cons fwdOps11_sub (hf := List.forall_iff_forall_mem.mp fwdOps11_fresh) (Plain.nil))))))))))))
theorem bwd_plain : Plain (bwdBody (F := F)) := .cons bwdOps0_sub (hf := List.forall_iff_forall_mem.mp bwdOps0_fresh) (.cons bwdOps1_sub (hf := List.forall_iff_forall_mem.mp bwdOps1_fresh) (.cons bwdOps2_sub (hf := List.forall_iff_forall_mem.mp bwdOps2_fresh) (.cons bwdOps3_sub (hf := List.forall_iff_forall_mem.mp bwdOps3_fresh) (.cons bwdOps4_sub (hf := List.forall_iff_forall_mem.mp bwdOps4_fresh) (.cons bwdOps5_sub (hf := List.forall_iff_forall_mem.mp bwdOps5_fresh) (.cons bwdOps6_sub (hf := List.forall_iff_forall_mem.mp bwdOps6_fresh) (.cons bwdOps7_sub (hf := List.forall_iff_forall_mem.mp bwdOps7_fresh) (.cons bwdOps8_sub (hf := List.forall_iff_forall_mem.mp bwdOps8_fresh) (.cons bwdOps9_sub (hf := List.forall_iff_forall_mem.mp bwdOps9_fresh) (.cons bwdOps10_sub (hf := List.forall_iff_forall_mem.mp bwdOps10_fresh) (.cons bwdOps11_sub (hf := List.forall_iff_forall_mem.mp bwdOps11_fresh) (.cons bwdOps12_sub (hf := List.forall_iff_forall_mem.mp bwdOps12_fresh) (.cons bwdOps13_sub (hf := List.forall_iff_forall_mem.mp bwdOps13_fresh) (.cons bwdOps14_sub (hf := List.forall_iff_forall_mem.mp bwdOps14_fresh) (.cons bwdOps15_sub (hf := List.forall_iff_forall_mem.mp bwdOps15_fresh) (.cons bwdOps16_sub (hf := List.forall_iff_forall_mem.mp bwdOps16_fresh) (Plain.nil)))))))))))))))))

variable (m : (ℓ : Loc nD τ sig) → Buf (Elt F) ℓ) (ρ : Dev nD → PrngReg)

/-- What the buffers hold as the forward loop is entered, and before its `k`-th test. -/
def fwdIn (c : Dev nD) : Valuation τ sig (Elt F) := after preOps (launchContents m c)
def fwdAt (k : ℕ) (c : Dev nD) : Valuation τ sig (Elt F) := atTrip fwdCond fwdBody (fwdIn m) k c
/-- What they hold as the backward loop is entered, and before its `k`-th test. -/
def bwdIn (c : Dev nD) : Valuation τ sig (Elt F) := after midOps (after fwdCond (fwdAt m 32 c))
def bwdAt (k : ℕ) (c : Dev nD) : Valuation τ sig (Elt F) := atTrip bwdCond bwdBody (bwdIn m) k c
/-- What they hold at the end. -/
def finish (c : Dev nD) : Valuation τ sig (Elt F) := after postOps (after bwdCond (bwdAt m 32 c))

theorem fwdIn_ctr (c : Dev nD) : fwdIn m c (Proc.devRef .tc main_v33_6) = fun _ => (0#32 : BitVec 32) := by
  unfold fwdIn
  after_reads_simp
  rfl

theorem bwdIn_ctr (c : Dev nD) : bwdIn m c (Proc.devRef .tc main_v48_8) = fun _ => (0#32 : BitVec 32) := by
  unfold bwdIn
  after_reads_simp
  rfl

theorem fwdOps0_ctr (V : Valuation τ sig (Elt F)) : after fwdOps0 V main_v33_6 = V main_v33_6 := kp fwdOps0_writes
theorem fwdOps1_ctr (V : Valuation τ sig (Elt F)) : after fwdOps1 V main_v33_6 = V main_v33_6 := kp fwdOps1_writes
theorem fwdOps2_ctr (V : Valuation τ sig (Elt F)) : after fwdOps2 V main_v33_6 = V main_v33_6 := kp fwdOps2_writes
theorem fwdOps3_ctr (V : Valuation τ sig (Elt F)) : after fwdOps3 V main_v33_6 = V main_v33_6 := kp fwdOps3_writes
theorem fwdOps4_ctr (V : Valuation τ sig (Elt F)) : after fwdOps4 V main_v33_6 = V main_v33_6 := kp fwdOps4_writes
theorem fwdOps5_ctr (V : Valuation τ sig (Elt F)) : after fwdOps5 V main_v33_6 = V main_v33_6 := kp fwdOps5_writes
theorem fwdOps6_ctr (V : Valuation τ sig (Elt F)) : after fwdOps6 V main_v33_6 = V main_v33_6 := kp fwdOps6_writes
theorem fwdOps7_ctr (V : Valuation τ sig (Elt F)) : after fwdOps7 V main_v33_6 = V main_v33_6 := kp fwdOps7_writes
theorem fwdOps8_ctr (V : Valuation τ sig (Elt F)) : after fwdOps8 V main_v33_6 = V main_v33_6 := kp fwdOps8_writes
theorem fwdOps9_ctr (V : Valuation τ sig (Elt F)) : after fwdOps9 V main_v33_6 = V main_v33_6 := kp fwdOps9_writes
theorem fwdOps10_ctr (V : Valuation τ sig (Elt F)) : after fwdOps10 V main_v33_6 = V main_v33_6 := kp fwdOps10_writes
theorem fwdCond_ctr (V : Valuation τ sig (Elt F)) : after fwdCond V main_v33_6 = V main_v33_6 := kp fwdCond_writes
set_option maxRecDepth 100000 in
theorem fwdOps11_ctr (V : Valuation τ sig (Elt F)) :
    after fwdOps11 V (Proc.devRef .tc main_v33_6) = addi (V (Proc.devRef .tc main_v33_6)) (constantI S_ 32 1#32) := by
  after_results
  rfl

/-- Before its `k`-th test the fwd loop's counter is `k`. -/
theorem fwd_ctr (c : Dev nD) : ∀ k, fwdAt m k c (Proc.devRef .tc main_v33_6) = fun _ => Scf.iv 0#32 1#32 k
  | 0 => by rw [show fwdAt m 0 c = fwdIn m c from rfl, fwdIn_ctr, Scf.iv_zero]
  | k + 1 => by
    rw [show fwdAt m (k + 1) c = afterL fwdBody (after fwdCond (fwdAt m k c)) from rfl]
    simp only [afterL_cons, afterL_nil]
    rw [fwdOps11_ctr, fwdOps10_ctr, fwdOps9_ctr, fwdOps8_ctr, fwdOps7_ctr, fwdOps6_ctr, fwdOps5_ctr, fwdOps4_ctr, fwdOps3_ctr, fwdOps2_ctr, fwdOps1_ctr, fwdOps0_ctr, fwdCond_ctr, fwd_ctr c k, Scf.iv_succ]
    rfl

theorem bwdOps0_ctr (V : Valuation τ sig (Elt F)) : after bwdOps0 V main_v48_8 = V main_v48_8 := kp bwdOps0_writes
theorem bwdOps1_ctr (V : Valuation τ sig (Elt F)) : after bwdOps1 V main_v48_8 = V main_v48_8 := kp bwdOps1_writes
theorem bwdOps2_ctr (V : Valuation τ sig (Elt F)) : after bwdOps2 V main_v48_8 = V main_v48_8 := kp bwdOps2_writes
theorem bwdOps3_ctr (V : Valuation τ sig (Elt F)) : after bwdOps3 V main_v48_8 = V main_v48_8 := kp bwdOps3_writes
theorem bwdOps4_ctr (V : Valuation τ sig (Elt F)) : after bwdOps4 V main_v48_8 = V main_v48_8 := kp bwdOps4_writes
theorem bwdOps5_ctr (V : Valuation τ sig (Elt F)) : after bwdOps5 V main_v48_8 = V main_v48_8 := kp bwdOps5_writes
theorem bwdOps6_ctr (V : Valuation τ sig (Elt F)) : after bwdOps6 V main_v48_8 = V main_v48_8 := kp bwdOps6_writes
theorem bwdOps7_ctr (V : Valuation τ sig (Elt F)) : after bwdOps7 V main_v48_8 = V main_v48_8 := kp bwdOps7_writes
theorem bwdOps8_ctr (V : Valuation τ sig (Elt F)) : after bwdOps8 V main_v48_8 = V main_v48_8 := kp bwdOps8_writes
theorem bwdOps9_ctr (V : Valuation τ sig (Elt F)) : after bwdOps9 V main_v48_8 = V main_v48_8 := kp bwdOps9_writes
theorem bwdOps10_ctr (V : Valuation τ sig (Elt F)) : after bwdOps10 V main_v48_8 = V main_v48_8 := kp bwdOps10_writes
theorem bwdOps11_ctr (V : Valuation τ sig (Elt F)) : after bwdOps11 V main_v48_8 = V main_v48_8 := kp bwdOps11_writes
theorem bwdOps12_ctr (V : Valuation τ sig (Elt F)) : after bwdOps12 V main_v48_8 = V main_v48_8 := kp bwdOps12_writes
theorem bwdOps13_ctr (V : Valuation τ sig (Elt F)) : after bwdOps13 V main_v48_8 = V main_v48_8 := kp bwdOps13_writes
theorem bwdOps14_ctr (V : Valuation τ sig (Elt F)) : after bwdOps14 V main_v48_8 = V main_v48_8 := kp bwdOps14_writes
theorem bwdOps15_ctr (V : Valuation τ sig (Elt F)) : after bwdOps15 V main_v48_8 = V main_v48_8 := kp bwdOps15_writes
theorem bwdCond_ctr (V : Valuation τ sig (Elt F)) : after bwdCond V main_v48_8 = V main_v48_8 := kp bwdCond_writes
set_option maxRecDepth 100000 in
theorem bwdOps16_ctr (V : Valuation τ sig (Elt F)) :
    after bwdOps16 V (Proc.devRef .tc main_v48_8) = addi (V (Proc.devRef .tc main_v48_8)) (constantI S_ 32 1#32) := by
  after_results
  rfl

/-- Before its `k`-th test the bwd loop's counter is `k`. -/
theorem bwd_ctr (c : Dev nD) : ∀ k, bwdAt m k c (Proc.devRef .tc main_v48_8) = fun _ => Scf.iv 0#32 1#32 k
  | 0 => by rw [show bwdAt m 0 c = bwdIn m c from rfl, bwdIn_ctr, Scf.iv_zero]
  | k + 1 => by
    rw [show bwdAt m (k + 1) c = afterL bwdBody (after bwdCond (bwdAt m k c)) from rfl]
    simp only [afterL_cons, afterL_nil]
    rw [bwdOps16_ctr, bwdOps15_ctr, bwdOps14_ctr, bwdOps13_ctr, bwdOps12_ctr, bwdOps11_ctr, bwdOps10_ctr, bwdOps9_ctr, bwdOps8_ctr, bwdOps7_ctr, bwdOps6_ctr, bwdOps5_ctr, bwdOps4_ctr, bwdOps3_ctr, bwdOps2_ctr, bwdOps1_ctr, bwdOps0_ctr, bwdCond_ctr, bwd_ctr c k, Scf.iv_succ]
    rfl

set_option backward.isDefEq.respectTransparency.types false in
/-- The fwd loop's test: run for the `k`-th time it says whether `k` is below 32. -/
theorem fwd_cond : CondSpec (pcfgs (F := F)) defs₀ loops (main_while0_cond (F := F)) fwdCond fwdBody (fwdIn m) 32 := by
  intro k hk c bd
  have hctr := fwd_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (fwdAt m k c) main_v33_6 HostLoop.idx0)
        (HloOp.result _ (fwdAt m k c) main_while0c_c_25 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

set_option backward.isDefEq.respectTransparency.types false in
/-- The bwd loop's test: run for the `k`-th time it says whether `k` is below 32. -/
theorem bwd_cond : CondSpec (pcfgs (F := F)) defs₀ loops (main_while1_cond (F := F)) bwdCond bwdBody (bwdIn m) 32 := by
  intro k hk c bd
  have hctr := bwd_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (bwdAt m k c) main_v48_8 HostLoop.idx0)
        (HloOp.result _ (bwdAt m k c) main_while1c_c_29 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

/-! The pieces of the run: nothing is admitted, no ticket is held, and only what a core owes rides beside the buffers. -/

local notation "𝕄" => MT nD τ sig Unit (Elt F) ℕ (Option PUnit) ℕ

abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noLev : GSem nD τ sig → Finset Unit := fun _ => ∅
abbrev zLev : GSem nD τ sig → Unit → ℕ := fun _ _ => 0
abbrev owed (c : Dev nD) : sProp 𝕄 := iprop(∃ W, owes (c : Thread nD τ) (0 : CellTallies nD τ sig Unit) W)

/-- A loop's test keeps what rides beside the buffers. -/
theorem ride {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (h : CondSpec (pcfgs (F := F)) defs₀ loops cond condOps bodyI W₀ n) :
    LoopCond (pcfgs (F := F)) defs₀ Variants.none loops owed cond condOps bodyI W₀ n := by
  intro k hk c bd
  have out : ∀ v : Elt F .i1,
      iprop(iprop(⌜v = 1#1 ↔ k < n⌝ ∗ boundary (c : Thread nD τ) ∗ held (c : Thread nD τ) (ucRefs τ sig) (after condOps (atTrip condOps bodyI W₀ k c))) ∗ owed c)
        ⊢ iprop(⌜v = 1#1 ↔ k < n⌝ ∗ boundary (c : Thread nD τ) ∗ held (c : Thread nD τ) (ucRefs τ sig) (after condOps (atTrip condOps bodyI W₀ k c)) ∗ owed c) := by
    intro v
    iintro ⟨⟨%hv, Hb, Hh⟩, HO⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ out))
  iintro ⟨Hb, Hh, HO⟩
  isplitl [Hb Hh]; · isplitl [Hb] <;> iassumption
  iexact HO

/-- The program's items as segments. -/
def items : List (CSeg (pcfgs (F := F)) noAdm defs₀ Variants.none noLev zLev loops noTk) :=
  segsOf _ _ _ _ _ _ _ _ owed [preOps] pre_plain (launchContents m)
    ++ loopSeg _ _ _ _ _ _ _ _ 0 main_while0_cond main_while0_body rfl fwdCond fwdBody fwd_plain (by rw [fwd_chain]; rfl) 32 (fwdIn m) owed (ride (fwd_cond m))
      :: (segsOf _ _ _ _ _ _ _ _ owed [midOps] mid_plain (fun c => after fwdCond (fwdAt m 32 c))
        ++ loopSeg _ _ _ _ _ _ _ _ 1 main_while1_cond main_while1_body rfl bwdCond bwdBody bwd_plain (by rw [bwd_chain]; rfl) 32 (bwdIn m) owed (ride (bwd_cond m))
          :: segsOf _ _ _ _ _ _ _ _ owed [postOps] post_plain (fun c => after bwdCond (bwdAt m 32 c)))

theorem items_prog : (items m).map CSeg.prog
    = [StableHlo.seq (preOps (F := F)), HostLoop.enter 0, StableHlo.seq midOps, HostLoop.enter 1, StableHlo.seq postOps] := by
  unfold items
  rw [List.map_append, List.map_cons, List.map_append, List.map_cons, segsOf_prog, segsOf_prog, segsOf_prog]
  rfl

theorem items_chain :
    CSeg.Chains (fun c => iprop(held (c : Thread nD τ) (ucRefs τ sig) (launchContents m c) ∗ owed c)) (items m)
      (fun c => iprop(iprop(held (c : Thread nD τ) (ucRefs τ sig) (finish m c)) ∗ ∃ W, owes (c : Thread nD τ) (0 : CellTallies nD τ sig Unit) W)) := by
  unfold items
  exact CSeg.Chains.append (segsOf_chains _ _ _ _ _ _ _ _ owed [preOps] pre_plain _)
    ⟨fun _ => .rfl, CSeg.Chains.append (segsOf_chains _ _ _ _ _ _ _ _ owed [midOps] mid_plain _)
      ⟨fun _ => .rfl, segsOf_chains _ _ _ _ _ _ _ _ owed [postOps] post_plain _⟩⟩

set_option maxRecDepth 100000 in
/-- Every weakly fair run of the reference ends with every buffer of the program at `finish`. -/
theorem runs : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finish m c (Proc.devRef .tc b)) :=
  Pipeline.θ_run_regions_loop_kit (Ix := Unit) (Name := ℕ) (U := Option PUnit) (Lvl := ℕ) (J := Fin 0) (P := Fin 0) (Val := Elt F)
    (pcfgs (F := F)) noAdm (fun k => k.1.elim0) defs₀ Variants.none noLev zLev loops noTk m ρ main (items m)
    (fun c Q => by
      rw [main_chain c]
      show wp _ _ _ (Pipeline.chain ((items m).map CSeg.prog)) Q ⊢ _
      rw [items_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owed c))
    (Tₙ := fun c => iprop(held (c : Thread nD τ) (ucRefs τ sig) (finish m c)))
    (hch := items_chain m)
    (hinit := by
      refine Pipeline.initEach noLev zLev fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = finish m c b)
    (hfin := fun c s' => by
      unfold held
      iintro ⟨Hh, HSI⟩
      ihave Hr := (pointsTo_read_all (ucRefs τ sig) (fun b => ((c : Dev nD), b)) (fun b => finish m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Own
-- ==== Proof.RefSetup.lean ====
/- What the two loops are entered with and what is made of their results: the arguments cut into chunks, and the chunks put back
   together. -/
module

public import proofs.«01_k».proof.Proof.RefRun

@[expose] public section

set_option maxRecDepth 100000

noncomputable section

namespace Cert.ReferenceIdeal.Own

open Idealize.ShloMosaic Idealize.ShloMosaic.TcCoe Idealize.ShloMosaic.Tactic
open Idealize.SL.Sem Idealize.ShloMosaic.StableHlo

variable {F : FTy → Type} [FloatOps F]

/-- The rows by chunk, sequence and head. -/
def toC (x : C F S8192x768) : C F S32x4x6x64x128 :=
  transpose S32x4x6x64x128 [0, 1, 3, 2, 4] (transpose S32x4x64x6x128 [1, 0, 2, 3, 4] (shapeCast S4x32x64x6x128 (shapeCast S4x2048x6x128 x
    shapeCasts_S8192x768_S4x2048x6x128) shapeCasts_S4x2048x6x128_S4x32x64x6x128) transposes_S4x32x64x6x128_S32x4x64x6x128_1_0_2_3_4)
    transposes_S32x4x64x6x128_S32x4x6x64x128_0_1_3_2_4
/-- The chunks' matrices by chunk, sequence and head. -/
def toA (x : C F S6x8192x64) : C F S32x4x6x64x64 :=
  transpose S32x4x6x64x64 [0, 1, 3, 2, 4] (transpose S32x4x64x6x64 [1, 0, 2, 3, 4] (shapeCast S4x32x64x6x64 (shapeCast S4x2048x6x64
    (transpose S8192x6x64 [1, 0, 2] x transposes_S6x8192x64_S8192x6x64_1_0_2) shapeCasts_S8192x6x64_S4x2048x6x64)
    shapeCasts_S4x2048x6x64_S4x32x64x6x64) transposes_S4x32x64x6x64_S32x4x64x6x64_1_0_2_3_4) transposes_S32x4x64x6x64_S32x4x6x64x64_0_1_3_2_4
/-- The decay of each chunk. -/
def decay (x : C F S8192x768) : C F S32x4x6x128 :=
  Host.exp (shapeCast S32x4x6x128 (extractStridedSlice S32x4x6x1x128 ![0, 0, 0, 63, 0] (toC x) slices_S32x4x6x64x128_S32x4x6x1x128_0_0_0_63_0)
    shapeCasts_S32x4x6x1x128_S32x4x6x128)
/-- The cotangent's rows by chunk, sequence and head. -/
def toO (x : C F S8192x768) : C F S32x4x6x64x128 :=
  transpose S32x4x6x64x128 [1, 0, 2, 3, 4] (transpose S4x32x6x64x128 [0, 1, 3, 2, 4] (shapeCast S4x32x64x6x128 x
    shapeCasts_S8192x768_S4x32x64x6x128) transposes_S4x32x64x6x128_S4x32x6x64x128_0_1_3_2_4) transposes_S4x32x6x64x128_S32x4x6x64x128_1_0_2_3_4
/-- The chunks as rows. -/
def ofC (x : C F S32x4x6x64x128) : C F S8192x768 :=
  shapeCast S8192x768 (shapeCast S4x2048x6x128 (transpose S4x32x64x6x128 [1, 0, 2, 3, 4] (transpose S32x4x64x6x128 [0, 1, 3, 2, 4] x
    transposes_S32x4x6x64x128_S32x4x64x6x128_0_1_3_2_4) transposes_S32x4x64x6x128_S4x32x64x6x128_1_0_2_3_4)
    shapeCasts_S4x32x64x6x128_S4x2048x6x128) shapeCasts_S4x2048x6x128_S8192x768
def ofA (x : C F S32x4x6x64x64) : C F S6x8192x64 :=
  transpose S6x8192x64 [1, 0, 2] (shapeCast S8192x6x64 (shapeCast S4x2048x6x64 (transpose S4x32x64x6x64 [1, 0, 2, 3, 4]
    (transpose S32x4x64x6x64 [0, 1, 3, 2, 4] x transposes_S32x4x6x64x64_S32x4x64x6x64_0_1_3_2_4)
    transposes_S32x4x64x6x64_S4x32x64x6x64_1_0_2_3_4) shapeCasts_S4x32x64x6x64_S4x2048x6x64) shapeCasts_S4x2048x6x64_S8192x6x64)
    transposes_S8192x6x64_S6x8192x64_1_0_2
def ofO (x : C F S32x4x6x64x128) : C F S8192x768 :=
  shapeCast S8192x768 (transpose S4x32x64x6x128 [0, 1, 3, 2, 4] (transpose S4x32x6x64x128 [1, 0, 2, 3, 4] x
    transposes_S32x4x6x64x128_S4x32x6x64x128_1_0_2_3_4) transposes_S4x32x6x64x128_S4x32x64x6x128_0_1_3_2_4) shapeCasts_S4x32x64x6x128_S8192x768
/-- The last rows' cotangents as rows: those of the decays times the decays, nothing in the other rows. -/
def ofG (y z : C F S32x4x6x128) : C F S8192x768 :=
  ofC (pad S32x4x6x64x128 ![0, 0, 0, 63, 0] ![0, 0, 0, 0, 0] ![0, 0, 0, 0, 0] (broadcastInDim S32x4x6x1x128 ![0, 1, 2, 4]
    bcast_S32x4x6x128_S32x4x6x1x128_0_1_2_4 (mulf y z)) (constant S_ .f32 0x00000000#32) pads_S32x4x6x1x128_S32x4x6x64x128_000_000_000_6300_000 h_S_)
/-- No state. -/
def zeroS : C F S4x6x128x128 := broadcastInDim S4x6x128x128 ![] bcast_S_S4x6x128x128 (constant S_ .f32 0x00000000#32)

/-- The buffers a trip of either loop writes. -/
abbrev fwdWs : List (List (Ref sig .tc)) := [fwdCond_W, fwdOps0_W, fwdOps1_W, fwdOps2_W, fwdOps3_W, fwdOps4_W, fwdOps5_W, fwdOps6_W, fwdOps7_W, fwdOps8_W, fwdOps9_W, fwdOps10_W, fwdOps11_W]
abbrev bwdWs : List (List (Ref sig .tc)) := [bwdCond_W, bwdOps0_W, bwdOps1_W, bwdOps2_W, bwdOps3_W, bwdOps4_W, bwdOps5_W, bwdOps6_W, bwdOps7_W, bwdOps8_W, bwdOps9_W, bwdOps10_W, bwdOps11_W, bwdOps12_W, bwdOps13_W, bwdOps14_W, bwdOps15_W, bwdOps16_W]

section
variable (V : Valuation τ sig (Elt F)) (r : Ref sig .tc)

theorem fwdTrip_keep (h : ∀ W ∈ fwdWs, r ∉ W) : afterL fwdBody (after fwdCond V) (Proc.devRef .tc r) = V (Proc.devRef .tc r) :=
  (kp fwdOps11_writes (h _ (by simp))).trans <|
  (kp fwdOps10_writes (h _ (by simp))).trans <|
  (kp fwdOps9_writes (h _ (by simp))).trans <|
  (kp fwdOps8_writes (h _ (by simp))).trans <|
  (kp fwdOps7_writes (h _ (by simp))).trans <|
  (kp fwdOps6_writes (h _ (by simp))).trans <|
  (kp fwdOps5_writes (h _ (by simp))).trans <|
  (kp fwdOps4_writes (h _ (by simp))).trans <|
  (kp fwdOps3_writes (h _ (by simp))).trans <|
  (kp fwdOps2_writes (h _ (by simp))).trans <|
  (kp fwdOps1_writes (h _ (by simp))).trans <|
  (kp fwdOps0_writes (h _ (by simp))).trans <|
  kp fwdCond_writes (h _ (by simp))

theorem bwdTrip_keep (h : ∀ W ∈ bwdWs, r ∉ W) : afterL bwdBody (after bwdCond V) (Proc.devRef .tc r) = V (Proc.devRef .tc r) :=
  (kp bwdOps16_writes (h _ (by simp))).trans <|
  (kp bwdOps15_writes (h _ (by simp))).trans <|
  (kp bwdOps14_writes (h _ (by simp))).trans <|
  (kp bwdOps13_writes (h _ (by simp))).trans <|
  (kp bwdOps12_writes (h _ (by simp))).trans <|
  (kp bwdOps11_writes (h _ (by simp))).trans <|
  (kp bwdOps10_writes (h _ (by simp))).trans <|
  (kp bwdOps9_writes (h _ (by simp))).trans <|
  (kp bwdOps8_writes (h _ (by simp))).trans <|
  (kp bwdOps7_writes (h _ (by simp))).trans <|
  (kp bwdOps6_writes (h _ (by simp))).trans <|
  (kp bwdOps5_writes (h _ (by simp))).trans <|
  (kp bwdOps4_writes (h _ (by simp))).trans <|
  (kp bwdOps3_writes (h _ (by simp))).trans <|
  (kp bwdOps2_writes (h _ (by simp))).trans <|
  (kp bwdOps1_writes (h _ (by simp))).trans <|
  (kp bwdOps0_writes (h _ (by simp))).trans <|
  kp bwdCond_writes (h _ (by simp))
end

variable (m : (ℓ : Loc nD τ sig) → Buf (Elt F) ℓ) (c : Dev nD)

theorem fwd_keep (r : Ref sig .tc) (h : ∀ W ∈ fwdWs, r ∉ W) : ∀ k, fwdAt m k c (Proc.devRef .tc r) = fwdIn m c (Proc.devRef .tc r)
  | 0 => rfl
  | k + 1 => (fwdTrip_keep (fwdAt m k c) r h).trans (fwd_keep r h k)
theorem bwd_keep (r : Ref sig .tc) (h : ∀ W ∈ bwdWs, r ∉ W) : ∀ k, bwdAt m k c (Proc.devRef .tc r) = bwdIn m c (Proc.devRef .tc r)
  | 0 => rfl
  | k + 1 => (bwdTrip_keep (bwdAt m k c) r h).trans (bwd_keep r h k)

/-- A buffer only the head of the program writes, as the backward loop is entered, -/
theorem bwdIn_keep (r : Ref sig .tc) (hm : r ∉ midOps_W) (hc : r ∉ fwdCond_W) (h : ∀ W ∈ fwdWs, r ∉ W) :
    bwdIn m c (Proc.devRef .tc r) = fwdIn m c (Proc.devRef .tc r) :=
  (kp midOps_writes hm).trans ((kp fwdCond_writes hc).trans (fwd_keep m c r h 32))
/-- and one the tail does not write, at the end. -/
theorem finish_keep (r : Ref sig .tc) (hm : r ∉ postOps_W) (hc : r ∉ bwdCond_W) (h : ∀ W ∈ bwdWs, r ∉ W) :
    finish m c (Proc.devRef .tc r) = bwdIn m c (Proc.devRef .tc r) :=
  (kp postOps_writes hm).trans ((kp bwdCond_writes hc).trans (bwd_keep m c r h 32))

/-- The arguments end as they were. -/
theorem fwdIn_arg (r : Ref sig .tc) (h : r ∉ preOps_W) : fwdIn m c (Proc.devRef .tc r) = m ((c.tc : Thread nD τ).loc r) :=
  kp preOps_writes h
theorem finish_arg (r : Ref sig .tc) (h : ∀ W ∈ [preOps_W, midOps_W, postOps_W] ++ fwdWs ++ bwdWs, r ∉ W) :
    finish m c (Proc.devRef .tc r) = m ((c.tc : Thread nD τ).loc r) :=
  (finish_keep m c r (h _ (by simp)) (h _ (by simp)) fun W hW => h W (List.mem_append_right _ hW)).trans
    ((bwdIn_keep m c r (h _ (by simp)) (h _ (by simp)) fun W hW => h W (List.mem_append_left _ (List.mem_append_right _ hW))).trans
      (fwdIn_arg m c r (h _ (by simp))))

theorem fwdIn_0 : fwdIn m c (Proc.devRef .tc main_v33_0) = toC (m ((c.tc : Thread nD τ).loc main_arg0)) := by
  unfold fwdIn
  after_reads_simp
  try rfl
theorem fwdIn_1 : fwdIn m c (Proc.devRef .tc main_v33_1) = toC (m ((c.tc : Thread nD τ).loc main_arg1)) := by
  unfold fwdIn
  after_reads_simp
  try rfl
theorem fwdIn_2 : fwdIn m c (Proc.devRef .tc main_v33_2) = toC (m ((c.tc : Thread nD τ).loc main_arg2)) := by
  unfold fwdIn
  after_reads_simp
  try rfl
theorem fwdIn_3 : fwdIn m c (Proc.devRef .tc main_v33_3) = toC (m ((c.tc : Thread nD τ).loc main_arg3)) := by
  unfold fwdIn
  after_reads_simp
  try rfl
theorem fwdIn_4 : fwdIn m c (Proc.devRef .tc main_v33_4) = toA (m ((c.tc : Thread nD τ).loc main_arg4)) := by
  unfold fwdIn
  after_reads_simp
  try rfl
theorem fwdIn_5 : fwdIn m c (Proc.devRef .tc main_v33_5) = decay (m ((c.tc : Thread nD τ).loc main_arg5)) := by
  unfold fwdIn
  after_reads_simp
  try rfl
theorem fwdIn_7 : fwdIn m c (Proc.devRef .tc main_v33_7) = zeroS := by
  unfold fwdIn
  after_reads_simp
  try rfl
theorem fwdIn_v7 : fwdIn m c (Proc.devRef .tc main_v7) = toC (m ((c.tc : Thread nD τ).loc main_arg1)) := by
  unfold fwdIn
  after_reads_simp
  try rfl
theorem fwdIn_v11 : fwdIn m c (Proc.devRef .tc main_v11) = toC (m ((c.tc : Thread nD τ).loc main_arg2)) := by
  unfold fwdIn
  after_reads_simp
  try rfl
theorem fwdIn_v15 : fwdIn m c (Proc.devRef .tc main_v15) = toC (m ((c.tc : Thread nD τ).loc main_arg3)) := by
  unfold fwdIn
  after_reads_simp
  try rfl
theorem fwdIn_v24 : fwdIn m c (Proc.devRef .tc main_v24) = toA (m ((c.tc : Thread nD τ).loc main_arg4)) := by
  unfold fwdIn
  after_reads_simp
  try rfl
theorem fwdIn_v27 : fwdIn m c (Proc.devRef .tc main_v27) = decay (m ((c.tc : Thread nD τ).loc main_arg5)) := by
  unfold fwdIn
  after_reads_simp
  try rfl

theorem bwdIn_0 : bwdIn m c (Proc.devRef .tc main_v48_0) = toO (m ((c.tc : Thread nD τ).loc main_arg6)) := by
  have e : after fwdCond (fwdAt m 32 c) (Proc.devRef .tc main_arg6) = (m ((c.tc : Thread nD τ).loc main_arg6)) :=
    (kp fwdCond_writes (by decide +kernel)).trans ((fwd_keep m c _ (by decide +kernel) 32).trans (fwdIn_arg m c _ (by decide +kernel)))
  unfold bwdIn
  generalize after fwdCond (fwdAt m 32 c) = X at e ⊢
  after_reads_simp
  simp only [e]
  try rfl
theorem bwdIn_1 : bwdIn m c (Proc.devRef .tc main_v48_1) = fwdAt m 32 c (Proc.devRef .tc main_v33_9) := by
  have e : after fwdCond (fwdAt m 32 c) (Proc.devRef .tc main_v33_9) = fwdAt m 32 c (Proc.devRef .tc main_v33_9) :=
    (kp fwdCond_writes (by decide +kernel)).trans (rfl)
  unfold bwdIn
  generalize after fwdCond (fwdAt m 32 c) = X at e ⊢
  after_reads_simp
  simp only [e]
  try rfl
theorem bwdIn_2 : bwdIn m c (Proc.devRef .tc main_v48_2) = toC (m ((c.tc : Thread nD τ).loc main_arg1)) := by
  have e : after fwdCond (fwdAt m 32 c) (Proc.devRef .tc main_v7) = toC (m ((c.tc : Thread nD τ).loc main_arg1)) :=
    (kp fwdCond_writes (by decide +kernel)).trans ((fwd_keep m c _ (by decide +kernel) 32).trans (fwdIn_v7 m c))
  unfold bwdIn
  generalize after fwdCond (fwdAt m 32 c) = X at e ⊢
  after_reads_simp
  simp only [e]
  try rfl
theorem bwdIn_3 : bwdIn m c (Proc.devRef .tc main_v48_3) = toC (m ((c.tc : Thread nD τ).loc main_arg2)) := by
  have e : after fwdCond (fwdAt m 32 c) (Proc.devRef .tc main_v11) = toC (m ((c.tc : Thread nD τ).loc main_arg2)) :=
    (kp fwdCond_writes (by decide +kernel)).trans ((fwd_keep m c _ (by decide +kernel) 32).trans (fwdIn_v11 m c))
  unfold bwdIn
  generalize after fwdCond (fwdAt m 32 c) = X at e ⊢
  after_reads_simp
  simp only [e]
  try rfl
theorem bwdIn_4 : bwdIn m c (Proc.devRef .tc main_v48_4) = fwdAt m 32 c (Proc.devRef .tc main_v33_10) := by
  have e : after fwdCond (fwdAt m 32 c) (Proc.devRef .tc main_v33_10) = fwdAt m 32 c (Proc.devRef .tc main_v33_10) :=
    (kp fwdCond_writes (by decide +kernel)).trans (rfl)
  unfold bwdIn
  generalize after fwdCond (fwdAt m 32 c) = X at e ⊢
  after_reads_simp
  simp only [e]
  try rfl
theorem bwdIn_5 : bwdIn m c (Proc.devRef .tc main_v48_5) = toA (m ((c.tc : Thread nD τ).loc main_arg4)) := by
  have e : after fwdCond (fwdAt m 32 c) (Proc.devRef .tc main_v24) = toA (m ((c.tc : Thread nD τ).loc main_arg4)) :=
    (kp fwdCond_writes (by decide +kernel)).trans ((fwd_keep m c _ (by decide +kernel) 32).trans (fwdIn_v24 m c))
  unfold bwdIn
  generalize after fwdCond (fwdAt m 32 c) = X at e ⊢
  after_reads_simp
  simp only [e]
  try rfl
theorem bwdIn_6 : bwdIn m c (Proc.devRef .tc main_v48_6) = fwdAt m 32 c (Proc.devRef .tc main_v33_11) := by
  have e : after fwdCond (fwdAt m 32 c) (Proc.devRef .tc main_v33_11) = fwdAt m 32 c (Proc.devRef .tc main_v33_11) :=
    (kp fwdCond_writes (by decide +kernel)).trans (rfl)
  unfold bwdIn
  generalize after fwdCond (fwdAt m 32 c) = X at e ⊢
  after_reads_simp
  simp only [e]
  try rfl
theorem bwdIn_7 : bwdIn m c (Proc.devRef .tc main_v48_7) = toC (m ((c.tc : Thread nD τ).loc main_arg3)) := by
  have e : after fwdCond (fwdAt m 32 c) (Proc.devRef .tc main_v15) = toC (m ((c.tc : Thread nD τ).loc main_arg3)) :=
    (kp fwdCond_writes (by decide +kernel)).trans ((fwd_keep m c _ (by decide +kernel) 32).trans (fwdIn_v15 m c))
  unfold bwdIn
  generalize after fwdCond (fwdAt m 32 c) = X at e ⊢
  after_reads_simp
  simp only [e]
  try rfl
theorem bwdIn_9 : bwdIn m c (Proc.devRef .tc main_v48_9) = zeroS := by
  unfold bwdIn
  after_reads_simp
  try rfl
theorem bwdIn_o : bwdIn m c (Proc.devRef .tc main_v36) = ofO (fwdAt m 32 c (Proc.devRef .tc main_v33_8)) := by
  have e : after fwdCond (fwdAt m 32 c) (Proc.devRef .tc main_v33_8) = fwdAt m 32 c (Proc.devRef .tc main_v33_8) :=
    (kp fwdCond_writes (by decide +kernel)).trans (rfl)
  unfold bwdIn
  generalize after fwdCond (fwdAt m 32 c) = X at e ⊢
  after_reads_simp
  simp only [e]
  try rfl

/-- The seven results. -/
theorem finish_o : finish m c (Proc.devRef .tc main_v36) = ofO (fwdAt m 32 c (Proc.devRef .tc main_v33_8)) :=
  (finish_keep m c _ (by decide +kernel) (by decide +kernel) (by decide +kernel)).trans (bwdIn_o m c)
theorem finish_u : finish m c (Proc.devRef .tc main_v76) = ofC (bwdAt m 32 c (Proc.devRef .tc main_v48_10)) := by
  have e : after bwdCond (bwdAt m 32 c) (Proc.devRef .tc main_v48_10) = bwdAt m 32 c (Proc.devRef .tc main_v48_10) :=
    kp bwdCond_writes (by decide +kernel)
  unfold finish
  generalize after bwdCond (bwdAt m 32 c) = X at e ⊢
  after_reads_simp
  simp only [e]
  try rfl
theorem finish_w : finish m c (Proc.devRef .tc main_v72) = ofC (bwdAt m 32 c (Proc.devRef .tc main_v48_11)) := by
  have e : after bwdCond (bwdAt m 32 c) (Proc.devRef .tc main_v48_11) = bwdAt m 32 c (Proc.devRef .tc main_v48_11) :=
    kp bwdCond_writes (by decide +kernel)
  unfold finish
  generalize after bwdCond (bwdAt m 32 c) = X at e ⊢
  after_reads_simp
  simp only [e]
  try rfl
theorem finish_q : finish m c (Proc.devRef .tc main_v68) = ofC (bwdAt m 32 c (Proc.devRef .tc main_v48_12)) := by
  have e : after bwdCond (bwdAt m 32 c) (Proc.devRef .tc main_v48_12) = bwdAt m 32 c (Proc.devRef .tc main_v48_12) :=
    kp bwdCond_writes (by decide +kernel)
  unfold finish
  generalize after bwdCond (bwdAt m 32 c) = X at e ⊢
  after_reads_simp
  simp only [e]
  try rfl
theorem finish_k : finish m c (Proc.devRef .tc main_v64) = ofC (bwdAt m 32 c (Proc.devRef .tc main_v48_13)) := by
  have e : after bwdCond (bwdAt m 32 c) (Proc.devRef .tc main_v48_13) = bwdAt m 32 c (Proc.devRef .tc main_v48_13) :=
    kp bwdCond_writes (by decide +kernel)
  unfold finish
  generalize after bwdCond (bwdAt m 32 c) = X at e ⊢
  after_reads_simp
  simp only [e]
  try rfl
theorem finish_a : finish m c (Proc.devRef .tc main_v56) = ofA (bwdAt m 32 c (Proc.devRef .tc main_v48_14)) := by
  have e : after bwdCond (bwdAt m 32 c) (Proc.devRef .tc main_v48_14) = bwdAt m 32 c (Proc.devRef .tc main_v48_14) :=
    kp bwdCond_writes (by decide +kernel)
  unfold finish
  generalize after bwdCond (bwdAt m 32 c) = X at e ⊢
  after_reads_simp
  simp only [e]
  try rfl
theorem finish_g : finish m c (Proc.devRef .tc main_v60) = ofG (bwdAt m 32 c (Proc.devRef .tc main_v48_15)) (decay (m ((c.tc : Thread nD τ).loc main_arg5))) := by
  have e : after bwdCond (bwdAt m 32 c) (Proc.devRef .tc main_v48_15) = bwdAt m 32 c (Proc.devRef .tc main_v48_15) :=
    kp bwdCond_writes (by decide +kernel)
  have e' : after bwdCond (bwdAt m 32 c) (Proc.devRef .tc main_v27) = decay (m ((c.tc : Thread nD τ).loc main_arg5)) :=
    (kp bwdCond_writes (by decide +kernel)).trans ((bwd_keep m c _ (by decide +kernel) 32).trans
      ((bwdIn_keep m c _ (by decide +kernel) (by decide +kernel) (by decide +kernel)).trans (fwdIn_v27 m c)))
  unfold finish
  generalize after bwdCond (bwdAt m 32 c) = X at e e' ⊢
  after_reads_simp
  simp only [e, e']
  try rfl

end Cert.ReferenceIdeal.Own

end
-- ==== Proof.RefRead.lean ====
module

public import proofs.«01_k».proof.Proof.RefRun

/-! What one trip of either loop leaves in the carried buffers, as a function of what it found there. -/

@[expose] public section

set_option maxRecDepth 100000

noncomputable section

namespace Cert.ReferenceIdeal.Own

open Idealize.ShloMosaic Idealize.ShloMosaic.TcCoe Idealize.ShloMosaic.Tactic
open Idealize.SL.Sem Idealize.ShloMosaic.StableHlo

variable {F : FTy → Type} [FloatOps F]
variable (V X : Valuation τ sig (Elt F))

def pick (x : C F S32x4x6x64x128) (i : CI F) : C F S4x6x64x128 :=
  shapeCast S4x6x64x128 (Host.dynamicSlice S1x4x6x64x128 x (fun k => ((![i, constantI S_ 32 0#32, constantI S_ 32 0#32, constantI S_ 32 0#32, constantI S_ 32 0#32] : Fin 5 → CI F) k (Shape.Idx.first h_S_)).toInt) sliceFits_S32x4x6x64x128_S1x4x6x64x128) shapeCasts_S1x4x6x64x128_S4x6x64x128

def pick_0 (x : C F S32x4x6x64x64) (i : CI F) : C F S4x6x64x64 :=
  shapeCast S4x6x64x64 (Host.dynamicSlice S1x4x6x64x64 x (fun k => ((![i, constantI S_ 32 0#32, constantI S_ 32 0#32, constantI S_ 32 0#32, constantI S_ 32 0#32] : Fin 5 → CI F) k (Shape.Idx.first h_S_)).toInt) sliceFits_S32x4x6x64x64_S1x4x6x64x64) shapeCasts_S1x4x6x64x64_S4x6x64x64

def pick_1 (x : C F S32x4x6x128) (i : CI F) : C F S4x6x128 :=
  shapeCast S4x6x128 (Host.dynamicSlice S1x4x6x128 x (fun k => ((![i, constantI S_ 32 0#32, constantI S_ 32 0#32, constantI S_ 32 0#32] : Fin 4 → CI F) k (Shape.Idx.first h_S_)).toInt) sliceFits_S32x4x6x128_S1x4x6x128) shapeCasts_S1x4x6x128_S4x6x128

def put (x : C F S32x4x6x64x128) (y : C F S4x6x64x128) (i : CI F) : C F S32x4x6x64x128 :=
  Host.dynamicUpdateSlice x (broadcastInDim S1x4x6x64x128 ![1, 2, 3, 4] bcast_S4x6x64x128_S1x4x6x64x128_1_2_3_4 y) (fun k => ((![i, constantI S_ 32 0#32, constantI S_ 32 0#32, constantI S_ 32 0#32, constantI S_ 32 0#32] : Fin 5 → CI F) k (Shape.Idx.first h_S_)).toInt) updateFits_S32x4x6x64x128_S1x4x6x64x128

def put_2 (x : C F S32x4x6x128x128) (y : C F S4x6x128x128) (i : CI F) : C F S32x4x6x128x128 :=
  Host.dynamicUpdateSlice x (broadcastInDim S1x4x6x128x128 ![1, 2, 3, 4] bcast_S4x6x128x128_S1x4x6x128x128_1_2_3_4 y) (fun k => ((![i, constantI S_ 32 0#32, constantI S_ 32 0#32, constantI S_ 32 0#32, constantI S_ 32 0#32] : Fin 5 → CI F) k (Shape.Idx.first h_S_)).toInt) updateFits_S32x4x6x128x128_S1x4x6x128x128

def put_3 (x : C F S32x4x6x1x128) (y : C F S4x6x1x128) (i : CI F) : C F S32x4x6x1x128 :=
  Host.dynamicUpdateSlice x (broadcastInDim S1x4x6x1x128 ![1, 2, 3, 4] bcast_S4x6x1x128_S1x4x6x1x128_1_2_3_4 y) (fun k => ((![i, constantI S_ 32 0#32, constantI S_ 32 0#32, constantI S_ 32 0#32, constantI S_ 32 0#32] : Fin 5 → CI F) k (Shape.Idx.first h_S_)).toInt) updateFits_S32x4x6x1x128_S1x4x6x1x128

def pick_4 (x : C F S32x4x6x128x128) (i : CI F) : C F S4x6x128x128 :=
  shapeCast S4x6x128x128 (Host.dynamicSlice S1x4x6x128x128 x (fun k => ((![i, constantI S_ 32 0#32, constantI S_ 32 0#32, constantI S_ 32 0#32, constantI S_ 32 0#32] : Fin 5 → CI F) k (Shape.Idx.first h_S_)).toInt) sliceFits_S32x4x6x128x128_S1x4x6x128x128) shapeCasts_S1x4x6x128x128_S4x6x128x128

def pick_5 (x : C F S32x4x6x1x128) (i : CI F) : C F S4x6x1x128 :=
  shapeCast S4x6x1x128 (Host.dynamicSlice S1x4x6x1x128 x (fun k => ((![i, constantI S_ 32 0#32, constantI S_ 32 0#32, constantI S_ 32 0#32, constantI S_ 32 0#32] : Fin 5 → CI F) k (Shape.Idx.first h_S_)).toInt) sliceFits_S32x4x6x1x128_S1x4x6x1x128) shapeCasts_S1x4x6x1x128_S4x6x1x128

def put_6 (x : C F S32x4x6x64x64) (y : C F S4x6x64x64) (i : CI F) : C F S32x4x6x64x64 :=
  Host.dynamicUpdateSlice x (broadcastInDim S1x4x6x64x64 ![1, 2, 3, 4] bcast_S4x6x64x64_S1x4x6x64x64_1_2_3_4 y) (fun k => ((![i, constantI S_ 32 0#32, constantI S_ 32 0#32, constantI S_ 32 0#32, constantI S_ 32 0#32] : Fin 5 → CI F) k (Shape.Idx.first h_S_)).toInt) updateFits_S32x4x6x64x64_S1x4x6x64x64

def put_7 (x : C F S32x4x6x128) (y : C F S4x6x128) (i : CI F) : C F S32x4x6x128 :=
  Host.dynamicUpdateSlice x (broadcastInDim S1x4x6x128 ![1, 2, 3] bcast_S4x6x128_S1x4x6x128_1_2_3 y) (fun k => ((![i, constantI S_ 32 0#32, constantI S_ 32 0#32, constantI S_ 32 0#32] : Fin 4 → CI F) k (Shape.Idx.first h_S_)).toInt) updateFits_S32x4x6x128_S1x4x6x128

def f77 : C F S4x6x64x128 := pick (V main_v33_0) (V main_v33_6)
def f78 : C F S4x6x64x128 := pick (V main_v33_1) (V main_v33_6)
def f79 : C F S4x6x64x128 := pick (V main_v33_2) (V main_v33_6)
def f80 : C F S4x6x64x128 := pick (V main_v33_3) (V main_v33_6)
def f81 : C F S4x6x64x64 := pick_0 (V main_v33_4) (V main_v33_6)
def f82 : C F S4x6x128 := pick_1 (V main_v33_5) (V main_v33_6)
def f83 : C F S4x6x64x128 := Host.dotGeneral dot_S4x6x64x128_S4x6x128x128_S4x6x64x128_3_2_2_3_01_01 none (f78 V) (V main_v33_7)
def f84 : C F S4x6x64x128 := subf (f77 V) (f83 V)
def f85 : C F S4x6x64x128 := Host.dotGeneral dot_S4x6x64x128_S4x6x128x128_S4x6x64x128_3_2_2_3_01_01 none (f79 V) (V main_v33_7)
def f86 : C F S4x6x64x128 := Host.dotGeneral dot_S4x6x64x64_S4x6x64x128_S4x6x64x128_3_2_2_3_01_01 none (f81 V) (f84 V)
def f87 : C F S4x6x64x128 := addf (f85 V) (f86 V)
def f88 : C F S4x6x1x128 := broadcastInDim S4x6x1x128 ![0, 1, 3] bcast_S4x6x128_S4x6x1x128_0_1_3 (f82 V)
def f89 : C F S4x6x128x128 := broadcastInDim S4x6x128x128 ![0, 1, 2, 3] bcast_S4x6x1x128_S4x6x128x128_0_1_2_3 (f88 V)
def f90 : C F S4x6x128x128 := mulf (V main_v33_7) (f89 V)
def f91 : C F S4x6x128x128 := Host.dotGeneral dot_S4x6x64x128_S4x6x64x128_S4x6x128x128_2_2_3_3_01_01 none (f80 V) (f84 V)
def f92 : C F S4x6x128x128 := addf (f90 V) (f91 V)
def f93 : C F S32x4x6x64x128 := put (V main_v33_8) (f87 V) (V main_v33_6)
def f94 : C F S32x4x6x128x128 := put_2 (V main_v33_9) (V main_v33_7) (V main_v33_6)
def f95 : C F S32x4x6x64x128 := put (V main_v33_10) (f84 V) (V main_v33_6)
def f96 : C F S32x4x6x1x128 := put_3 (V main_v33_11) (f88 V) (V main_v33_6)
def fc_25 (_ : Valuation τ sig (Elt F)) : CI F := constantI S_ 32 1#32
def f97 : CI F := addi (V main_v33_6) (fc_25 V)

def fw0 : Valuation τ sig (Elt F) := V
theorem fw0_c0 : fw0 V main_v33_0 = V main_v33_0 := rfl
theorem fw0_c1 : fw0 V main_v33_1 = V main_v33_1 := rfl
theorem fw0_c10 : fw0 V main_v33_10 = V main_v33_10 := rfl
theorem fw0_c11 : fw0 V main_v33_11 = V main_v33_11 := rfl
theorem fw0_c2 : fw0 V main_v33_2 = V main_v33_2 := rfl
theorem fw0_c3 : fw0 V main_v33_3 = V main_v33_3 := rfl
theorem fw0_c4 : fw0 V main_v33_4 = V main_v33_4 := rfl
theorem fw0_c5 : fw0 V main_v33_5 = V main_v33_5 := rfl
theorem fw0_c6 : fw0 V main_v33_6 = V main_v33_6 := rfl
theorem fw0_c7 : fw0 V main_v33_7 = V main_v33_7 := rfl
theorem fw0_c8 : fw0 V main_v33_8 = V main_v33_8 := rfl
theorem fw0_c9 : fw0 V main_v33_9 = V main_v33_9 := rfl
/-- The buffers after the trip's first stretch, and so on. -/
def fw1 : Valuation τ sig (Elt F) := after fwdOps0 (fw0 V)
theorem fw1_c0 : fw1 V main_v33_0 = V main_v33_0 := (kp fwdOps0_writes).trans (fw0_c0 V)
theorem fw1_c1 : fw1 V main_v33_1 = V main_v33_1 := (kp fwdOps0_writes).trans (fw0_c1 V)
theorem fw1_c10 : fw1 V main_v33_10 = V main_v33_10 := (kp fwdOps0_writes).trans (fw0_c10 V)
theorem fw1_c11 : fw1 V main_v33_11 = V main_v33_11 := (kp fwdOps0_writes).trans (fw0_c11 V)
theorem fw1_c2 : fw1 V main_v33_2 = V main_v33_2 := (kp fwdOps0_writes).trans (fw0_c2 V)
theorem fw1_c3 : fw1 V main_v33_3 = V main_v33_3 := (kp fwdOps0_writes).trans (fw0_c3 V)
theorem fw1_c4 : fw1 V main_v33_4 = V main_v33_4 := (kp fwdOps0_writes).trans (fw0_c4 V)
theorem fw1_c5 : fw1 V main_v33_5 = V main_v33_5 := (kp fwdOps0_writes).trans (fw0_c5 V)
theorem fw1_c6 : fw1 V main_v33_6 = V main_v33_6 := (kp fwdOps0_writes).trans (fw0_c6 V)
theorem fw1_c7 : fw1 V main_v33_7 = V main_v33_7 := (kp fwdOps0_writes).trans (fw0_c7 V)
theorem fw1_c8 : fw1 V main_v33_8 = V main_v33_8 := (kp fwdOps0_writes).trans (fw0_c8 V)
theorem fw1_c9 : fw1 V main_v33_9 = V main_v33_9 := (kp fwdOps0_writes).trans (fw0_c9 V)
theorem fwdOps0_res : after fwdOps0 X main_while0b_v77 = pick (X main_v33_0) (X main_v33_6) := by after_results_entrywise [cast_eq]
theorem fw1_77 : fw1 V main_while0b_v77 = f77 V := (fwdOps0_res (fw0 V)).trans (by rw [fw0_c0 V, fw0_c6 V]; rfl)
def fw2 : Valuation τ sig (Elt F) := after fwdOps1 (fw1 V)
theorem fw2_c0 : fw2 V main_v33_0 = V main_v33_0 := (kp fwdOps1_writes).trans (fw1_c0 V)
theorem fw2_c1 : fw2 V main_v33_1 = V main_v33_1 := (kp fwdOps1_writes).trans (fw1_c1 V)
theorem fw2_c10 : fw2 V main_v33_10 = V main_v33_10 := (kp fwdOps1_writes).trans (fw1_c10 V)
theorem fw2_c11 : fw2 V main_v33_11 = V main_v33_11 := (kp fwdOps1_writes).trans (fw1_c11 V)
theorem fw2_c2 : fw2 V main_v33_2 = V main_v33_2 := (kp fwdOps1_writes).trans (fw1_c2 V)
theorem fw2_c3 : fw2 V main_v33_3 = V main_v33_3 := (kp fwdOps1_writes).trans (fw1_c3 V)
theorem fw2_c4 : fw2 V main_v33_4 = V main_v33_4 := (kp fwdOps1_writes).trans (fw1_c4 V)
theorem fw2_c5 : fw2 V main_v33_5 = V main_v33_5 := (kp fwdOps1_writes).trans (fw1_c5 V)
theorem fw2_c6 : fw2 V main_v33_6 = V main_v33_6 := (kp fwdOps1_writes).trans (fw1_c6 V)
theorem fw2_c7 : fw2 V main_v33_7 = V main_v33_7 := (kp fwdOps1_writes).trans (fw1_c7 V)
theorem fw2_c8 : fw2 V main_v33_8 = V main_v33_8 := (kp fwdOps1_writes).trans (fw1_c8 V)
theorem fw2_c9 : fw2 V main_v33_9 = V main_v33_9 := (kp fwdOps1_writes).trans (fw1_c9 V)
theorem fw2_77 : fw2 V main_while0b_v77 = f77 V := (kp fwdOps1_writes).trans (fw1_77 V)
theorem fwdOps1_res : after fwdOps1 X main_while0b_v78 = pick (X main_v33_1) (X main_v33_6) := by after_results_entrywise [cast_eq]
theorem fw2_78 : fw2 V main_while0b_v78 = f78 V := (fwdOps1_res (fw1 V)).trans (by rw [fw1_c1 V, fw1_c6 V]; rfl)
def fw3 : Valuation τ sig (Elt F) := after fwdOps2 (fw2 V)
theorem fw3_c0 : fw3 V main_v33_0 = V main_v33_0 := (kp fwdOps2_writes).trans (fw2_c0 V)
theorem fw3_c1 : fw3 V main_v33_1 = V main_v33_1 := (kp fwdOps2_writes).trans (fw2_c1 V)
theorem fw3_c10 : fw3 V main_v33_10 = V main_v33_10 := (kp fwdOps2_writes).trans (fw2_c10 V)
theorem fw3_c11 : fw3 V main_v33_11 = V main_v33_11 := (kp fwdOps2_writes).trans (fw2_c11 V)
theorem fw3_c2 : fw3 V main_v33_2 = V main_v33_2 := (kp fwdOps2_writes).trans (fw2_c2 V)
theorem fw3_c3 : fw3 V main_v33_3 = V main_v33_3 := (kp fwdOps2_writes).trans (fw2_c3 V)
theorem fw3_c4 : fw3 V main_v33_4 = V main_v33_4 := (kp fwdOps2_writes).trans (fw2_c4 V)
theorem fw3_c5 : fw3 V main_v33_5 = V main_v33_5 := (kp fwdOps2_writes).trans (fw2_c5 V)
theorem fw3_c6 : fw3 V main_v33_6 = V main_v33_6 := (kp fwdOps2_writes).trans (fw2_c6 V)
theorem fw3_c7 : fw3 V main_v33_7 = V main_v33_7 := (kp fwdOps2_writes).trans (fw2_c7 V)
theorem fw3_c8 : fw3 V main_v33_8 = V main_v33_8 := (kp fwdOps2_writes).trans (fw2_c8 V)
theorem fw3_c9 : fw3 V main_v33_9 = V main_v33_9 := (kp fwdOps2_writes).trans (fw2_c9 V)
theorem fw3_77 : fw3 V main_while0b_v77 = f77 V := (kp fwdOps2_writes).trans (fw2_77 V)
theorem fw3_78 : fw3 V main_while0b_v78 = f78 V := (kp fwdOps2_writes).trans (fw2_78 V)
theorem fwdOps2_res : after fwdOps2 X main_while0b_v79 = pick (X main_v33_2) (X main_v33_6) := by after_results_entrywise [cast_eq]
theorem fw3_79 : fw3 V main_while0b_v79 = f79 V := (fwdOps2_res (fw2 V)).trans (by rw [fw2_c2 V, fw2_c6 V]; rfl)
def fw4 : Valuation τ sig (Elt F) := after fwdOps3 (fw3 V)
theorem fw4_c0 : fw4 V main_v33_0 = V main_v33_0 := (kp fwdOps3_writes).trans (fw3_c0 V)
theorem fw4_c1 : fw4 V main_v33_1 = V main_v33_1 := (kp fwdOps3_writes).trans (fw3_c1 V)
theorem fw4_c10 : fw4 V main_v33_10 = V main_v33_10 := (kp fwdOps3_writes).trans (fw3_c10 V)
theorem fw4_c11 : fw4 V main_v33_11 = V main_v33_11 := (kp fwdOps3_writes).trans (fw3_c11 V)
theorem fw4_c2 : fw4 V main_v33_2 = V main_v33_2 := (kp fwdOps3_writes).trans (fw3_c2 V)
theorem fw4_c3 : fw4 V main_v33_3 = V main_v33_3 := (kp fwdOps3_writes).trans (fw3_c3 V)
theorem fw4_c4 : fw4 V main_v33_4 = V main_v33_4 := (kp fwdOps3_writes).trans (fw3_c4 V)
theorem fw4_c5 : fw4 V main_v33_5 = V main_v33_5 := (kp fwdOps3_writes).trans (fw3_c5 V)
theorem fw4_c6 : fw4 V main_v33_6 = V main_v33_6 := (kp fwdOps3_writes).trans (fw3_c6 V)
theorem fw4_c7 : fw4 V main_v33_7 = V main_v33_7 := (kp fwdOps3_writes).trans (fw3_c7 V)
theorem fw4_c8 : fw4 V main_v33_8 = V main_v33_8 := (kp fwdOps3_writes).trans (fw3_c8 V)
theorem fw4_c9 : fw4 V main_v33_9 = V main_v33_9 := (kp fwdOps3_writes).trans (fw3_c9 V)
theorem fw4_77 : fw4 V main_while0b_v77 = f77 V := (kp fwdOps3_writes).trans (fw3_77 V)
theorem fw4_78 : fw4 V main_while0b_v78 = f78 V := (kp fwdOps3_writes).trans (fw3_78 V)
theorem fw4_79 : fw4 V main_while0b_v79 = f79 V := (kp fwdOps3_writes).trans (fw3_79 V)
theorem fwdOps3_res : after fwdOps3 X main_while0b_v80 = pick (X main_v33_3) (X main_v33_6) := by after_results_entrywise [cast_eq]
theorem fw4_80 : fw4 V main_while0b_v80 = f80 V := (fwdOps3_res (fw3 V)).trans (by rw [fw3_c3 V, fw3_c6 V]; rfl)
def fw5 : Valuation τ sig (Elt F) := after fwdOps4 (fw4 V)
theorem fw5_c0 : fw5 V main_v33_0 = V main_v33_0 := (kp fwdOps4_writes).trans (fw4_c0 V)
theorem fw5_c1 : fw5 V main_v33_1 = V main_v33_1 := (kp fwdOps4_writes).trans (fw4_c1 V)
theorem fw5_c10 : fw5 V main_v33_10 = V main_v33_10 := (kp fwdOps4_writes).trans (fw4_c10 V)
theorem fw5_c11 : fw5 V main_v33_11 = V main_v33_11 := (kp fwdOps4_writes).trans (fw4_c11 V)
theorem fw5_c2 : fw5 V main_v33_2 = V main_v33_2 := (kp fwdOps4_writes).trans (fw4_c2 V)
theorem fw5_c3 : fw5 V main_v33_3 = V main_v33_3 := (kp fwdOps4_writes).trans (fw4_c3 V)
theorem fw5_c4 : fw5 V main_v33_4 = V main_v33_4 := (kp fwdOps4_writes).trans (fw4_c4 V)
theorem fw5_c5 : fw5 V main_v33_5 = V main_v33_5 := (kp fwdOps4_writes).trans (fw4_c5 V)
theorem fw5_c6 : fw5 V main_v33_6 = V main_v33_6 := (kp fwdOps4_writes).trans (fw4_c6 V)
theorem fw5_c7 : fw5 V main_v33_7 = V main_v33_7 := (kp fwdOps4_writes).trans (fw4_c7 V)
theorem fw5_c8 : fw5 V main_v33_8 = V main_v33_8 := (kp fwdOps4_writes).trans (fw4_c8 V)
theorem fw5_c9 : fw5 V main_v33_9 = V main_v33_9 := (kp fwdOps4_writes).trans (fw4_c9 V)
theorem fw5_77 : fw5 V main_while0b_v77 = f77 V := (kp fwdOps4_writes).trans (fw4_77 V)
theorem fw5_78 : fw5 V main_while0b_v78 = f78 V := (kp fwdOps4_writes).trans (fw4_78 V)
theorem fw5_79 : fw5 V main_while0b_v79 = f79 V := (kp fwdOps4_writes).trans (fw4_79 V)
theorem fw5_80 : fw5 V main_while0b_v80 = f80 V := (kp fwdOps4_writes).trans (fw4_80 V)
theorem fwdOps4_res : after fwdOps4 X main_while0b_v81 = pick_0 (X main_v33_4) (X main_v33_6) := by after_results_entrywise [cast_eq]
theorem fw5_81 : fw5 V main_while0b_v81 = f81 V := (fwdOps4_res (fw4 V)).trans (by rw [fw4_c4 V, fw4_c6 V]; rfl)
def fw6 : Valuation τ sig (Elt F) := after fwdOps5 (fw5 V)
theorem fw6_c0 : fw6 V main_v33_0 = V main_v33_0 := (kp fwdOps5_writes).trans (fw5_c0 V)
theorem fw6_c1 : fw6 V main_v33_1 = V main_v33_1 := (kp fwdOps5_writes).trans (fw5_c1 V)
theorem fw6_c10 : fw6 V main_v33_10 = V main_v33_10 := (kp fwdOps5_writes).trans (fw5_c10 V)
theorem fw6_c11 : fw6 V main_v33_11 = V main_v33_11 := (kp fwdOps5_writes).trans (fw5_c11 V)
theorem fw6_c2 : fw6 V main_v33_2 = V main_v33_2 := (kp fwdOps5_writes).trans (fw5_c2 V)
theorem fw6_c3 : fw6 V main_v33_3 = V main_v33_3 := (kp fwdOps5_writes).trans (fw5_c3 V)
theorem fw6_c4 : fw6 V main_v33_4 = V main_v33_4 := (kp fwdOps5_writes).trans (fw5_c4 V)
theorem fw6_c5 : fw6 V main_v33_5 = V main_v33_5 := (kp fwdOps5_writes).trans (fw5_c5 V)
theorem fw6_c6 : fw6 V main_v33_6 = V main_v33_6 := (kp fwdOps5_writes).trans (fw5_c6 V)
theorem fw6_c7 : fw6 V (no_index (Proc.devRef .tc main_v33_7)) = V main_v33_7 := (kp fwdOps5_writes).trans (fw5_c7 V)
theorem fw6_c8 : fw6 V main_v33_8 = V main_v33_8 := (kp fwdOps5_writes).trans (fw5_c8 V)
theorem fw6_c9 : fw6 V main_v33_9 = V main_v33_9 := (kp fwdOps5_writes).trans (fw5_c9 V)
theorem fw6_77 : fw6 V (no_index (Proc.devRef .tc main_while0b_v77)) = f77 V := (kp fwdOps5_writes).trans (fw5_77 V)
theorem fw6_78 : fw6 V (no_index (Proc.devRef .tc main_while0b_v78)) = f78 V := (kp fwdOps5_writes).trans (fw5_78 V)
theorem fw6_79 : fw6 V (no_index (Proc.devRef .tc main_while0b_v79)) = f79 V := (kp fwdOps5_writes).trans (fw5_79 V)
theorem fw6_80 : fw6 V (no_index (Proc.devRef .tc main_while0b_v80)) = f80 V := (kp fwdOps5_writes).trans (fw5_80 V)
theorem fw6_81 : fw6 V (no_index (Proc.devRef .tc main_while0b_v81)) = f81 V := (kp fwdOps5_writes).trans (fw5_81 V)
theorem fwdOps5_res : after fwdOps5 X main_while0b_v82 = pick_1 (X main_v33_5) (X main_v33_6) := by after_results_entrywise [cast_eq]
theorem fw6_82 : fw6 V (no_index (Proc.devRef .tc main_while0b_v82)) = f82 V := (fwdOps5_res (fw5 V)).trans (by rw [fw5_c5 V, fw5_c6 V]; rfl)
def fw7 : Valuation τ sig (Elt F) := after fwdOps6 (fw6 V)
theorem fw7_c0 : fw7 V main_v33_0 = V main_v33_0 := (kp fwdOps6_writes).trans (fw6_c0 V)
theorem fw7_c1 : fw7 V main_v33_1 = V main_v33_1 := (kp fwdOps6_writes).trans (fw6_c1 V)
theorem fw7_c10 : fw7 V main_v33_10 = V main_v33_10 := (kp fwdOps6_writes).trans (fw6_c10 V)
theorem fw7_c11 : fw7 V main_v33_11 = V main_v33_11 := (kp fwdOps6_writes).trans (fw6_c11 V)
theorem fw7_c2 : fw7 V main_v33_2 = V main_v33_2 := (kp fwdOps6_writes).trans (fw6_c2 V)
theorem fw7_c3 : fw7 V main_v33_3 = V main_v33_3 := (kp fwdOps6_writes).trans (fw6_c3 V)
theorem fw7_c4 : fw7 V main_v33_4 = V main_v33_4 := (kp fwdOps6_writes).trans (fw6_c4 V)
theorem fw7_c5 : fw7 V main_v33_5 = V main_v33_5 := (kp fwdOps6_writes).trans (fw6_c5 V)
theorem fw7_c6 : fw7 V main_v33_6 = V main_v33_6 := (kp fwdOps6_writes).trans (fw6_c6 V)
theorem fw7_c7 : fw7 V main_v33_7 = V main_v33_7 := (kp fwdOps6_writes).trans (fw6_c7 V)
theorem fw7_c8 : fw7 V main_v33_8 = V main_v33_8 := (kp fwdOps6_writes).trans (fw6_c8 V)
theorem fw7_c9 : fw7 V main_v33_9 = V main_v33_9 := (kp fwdOps6_writes).trans (fw6_c9 V)
theorem fw7_84 : fw7 V main_while0b_v84 = f84 V := by
  unfold fw7
  after_reads_simp
  simp only [fw6_c7, fw6_77, fw6_78, fw6_79, fw6_80, fw6_81, fw6_82]
  try rfl
theorem fw7_87 : fw7 V main_while0b_v87 = f87 V := by
  unfold fw7
  after_reads_simp
  simp only [fw6_c7, fw6_77, fw6_78, fw6_79, fw6_80, fw6_81, fw6_82]
  try rfl
theorem fw7_88 : fw7 V main_while0b_v88 = f88 V := by
  unfold fw7
  after_reads_simp
  simp only [fw6_c7, fw6_77, fw6_78, fw6_79, fw6_80, fw6_81, fw6_82]
  try rfl
theorem fw7_92 : fw7 V main_while0b_v92 = f92 V := by
  unfold fw7
  after_reads_simp
  simp only [fw6_c7, fw6_77, fw6_78, fw6_79, fw6_80, fw6_81, fw6_82]
  try rfl
def fw8 : Valuation τ sig (Elt F) := after fwdOps7 (fw7 V)
theorem fw8_c0 : fw8 V main_v33_0 = V main_v33_0 := (kp fwdOps7_writes).trans (fw7_c0 V)
theorem fw8_c1 : fw8 V main_v33_1 = V main_v33_1 := (kp fwdOps7_writes).trans (fw7_c1 V)
theorem fw8_c10 : fw8 V main_v33_10 = V main_v33_10 := (kp fwdOps7_writes).trans (fw7_c10 V)
theorem fw8_c11 : fw8 V main_v33_11 = V main_v33_11 := (kp fwdOps7_writes).trans (fw7_c11 V)
theorem fw8_c2 : fw8 V main_v33_2 = V main_v33_2 := (kp fwdOps7_writes).trans (fw7_c2 V)
theorem fw8_c3 : fw8 V main_v33_3 = V main_v33_3 := (kp fwdOps7_writes).trans (fw7_c3 V)
theorem fw8_c4 : fw8 V main_v33_4 = V main_v33_4 := (kp fwdOps7_writes).trans (fw7_c4 V)
theorem fw8_c5 : fw8 V main_v33_5 = V main_v33_5 := (kp fwdOps7_writes).trans (fw7_c5 V)
theorem fw8_c6 : fw8 V main_v33_6 = V main_v33_6 := (kp fwdOps7_writes).trans (fw7_c6 V)
theorem fw8_c7 : fw8 V main_v33_7 = V main_v33_7 := (kp fwdOps7_writes).trans (fw7_c7 V)
theorem fw8_c8 : fw8 V main_v33_8 = V main_v33_8 := (kp fwdOps7_writes).trans (fw7_c8 V)
theorem fw8_c9 : fw8 V main_v33_9 = V main_v33_9 := (kp fwdOps7_writes).trans (fw7_c9 V)
theorem fw8_84 : fw8 V main_while0b_v84 = f84 V := (kp fwdOps7_writes).trans (fw7_84 V)
theorem fw8_88 : fw8 V main_while0b_v88 = f88 V := (kp fwdOps7_writes).trans (fw7_88 V)
theorem fw8_92 : fw8 V main_while0b_v92 = f92 V := (kp fwdOps7_writes).trans (fw7_92 V)
theorem fwdOps7_res : after fwdOps7 X main_while0b_v93 = put (X main_v33_8) (X main_while0b_v87) (X main_v33_6) := by after_results_entrywise [cast_eq]
theorem fw8_93 : fw8 V main_while0b_v93 = f93 V := (fwdOps7_res (fw7 V)).trans (by rw [fw7_c8 V, fw7_87 V, fw7_c6 V]; rfl)
def fw9 : Valuation τ sig (Elt F) := after fwdOps8 (fw8 V)
theorem fw9_c0 : fw9 V main_v33_0 = V main_v33_0 := (kp fwdOps8_writes).trans (fw8_c0 V)
theorem fw9_c1 : fw9 V main_v33_1 = V main_v33_1 := (kp fwdOps8_writes).trans (fw8_c1 V)
theorem fw9_c10 : fw9 V main_v33_10 = V main_v33_10 := (kp fwdOps8_writes).trans (fw8_c10 V)
theorem fw9_c11 : fw9 V main_v33_11 = V main_v33_11 := (kp fwdOps8_writes).trans (fw8_c11 V)
theorem fw9_c2 : fw9 V main_v33_2 = V main_v33_2 := (kp fwdOps8_writes).trans (fw8_c2 V)
theorem fw9_c3 : fw9 V main_v33_3 = V main_v33_3 := (kp fwdOps8_writes).trans (fw8_c3 V)
theorem fw9_c4 : fw9 V main_v33_4 = V main_v33_4 := (kp fwdOps8_writes).trans (fw8_c4 V)
theorem fw9_c5 : fw9 V main_v33_5 = V main_v33_5 := (kp fwdOps8_writes).trans (fw8_c5 V)
theorem fw9_c6 : fw9 V main_v33_6 = V main_v33_6 := (kp fwdOps8_writes).trans (fw8_c6 V)
theorem fw9_c7 : fw9 V main_v33_7 = V main_v33_7 := (kp fwdOps8_writes).trans (fw8_c7 V)
theorem fw9_c8 : fw9 V main_v33_8 = V main_v33_8 := (kp fwdOps8_writes).trans (fw8_c8 V)
theorem fw9_c9 : fw9 V main_v33_9 = V main_v33_9 := (kp fwdOps8_writes).trans (fw8_c9 V)
theorem fw9_84 : fw9 V main_while0b_v84 = f84 V := (kp fwdOps8_writes).trans (fw8_84 V)
theorem fw9_88 : fw9 V main_while0b_v88 = f88 V := (kp fwdOps8_writes).trans (fw8_88 V)
theorem fw9_92 : fw9 V main_while0b_v92 = f92 V := (kp fwdOps8_writes).trans (fw8_92 V)
theorem fw9_93 : fw9 V main_while0b_v93 = f93 V := (kp fwdOps8_writes).trans (fw8_93 V)
theorem fwdOps8_res : after fwdOps8 X main_while0b_v94 = put_2 (X main_v33_9) (X main_v33_7) (X main_v33_6) := by after_results_entrywise [cast_eq]
theorem fw9_94 : fw9 V main_while0b_v94 = f94 V := (fwdOps8_res (fw8 V)).trans (by rw [fw8_c9 V, fw8_c7 V, fw8_c6 V]; rfl)
def fw10 : Valuation τ sig (Elt F) := after fwdOps9 (fw9 V)
theorem fw10_c0 : fw10 V main_v33_0 = V main_v33_0 := (kp fwdOps9_writes).trans (fw9_c0 V)
theorem fw10_c1 : fw10 V main_v33_1 = V main_v33_1 := (kp fwdOps9_writes).trans (fw9_c1 V)
theorem fw10_c10 : fw10 V main_v33_10 = V main_v33_10 := (kp fwdOps9_writes).trans (fw9_c10 V)
theorem fw10_c11 : fw10 V main_v33_11 = V main_v33_11 := (kp fwdOps9_writes).trans (fw9_c11 V)
theorem fw10_c2 : fw10 V main_v33_2 = V main_v33_2 := (kp fwdOps9_writes).trans (fw9_c2 V)
theorem fw10_c3 : fw10 V main_v33_3 = V main_v33_3 := (kp fwdOps9_writes).trans (fw9_c3 V)
theorem fw10_c4 : fw10 V main_v33_4 = V main_v33_4 := (kp fwdOps9_writes).trans (fw9_c4 V)
theorem fw10_c5 : fw10 V main_v33_5 = V main_v33_5 := (kp fwdOps9_writes).trans (fw9_c5 V)
theorem fw10_c6 : fw10 V main_v33_6 = V main_v33_6 := (kp fwdOps9_writes).trans (fw9_c6 V)
theorem fw10_c7 : fw10 V main_v33_7 = V main_v33_7 := (kp fwdOps9_writes).trans (fw9_c7 V)
theorem fw10_c8 : fw10 V main_v33_8 = V main_v33_8 := (kp fwdOps9_writes).trans (fw9_c8 V)
theorem fw10_c9 : fw10 V main_v33_9 = V main_v33_9 := (kp fwdOps9_writes).trans (fw9_c9 V)
theorem fw10_88 : fw10 V main_while0b_v88 = f88 V := (kp fwdOps9_writes).trans (fw9_88 V)
theorem fw10_92 : fw10 V main_while0b_v92 = f92 V := (kp fwdOps9_writes).trans (fw9_92 V)
theorem fw10_93 : fw10 V main_while0b_v93 = f93 V := (kp fwdOps9_writes).trans (fw9_93 V)
theorem fw10_94 : fw10 V main_while0b_v94 = f94 V := (kp fwdOps9_writes).trans (fw9_94 V)
theorem fwdOps9_res : after fwdOps9 X main_while0b_v95 = put (X main_v33_10) (X main_while0b_v84) (X main_v33_6) := by after_results_entrywise [cast_eq]
theorem fw10_95 : fw10 V main_while0b_v95 = f95 V := (fwdOps9_res (fw9 V)).trans (by rw [fw9_c10 V, fw9_84 V, fw9_c6 V]; rfl)
def fw11 : Valuation τ sig (Elt F) := after fwdOps10 (fw10 V)
theorem fw11_c0 : fw11 V main_v33_0 = V main_v33_0 := (kp fwdOps10_writes).trans (fw10_c0 V)
theorem fw11_c1 : fw11 V main_v33_1 = V main_v33_1 := (kp fwdOps10_writes).trans (fw10_c1 V)
theorem fw11_c10 : fw11 V main_v33_10 = V main_v33_10 := (kp fwdOps10_writes).trans (fw10_c10 V)
theorem fw11_c11 : fw11 V main_v33_11 = V main_v33_11 := (kp fwdOps10_writes).trans (fw10_c11 V)
theorem fw11_c2 : fw11 V main_v33_2 = V main_v33_2 := (kp fwdOps10_writes).trans (fw10_c2 V)
theorem fw11_c3 : fw11 V main_v33_3 = V main_v33_3 := (kp fwdOps10_writes).trans (fw10_c3 V)
theorem fw11_c4 : fw11 V main_v33_4 = V main_v33_4 := (kp fwdOps10_writes).trans (fw10_c4 V)
theorem fw11_c5 : fw11 V main_v33_5 = V main_v33_5 := (kp fwdOps10_writes).trans (fw10_c5 V)
theorem fw11_c6 : fw11 V (no_index (Proc.devRef .tc main_v33_6)) = V main_v33_6 := (kp fwdOps10_writes).trans (fw10_c6 V)
theorem fw11_c7 : fw11 V main_v33_7 = V main_v33_7 := (kp fwdOps10_writes).trans (fw10_c7 V)
theorem fw11_c8 : fw11 V main_v33_8 = V main_v33_8 := (kp fwdOps10_writes).trans (fw10_c8 V)
theorem fw11_c9 : fw11 V main_v33_9 = V main_v33_9 := (kp fwdOps10_writes).trans (fw10_c9 V)
theorem fw11_92 : fw11 V (no_index (Proc.devRef .tc main_while0b_v92)) = f92 V := (kp fwdOps10_writes).trans (fw10_92 V)
theorem fw11_93 : fw11 V (no_index (Proc.devRef .tc main_while0b_v93)) = f93 V := (kp fwdOps10_writes).trans (fw10_93 V)
theorem fw11_94 : fw11 V (no_index (Proc.devRef .tc main_while0b_v94)) = f94 V := (kp fwdOps10_writes).trans (fw10_94 V)
theorem fw11_95 : fw11 V (no_index (Proc.devRef .tc main_while0b_v95)) = f95 V := (kp fwdOps10_writes).trans (fw10_95 V)
theorem fwdOps10_res : after fwdOps10 X main_while0b_v96 = put_3 (X main_v33_11) (X main_while0b_v88) (X main_v33_6) := by after_results_entrywise [cast_eq]
theorem fw11_96 : fw11 V (no_index (Proc.devRef .tc main_while0b_v96)) = f96 V := (fwdOps10_res (fw10 V)).trans (by rw [fw10_c11 V, fw10_88 V, fw10_c6 V]; rfl)
def fw12 : Valuation τ sig (Elt F) := after fwdOps11 (fw11 V)
theorem fw12_c0 : fw12 V main_v33_0 = V main_v33_0 := (kp fwdOps11_writes).trans (fw11_c0 V)
theorem fw12_c1 : fw12 V main_v33_1 = V main_v33_1 := (kp fwdOps11_writes).trans (fw11_c1 V)
theorem fw12_c10 : fw12 V main_v33_10 = f95 V := by
  unfold fw12
  after_reads_simp
  simp only [fw11_c6, fw11_92, fw11_93, fw11_94, fw11_95, fw11_96]
  try rfl
theorem fw12_c11 : fw12 V main_v33_11 = f96 V := by
  unfold fw12
  after_reads_simp
  simp only [fw11_c6, fw11_92, fw11_93, fw11_94, fw11_95, fw11_96]
  try rfl
theorem fw12_c2 : fw12 V main_v33_2 = V main_v33_2 := (kp fwdOps11_writes).trans (fw11_c2 V)
theorem fw12_c3 : fw12 V main_v33_3 = V main_v33_3 := (kp fwdOps11_writes).trans (fw11_c3 V)
theorem fw12_c4 : fw12 V main_v33_4 = V main_v33_4 := (kp fwdOps11_writes).trans (fw11_c4 V)
theorem fw12_c5 : fw12 V main_v33_5 = V main_v33_5 := (kp fwdOps11_writes).trans (fw11_c5 V)
theorem fw12_c7 : fw12 V main_v33_7 = f92 V := by
  unfold fw12
  after_reads_simp
  simp only [fw11_c6, fw11_92, fw11_93, fw11_94, fw11_95, fw11_96]
  try rfl
theorem fw12_c8 : fw12 V main_v33_8 = f93 V := by
  unfold fw12
  after_reads_simp
  simp only [fw11_c6, fw11_92, fw11_93, fw11_94, fw11_95, fw11_96]
  try rfl
theorem fw12_c9 : fw12 V main_v33_9 = f94 V := by
  unfold fw12
  after_reads_simp
  simp only [fw11_c6, fw11_92, fw11_93, fw11_94, fw11_95, fw11_96]
  try rfl

theorem fwdBody_0 : afterL fwdBody V main_v33_0 = V main_v33_0 := fw12_c0 V
theorem fwdBody_1 : afterL fwdBody V main_v33_1 = V main_v33_1 := fw12_c1 V
theorem fwdBody_2 : afterL fwdBody V main_v33_2 = V main_v33_2 := fw12_c2 V
theorem fwdBody_3 : afterL fwdBody V main_v33_3 = V main_v33_3 := fw12_c3 V
theorem fwdBody_4 : afterL fwdBody V main_v33_4 = V main_v33_4 := fw12_c4 V
theorem fwdBody_5 : afterL fwdBody V main_v33_5 = V main_v33_5 := fw12_c5 V
theorem fwdBody_7 : afterL fwdBody V main_v33_7 = f92 V := fw12_c7 V
theorem fwdBody_8 : afterL fwdBody V main_v33_8 = f93 V := fw12_c8 V
theorem fwdBody_9 : afterL fwdBody V main_v33_9 = f94 V := fw12_c9 V
theorem fwdBody_10 : afterL fwdBody V main_v33_10 = f95 V := fw12_c10 V
theorem fwdBody_11 : afterL fwdBody V main_v33_11 = f96 V := fw12_c11 V
theorem fwdCond_0 : after fwdCond V main_v33_0 = V main_v33_0 := kp fwdCond_writes
theorem fwdCond_1 : after fwdCond V main_v33_1 = V main_v33_1 := kp fwdCond_writes
theorem fwdCond_2 : after fwdCond V main_v33_2 = V main_v33_2 := kp fwdCond_writes
theorem fwdCond_3 : after fwdCond V main_v33_3 = V main_v33_3 := kp fwdCond_writes
theorem fwdCond_4 : after fwdCond V main_v33_4 = V main_v33_4 := kp fwdCond_writes
theorem fwdCond_5 : after fwdCond V main_v33_5 = V main_v33_5 := kp fwdCond_writes
theorem fwdCond_6 : after fwdCond V main_v33_6 = V main_v33_6 := kp fwdCond_writes
theorem fwdCond_7 : after fwdCond V main_v33_7 = V main_v33_7 := kp fwdCond_writes
theorem fwdCond_8 : after fwdCond V main_v33_8 = V main_v33_8 := kp fwdCond_writes
theorem fwdCond_9 : after fwdCond V main_v33_9 = V main_v33_9 := kp fwdCond_writes
theorem fwdCond_10 : after fwdCond V main_v33_10 = V main_v33_10 := kp fwdCond_writes
theorem fwdCond_11 : after fwdCond V main_v33_11 = V main_v33_11 := kp fwdCond_writes

def bc_29 (_ : Valuation τ sig (Elt F)) : CI F := constantI S_ 32 32#32
def b77 : CI F := subi (bc_29 V) (V main_v48_8)
def bc_30 (_ : Valuation τ sig (Elt F)) : CI F := constantI S_ 32 1#32
def b78 : CI F := subi (b77 V) (bc_30 V)
def b79 : C F S4x6x64x128 := pick (V main_v48_0) (b78 V)
def b80 : C F S4x6x128x128 := pick_4 (V main_v48_1) (b78 V)
def b81 : C F S4x6x64x128 := pick (V main_v48_2) (b78 V)
def b82 : C F S4x6x64x128 := pick (V main_v48_3) (b78 V)
def b83 : C F S4x6x64x128 := pick (V main_v48_4) (b78 V)
def b84 : C F S4x6x64x64 := pick_0 (V main_v48_5) (b78 V)
def b85 : C F S4x6x1x128 := pick_5 (V main_v48_6) (b78 V)
def b86 : C F S4x6x64x128 := pick (V main_v48_7) (b78 V)
def b87 : C F S4x6x128x64 := Host.dotGeneral dot_S4x6x128x128_S4x6x64x128_S4x6x128x64_2_3_3_2_01_01 none (V main_v48_9) (b86 V)
def b88 : C F S4x6x64x128 := transpose S4x6x64x128 [0, 1, 3, 2] (b87 V) transposes_S4x6x128x64_S4x6x64x128_0_1_3_2
def b89 : C F S4x6x128x64 := Host.dotGeneral dot_S4x6x128x128_S4x6x64x128_S4x6x128x64_3_3_2_2_01_01 none (V main_v48_9) (b83 V)
def b90 : C F S4x6x64x128 := transpose S4x6x64x128 [0, 1, 3, 2] (b89 V) transposes_S4x6x128x64_S4x6x64x128_0_1_3_2
def b91 : C F S4x6x128x128 := mulf (b80 V) (V main_v48_9)
def bcst_31 (_ : Valuation τ sig (Elt F)) : C F S_ := constant S_ .f32 0x00000000#32
def b92 : C F S4x6x128 := Host.reduceAdd (b91 V) (bcst_31 V) reducesTo_S4x6x128x128_S4x6x128_d2 h_S_
def b93 : C F S4x6x1x128 := shapeCast S4x6x1x128 (b92 V) shapeCasts_S4x6x128_S4x6x1x128
def b94 : C F S4x6x128x128 := broadcastInDim S4x6x128x128 ![0, 1, 2, 3] bcast_S4x6x1x128_S4x6x128x128_0_1_2_3 (b85 V)
def b95 : C F S4x6x128x128 := mulf (V main_v48_9) (b94 V)
def bcst_32 (_ : Valuation τ sig (Elt F)) : C F S_ := constant S_ .f32 0x00000000#32
def b96 : C F S4x6x128 := Host.reduceAdd (b93 V) (bcst_32 V) reducesTo_S4x6x1x128_S4x6x128_d2 h_S_
def b97 : C F S4x6x128x64 := Host.dotGeneral dot_S4x6x64x128_S4x6x64x64_S4x6x128x64_2_2_3_3_01_01 none (b79 V) (b84 V)
def b98 : C F S4x6x64x128 := transpose S4x6x64x128 [0, 1, 3, 2] (b97 V) transposes_S4x6x128x64_S4x6x64x128_0_1_3_2
def b99 : C F S4x6x64x128 := addf (b88 V) (b98 V)
def b100 : C F S4x6x64x64 := Host.dotGeneral dot_S4x6x64x128_S4x6x64x128_S4x6x64x64_3_3_2_2_01_01 none (b79 V) (b83 V)
def b101 : C F S4x6x128x128 := Host.dotGeneral dot_S4x6x64x128_S4x6x64x128_S4x6x128x128_2_2_3_3_01_01 none (b79 V) (b82 V)
def b102 : C F S4x6x128x128 := transpose S4x6x128x128 [0, 1, 3, 2] (b101 V) transposes_S4x6x128x128_S4x6x128x128_0_1_3_2
def b103 : C F S4x6x128x128 := addf (b95 V) (b102 V)
def b104 : C F S4x6x64x128 := Host.dotGeneral dot_S4x6x64x128_S4x6x128x128_S4x6x64x128_3_3_2_2_01_01 none (b79 V) (b80 V)
def b105 : C F S4x6x64x128 := Host.negf (b99 V)
def b106 : C F S4x6x128x128 := Host.dotGeneral dot_S4x6x64x128_S4x6x64x128_S4x6x128x128_2_2_3_3_01_01 none (b105 V) (b81 V)
def b107 : C F S4x6x128x128 := transpose S4x6x128x128 [0, 1, 3, 2] (b106 V) transposes_S4x6x128x128_S4x6x128x128_0_1_3_2
def b108 : C F S4x6x128x128 := addf (b103 V) (b107 V)
def b109 : C F S4x6x64x128 := Host.dotGeneral dot_S4x6x64x128_S4x6x128x128_S4x6x64x128_3_3_2_2_01_01 none (b105 V) (b80 V)
def b110 : C F S32x4x6x64x128 := put (V main_v48_10) (b99 V) (b78 V)
def b111 : C F S32x4x6x64x128 := put (V main_v48_11) (b109 V) (b78 V)
def b112 : C F S32x4x6x64x128 := put (V main_v48_12) (b104 V) (b78 V)
def b113 : C F S32x4x6x64x128 := put (V main_v48_13) (b90 V) (b78 V)
def b114 : C F S32x4x6x64x64 := put_6 (V main_v48_14) (b100 V) (b78 V)
def b115 : C F S32x4x6x128 := put_7 (V main_v48_15) (b96 V) (b78 V)
def bc_33 (_ : Valuation τ sig (Elt F)) : CI F := constantI S_ 32 1#32
def b116 : CI F := addi (V main_v48_8) (bc_33 V)

def bw0 : Valuation τ sig (Elt F) := V
theorem bw0_c0 : bw0 V main_v48_0 = V main_v48_0 := rfl
theorem bw0_c1 : bw0 V main_v48_1 = V main_v48_1 := rfl
theorem bw0_c10 : bw0 V main_v48_10 = V main_v48_10 := rfl
theorem bw0_c11 : bw0 V main_v48_11 = V main_v48_11 := rfl
theorem bw0_c12 : bw0 V main_v48_12 = V main_v48_12 := rfl
theorem bw0_c13 : bw0 V main_v48_13 = V main_v48_13 := rfl
theorem bw0_c14 : bw0 V main_v48_14 = V main_v48_14 := rfl
theorem bw0_c15 : bw0 V main_v48_15 = V main_v48_15 := rfl
theorem bw0_c2 : bw0 V main_v48_2 = V main_v48_2 := rfl
theorem bw0_c3 : bw0 V main_v48_3 = V main_v48_3 := rfl
theorem bw0_c4 : bw0 V main_v48_4 = V main_v48_4 := rfl
theorem bw0_c5 : bw0 V main_v48_5 = V main_v48_5 := rfl
theorem bw0_c6 : bw0 V main_v48_6 = V main_v48_6 := rfl
theorem bw0_c7 : bw0 V main_v48_7 = V main_v48_7 := rfl
theorem bw0_c8 : bw0 V (no_index (Proc.devRef .tc main_v48_8)) = V main_v48_8 := rfl
theorem bw0_c9 : bw0 V main_v48_9 = V main_v48_9 := rfl
/-- The buffers after the trip's first stretch, and so on. -/
def bw1 : Valuation τ sig (Elt F) := after bwdOps0 (bw0 V)
theorem bw1_c0 : bw1 V main_v48_0 = V main_v48_0 := (kp bwdOps0_writes).trans (bw0_c0 V)
theorem bw1_c1 : bw1 V main_v48_1 = V main_v48_1 := (kp bwdOps0_writes).trans (bw0_c1 V)
theorem bw1_c10 : bw1 V main_v48_10 = V main_v48_10 := (kp bwdOps0_writes).trans (bw0_c10 V)
theorem bw1_c11 : bw1 V main_v48_11 = V main_v48_11 := (kp bwdOps0_writes).trans (bw0_c11 V)
theorem bw1_c12 : bw1 V main_v48_12 = V main_v48_12 := (kp bwdOps0_writes).trans (bw0_c12 V)
theorem bw1_c13 : bw1 V main_v48_13 = V main_v48_13 := (kp bwdOps0_writes).trans (bw0_c13 V)
theorem bw1_c14 : bw1 V main_v48_14 = V main_v48_14 := (kp bwdOps0_writes).trans (bw0_c14 V)
theorem bw1_c15 : bw1 V main_v48_15 = V main_v48_15 := (kp bwdOps0_writes).trans (bw0_c15 V)
theorem bw1_c2 : bw1 V main_v48_2 = V main_v48_2 := (kp bwdOps0_writes).trans (bw0_c2 V)
theorem bw1_c3 : bw1 V main_v48_3 = V main_v48_3 := (kp bwdOps0_writes).trans (bw0_c3 V)
theorem bw1_c4 : bw1 V main_v48_4 = V main_v48_4 := (kp bwdOps0_writes).trans (bw0_c4 V)
theorem bw1_c5 : bw1 V main_v48_5 = V main_v48_5 := (kp bwdOps0_writes).trans (bw0_c5 V)
theorem bw1_c6 : bw1 V main_v48_6 = V main_v48_6 := (kp bwdOps0_writes).trans (bw0_c6 V)
theorem bw1_c7 : bw1 V main_v48_7 = V main_v48_7 := (kp bwdOps0_writes).trans (bw0_c7 V)
theorem bw1_c8 : bw1 V main_v48_8 = V main_v48_8 := (kp bwdOps0_writes).trans (bw0_c8 V)
theorem bw1_c9 : bw1 V main_v48_9 = V main_v48_9 := (kp bwdOps0_writes).trans (bw0_c9 V)
theorem bw1_78 : bw1 V main_while1b_v78 = b78 V := by
  unfold bw1
  after_reads_simp
  simp only [bw0_c8]
  try rfl
def bw2 : Valuation τ sig (Elt F) := after bwdOps1 (bw1 V)
theorem bw2_c0 : bw2 V main_v48_0 = V main_v48_0 := (kp bwdOps1_writes).trans (bw1_c0 V)
theorem bw2_c1 : bw2 V main_v48_1 = V main_v48_1 := (kp bwdOps1_writes).trans (bw1_c1 V)
theorem bw2_c10 : bw2 V main_v48_10 = V main_v48_10 := (kp bwdOps1_writes).trans (bw1_c10 V)
theorem bw2_c11 : bw2 V main_v48_11 = V main_v48_11 := (kp bwdOps1_writes).trans (bw1_c11 V)
theorem bw2_c12 : bw2 V main_v48_12 = V main_v48_12 := (kp bwdOps1_writes).trans (bw1_c12 V)
theorem bw2_c13 : bw2 V main_v48_13 = V main_v48_13 := (kp bwdOps1_writes).trans (bw1_c13 V)
theorem bw2_c14 : bw2 V main_v48_14 = V main_v48_14 := (kp bwdOps1_writes).trans (bw1_c14 V)
theorem bw2_c15 : bw2 V main_v48_15 = V main_v48_15 := (kp bwdOps1_writes).trans (bw1_c15 V)
theorem bw2_c2 : bw2 V main_v48_2 = V main_v48_2 := (kp bwdOps1_writes).trans (bw1_c2 V)
theorem bw2_c3 : bw2 V main_v48_3 = V main_v48_3 := (kp bwdOps1_writes).trans (bw1_c3 V)
theorem bw2_c4 : bw2 V main_v48_4 = V main_v48_4 := (kp bwdOps1_writes).trans (bw1_c4 V)
theorem bw2_c5 : bw2 V main_v48_5 = V main_v48_5 := (kp bwdOps1_writes).trans (bw1_c5 V)
theorem bw2_c6 : bw2 V main_v48_6 = V main_v48_6 := (kp bwdOps1_writes).trans (bw1_c6 V)
theorem bw2_c7 : bw2 V main_v48_7 = V main_v48_7 := (kp bwdOps1_writes).trans (bw1_c7 V)
theorem bw2_c8 : bw2 V main_v48_8 = V main_v48_8 := (kp bwdOps1_writes).trans (bw1_c8 V)
theorem bw2_c9 : bw2 V main_v48_9 = V main_v48_9 := (kp bwdOps1_writes).trans (bw1_c9 V)
theorem bw2_78 : bw2 V main_while1b_v78 = b78 V := (kp bwdOps1_writes).trans (bw1_78 V)
theorem bwdOps1_res : after bwdOps1 X main_while1b_v79 = pick (X main_v48_0) (X main_while1b_v78) := by after_results_entrywise [cast_eq]
theorem bw2_79 : bw2 V main_while1b_v79 = b79 V := (bwdOps1_res (bw1 V)).trans (by rw [bw1_c0 V, bw1_78 V]; rfl)
def bw3 : Valuation τ sig (Elt F) := after bwdOps2 (bw2 V)
theorem bw3_c0 : bw3 V main_v48_0 = V main_v48_0 := (kp bwdOps2_writes).trans (bw2_c0 V)
theorem bw3_c1 : bw3 V main_v48_1 = V main_v48_1 := (kp bwdOps2_writes).trans (bw2_c1 V)
theorem bw3_c10 : bw3 V main_v48_10 = V main_v48_10 := (kp bwdOps2_writes).trans (bw2_c10 V)
theorem bw3_c11 : bw3 V main_v48_11 = V main_v48_11 := (kp bwdOps2_writes).trans (bw2_c11 V)
theorem bw3_c12 : bw3 V main_v48_12 = V main_v48_12 := (kp bwdOps2_writes).trans (bw2_c12 V)
theorem bw3_c13 : bw3 V main_v48_13 = V main_v48_13 := (kp bwdOps2_writes).trans (bw2_c13 V)
theorem bw3_c14 : bw3 V main_v48_14 = V main_v48_14 := (kp bwdOps2_writes).trans (bw2_c14 V)
theorem bw3_c15 : bw3 V main_v48_15 = V main_v48_15 := (kp bwdOps2_writes).trans (bw2_c15 V)
theorem bw3_c2 : bw3 V main_v48_2 = V main_v48_2 := (kp bwdOps2_writes).trans (bw2_c2 V)
theorem bw3_c3 : bw3 V main_v48_3 = V main_v48_3 := (kp bwdOps2_writes).trans (bw2_c3 V)
theorem bw3_c4 : bw3 V main_v48_4 = V main_v48_4 := (kp bwdOps2_writes).trans (bw2_c4 V)
theorem bw3_c5 : bw3 V main_v48_5 = V main_v48_5 := (kp bwdOps2_writes).trans (bw2_c5 V)
theorem bw3_c6 : bw3 V main_v48_6 = V main_v48_6 := (kp bwdOps2_writes).trans (bw2_c6 V)
theorem bw3_c7 : bw3 V main_v48_7 = V main_v48_7 := (kp bwdOps2_writes).trans (bw2_c7 V)
theorem bw3_c8 : bw3 V main_v48_8 = V main_v48_8 := (kp bwdOps2_writes).trans (bw2_c8 V)
theorem bw3_c9 : bw3 V main_v48_9 = V main_v48_9 := (kp bwdOps2_writes).trans (bw2_c9 V)
theorem bw3_78 : bw3 V main_while1b_v78 = b78 V := (kp bwdOps2_writes).trans (bw2_78 V)
theorem bw3_79 : bw3 V main_while1b_v79 = b79 V := (kp bwdOps2_writes).trans (bw2_79 V)
theorem bwdOps2_res : after bwdOps2 X main_while1b_v80 = pick_4 (X main_v48_1) (X main_while1b_v78) := by after_results_entrywise [cast_eq]
theorem bw3_80 : bw3 V main_while1b_v80 = b80 V := (bwdOps2_res (bw2 V)).trans (by rw [bw2_c1 V, bw2_78 V]; rfl)
def bw4 : Valuation τ sig (Elt F) := after bwdOps3 (bw3 V)
theorem bw4_c0 : bw4 V main_v48_0 = V main_v48_0 := (kp bwdOps3_writes).trans (bw3_c0 V)
theorem bw4_c1 : bw4 V main_v48_1 = V main_v48_1 := (kp bwdOps3_writes).trans (bw3_c1 V)
theorem bw4_c10 : bw4 V main_v48_10 = V main_v48_10 := (kp bwdOps3_writes).trans (bw3_c10 V)
theorem bw4_c11 : bw4 V main_v48_11 = V main_v48_11 := (kp bwdOps3_writes).trans (bw3_c11 V)
theorem bw4_c12 : bw4 V main_v48_12 = V main_v48_12 := (kp bwdOps3_writes).trans (bw3_c12 V)
theorem bw4_c13 : bw4 V main_v48_13 = V main_v48_13 := (kp bwdOps3_writes).trans (bw3_c13 V)
theorem bw4_c14 : bw4 V main_v48_14 = V main_v48_14 := (kp bwdOps3_writes).trans (bw3_c14 V)
theorem bw4_c15 : bw4 V main_v48_15 = V main_v48_15 := (kp bwdOps3_writes).trans (bw3_c15 V)
theorem bw4_c2 : bw4 V main_v48_2 = V main_v48_2 := (kp bwdOps3_writes).trans (bw3_c2 V)
theorem bw4_c3 : bw4 V main_v48_3 = V main_v48_3 := (kp bwdOps3_writes).trans (bw3_c3 V)
theorem bw4_c4 : bw4 V main_v48_4 = V main_v48_4 := (kp bwdOps3_writes).trans (bw3_c4 V)
theorem bw4_c5 : bw4 V main_v48_5 = V main_v48_5 := (kp bwdOps3_writes).trans (bw3_c5 V)
theorem bw4_c6 : bw4 V main_v48_6 = V main_v48_6 := (kp bwdOps3_writes).trans (bw3_c6 V)
theorem bw4_c7 : bw4 V main_v48_7 = V main_v48_7 := (kp bwdOps3_writes).trans (bw3_c7 V)
theorem bw4_c8 : bw4 V main_v48_8 = V main_v48_8 := (kp bwdOps3_writes).trans (bw3_c8 V)
theorem bw4_c9 : bw4 V main_v48_9 = V main_v48_9 := (kp bwdOps3_writes).trans (bw3_c9 V)
theorem bw4_78 : bw4 V main_while1b_v78 = b78 V := (kp bwdOps3_writes).trans (bw3_78 V)
theorem bw4_79 : bw4 V main_while1b_v79 = b79 V := (kp bwdOps3_writes).trans (bw3_79 V)
theorem bw4_80 : bw4 V main_while1b_v80 = b80 V := (kp bwdOps3_writes).trans (bw3_80 V)
theorem bwdOps3_res : after bwdOps3 X main_while1b_v81 = pick (X main_v48_2) (X main_while1b_v78) := by after_results_entrywise [cast_eq]
theorem bw4_81 : bw4 V main_while1b_v81 = b81 V := (bwdOps3_res (bw3 V)).trans (by rw [bw3_c2 V, bw3_78 V]; rfl)
def bw5 : Valuation τ sig (Elt F) := after bwdOps4 (bw4 V)
theorem bw5_c0 : bw5 V main_v48_0 = V main_v48_0 := (kp bwdOps4_writes).trans (bw4_c0 V)
theorem bw5_c1 : bw5 V main_v48_1 = V main_v48_1 := (kp bwdOps4_writes).trans (bw4_c1 V)
theorem bw5_c10 : bw5 V main_v48_10 = V main_v48_10 := (kp bwdOps4_writes).trans (bw4_c10 V)
theorem bw5_c11 : bw5 V main_v48_11 = V main_v48_11 := (kp bwdOps4_writes).trans (bw4_c11 V)
theorem bw5_c12 : bw5 V main_v48_12 = V main_v48_12 := (kp bwdOps4_writes).trans (bw4_c12 V)
theorem bw5_c13 : bw5 V main_v48_13 = V main_v48_13 := (kp bwdOps4_writes).trans (bw4_c13 V)
theorem bw5_c14 : bw5 V main_v48_14 = V main_v48_14 := (kp bwdOps4_writes).trans (bw4_c14 V)
theorem bw5_c15 : bw5 V main_v48_15 = V main_v48_15 := (kp bwdOps4_writes).trans (bw4_c15 V)
theorem bw5_c2 : bw5 V main_v48_2 = V main_v48_2 := (kp bwdOps4_writes).trans (bw4_c2 V)
theorem bw5_c3 : bw5 V main_v48_3 = V main_v48_3 := (kp bwdOps4_writes).trans (bw4_c3 V)
theorem bw5_c4 : bw5 V main_v48_4 = V main_v48_4 := (kp bwdOps4_writes).trans (bw4_c4 V)
theorem bw5_c5 : bw5 V main_v48_5 = V main_v48_5 := (kp bwdOps4_writes).trans (bw4_c5 V)
theorem bw5_c6 : bw5 V main_v48_6 = V main_v48_6 := (kp bwdOps4_writes).trans (bw4_c6 V)
theorem bw5_c7 : bw5 V main_v48_7 = V main_v48_7 := (kp bwdOps4_writes).trans (bw4_c7 V)
theorem bw5_c8 : bw5 V main_v48_8 = V main_v48_8 := (kp bwdOps4_writes).trans (bw4_c8 V)
theorem bw5_c9 : bw5 V main_v48_9 = V main_v48_9 := (kp bwdOps4_writes).trans (bw4_c9 V)
theorem bw5_78 : bw5 V main_while1b_v78 = b78 V := (kp bwdOps4_writes).trans (bw4_78 V)
theorem bw5_79 : bw5 V main_while1b_v79 = b79 V := (kp bwdOps4_writes).trans (bw4_79 V)
theorem bw5_80 : bw5 V main_while1b_v80 = b80 V := (kp bwdOps4_writes).trans (bw4_80 V)
theorem bw5_81 : bw5 V main_while1b_v81 = b81 V := (kp bwdOps4_writes).trans (bw4_81 V)
theorem bwdOps4_res : after bwdOps4 X main_while1b_v82 = pick (X main_v48_3) (X main_while1b_v78) := by after_results_entrywise [cast_eq]
theorem bw5_82 : bw5 V main_while1b_v82 = b82 V := (bwdOps4_res (bw4 V)).trans (by rw [bw4_c3 V, bw4_78 V]; rfl)
def bw6 : Valuation τ sig (Elt F) := after bwdOps5 (bw5 V)
theorem bw6_c0 : bw6 V main_v48_0 = V main_v48_0 := (kp bwdOps5_writes).trans (bw5_c0 V)
theorem bw6_c1 : bw6 V main_v48_1 = V main_v48_1 := (kp bwdOps5_writes).trans (bw5_c1 V)
theorem bw6_c10 : bw6 V main_v48_10 = V main_v48_10 := (kp bwdOps5_writes).trans (bw5_c10 V)
theorem bw6_c11 : bw6 V main_v48_11 = V main_v48_11 := (kp bwdOps5_writes).trans (bw5_c11 V)
theorem bw6_c12 : bw6 V main_v48_12 = V main_v48_12 := (kp bwdOps5_writes).trans (bw5_c12 V)
theorem bw6_c13 : bw6 V main_v48_13 = V main_v48_13 := (kp bwdOps5_writes).trans (bw5_c13 V)
theorem bw6_c14 : bw6 V main_v48_14 = V main_v48_14 := (kp bwdOps5_writes).trans (bw5_c14 V)
theorem bw6_c15 : bw6 V main_v48_15 = V main_v48_15 := (kp bwdOps5_writes).trans (bw5_c15 V)
theorem bw6_c2 : bw6 V main_v48_2 = V main_v48_2 := (kp bwdOps5_writes).trans (bw5_c2 V)
theorem bw6_c3 : bw6 V main_v48_3 = V main_v48_3 := (kp bwdOps5_writes).trans (bw5_c3 V)
theorem bw6_c4 : bw6 V main_v48_4 = V main_v48_4 := (kp bwdOps5_writes).trans (bw5_c4 V)
theorem bw6_c5 : bw6 V main_v48_5 = V main_v48_5 := (kp bwdOps5_writes).trans (bw5_c5 V)
theorem bw6_c6 : bw6 V main_v48_6 = V main_v48_6 := (kp bwdOps5_writes).trans (bw5_c6 V)
theorem bw6_c7 : bw6 V main_v48_7 = V main_v48_7 := (kp bwdOps5_writes).trans (bw5_c7 V)
theorem bw6_c8 : bw6 V main_v48_8 = V main_v48_8 := (kp bwdOps5_writes).trans (bw5_c8 V)
theorem bw6_c9 : bw6 V main_v48_9 = V main_v48_9 := (kp bwdOps5_writes).trans (bw5_c9 V)
theorem bw6_78 : bw6 V main_while1b_v78 = b78 V := (kp bwdOps5_writes).trans (bw5_78 V)
theorem bw6_79 : bw6 V main_while1b_v79 = b79 V := (kp bwdOps5_writes).trans (bw5_79 V)
theorem bw6_80 : bw6 V main_while1b_v80 = b80 V := (kp bwdOps5_writes).trans (bw5_80 V)
theorem bw6_81 : bw6 V main_while1b_v81 = b81 V := (kp bwdOps5_writes).trans (bw5_81 V)
theorem bw6_82 : bw6 V main_while1b_v82 = b82 V := (kp bwdOps5_writes).trans (bw5_82 V)
theorem bwdOps5_res : after bwdOps5 X main_while1b_v83 = pick (X main_v48_4) (X main_while1b_v78) := by after_results_entrywise [cast_eq]
theorem bw6_83 : bw6 V main_while1b_v83 = b83 V := (bwdOps5_res (bw5 V)).trans (by rw [bw5_c4 V, bw5_78 V]; rfl)
def bw7 : Valuation τ sig (Elt F) := after bwdOps6 (bw6 V)
theorem bw7_c0 : bw7 V main_v48_0 = V main_v48_0 := (kp bwdOps6_writes).trans (bw6_c0 V)
theorem bw7_c1 : bw7 V main_v48_1 = V main_v48_1 := (kp bwdOps6_writes).trans (bw6_c1 V)
theorem bw7_c10 : bw7 V main_v48_10 = V main_v48_10 := (kp bwdOps6_writes).trans (bw6_c10 V)
theorem bw7_c11 : bw7 V main_v48_11 = V main_v48_11 := (kp bwdOps6_writes).trans (bw6_c11 V)
theorem bw7_c12 : bw7 V main_v48_12 = V main_v48_12 := (kp bwdOps6_writes).trans (bw6_c12 V)
theorem bw7_c13 : bw7 V main_v48_13 = V main_v48_13 := (kp bwdOps6_writes).trans (bw6_c13 V)
theorem bw7_c14 : bw7 V main_v48_14 = V main_v48_14 := (kp bwdOps6_writes).trans (bw6_c14 V)
theorem bw7_c15 : bw7 V main_v48_15 = V main_v48_15 := (kp bwdOps6_writes).trans (bw6_c15 V)
theorem bw7_c2 : bw7 V main_v48_2 = V main_v48_2 := (kp bwdOps6_writes).trans (bw6_c2 V)
theorem bw7_c3 : bw7 V main_v48_3 = V main_v48_3 := (kp bwdOps6_writes).trans (bw6_c3 V)
theorem bw7_c4 : bw7 V main_v48_4 = V main_v48_4 := (kp bwdOps6_writes).trans (bw6_c4 V)
theorem bw7_c5 : bw7 V main_v48_5 = V main_v48_5 := (kp bwdOps6_writes).trans (bw6_c5 V)
theorem bw7_c6 : bw7 V main_v48_6 = V main_v48_6 := (kp bwdOps6_writes).trans (bw6_c6 V)
theorem bw7_c7 : bw7 V main_v48_7 = V main_v48_7 := (kp bwdOps6_writes).trans (bw6_c7 V)
theorem bw7_c8 : bw7 V main_v48_8 = V main_v48_8 := (kp bwdOps6_writes).trans (bw6_c8 V)
theorem bw7_c9 : bw7 V main_v48_9 = V main_v48_9 := (kp bwdOps6_writes).trans (bw6_c9 V)
theorem bw7_78 : bw7 V main_while1b_v78 = b78 V := (kp bwdOps6_writes).trans (bw6_78 V)
theorem bw7_79 : bw7 V main_while1b_v79 = b79 V := (kp bwdOps6_writes).trans (bw6_79 V)
theorem bw7_80 : bw7 V main_while1b_v80 = b80 V := (kp bwdOps6_writes).trans (bw6_80 V)
theorem bw7_81 : bw7 V main_while1b_v81 = b81 V := (kp bwdOps6_writes).trans (bw6_81 V)
theorem bw7_82 : bw7 V main_while1b_v82 = b82 V := (kp bwdOps6_writes).trans (bw6_82 V)
theorem bw7_83 : bw7 V main_while1b_v83 = b83 V := (kp bwdOps6_writes).trans (bw6_83 V)
theorem bwdOps6_res : after bwdOps6 X main_while1b_v84 = pick_0 (X main_v48_5) (X main_while1b_v78) := by after_results_entrywise [cast_eq]
theorem bw7_84 : bw7 V main_while1b_v84 = b84 V := (bwdOps6_res (bw6 V)).trans (by rw [bw6_c5 V, bw6_78 V]; rfl)
def bw8 : Valuation τ sig (Elt F) := after bwdOps7 (bw7 V)
theorem bw8_c0 : bw8 V main_v48_0 = V main_v48_0 := (kp bwdOps7_writes).trans (bw7_c0 V)
theorem bw8_c1 : bw8 V main_v48_1 = V main_v48_1 := (kp bwdOps7_writes).trans (bw7_c1 V)
theorem bw8_c10 : bw8 V main_v48_10 = V main_v48_10 := (kp bwdOps7_writes).trans (bw7_c10 V)
theorem bw8_c11 : bw8 V main_v48_11 = V main_v48_11 := (kp bwdOps7_writes).trans (bw7_c11 V)
theorem bw8_c12 : bw8 V main_v48_12 = V main_v48_12 := (kp bwdOps7_writes).trans (bw7_c12 V)
theorem bw8_c13 : bw8 V main_v48_13 = V main_v48_13 := (kp bwdOps7_writes).trans (bw7_c13 V)
theorem bw8_c14 : bw8 V main_v48_14 = V main_v48_14 := (kp bwdOps7_writes).trans (bw7_c14 V)
theorem bw8_c15 : bw8 V main_v48_15 = V main_v48_15 := (kp bwdOps7_writes).trans (bw7_c15 V)
theorem bw8_c2 : bw8 V main_v48_2 = V main_v48_2 := (kp bwdOps7_writes).trans (bw7_c2 V)
theorem bw8_c3 : bw8 V main_v48_3 = V main_v48_3 := (kp bwdOps7_writes).trans (bw7_c3 V)
theorem bw8_c4 : bw8 V main_v48_4 = V main_v48_4 := (kp bwdOps7_writes).trans (bw7_c4 V)
theorem bw8_c5 : bw8 V main_v48_5 = V main_v48_5 := (kp bwdOps7_writes).trans (bw7_c5 V)
theorem bw8_c6 : bw8 V main_v48_6 = V main_v48_6 := (kp bwdOps7_writes).trans (bw7_c6 V)
theorem bw8_c7 : bw8 V main_v48_7 = V main_v48_7 := (kp bwdOps7_writes).trans (bw7_c7 V)
theorem bw8_c8 : bw8 V main_v48_8 = V main_v48_8 := (kp bwdOps7_writes).trans (bw7_c8 V)
theorem bw8_c9 : bw8 V main_v48_9 = V main_v48_9 := (kp bwdOps7_writes).trans (bw7_c9 V)
theorem bw8_78 : bw8 V main_while1b_v78 = b78 V := (kp bwdOps7_writes).trans (bw7_78 V)
theorem bw8_79 : bw8 V main_while1b_v79 = b79 V := (kp bwdOps7_writes).trans (bw7_79 V)
theorem bw8_80 : bw8 V main_while1b_v80 = b80 V := (kp bwdOps7_writes).trans (bw7_80 V)
theorem bw8_81 : bw8 V main_while1b_v81 = b81 V := (kp bwdOps7_writes).trans (bw7_81 V)
theorem bw8_82 : bw8 V main_while1b_v82 = b82 V := (kp bwdOps7_writes).trans (bw7_82 V)
theorem bw8_83 : bw8 V main_while1b_v83 = b83 V := (kp bwdOps7_writes).trans (bw7_83 V)
theorem bw8_84 : bw8 V main_while1b_v84 = b84 V := (kp bwdOps7_writes).trans (bw7_84 V)
theorem bwdOps7_res : after bwdOps7 X main_while1b_v85 = pick_5 (X main_v48_6) (X main_while1b_v78) := by after_results_entrywise [cast_eq]
theorem bw8_85 : bw8 V main_while1b_v85 = b85 V := (bwdOps7_res (bw7 V)).trans (by rw [bw7_c6 V, bw7_78 V]; rfl)
def bw9 : Valuation τ sig (Elt F) := after bwdOps8 (bw8 V)
theorem bw9_c0 : bw9 V main_v48_0 = V main_v48_0 := (kp bwdOps8_writes).trans (bw8_c0 V)
theorem bw9_c1 : bw9 V main_v48_1 = V main_v48_1 := (kp bwdOps8_writes).trans (bw8_c1 V)
theorem bw9_c10 : bw9 V main_v48_10 = V main_v48_10 := (kp bwdOps8_writes).trans (bw8_c10 V)
theorem bw9_c11 : bw9 V main_v48_11 = V main_v48_11 := (kp bwdOps8_writes).trans (bw8_c11 V)
theorem bw9_c12 : bw9 V main_v48_12 = V main_v48_12 := (kp bwdOps8_writes).trans (bw8_c12 V)
theorem bw9_c13 : bw9 V main_v48_13 = V main_v48_13 := (kp bwdOps8_writes).trans (bw8_c13 V)
theorem bw9_c14 : bw9 V main_v48_14 = V main_v48_14 := (kp bwdOps8_writes).trans (bw8_c14 V)
theorem bw9_c15 : bw9 V main_v48_15 = V main_v48_15 := (kp bwdOps8_writes).trans (bw8_c15 V)
theorem bw9_c2 : bw9 V main_v48_2 = V main_v48_2 := (kp bwdOps8_writes).trans (bw8_c2 V)
theorem bw9_c3 : bw9 V main_v48_3 = V main_v48_3 := (kp bwdOps8_writes).trans (bw8_c3 V)
theorem bw9_c4 : bw9 V main_v48_4 = V main_v48_4 := (kp bwdOps8_writes).trans (bw8_c4 V)
theorem bw9_c5 : bw9 V main_v48_5 = V main_v48_5 := (kp bwdOps8_writes).trans (bw8_c5 V)
theorem bw9_c6 : bw9 V main_v48_6 = V main_v48_6 := (kp bwdOps8_writes).trans (bw8_c6 V)
theorem bw9_c7 : bw9 V main_v48_7 = V main_v48_7 := (kp bwdOps8_writes).trans (bw8_c7 V)
theorem bw9_c8 : bw9 V main_v48_8 = V main_v48_8 := (kp bwdOps8_writes).trans (bw8_c8 V)
theorem bw9_c9 : bw9 V (no_index (Proc.devRef .tc main_v48_9)) = V main_v48_9 := (kp bwdOps8_writes).trans (bw8_c9 V)
theorem bw9_78 : bw9 V main_while1b_v78 = b78 V := (kp bwdOps8_writes).trans (bw8_78 V)
theorem bw9_79 : bw9 V (no_index (Proc.devRef .tc main_while1b_v79)) = b79 V := (kp bwdOps8_writes).trans (bw8_79 V)
theorem bw9_80 : bw9 V (no_index (Proc.devRef .tc main_while1b_v80)) = b80 V := (kp bwdOps8_writes).trans (bw8_80 V)
theorem bw9_81 : bw9 V (no_index (Proc.devRef .tc main_while1b_v81)) = b81 V := (kp bwdOps8_writes).trans (bw8_81 V)
theorem bw9_82 : bw9 V (no_index (Proc.devRef .tc main_while1b_v82)) = b82 V := (kp bwdOps8_writes).trans (bw8_82 V)
theorem bw9_83 : bw9 V (no_index (Proc.devRef .tc main_while1b_v83)) = b83 V := (kp bwdOps8_writes).trans (bw8_83 V)
theorem bw9_84 : bw9 V (no_index (Proc.devRef .tc main_while1b_v84)) = b84 V := (kp bwdOps8_writes).trans (bw8_84 V)
theorem bw9_85 : bw9 V (no_index (Proc.devRef .tc main_while1b_v85)) = b85 V := (kp bwdOps8_writes).trans (bw8_85 V)
theorem bwdOps8_res : after bwdOps8 X main_while1b_v86 = pick (X main_v48_7) (X main_while1b_v78) := by after_results_entrywise [cast_eq]
theorem bw9_86 : bw9 V (no_index (Proc.devRef .tc main_while1b_v86)) = b86 V := (bwdOps8_res (bw8 V)).trans (by rw [bw8_c7 V, bw8_78 V]; rfl)
def bw10 : Valuation τ sig (Elt F) := after bwdOps9 (bw9 V)
theorem bw10_c0 : bw10 V main_v48_0 = V main_v48_0 := (kp bwdOps9_writes).trans (bw9_c0 V)
theorem bw10_c1 : bw10 V main_v48_1 = V main_v48_1 := (kp bwdOps9_writes).trans (bw9_c1 V)
theorem bw10_c10 : bw10 V main_v48_10 = V main_v48_10 := (kp bwdOps9_writes).trans (bw9_c10 V)
theorem bw10_c11 : bw10 V main_v48_11 = V main_v48_11 := (kp bwdOps9_writes).trans (bw9_c11 V)
theorem bw10_c12 : bw10 V main_v48_12 = V main_v48_12 := (kp bwdOps9_writes).trans (bw9_c12 V)
theorem bw10_c13 : bw10 V main_v48_13 = V main_v48_13 := (kp bwdOps9_writes).trans (bw9_c13 V)
theorem bw10_c14 : bw10 V main_v48_14 = V main_v48_14 := (kp bwdOps9_writes).trans (bw9_c14 V)
theorem bw10_c15 : bw10 V main_v48_15 = V main_v48_15 := (kp bwdOps9_writes).trans (bw9_c15 V)
theorem bw10_c2 : bw10 V main_v48_2 = V main_v48_2 := (kp bwdOps9_writes).trans (bw9_c2 V)
theorem bw10_c3 : bw10 V main_v48_3 = V main_v48_3 := (kp bwdOps9_writes).trans (bw9_c3 V)
theorem bw10_c4 : bw10 V main_v48_4 = V main_v48_4 := (kp bwdOps9_writes).trans (bw9_c4 V)
theorem bw10_c5 : bw10 V main_v48_5 = V main_v48_5 := (kp bwdOps9_writes).trans (bw9_c5 V)
theorem bw10_c6 : bw10 V main_v48_6 = V main_v48_6 := (kp bwdOps9_writes).trans (bw9_c6 V)
theorem bw10_c7 : bw10 V main_v48_7 = V main_v48_7 := (kp bwdOps9_writes).trans (bw9_c7 V)
theorem bw10_c8 : bw10 V main_v48_8 = V main_v48_8 := (kp bwdOps9_writes).trans (bw9_c8 V)
theorem bw10_c9 : bw10 V main_v48_9 = V main_v48_9 := (kp bwdOps9_writes).trans (bw9_c9 V)
theorem bw10_100 : bw10 V main_while1b_v100 = b100 V := by
  unfold bw10
  after_reads_simp
  simp only [bw9_c9, bw9_79, bw9_80, bw9_81, bw9_82, bw9_83, bw9_84, bw9_85, bw9_86]
  try rfl
theorem bw10_104 : bw10 V main_while1b_v104 = b104 V := by
  unfold bw10
  after_reads_simp
  simp only [bw9_c9, bw9_79, bw9_80, bw9_81, bw9_82, bw9_83, bw9_84, bw9_85, bw9_86]
  try rfl
theorem bw10_108 : bw10 V main_while1b_v108 = b108 V := by
  unfold bw10
  after_reads_simp
  simp only [bw9_c9, bw9_79, bw9_80, bw9_81, bw9_82, bw9_83, bw9_84, bw9_85, bw9_86]
  try rfl
theorem bw10_109 : bw10 V main_while1b_v109 = b109 V := by
  unfold bw10
  after_reads_simp
  simp only [bw9_c9, bw9_79, bw9_80, bw9_81, bw9_82, bw9_83, bw9_84, bw9_85, bw9_86]
  try rfl
theorem bw10_78 : bw10 V main_while1b_v78 = b78 V := (kp bwdOps9_writes).trans (bw9_78 V)
theorem bw10_90 : bw10 V main_while1b_v90 = b90 V := by
  unfold bw10
  after_reads_simp
  simp only [bw9_c9, bw9_79, bw9_80, bw9_81, bw9_82, bw9_83, bw9_84, bw9_85, bw9_86]
  try rfl
theorem bw10_96 : bw10 V main_while1b_v96 = b96 V := by
  unfold bw10
  after_reads_simp
  simp only [bw9_c9, bw9_79, bw9_80, bw9_81, bw9_82, bw9_83, bw9_84, bw9_85, bw9_86]
  try rfl
theorem bw10_99 : bw10 V main_while1b_v99 = b99 V := by
  unfold bw10
  after_reads_simp
  simp only [bw9_c9, bw9_79, bw9_80, bw9_81, bw9_82, bw9_83, bw9_84, bw9_85, bw9_86]
  try rfl
def bw11 : Valuation τ sig (Elt F) := after bwdOps10 (bw10 V)
theorem bw11_c0 : bw11 V main_v48_0 = V main_v48_0 := (kp bwdOps10_writes).trans (bw10_c0 V)
theorem bw11_c1 : bw11 V main_v48_1 = V main_v48_1 := (kp bwdOps10_writes).trans (bw10_c1 V)
theorem bw11_c10 : bw11 V main_v48_10 = V main_v48_10 := (kp bwdOps10_writes).trans (bw10_c10 V)
theorem bw11_c11 : bw11 V main_v48_11 = V main_v48_11 := (kp bwdOps10_writes).trans (bw10_c11 V)
theorem bw11_c12 : bw11 V main_v48_12 = V main_v48_12 := (kp bwdOps10_writes).trans (bw10_c12 V)
theorem bw11_c13 : bw11 V main_v48_13 = V main_v48_13 := (kp bwdOps10_writes).trans (bw10_c13 V)
theorem bw11_c14 : bw11 V main_v48_14 = V main_v48_14 := (kp bwdOps10_writes).trans (bw10_c14 V)
theorem bw11_c15 : bw11 V main_v48_15 = V main_v48_15 := (kp bwdOps10_writes).trans (bw10_c15 V)
theorem bw11_c2 : bw11 V main_v48_2 = V main_v48_2 := (kp bwdOps10_writes).trans (bw10_c2 V)
theorem bw11_c3 : bw11 V main_v48_3 = V main_v48_3 := (kp bwdOps10_writes).trans (bw10_c3 V)
theorem bw11_c4 : bw11 V main_v48_4 = V main_v48_4 := (kp bwdOps10_writes).trans (bw10_c4 V)
theorem bw11_c5 : bw11 V main_v48_5 = V main_v48_5 := (kp bwdOps10_writes).trans (bw10_c5 V)
theorem bw11_c6 : bw11 V main_v48_6 = V main_v48_6 := (kp bwdOps10_writes).trans (bw10_c6 V)
theorem bw11_c7 : bw11 V main_v48_7 = V main_v48_7 := (kp bwdOps10_writes).trans (bw10_c7 V)
theorem bw11_c8 : bw11 V main_v48_8 = V main_v48_8 := (kp bwdOps10_writes).trans (bw10_c8 V)
theorem bw11_c9 : bw11 V main_v48_9 = V main_v48_9 := (kp bwdOps10_writes).trans (bw10_c9 V)
theorem bw11_100 : bw11 V main_while1b_v100 = b100 V := (kp bwdOps10_writes).trans (bw10_100 V)
theorem bw11_104 : bw11 V main_while1b_v104 = b104 V := (kp bwdOps10_writes).trans (bw10_104 V)
theorem bw11_108 : bw11 V main_while1b_v108 = b108 V := (kp bwdOps10_writes).trans (bw10_108 V)
theorem bw11_109 : bw11 V main_while1b_v109 = b109 V := (kp bwdOps10_writes).trans (bw10_109 V)
theorem bwdOps10_res : after bwdOps10 X main_while1b_v110 = put (X main_v48_10) (X main_while1b_v99) (X main_while1b_v78) := by after_results_entrywise [cast_eq]
theorem bw11_110 : bw11 V main_while1b_v110 = b110 V := (bwdOps10_res (bw10 V)).trans (by rw [bw10_c10 V, bw10_99 V, bw10_78 V]; rfl)
theorem bw11_78 : bw11 V main_while1b_v78 = b78 V := (kp bwdOps10_writes).trans (bw10_78 V)
theorem bw11_90 : bw11 V main_while1b_v90 = b90 V := (kp bwdOps10_writes).trans (bw10_90 V)
theorem bw11_96 : bw11 V main_while1b_v96 = b96 V := (kp bwdOps10_writes).trans (bw10_96 V)
def bw12 : Valuation τ sig (Elt F) := after bwdOps11 (bw11 V)
theorem bw12_c0 : bw12 V main_v48_0 = V main_v48_0 := (kp bwdOps11_writes).trans (bw11_c0 V)
theorem bw12_c1 : bw12 V main_v48_1 = V main_v48_1 := (kp bwdOps11_writes).trans (bw11_c1 V)
theorem bw12_c10 : bw12 V main_v48_10 = V main_v48_10 := (kp bwdOps11_writes).trans (bw11_c10 V)
theorem bw12_c11 : bw12 V main_v48_11 = V main_v48_11 := (kp bwdOps11_writes).trans (bw11_c11 V)
theorem bw12_c12 : bw12 V main_v48_12 = V main_v48_12 := (kp bwdOps11_writes).trans (bw11_c12 V)
theorem bw12_c13 : bw12 V main_v48_13 = V main_v48_13 := (kp bwdOps11_writes).trans (bw11_c13 V)
theorem bw12_c14 : bw12 V main_v48_14 = V main_v48_14 := (kp bwdOps11_writes).trans (bw11_c14 V)
theorem bw12_c15 : bw12 V main_v48_15 = V main_v48_15 := (kp bwdOps11_writes).trans (bw11_c15 V)
theorem bw12_c2 : bw12 V main_v48_2 = V main_v48_2 := (kp bwdOps11_writes).trans (bw11_c2 V)
theorem bw12_c3 : bw12 V main_v48_3 = V main_v48_3 := (kp bwdOps11_writes).trans (bw11_c3 V)
theorem bw12_c4 : bw12 V main_v48_4 = V main_v48_4 := (kp bwdOps11_writes).trans (bw11_c4 V)
theorem bw12_c5 : bw12 V main_v48_5 = V main_v48_5 := (kp bwdOps11_writes).trans (bw11_c5 V)
theorem bw12_c6 : bw12 V main_v48_6 = V main_v48_6 := (kp bwdOps11_writes).trans (bw11_c6 V)
theorem bw12_c7 : bw12 V main_v48_7 = V main_v48_7 := (kp bwdOps11_writes).trans (bw11_c7 V)
theorem bw12_c8 : bw12 V main_v48_8 = V main_v48_8 := (kp bwdOps11_writes).trans (bw11_c8 V)
theorem bw12_c9 : bw12 V main_v48_9 = V main_v48_9 := (kp bwdOps11_writes).trans (bw11_c9 V)
theorem bw12_100 : bw12 V main_while1b_v100 = b100 V := (kp bwdOps11_writes).trans (bw11_100 V)
theorem bw12_104 : bw12 V main_while1b_v104 = b104 V := (kp bwdOps11_writes).trans (bw11_104 V)
theorem bw12_108 : bw12 V main_while1b_v108 = b108 V := (kp bwdOps11_writes).trans (bw11_108 V)
theorem bw12_110 : bw12 V main_while1b_v110 = b110 V := (kp bwdOps11_writes).trans (bw11_110 V)
theorem bwdOps11_res : after bwdOps11 X main_while1b_v111 = put (X main_v48_11) (X main_while1b_v109) (X main_while1b_v78) := by after_results_entrywise [cast_eq]
theorem bw12_111 : bw12 V main_while1b_v111 = b111 V := (bwdOps11_res (bw11 V)).trans (by rw [bw11_c11 V, bw11_109 V, bw11_78 V]; rfl)
theorem bw12_78 : bw12 V main_while1b_v78 = b78 V := (kp bwdOps11_writes).trans (bw11_78 V)
theorem bw12_90 : bw12 V main_while1b_v90 = b90 V := (kp bwdOps11_writes).trans (bw11_90 V)
theorem bw12_96 : bw12 V main_while1b_v96 = b96 V := (kp bwdOps11_writes).trans (bw11_96 V)
def bw13 : Valuation τ sig (Elt F) := after bwdOps12 (bw12 V)
theorem bw13_c0 : bw13 V main_v48_0 = V main_v48_0 := (kp bwdOps12_writes).trans (bw12_c0 V)
theorem bw13_c1 : bw13 V main_v48_1 = V main_v48_1 := (kp bwdOps12_writes).trans (bw12_c1 V)
theorem bw13_c10 : bw13 V main_v48_10 = V main_v48_10 := (kp bwdOps12_writes).trans (bw12_c10 V)
theorem bw13_c11 : bw13 V main_v48_11 = V main_v48_11 := (kp bwdOps12_writes).trans (bw12_c11 V)
theorem bw13_c12 : bw13 V main_v48_12 = V main_v48_12 := (kp bwdOps12_writes).trans (bw12_c12 V)
theorem bw13_c13 : bw13 V main_v48_13 = V main_v48_13 := (kp bwdOps12_writes).trans (bw12_c13 V)
theorem bw13_c14 : bw13 V main_v48_14 = V main_v48_14 := (kp bwdOps12_writes).trans (bw12_c14 V)
theorem bw13_c15 : bw13 V main_v48_15 = V main_v48_15 := (kp bwdOps12_writes).trans (bw12_c15 V)
theorem bw13_c2 : bw13 V main_v48_2 = V main_v48_2 := (kp bwdOps12_writes).trans (bw12_c2 V)
theorem bw13_c3 : bw13 V main_v48_3 = V main_v48_3 := (kp bwdOps12_writes).trans (bw12_c3 V)
theorem bw13_c4 : bw13 V main_v48_4 = V main_v48_4 := (kp bwdOps12_writes).trans (bw12_c4 V)
theorem bw13_c5 : bw13 V main_v48_5 = V main_v48_5 := (kp bwdOps12_writes).trans (bw12_c5 V)
theorem bw13_c6 : bw13 V main_v48_6 = V main_v48_6 := (kp bwdOps12_writes).trans (bw12_c6 V)
theorem bw13_c7 : bw13 V main_v48_7 = V main_v48_7 := (kp bwdOps12_writes).trans (bw12_c7 V)
theorem bw13_c8 : bw13 V main_v48_8 = V main_v48_8 := (kp bwdOps12_writes).trans (bw12_c8 V)
theorem bw13_c9 : bw13 V main_v48_9 = V main_v48_9 := (kp bwdOps12_writes).trans (bw12_c9 V)
theorem bw13_100 : bw13 V main_while1b_v100 = b100 V := (kp bwdOps12_writes).trans (bw12_100 V)
theorem bw13_108 : bw13 V main_while1b_v108 = b108 V := (kp bwdOps12_writes).trans (bw12_108 V)
theorem bw13_110 : bw13 V main_while1b_v110 = b110 V := (kp bwdOps12_writes).trans (bw12_110 V)
theorem bw13_111 : bw13 V main_while1b_v111 = b111 V := (kp bwdOps12_writes).trans (bw12_111 V)
theorem bwdOps12_res : after bwdOps12 X main_while1b_v112 = put (X main_v48_12) (X main_while1b_v104) (X main_while1b_v78) := by after_results_entrywise [cast_eq]
theorem bw13_112 : bw13 V main_while1b_v112 = b112 V := (bwdOps12_res (bw12 V)).trans (by rw [bw12_c12 V, bw12_104 V, bw12_78 V]; rfl)
theorem bw13_78 : bw13 V main_while1b_v78 = b78 V := (kp bwdOps12_writes).trans (bw12_78 V)
theorem bw13_90 : bw13 V main_while1b_v90 = b90 V := (kp bwdOps12_writes).trans (bw12_90 V)
theorem bw13_96 : bw13 V main_while1b_v96 = b96 V := (kp bwdOps12_writes).trans (bw12_96 V)
def bw14 : Valuation τ sig (Elt F) := after bwdOps13 (bw13 V)
theorem bw14_c0 : bw14 V main_v48_0 = V main_v48_0 := (kp bwdOps13_writes).trans (bw13_c0 V)
theorem bw14_c1 : bw14 V main_v48_1 = V main_v48_1 := (kp bwdOps13_writes).trans (bw13_c1 V)
theorem bw14_c10 : bw14 V main_v48_10 = V main_v48_10 := (kp bwdOps13_writes).trans (bw13_c10 V)
theorem bw14_c11 : bw14 V main_v48_11 = V main_v48_11 := (kp bwdOps13_writes).trans (bw13_c11 V)
theorem bw14_c12 : bw14 V main_v48_12 = V main_v48_12 := (kp bwdOps13_writes).trans (bw13_c12 V)
theorem bw14_c13 : bw14 V main_v48_13 = V main_v48_13 := (kp bwdOps13_writes).trans (bw13_c13 V)
theorem bw14_c14 : bw14 V main_v48_14 = V main_v48_14 := (kp bwdOps13_writes).trans (bw13_c14 V)
theorem bw14_c15 : bw14 V main_v48_15 = V main_v48_15 := (kp bwdOps13_writes).trans (bw13_c15 V)
theorem bw14_c2 : bw14 V main_v48_2 = V main_v48_2 := (kp bwdOps13_writes).trans (bw13_c2 V)
theorem bw14_c3 : bw14 V main_v48_3 = V main_v48_3 := (kp bwdOps13_writes).trans (bw13_c3 V)
theorem bw14_c4 : bw14 V main_v48_4 = V main_v48_4 := (kp bwdOps13_writes).trans (bw13_c4 V)
theorem bw14_c5 : bw14 V main_v48_5 = V main_v48_5 := (kp bwdOps13_writes).trans (bw13_c5 V)
theorem bw14_c6 : bw14 V main_v48_6 = V main_v48_6 := (kp bwdOps13_writes).trans (bw13_c6 V)
theorem bw14_c7 : bw14 V main_v48_7 = V main_v48_7 := (kp bwdOps13_writes).trans (bw13_c7 V)
theorem bw14_c8 : bw14 V main_v48_8 = V main_v48_8 := (kp bwdOps13_writes).trans (bw13_c8 V)
theorem bw14_c9 : bw14 V main_v48_9 = V main_v48_9 := (kp bwdOps13_writes).trans (bw13_c9 V)
theorem bw14_100 : bw14 V main_while1b_v100 = b100 V := (kp bwdOps13_writes).trans (bw13_100 V)
theorem bw14_108 : bw14 V main_while1b_v108 = b108 V := (kp bwdOps13_writes).trans (bw13_108 V)
theorem bw14_110 : bw14 V main_while1b_v110 = b110 V := (kp bwdOps13_writes).trans (bw13_110 V)
theorem bw14_111 : bw14 V main_while1b_v111 = b111 V := (kp bwdOps13_writes).trans (bw13_111 V)
theorem bw14_112 : bw14 V main_while1b_v112 = b112 V := (kp bwdOps13_writes).trans (bw13_112 V)
theorem bwdOps13_res : after bwdOps13 X main_while1b_v113 = put (X main_v48_13) (X main_while1b_v90) (X main_while1b_v78) := by after_results_entrywise [cast_eq]
theorem bw14_113 : bw14 V main_while1b_v113 = b113 V := (bwdOps13_res (bw13 V)).trans (by rw [bw13_c13 V, bw13_90 V, bw13_78 V]; rfl)
theorem bw14_78 : bw14 V main_while1b_v78 = b78 V := (kp bwdOps13_writes).trans (bw13_78 V)
theorem bw14_96 : bw14 V main_while1b_v96 = b96 V := (kp bwdOps13_writes).trans (bw13_96 V)
def bw15 : Valuation τ sig (Elt F) := after bwdOps14 (bw14 V)
theorem bw15_c0 : bw15 V main_v48_0 = V main_v48_0 := (kp bwdOps14_writes).trans (bw14_c0 V)
theorem bw15_c1 : bw15 V main_v48_1 = V main_v48_1 := (kp bwdOps14_writes).trans (bw14_c1 V)
theorem bw15_c10 : bw15 V main_v48_10 = V main_v48_10 := (kp bwdOps14_writes).trans (bw14_c10 V)
theorem bw15_c11 : bw15 V main_v48_11 = V main_v48_11 := (kp bwdOps14_writes).trans (bw14_c11 V)
theorem bw15_c12 : bw15 V main_v48_12 = V main_v48_12 := (kp bwdOps14_writes).trans (bw14_c12 V)
theorem bw15_c13 : bw15 V main_v48_13 = V main_v48_13 := (kp bwdOps14_writes).trans (bw14_c13 V)
theorem bw15_c14 : bw15 V main_v48_14 = V main_v48_14 := (kp bwdOps14_writes).trans (bw14_c14 V)
theorem bw15_c15 : bw15 V main_v48_15 = V main_v48_15 := (kp bwdOps14_writes).trans (bw14_c15 V)
theorem bw15_c2 : bw15 V main_v48_2 = V main_v48_2 := (kp bwdOps14_writes).trans (bw14_c2 V)
theorem bw15_c3 : bw15 V main_v48_3 = V main_v48_3 := (kp bwdOps14_writes).trans (bw14_c3 V)
theorem bw15_c4 : bw15 V main_v48_4 = V main_v48_4 := (kp bwdOps14_writes).trans (bw14_c4 V)
theorem bw15_c5 : bw15 V main_v48_5 = V main_v48_5 := (kp bwdOps14_writes).trans (bw14_c5 V)
theorem bw15_c6 : bw15 V main_v48_6 = V main_v48_6 := (kp bwdOps14_writes).trans (bw14_c6 V)
theorem bw15_c7 : bw15 V main_v48_7 = V main_v48_7 := (kp bwdOps14_writes).trans (bw14_c7 V)
theorem bw15_c8 : bw15 V main_v48_8 = V main_v48_8 := (kp bwdOps14_writes).trans (bw14_c8 V)
theorem bw15_c9 : bw15 V main_v48_9 = V main_v48_9 := (kp bwdOps14_writes).trans (bw14_c9 V)
theorem bw15_108 : bw15 V main_while1b_v108 = b108 V := (kp bwdOps14_writes).trans (bw14_108 V)
theorem bw15_110 : bw15 V main_while1b_v110 = b110 V := (kp bwdOps14_writes).trans (bw14_110 V)
theorem bw15_111 : bw15 V main_while1b_v111 = b111 V := (kp bwdOps14_writes).trans (bw14_111 V)
theorem bw15_112 : bw15 V main_while1b_v112 = b112 V := (kp bwdOps14_writes).trans (bw14_112 V)
theorem bw15_113 : bw15 V main_while1b_v113 = b113 V := (kp bwdOps14_writes).trans (bw14_113 V)
theorem bwdOps14_res : after bwdOps14 X main_while1b_v114 = put_6 (X main_v48_14) (X main_while1b_v100) (X main_while1b_v78) := by after_results_entrywise [cast_eq]
theorem bw15_114 : bw15 V main_while1b_v114 = b114 V := (bwdOps14_res (bw14 V)).trans (by rw [bw14_c14 V, bw14_100 V, bw14_78 V]; rfl)
theorem bw15_78 : bw15 V main_while1b_v78 = b78 V := (kp bwdOps14_writes).trans (bw14_78 V)
theorem bw15_96 : bw15 V main_while1b_v96 = b96 V := (kp bwdOps14_writes).trans (bw14_96 V)
def bw16 : Valuation τ sig (Elt F) := after bwdOps15 (bw15 V)
theorem bw16_c0 : bw16 V main_v48_0 = V main_v48_0 := (kp bwdOps15_writes).trans (bw15_c0 V)
theorem bw16_c1 : bw16 V main_v48_1 = V main_v48_1 := (kp bwdOps15_writes).trans (bw15_c1 V)
theorem bw16_c10 : bw16 V main_v48_10 = V main_v48_10 := (kp bwdOps15_writes).trans (bw15_c10 V)
theorem bw16_c11 : bw16 V main_v48_11 = V main_v48_11 := (kp bwdOps15_writes).trans (bw15_c11 V)
theorem bw16_c12 : bw16 V main_v48_12 = V main_v48_12 := (kp bwdOps15_writes).trans (bw15_c12 V)
theorem bw16_c13 : bw16 V main_v48_13 = V main_v48_13 := (kp bwdOps15_writes).trans (bw15_c13 V)
theorem bw16_c14 : bw16 V main_v48_14 = V main_v48_14 := (kp bwdOps15_writes).trans (bw15_c14 V)
theorem bw16_c15 : bw16 V main_v48_15 = V main_v48_15 := (kp bwdOps15_writes).trans (bw15_c15 V)
theorem bw16_c2 : bw16 V main_v48_2 = V main_v48_2 := (kp bwdOps15_writes).trans (bw15_c2 V)
theorem bw16_c3 : bw16 V main_v48_3 = V main_v48_3 := (kp bwdOps15_writes).trans (bw15_c3 V)
theorem bw16_c4 : bw16 V main_v48_4 = V main_v48_4 := (kp bwdOps15_writes).trans (bw15_c4 V)
theorem bw16_c5 : bw16 V main_v48_5 = V main_v48_5 := (kp bwdOps15_writes).trans (bw15_c5 V)
theorem bw16_c6 : bw16 V main_v48_6 = V main_v48_6 := (kp bwdOps15_writes).trans (bw15_c6 V)
theorem bw16_c7 : bw16 V main_v48_7 = V main_v48_7 := (kp bwdOps15_writes).trans (bw15_c7 V)
theorem bw16_c8 : bw16 V (no_index (Proc.devRef .tc main_v48_8)) = V main_v48_8 := (kp bwdOps15_writes).trans (bw15_c8 V)
theorem bw16_c9 : bw16 V main_v48_9 = V main_v48_9 := (kp bwdOps15_writes).trans (bw15_c9 V)
theorem bw16_108 : bw16 V (no_index (Proc.devRef .tc main_while1b_v108)) = b108 V := (kp bwdOps15_writes).trans (bw15_108 V)
theorem bw16_110 : bw16 V (no_index (Proc.devRef .tc main_while1b_v110)) = b110 V := (kp bwdOps15_writes).trans (bw15_110 V)
theorem bw16_111 : bw16 V (no_index (Proc.devRef .tc main_while1b_v111)) = b111 V := (kp bwdOps15_writes).trans (bw15_111 V)
theorem bw16_112 : bw16 V (no_index (Proc.devRef .tc main_while1b_v112)) = b112 V := (kp bwdOps15_writes).trans (bw15_112 V)
theorem bw16_113 : bw16 V (no_index (Proc.devRef .tc main_while1b_v113)) = b113 V := (kp bwdOps15_writes).trans (bw15_113 V)
theorem bw16_114 : bw16 V (no_index (Proc.devRef .tc main_while1b_v114)) = b114 V := (kp bwdOps15_writes).trans (bw15_114 V)
theorem bwdOps15_res : after bwdOps15 X main_while1b_v115 = put_7 (X main_v48_15) (X main_while1b_v96) (X main_while1b_v78) := by after_results_entrywise [cast_eq]
theorem bw16_115 : bw16 V (no_index (Proc.devRef .tc main_while1b_v115)) = b115 V := (bwdOps15_res (bw15 V)).trans (by rw [bw15_c15 V, bw15_96 V, bw15_78 V]; rfl)
def bw17 : Valuation τ sig (Elt F) := after bwdOps16 (bw16 V)
theorem bw17_c0 : bw17 V main_v48_0 = V main_v48_0 := (kp bwdOps16_writes).trans (bw16_c0 V)
theorem bw17_c1 : bw17 V main_v48_1 = V main_v48_1 := (kp bwdOps16_writes).trans (bw16_c1 V)
theorem bw17_c10 : bw17 V main_v48_10 = b110 V := by
  unfold bw17
  after_reads_simp
  simp only [bw16_c8, bw16_108, bw16_110, bw16_111, bw16_112, bw16_113, bw16_114, bw16_115]
  try rfl
theorem bw17_c11 : bw17 V main_v48_11 = b111 V := by
  unfold bw17
  after_reads_simp
  simp only [bw16_c8, bw16_108, bw16_110, bw16_111, bw16_112, bw16_113, bw16_114, bw16_115]
  try rfl
theorem bw17_c12 : bw17 V main_v48_12 = b112 V := by
  unfold bw17
  after_reads_simp
  simp only [bw16_c8, bw16_108, bw16_110, bw16_111, bw16_112, bw16_113, bw16_114, bw16_115]
  try rfl
theorem bw17_c13 : bw17 V main_v48_13 = b113 V := by
  unfold bw17
  after_reads_simp
  simp only [bw16_c8, bw16_108, bw16_110, bw16_111, bw16_112, bw16_113, bw16_114, bw16_115]
  try rfl
theorem bw17_c14 : bw17 V main_v48_14 = b114 V := by
  unfold bw17
  after_reads_simp
  simp only [bw16_c8, bw16_108, bw16_110, bw16_111, bw16_112, bw16_113, bw16_114, bw16_115]
  try rfl
theorem bw17_c15 : bw17 V main_v48_15 = b115 V := by
  unfold bw17
  after_reads_simp
  simp only [bw16_c8, bw16_108, bw16_110, bw16_111, bw16_112, bw16_113, bw16_114, bw16_115]
  try rfl
theorem bw17_c2 : bw17 V main_v48_2 = V main_v48_2 := (kp bwdOps16_writes).trans (bw16_c2 V)
theorem bw17_c3 : bw17 V main_v48_3 = V main_v48_3 := (kp bwdOps16_writes).trans (bw16_c3 V)
theorem bw17_c4 : bw17 V main_v48_4 = V main_v48_4 := (kp bwdOps16_writes).trans (bw16_c4 V)
theorem bw17_c5 : bw17 V main_v48_5 = V main_v48_5 := (kp bwdOps16_writes).trans (bw16_c5 V)
theorem bw17_c6 : bw17 V main_v48_6 = V main_v48_6 := (kp bwdOps16_writes).trans (bw16_c6 V)
theorem bw17_c7 : bw17 V main_v48_7 = V main_v48_7 := (kp bwdOps16_writes).trans (bw16_c7 V)
theorem bw17_c9 : bw17 V main_v48_9 = b108 V := by
  unfold bw17
  after_reads_simp
  simp only [bw16_c8, bw16_108, bw16_110, bw16_111, bw16_112, bw16_113, bw16_114, bw16_115]
  try rfl

theorem bwdBody_0 : afterL bwdBody V main_v48_0 = V main_v48_0 := bw17_c0 V
theorem bwdBody_1 : afterL bwdBody V main_v48_1 = V main_v48_1 := bw17_c1 V
theorem bwdBody_2 : afterL bwdBody V main_v48_2 = V main_v48_2 := bw17_c2 V
theorem bwdBody_3 : afterL bwdBody V main_v48_3 = V main_v48_3 := bw17_c3 V
theorem bwdBody_4 : afterL bwdBody V main_v48_4 = V main_v48_4 := bw17_c4 V
theorem bwdBody_5 : afterL bwdBody V main_v48_5 = V main_v48_5 := bw17_c5 V
theorem bwdBody_6 : afterL bwdBody V main_v48_6 = V main_v48_6 := bw17_c6 V
theorem bwdBody_7 : afterL bwdBody V main_v48_7 = V main_v48_7 := bw17_c7 V
theorem bwdBody_9 : afterL bwdBody V main_v48_9 = b108 V := bw17_c9 V
theorem bwdBody_10 : afterL bwdBody V main_v48_10 = b110 V := bw17_c10 V
theorem bwdBody_11 : afterL bwdBody V main_v48_11 = b111 V := bw17_c11 V
theorem bwdBody_12 : afterL bwdBody V main_v48_12 = b112 V := bw17_c12 V
theorem bwdBody_13 : afterL bwdBody V main_v48_13 = b113 V := bw17_c13 V
theorem bwdBody_14 : afterL bwdBody V main_v48_14 = b114 V := bw17_c14 V
theorem bwdBody_15 : afterL bwdBody V main_v48_15 = b115 V := bw17_c15 V
theorem bwdCond_0 : after bwdCond V main_v48_0 = V main_v48_0 := kp bwdCond_writes
theorem bwdCond_1 : after bwdCond V main_v48_1 = V main_v48_1 := kp bwdCond_writes
theorem bwdCond_2 : after bwdCond V main_v48_2 = V main_v48_2 := kp bwdCond_writes
theorem bwdCond_3 : after bwdCond V main_v48_3 = V main_v48_3 := kp bwdCond_writes
theorem bwdCond_4 : after bwdCond V main_v48_4 = V main_v48_4 := kp bwdCond_writes
theorem bwdCond_5 : after bwdCond V main_v48_5 = V main_v48_5 := kp bwdCond_writes
theorem bwdCond_6 : after bwdCond V main_v48_6 = V main_v48_6 := kp bwdCond_writes
theorem bwdCond_7 : after bwdCond V main_v48_7 = V main_v48_7 := kp bwdCond_writes
theorem bwdCond_8 : after bwdCond V main_v48_8 = V main_v48_8 := kp bwdCond_writes
theorem bwdCond_9 : after bwdCond V main_v48_9 = V main_v48_9 := kp bwdCond_writes
theorem bwdCond_10 : after bwdCond V main_v48_10 = V main_v48_10 := kp bwdCond_writes
theorem bwdCond_11 : after bwdCond V main_v48_11 = V main_v48_11 := kp bwdCond_writes
theorem bwdCond_12 : after bwdCond V main_v48_12 = V main_v48_12 := kp bwdCond_writes
theorem bwdCond_13 : after bwdCond V main_v48_13 = V main_v48_13 := kp bwdCond_writes
theorem bwdCond_14 : after bwdCond V main_v48_14 = V main_v48_14 := kp bwdCond_writes
theorem bwdCond_15 : after bwdCond V main_v48_15 = V main_v48_15 := kp bwdCond_writes

end Cert.ReferenceIdeal.Own
-- ==== Proof.RefTile.lean ====
/- One trip of either loop over the ideal reals, at an index: what the slices read and the updates leave, and the values computed. -/
module

public import proofs.«01_k».proof.Proof.RefRead
public import Idealize.ShloMosaic.Lib.Pipeline.ValueKit

@[expose] public section

noncomputable section

namespace Cert.ReferenceIdeal.Own

open Idealize.ShloMosaic Idealize.ShloMosaic.TcCoe Idealize.ShloMosaic.Tactic
open Idealize.SL.Sem Idealize.ShloMosaic.StableHlo

/-- An array's entry. -/
abbrev rd (s : Shape) (x : C Ideal s) (j : s.Idx) : EReal := x j

/-- A cut's or an update's start, when only the first axis has a given one. -/
abbrev at5 (i : CI Ideal) : Fin 5 → Int := fun k => ((![i, constantI S_ 32 0#32, constantI S_ 32 0#32, constantI S_ 32 0#32, constantI S_ 32 0#32] : Fin 5 → CI Ideal) k (Shape.Idx.first h_S_)).toInt
abbrev at4 (i : CI Ideal) : Fin 4 → Int := fun k => ((![i, constantI S_ 32 0#32, constantI S_ 32 0#32, constantI S_ 32 0#32] : Fin 4 → CI Ideal) k (Shape.Idx.first h_S_)).toInt

section
variable (i : CI Ideal) (k : Fin 32) (hi : i (Shape.Idx.first h_S_) = BitVec.ofNat 32 k.val)
include hi

theorem toInt_at : (i (Shape.Idx.first h_S_)).toInt = k.val := by
  rw [hi]; exact (by decide : ∀ n : Fin 32, (BitVec.ofNat 32 n.val).toInt = n.val) k

theorem pick_at (x : C Ideal S32x4x6x64x128) (j : S4x6x64x128.Idx) : pick x i j = x (ix5 k (j 0) (j 1) (j 2) (j 3)) := by
  have e0 : Host.clampedStart _ _ sliceFits_S32x4x6x64x128_S1x4x6x64x128.1 (at5 i) 0 = k.val :=
    Host.clampedStart_of_le _ _ _ _ (toInt_at i k hi) (by show k.val + 1 ≤ 32; omega)
  have e1 : Host.clampedStart _ _ sliceFits_S32x4x6x64x128_S1x4x6x64x128.1 (at5 i) 1 = 0 :=
    Host.clampedStart_of_le _ _ _ _ (rfl) (by decide)
  have e2 : Host.clampedStart _ _ sliceFits_S32x4x6x64x128_S1x4x6x64x128.1 (at5 i) 2 = 0 :=
    Host.clampedStart_of_le _ _ _ _ (rfl) (by decide)
  have e3 : Host.clampedStart _ _ sliceFits_S32x4x6x64x128_S1x4x6x64x128.1 (at5 i) 3 = 0 :=
    Host.clampedStart_of_le _ _ _ _ (rfl) (by decide)
  have e4 : Host.clampedStart _ _ sliceFits_S32x4x6x64x128_S1x4x6x64x128.1 (at5 i) 4 = 0 :=
    Host.clampedStart_of_le _ _ _ _ (rfl) (by decide)
  pointwise [pick]
  simp only [e0, e1, e2, e3, e4, Nat.zero_add, Nat.add_zero]
  try rfl

theorem pick_0_at (x : C Ideal S32x4x6x64x64) (j : S4x6x64x64.Idx) : pick_0 x i j = x (ix5 k (j 0) (j 1) (j 2) (j 3)) := by
  have e0 : Host.clampedStart _ _ sliceFits_S32x4x6x64x64_S1x4x6x64x64.1 (at5 i) 0 = k.val :=
    Host.clampedStart_of_le _ _ _ _ (toInt_at i k hi) (by show k.val + 1 ≤ 32; omega)
  have e1 : Host.clampedStart _ _ sliceFits_S32x4x6x64x64_S1x4x6x64x64.1 (at5 i) 1 = 0 :=
    Host.clampedStart_of_le _ _ _ _ (rfl) (by decide)
  have e2 : Host.clampedStart _ _ sliceFits_S32x4x6x64x64_S1x4x6x64x64.1 (at5 i) 2 = 0 :=
    Host.clampedStart_of_le _ _ _ _ (rfl) (by decide)
  have e3 : Host.clampedStart _ _ sliceFits_S32x4x6x64x64_S1x4x6x64x64.1 (at5 i) 3 = 0 :=
    Host.clampedStart_of_le _ _ _ _ (rfl) (by decide)
  have e4 : Host.clampedStart _ _ sliceFits_S32x4x6x64x64_S1x4x6x64x64.1 (at5 i) 4 = 0 :=
    Host.clampedStart_of_le _ _ _ _ (rfl) (by decide)
  pointwise [pick_0]
  simp only [e0, e1, e2, e3, e4, Nat.zero_add, Nat.add_zero]
  try rfl

theorem pick_1_at (x : C Ideal S32x4x6x128) (j : S4x6x128.Idx) : pick_1 x i j = x (ix4 k (j 0) (j 1) (j 2)) := by
  have e0 : Host.clampedStart _ _ sliceFits_S32x4x6x128_S1x4x6x128.1 (at4 i) 0 = k.val :=
    Host.clampedStart_of_le _ _ _ _ (toInt_at i k hi) (by show k.val + 1 ≤ 32; omega)
  have e1 : Host.clampedStart _ _ sliceFits_S32x4x6x128_S1x4x6x128.1 (at4 i) 1 = 0 :=
    Host.clampedStart_of_le _ _ _ _ (rfl) (by decide)
  have e2 : Host.clampedStart _ _ sliceFits_S32x4x6x128_S1x4x6x128.1 (at4 i) 2 = 0 :=
    Host.clampedStart_of_le _ _ _ _ (rfl) (by decide)
  have e3 : Host.clampedStart _ _ sliceFits_S32x4x6x128_S1x4x6x128.1 (at4 i) 3 = 0 :=
    Host.clampedStart_of_le _ _ _ _ (rfl) (by decide)
  pointwise [pick_1]
  simp only [e0, e1, e2, e3, Nat.zero_add, Nat.add_zero]
  try rfl

theorem pick_4_at (x : C Ideal S32x4x6x128x128) (j : S4x6x128x128.Idx) : pick_4 x i j = x (ix5 k (j 0) (j 1) (j 2) (j 3)) := by
  have e0 : Host.clampedStart _ _ sliceFits_S32x4x6x128x128_S1x4x6x128x128.1 (at5 i) 0 = k.val :=
    Host.clampedStart_of_le _ _ _ _ (toInt_at i k hi) (by show k.val + 1 ≤ 32; omega)
  have e1 : Host.clampedStart _ _ sliceFits_S32x4x6x128x128_S1x4x6x128x128.1 (at5 i) 1 = 0 :=
    Host.clampedStart_of_le _ _ _ _ (rfl) (by decide)
  have e2 : Host.clampedStart _ _ sliceFits_S32x4x6x128x128_S1x4x6x128x128.1 (at5 i) 2 = 0 :=
    Host.clampedStart_of_le _ _ _ _ (rfl) (by decide)
  have e3 : Host.clampedStart _ _ sliceFits_S32x4x6x128x128_S1x4x6x128x128.1 (at5 i) 3 = 0 :=
    Host.clampedStart_of_le _ _ _ _ (rfl) (by decide)
  have e4 : Host.clampedStart _ _ sliceFits_S32x4x6x128x128_S1x4x6x128x128.1 (at5 i) 4 = 0 :=
    Host.clampedStart_of_le _ _ _ _ (rfl) (by decide)
  pointwise [pick_4]
  simp only [e0, e1, e2, e3, e4, Nat.zero_add, Nat.add_zero]
  try rfl

theorem pick_5_at (x : C Ideal S32x4x6x1x128) (j : S4x6x1x128.Idx) : pick_5 x i j = x (ix5 k (j 0) (j 1) 0 (j 3)) := by
  have e0 : Host.clampedStart _ _ sliceFits_S32x4x6x1x128_S1x4x6x1x128.1 (at5 i) 0 = k.val :=
    Host.clampedStart_of_le _ _ _ _ (toInt_at i k hi) (by show k.val + 1 ≤ 32; omega)
  have e1 : Host.clampedStart _ _ sliceFits_S32x4x6x1x128_S1x4x6x1x128.1 (at5 i) 1 = 0 :=
    Host.clampedStart_of_le _ _ _ _ (rfl) (by decide)
  have e2 : Host.clampedStart _ _ sliceFits_S32x4x6x1x128_S1x4x6x1x128.1 (at5 i) 2 = 0 :=
    Host.clampedStart_of_le _ _ _ _ (rfl) (by decide)
  have e3 : Host.clampedStart _ _ sliceFits_S32x4x6x1x128_S1x4x6x1x128.1 (at5 i) 3 = 0 :=
    Host.clampedStart_of_le _ _ _ _ (rfl) (by decide)
  have e4 : Host.clampedStart _ _ sliceFits_S32x4x6x1x128_S1x4x6x1x128.1 (at5 i) 4 = 0 :=
    Host.clampedStart_of_le _ _ _ _ (rfl) (by decide)
  pointwise [pick_5]
  simp only [e0, e1, e2, e3, e4, Nat.zero_add, Nat.add_zero]
  try rfl

theorem put_at (x : C Ideal S32x4x6x64x128) (y : C Ideal S4x6x64x128) (j : S32x4x6x64x128.Idx) : put x y i j = if (j 0).val = k.val then y (ix4 (j 1) (j 2) (j 3) (j 4)) else x j := by
  have e0 : Host.clampedStart S32x4x6x64x128 S1x4x6x64x128 updateFits_S32x4x6x64x128_S1x4x6x64x128.1 (at5 i) 0 = k.val :=
    Host.clampedStart_of_le _ _ _ _ (toInt_at i k hi) (by show k.val + 1 ≤ 32; omega)
  have e1 : Host.clampedStart S32x4x6x64x128 S1x4x6x64x128 updateFits_S32x4x6x64x128_S1x4x6x64x128.1 (at5 i) 1 = 0 :=
    Host.clampedStart_of_le _ _ _ _ (rfl) (by decide)
  have e2 : Host.clampedStart S32x4x6x64x128 S1x4x6x64x128 updateFits_S32x4x6x64x128_S1x4x6x64x128.1 (at5 i) 2 = 0 :=
    Host.clampedStart_of_le _ _ _ _ (rfl) (by decide)
  have e3 : Host.clampedStart S32x4x6x64x128 S1x4x6x64x128 updateFits_S32x4x6x64x128_S1x4x6x64x128.1 (at5 i) 3 = 0 :=
    Host.clampedStart_of_le _ _ _ _ (rfl) (by decide)
  have e4 : Host.clampedStart S32x4x6x64x128 S1x4x6x64x128 updateFits_S32x4x6x64x128_S1x4x6x64x128.1 (at5 i) 4 = 0 :=
    Host.clampedStart_of_le _ _ _ _ (rfl) (by decide)
  pointwise [put]
  simp only [e0, e1, e2, e3, e4, Nat.zero_le, Nat.sub_zero, true_and, and_true]
  by_cases h : (j 0).val = k.val
  · rw [if_pos h, dif_pos ⟨by omega, by omega⟩]; rfl
  · rw [if_neg h, dif_neg fun q => h (by have := q.1; have := q.2; omega)]

theorem put_2_at (x : C Ideal S32x4x6x128x128) (y : C Ideal S4x6x128x128) (j : S32x4x6x128x128.Idx) : put_2 x y i j = if (j 0).val = k.val then y (ix4 (j 1) (j 2) (j 3) (j 4)) else x j := by
  have e0 : Host.clampedStart S32x4x6x128x128 S1x4x6x128x128 updateFits_S32x4x6x128x128_S1x4x6x128x128.1 (at5 i) 0 = k.val :=
    Host.clampedStart_of_le _ _ _ _ (toInt_at i k hi) (by show k.val + 1 ≤ 32; omega)
  have e1 : Host.clampedStart S32x4x6x128x128 S1x4x6x128x128 updateFits_S32x4x6x128x128_S1x4x6x128x128.1 (at5 i) 1 = 0 :=
    Host.clampedStart_of_le _ _ _ _ (rfl) (by decide)
  have e2 : Host.clampedStart S32x4x6x128x128 S1x4x6x128x128 updateFits_S32x4x6x128x128_S1x4x6x128x128.1 (at5 i) 2 = 0 :=
    Host.clampedStart_of_le _ _ _ _ (rfl) (by decide)
  have e3 : Host.clampedStart S32x4x6x128x128 S1x4x6x128x128 updateFits_S32x4x6x128x128_S1x4x6x128x128.1 (at5 i) 3 = 0 :=
    Host.clampedStart_of_le _ _ _ _ (rfl) (by decide)
  have e4 : Host.clampedStart S32x4x6x128x128 S1x4x6x128x128 updateFits_S32x4x6x128x128_S1x4x6x128x128.1 (at5 i) 4 = 0 :=
    Host.clampedStart_of_le _ _ _ _ (rfl) (by decide)
  pointwise [put_2]
  simp only [e0, e1, e2, e3, e4, Nat.zero_le, Nat.sub_zero, true_and, and_true]
  by_cases h : (j 0).val = k.val
  · rw [if_pos h, dif_pos ⟨by omega, by omega⟩]; rfl
  · rw [if_neg h, dif_neg fun q => h (by have := q.1; have := q.2; omega)]

theorem put_3_at (x : C Ideal S32x4x6x1x128) (y : C Ideal S4x6x1x128) (j : S32x4x6x1x128.Idx) : put_3 x y i j = if (j 0).val = k.val then y (ix4 (j 1) (j 2) 0 (j 4)) else x j := by
  have e0 : Host.clampedStart S32x4x6x1x128 S1x4x6x1x128 updateFits_S32x4x6x1x128_S1x4x6x1x128.1 (at5 i) 0 = k.val :=
    Host.clampedStart_of_le _ _ _ _ (toInt_at i k hi) (by show k.val + 1 ≤ 32; omega)
  have e1 : Host.clampedStart S32x4x6x1x128 S1x4x6x1x128 updateFits_S32x4x6x1x128_S1x4x6x1x128.1 (at5 i) 1 = 0 :=
    Host.clampedStart_of_le _ _ _ _ (rfl) (by decide)
  have e2 : Host.clampedStart S32x4x6x1x128 S1x4x6x1x128 updateFits_S32x4x6x1x128_S1x4x6x1x128.1 (at5 i) 2 = 0 :=
    Host.clampedStart_of_le _ _ _ _ (rfl) (by decide)
  have e3 : Host.clampedStart S32x4x6x1x128 S1x4x6x1x128 updateFits_S32x4x6x1x128_S1x4x6x1x128.1 (at5 i) 3 = 0 :=
    Host.clampedStart_of_le _ _ _ _ (rfl) (by decide)
  have e4 : Host.clampedStart S32x4x6x1x128 S1x4x6x1x128 updateFits_S32x4x6x1x128_S1x4x6x1x128.1 (at5 i) 4 = 0 :=
    Host.clampedStart_of_le _ _ _ _ (rfl) (by decide)
  pointwise [put_3]
  simp only [e0, e1, e2, e3, e4, Nat.zero_le, Nat.sub_zero, true_and, and_true]
  by_cases h : (j 0).val = k.val
  · rw [if_pos h, dif_pos ⟨by omega, by omega⟩]; rfl
  · rw [if_neg h, dif_neg fun q => h (by have := q.1; have := q.2; omega)]

theorem put_6_at (x : C Ideal S32x4x6x64x64) (y : C Ideal S4x6x64x64) (j : S32x4x6x64x64.Idx) : put_6 x y i j = if (j 0).val = k.val then y (ix4 (j 1) (j 2) (j 3) (j 4)) else x j := by
  have e0 : Host.clampedStart S32x4x6x64x64 S1x4x6x64x64 updateFits_S32x4x6x64x64_S1x4x6x64x64.1 (at5 i) 0 = k.val :=
    Host.clampedStart_of_le _ _ _ _ (toInt_at i k hi) (by show k.val + 1 ≤ 32; omega)
  have e1 : Host.clampedStart S32x4x6x64x64 S1x4x6x64x64 updateFits_S32x4x6x64x64_S1x4x6x64x64.1 (at5 i) 1 = 0 :=
    Host.clampedStart_of_le _ _ _ _ (rfl) (by decide)
  have e2 : Host.clampedStart S32x4x6x64x64 S1x4x6x64x64 updateFits_S32x4x6x64x64_S1x4x6x64x64.1 (at5 i) 2 = 0 :=
    Host.clampedStart_of_le _ _ _ _ (rfl) (by decide)
  have e3 : Host.clampedStart S32x4x6x64x64 S1x4x6x64x64 updateFits_S32x4x6x64x64_S1x4x6x64x64.1 (at5 i) 3 = 0 :=
    Host.clampedStart_of_le _ _ _ _ (rfl) (by decide)
  have e4 : Host.clampedStart S32x4x6x64x64 S1x4x6x64x64 updateFits_S32x4x6x64x64_S1x4x6x64x64.1 (at5 i) 4 = 0 :=
    Host.clampedStart_of_le _ _ _ _ (rfl) (by decide)
  pointwise [put_6]
  simp only [e0, e1, e2, e3, e4, Nat.zero_le, Nat.sub_zero, true_and, and_true]
  by_cases h : (j 0).val = k.val
  · rw [if_pos h, dif_pos ⟨by omega, by omega⟩]; rfl
  · rw [if_neg h, dif_neg fun q => h (by have := q.1; have := q.2; omega)]

theorem put_7_at (x : C Ideal S32x4x6x128) (y : C Ideal S4x6x128) (j : S32x4x6x128.Idx) : put_7 x y i j = if (j 0).val = k.val then y (ix3 (j 1) (j 2) (j 3)) else x j := by
  have e0 : Host.clampedStart S32x4x6x128 S1x4x6x128 updateFits_S32x4x6x128_S1x4x6x128.1 (at4 i) 0 = k.val :=
    Host.clampedStart_of_le _ _ _ _ (toInt_at i k hi) (by show k.val + 1 ≤ 32; omega)
  have e1 : Host.clampedStart S32x4x6x128 S1x4x6x128 updateFits_S32x4x6x128_S1x4x6x128.1 (at4 i) 1 = 0 :=
    Host.clampedStart_of_le _ _ _ _ (rfl) (by decide)
  have e2 : Host.clampedStart S32x4x6x128 S1x4x6x128 updateFits_S32x4x6x128_S1x4x6x128.1 (at4 i) 2 = 0 :=
    Host.clampedStart_of_le _ _ _ _ (rfl) (by decide)
  have e3 : Host.clampedStart S32x4x6x128 S1x4x6x128 updateFits_S32x4x6x128_S1x4x6x128.1 (at4 i) 3 = 0 :=
    Host.clampedStart_of_le _ _ _ _ (rfl) (by decide)
  pointwise [put_7]
  simp only [e0, e1, e2, e3, Nat.zero_le, Nat.sub_zero, true_and, and_true]
  by_cases h : (j 0).val = k.val
  · rw [if_pos h, dif_pos ⟨by omega, by omega⟩]; rfl
  · rw [if_neg h, dif_neg fun q => h (by have := q.1; have := q.2; omega)]

end

/-- A trip's counter, and the chunk the backward loop takes. -/
theorem iv_at : ∀ n : Fin 32, Scf.iv 0#32 1#32 n.val = BitVec.ofNat 32 n.val := by decide
theorem riv_at : ∀ n : Fin 32, 32#32 - Scf.iv 0#32 1#32 n.val - 1#32 = BitVec.ofNat 32 (31 - n.val) := by decide

variable (V : Valuation τ sig (Elt Ideal))

section
variable (k : Fin 32) (hi : V (Proc.devRef .tc main_v33_6) = fun _ => Scf.iv 0#32 1#32 k.val)
include hi

theorem f_ctr : (V (Proc.devRef .tc main_v33_6) : CI Ideal) (Shape.Idx.first h_S_) = BitVec.ofNat 32 k.val := by
  rw [hi]; exact iv_at k

theorem f77_at (j : S4x6x64x128.Idx) : f77 V j = V main_v33_0 (ix5 k (j 0) (j 1) (j 2) (j 3)) := pick_at _ k (f_ctr V k hi) _ j
theorem f78_at (j : S4x6x64x128.Idx) : f78 V j = V main_v33_1 (ix5 k (j 0) (j 1) (j 2) (j 3)) := pick_at _ k (f_ctr V k hi) _ j
theorem f79_at (j : S4x6x64x128.Idx) : f79 V j = V main_v33_2 (ix5 k (j 0) (j 1) (j 2) (j 3)) := pick_at _ k (f_ctr V k hi) _ j
theorem f80_at (j : S4x6x64x128.Idx) : f80 V j = V main_v33_3 (ix5 k (j 0) (j 1) (j 2) (j 3)) := pick_at _ k (f_ctr V k hi) _ j
theorem f81_at (j : S4x6x64x64.Idx) : f81 V j = V main_v33_4 (ix5 k (j 0) (j 1) (j 2) (j 3)) := pick_0_at _ k (f_ctr V k hi) _ j
theorem f82_at (j : S4x6x128.Idx) : f82 V j = V main_v33_5 (ix4 k (j 0) (j 1) (j 2)) := pick_1_at _ k (f_ctr V k hi) _ j

/-- The chunk's new values, -/
theorem f84_at (j : S4x6x64x128.Idx) : f84 V j = rd S32x4x6x64x128 (V main_v33_0) (ix5 k (j 0) (j 1) (j 2) (j 3))
    - ∑ x : Fin 128, rd S32x4x6x64x128 (V main_v33_1) (ix5 k (j 0) (j 1) (j 2) x) * rd S4x6x128x128 (V main_v33_7) (ix4 (j 0) (j 1) x (j 3)) := by
  pointwise [f84, f83]
  simp only [f77_at V k hi, f78_at V k hi]
  try rfl
/-- its output rows, -/
theorem f87_at (j : S4x6x64x128.Idx) : f87 V j = (∑ x : Fin 128, rd S32x4x6x64x128 (V main_v33_2) (ix5 k (j 0) (j 1) (j 2) x) * rd S4x6x128x128 (V main_v33_7) (ix4 (j 0) (j 1) x (j 3)))
    + ∑ c : Fin 64, rd S32x4x6x64x64 (V main_v33_4) (ix5 k (j 0) (j 1) (j 2) c) * rd S4x6x64x128 (f84 V) (ix4 (j 0) (j 1) c (j 3)) := by
  pointwise [f87, f86, f85]
  simp only [f79_at V k hi, f81_at V k hi]
  try rfl
/-- its decay, -/
theorem f88_at (j : S4x6x1x128.Idx) : f88 V j = rd S32x4x6x128 (V main_v33_5) (ix4 k (j 0) (j 1) (j 3)) := by
  pointwise [f88]
  simp only [f82_at V k hi]
  try rfl
/-- and the state after it. -/
theorem f92_at (j : S4x6x128x128.Idx) : f92 V j = rd S4x6x128x128 (V main_v33_7) j * rd S32x4x6x128 (V main_v33_5) (ix4 k (j 0) (j 1) (j 3))
    + ∑ c : Fin 64, rd S32x4x6x64x128 (V main_v33_3) (ix5 k (j 0) (j 1) c (j 2)) * rd S4x6x64x128 (f84 V) (ix4 (j 0) (j 1) c (j 3)) := by
  pointwise [f92, f91, f90, f89, f88]
  simp only [f82_at V k hi, f80_at V k hi]
  try rfl
end

section
variable (n k : Fin 32) (hk : k.val = 31 - n.val) (hi : V (Proc.devRef .tc main_v48_8) = fun _ => Scf.iv 0#32 1#32 n.val)
include hk hi

theorem b_ctr : (b78 V) (Shape.Idx.first h_S_) = BitVec.ofNat 32 k.val := by
  show 32#32 - (V (Proc.devRef .tc main_v48_8) : CI Ideal) (Shape.Idx.first h_S_) - 1#32 = _
  rw [hi, hk]; exact riv_at n

theorem b79_at (j : S4x6x64x128.Idx) : b79 V j = V main_v48_0 (ix5 k (j 0) (j 1) (j 2) (j 3)) := pick_at _ k (b_ctr V n k hk hi) _ j
theorem b80_at (j : S4x6x128x128.Idx) : b80 V j = V main_v48_1 (ix5 k (j 0) (j 1) (j 2) (j 3)) := pick_4_at _ k (b_ctr V n k hk hi) _ j
theorem b81_at (j : S4x6x64x128.Idx) : b81 V j = V main_v48_2 (ix5 k (j 0) (j 1) (j 2) (j 3)) := pick_at _ k (b_ctr V n k hk hi) _ j
theorem b82_at (j : S4x6x64x128.Idx) : b82 V j = V main_v48_3 (ix5 k (j 0) (j 1) (j 2) (j 3)) := pick_at _ k (b_ctr V n k hk hi) _ j
theorem b83_at (j : S4x6x64x128.Idx) : b83 V j = V main_v48_4 (ix5 k (j 0) (j 1) (j 2) (j 3)) := pick_at _ k (b_ctr V n k hk hi) _ j
theorem b84_at (j : S4x6x64x64.Idx) : b84 V j = V main_v48_5 (ix5 k (j 0) (j 1) (j 2) (j 3)) := pick_0_at _ k (b_ctr V n k hk hi) _ j
theorem b85_at (j : S4x6x1x128.Idx) : b85 V j = V main_v48_6 (ix5 k (j 0) (j 1) 0 (j 3)) := pick_5_at _ k (b_ctr V n k hk hi) _ j
theorem b86_at (j : S4x6x64x128.Idx) : b86 V j = V main_v48_7 (ix5 k (j 0) (j 1) (j 2) (j 3)) := pick_at _ k (b_ctr V n k hk hi) _ j

/-- The cotangents of the chunk's values, -/
theorem b99_at (j : S4x6x64x128.Idx) : b99 V j = (∑ x : Fin 128, rd S4x6x128x128 (V main_v48_9) (ix4 (j 0) (j 1) x (j 3)) * rd S32x4x6x64x128 (V main_v48_7) (ix5 k (j 0) (j 1) (j 2) x))
    + ∑ c : Fin 64, rd S32x4x6x64x128 (V main_v48_0) (ix5 k (j 0) (j 1) c (j 3)) * rd S32x4x6x64x64 (V main_v48_5) (ix5 k (j 0) (j 1) c (j 2)) := by
  pointwise [b99, b98, b97, b88, b87]
  simp only [b79_at V n k hk hi, b84_at V n k hk hi, b86_at V n k hk hi]
  first | rfl | exact Fintype.sum_subsingleton _ (0 : Fin 1)
/-- of `w`, -/
theorem b109_at (j : S4x6x64x128.Idx) : b109 V j = ∑ e : Fin 128, -(rd S4x6x64x128 (b99 V) (ix4 (j 0) (j 1) (j 2) e)) * rd S32x4x6x128x128 (V main_v48_1) (ix5 k (j 0) (j 1) (j 3) e) := by
  pointwise [b109, b105]
  simp only [b80_at V n k hk hi]
  first | rfl | exact Fintype.sum_subsingleton _ (0 : Fin 1)
/-- of the queries, -/
theorem b104_at (j : S4x6x64x128.Idx) : b104 V j = ∑ e : Fin 128, rd S32x4x6x64x128 (V main_v48_0) (ix5 k (j 0) (j 1) (j 2) e) * rd S32x4x6x128x128 (V main_v48_1) (ix5 k (j 0) (j 1) (j 3) e) := by
  pointwise [b104]
  simp only [b79_at V n k hk hi, b80_at V n k hk hi]
  first | rfl | exact Fintype.sum_subsingleton _ (0 : Fin 1)
/-- of the keys, -/
theorem b90_at (j : S4x6x64x128.Idx) : b90 V j = ∑ e : Fin 128, rd S4x6x128x128 (V main_v48_9) (ix4 (j 0) (j 1) (j 3) e) * rd S32x4x6x64x128 (V main_v48_4) (ix5 k (j 0) (j 1) (j 2) e) := by
  pointwise [b90, b89]
  simp only [b83_at V n k hk hi]
  first | rfl | exact Fintype.sum_subsingleton _ (0 : Fin 1)
/-- of the matrix, -/
theorem b100_at (j : S4x6x64x64.Idx) : b100 V j = ∑ e : Fin 128, rd S32x4x6x64x128 (V main_v48_0) (ix5 k (j 0) (j 1) (j 2) e) * rd S32x4x6x64x128 (V main_v48_4) (ix5 k (j 0) (j 1) (j 3) e) := by
  pointwise [b100]
  simp only [b79_at V n k hk hi, b83_at V n k hk hi]
  first | rfl | exact Fintype.sum_subsingleton _ (0 : Fin 1)
/-- of the decay, -/
theorem b96_at (j : S4x6x128.Idx) : b96 V j = ∑ d : Fin 128, rd S32x4x6x128x128 (V main_v48_1) (ix5 k (j 0) (j 1) d (j 2)) * rd S4x6x128x128 (V main_v48_9) (ix4 (j 0) (j 1) d (j 2)) := by
  pointwise [b96, b93, b92, b91, bcst_31, bcst_32]
  simp only [b80_at V n k hk hi]
  first | rfl | exact Fintype.sum_subsingleton _ (0 : Fin 1)
/-- and of the state before it. -/
theorem b108_at (j : S4x6x128x128.Idx) : b108 V j = rd S4x6x128x128 (V main_v48_9) j * rd S32x4x6x1x128 (V main_v48_6) (ix5 k (j 0) (j 1) 0 (j 3)) + (∑ c : Fin 64, rd S32x4x6x64x128 (V main_v48_0) (ix5 k (j 0) (j 1) c (j 3)) * rd S32x4x6x64x128 (V main_v48_3) (ix5 k (j 0) (j 1) c (j 2)))
    + ∑ c : Fin 64, -(rd S4x6x64x128 (b99 V) (ix4 (j 0) (j 1) c (j 3))) * rd S32x4x6x64x128 (V main_v48_2) (ix5 k (j 0) (j 1) c (j 2)) := by
  pointwise [b108, b107, b106, b103, b105, b102, b101, b95, b94]
  simp only [b79_at V n k hk hi, b82_at V n k hk hi, b85_at V n k hk hi, b81_at V n k hk hi]
  first | rfl | exact Fintype.sum_subsingleton _ (0 : Fin 1)
end

end Cert.ReferenceIdeal.Own

end
-- ==== Proof.RefIdx.lean ====
/- What the reference's cuts and joins of its arrays read at an index. -/
module

public import proofs.«01_k».proof.Proof.RefSetup
public import proofs.«01_k».proof.Proof.RefTile
public import proofs.«01_k».proof.Proof.GdnGoal
public import Idealize.ShloMosaic.Lib.Pipeline.ValueKit
public import Idealize.ShloMosaic.Lib.KernelVsHost

@[expose] public section

set_option maxRecDepth 16384

noncomputable section

namespace Cert.ReferenceIdeal.Own

open Idealize.ShloMosaic Idealize.ShloMosaic.TcCoe Idealize.ShloMosaic.Tactic
open Idealize.SL.Sem Idealize.ShloMosaic.StableHlo
open Cert.KernelIdeal.Scan (ch chA fr en noS rows rowsA St Sv Dt tO tU tW tQ tK tA tG stepS stepO stepS_at stepO_at saved_at gU gS gU_at gW_at gQ_at gK_at gA_at gG_at gS_at)

section
variable (x : C Ideal S8192x768) (xa : C Ideal S6x8192x64) (z : C Ideal S32x4x6x64x128) (za : C Ideal S32x4x6x64x64) (y y' : C Ideal S32x4x6x128)
  (i : Fin 32) (b : Fin 4) (h : Fin 6)

theorem toC_at (j : S32x4x6x64x128.Idx) : toC x j = x (ix2 ⟨(j 1).val * 2048 + (j 0).val * 64 + (j 3).val, by
    have h0 : (j 0).val < 32 := (j 0).isLt; have h1 : (j 1).val < 4 := (j 1).isLt; have h3 : (j 3).val < 64 := (j 3).isLt; omega⟩
    ⟨(j 2).val * 128 + (j 4).val, by have h2 : (j 2).val < 6 := (j 2).isLt; have h4 : (j 4).val < 128 := (j 4).isLt; omega⟩) := by
  pointwise [toC]
theorem toO_at (j : S32x4x6x64x128.Idx) : toO x j = x (ix2 ⟨(j 1).val * 2048 + (j 0).val * 64 + (j 3).val, by
    have h0 : (j 0).val < 32 := (j 0).isLt; have h1 : (j 1).val < 4 := (j 1).isLt; have h3 : (j 3).val < 64 := (j 3).isLt; omega⟩
    ⟨(j 2).val * 128 + (j 4).val, by have h2 : (j 2).val < 6 := (j 2).isLt; have h4 : (j 4).val < 128 := (j 4).isLt; omega⟩) := by
  pointwise [toO]
theorem toA_at (j : S32x4x6x64x64.Idx) : toA xa j = xa (ix3 (j 2) ⟨(j 1).val * 2048 + (j 0).val * 64 + (j 3).val, by
    have h0 : (j 0).val < 32 := (j 0).isLt; have h1 : (j 1).val < 4 := (j 1).isLt; have h3 : (j 3).val < 64 := (j 3).isLt; omega⟩ (j 4)) := by
  pointwise [toA]
theorem decay_at (j : S32x4x6x128.Idx) : decay x j = Ideal.exp (toC x (ix5 (j 0) (j 1) (j 2) 63 (j 3))) := by
  pointwise [decay]
theorem zeroS_at (j : S4x6x128x128.Idx) : (zeroS : C Ideal S4x6x128x128) j = (0 : EReal) := by
  pointwise [zeroS]
theorem ofC_at (j : S8192x768.Idx) : ofC z j = z (ix5 ⟨(j 0).val / 64 % 32, Nat.mod_lt _ (by decide)⟩
    ⟨(j 0).val / 2048, by have h0 : (j 0).val < 8192 := (j 0).isLt; omega⟩ ⟨(j 1).val / 128, by have h1 : (j 1).val < 768 := (j 1).isLt; omega⟩
    ⟨(j 0).val % 64, Nat.mod_lt _ (by decide)⟩ ⟨(j 1).val % 128, Nat.mod_lt _ (by decide)⟩) := by
  pointwise [ofC]
theorem ofO_at (j : S8192x768.Idx) : ofO z j = z (ix5 ⟨(j 0).val / 64 % 32, Nat.mod_lt _ (by decide)⟩
    ⟨(j 0).val / 2048, by have h0 : (j 0).val < 8192 := (j 0).isLt; omega⟩ ⟨(j 1).val / 128, by have h1 : (j 1).val < 768 := (j 1).isLt; omega⟩
    ⟨(j 0).val % 64, Nat.mod_lt _ (by decide)⟩ ⟨(j 1).val % 128, Nat.mod_lt _ (by decide)⟩) := by
  pointwise [ofO]
theorem ofA_at (j : S6x8192x64.Idx) : ofA za j = za (ix5 ⟨(j 1).val / 64 % 32, Nat.mod_lt _ (by decide)⟩
    ⟨(j 1).val / 2048, by have h0 : (j 1).val < 8192 := (j 1).isLt; omega⟩ (j 0)
    ⟨(j 1).val % 64, Nat.mod_lt _ (by decide)⟩ (j 2)) := by
  pointwise [ofA]
/-- The padded last rows: nothing in the others. -/
theorem lastRow_at (w : C Ideal S32x4x6x128) (p : Fin 64) (e : Fin 128) :
    rd S32x4x6x64x128 (pad S32x4x6x64x128 ![0, 0, 0, 63, 0] ![0, 0, 0, 0, 0] ![0, 0, 0, 0, 0] (broadcastInDim S32x4x6x1x128 ![0, 1, 2, 4]
      bcast_S32x4x6x128_S32x4x6x1x128_0_1_2_4 w) (constant (F := Ideal) S_ .f32 0x00000000#32) pads_S32x4x6x1x128_S32x4x6x64x128_000_000_000_6300_000 h_S_)
      (ix5 i b h p e) = if p.val = 63 then rd S32x4x6x128 w (ix4 i b h e) else 0 := by
  by_cases hp : p.val = 63
  · rw [if_pos hp]
    refine (pad_apply_of_inside _ _ _ _ _ _ _ (ix5 i b h p e) (ix5 i b h 0 e) fun a => ?_).trans ?_
    · fin_cases a
      · show i.val = 0 + i.val * 1; omega
      · show b.val = 0 + b.val * 1; omega
      · show h.val = 0 + h.val * 1; omega
      · show p.val = 63 + 0 * 1; omega
      · show e.val = 0 + e.val * 1; omega
    · pointwise
  · rw [if_neg hp]
    refine (pad_apply_of_not_inside _ _ _ _ _ _ _ (ix5 i b h p e) (3 : Fin 5) fun q => hp ?_).trans ?_
    · have h3 : 63 ≤ p.val := q.1
      have := p.isLt; omega
    · pointwise
theorem ofG_at (j : S8192x768.Idx) : ofG y y' j = if (j 0).val % 64 = 63 then
    rd S32x4x6x128 y (ix4 ⟨(j 0).val / 64 % 32, Nat.mod_lt _ (by decide)⟩ ⟨(j 0).val / 2048, by have h0 : (j 0).val < 8192 := (j 0).isLt; omega⟩
      ⟨(j 1).val / 128, by have h1 : (j 1).val < 768 := (j 1).isLt; omega⟩ ⟨(j 1).val % 128, Nat.mod_lt _ (by decide)⟩)
    * rd S32x4x6x128 y' (ix4 ⟨(j 0).val / 64 % 32, Nat.mod_lt _ (by decide)⟩ ⟨(j 0).val / 2048, by have h0 : (j 0).val < 8192 := (j 0).isLt; omega⟩
      ⟨(j 1).val / 128, by have h1 : (j 1).val < 768 := (j 1).isLt; omega⟩ ⟨(j 1).val % 128, Nat.mod_lt _ (by decide)⟩) else 0 := by

  have H := (ofC_at _ j).trans (lastRow_at ⟨(j 0).val / 64 % 32, Nat.mod_lt _ (by decide)⟩
    ⟨(j 0).val / 2048, by have h0 : (j 0).val < 8192 := (j 0).isLt; omega⟩ ⟨(j 1).val / 128, by have h1 : (j 1).val < 768 := (j 1).isLt; omega⟩
    (mulf (F := Ideal) (s := S32x4x6x128) (φ := .f32) y y') ⟨(j 0).val % 64, Nat.mod_lt _ (by decide)⟩ ⟨(j 1).val % 128, Nat.mod_lt _ (by decide)⟩)
  exact H

/-- A chunk of an array. -/
theorem toC_ix (p : Fin 64) (e : Fin 128) : rd S32x4x6x64x128 (toC x) (ix5 i b h p e) = ch x b h i (ix2 p e) := toC_at x (ix5 i b h p e)
theorem toO_ix (p : Fin 64) (e : Fin 128) : rd S32x4x6x64x128 (toO x) (ix5 i b h p e) = ch x b h i (ix2 p e) := toO_at x (ix5 i b h p e)
theorem toA_ix (p q : Fin 64) : rd S32x4x6x64x64 (toA xa) (ix5 i b h p q) = chA xa b h i (ix3 0 p q) := toA_at xa (ix5 i b h p q)
theorem decay_ix (e : Fin 128) : rd S32x4x6x128 (decay x) (ix4 i b h e) = Ideal.exp (ch x b h i (ix2 63 e)) :=
  (decay_at x (ix4 i b h e)).trans (congrArg Ideal.exp (toC_ix x i b h 63 e))
end

end Cert.ReferenceIdeal.Own

end
-- ==== Proof.RefFwd.lean ====
/- A trip of the reference's forward loop keeps to the chain of states. -/
module

public import proofs.«01_k».proof.Proof.RefTile
public import proofs.«01_k».proof.Proof.GdnGoal

@[expose] public section

set_option maxRecDepth 16384

noncomputable section

namespace Cert.ReferenceIdeal.Own

open Idealize.ShloMosaic Idealize.ShloMosaic.TcCoe Idealize.ShloMosaic.Tactic
open Idealize.SL.Sem Idealize.ShloMosaic.StableHlo
open Cert.KernelIdeal.Scan (ch chA fr en noS rows rowsA St Sv Dt tO tU tW tQ tK tA tG stepS stepO stepS_at stepO_at saved_at gU gS gU_at gW_at gQ_at gK_at gA_at gG_at gS_at)

theorem fr_val (k : Fin 32) : fr k.val = k := Fin.ext (Nat.mod_eq_of_lt k.isLt)

section
variable (u w qd kd : C Ideal S8192x768) (a : C Ideal S6x8192x64) (g o : C Ideal S8192x768)

/-- The chunk's new values. -/
def nv (b : Fin 4) (h : Fin 6) (i : Fin 32) (p : Fin 64) (e : Fin 128) : EReal :=
  ch u b h i (ix2 p e) - ∑ k : Fin 128, ch w b h i (ix2 p k) * St u w kd g b h i.val (ix2 k e)

/-- Before the forward loop's test numbered `n`: the arguments' chunks, the state, and the results of the trips made. -/
structure FInv (V : Valuation τ sig (Elt Ideal)) (n : ℕ) : Prop where
  h0 : ∀ i b h p e, rd S32x4x6x64x128 (V main_v33_0) (ix5 i b h p e) = ch u b h i (ix2 p e)
  h1 : ∀ i b h p e, rd S32x4x6x64x128 (V main_v33_1) (ix5 i b h p e) = ch w b h i (ix2 p e)
  h2 : ∀ i b h p e, rd S32x4x6x64x128 (V main_v33_2) (ix5 i b h p e) = ch qd b h i (ix2 p e)
  h3 : ∀ i b h p e, rd S32x4x6x64x128 (V main_v33_3) (ix5 i b h p e) = ch kd b h i (ix2 p e)
  h4 : ∀ i b h p q, rd S32x4x6x64x64 (V main_v33_4) (ix5 i b h p q) = chA a b h i (ix3 0 p q)
  h5 : ∀ i b h e, rd S32x4x6x128 (V main_v33_5) (ix4 i b h e) = Ideal.exp (ch g b h i (ix2 63 e))
  s : ∀ b h d e, rd S4x6x128x128 (V main_v33_7) (ix4 b h d e) = St u w kd g b h n (ix2 d e)
  r8 : ∀ i : Fin 32, i.val < n → ∀ b h p e, rd S32x4x6x64x128 (V main_v33_8) (ix5 i b h p e) = tO u w qd kd a g i b h (ix2 p e)
  r9 : ∀ i : Fin 32, i.val < n → ∀ b h d e, rd S32x4x6x128x128 (V main_v33_9) (ix5 i b h d e) = St u w kd g b h i.val (ix2 d e)
  r10 : ∀ i : Fin 32, i.val < n → ∀ b h p e, rd S32x4x6x64x128 (V main_v33_10) (ix5 i b h p e) = nv u w kd g b h i p e
  r11 : ∀ i : Fin 32, i.val < n → ∀ b h e, rd S32x4x6x1x128 (V main_v33_11) (ix5 i b h 0 e) = Ideal.exp (ch g b h i (ix2 63 e))

variable {u w qd kd a g}

theorem FInv.cond {V : Valuation τ sig (Elt Ideal)} {n : ℕ} (H : FInv u w qd kd a g V n) : FInv u w qd kd a g (after fwdCond V) n where
  h0 i b h p e := (congrArg (fun z => rd S32x4x6x64x128 z (ix5 i b h p e)) (fwdCond_0 V)).trans (H.h0 i b h p e)
  h1 i b h p e := (congrArg (fun z => rd S32x4x6x64x128 z (ix5 i b h p e)) (fwdCond_1 V)).trans (H.h1 i b h p e)
  h2 i b h p e := (congrArg (fun z => rd S32x4x6x64x128 z (ix5 i b h p e)) (fwdCond_2 V)).trans (H.h2 i b h p e)
  h3 i b h p e := (congrArg (fun z => rd S32x4x6x64x128 z (ix5 i b h p e)) (fwdCond_3 V)).trans (H.h3 i b h p e)
  h4 i b h p q := (congrArg (fun z => rd S32x4x6x64x64 z (ix5 i b h p q)) (fwdCond_4 V)).trans (H.h4 i b h p q)
  h5 i b h e := (congrArg (fun z => rd S32x4x6x128 z (ix4 i b h e)) (fwdCond_5 V)).trans (H.h5 i b h e)
  s b h d e := (congrArg (fun z => rd S4x6x128x128 z (ix4 b h d e)) (fwdCond_7 V)).trans (H.s b h d e)
  r8 i hi b h p e := (congrArg (fun z => rd S32x4x6x64x128 z (ix5 i b h p e)) (fwdCond_8 V)).trans (H.r8 i hi b h p e)
  r9 i hi b h d e := (congrArg (fun z => rd S32x4x6x128x128 z (ix5 i b h d e)) (fwdCond_9 V)).trans (H.r9 i hi b h d e)
  r10 i hi b h p e := (congrArg (fun z => rd S32x4x6x64x128 z (ix5 i b h p e)) (fwdCond_10 V)).trans (H.r10 i hi b h p e)
  r11 i hi b h e := (congrArg (fun z => rd S32x4x6x1x128 z (ix5 i b h 0 e)) (fwdCond_11 V)).trans (H.r11 i hi b h e)

section
variable {V : Valuation τ sig (Elt Ideal)} {k : Fin 32} (H : FInv u w qd kd a g V k.val) (hi : V (Proc.devRef .tc main_v33_6) = fun _ => Scf.iv 0#32 1#32 k.val)
include H hi

theorem FInv.nv (b : Fin 4) (h : Fin 6) (p : Fin 64) (e : Fin 128) : rd S4x6x64x128 (f84 V) (ix4 b h p e) = Own.nv u w kd g b h k p e :=
  (f84_at V k hi (ix4 b h p e)).trans (congrArg₂ (fun x y : EReal => x - y) (H.h0 k b h p e)
    (Finset.sum_congr rfl fun x _ => congrArg₂ (fun x y : EReal => x * y) (H.h1 k b h p x) (H.s b h x e)))

theorem FInv.out (b : Fin 4) (h : Fin 6) (p : Fin 64) (e : Fin 128) : rd S4x6x64x128 (f87 V) (ix4 b h p e) = tO u w qd kd a g k b h (ix2 p e) :=
  (f87_at V k hi (ix4 b h p e)).trans ((congrArg₂ (fun x y : EReal => x + y)
    (Finset.sum_congr rfl fun x _ => congrArg₂ (fun x y : EReal => x * y) (H.h2 k b h p x) (H.s b h x e))
    (Finset.sum_congr rfl fun x _ => congrArg₂ (fun x y : EReal => x * y) (H.h4 k b h p x) (H.nv hi b h x e))).trans
      (stepO_at (St u w kd g b h k.val) (ch u b h k) (ch w b h k) (ch qd b h k) (chA a b h k) (ix2 p e)).symm)

theorem FInv.next (b : Fin 4) (h : Fin 6) (d e : Fin 128) : rd S4x6x128x128 (f92 V) (ix4 b h d e) = St u w kd g b h (k.val + 1) (ix2 d e) := by
  show _ = stepS (St u w kd g b h k.val) (ch u b h (fr k.val)) (ch w b h (fr k.val)) (ch kd b h (fr k.val)) (ch g b h (fr k.val)) (ix2 d e)
  rw [fr_val]
  exact (f92_at V k hi (ix4 b h d e)).trans ((congrArg₂ (fun x y : EReal => x + y)
    (congrArg₂ (fun x y : EReal => x * y) (H.s b h d e) (H.h5 k b h e))
    (Finset.sum_congr rfl fun x _ => congrArg₂ (fun x y : EReal => x * y) (H.h3 k b h x d) (H.nv hi b h x e))).trans
      (stepS_at (St u w kd g b h k.val) (ch u b h k) (ch w b h k) (ch kd b h k) (ch g b h k) (ix2 d e)).symm)

theorem FInv.trip : FInv u w qd kd a g (afterL fwdBody V) (k.val + 1) where
  h0 i b h p e := (congrArg (fun z => rd S32x4x6x64x128 z (ix5 i b h p e)) (fwdBody_0 V)).trans (H.h0 i b h p e)
  h1 i b h p e := (congrArg (fun z => rd S32x4x6x64x128 z (ix5 i b h p e)) (fwdBody_1 V)).trans (H.h1 i b h p e)
  h2 i b h p e := (congrArg (fun z => rd S32x4x6x64x128 z (ix5 i b h p e)) (fwdBody_2 V)).trans (H.h2 i b h p e)
  h3 i b h p e := (congrArg (fun z => rd S32x4x6x64x128 z (ix5 i b h p e)) (fwdBody_3 V)).trans (H.h3 i b h p e)
  h4 i b h p q := (congrArg (fun z => rd S32x4x6x64x64 z (ix5 i b h p q)) (fwdBody_4 V)).trans (H.h4 i b h p q)
  h5 i b h e := (congrArg (fun z => rd S32x4x6x128 z (ix4 i b h e)) (fwdBody_5 V)).trans (H.h5 i b h e)
  s b h d e := (congrArg (fun z => rd S4x6x128x128 z (ix4 b h d e)) (fwdBody_7 V)).trans (H.next hi b h d e)
  r8 i hn b h p e := by
    refine (congrArg (fun z => rd S32x4x6x64x128 z (ix5 i b h p e)) (fwdBody_8 V)).trans
      ((put_at (V (Proc.devRef .tc main_v33_6)) k (f_ctr V k hi) (V main_v33_8) (f87 V) (ix5 i b h p e)).trans ?_)
    by_cases e0 : i.val = k.val
    · obtain rfl : i = k := Fin.ext e0
      exact (if_pos rfl).trans (H.out hi b h p e)
    · exact (if_neg e0).trans (H.r8 i (by omega) b h p e)
  r9 i hn b h d e := by
    refine (congrArg (fun z => rd S32x4x6x128x128 z (ix5 i b h d e)) (fwdBody_9 V)).trans
      ((put_2_at (V (Proc.devRef .tc main_v33_6)) k (f_ctr V k hi) (V main_v33_9) (V main_v33_7) (ix5 i b h d e)).trans ?_)
    by_cases e0 : i.val = k.val
    · obtain rfl : i = k := Fin.ext e0
      exact (if_pos rfl).trans (H.s b h d e)
    · exact (if_neg e0).trans (H.r9 i (by omega) b h d e)
  r10 i hn b h p e := by
    refine (congrArg (fun z => rd S32x4x6x64x128 z (ix5 i b h p e)) (fwdBody_10 V)).trans
      ((put_at (V (Proc.devRef .tc main_v33_6)) k (f_ctr V k hi) (V main_v33_10) (f84 V) (ix5 i b h p e)).trans ?_)
    by_cases e0 : i.val = k.val
    · obtain rfl : i = k := Fin.ext e0
      exact (if_pos rfl).trans (H.nv hi b h p e)
    · exact (if_neg e0).trans (H.r10 i (by omega) b h p e)
  r11 i hn b h e := by
    refine (congrArg (fun z => rd S32x4x6x1x128 z (ix5 i b h 0 e)) (fwdBody_11 V)).trans
      ((put_3_at (V (Proc.devRef .tc main_v33_6)) k (f_ctr V k hi) (V main_v33_11) (f88 V) (ix5 i b h 0 e)).trans ?_)
    by_cases e0 : i.val = k.val
    · obtain rfl : i = k := Fin.ext e0
      exact (if_pos rfl).trans ((f88_at V i hi (ix4 b h 0 e)).trans (H.h5 i b h e))
    · exact (if_neg e0).trans (H.r11 i (by omega) b h e)
end

end

end Cert.ReferenceIdeal.Own

end
-- ==== Proof.RefBwd.lean ====
/- A trip of the reference's backward loop keeps to the chain of the state's cotangents. -/
module

public import proofs.«01_k».proof.Proof.RefFwd

@[expose] public section

set_option maxRecDepth 16384

noncomputable section

namespace Cert.ReferenceIdeal.Own

open Idealize.ShloMosaic Idealize.ShloMosaic.TcCoe Idealize.ShloMosaic.Tactic
open Idealize.SL.Sem Idealize.ShloMosaic.StableHlo
open Cert.KernelIdeal.Scan (ch chA fr en noS rows rowsA St Sv Dt tO tU tW tQ tK tA tG stepS stepO stepS_at stepO_at saved_at gU gS gU_at gW_at gQ_at gK_at gA_at gG_at gS_at)

section
variable (u w qd kd : C Ideal S8192x768) (a : C Ideal S6x8192x64) (g o : C Ideal S8192x768)

/-- Before the backward loop's test numbered `n`: the arguments' chunks, what the forward loop saved, the cotangent of the state, and the results of the trips
    made, which take the chunks from the last. -/
structure BInv (V : Valuation τ sig (Elt Ideal)) (n : ℕ) : Prop where
  h0 : ∀ i b h p e, rd S32x4x6x64x128 (V main_v48_0) (ix5 i b h p e) = ch o b h i (ix2 p e)
  h1 : ∀ (i : Fin 32) b h d e, rd S32x4x6x128x128 (V main_v48_1) (ix5 i b h d e) = St u w kd g b h i.val (ix2 d e)
  h2 : ∀ i b h p e, rd S32x4x6x64x128 (V main_v48_2) (ix5 i b h p e) = ch w b h i (ix2 p e)
  h3 : ∀ i b h p e, rd S32x4x6x64x128 (V main_v48_3) (ix5 i b h p e) = ch qd b h i (ix2 p e)
  h4 : ∀ i b h p e, rd S32x4x6x64x128 (V main_v48_4) (ix5 i b h p e) = nv u w kd g b h i p e
  h5 : ∀ i b h p q, rd S32x4x6x64x64 (V main_v48_5) (ix5 i b h p q) = chA a b h i (ix3 0 p q)
  h6 : ∀ i b h e, rd S32x4x6x1x128 (V main_v48_6) (ix5 i b h 0 e) = Ideal.exp (ch g b h i (ix2 63 e))
  h7 : ∀ i b h p e, rd S32x4x6x64x128 (V main_v48_7) (ix5 i b h p e) = ch kd b h i (ix2 p e)
  s : ∀ b h d e, rd S4x6x128x128 (V main_v48_9) (ix4 b h d e) = Dt w qd kd a g o b h n (ix2 d e)
  r10 : ∀ i : Fin 32, 32 ≤ i.val + n → ∀ b h p e, rd S32x4x6x64x128 (V main_v48_10) (ix5 i b h p e) = tU w qd kd a g o i b h (ix2 p e)
  r11 : ∀ i : Fin 32, 32 ≤ i.val + n → ∀ b h p e, rd S32x4x6x64x128 (V main_v48_11) (ix5 i b h p e) = tW u w qd kd a g o i b h (ix2 p e)
  r12 : ∀ i : Fin 32, 32 ≤ i.val + n → ∀ b h p e, rd S32x4x6x64x128 (V main_v48_12) (ix5 i b h p e) = tQ u w kd g o i b h (ix2 p e)
  r13 : ∀ i : Fin 32, 32 ≤ i.val + n → ∀ b h p e, rd S32x4x6x64x128 (V main_v48_13) (ix5 i b h p e) = tK u w qd kd a g o i b h (ix2 p e)
  r14 : ∀ i : Fin 32, 32 ≤ i.val + n → ∀ b h p q, rd S32x4x6x64x64 (V main_v48_14) (ix5 i b h p q) = tA u w kd g o i b h (ix3 0 p q)
  r15 : ∀ i : Fin 32, 32 ≤ i.val + n → ∀ b h e, rd S32x4x6x128 (V main_v48_15) (ix4 i b h e)
    = ∑ d : Fin 128, St u w kd g b h i.val (ix2 d e) * Dt w qd kd a g o b h (31 - i.val) (ix2 d e)

variable {u w qd kd a g o}

theorem BInv.cond {V : Valuation τ sig (Elt Ideal)} {n : ℕ} (H : BInv u w qd kd a g o V n) : BInv u w qd kd a g o (after bwdCond V) n where
  h0 i b h p e := (congrArg (fun z => rd S32x4x6x64x128 z (ix5 i b h p e)) (bwdCond_0 V)).trans (H.h0 i b h p e)
  h1 i b h d e := (congrArg (fun z => rd S32x4x6x128x128 z (ix5 i b h d e)) (bwdCond_1 V)).trans (H.h1 i b h d e)
  h2 i b h p e := (congrArg (fun z => rd S32x4x6x64x128 z (ix5 i b h p e)) (bwdCond_2 V)).trans (H.h2 i b h p e)
  h3 i b h p e := (congrArg (fun z => rd S32x4x6x64x128 z (ix5 i b h p e)) (bwdCond_3 V)).trans (H.h3 i b h p e)
  h4 i b h p e := (congrArg (fun z => rd S32x4x6x64x128 z (ix5 i b h p e)) (bwdCond_4 V)).trans (H.h4 i b h p e)
  h5 i b h p q := (congrArg (fun z => rd S32x4x6x64x64 z (ix5 i b h p q)) (bwdCond_5 V)).trans (H.h5 i b h p q)
  h6 i b h e := (congrArg (fun z => rd S32x4x6x1x128 z (ix5 i b h 0 e)) (bwdCond_6 V)).trans (H.h6 i b h e)
  h7 i b h p e := (congrArg (fun z => rd S32x4x6x64x128 z (ix5 i b h p e)) (bwdCond_7 V)).trans (H.h7 i b h p e)
  s b h d e := (congrArg (fun z => rd S4x6x128x128 z (ix4 b h d e)) (bwdCond_9 V)).trans (H.s b h d e)
  r10 i hn b h p e := (congrArg (fun z => rd S32x4x6x64x128 z (ix5 i b h p e)) (bwdCond_10 V)).trans (H.r10 i hn b h p e)
  r11 i hn b h p e := (congrArg (fun z => rd S32x4x6x64x128 z (ix5 i b h p e)) (bwdCond_11 V)).trans (H.r11 i hn b h p e)
  r12 i hn b h p e := (congrArg (fun z => rd S32x4x6x64x128 z (ix5 i b h p e)) (bwdCond_12 V)).trans (H.r12 i hn b h p e)
  r13 i hn b h p e := (congrArg (fun z => rd S32x4x6x64x128 z (ix5 i b h p e)) (bwdCond_13 V)).trans (H.r13 i hn b h p e)
  r14 i hn b h p q := (congrArg (fun z => rd S32x4x6x64x64 z (ix5 i b h p q)) (bwdCond_14 V)).trans (H.r14 i hn b h p q)
  r15 i hn b h e := (congrArg (fun z => rd S32x4x6x128 z (ix4 i b h e)) (bwdCond_15 V)).trans (H.r15 i hn b h e)

/-- A saved state. -/
theorem Sv_ix (b : Fin 4) (h : Fin 6) (n : ℕ) (d e : Fin 128) : Sv u w kd g b h n (ix5 0 0 0 d e) = St u w kd g b h n (ix2 d e) :=
  saved_at (St u w kd g b h n) (ix5 0 0 0 d e)

theorem nv_Sv (b : Fin 4) (h : Fin 6) (i : Fin 32) (p : Fin 64) (e : Fin 128) : nv u w kd g b h i p e
    = ch u b h i (ix2 p e) - ∑ k : Fin 128, ch w b h i (ix2 p k) * Sv u w kd g b h i.val (ix5 0 0 0 k e) :=
  congrArg₂ (fun x y : EReal => x - y) rfl (Finset.sum_congr rfl fun k _ => congrArg₂ (fun x y : EReal => x * y) rfl (Sv_ix b h i.val k e).symm)

section
variable {V : Valuation τ sig (Elt Ideal)} {n k : Fin 32} (hk : k.val = 31 - n.val) (H : BInv u w qd kd a g o V n.val)
  (hi : V (Proc.devRef .tc main_v48_8) = fun _ => Scf.iv 0#32 1#32 n.val)
include hk H hi

theorem BInv.val (b : Fin 4) (h : Fin 6) (p : Fin 64) (e : Fin 128) : rd S4x6x64x128 (b99 V) (ix4 b h p e)
    = gU (Dt w qd kd a g o b h n.val) (ch kd b h k) (chA a b h k) (ch o b h k) (ix2 p e) :=
  (b99_at V n k hk hi (ix4 b h p e)).trans ((congrArg₂ (fun x y : EReal => x + y) (Finset.sum_congr rfl fun x _ => congrArg₂ (fun x y : EReal => x * y) (H.s b h x e) (H.h7 k b h p x))
    (Finset.sum_congr rfl fun x _ => congrArg₂ (fun x y : EReal => x * y) (H.h0 k b h x e) (H.h5 k b h x p))).trans (gU_at _ _ _ _ (ix2 p e)).symm)

theorem BInv.neg (b : Fin 4) (h : Fin 6) (p : Fin 64) (e : Fin 128) : -(rd S4x6x64x128 (b99 V) (ix4 b h p e))
    = 0 - gU (Dt w qd kd a g o b h n.val) (ch kd b h k) (chA a b h k) (ch o b h k) (ix2 p e) :=
  (congrArg (fun x : EReal => -x) (H.val hk hi b h p e)).trans (zero_sub _).symm

theorem BInv.next (b : Fin 4) (h : Fin 6) (d e : Fin 128) : rd S4x6x128x128 (b108 V) (ix4 b h d e) = Dt w qd kd a g o b h (n.val + 1) (ix2 d e) := by
  show _ = gS (Dt w qd kd a g o b h n.val) (ch w b h (en n.val)) (ch qd b h (en n.val)) (ch kd b h (en n.val)) (chA a b h (en n.val))
    (ch g b h (en n.val)) (ch o b h (en n.val)) (ix2 d e)
  rw [show en n.val = k from (congrArg fr hk.symm).trans (fr_val k)]
  exact (b108_at V n k hk hi (ix4 b h d e)).trans ((congrArg₂ (fun x y : EReal => x + y) (congrArg₂ (fun x y : EReal => x + y) (congrArg₂ (fun x y : EReal => x * y) (H.s b h d e) (H.h6 k b h e))
    (Finset.sum_congr rfl fun x _ => congrArg₂ (fun x y : EReal => x * y) (H.h0 k b h x e) (H.h3 k b h x d)))
    (Finset.sum_congr rfl fun x _ => congrArg₂ (fun x y : EReal => x * y) (H.neg hk hi b h x e) (H.h2 k b h x d))).trans (gS_at (Dt w qd kd a g o b h n.val) (ch w b h k) (ch qd b h k) (ch kd b h k) (chA a b h k) (ch g b h k) (ch o b h k) (ix2 d e)).symm)

theorem BInv.trip : BInv u w qd kd a g o (afterL bwdBody V) (n.val + 1) where
  h0 i b h p e := (congrArg (fun z => rd S32x4x6x64x128 z (ix5 i b h p e)) (bwdBody_0 V)).trans (H.h0 i b h p e)
  h1 i b h d e := (congrArg (fun z => rd S32x4x6x128x128 z (ix5 i b h d e)) (bwdBody_1 V)).trans (H.h1 i b h d e)
  h2 i b h p e := (congrArg (fun z => rd S32x4x6x64x128 z (ix5 i b h p e)) (bwdBody_2 V)).trans (H.h2 i b h p e)
  h3 i b h p e := (congrArg (fun z => rd S32x4x6x64x128 z (ix5 i b h p e)) (bwdBody_3 V)).trans (H.h3 i b h p e)
  h4 i b h p e := (congrArg (fun z => rd S32x4x6x64x128 z (ix5 i b h p e)) (bwdBody_4 V)).trans (H.h4 i b h p e)
  h5 i b h p q := (congrArg (fun z => rd S32x4x6x64x64 z (ix5 i b h p q)) (bwdBody_5 V)).trans (H.h5 i b h p q)
  h6 i b h e := (congrArg (fun z => rd S32x4x6x1x128 z (ix5 i b h 0 e)) (bwdBody_6 V)).trans (H.h6 i b h e)
  h7 i b h p e := (congrArg (fun z => rd S32x4x6x64x128 z (ix5 i b h p e)) (bwdBody_7 V)).trans (H.h7 i b h p e)
  s b h d e := (congrArg (fun z => rd S4x6x128x128 z (ix4 b h d e)) (bwdBody_9 V)).trans (H.next hk hi b h d e)
  r10 i hn b h p e := by
    refine (congrArg (fun z => rd S32x4x6x64x128 z (ix5 i b h p e)) (bwdBody_10 V)).trans
      ((put_at (b78 V) k (b_ctr V n k hk hi) (V main_v48_10) (b99 V) (ix5 i b h p e)).trans ?_)
    by_cases e0 : i.val = k.val
    · obtain rfl : i = k := Fin.ext e0
      refine (if_pos rfl).trans ?_
      unfold tU
      rw [show 31 - i.val = n.val by omega]
      exact (H.val hk hi b h p e)
    · exact (if_neg e0).trans (H.r10 i (by omega) b h p e)
  r11 i hn b h p e := by
    refine (congrArg (fun z => rd S32x4x6x64x128 z (ix5 i b h p e)) (bwdBody_11 V)).trans
      ((put_at (b78 V) k (b_ctr V n k hk hi) (V main_v48_11) (b109 V) (ix5 i b h p e)).trans ?_)
    by_cases e0 : i.val = k.val
    · obtain rfl : i = k := Fin.ext e0
      refine (if_pos rfl).trans ?_
      unfold tW
      rw [show 31 - i.val = n.val by omega]
      exact ((b109_at V n i hk hi (ix4 b h p e)).trans ((Finset.sum_congr rfl fun x _ => congrArg₂ (fun x y : EReal => x * y) (H.neg hk hi b h p x) ((H.h1 i b h e x).trans (Sv_ix b h i.val e x).symm)).trans (gW_at (Dt w qd kd a g o b h n.val) (ch kd b h i) (chA a b h i) (ch o b h i) (Sv u w kd g b h i.val) (ix2 p e)).symm))
    · exact (if_neg e0).trans (H.r11 i (by omega) b h p e)
  r12 i hn b h p e := by
    refine (congrArg (fun z => rd S32x4x6x64x128 z (ix5 i b h p e)) (bwdBody_12 V)).trans
      ((put_at (b78 V) k (b_ctr V n k hk hi) (V main_v48_12) (b104 V) (ix5 i b h p e)).trans ?_)
    by_cases e0 : i.val = k.val
    · obtain rfl : i = k := Fin.ext e0
      refine (if_pos rfl).trans ?_
      exact ((b104_at V n i hk hi (ix4 b h p e)).trans ((Finset.sum_congr rfl fun x _ => congrArg₂ (fun x y : EReal => x * y) (H.h0 i b h p x) ((H.h1 i b h e x).trans (Sv_ix b h i.val e x).symm)).trans (gQ_at (ch o b h i) (Sv u w kd g b h i.val) (ix2 p e)).symm))
    · exact (if_neg e0).trans (H.r12 i (by omega) b h p e)
  r13 i hn b h p e := by
    refine (congrArg (fun z => rd S32x4x6x64x128 z (ix5 i b h p e)) (bwdBody_13 V)).trans
      ((put_at (b78 V) k (b_ctr V n k hk hi) (V main_v48_13) (b90 V) (ix5 i b h p e)).trans ?_)
    by_cases e0 : i.val = k.val
    · obtain rfl : i = k := Fin.ext e0
      refine (if_pos rfl).trans ?_
      unfold tK
      rw [show 31 - i.val = n.val by omega]
      exact ((b90_at V n i hk hi (ix4 b h p e)).trans ((Finset.sum_congr rfl fun x _ => congrArg₂ (fun x y : EReal => x * y) (H.s b h e x) ((H.h4 i b h p x).trans (nv_Sv b h i p x))).trans (gK_at (Dt w qd kd a g o b h n.val) (ch u b h i) (ch w b h i) (Sv u w kd g b h i.val) (ix2 p e)).symm))
    · exact (if_neg e0).trans (H.r13 i (by omega) b h p e)
  r14 i hn b h p q := by
    refine (congrArg (fun z => rd S32x4x6x64x64 z (ix5 i b h p q)) (bwdBody_14 V)).trans
      ((put_6_at (b78 V) k (b_ctr V n k hk hi) (V main_v48_14) (b100 V) (ix5 i b h p q)).trans ?_)
    by_cases e0 : i.val = k.val
    · obtain rfl : i = k := Fin.ext e0
      refine (if_pos rfl).trans ?_
      exact ((b100_at V n i hk hi (ix4 b h p q)).trans ((Finset.sum_congr rfl fun x _ => congrArg₂ (fun x y : EReal => x * y) (H.h0 i b h p x) ((H.h4 i b h q x).trans (nv_Sv b h i q x))).trans (gA_at (ch u b h i) (ch w b h i) (ch o b h i) (Sv u w kd g b h i.val) (ix3 0 p q)).symm))
    · exact (if_neg e0).trans (H.r14 i (by omega) b h p q)
  r15 i hn b h e := by
    refine (congrArg (fun z => rd S32x4x6x128 z (ix4 i b h e)) (bwdBody_15 V)).trans
      ((put_7_at (b78 V) k (b_ctr V n k hk hi) (V main_v48_15) (b96 V) (ix4 i b h e)).trans ?_)
    by_cases e0 : i.val = k.val
    · obtain rfl : i = k := Fin.ext e0
      refine (if_pos rfl).trans ?_
      rw [show 31 - i.val = n.val by omega]
      exact ((b96_at V n i hk hi (ix3 b h e)).trans (Finset.sum_congr rfl fun x _ => congrArg₂ (fun x y : EReal => x * y) (H.h1 i b h x e) (H.s b h x e)))
    · exact (if_neg e0).trans (H.r15 i (by omega) b h e)
end

end

end Cert.ReferenceIdeal.Own

end
-- ==== Proof.RefVal.lean ====
/- The reference's results in values: by induction over the trips of either loop, every chunk a trip has written is the chain's tile. -/
module

public import proofs.«01_k».proof.Proof.RefIdx
public import proofs.«01_k».proof.Proof.RefBwd

@[expose] public section

set_option maxRecDepth 16384

noncomputable section

namespace Cert.ReferenceIdeal.Own

open Idealize.ShloMosaic Idealize.ShloMosaic.TcCoe Idealize.ShloMosaic.Tactic
open Idealize.SL.Sem Idealize.ShloMosaic.StableHlo
open Cert.KernelIdeal.Scan (ch chA fr en noS rows rowsA St Sv Dt tO tU tW tQ tK tA tG stepS stepO stepS_at stepO_at saved_at gU gS gU_at gW_at gQ_at gK_at gA_at gG_at gS_at)

section
variable (m : (ℓ : Loc nD τ sig) → Buf (Elt Ideal) ℓ) (c : Dev nD)

abbrev au : C Ideal S8192x768 := m ((c.tc : Thread nD τ).loc main_arg0)
abbrev aw : C Ideal S8192x768 := m ((c.tc : Thread nD τ).loc main_arg1)
abbrev aq : C Ideal S8192x768 := m ((c.tc : Thread nD τ).loc main_arg2)
abbrev ak : C Ideal S8192x768 := m ((c.tc : Thread nD τ).loc main_arg3)
abbrev aa : C Ideal S6x8192x64 := m ((c.tc : Thread nD τ).loc main_arg4)
abbrev ag : C Ideal S8192x768 := m ((c.tc : Thread nD τ).loc main_arg5)
abbrev ao : C Ideal S8192x768 := m ((c.tc : Thread nD τ).loc main_arg6)

/-- Every trip of the forward loop keeps to the chain, -/
theorem fwd_inv : ∀ n ≤ 32, FInv (au m c) (aw m c) (aq m c) (ak m c) (aa m c) (ag m c) (fwdAt m n c) n
  | 0, _ =>
    { h0 := fun i b h p e => (congrArg (fun z => rd S32x4x6x64x128 z (ix5 i b h p e)) (fwdIn_0 m c)).trans (toC_ix _ i b h p e)
      h1 := fun i b h p e => (congrArg (fun z => rd S32x4x6x64x128 z (ix5 i b h p e)) (fwdIn_1 m c)).trans (toC_ix _ i b h p e)
      h2 := fun i b h p e => (congrArg (fun z => rd S32x4x6x64x128 z (ix5 i b h p e)) (fwdIn_2 m c)).trans (toC_ix _ i b h p e)
      h3 := fun i b h p e => (congrArg (fun z => rd S32x4x6x64x128 z (ix5 i b h p e)) (fwdIn_3 m c)).trans (toC_ix _ i b h p e)
      h4 := fun i b h p q => (congrArg (fun z => rd S32x4x6x64x64 z (ix5 i b h p q)) (fwdIn_4 m c)).trans (toA_ix _ i b h p q)
      h5 := fun i b h e => (congrArg (fun z => rd S32x4x6x128 z (ix4 i b h e)) (fwdIn_5 m c)).trans (decay_ix _ i b h e)
      s := fun b h d e => (congrArg (fun z => rd S4x6x128x128 z (ix4 b h d e)) (fwdIn_7 m c)).trans (zeroS_at (ix4 b h d e))
      r8 := fun i hi => absurd hi (Nat.not_lt_zero _)
      r9 := fun i hi => absurd hi (Nat.not_lt_zero _)
      r10 := fun i hi => absurd hi (Nat.not_lt_zero _)
      r11 := fun i hi => absurd hi (Nat.not_lt_zero _) }
  | n + 1, hn => (fwd_inv n (Nat.le_of_succ_le hn)).cond.trip (k := ⟨n, hn⟩) ((fwdCond_6 (fwdAt m n c)).trans (fwd_ctr m c n))

/-- and so does every trip of the backward loop. -/
theorem bwd_inv : ∀ n ≤ 32, BInv (au m c) (aw m c) (aq m c) (ak m c) (aa m c) (ag m c) (ao m c) (bwdAt m n c) n
  | 0, _ =>
    have H := fwd_inv m c 32 (le_refl _)
    { h0 := fun i b h p e => (congrArg (fun z => rd S32x4x6x64x128 z (ix5 i b h p e)) (bwdIn_0 m c)).trans (toO_ix _ i b h p e)
      h1 := fun i b h d e => (congrArg (fun z => rd S32x4x6x128x128 z (ix5 i b h d e)) (bwdIn_1 m c)).trans (H.r9 i i.isLt b h d e)
      h2 := fun i b h p e => (congrArg (fun z => rd S32x4x6x64x128 z (ix5 i b h p e)) (bwdIn_2 m c)).trans (toC_ix _ i b h p e)
      h3 := fun i b h p e => (congrArg (fun z => rd S32x4x6x64x128 z (ix5 i b h p e)) (bwdIn_3 m c)).trans (toC_ix _ i b h p e)
      h4 := fun i b h p e => (congrArg (fun z => rd S32x4x6x64x128 z (ix5 i b h p e)) (bwdIn_4 m c)).trans (H.r10 i i.isLt b h p e)
      h5 := fun i b h p q => (congrArg (fun z => rd S32x4x6x64x64 z (ix5 i b h p q)) (bwdIn_5 m c)).trans (toA_ix _ i b h p q)
      h6 := fun i b h e => (congrArg (fun z => rd S32x4x6x1x128 z (ix5 i b h 0 e)) (bwdIn_6 m c)).trans (H.r11 i i.isLt b h e)
      h7 := fun i b h p e => (congrArg (fun z => rd S32x4x6x64x128 z (ix5 i b h p e)) (bwdIn_7 m c)).trans (toC_ix _ i b h p e)
      s := fun b h d e => (congrArg (fun z => rd S4x6x128x128 z (ix4 b h d e)) (bwdIn_9 m c)).trans (zeroS_at (ix4 b h d e))
      r10 := fun i hi => absurd hi (by have := i.isLt; omega)
      r11 := fun i hi => absurd hi (by have := i.isLt; omega)
      r12 := fun i hi => absurd hi (by have := i.isLt; omega)
      r13 := fun i hi => absurd hi (by have := i.isLt; omega)
      r14 := fun i hi => absurd hi (by have := i.isLt; omega)
      r15 := fun i hi => absurd hi (by have := i.isLt; omega) }
  | n + 1, hn => (bwd_inv n (Nat.le_of_succ_le hn)).cond.trip (n := ⟨n, hn⟩) (k := ⟨31 - n, by omega⟩) rfl
      ((bwdCond_8 (bwdAt m n c)).trans (bwd_ctr m c n))

/-- The seven results. -/
theorem val_o : finish m c (Proc.devRef .tc main_v36) = rows (tO (au m c) (aw m c) (aq m c) (ak m c) (aa m c) (ag m c)) :=
  (finish_o m c).trans (funext fun y => (ofO_at _ y).trans ((fwd_inv m c 32 (le_refl _)).r8 _ (Fin.isLt _) _ _ _ _))
theorem val_u : finish m c (Proc.devRef .tc main_v76) = rows (tU (aw m c) (aq m c) (ak m c) (aa m c) (ag m c) (ao m c)) :=
  (finish_u m c).trans (funext fun y => (ofC_at _ y).trans ((bwd_inv m c 32 (le_refl _)).r10 _ (Nat.le_add_left _ _) _ _ _ _))
theorem val_w : finish m c (Proc.devRef .tc main_v72) = rows (tW (au m c) (aw m c) (aq m c) (ak m c) (aa m c) (ag m c) (ao m c)) :=
  (finish_w m c).trans (funext fun y => (ofC_at _ y).trans ((bwd_inv m c 32 (le_refl _)).r11 _ (Nat.le_add_left _ _) _ _ _ _))
theorem val_q : finish m c (Proc.devRef .tc main_v68) = rows (tQ (au m c) (aw m c) (ak m c) (ag m c) (ao m c)) :=
  (finish_q m c).trans (funext fun y => (ofC_at _ y).trans ((bwd_inv m c 32 (le_refl _)).r12 _ (Nat.le_add_left _ _) _ _ _ _))
theorem val_k : finish m c (Proc.devRef .tc main_v64) = rows (tK (au m c) (aw m c) (aq m c) (ak m c) (aa m c) (ag m c) (ao m c)) :=
  (finish_k m c).trans (funext fun y => (ofC_at _ y).trans ((bwd_inv m c 32 (le_refl _)).r13 _ (Nat.le_add_left _ _) _ _ _ _))
theorem val_a : finish m c (Proc.devRef .tc main_v56) = rowsA (tA (au m c) (aw m c) (ak m c) (ag m c) (ao m c)) :=
  (finish_a m c).trans (funext fun y => (ofA_at _ y).trans ((bwd_inv m c 32 (le_refl _)).r14 _ (Nat.le_add_left _ _) _ _ _ _))
theorem val_g : finish m c (Proc.devRef .tc main_v60) = rows (tG (au m c) (aw m c) (aq m c) (ak m c) (aa m c) (ag m c) (ao m c)) := by
  refine (finish_g m c).trans (funext fun y => (ofG_at _ _ y).trans ?_)
  refine Eq.trans ?_ (gG_at _ _ _ _).symm
  show _ = if (y 0).val % 64 = 63 then _ else _
  by_cases h : (y 0).val % 64 = 63
  · rw [if_pos h, if_pos h]
    refine congrArg₂ (fun x y : EReal => x * y) (((bwd_inv m c 32 (le_refl _)).r15 _ (Nat.le_add_left _ _) _ _ _).trans
      (Finset.sum_congr rfl fun d _ => congrArg₂ (fun x y : EReal => x * y) (Sv_ix _ _ _ d _).symm rfl)) (decay_ix _ _ _ _ _)
  · rw [if_neg h, if_neg h]
end

end Cert.ReferenceIdeal.Own

end
-- ==== Proof.Match.lean ====
/- The recurrence's two calls against the reference: both end with the chain's tiles, chunk by chunk, so from equal arguments
   with equal results. -/
module

public import proofs.«01_k».proof.Defs
public import proofs.«01_k».proof.Proof.Gen.KernelIdeal
public import proofs.«01_k».proof.Proof.Run
public import proofs.«01_k».proof.Proof.KerVal
public import proofs.«01_k».proof.Proof.RefVal

@[expose] public section

set_option maxRecDepth 65536

noncomputable section

namespace Cert.KernelIdeal.Scan

open Idealize.ShloMosaic Idealize.ShloMosaic.TcCoe Idealize.SL.Sem

variable (m : (ℓ : Loc nD τ sig) → Buf (Elt Ideal) ℓ) (ρ : Dev nD → PrngReg) (c : Dev nD)

/-- An argument as the backward call finds it. -/
theorem V1_arg (a : Ref sig .tc) (ha : a ∈ argRefs) : V1 m ρ c a = m ((c.tc : Thread nD τ).loc a) := W1_of m ρ c a (reads0 a ha)

/-- The saved states as the backward call finds them. -/
theorem V1_saved : V1 m ρ c main_v0_1 = stA (V1 m ρ c main_arg0) (V1 m ρ c main_arg1) (V1 m ρ c main_arg3) (V1 m ρ c main_arg5) := by
  rw [V1_arg m ρ c main_arg0 (by decide), V1_arg m ρ c main_arg1 (by decide), V1_arg m ρ c main_arg3 (by decide), V1_arg m ρ c main_arg5 (by decide)]
  exact (W1_arr m ρ c 7).trans (arr_t (V0 m ρ) c)

/-- The arguments. -/
abbrev xu : FVec Ideal S8192x768 .f32 := m ((c.tc : Thread nD τ).loc main_arg0)
abbrev xw : FVec Ideal S8192x768 .f32 := m ((c.tc : Thread nD τ).loc main_arg1)
abbrev xq : FVec Ideal S8192x768 .f32 := m ((c.tc : Thread nD τ).loc main_arg2)
abbrev xk : FVec Ideal S8192x768 .f32 := m ((c.tc : Thread nD τ).loc main_arg3)
abbrev xa : FVec Ideal S6x8192x64 .f32 := m ((c.tc : Thread nD τ).loc main_arg4)
abbrev xg : FVec Ideal S8192x768 .f32 := m ((c.tc : Thread nD τ).loc main_arg5)
abbrev xo : FVec Ideal S8192x768 .f32 := m ((c.tc : Thread nD τ).loc main_arg6)

/-- What the seven results hold when both calls have ended, of the arguments' values. -/
theorem ends {u w q k : FVec Ideal S8192x768 .f32} {a : FVec Ideal S6x8192x64 .f32} {g o : FVec Ideal S8192x768 .f32}
    (e0 : xu m c = u) (e1 : xw m c = w) (e2 : xq m c = q) (e3 : xk m c = k) (e4 : xa m c = a) (e5 : xg m c = g) (e6 : xo m c = o) :
    W2 m ρ c (Proc.devRef .tc main_v0_0) = rows (tO u w q k a g) ∧ W2 m ρ c (Proc.devRef .tc main_v1_0) = rows (tU w q k a g o)
    ∧ W2 m ρ c (Proc.devRef .tc main_v1_1) = rows (tW u w q k a g o) ∧ W2 m ρ c (Proc.devRef .tc main_v1_2) = rows (tQ u w k g o)
    ∧ W2 m ρ c (Proc.devRef .tc main_v1_3) = rows (tK u w q k a g o) ∧ W2 m ρ c (Proc.devRef .tc main_v1_4) = rowsA (tA u w k g o)
    ∧ W2 m ρ c (Proc.devRef .tc main_v1_5) = rows (tG u w q k a g o) := by
  have hst := V1_saved m ρ c
  have hu := (W2_arr m ρ c 8).trans (arr_u (V1 m ρ) c)
  have hw := (W2_arr m ρ c 9).trans (arr_w (V1 m ρ) c hst)
  have hq := (W2_arr m ρ c 10).trans (arr_q (V1 m ρ) c hst)
  have hk := (W2_arr m ρ c 11).trans (arr_k (V1 m ρ) c hst)
  have ha := (W2_arr m ρ c 12).trans (arr_a (V1 m ρ) c hst)
  have hg := (W2_arr m ρ c 13).trans (arr_g (V1 m ρ) c hst)
  have ho := (W2_of m ρ c main_v0_0 (by decide +kernel)).trans ((W1_arr m ρ c 6).trans (arr_o (V0 m ρ) c))
  have f0 := (V1_arg m ρ c main_arg0 (by decide)).trans e0
  have f1 := (V1_arg m ρ c main_arg1 (by decide)).trans e1
  have f2 := (V1_arg m ρ c main_arg2 (by decide)).trans e2
  have f3 := (V1_arg m ρ c main_arg3 (by decide)).trans e3
  have f4 := (V1_arg m ρ c main_arg4 (by decide)).trans e4
  have f5 := (V1_arg m ρ c main_arg5 (by decide)).trans e5
  have f6 := (V1_arg m ρ c main_arg6 (by decide)).trans e6
  rw [f1, f2, f3, f4, f5, f6] at hu
  rw [f0, f1, f2, f3, f4, f5, f6] at hw hk hg
  rw [f0, f1, f3, f5, f6] at hq ha
  subst e0 e1 e2 e3 e4 e5 e6
  exact ⟨ho, hu, hw, hq, hk, ha, hg⟩

end Cert.KernelIdeal.Scan

namespace Cert.ReferenceIdeal.Own

open Idealize.ShloMosaic Idealize.ShloMosaic.TcCoe Idealize.SL.Sem
open Cert.KernelIdeal.Scan (rows rowsA tO tU tW tQ tK tA tG)

variable (m : (ℓ : Loc nD τ sig) → Buf (Elt Ideal) ℓ) (c : Dev nD)

/-- The reference writes none of its arguments. -/
theorem kept : ∀ r ∈ [main_arg0, main_arg1, main_arg2, main_arg3, main_arg4, main_arg5, main_arg6],
    finish m c (Proc.devRef .tc r) = m ((c.tc : Thread nD τ).loc r) :=
  have h : ∀ r ∈ [main_arg0, main_arg1, main_arg2, main_arg3, main_arg4, main_arg5, main_arg6],
      ∀ W ∈ [preOps_W, midOps_W, postOps_W] ++ fwdWs ++ bwdWs, r ∉ W := by decide +kernel
  fun r hr => finish_arg m c r (h r hr)

theorem frame : Cert.quiescent_ReferenceIdeal := fun m ρ _ =>
  (θ_run _ _ _).mono (fun r h => ⟨fun c =>
    ⟨(h c main_arg0 (by decide)).trans (kept m c _ (by decide)), (h c main_arg1 (by decide)).trans (kept m c _ (by decide)),
     (h c main_arg2 (by decide)).trans (kept m c _ (by decide)), (h c main_arg3 (by decide)).trans (kept m c _ (by decide)),
     (h c main_arg4 (by decide)).trans (kept m c _ (by decide)), (h c main_arg5 (by decide)).trans (kept m c _ (by decide)),
     (h c main_arg6 (by decide)).trans (kept m c _ (by decide))⟩, sem_eq_zero_of_no_sems (by decide) r.2⟩) (runs m ρ)

/-- What the reference's seven results hold, of the arguments' values. -/
theorem ends {u w q k : C Ideal S8192x768} {a : C Ideal S6x8192x64} {g o : C Ideal S8192x768}
    (e0 : au m c = u) (e1 : aw m c = w) (e2 : aq m c = q) (e3 : ak m c = k) (e4 : aa m c = a) (e5 : ag m c = g) (e6 : ao m c = o) :
    finish m c (Proc.devRef .tc main_v36) = rows (tO u w q k a g) ∧ finish m c (Proc.devRef .tc main_v76) = rows (tU w q k a g o)
    ∧ finish m c (Proc.devRef .tc main_v72) = rows (tW u w q k a g o) ∧ finish m c (Proc.devRef .tc main_v68) = rows (tQ u w k g o)
    ∧ finish m c (Proc.devRef .tc main_v64) = rows (tK u w q k a g o) ∧ finish m c (Proc.devRef .tc main_v56) = rowsA (tA u w k g o)
    ∧ finish m c (Proc.devRef .tc main_v60) = rows (tG u w q k a g o) := by
  subst e0 e1 e2 e3 e4 e5 e6
  exact ⟨val_o m c, val_u m c, val_w m c, val_q m c, val_k m c, val_a m c, val_g m c⟩

end Cert.ReferenceIdeal.Own

namespace Cert.Recurrence

open Idealize.ShloMosaic Idealize.ShloMosaic.TcCoe Idealize.SL.Sem
open Cert.KernelIdeal.Scan (rows rowsA tO tU tW tQ tK tA tG mem_uc W2_args run_all xu xw xq xk xa xg xo)

/-- Kernel and reference end with equal results. -/
theorem algebraic : Cert.algebraic_KernelIdeal_ReferenceIdeal := fun m ρ m' ρ' _ hag =>
  ⟨fun c => rows (tO (xu m c) (xw m c) (xq m c) (xk m c) (xa m c) (xg m c)),
   fun c => rows (tU (xw m c) (xq m c) (xk m c) (xa m c) (xg m c) (xo m c)),
   fun c => rows (tW (xu m c) (xw m c) (xq m c) (xk m c) (xa m c) (xg m c) (xo m c)),
   fun c => rows (tQ (xu m c) (xw m c) (xk m c) (xg m c) (xo m c)),
   fun c => rows (tK (xu m c) (xw m c) (xq m c) (xk m c) (xa m c) (xg m c) (xo m c)),
   fun c => rowsA (tA (xu m c) (xw m c) (xk m c) (xg m c) (xo m c)),
   fun c => rows (tG (xu m c) (xw m c) (xq m c) (xk m c) (xa m c) (xg m c) (xo m c)),
   (θ_run _ _ _).mono (fun _ h c => by
      obtain ⟨q0, q1, q2, q3, q4, q5, q6⟩ := Cert.KernelIdeal.Scan.ends m ρ c rfl rfl rfl rfl rfl rfl rfl
      have A := fun a ha hs => (h.1 c _ (mem_uc a hs)).trans (W2_args m ρ c a ha)
      exact ⟨(h.1 c _ (mem_uc _ (by decide))).trans q0, (h.1 c _ (mem_uc _ (by decide))).trans q1, (h.1 c _ (mem_uc _ (by decide))).trans q2,
        (h.1 c _ (mem_uc _ (by decide))).trans q3, (h.1 c _ (mem_uc _ (by decide))).trans q4, (h.1 c _ (mem_uc _ (by decide))).trans q5,
        (h.1 c _ (mem_uc _ (by decide))).trans q6, A _ (by decide) (by decide), A _ (by decide) (by decide), A _ (by decide) (by decide),
        A _ (by decide) (by decide), A _ (by decide) (by decide), A _ (by decide) (by decide), A _ (by decide) (by decide)⟩) (run_all m ρ),
   (θ_run _ _ _).mono (fun _ h c => by
      obtain ⟨e0, e1, e2, e3, e4, e5, e6⟩ := hag c
      obtain ⟨q0, q1, q2, q3, q4, q5, q6⟩ := Cert.ReferenceIdeal.Own.ends m' c e0 e1 e2 e3 e4 e5 e6
      have A := fun a ha hs => (h c a hs).trans (Cert.ReferenceIdeal.Own.kept m' c a ha)
      exact ⟨(h c _ (by decide)).trans q0, (h c _ (by decide)).trans q1, (h c _ (by decide)).trans q2, (h c _ (by decide)).trans q3,
        (h c _ (by decide)).trans q4, (h c _ (by decide)).trans q5, (h c _ (by decide)).trans q6, A _ (by decide) (by decide),
        A _ (by decide) (by decide), A _ (by decide) (by decide), A _ (by decide) (by decide), A _ (by decide) (by decide),
        A _ (by decide) (by decide), A _ (by decide) (by decide)⟩) (Cert.ReferenceIdeal.Own.runs m' ρ')⟩

end Cert.Recurrence

end
-- ==== Proof.lean ====
/- The claims. The recurrence's frames come from one run of its two calls (`Scan.run_frame`), stated over any values; its values and the
   products' are their own modules'. -/
module

public import proofs.«01_k».proof.Defs
public import proofs.«01_k».proof.Proof.Gen.Kernel
public import proofs.«01_k».proof.Proof.Gen.KernelIdeal
public import proofs.«01_k».proof.Proof.Run
public import proofs.«01_k».proof.Proof.Same
public import proofs.«01_k».proof.Proof.DownDw
public import proofs.«01_k».proof.Proof.DownDx
public import proofs.«01_k».proof.Proof.UpDw
public import proofs.«01_k».proof.Proof.UpDx
public import proofs.«01_k».proof.Proof.OutDw
public import proofs.«01_k».proof.Proof.OutDx
public import proofs.«01_k».proof.Proof.InDw
public import proofs.«01_k».proof.Proof.InDx
public import proofs.«01_k».proof.Proof.UpFwd
public import proofs.«01_k».proof.Proof.DownFwd
public import proofs.«01_k».proof.Proof.InFwd
public import proofs.«01_k».proof.Proof.OutFwd
public import proofs.«01_k».proof.Proof.InADw
public import proofs.«01_k».proof.Proof.InADx
public import proofs.«01_k».proof.Proof.InAFwd
public import proofs.«01_k».proof.Proof.MemDw
public import proofs.«01_k».proof.Proof.MemDx
public import proofs.«01_k».proof.Proof.MemFwd
public import proofs.«01_k».proof.Proof.Match
public import Idealize.ShloMosaic.Adequacy
public import Idealize.ShloMosaic.Init

@[expose] public section

noncomputable section

namespace Cert.Proof

open Idealize.ShloMosaic Idealize.SL.Sem

set_option maxRecDepth 65536 in
set_option maxHeartbeats 0 in
/-- The program as printed runs and leaves its arguments alone: it is the idealized program's text read at machine values. -/
theorem frame_kernel : Cert.quiescent_Kernel := fun m ρ _ => by
  rw [Cert.Kernel.Same.table]
  exact Cert.KernelIdeal.Scan.run_frame (F := Bits) m ρ

theorem frame_ideal : Cert.quiescent_KernelIdeal := fun m ρ _ => Cert.KernelIdeal.Scan.run_frame (F := Ideal) m ρ

theorem claim : Cert.Claim :=
  ⟨Cert.Kernel.Gen.facts, Cert.KernelIdeal.Gen.facts, Cert.ReferenceIdeal.Own.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    frame_kernel, frame_ideal, Cert.ReferenceIdeal.Own.frame,
    Cert.DownDw.frame_kernel, Cert.DownDw.frame_ideal, Cert.DownDw.frame_reference,
    Cert.DownDx.frame_kernel, Cert.DownDx.frame_ideal, Cert.DownDx.frame_reference,
    Cert.UpDw.frame_kernel, Cert.UpDw.frame_ideal, Cert.UpDw.frame_reference,
    Cert.UpDx.frame_kernel, Cert.UpDx.frame_ideal, Cert.UpDx.frame_reference,
    Cert.OutDw.frame_kernel, Cert.OutDw.frame_ideal, Cert.OutDw.frame_reference,
    Cert.OutDx.frame_kernel, Cert.OutDx.frame_ideal, Cert.OutDx.frame_reference,
    Cert.InDw.frame_kernel, Cert.InDw.frame_ideal, Cert.InDw.frame_reference,
    Cert.InDx.frame_kernel, Cert.InDx.frame_ideal, Cert.InDx.frame_reference,
    Cert.UpFwd.frame_kernel, Cert.UpFwd.frame_ideal, Cert.UpFwd.frame_reference,
    Cert.DownFwd.frame_kernel, Cert.DownFwd.frame_ideal, Cert.DownFwd.frame_reference,
    Cert.InFwd.frame_kernel, Cert.InFwd.frame_ideal, Cert.InFwd.frame_reference,
    Cert.OutFwd.frame_kernel, Cert.OutFwd.frame_ideal, Cert.OutFwd.frame_reference,
    Cert.InADw.frame_kernel, Cert.InADw.frame_ideal, Cert.InADw.frame_reference,
    Cert.InADx.frame_kernel, Cert.InADx.frame_ideal, Cert.InADx.frame_reference,
    Cert.InAFwd.frame_kernel, Cert.InAFwd.frame_ideal, Cert.InAFwd.frame_reference,
    Cert.MemDw.frame_kernel, Cert.MemDw.frame_ideal, Cert.MemDw.frame_reference,
    Cert.MemDx.frame_kernel, Cert.MemDx.frame_ideal, Cert.MemDx.frame_reference,
    Cert.MemFwd.frame_kernel, Cert.MemFwd.frame_ideal, Cert.MemFwd.frame_reference,
    trivial, Cert.Recurrence.algebraic,
    trivial, Cert.DownDw.algebraic,
    trivial, Cert.DownDx.algebraic,
    trivial, Cert.UpDw.algebraic,
    trivial, Cert.UpDx.algebraic,
    trivial, Cert.OutDw.algebraic,
    trivial, Cert.OutDx.algebraic,
    trivial, Cert.InDw.algebraic,
    trivial, Cert.InDx.algebraic,
    trivial, Cert.UpFwd.algebraic,
    trivial, Cert.DownFwd.algebraic,
    trivial, Cert.InFwd.algebraic,
    trivial, Cert.OutFwd.algebraic,
    trivial, Cert.InADw.algebraic,
    trivial, Cert.InADx.algebraic,
    trivial, Cert.InAFwd.algebraic,
    trivial, Cert.MemDw.algebraic,
    trivial, Cert.MemDx.algebraic,
    trivial, Cert.MemFwd.algebraic⟩

end Cert.Proof

end
